-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AddOwn [hPre_one_of_two : Cert.Pre_one_of_two.Facts] (m : (ℓ : Loc Cert.AddOwn.nD Cert.AddOwn.τ Cert.AddOwn.sig) → Buf (Elt Bits) ℓ) : Prop :=
  ∀ c : Dev Cert.AddOwn.nD,
    (Cert.Pre_one_of_two.fn (F := Bits) (m ((c.tc : Thread Cert.AddOwn.nD Cert.AddOwn.τ).loc Cert.AddOwn.main_arg0)) (m ((c.tc : Thread Cert.AddOwn.nD Cert.AddOwn.τ).loc Cert.AddOwn.main_arg1)) (m ((c.tc : Thread Cert.AddOwn.nD Cert.AddOwn.τ).loc Cert.AddOwn.main_arg2))) = (fun _ => 1#1)

def Pre_AddOwnIdeal [hPre_one_of_two : Cert.Pre_one_of_two.Facts] (m : (ℓ : Loc Cert.AddOwnIdeal.nD Cert.AddOwnIdeal.τ Cert.AddOwnIdeal.sig) → Buf (Elt Ideal) ℓ) : Prop :=
  ∀ c : Dev Cert.AddOwnIdeal.nD,
    (Cert.Pre_one_of_two.fn (F := Ideal) (m ((c.tc : Thread Cert.AddOwnIdeal.nD Cert.AddOwnIdeal.τ).loc Cert.AddOwnIdeal.main_arg0)) (m ((c.tc : Thread Cert.AddOwnIdeal.nD Cert.AddOwnIdeal.τ).loc Cert.AddOwnIdeal.main_arg1)) (m ((c.tc : Thread Cert.AddOwnIdeal.nD Cert.AddOwnIdeal.τ).loc Cert.AddOwnIdeal.main_arg2))) = (fun _ => 1#1)

def Pre_AddOwnRefIdeal (m : (ℓ : Loc Cert.AddOwnRefIdeal.nD Cert.AddOwnRefIdeal.τ Cert.AddOwnRefIdeal.sig) → Buf (Elt Ideal) ℓ) : Prop :=
  True

def Pre_AddOwnRefIdeal_one_of_two [hPre_one_of_two : Cert.Pre_one_of_two.Facts] (m : (ℓ : Loc Cert.AddOwnRefIdeal.nD Cert.AddOwnRefIdeal.τ Cert.AddOwnRefIdeal.sig) → Buf (Elt Ideal) ℓ) : Prop :=
  ∀ c : Dev Cert.AddOwnRefIdeal.nD,
    (Cert.Pre_one_of_two.fn (F := Ideal) (m ((c.tc : Thread Cert.AddOwnRefIdeal.nD Cert.AddOwnRefIdeal.τ).loc Cert.AddOwnRefIdeal.main_arg0)) (m ((c.tc : Thread Cert.AddOwnRefIdeal.nD Cert.AddOwnRefIdeal.τ).loc Cert.AddOwnRefIdeal.main_arg1)) (m ((c.tc : Thread Cert.AddOwnRefIdeal.nD Cert.AddOwnRefIdeal.τ).loc Cert.AddOwnRefIdeal.main_arg2))) = (fun _ => 1#1)

def Pre_AddOwnRef (m : (ℓ : Loc Cert.AddOwnRef.nD Cert.AddOwnRef.τ Cert.AddOwnRef.sig) → Buf (Elt Bits) ℓ) : Prop :=
  True

def Pre_AddOwnRef_one_of_two [hPre_one_of_two : Cert.Pre_one_of_two.Facts] (m : (ℓ : Loc Cert.AddOwnRef.nD Cert.AddOwnRef.τ Cert.AddOwnRef.sig) → Buf (Elt Bits) ℓ) : Prop :=
  ∀ c : Dev Cert.AddOwnRef.nD,
    (Cert.Pre_one_of_two.fn (F := Bits) (m ((c.tc : Thread Cert.AddOwnRef.nD Cert.AddOwnRef.τ).loc Cert.AddOwnRef.main_arg0)) (m ((c.tc : Thread Cert.AddOwnRef.nD Cert.AddOwnRef.τ).loc Cert.AddOwnRef.main_arg1)) (m ((c.tc : Thread Cert.AddOwnRef.nD Cert.AddOwnRef.τ).loc Cert.AddOwnRef.main_arg2))) = (fun _ => 1#1)

def Pre_AddFour [hPre_one_of_four : Cert.Pre_one_of_four.Facts] (m : (ℓ : Loc Cert.AddFour.nD Cert.AddFour.τ Cert.AddFour.sig) → Buf (Elt Bits) ℓ) : Prop :=
  ∀ c : Dev Cert.AddFour.nD,
    (Cert.Pre_one_of_four.fn (F := Bits) (m ((c.tc : Thread Cert.AddFour.nD Cert.AddFour.τ).loc Cert.AddFour.main_arg0)) (m ((c.tc : Thread Cert.AddFour.nD Cert.AddFour.τ).loc Cert.AddFour.main_arg1)) (m ((c.tc : Thread Cert.AddFour.nD Cert.AddFour.τ).loc Cert.AddFour.main_arg2))) = (fun _ => 1#1)

def Pre_AddFourIdeal [hPre_one_of_four : Cert.Pre_one_of_four.Facts] (m : (ℓ : Loc Cert.AddFourIdeal.nD Cert.AddFourIdeal.τ Cert.AddFourIdeal.sig) → Buf (Elt Ideal) ℓ) : Prop :=
  ∀ c : Dev Cert.AddFourIdeal.nD,
    (Cert.Pre_one_of_four.fn (F := Ideal) (m ((c.tc : Thread Cert.AddFourIdeal.nD Cert.AddFourIdeal.τ).loc Cert.AddFourIdeal.main_arg0)) (m ((c.tc : Thread Cert.AddFourIdeal.nD Cert.AddFourIdeal.τ).loc Cert.AddFourIdeal.main_arg1)) (m ((c.tc : Thread Cert.AddFourIdeal.nD Cert.AddFourIdeal.τ).loc Cert.AddFourIdeal.main_arg2))) = (fun _ => 1#1)

def Pre_AddFourRefIdeal (m : (ℓ : Loc Cert.AddFourRefIdeal.nD Cert.AddFourRefIdeal.τ Cert.AddFourRefIdeal.sig) → Buf (Elt Ideal) ℓ) : Prop :=
  True

def Pre_AddFourRefIdeal_one_of_four [hPre_one_of_four : Cert.Pre_one_of_four.Facts] (m : (ℓ : Loc Cert.AddFourRefIdeal.nD Cert.AddFourRefIdeal.τ Cert.AddFourRefIdeal.sig) → Buf (Elt Ideal) ℓ) : Prop :=
  ∀ c : Dev Cert.AddFourRefIdeal.nD,
    (Cert.Pre_one_of_four.fn (F := Ideal) (m ((c.tc : Thread Cert.AddFourRefIdeal.nD Cert.AddFourRefIdeal.τ).loc Cert.AddFourRefIdeal.main_arg0)) (m ((c.tc : Thread Cert.AddFourRefIdeal.nD Cert.AddFourRefIdeal.τ).loc Cert.AddFourRefIdeal.main_arg1)) (m ((c.tc : Thread Cert.AddFourRefIdeal.nD Cert.AddFourRefIdeal.τ).loc Cert.AddFourRefIdeal.main_arg2))) = (fun _ => 1#1)

def Pre_AddFourRef (m : (ℓ : Loc Cert.AddFourRef.nD Cert.AddFourRef.τ Cert.AddFourRef.sig) → Buf (Elt Bits) ℓ) : Prop :=
  True

def Pre_AddFourRef_one_of_four [hPre_one_of_four : Cert.Pre_one_of_four.Facts] (m : (ℓ : Loc Cert.AddFourRef.nD Cert.AddFourRef.τ Cert.AddFourRef.sig) → Buf (Elt Bits) ℓ) : Prop :=
  ∀ c : Dev Cert.AddFourRef.nD,
    (Cert.Pre_one_of_four.fn (F := Bits) (m ((c.tc : Thread Cert.AddFourRef.nD Cert.AddFourRef.τ).loc Cert.AddFourRef.main_arg0)) (m ((c.tc : Thread Cert.AddFourRef.nD Cert.AddFourRef.τ).loc Cert.AddFourRef.main_arg1)) (m ((c.tc : Thread Cert.AddFourRef.nD Cert.AddFourRef.τ).loc Cert.AddFourRef.main_arg2))) = (fun _ => 1#1)

def Pre_MulWo (m : (ℓ : Loc Cert.MulWo.nD Cert.MulWo.τ Cert.MulWo.sig) → Buf (Elt Bits) ℓ) : Prop :=
  True

def Pre_MulWoIdeal (m : (ℓ : Loc Cert.MulWoIdeal.nD Cert.MulWoIdeal.τ Cert.MulWoIdeal.sig) → Buf (Elt Ideal) ℓ) : Prop :=
  True

def Pre_MulWoRefIdeal (m : (ℓ : Loc Cert.MulWoRefIdeal.nD Cert.MulWoRefIdeal.τ Cert.MulWoRefIdeal.sig) → Buf (Elt Ideal) ℓ) : Prop :=
  True

def Pre_MulDWo (m : (ℓ : Loc Cert.MulDWo.nD Cert.MulDWo.τ Cert.MulDWo.sig) → Buf (Elt Bits) ℓ) : Prop :=
  True

def Pre_MulDWoIdeal (m : (ℓ : Loc Cert.MulDWoIdeal.nD Cert.MulDWoIdeal.τ Cert.MulDWoIdeal.sig) → Buf (Elt Ideal) ℓ) : Prop :=
  True

def Pre_MulDWoRefIdeal (m : (ℓ : Loc Cert.MulDWoRefIdeal.nD Cert.MulDWoRefIdeal.τ Cert.MulDWoRefIdeal.sig) → Buf (Elt Ideal) ℓ) : Prop :=
  True

def Pre_MulQkv (m : (ℓ : Loc Cert.MulQkv.nD Cert.MulQkv.τ Cert.MulQkv.sig) → Buf (Elt Bits) ℓ) : Prop :=
  True

def Pre_MulQkvIdeal (m : (ℓ : Loc Cert.MulQkvIdeal.nD Cert.MulQkvIdeal.τ Cert.MulQkvIdeal.sig) → Buf (Elt Ideal) ℓ) : Prop :=
  True

def Pre_MulQkvRefIdeal (m : (ℓ : Loc Cert.MulQkvRefIdeal.nD Cert.MulQkvRefIdeal.τ Cert.MulQkvRefIdeal.sig) → Buf (Elt Ideal) ℓ) : Prop :=
  True

def Pre_MulGlu (m : (ℓ : Loc Cert.MulGlu.nD Cert.MulGlu.τ Cert.MulGlu.sig) → Buf (Elt Bits) ℓ) : Prop :=
  True

def Pre_MulGluIdeal (m : (ℓ : Loc Cert.MulGluIdeal.nD Cert.MulGluIdeal.τ Cert.MulGluIdeal.sig) → Buf (Elt Ideal) ℓ) : Prop :=
  True

def Pre_MulGluRefIdeal (m : (ℓ : Loc Cert.MulGluRefIdeal.nD Cert.MulGluRefIdeal.τ Cert.MulGluRefIdeal.sig) → Buf (Elt Ideal) ℓ) : Prop :=
  True

def Pre_MulGateUp (m : (ℓ : Loc Cert.MulGateUp.nD Cert.MulGateUp.τ Cert.MulGateUp.sig) → Buf (Elt Bits) ℓ) : Prop :=
  True

def Pre_MulGateUpIdeal (m : (ℓ : Loc Cert.MulGateUpIdeal.nD Cert.MulGateUpIdeal.τ Cert.MulGateUpIdeal.sig) → Buf (Elt Ideal) ℓ) : Prop :=
  True

def Pre_MulGateUpRefIdeal (m : (ℓ : Loc Cert.MulGateUpRefIdeal.nD Cert.MulGateUpRefIdeal.τ Cert.MulGateUpRefIdeal.sig) → Buf (Elt Ideal) ℓ) : Prop :=
  True

def Pre_MulDown (m : (ℓ : Loc Cert.MulDown.nD Cert.MulDown.τ Cert.MulDown.sig) → Buf (Elt Bits) ℓ) : Prop :=
  True

def Pre_MulDownIdeal (m : (ℓ : Loc Cert.MulDownIdeal.nD Cert.MulDownIdeal.τ Cert.MulDownIdeal.sig) → Buf (Elt Ideal) ℓ) : Prop :=
  True

def Pre_MulDownRefIdeal (m : (ℓ : Loc Cert.MulDownRefIdeal.nD Cert.MulDownRefIdeal.τ Cert.MulDownRefIdeal.sig) → Buf (Elt Ideal) ℓ) : Prop :=
  True

def Pre_MulDQkv (m : (ℓ : Loc Cert.MulDQkv.nD Cert.MulDQkv.τ Cert.MulDQkv.sig) → Buf (Elt Bits) ℓ) : Prop :=
  True

def Pre_MulDQkvIdeal (m : (ℓ : Loc Cert.MulDQkvIdeal.nD Cert.MulDQkvIdeal.τ Cert.MulDQkvIdeal.sig) → Buf (Elt Ideal) ℓ) : Prop :=
  True

def Pre_MulDQkvRefIdeal (m : (ℓ : Loc Cert.MulDQkvRefIdeal.nD Cert.MulDQkvRefIdeal.τ Cert.MulDQkvRefIdeal.sig) → Buf (Elt Ideal) ℓ) : Prop :=
  True

def Pre_MulDGlu (m : (ℓ : Loc Cert.MulDGlu.nD Cert.MulDGlu.τ Cert.MulDGlu.sig) → Buf (Elt Bits) ℓ) : Prop :=
  True

def Pre_MulDGluIdeal (m : (ℓ : Loc Cert.MulDGluIdeal.nD Cert.MulDGluIdeal.τ Cert.MulDGluIdeal.sig) → Buf (Elt Ideal) ℓ) : Prop :=
  True

def Pre_MulDGluRefIdeal (m : (ℓ : Loc Cert.MulDGluRefIdeal.nD Cert.MulDGluRefIdeal.τ Cert.MulDGluRefIdeal.sig) → Buf (Elt Ideal) ℓ) : Prop :=
  True

def Pre_MulDGateUp (m : (ℓ : Loc Cert.MulDGateUp.nD Cert.MulDGateUp.τ Cert.MulDGateUp.sig) → Buf (Elt Bits) ℓ) : Prop :=
  True

def Pre_MulDGateUpIdeal (m : (ℓ : Loc Cert.MulDGateUpIdeal.nD Cert.MulDGateUpIdeal.τ Cert.MulDGateUpIdeal.sig) → Buf (Elt Ideal) ℓ) : Prop :=
  True

def Pre_MulDGateUpRefIdeal (m : (ℓ : Loc Cert.MulDGateUpRefIdeal.nD Cert.MulDGateUpRefIdeal.τ Cert.MulDGateUpRefIdeal.sig) → Buf (Elt Ideal) ℓ) : Prop :=
  True

def Pre_MulDDown (m : (ℓ : Loc Cert.MulDDown.nD Cert.MulDDown.τ Cert.MulDDown.sig) → Buf (Elt Bits) ℓ) : Prop :=
  True

def Pre_MulDDownIdeal (m : (ℓ : Loc Cert.MulDDownIdeal.nD Cert.MulDDownIdeal.τ Cert.MulDDownIdeal.sig) → Buf (Elt Ideal) ℓ) : Prop :=
  True

def Pre_MulDDownRefIdeal (m : (ℓ : Loc Cert.MulDDownRefIdeal.nD Cert.MulDDownRefIdeal.τ Cert.MulDDownRefIdeal.sig) → Buf (Elt Ideal) ℓ) : Prop :=
  True

def Pre_MulBackO (m : (ℓ : Loc Cert.MulBackO.nD Cert.MulBackO.τ Cert.MulBackO.sig) → Buf (Elt Bits) ℓ) : Prop :=
  True

def Pre_MulBackOIdeal (m : (ℓ : Loc Cert.MulBackOIdeal.nD Cert.MulBackOIdeal.τ Cert.MulBackOIdeal.sig) → Buf (Elt Ideal) ℓ) : Prop :=
  True

def Pre_MulBackORefIdeal (m : (ℓ : Loc Cert.MulBackORefIdeal.nD Cert.MulBackORefIdeal.τ Cert.MulBackORefIdeal.sig) → Buf (Elt Ideal) ℓ) : Prop :=
  True

def Pre_MulBackConv (m : (ℓ : Loc Cert.MulBackConv.nD Cert.MulBackConv.τ Cert.MulBackConv.sig) → Buf (Elt Bits) ℓ) : Prop :=
  True

def Pre_MulBackConvIdeal (m : (ℓ : Loc Cert.MulBackConvIdeal.nD Cert.MulBackConvIdeal.τ Cert.MulBackConvIdeal.sig) → Buf (Elt Ideal) ℓ) : Prop :=
  True

def Pre_MulBackConvRefIdeal (m : (ℓ : Loc Cert.MulBackConvRefIdeal.nD Cert.MulBackConvRefIdeal.τ Cert.MulBackConvRefIdeal.sig) → Buf (Elt Ideal) ℓ) : Prop :=
  True

def Pre_MulBackQkv (m : (ℓ : Loc Cert.MulBackQkv.nD Cert.MulBackQkv.τ Cert.MulBackQkv.sig) → Buf (Elt Bits) ℓ) : Prop :=
  True

def Pre_MulBackQkvIdeal (m : (ℓ : Loc Cert.MulBackQkvIdeal.nD Cert.MulBackQkvIdeal.τ Cert.MulBackQkvIdeal.sig) → Buf (Elt Ideal) ℓ) : Prop :=
  True

def Pre_MulBackQkvRefIdeal (m : (ℓ : Loc Cert.MulBackQkvRefIdeal.nD Cert.MulBackQkvRefIdeal.τ Cert.MulBackQkvRefIdeal.sig) → Buf (Elt Ideal) ℓ) : Prop :=
  True

def Pre_MulBackGlu (m : (ℓ : Loc Cert.MulBackGlu.nD Cert.MulBackGlu.τ Cert.MulBackGlu.sig) → Buf (Elt Bits) ℓ) : Prop :=
  True

def Pre_MulBackGluIdeal (m : (ℓ : Loc Cert.MulBackGluIdeal.nD Cert.MulBackGluIdeal.τ Cert.MulBackGluIdeal.sig) → Buf (Elt Ideal) ℓ) : Prop :=
  True

def Pre_MulBackGluRefIdeal (m : (ℓ : Loc Cert.MulBackGluRefIdeal.nD Cert.MulBackGluRefIdeal.τ Cert.MulBackGluRefIdeal.sig) → Buf (Elt Ideal) ℓ) : Prop :=
  True

def Pre_MulBackFfn (m : (ℓ : Loc Cert.MulBackFfn.nD Cert.MulBackFfn.τ Cert.MulBackFfn.sig) → Buf (Elt Bits) ℓ) : Prop :=
  True

def Pre_MulBackFfnIdeal (m : (ℓ : Loc Cert.MulBackFfnIdeal.nD Cert.MulBackFfnIdeal.τ Cert.MulBackFfnIdeal.sig) → Buf (Elt Ideal) ℓ) : Prop :=
  True

def Pre_MulBackFfnRefIdeal (m : (ℓ : Loc Cert.MulBackFfnRefIdeal.nD Cert.MulBackFfnRefIdeal.τ Cert.MulBackFfnRefIdeal.sig) → Buf (Elt Ideal) ℓ) : Prop :=
  True

def Pre_MulBackAct (m : (ℓ : Loc Cert.MulBackAct.nD Cert.MulBackAct.τ Cert.MulBackAct.sig) → Buf (Elt Bits) ℓ) : Prop :=
  True

def Pre_MulBackActIdeal (m : (ℓ : Loc Cert.MulBackActIdeal.nD Cert.MulBackActIdeal.τ Cert.MulBackActIdeal.sig) → Buf (Elt Ideal) ℓ) : Prop :=
  True

def Pre_MulBackActRefIdeal (m : (ℓ : Loc Cert.MulBackActRefIdeal.nD Cert.MulBackActRefIdeal.τ Cert.MulBackActRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_LossTotal (m : (ℓ : Loc Cert.LossTotal.nD Cert.LossTotal.τ Cert.LossTotal.sig) → Buf (Elt Bits) ℓ) : Prop :=
  True

def Pre_LossTotalIdeal (m : (ℓ : Loc Cert.LossTotalIdeal.nD Cert.LossTotalIdeal.τ Cert.LossTotalIdeal.sig) → Buf (Elt Ideal) ℓ) : Prop :=
  True

def Pre_LossTotalRefIdeal (m : (ℓ : Loc Cert.LossTotalRefIdeal.nD Cert.LossTotalRefIdeal.τ Cert.LossTotalRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_RowIn (m : (ℓ : Loc Cert.RowIn.nD Cert.RowIn.τ Cert.RowIn.sig) → Buf (Elt Bits) ℓ) : Prop :=
  True

def Pre_RowInIdeal (m : (ℓ : Loc Cert.RowInIdeal.nD Cert.RowInIdeal.τ Cert.RowInIdeal.sig) → Buf (Elt Ideal) ℓ) : Prop :=
  True

def Pre_RowInRefIdeal (m : (ℓ : Loc Cert.RowInRefIdeal.nD Cert.RowInRefIdeal.τ Cert.RowInRefIdeal.sig) → Buf (Elt Ideal) ℓ) : Prop :=
  True

def Pre_RowInS5 (m : (ℓ : Loc Cert.RowInS5.nD Cert.RowInS5.τ Cert.RowInS5.sig) → Buf (Elt Bits) ℓ) : Prop :=
  True

def Pre_RowInS5Ideal (m : (ℓ : Loc Cert.RowInS5Ideal.nD Cert.RowInS5Ideal.τ Cert.RowInS5Ideal.sig) → Buf (Elt Ideal) ℓ) : Prop :=
  True

def Pre_RowInS5RefIdeal (m : (ℓ : Loc Cert.RowInS5RefIdeal.nD Cert.RowInS5RefIdeal.τ Cert.RowInS5RefIdeal.sig) → Buf (Elt Ideal) ℓ) : Prop :=
  True

def Pre_RowMid (m : (ℓ : Loc Cert.RowMid.nD Cert.RowMid.τ Cert.RowMid.sig) → Buf (Elt Bits) ℓ) : Prop :=
  True

def Pre_RowMidIdeal (m : (ℓ : Loc Cert.RowMidIdeal.nD Cert.RowMidIdeal.τ Cert.RowMidIdeal.sig) → Buf (Elt Ideal) ℓ) : Prop :=
  True

def Pre_RowMidRefIdeal (m : (ℓ : Loc Cert.RowMidRefIdeal.nD Cert.RowMidRefIdeal.τ Cert.RowMidRefIdeal.sig) → Buf (Elt Ideal) ℓ) : Prop :=
  True

def Pre_RowMidConv (m : (ℓ : Loc Cert.RowMidConv.nD Cert.RowMidConv.τ Cert.RowMidConv.sig) → Buf (Elt Bits) ℓ) : Prop :=
  True

def Pre_RowMidConvIdeal (m : (ℓ : Loc Cert.RowMidConvIdeal.nD Cert.RowMidConvIdeal.τ Cert.RowMidConvIdeal.sig) → Buf (Elt Ideal) ℓ) : Prop :=
  True

def Pre_RowMidConvRefIdeal (m : (ℓ : Loc Cert.RowMidConvRefIdeal.nD Cert.RowMidConvRefIdeal.τ Cert.RowMidConvRefIdeal.sig) → Buf (Elt Ideal) ℓ) : Prop :=
  True

def Pre_RowOut (m : (ℓ : Loc Cert.RowOut.nD Cert.RowOut.τ Cert.RowOut.sig) → Buf (Elt Bits) ℓ) : Prop :=
  True

def Pre_RowOutIdeal (m : (ℓ : Loc Cert.RowOutIdeal.nD Cert.RowOutIdeal.τ Cert.RowOutIdeal.sig) → Buf (Elt Ideal) ℓ) : Prop :=
  True

def Pre_RowOutRefIdeal (m : (ℓ : Loc Cert.RowOutRefIdeal.nD Cert.RowOutRefIdeal.τ Cert.RowOutRefIdeal.sig) → Buf (Elt Ideal) ℓ) : Prop :=
  True

def Pre_RowGate (m : (ℓ : Loc Cert.RowGate.nD Cert.RowGate.τ Cert.RowGate.sig) → Buf (Elt Bits) ℓ) : Prop :=
  True

def Pre_RowGateIdeal (m : (ℓ : Loc Cert.RowGateIdeal.nD Cert.RowGateIdeal.τ Cert.RowGateIdeal.sig) → Buf (Elt Ideal) ℓ) : Prop :=
  True

def Pre_RowGateRefIdeal (m : (ℓ : Loc Cert.RowGateRefIdeal.nD Cert.RowGateRefIdeal.τ Cert.RowGateRefIdeal.sig) → Buf (Elt Ideal) ℓ) : Prop :=
  True

def Pre_RowAct (m : (ℓ : Loc Cert.RowAct.nD Cert.RowAct.τ Cert.RowAct.sig) → Buf (Elt Bits) ℓ) : Prop :=
  True

def Pre_RowActIdeal (m : (ℓ : Loc Cert.RowActIdeal.nD Cert.RowActIdeal.τ Cert.RowActIdeal.sig) → Buf (Elt Ideal) ℓ) : Prop :=
  True

def Pre_RowActRefIdeal (m : (ℓ : Loc Cert.RowActRefIdeal.nD Cert.RowActRefIdeal.τ Cert.RowActRefIdeal.sig) → Buf (Elt Ideal) ℓ) : Prop :=
  True

def Pre_RowConv (m : (ℓ : Loc Cert.RowConv.nD Cert.RowConv.τ Cert.RowConv.sig) → Buf (Elt Bits) ℓ) : Prop :=
  True

def Pre_RowConvIdeal (m : (ℓ : Loc Cert.RowConvIdeal.nD Cert.RowConvIdeal.τ Cert.RowConvIdeal.sig) → Buf (Elt Ideal) ℓ) : Prop :=
  True

def Pre_RowConvRefIdeal (m : (ℓ : Loc Cert.RowConvRefIdeal.nD Cert.RowConvRefIdeal.τ Cert.RowConvRefIdeal.sig) → Buf (Elt Ideal) ℓ) : Prop :=
  True

def Pre_RowActBwd (m : (ℓ : Loc Cert.RowActBwd.nD Cert.RowActBwd.τ Cert.RowActBwd.sig) → Buf (Elt Bits) ℓ) : Prop :=
  True

def Pre_RowActBwdIdeal (m : (ℓ : Loc Cert.RowActBwdIdeal.nD Cert.RowActBwdIdeal.τ Cert.RowActBwdIdeal.sig) → Buf (Elt Ideal) ℓ) : Prop :=
  True

def Pre_RowActBwdRefIdeal (m : (ℓ : Loc Cert.RowActBwdRefIdeal.nD Cert.RowActBwdRefIdeal.τ Cert.RowActBwdRefIdeal.sig) → Buf (Elt Ideal) ℓ) : Prop :=
  True

def Pre_RowGeluBwd (m : (ℓ : Loc Cert.RowGeluBwd.nD Cert.RowGeluBwd.τ Cert.RowGeluBwd.sig) → Buf (Elt Bits) ℓ) : Prop :=
  True

def Pre_RowGeluBwdIdeal (m : (ℓ : Loc Cert.RowGeluBwdIdeal.nD Cert.RowGeluBwdIdeal.τ Cert.RowGeluBwdIdeal.sig) → Buf (Elt Ideal) ℓ) : Prop :=
  True

def Pre_RowGeluBwdRefIdeal (m : (ℓ : Loc Cert.RowGeluBwdRefIdeal.nD Cert.RowGeluBwdRefIdeal.τ Cert.RowGeluBwdRefIdeal.sig) → Buf (Elt Ideal) ℓ) : Prop :=
  True

def Pre_RowGateBwd (m : (ℓ : Loc Cert.RowGateBwd.nD Cert.RowGateBwd.τ Cert.RowGateBwd.sig) → Buf (Elt Bits) ℓ) : Prop :=
  True

def Pre_RowGateBwdIdeal (m : (ℓ : Loc Cert.RowGateBwdIdeal.nD Cert.RowGateBwdIdeal.τ Cert.RowGateBwdIdeal.sig) → Buf (Elt Ideal) ℓ) : Prop :=
  True

def Pre_RowGateBwdRefIdeal (m : (ℓ : Loc Cert.RowGateBwdRefIdeal.nD Cert.RowGateBwdRefIdeal.τ Cert.RowGateBwdRefIdeal.sig) → Buf (Elt Ideal) ℓ) : Prop :=
  True

def Pre_RowOutBwd (m : (ℓ : Loc Cert.RowOutBwd.nD Cert.RowOutBwd.τ Cert.RowOutBwd.sig) → Buf (Elt Bits) ℓ) : Prop :=
  True

def Pre_RowOutBwdIdeal (m : (ℓ : Loc Cert.RowOutBwdIdeal.nD Cert.RowOutBwdIdeal.τ Cert.RowOutBwdIdeal.sig) → Buf (Elt Ideal) ℓ) : Prop :=
  True

def Pre_RowOutBwdRefIdeal (m : (ℓ : Loc Cert.RowOutBwdRefIdeal.nD Cert.RowOutBwdRefIdeal.τ Cert.RowOutBwdRefIdeal.sig) → Buf (Elt Ideal) ℓ) : Prop :=
  True

def Pre_RowConvBwd (m : (ℓ : Loc Cert.RowConvBwd.nD Cert.RowConvBwd.τ Cert.RowConvBwd.sig) → Buf (Elt Bits) ℓ) : Prop :=
  True

def Pre_RowConvBwdIdeal (m : (ℓ : Loc Cert.RowConvBwdIdeal.nD Cert.RowConvBwdIdeal.τ Cert.RowConvBwdIdeal.sig) → Buf (Elt Ideal) ℓ) : Prop :=
  True

def Pre_RowConvBwdRefIdeal (m : (ℓ : Loc Cert.RowConvBwdRefIdeal.nD Cert.RowConvBwdRefIdeal.τ Cert.RowConvBwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_Matrices (m : (ℓ : Loc Cert.Matrices.nD Cert.Matrices.τ Cert.Matrices.sig) → Buf (Elt Bits) ℓ) : Prop :=
  True

def Pre_MatricesIdeal (m : (ℓ : Loc Cert.MatricesIdeal.nD Cert.MatricesIdeal.τ Cert.MatricesIdeal.sig) → Buf (Elt Ideal) ℓ) : Prop :=
  True

def Pre_MatricesRefIdeal (m : (ℓ : Loc Cert.MatricesRefIdeal.nD Cert.MatricesRefIdeal.τ Cert.MatricesRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3)
      ∧ r.2.mem ((c.tc : Thread Cert.AdamMod.nD Cert.AdamMod.τ).loc Cert.AdamMod.main_arg4) = m ((c.tc : Thread Cert.AdamMod.nD Cert.AdamMod.τ).loc Cert.AdamMod.main_arg4))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
      ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3)
      ∧ r.2.mem ((c.tc : Thread Cert.AdamModRefIdeal.nD Cert.AdamModRefIdeal.τ).loc Cert.AdamModRefIdeal.main_arg4) = m ((c.tc : Thread Cert.AdamModRefIdeal.nD Cert.AdamModRefIdeal.τ).loc Cert.AdamModRefIdeal.main_arg4))
      ∧ r.2.sem = fun _ => 0)

def quiescent_AddOwn [hAddOwn : Cert.AddOwn.Facts] [hPre_one_of_two : Cert.Pre_one_of_two.Facts] : Prop :=
  ∀ (m : (ℓ : Loc Cert.AddOwn.nD Cert.AddOwn.τ Cert.AddOwn.sig) → Buf (Elt Bits) ℓ) (g : Dev Cert.AddOwn.nD → PrngReg), Pre_AddOwn m →
    θ_run (Cert.AddOwn.defs (F := Bits)) (onTc (τ := Cert.AddOwn.τ) (Cert.AddOwn.main (F := Bits))) ⟨m, fun _ => 0, g⟩ (fun r => (∀ c : Dev Cert.AddOwn.nD,
      r.2.mem ((c.tc : Thread Cert.AddOwn.nD Cert.AddOwn.τ).loc Cert.AddOwn.main_arg0) = m ((c.tc : Thread Cert.AddOwn.nD Cert.AddOwn.τ).loc Cert.AddOwn.main_arg0)
      ∧ r.2.mem ((c.tc : Thread Cert.AddOwn.nD Cert.AddOwn.τ).loc Cert.AddOwn.main_arg1) = m ((c.tc : Thread Cert.AddOwn.nD Cert.AddOwn.τ).loc Cert.AddOwn.main_arg1)
      ∧ r.2.mem ((c.tc : Thread Cert.AddOwn.nD Cert.AddOwn.τ).loc Cert.AddOwn.main_arg2) = m ((c.tc : Thread Cert.AddOwn.nD Cert.AddOwn.τ).loc Cert.AddOwn.main_arg2))
      ∧ r.2.sem = fun _ => 0)

def quiescent_AddOwnIdeal [hAddOwnIdeal : Cert.AddOwnIdeal.Facts] [hPre_one_of_two : Cert.Pre_one_of_two.Facts] : Prop :=
  ∀ (m : (ℓ : Loc Cert.AddOwnIdeal.nD Cert.AddOwnIdeal.τ Cert.AddOwnIdeal.sig) → Buf (Elt Ideal) ℓ) (g : Dev Cert.AddOwnIdeal.nD → PrngReg), Pre_AddOwnIdeal m →
    θ_run (Cert.AddOwnIdeal.defs (F := Ideal)) (onTc (τ := Cert.AddOwnIdeal.τ) (Cert.AddOwnIdeal.main (F := Ideal))) ⟨m, fun _ => 0, g⟩ (fun r => (∀ c : Dev Cert.AddOwnIdeal.nD,
      r.2.mem ((c.tc : Thread Cert.AddOwnIdeal.nD Cert.AddOwnIdeal.τ).loc Cert.AddOwnIdeal.main_arg0) = m ((c.tc : Thread Cert.AddOwnIdeal.nD Cert.AddOwnIdeal.τ).loc Cert.AddOwnIdeal.main_arg0)
      ∧ r.2.mem ((c.tc : Thread Cert.AddOwnIdeal.nD Cert.AddOwnIdeal.τ).loc Cert.AddOwnIdeal.main_arg1) = m ((c.tc : Thread Cert.AddOwnIdeal.nD Cert.AddOwnIdeal.τ).loc Cert.AddOwnIdeal.main_arg1)
      ∧ r.2.mem ((c.tc : Thread Cert.AddOwnIdeal.nD Cert.AddOwnIdeal.τ).loc Cert.AddOwnIdeal.main_arg2) = m ((c.tc : Thread Cert.AddOwnIdeal.nD Cert.AddOwnIdeal.τ).loc Cert.AddOwnIdeal.main_arg2))
      ∧ r.2.sem = fun _ => 0)

def quiescent_AddOwnRefIdeal [hAddOwnRefIdeal : Cert.AddOwnRefIdeal.Facts] : Prop :=
  ∀ (m : (ℓ : Loc Cert.AddOwnRefIdeal.nD Cert.AddOwnRefIdeal.τ Cert.AddOwnRefIdeal.sig) → Buf (Elt Ideal) ℓ) (g : Dev Cert.AddOwnRefIdeal.nD → PrngReg), Pre_AddOwnRefIdeal m →
    θ_run (Cert.AddOwnRefIdeal.defs (F := Ideal)) (onTc (τ := Cert.AddOwnRefIdeal.τ) (Cert.AddOwnRefIdeal.main (F := Ideal))) ⟨m, fun _ => 0, g⟩ (fun r => (∀ c : Dev Cert.AddOwnRefIdeal.nD,
      r.2.mem ((c.tc : Thread Cert.AddOwnRefIdeal.nD Cert.AddOwnRefIdeal.τ).loc Cert.AddOwnRefIdeal.main_arg0) = m ((c.tc : Thread Cert.AddOwnRefIdeal.nD Cert.AddOwnRefIdeal.τ).loc Cert.AddOwnRefIdeal.main_arg0)
      ∧ r.2.mem ((c.tc : Thread Cert.AddOwnRefIdeal.nD Cert.AddOwnRefIdeal.τ).loc Cert.AddOwnRefIdeal.main_arg1) = m ((c.tc : Thread Cert.AddOwnRefIdeal.nD Cert.AddOwnRefIdeal.τ).loc Cert.AddOwnRefIdeal.main_arg1)
      ∧ r.2.mem ((c.tc : Thread Cert.AddOwnRefIdeal.nD Cert.AddOwnRefIdeal.τ).loc Cert.AddOwnRefIdeal.main_arg2) = m ((c.tc : Thread Cert.AddOwnRefIdeal.nD Cert.AddOwnRefIdeal.τ).loc Cert.AddOwnRefIdeal.main_arg2))
      ∧ r.2.sem = fun _ => 0)

def quiescent_AddOwnRefIdeal_pre_one_of_two [hAddOwnRefIdeal : Cert.AddOwnRefIdeal.Facts] [hPre_one_of_two : Cert.Pre_one_of_two.Facts] : Prop :=
  ∀ (m : (ℓ : Loc Cert.AddOwnRefIdeal.nD Cert.AddOwnRefIdeal.τ Cert.AddOwnRefIdeal.sig) → Buf (Elt Ideal) ℓ) (g : Dev Cert.AddOwnRefIdeal.nD → PrngReg), Pre_AddOwnRefIdeal_one_of_two m →
    θ_run (Cert.AddOwnRefIdeal.defs (F := Ideal)) (onTc (τ := Cert.AddOwnRefIdeal.τ) (Cert.AddOwnRefIdeal.main (F := Ideal))) ⟨m, fun _ => 0, g⟩ (fun r => (∀ c : Dev Cert.AddOwnRefIdeal.nD,
      r.2.mem ((c.tc : Thread Cert.AddOwnRefIdeal.nD Cert.AddOwnRefIdeal.τ).loc Cert.AddOwnRefIdeal.main_arg0) = m ((c.tc : Thread Cert.AddOwnRefIdeal.nD Cert.AddOwnRefIdeal.τ).loc Cert.AddOwnRefIdeal.main_arg0)
      ∧ r.2.mem ((c.tc : Thread Cert.AddOwnRefIdeal.nD Cert.AddOwnRefIdeal.τ).loc Cert.AddOwnRefIdeal.main_arg1) = m ((c.tc : Thread Cert.AddOwnRefIdeal.nD Cert.AddOwnRefIdeal.τ).loc Cert.AddOwnRefIdeal.main_arg1)
      ∧ r.2.mem ((c.tc : Thread Cert.AddOwnRefIdeal.nD Cert.AddOwnRefIdeal.τ).loc Cert.AddOwnRefIdeal.main_arg2) = m ((c.tc : Thread Cert.AddOwnRefIdeal.nD Cert.AddOwnRefIdeal.τ).loc Cert.AddOwnRefIdeal.main_arg2))
      ∧ r.2.sem = fun _ => 0)

def quiescent_AddOwnRef [hAddOwnRef : Cert.AddOwnRef.Facts] : Prop :=
  ∀ (m : (ℓ : Loc Cert.AddOwnRef.nD Cert.AddOwnRef.τ Cert.AddOwnRef.sig) → Buf (Elt Bits) ℓ) (g : Dev Cert.AddOwnRef.nD → PrngReg), Pre_AddOwnRef m →
    θ_run (Cert.AddOwnRef.defs (F := Bits)) (onTc (τ := Cert.AddOwnRef.τ) (Cert.AddOwnRef.main (F := Bits))) ⟨m, fun _ => 0, g⟩ (fun r => (∀ c : Dev Cert.AddOwnRef.nD,
      r.2.mem ((c.tc : Thread Cert.AddOwnRef.nD Cert.AddOwnRef.τ).loc Cert.AddOwnRef.main_arg0) = m ((c.tc : Thread Cert.AddOwnRef.nD Cert.AddOwnRef.τ).loc Cert.AddOwnRef.main_arg0)
      ∧ r.2.mem ((c.tc : Thread Cert.AddOwnRef.nD Cert.AddOwnRef.τ).loc Cert.AddOwnRef.main_arg1) = m ((c.tc : Thread Cert.AddOwnRef.nD Cert.AddOwnRef.τ).loc Cert.AddOwnRef.main_arg1)
      ∧ r.2.mem ((c.tc : Thread Cert.AddOwnRef.nD Cert.AddOwnRef.τ).loc Cert.AddOwnRef.main_arg2) = m ((c.tc : Thread Cert.AddOwnRef.nD Cert.AddOwnRef.τ).loc Cert.AddOwnRef.main_arg2))
      ∧ r.2.sem = fun _ => 0)

def quiescent_AddOwnRef_pre_one_of_two [hAddOwnRef : Cert.AddOwnRef.Facts] [hPre_one_of_two : Cert.Pre_one_of_two.Facts] : Prop :=
  ∀ (m : (ℓ : Loc Cert.AddOwnRef.nD Cert.AddOwnRef.τ Cert.AddOwnRef.sig) → Buf (Elt Bits) ℓ) (g : Dev Cert.AddOwnRef.nD → PrngReg), Pre_AddOwnRef_one_of_two m →
    θ_run (Cert.AddOwnRef.defs (F := Bits)) (onTc (τ := Cert.AddOwnRef.τ) (Cert.AddOwnRef.main (F := Bits))) ⟨m, fun _ => 0, g⟩ (fun r => (∀ c : Dev Cert.AddOwnRef.nD,
      r.2.mem ((c.tc : Thread Cert.AddOwnRef.nD Cert.AddOwnRef.τ).loc Cert.AddOwnRef.main_arg0) = m ((c.tc : Thread Cert.AddOwnRef.nD Cert.AddOwnRef.τ).loc Cert.AddOwnRef.main_arg0)
      ∧ r.2.mem ((c.tc : Thread Cert.AddOwnRef.nD Cert.AddOwnRef.τ).loc Cert.AddOwnRef.main_arg1) = m ((c.tc : Thread Cert.AddOwnRef.nD Cert.AddOwnRef.τ).loc Cert.AddOwnRef.main_arg1)
      ∧ r.2.mem ((c.tc : Thread Cert.AddOwnRef.nD Cert.AddOwnRef.τ).loc Cert.AddOwnRef.main_arg2) = m ((c.tc : Thread Cert.AddOwnRef.nD Cert.AddOwnRef.τ).loc Cert.AddOwnRef.main_arg2))
      ∧ r.2.sem = fun _ => 0)

def quiescent_AddFour [hAddFour : Cert.AddFour.Facts] [hPre_one_of_four : Cert.Pre_one_of_four.Facts] : Prop :=
  ∀ (m : (ℓ : Loc Cert.AddFour.nD Cert.AddFour.τ Cert.AddFour.sig) → Buf (Elt Bits) ℓ) (g : Dev Cert.AddFour.nD → PrngReg), Pre_AddFour m →
    θ_run (Cert.AddFour.defs (F := Bits)) (onTc (τ := Cert.AddFour.τ) (Cert.AddFour.main (F := Bits))) ⟨m, fun _ => 0, g⟩ (fun r => (∀ c : Dev Cert.AddFour.nD,
      r.2.mem ((c.tc : Thread Cert.AddFour.nD Cert.AddFour.τ).loc Cert.AddFour.main_arg0) = m ((c.tc : Thread Cert.AddFour.nD Cert.AddFour.τ).loc Cert.AddFour.main_arg0)
      ∧ r.2.mem ((c.tc : Thread Cert.AddFour.nD Cert.AddFour.τ).loc Cert.AddFour.main_arg1) = m ((c.tc : Thread Cert.AddFour.nD Cert.AddFour.τ).loc Cert.AddFour.main_arg1)
      ∧ r.2.mem ((c.tc : Thread Cert.AddFour.nD Cert.AddFour.τ).loc Cert.AddFour.main_arg2) = m ((c.tc : Thread Cert.AddFour.nD Cert.AddFour.τ).loc Cert.AddFour.main_arg2))
      ∧ r.2.sem = fun _ => 0)

def quiescent_AddFourIdeal [hAddFourIdeal : Cert.AddFourIdeal.Facts] [hPre_one_of_four : Cert.Pre_one_of_four.Facts] : Prop :=
  ∀ (m : (ℓ : Loc Cert.AddFourIdeal.nD Cert.AddFourIdeal.τ Cert.AddFourIdeal.sig) → Buf (Elt Ideal) ℓ) (g : Dev Cert.AddFourIdeal.nD → PrngReg), Pre_AddFourIdeal m →
    θ_run (Cert.AddFourIdeal.defs (F := Ideal)) (onTc (τ := Cert.AddFourIdeal.τ) (Cert.AddFourIdeal.main (F := Ideal))) ⟨m, fun _ => 0, g⟩ (fun r => (∀ c : Dev Cert.AddFourIdeal.nD,
      r.2.mem ((c.tc : Thread Cert.AddFourIdeal.nD Cert.AddFourIdeal.τ).loc Cert.AddFourIdeal.main_arg0) = m ((c.tc : Thread Cert.AddFourIdeal.nD Cert.AddFourIdeal.τ).loc Cert.AddFourIdeal.main_arg0)
      ∧ r.2.mem ((c.tc : Thread Cert.AddFourIdeal.nD Cert.AddFourIdeal.τ).loc Cert.AddFourIdeal.main_arg1) = m ((c.tc : Thread Cert.AddFourIdeal.nD Cert.AddFourIdeal.τ).loc Cert.AddFourIdeal.main_arg1)
      ∧ r.2.mem ((c.tc : Thread Cert.AddFourIdeal.nD Cert.AddFourIdeal.τ).loc Cert.AddFourIdeal.main_arg2) = m ((c.tc : Thread Cert.AddFourIdeal.nD Cert.AddFourIdeal.τ).loc Cert.AddFourIdeal.main_arg2))
      ∧ r.2.sem = fun _ => 0)

def quiescent_AddFourRefIdeal [hAddFourRefIdeal : Cert.AddFourRefIdeal.Facts] : Prop :=
  ∀ (m : (ℓ : Loc Cert.AddFourRefIdeal.nD Cert.AddFourRefIdeal.τ Cert.AddFourRefIdeal.sig) → Buf (Elt Ideal) ℓ) (g : Dev Cert.AddFourRefIdeal.nD → PrngReg), Pre_AddFourRefIdeal m →
    θ_run (Cert.AddFourRefIdeal.defs (F := Ideal)) (onTc (τ := Cert.AddFourRefIdeal.τ) (Cert.AddFourRefIdeal.main (F := Ideal))) ⟨m, fun _ => 0, g⟩ (fun r => (∀ c : Dev Cert.AddFourRefIdeal.nD,
      r.2.mem ((c.tc : Thread Cert.AddFourRefIdeal.nD Cert.AddFourRefIdeal.τ).loc Cert.AddFourRefIdeal.main_arg0) = m ((c.tc : Thread Cert.AddFourRefIdeal.nD Cert.AddFourRefIdeal.τ).loc Cert.AddFourRefIdeal.main_arg0)
      ∧ r.2.mem ((c.tc : Thread Cert.AddFourRefIdeal.nD Cert.AddFourRefIdeal.τ).loc Cert.AddFourRefIdeal.main_arg1) = m ((c.tc : Thread Cert.AddFourRefIdeal.nD Cert.AddFourRefIdeal.τ).loc Cert.AddFourRefIdeal.main_arg1)
      ∧ r.2.mem ((c.tc : Thread Cert.AddFourRefIdeal.nD Cert.AddFourRefIdeal.τ).loc Cert.AddFourRefIdeal.main_arg2) = m ((c.tc : Thread Cert.AddFourRefIdeal.nD Cert.AddFourRefIdeal.τ).loc Cert.AddFourRefIdeal.main_arg2))
      ∧ r.2.sem = fun _ => 0)

def quiescent_AddFourRefIdeal_pre_one_of_four [hAddFourRefIdeal : Cert.AddFourRefIdeal.Facts] [hPre_one_of_four : Cert.Pre_one_of_four.Facts] : Prop :=
  ∀ (m : (ℓ : Loc Cert.AddFourRefIdeal.nD Cert.AddFourRefIdeal.τ Cert.AddFourRefIdeal.sig) → Buf (Elt Ideal) ℓ) (g : Dev Cert.AddFourRefIdeal.nD → PrngReg), Pre_AddFourRefIdeal_one_of_four m →
    θ_run (Cert.AddFourRefIdeal.defs (F := Ideal)) (onTc (τ := Cert.AddFourRefIdeal.τ) (Cert.AddFourRefIdeal.main (F := Ideal))) ⟨m, fun _ => 0, g⟩ (fun r => (∀ c : Dev Cert.AddFourRefIdeal.nD,
      r.2.mem ((c.tc : Thread Cert.AddFourRefIdeal.nD Cert.AddFourRefIdeal.τ).loc Cert.AddFourRefIdeal.main_arg0) = m ((c.tc : Thread Cert.AddFourRefIdeal.nD Cert.AddFourRefIdeal.τ).loc Cert.AddFourRefIdeal.main_arg0)
      ∧ r.2.mem ((c.tc : Thread Cert.AddFourRefIdeal.nD Cert.AddFourRefIdeal.τ).loc Cert.AddFourRefIdeal.main_arg1) = m ((c.tc : Thread Cert.AddFourRefIdeal.nD Cert.AddFourRefIdeal.τ).loc Cert.AddFourRefIdeal.main_arg1)
      ∧ r.2.mem ((c.tc : Thread Cert.AddFourRefIdeal.nD Cert.AddFourRefIdeal.τ).loc Cert.AddFourRefIdeal.main_arg2) = m ((c.tc : Thread Cert.AddFourRefIdeal.nD Cert.AddFourRefIdeal.τ).loc Cert.AddFourRefIdeal.main_arg2))
      ∧ r.2.sem = fun _ => 0)

def quiescent_AddFourRef [hAddFourRef : Cert.AddFourRef.Facts] : Prop :=
  ∀ (m : (ℓ : Loc Cert.AddFourRef.nD Cert.AddFourRef.τ Cert.AddFourRef.sig) → Buf (Elt Bits) ℓ) (g : Dev Cert.AddFourRef.nD → PrngReg), Pre_AddFourRef m →
    θ_run (Cert.AddFourRef.defs (F := Bits)) (onTc (τ := Cert.AddFourRef.τ) (Cert.AddFourRef.main (F := Bits))) ⟨m, fun _ => 0, g⟩ (fun r => (∀ c : Dev Cert.AddFourRef.nD,
      r.2.mem ((c.tc : Thread Cert.AddFourRef.nD Cert.AddFourRef.τ).loc Cert.AddFourRef.main_arg0) = m ((c.tc : Thread Cert.AddFourRef.nD Cert.AddFourRef.τ).loc Cert.AddFourRef.main_arg0)
      ∧ r.2.mem ((c.tc : Thread Cert.AddFourRef.nD Cert.AddFourRef.τ).loc Cert.AddFourRef.main_arg1) = m ((c.tc : Thread Cert.AddFourRef.nD Cert.AddFourRef.τ).loc Cert.AddFourRef.main_arg1)
      ∧ r.2.mem ((c.tc : Thread Cert.AddFourRef.nD Cert.AddFourRef.τ).loc Cert.AddFourRef.main_arg2) = m ((c.tc : Thread Cert.AddFourRef.nD Cert.AddFourRef.τ).loc Cert.AddFourRef.main_arg2))
      ∧ r.2.sem = fun _ => 0)

def quiescent_AddFourRef_pre_one_of_four [hAddFourRef : Cert.AddFourRef.Facts] [hPre_one_of_four : Cert.Pre_one_of_four.Facts] : Prop :=
  ∀ (m : (ℓ : Loc Cert.AddFourRef.nD Cert.AddFourRef.τ Cert.AddFourRef.sig) → Buf (Elt Bits) ℓ) (g : Dev Cert.AddFourRef.nD → PrngReg), Pre_AddFourRef_one_of_four m →
    θ_run (Cert.AddFourRef.defs (F := Bits)) (onTc (τ := Cert.AddFourRef.τ) (Cert.AddFourRef.main (F := Bits))) ⟨m, fun _ => 0, g⟩ (fun r => (∀ c : Dev Cert.AddFourRef.nD,
      r.2.mem ((c.tc : Thread Cert.AddFourRef.nD Cert.AddFourRef.τ).loc Cert.AddFourRef.main_arg0) = m ((c.tc : Thread Cert.AddFourRef.nD Cert.AddFourRef.τ).loc Cert.AddFourRef.main_arg0)
      ∧ r.2.mem ((c.tc : Thread Cert.AddFourRef.nD Cert.AddFourRef.τ).loc Cert.AddFourRef.main_arg1) = m ((c.tc : Thread Cert.AddFourRef.nD Cert.AddFourRef.τ).loc Cert.AddFourRef.main_arg1)
      ∧ r.2.mem ((c.tc : Thread Cert.AddFourRef.nD Cert.AddFourRef.τ).loc Cert.AddFourRef.main_arg2) = m ((c.tc : Thread Cert.AddFourRef.nD Cert.AddFourRef.τ).loc Cert.AddFourRef.main_arg2))
      ∧ r.2.sem = fun _ => 0)

def quiescent_MulWo [hMulWo : Cert.MulWo.Facts] : Prop :=
  ∀ (m : (ℓ : Loc Cert.MulWo.nD Cert.MulWo.τ Cert.MulWo.sig) → Buf (Elt Bits) ℓ) (g : Dev Cert.MulWo.nD → PrngReg), Pre_MulWo m →
    θ_run (Cert.MulWo.defs (F := Bits)) (onTc (τ := Cert.MulWo.τ) (Cert.MulWo.main (F := Bits))) ⟨m, fun _ => 0, g⟩ (fun r => (∀ c : Dev Cert.MulWo.nD,
      r.2.mem ((c.tc : Thread Cert.MulWo.nD Cert.MulWo.τ).loc Cert.MulWo.main_arg0) = m ((c.tc : Thread Cert.MulWo.nD Cert.MulWo.τ).loc Cert.MulWo.main_arg0)
      ∧ r.2.mem ((c.tc : Thread Cert.MulWo.nD Cert.MulWo.τ).loc Cert.MulWo.main_arg1) = m ((c.tc : Thread Cert.MulWo.nD Cert.MulWo.τ).loc Cert.MulWo.main_arg1))
      ∧ r.2.sem = fun _ => 0)

def quiescent_MulWoIdeal [hMulWoIdeal : Cert.MulWoIdeal.Facts] : Prop :=
  ∀ (m : (ℓ : Loc Cert.MulWoIdeal.nD Cert.MulWoIdeal.τ Cert.MulWoIdeal.sig) → Buf (Elt Ideal) ℓ) (g : Dev Cert.MulWoIdeal.nD → PrngReg), Pre_MulWoIdeal m →
    θ_run (Cert.MulWoIdeal.defs (F := Ideal)) (onTc (τ := Cert.MulWoIdeal.τ) (Cert.MulWoIdeal.main (F := Ideal))) ⟨m, fun _ => 0, g⟩ (fun r => (∀ c : Dev Cert.MulWoIdeal.nD,
      r.2.mem ((c.tc : Thread Cert.MulWoIdeal.nD Cert.MulWoIdeal.τ).loc Cert.MulWoIdeal.main_arg0) = m ((c.tc : Thread Cert.MulWoIdeal.nD Cert.MulWoIdeal.τ).loc Cert.MulWoIdeal.main_arg0)
      ∧ r.2.mem ((c.tc : Thread Cert.MulWoIdeal.nD Cert.MulWoIdeal.τ).loc Cert.MulWoIdeal.main_arg1) = m ((c.tc : Thread Cert.MulWoIdeal.nD Cert.MulWoIdeal.τ).loc Cert.MulWoIdeal.main_arg1))
      ∧ r.2.sem = fun _ => 0)

def quiescent_MulWoRefIdeal [hMulWoRefIdeal : Cert.MulWoRefIdeal.Facts] : Prop :=
  ∀ (m : (ℓ : Loc Cert.MulWoRefIdeal.nD Cert.MulWoRefIdeal.τ Cert.MulWoRefIdeal.sig) → Buf (Elt Ideal) ℓ) (g : Dev Cert.MulWoRefIdeal.nD → PrngReg), Pre_MulWoRefIdeal m →
    θ_run (Cert.MulWoRefIdeal.defs (F := Ideal)) (onTc (τ := Cert.MulWoRefIdeal.τ) (Cert.MulWoRefIdeal.main (F := Ideal))) ⟨m, fun _ => 0, g⟩ (fun r => (∀ c : Dev Cert.MulWoRefIdeal.nD,
      r.2.mem ((c.tc : Thread Cert.MulWoRefIdeal.nD Cert.MulWoRefIdeal.τ).loc Cert.MulWoRefIdeal.main_arg0) = m ((c.tc : Thread Cert.MulWoRefIdeal.nD Cert.MulWoRefIdeal.τ).loc Cert.MulWoRefIdeal.main_arg0)
      ∧ r.2.mem ((c.tc : Thread Cert.MulWoRefIdeal.nD Cert.MulWoRefIdeal.τ).loc Cert.MulWoRefIdeal.main_arg1) = m ((c.tc : Thread Cert.MulWoRefIdeal.nD Cert.MulWoRefIdeal.τ).loc Cert.MulWoRefIdeal.main_arg1))
      ∧ r.2.sem = fun _ => 0)

def quiescent_MulDWo [hMulDWo : Cert.MulDWo.Facts] : Prop :=
  ∀ (m : (ℓ : Loc Cert.MulDWo.nD Cert.MulDWo.τ Cert.MulDWo.sig) → Buf (Elt Bits) ℓ) (g : Dev Cert.MulDWo.nD → PrngReg), Pre_MulDWo m →
    θ_run (Cert.MulDWo.defs (F := Bits)) (onTc (τ := Cert.MulDWo.τ) (Cert.MulDWo.main (F := Bits))) ⟨m, fun _ => 0, g⟩ (fun r => (∀ c : Dev Cert.MulDWo.nD,
      r.2.mem ((c.tc : Thread Cert.MulDWo.nD Cert.MulDWo.τ).loc Cert.MulDWo.main_arg0) = m ((c.tc : Thread Cert.MulDWo.nD Cert.MulDWo.τ).loc Cert.MulDWo.main_arg0)
      ∧ r.2.mem ((c.tc : Thread Cert.MulDWo.nD Cert.MulDWo.τ).loc Cert.MulDWo.main_arg1) = m ((c.tc : Thread Cert.MulDWo.nD Cert.MulDWo.τ).loc Cert.MulDWo.main_arg1))
      ∧ r.2.sem = fun _ => 0)

def quiescent_MulDWoIdeal [hMulDWoIdeal : Cert.MulDWoIdeal.Facts] : Prop :=
  ∀ (m : (ℓ : Loc Cert.MulDWoIdeal.nD Cert.MulDWoIdeal.τ Cert.MulDWoIdeal.sig) → Buf (Elt Ideal) ℓ) (g : Dev Cert.MulDWoIdeal.nD → PrngReg), Pre_MulDWoIdeal m →
    θ_run (Cert.MulDWoIdeal.defs (F := Ideal)) (onTc (τ := Cert.MulDWoIdeal.τ) (Cert.MulDWoIdeal.main (F := Ideal))) ⟨m, fun _ => 0, g⟩ (fun r => (∀ c : Dev Cert.MulDWoIdeal.nD,
      r.2.mem ((c.tc : Thread Cert.MulDWoIdeal.nD Cert.MulDWoIdeal.τ).loc Cert.MulDWoIdeal.main_arg0) = m ((c.tc : Thread Cert.MulDWoIdeal.nD Cert.MulDWoIdeal.τ).loc Cert.MulDWoIdeal.main_arg0)
      ∧ r.2.mem ((c.tc : Thread Cert.MulDWoIdeal.nD Cert.MulDWoIdeal.τ).loc Cert.MulDWoIdeal.main_arg1) = m ((c.tc : Thread Cert.MulDWoIdeal.nD Cert.MulDWoIdeal.τ).loc Cert.MulDWoIdeal.main_arg1))
      ∧ r.2.sem = fun _ => 0)

def quiescent_MulDWoRefIdeal [hMulDWoRefIdeal : Cert.MulDWoRefIdeal.Facts] : Prop :=
  ∀ (m : (ℓ : Loc Cert.MulDWoRefIdeal.nD Cert.MulDWoRefIdeal.τ Cert.MulDWoRefIdeal.sig) → Buf (Elt Ideal) ℓ) (g : Dev Cert.MulDWoRefIdeal.nD → PrngReg), Pre_MulDWoRefIdeal m →
    θ_run (Cert.MulDWoRefIdeal.defs (F := Ideal)) (onTc (τ := Cert.MulDWoRefIdeal.τ) (Cert.MulDWoRefIdeal.main (F := Ideal))) ⟨m, fun _ => 0, g⟩ (fun r => (∀ c : Dev Cert.MulDWoRefIdeal.nD,
      r.2.mem ((c.tc : Thread Cert.MulDWoRefIdeal.nD Cert.MulDWoRefIdeal.τ).loc Cert.MulDWoRefIdeal.main_arg0) = m ((c.tc : Thread Cert.MulDWoRefIdeal.nD Cert.MulDWoRefIdeal.τ).loc Cert.MulDWoRefIdeal.main_arg0)
      ∧ r.2.mem ((c.tc : Thread Cert.MulDWoRefIdeal.nD Cert.MulDWoRefIdeal.τ).loc Cert.MulDWoRefIdeal.main_arg1) = m ((c.tc : Thread Cert.MulDWoRefIdeal.nD Cert.MulDWoRefIdeal.τ).loc Cert.MulDWoRefIdeal.main_arg1))
      ∧ r.2.sem = fun _ => 0)

def quiescent_MulQkv [hMulQkv : Cert.MulQkv.Facts] : Prop :=
  ∀ (m : (ℓ : Loc Cert.MulQkv.nD Cert.MulQkv.τ Cert.MulQkv.sig) → Buf (Elt Bits) ℓ) (g : Dev Cert.MulQkv.nD → PrngReg), Pre_MulQkv m →
    θ_run (Cert.MulQkv.defs (F := Bits)) (onTc (τ := Cert.MulQkv.τ) (Cert.MulQkv.main (F := Bits))) ⟨m, fun _ => 0, g⟩ (fun r => (∀ c : Dev Cert.MulQkv.nD,
      r.2.mem ((c.tc : Thread Cert.MulQkv.nD Cert.MulQkv.τ).loc Cert.MulQkv.main_arg0) = m ((c.tc : Thread Cert.MulQkv.nD Cert.MulQkv.τ).loc Cert.MulQkv.main_arg0)
      ∧ r.2.mem ((c.tc : Thread Cert.MulQkv.nD Cert.MulQkv.τ).loc Cert.MulQkv.main_arg1) = m ((c.tc : Thread Cert.MulQkv.nD Cert.MulQkv.τ).loc Cert.MulQkv.main_arg1))
      ∧ r.2.sem = fun _ => 0)

def quiescent_MulQkvIdeal [hMulQkvIdeal : Cert.MulQkvIdeal.Facts] : Prop :=
  ∀ (m : (ℓ : Loc Cert.MulQkvIdeal.nD Cert.MulQkvIdeal.τ Cert.MulQkvIdeal.sig) → Buf (Elt Ideal) ℓ) (g : Dev Cert.MulQkvIdeal.nD → PrngReg), Pre_MulQkvIdeal m →
    θ_run (Cert.MulQkvIdeal.defs (F := Ideal)) (onTc (τ := Cert.MulQkvIdeal.τ) (Cert.MulQkvIdeal.main (F := Ideal))) ⟨m, fun _ => 0, g⟩ (fun r => (∀ c : Dev Cert.MulQkvIdeal.nD,
      r.2.mem ((c.tc : Thread Cert.MulQkvIdeal.nD Cert.MulQkvIdeal.τ).loc Cert.MulQkvIdeal.main_arg0) = m ((c.tc : Thread Cert.MulQkvIdeal.nD Cert.MulQkvIdeal.τ).loc Cert.MulQkvIdeal.main_arg0)
      ∧ r.2.mem ((c.tc : Thread Cert.MulQkvIdeal.nD Cert.MulQkvIdeal.τ).loc Cert.MulQkvIdeal.main_arg1) = m ((c.tc : Thread Cert.MulQkvIdeal.nD Cert.MulQkvIdeal.τ).loc Cert.MulQkvIdeal.main_arg1))
      ∧ r.2.sem = fun _ => 0)

def quiescent_MulQkvRefIdeal [hMulQkvRefIdeal : Cert.MulQkvRefIdeal.Facts] : Prop :=
  ∀ (m : (ℓ : Loc Cert.MulQkvRefIdeal.nD Cert.MulQkvRefIdeal.τ Cert.MulQkvRefIdeal.sig) → Buf (Elt Ideal) ℓ) (g : Dev Cert.MulQkvRefIdeal.nD → PrngReg), Pre_MulQkvRefIdeal m →
    θ_run (Cert.MulQkvRefIdeal.defs (F := Ideal)) (onTc (τ := Cert.MulQkvRefIdeal.τ) (Cert.MulQkvRefIdeal.main (F := Ideal))) ⟨m, fun _ => 0, g⟩ (fun r => (∀ c : Dev Cert.MulQkvRefIdeal.nD,
      r.2.mem ((c.tc : Thread Cert.MulQkvRefIdeal.nD Cert.MulQkvRefIdeal.τ).loc Cert.MulQkvRefIdeal.main_arg0) = m ((c.tc : Thread Cert.MulQkvRefIdeal.nD Cert.MulQkvRefIdeal.τ).loc Cert.MulQkvRefIdeal.main_arg0)
      ∧ r.2.mem ((c.tc : Thread Cert.MulQkvRefIdeal.nD Cert.MulQkvRefIdeal.τ).loc Cert.MulQkvRefIdeal.main_arg1) = m ((c.tc : Thread Cert.MulQkvRefIdeal.nD Cert.MulQkvRefIdeal.τ).loc Cert.MulQkvRefIdeal.main_arg1))
      ∧ r.2.sem = fun _ => 0)

def quiescent_MulGlu [hMulGlu : Cert.MulGlu.Facts] : Prop :=
  ∀ (m : (ℓ : Loc Cert.MulGlu.nD Cert.MulGlu.τ Cert.MulGlu.sig) → Buf (Elt Bits) ℓ) (g : Dev Cert.MulGlu.nD → PrngReg), Pre_MulGlu m →
    θ_run (Cert.MulGlu.defs (F := Bits)) (onTc (τ := Cert.MulGlu.τ) (Cert.MulGlu.main (F := Bits))) ⟨m, fun _ => 0, g⟩ (fun r => (∀ c : Dev Cert.MulGlu.nD,
      r.2.mem ((c.tc : Thread Cert.MulGlu.nD Cert.MulGlu.τ).loc Cert.MulGlu.main_arg0) = m ((c.tc : Thread Cert.MulGlu.nD Cert.MulGlu.τ).loc Cert.MulGlu.main_arg0)
      ∧ r.2.mem ((c.tc : Thread Cert.MulGlu.nD Cert.MulGlu.τ).loc Cert.MulGlu.main_arg1) = m ((c.tc : Thread Cert.MulGlu.nD Cert.MulGlu.τ).loc Cert.MulGlu.main_arg1))
      ∧ r.2.sem = fun _ => 0)

def quiescent_MulGluIdeal [hMulGluIdeal : Cert.MulGluIdeal.Facts] : Prop :=
  ∀ (m : (ℓ : Loc Cert.MulGluIdeal.nD Cert.MulGluIdeal.τ Cert.MulGluIdeal.sig) → Buf (Elt Ideal) ℓ) (g : Dev Cert.MulGluIdeal.nD → PrngReg), Pre_MulGluIdeal m →
    θ_run (Cert.MulGluIdeal.defs (F := Ideal)) (onTc (τ := Cert.MulGluIdeal.τ) (Cert.MulGluIdeal.main (F := Ideal))) ⟨m, fun _ => 0, g⟩ (fun r => (∀ c : Dev Cert.MulGluIdeal.nD,
      r.2.mem ((c.tc : Thread Cert.MulGluIdeal.nD Cert.MulGluIdeal.τ).loc Cert.MulGluIdeal.main_arg0) = m ((c.tc : Thread Cert.MulGluIdeal.nD Cert.MulGluIdeal.τ).loc Cert.MulGluIdeal.main_arg0)
      ∧ r.2.mem ((c.tc : Thread Cert.MulGluIdeal.nD Cert.MulGluIdeal.τ).loc Cert.MulGluIdeal.main_arg1) = m ((c.tc : Thread Cert.MulGluIdeal.nD Cert.MulGluIdeal.τ).loc Cert.MulGluIdeal.main_arg1))
      ∧ r.2.sem = fun _ => 0)

def quiescent_MulGluRefIdeal [hMulGluRefIdeal : Cert.MulGluRefIdeal.Facts] : Prop :=
  ∀ (m : (ℓ : Loc Cert.MulGluRefIdeal.nD Cert.MulGluRefIdeal.τ Cert.MulGluRefIdeal.sig) → Buf (Elt Ideal) ℓ) (g : Dev Cert.MulGluRefIdeal.nD → PrngReg), Pre_MulGluRefIdeal m →
    θ_run (Cert.MulGluRefIdeal.defs (F := Ideal)) (onTc (τ := Cert.MulGluRefIdeal.τ) (Cert.MulGluRefIdeal.main (F := Ideal))) ⟨m, fun _ => 0, g⟩ (fun r => (∀ c : Dev Cert.MulGluRefIdeal.nD,
      r.2.mem ((c.tc : Thread Cert.MulGluRefIdeal.nD Cert.MulGluRefIdeal.τ).loc Cert.MulGluRefIdeal.main_arg0) = m ((c.tc : Thread Cert.MulGluRefIdeal.nD Cert.MulGluRefIdeal.τ).loc Cert.MulGluRefIdeal.main_arg0)
      ∧ r.2.mem ((c.tc : Thread Cert.MulGluRefIdeal.nD Cert.MulGluRefIdeal.τ).loc Cert.MulGluRefIdeal.main_arg1) = m ((c.tc : Thread Cert.MulGluRefIdeal.nD Cert.MulGluRefIdeal.τ).loc Cert.MulGluRefIdeal.main_arg1))
      ∧ r.2.sem = fun _ => 0)

def quiescent_MulGateUp [hMulGateUp : Cert.MulGateUp.Facts] : Prop :=
  ∀ (m : (ℓ : Loc Cert.MulGateUp.nD Cert.MulGateUp.τ Cert.MulGateUp.sig) → Buf (Elt Bits) ℓ) (g : Dev Cert.MulGateUp.nD → PrngReg), Pre_MulGateUp m →
    θ_run (Cert.MulGateUp.defs (F := Bits)) (onTc (τ := Cert.MulGateUp.τ) (Cert.MulGateUp.main (F := Bits))) ⟨m, fun _ => 0, g⟩ (fun r => (∀ c : Dev Cert.MulGateUp.nD,
      r.2.mem ((c.tc : Thread Cert.MulGateUp.nD Cert.MulGateUp.τ).loc Cert.MulGateUp.main_arg0) = m ((c.tc : Thread Cert.MulGateUp.nD Cert.MulGateUp.τ).loc Cert.MulGateUp.main_arg0)
      ∧ r.2.mem ((c.tc : Thread Cert.MulGateUp.nD Cert.MulGateUp.τ).loc Cert.MulGateUp.main_arg1) = m ((c.tc : Thread Cert.MulGateUp.nD Cert.MulGateUp.τ).loc Cert.MulGateUp.main_arg1))
      ∧ r.2.sem = fun _ => 0)

def quiescent_MulGateUpIdeal [hMulGateUpIdeal : Cert.MulGateUpIdeal.Facts] : Prop :=
  ∀ (m : (ℓ : Loc Cert.MulGateUpIdeal.nD Cert.MulGateUpIdeal.τ Cert.MulGateUpIdeal.sig) → Buf (Elt Ideal) ℓ) (g : Dev Cert.MulGateUpIdeal.nD → PrngReg), Pre_MulGateUpIdeal m →
    θ_run (Cert.MulGateUpIdeal.defs (F := Ideal)) (onTc (τ := Cert.MulGateUpIdeal.τ) (Cert.MulGateUpIdeal.main (F := Ideal))) ⟨m, fun _ => 0, g⟩ (fun r => (∀ c : Dev Cert.MulGateUpIdeal.nD,
      r.2.mem ((c.tc : Thread Cert.MulGateUpIdeal.nD Cert.MulGateUpIdeal.τ).loc Cert.MulGateUpIdeal.main_arg0) = m ((c.tc : Thread Cert.MulGateUpIdeal.nD Cert.MulGateUpIdeal.τ).loc Cert.MulGateUpIdeal.main_arg0)
      ∧ r.2.mem ((c.tc : Thread Cert.MulGateUpIdeal.nD Cert.MulGateUpIdeal.τ).loc Cert.MulGateUpIdeal.main_arg1) = m ((c.tc : Thread Cert.MulGateUpIdeal.nD Cert.MulGateUpIdeal.τ).loc Cert.MulGateUpIdeal.main_arg1))
      ∧ r.2.sem = fun _ => 0)

def quiescent_MulGateUpRefIdeal [hMulGateUpRefIdeal : Cert.MulGateUpRefIdeal.Facts] : Prop :=
  ∀ (m : (ℓ : Loc Cert.MulGateUpRefIdeal.nD Cert.MulGateUpRefIdeal.τ Cert.MulGateUpRefIdeal.sig) → Buf (Elt Ideal) ℓ) (g : Dev Cert.MulGateUpRefIdeal.nD → PrngReg), Pre_MulGateUpRefIdeal m →
    θ_run (Cert.MulGateUpRefIdeal.defs (F := Ideal)) (onTc (τ := Cert.MulGateUpRefIdeal.τ) (Cert.MulGateUpRefIdeal.main (F := Ideal))) ⟨m, fun _ => 0, g⟩ (fun r => (∀ c : Dev Cert.MulGateUpRefIdeal.nD,
      r.2.mem ((c.tc : Thread Cert.MulGateUpRefIdeal.nD Cert.MulGateUpRefIdeal.τ).loc Cert.MulGateUpRefIdeal.main_arg0) = m ((c.tc : Thread Cert.MulGateUpRefIdeal.nD Cert.MulGateUpRefIdeal.τ).loc Cert.MulGateUpRefIdeal.main_arg0)
      ∧ r.2.mem ((c.tc : Thread Cert.MulGateUpRefIdeal.nD Cert.MulGateUpRefIdeal.τ).loc Cert.MulGateUpRefIdeal.main_arg1) = m ((c.tc : Thread Cert.MulGateUpRefIdeal.nD Cert.MulGateUpRefIdeal.τ).loc Cert.MulGateUpRefIdeal.main_arg1))
      ∧ r.2.sem = fun _ => 0)

def quiescent_MulDown [hMulDown : Cert.MulDown.Facts] : Prop :=
  ∀ (m : (ℓ : Loc Cert.MulDown.nD Cert.MulDown.τ Cert.MulDown.sig) → Buf (Elt Bits) ℓ) (g : Dev Cert.MulDown.nD → PrngReg), Pre_MulDown m →
    θ_run (Cert.MulDown.defs (F := Bits)) (onTc (τ := Cert.MulDown.τ) (Cert.MulDown.main (F := Bits))) ⟨m, fun _ => 0, g⟩ (fun r => (∀ c : Dev Cert.MulDown.nD,
      r.2.mem ((c.tc : Thread Cert.MulDown.nD Cert.MulDown.τ).loc Cert.MulDown.main_arg0) = m ((c.tc : Thread Cert.MulDown.nD Cert.MulDown.τ).loc Cert.MulDown.main_arg0)
      ∧ r.2.mem ((c.tc : Thread Cert.MulDown.nD Cert.MulDown.τ).loc Cert.MulDown.main_arg1) = m ((c.tc : Thread Cert.MulDown.nD Cert.MulDown.τ).loc Cert.MulDown.main_arg1))
      ∧ r.2.sem = fun _ => 0)

def quiescent_MulDownIdeal [hMulDownIdeal : Cert.MulDownIdeal.Facts] : Prop :=
  ∀ (m : (ℓ : Loc Cert.MulDownIdeal.nD Cert.MulDownIdeal.τ Cert.MulDownIdeal.sig) → Buf (Elt Ideal) ℓ) (g : Dev Cert.MulDownIdeal.nD → PrngReg), Pre_MulDownIdeal m →
    θ_run (Cert.MulDownIdeal.defs (F := Ideal)) (onTc (τ := Cert.MulDownIdeal.τ) (Cert.MulDownIdeal.main (F := Ideal))) ⟨m, fun _ => 0, g⟩ (fun r => (∀ c : Dev Cert.MulDownIdeal.nD,
      r.2.mem ((c.tc : Thread Cert.MulDownIdeal.nD Cert.MulDownIdeal.τ).loc Cert.MulDownIdeal.main_arg0) = m ((c.tc : Thread Cert.MulDownIdeal.nD Cert.MulDownIdeal.τ).loc Cert.MulDownIdeal.main_arg0)
      ∧ r.2.mem ((c.tc : Thread Cert.MulDownIdeal.nD Cert.MulDownIdeal.τ).loc Cert.MulDownIdeal.main_arg1) = m ((c.tc : Thread Cert.MulDownIdeal.nD Cert.MulDownIdeal.τ).loc Cert.MulDownIdeal.main_arg1))
      ∧ r.2.sem = fun _ => 0)

def quiescent_MulDownRefIdeal [hMulDownRefIdeal : Cert.MulDownRefIdeal.Facts] : Prop :=
  ∀ (m : (ℓ : Loc Cert.MulDownRefIdeal.nD Cert.MulDownRefIdeal.τ Cert.MulDownRefIdeal.sig) → Buf (Elt Ideal) ℓ) (g : Dev Cert.MulDownRefIdeal.nD → PrngReg), Pre_MulDownRefIdeal m →
    θ_run (Cert.MulDownRefIdeal.defs (F := Ideal)) (onTc (τ := Cert.MulDownRefIdeal.τ) (Cert.MulDownRefIdeal.main (F := Ideal))) ⟨m, fun _ => 0, g⟩ (fun r => (∀ c : Dev Cert.MulDownRefIdeal.nD,
      r.2.mem ((c.tc : Thread Cert.MulDownRefIdeal.nD Cert.MulDownRefIdeal.τ).loc Cert.MulDownRefIdeal.main_arg0) = m ((c.tc : Thread Cert.MulDownRefIdeal.nD Cert.MulDownRefIdeal.τ).loc Cert.MulDownRefIdeal.main_arg0)
      ∧ r.2.mem ((c.tc : Thread Cert.MulDownRefIdeal.nD Cert.MulDownRefIdeal.τ).loc Cert.MulDownRefIdeal.main_arg1) = m ((c.tc : Thread Cert.MulDownRefIdeal.nD Cert.MulDownRefIdeal.τ).loc Cert.MulDownRefIdeal.main_arg1))
      ∧ r.2.sem = fun _ => 0)

def quiescent_MulDQkv [hMulDQkv : Cert.MulDQkv.Facts] : Prop :=
  ∀ (m : (ℓ : Loc Cert.MulDQkv.nD Cert.MulDQkv.τ Cert.MulDQkv.sig) → Buf (Elt Bits) ℓ) (g : Dev Cert.MulDQkv.nD → PrngReg), Pre_MulDQkv m →
    θ_run (Cert.MulDQkv.defs (F := Bits)) (onTc (τ := Cert.MulDQkv.τ) (Cert.MulDQkv.main (F := Bits))) ⟨m, fun _ => 0, g⟩ (fun r => (∀ c : Dev Cert.MulDQkv.nD,
      r.2.mem ((c.tc : Thread Cert.MulDQkv.nD Cert.MulDQkv.τ).loc Cert.MulDQkv.main_arg0) = m ((c.tc : Thread Cert.MulDQkv.nD Cert.MulDQkv.τ).loc Cert.MulDQkv.main_arg0)
      ∧ r.2.mem ((c.tc : Thread Cert.MulDQkv.nD Cert.MulDQkv.τ).loc Cert.MulDQkv.main_arg1) = m ((c.tc : Thread Cert.MulDQkv.nD Cert.MulDQkv.τ).loc Cert.MulDQkv.main_arg1))
      ∧ r.2.sem = fun _ => 0)

def quiescent_MulDQkvIdeal [hMulDQkvIdeal : Cert.MulDQkvIdeal.Facts] : Prop :=
  ∀ (m : (ℓ : Loc Cert.MulDQkvIdeal.nD Cert.MulDQkvIdeal.τ Cert.MulDQkvIdeal.sig) → Buf (Elt Ideal) ℓ) (g : Dev Cert.MulDQkvIdeal.nD → PrngReg), Pre_MulDQkvIdeal m →
    θ_run (Cert.MulDQkvIdeal.defs (F := Ideal)) (onTc (τ := Cert.MulDQkvIdeal.τ) (Cert.MulDQkvIdeal.main (F := Ideal))) ⟨m, fun _ => 0, g⟩ (fun r => (∀ c : Dev Cert.MulDQkvIdeal.nD,
      r.2.mem ((c.tc : Thread Cert.MulDQkvIdeal.nD Cert.MulDQkvIdeal.τ).loc Cert.MulDQkvIdeal.main_arg0) = m ((c.tc : Thread Cert.MulDQkvIdeal.nD Cert.MulDQkvIdeal.τ).loc Cert.MulDQkvIdeal.main_arg0)
      ∧ r.2.mem ((c.tc : Thread Cert.MulDQkvIdeal.nD Cert.MulDQkvIdeal.τ).loc Cert.MulDQkvIdeal.main_arg1) = m ((c.tc : Thread Cert.MulDQkvIdeal.nD Cert.MulDQkvIdeal.τ).loc Cert.MulDQkvIdeal.main_arg1))
      ∧ r.2.sem = fun _ => 0)

def quiescent_MulDQkvRefIdeal [hMulDQkvRefIdeal : Cert.MulDQkvRefIdeal.Facts] : Prop :=
  ∀ (m : (ℓ : Loc Cert.MulDQkvRefIdeal.nD Cert.MulDQkvRefIdeal.τ Cert.MulDQkvRefIdeal.sig) → Buf (Elt Ideal) ℓ) (g : Dev Cert.MulDQkvRefIdeal.nD → PrngReg), Pre_MulDQkvRefIdeal m →
    θ_run (Cert.MulDQkvRefIdeal.defs (F := Ideal)) (onTc (τ := Cert.MulDQkvRefIdeal.τ) (Cert.MulDQkvRefIdeal.main (F := Ideal))) ⟨m, fun _ => 0, g⟩ (fun r => (∀ c : Dev Cert.MulDQkvRefIdeal.nD,
      r.2.mem ((c.tc : Thread Cert.MulDQkvRefIdeal.nD Cert.MulDQkvRefIdeal.τ).loc Cert.MulDQkvRefIdeal.main_arg0) = m ((c.tc : Thread Cert.MulDQkvRefIdeal.nD Cert.MulDQkvRefIdeal.τ).loc Cert.MulDQkvRefIdeal.main_arg0)
      ∧ r.2.mem ((c.tc : Thread Cert.MulDQkvRefIdeal.nD Cert.MulDQkvRefIdeal.τ).loc Cert.MulDQkvRefIdeal.main_arg1) = m ((c.tc : Thread Cert.MulDQkvRefIdeal.nD Cert.MulDQkvRefIdeal.τ).loc Cert.MulDQkvRefIdeal.main_arg1))
      ∧ r.2.sem = fun _ => 0)

def quiescent_MulDGlu [hMulDGlu : Cert.MulDGlu.Facts] : Prop :=
  ∀ (m : (ℓ : Loc Cert.MulDGlu.nD Cert.MulDGlu.τ Cert.MulDGlu.sig) → Buf (Elt Bits) ℓ) (g : Dev Cert.MulDGlu.nD → PrngReg), Pre_MulDGlu m →
    θ_run (Cert.MulDGlu.defs (F := Bits)) (onTc (τ := Cert.MulDGlu.τ) (Cert.MulDGlu.main (F := Bits))) ⟨m, fun _ => 0, g⟩ (fun r => (∀ c : Dev Cert.MulDGlu.nD,
      r.2.mem ((c.tc : Thread Cert.MulDGlu.nD Cert.MulDGlu.τ).loc Cert.MulDGlu.main_arg0) = m ((c.tc : Thread Cert.MulDGlu.nD Cert.MulDGlu.τ).loc Cert.MulDGlu.main_arg0)
      ∧ r.2.mem ((c.tc : Thread Cert.MulDGlu.nD Cert.MulDGlu.τ).loc Cert.MulDGlu.main_arg1) = m ((c.tc : Thread Cert.MulDGlu.nD Cert.MulDGlu.τ).loc Cert.MulDGlu.main_arg1))
      ∧ r.2.sem = fun _ => 0)

def quiescent_MulDGluIdeal [hMulDGluIdeal : Cert.MulDGluIdeal.Facts] : Prop :=
  ∀ (m : (ℓ : Loc Cert.MulDGluIdeal.nD Cert.MulDGluIdeal.τ Cert.MulDGluIdeal.sig) → Buf (Elt Ideal) ℓ) (g : Dev Cert.MulDGluIdeal.nD → PrngReg), Pre_MulDGluIdeal m →
    θ_run (Cert.MulDGluIdeal.defs (F := Ideal)) (onTc (τ := Cert.MulDGluIdeal.τ) (Cert.MulDGluIdeal.main (F := Ideal))) ⟨m, fun _ => 0, g⟩ (fun r => (∀ c : Dev Cert.MulDGluIdeal.nD,
      r.2.mem ((c.tc : Thread Cert.MulDGluIdeal.nD Cert.MulDGluIdeal.τ).loc Cert.MulDGluIdeal.main_arg0) = m ((c.tc : Thread Cert.MulDGluIdeal.nD Cert.MulDGluIdeal.τ).loc Cert.MulDGluIdeal.main_arg0)
      ∧ r.2.mem ((c.tc : Thread Cert.MulDGluIdeal.nD Cert.MulDGluIdeal.τ).loc Cert.MulDGluIdeal.main_arg1) = m ((c.tc : Thread Cert.MulDGluIdeal.nD Cert.MulDGluIdeal.τ).loc Cert.MulDGluIdeal.main_arg1))
      ∧ r.2.sem = fun _ => 0)

def quiescent_MulDGluRefIdeal [hMulDGluRefIdeal : Cert.MulDGluRefIdeal.Facts] : Prop :=
  ∀ (m : (ℓ : Loc Cert.MulDGluRefIdeal.nD Cert.MulDGluRefIdeal.τ Cert.MulDGluRefIdeal.sig) → Buf (Elt Ideal) ℓ) (g : Dev Cert.MulDGluRefIdeal.nD → PrngReg), Pre_MulDGluRefIdeal m →
    θ_run (Cert.MulDGluRefIdeal.defs (F := Ideal)) (onTc (τ := Cert.MulDGluRefIdeal.τ) (Cert.MulDGluRefIdeal.main (F := Ideal))) ⟨m, fun _ => 0, g⟩ (fun r => (∀ c : Dev Cert.MulDGluRefIdeal.nD,
      r.2.mem ((c.tc : Thread Cert.MulDGluRefIdeal.nD Cert.MulDGluRefIdeal.τ).loc Cert.MulDGluRefIdeal.main_arg0) = m ((c.tc : Thread Cert.MulDGluRefIdeal.nD Cert.MulDGluRefIdeal.τ).loc Cert.MulDGluRefIdeal.main_arg0)
      ∧ r.2.mem ((c.tc : Thread Cert.MulDGluRefIdeal.nD Cert.MulDGluRefIdeal.τ).loc Cert.MulDGluRefIdeal.main_arg1) = m ((c.tc : Thread Cert.MulDGluRefIdeal.nD Cert.MulDGluRefIdeal.τ).loc Cert.MulDGluRefIdeal.main_arg1))
      ∧ r.2.sem = fun _ => 0)

def quiescent_MulDGateUp [hMulDGateUp : Cert.MulDGateUp.Facts] : Prop :=
  ∀ (m : (ℓ : Loc Cert.MulDGateUp.nD Cert.MulDGateUp.τ Cert.MulDGateUp.sig) → Buf (Elt Bits) ℓ) (g : Dev Cert.MulDGateUp.nD → PrngReg), Pre_MulDGateUp m →
    θ_run (Cert.MulDGateUp.defs (F := Bits)) (onTc (τ := Cert.MulDGateUp.τ) (Cert.MulDGateUp.main (F := Bits))) ⟨m, fun _ => 0, g⟩ (fun r => (∀ c : Dev Cert.MulDGateUp.nD,
      r.2.mem ((c.tc : Thread Cert.MulDGateUp.nD Cert.MulDGateUp.τ).loc Cert.MulDGateUp.main_arg0) = m ((c.tc : Thread Cert.MulDGateUp.nD Cert.MulDGateUp.τ).loc Cert.MulDGateUp.main_arg0)
      ∧ r.2.mem ((c.tc : Thread Cert.MulDGateUp.nD Cert.MulDGateUp.τ).loc Cert.MulDGateUp.main_arg1) = m ((c.tc : Thread Cert.MulDGateUp.nD Cert.MulDGateUp.τ).loc Cert.MulDGateUp.main_arg1))
      ∧ r.2.sem = fun _ => 0)

def quiescent_MulDGateUpIdeal [hMulDGateUpIdeal : Cert.MulDGateUpIdeal.Facts] : Prop :=
  ∀ (m : (ℓ : Loc Cert.MulDGateUpIdeal.nD Cert.MulDGateUpIdeal.τ Cert.MulDGateUpIdeal.sig) → Buf (Elt Ideal) ℓ) (g : Dev Cert.MulDGateUpIdeal.nD → PrngReg), Pre_MulDGateUpIdeal m →
    θ_run (Cert.MulDGateUpIdeal.defs (F := Ideal)) (onTc (τ := Cert.MulDGateUpIdeal.τ) (Cert.MulDGateUpIdeal.main (F := Ideal))) ⟨m, fun _ => 0, g⟩ (fun r => (∀ c : Dev Cert.MulDGateUpIdeal.nD,
      r.2.mem ((c.tc : Thread Cert.MulDGateUpIdeal.nD Cert.MulDGateUpIdeal.τ).loc Cert.MulDGateUpIdeal.main_arg0) = m ((c.tc : Thread Cert.MulDGateUpIdeal.nD Cert.MulDGateUpIdeal.τ).loc Cert.MulDGateUpIdeal.main_arg0)
      ∧ r.2.mem ((c.tc : Thread Cert.MulDGateUpIdeal.nD Cert.MulDGateUpIdeal.τ).loc Cert.MulDGateUpIdeal.main_arg1) = m ((c.tc : Thread Cert.MulDGateUpIdeal.nD Cert.MulDGateUpIdeal.τ).loc Cert.MulDGateUpIdeal.main_arg1))
      ∧ r.2.sem = fun _ => 0)

def quiescent_MulDGateUpRefIdeal [hMulDGateUpRefIdeal : Cert.MulDGateUpRefIdeal.Facts] : Prop :=
  ∀ (m : (ℓ : Loc Cert.MulDGateUpRefIdeal.nD Cert.MulDGateUpRefIdeal.τ Cert.MulDGateUpRefIdeal.sig) → Buf (Elt Ideal) ℓ) (g : Dev Cert.MulDGateUpRefIdeal.nD → PrngReg), Pre_MulDGateUpRefIdeal m →
    θ_run (Cert.MulDGateUpRefIdeal.defs (F := Ideal)) (onTc (τ := Cert.MulDGateUpRefIdeal.τ) (Cert.MulDGateUpRefIdeal.main (F := Ideal))) ⟨m, fun _ => 0, g⟩ (fun r => (∀ c : Dev Cert.MulDGateUpRefIdeal.nD,
      r.2.mem ((c.tc : Thread Cert.MulDGateUpRefIdeal.nD Cert.MulDGateUpRefIdeal.τ).loc Cert.MulDGateUpRefIdeal.main_arg0) = m ((c.tc : Thread Cert.MulDGateUpRefIdeal.nD Cert.MulDGateUpRefIdeal.τ).loc Cert.MulDGateUpRefIdeal.main_arg0)
      ∧ r.2.mem ((c.tc : Thread Cert.MulDGateUpRefIdeal.nD Cert.MulDGateUpRefIdeal.τ).loc Cert.MulDGateUpRefIdeal.main_arg1) = m ((c.tc : Thread Cert.MulDGateUpRefIdeal.nD Cert.MulDGateUpRefIdeal.τ).loc Cert.MulDGateUpRefIdeal.main_arg1))
      ∧ r.2.sem = fun _ => 0)

def quiescent_MulDDown [hMulDDown : Cert.MulDDown.Facts] : Prop :=
  ∀ (m : (ℓ : Loc Cert.MulDDown.nD Cert.MulDDown.τ Cert.MulDDown.sig) → Buf (Elt Bits) ℓ) (g : Dev Cert.MulDDown.nD → PrngReg), Pre_MulDDown m →
    θ_run (Cert.MulDDown.defs (F := Bits)) (onTc (τ := Cert.MulDDown.τ) (Cert.MulDDown.main (F := Bits))) ⟨m, fun _ => 0, g⟩ (fun r => (∀ c : Dev Cert.MulDDown.nD,
      r.2.mem ((c.tc : Thread Cert.MulDDown.nD Cert.MulDDown.τ).loc Cert.MulDDown.main_arg0) = m ((c.tc : Thread Cert.MulDDown.nD Cert.MulDDown.τ).loc Cert.MulDDown.main_arg0)
      ∧ r.2.mem ((c.tc : Thread Cert.MulDDown.nD Cert.MulDDown.τ).loc Cert.MulDDown.main_arg1) = m ((c.tc : Thread Cert.MulDDown.nD Cert.MulDDown.τ).loc Cert.MulDDown.main_arg1))
      ∧ r.2.sem = fun _ => 0)

def quiescent_MulDDownIdeal [hMulDDownIdeal : Cert.MulDDownIdeal.Facts] : Prop :=
  ∀ (m : (ℓ : Loc Cert.MulDDownIdeal.nD Cert.MulDDownIdeal.τ Cert.MulDDownIdeal.sig) → Buf (Elt Ideal) ℓ) (g : Dev Cert.MulDDownIdeal.nD → PrngReg), Pre_MulDDownIdeal m →
    θ_run (Cert.MulDDownIdeal.defs (F := Ideal)) (onTc (τ := Cert.MulDDownIdeal.τ) (Cert.MulDDownIdeal.main (F := Ideal))) ⟨m, fun _ => 0, g⟩ (fun r => (∀ c : Dev Cert.MulDDownIdeal.nD,
      r.2.mem ((c.tc : Thread Cert.MulDDownIdeal.nD Cert.MulDDownIdeal.τ).loc Cert.MulDDownIdeal.main_arg0) = m ((c.tc : Thread Cert.MulDDownIdeal.nD Cert.MulDDownIdeal.τ).loc Cert.MulDDownIdeal.main_arg0)
      ∧ r.2.mem ((c.tc : Thread Cert.MulDDownIdeal.nD Cert.MulDDownIdeal.τ).loc Cert.MulDDownIdeal.main_arg1) = m ((c.tc : Thread Cert.MulDDownIdeal.nD Cert.MulDDownIdeal.τ).loc Cert.MulDDownIdeal.main_arg1))
      ∧ r.2.sem = fun _ => 0)

def quiescent_MulDDownRefIdeal [hMulDDownRefIdeal : Cert.MulDDownRefIdeal.Facts] : Prop :=
  ∀ (m : (ℓ : Loc Cert.MulDDownRefIdeal.nD Cert.MulDDownRefIdeal.τ Cert.MulDDownRefIdeal.sig) → Buf (Elt Ideal) ℓ) (g : Dev Cert.MulDDownRefIdeal.nD → PrngReg), Pre_MulDDownRefIdeal m →
    θ_run (Cert.MulDDownRefIdeal.defs (F := Ideal)) (onTc (τ := Cert.MulDDownRefIdeal.τ) (Cert.MulDDownRefIdeal.main (F := Ideal))) ⟨m, fun _ => 0, g⟩ (fun r => (∀ c : Dev Cert.MulDDownRefIdeal.nD,
      r.2.mem ((c.tc : Thread Cert.MulDDownRefIdeal.nD Cert.MulDDownRefIdeal.τ).loc Cert.MulDDownRefIdeal.main_arg0) = m ((c.tc : Thread Cert.MulDDownRefIdeal.nD Cert.MulDDownRefIdeal.τ).loc Cert.MulDDownRefIdeal.main_arg0)
      ∧ r.2.mem ((c.tc : Thread Cert.MulDDownRefIdeal.nD Cert.MulDDownRefIdeal.τ).loc Cert.MulDDownRefIdeal.main_arg1) = m ((c.tc : Thread Cert.MulDDownRefIdeal.nD Cert.MulDDownRefIdeal.τ).loc Cert.MulDDownRefIdeal.main_arg1))
      ∧ r.2.sem = fun _ => 0)

def quiescent_MulBackO [hMulBackO : Cert.MulBackO.Facts] : Prop :=
  ∀ (m : (ℓ : Loc Cert.MulBackO.nD Cert.MulBackO.τ Cert.MulBackO.sig) → Buf (Elt Bits) ℓ) (g : Dev Cert.MulBackO.nD → PrngReg), Pre_MulBackO m →
    θ_run (Cert.MulBackO.defs (F := Bits)) (onTc (τ := Cert.MulBackO.τ) (Cert.MulBackO.main (F := Bits))) ⟨m, fun _ => 0, g⟩ (fun r => (∀ c : Dev Cert.MulBackO.nD,
      r.2.mem ((c.tc : Thread Cert.MulBackO.nD Cert.MulBackO.τ).loc Cert.MulBackO.main_arg0) = m ((c.tc : Thread Cert.MulBackO.nD Cert.MulBackO.τ).loc Cert.MulBackO.main_arg0)
      ∧ r.2.mem ((c.tc : Thread Cert.MulBackO.nD Cert.MulBackO.τ).loc Cert.MulBackO.main_arg1) = m ((c.tc : Thread Cert.MulBackO.nD Cert.MulBackO.τ).loc Cert.MulBackO.main_arg1))
      ∧ r.2.sem = fun _ => 0)

def quiescent_MulBackOIdeal [hMulBackOIdeal : Cert.MulBackOIdeal.Facts] : Prop :=
  ∀ (m : (ℓ : Loc Cert.MulBackOIdeal.nD Cert.MulBackOIdeal.τ Cert.MulBackOIdeal.sig) → Buf (Elt Ideal) ℓ) (g : Dev Cert.MulBackOIdeal.nD → PrngReg), Pre_MulBackOIdeal m →
    θ_run (Cert.MulBackOIdeal.defs (F := Ideal)) (onTc (τ := Cert.MulBackOIdeal.τ) (Cert.MulBackOIdeal.main (F := Ideal))) ⟨m, fun _ => 0, g⟩ (fun r => (∀ c : Dev Cert.MulBackOIdeal.nD,
      r.2.mem ((c.tc : Thread Cert.MulBackOIdeal.nD Cert.MulBackOIdeal.τ).loc Cert.MulBackOIdeal.main_arg0) = m ((c.tc : Thread Cert.MulBackOIdeal.nD Cert.MulBackOIdeal.τ).loc Cert.MulBackOIdeal.main_arg0)
      ∧ r.2.mem ((c.tc : Thread Cert.MulBackOIdeal.nD Cert.MulBackOIdeal.τ).loc Cert.MulBackOIdeal.main_arg1) = m ((c.tc : Thread Cert.MulBackOIdeal.nD Cert.MulBackOIdeal.τ).loc Cert.MulBackOIdeal.main_arg1))
      ∧ r.2.sem = fun _ => 0)

def quiescent_MulBackORefIdeal [hMulBackORefIdeal : Cert.MulBackORefIdeal.Facts] : Prop :=
  ∀ (m : (ℓ : Loc Cert.MulBackORefIdeal.nD Cert.MulBackORefIdeal.τ Cert.MulBackORefIdeal.sig) → Buf (Elt Ideal) ℓ) (g : Dev Cert.MulBackORefIdeal.nD → PrngReg), Pre_MulBackORefIdeal m →
    θ_run (Cert.MulBackORefIdeal.defs (F := Ideal)) (onTc (τ := Cert.MulBackORefIdeal.τ) (Cert.MulBackORefIdeal.main (F := Ideal))) ⟨m, fun _ => 0, g⟩ (fun r => (∀ c : Dev Cert.MulBackORefIdeal.nD,
      r.2.mem ((c.tc : Thread Cert.MulBackORefIdeal.nD Cert.MulBackORefIdeal.τ).loc Cert.MulBackORefIdeal.main_arg0) = m ((c.tc : Thread Cert.MulBackORefIdeal.nD Cert.MulBackORefIdeal.τ).loc Cert.MulBackORefIdeal.main_arg0)
      ∧ r.2.mem ((c.tc : Thread Cert.MulBackORefIdeal.nD Cert.MulBackORefIdeal.τ).loc Cert.MulBackORefIdeal.main_arg1) = m ((c.tc : Thread Cert.MulBackORefIdeal.nD Cert.MulBackORefIdeal.τ).loc Cert.MulBackORefIdeal.main_arg1))
      ∧ r.2.sem = fun _ => 0)

def quiescent_MulBackConv [hMulBackConv : Cert.MulBackConv.Facts] : Prop :=
  ∀ (m : (ℓ : Loc Cert.MulBackConv.nD Cert.MulBackConv.τ Cert.MulBackConv.sig) → Buf (Elt Bits) ℓ) (g : Dev Cert.MulBackConv.nD → PrngReg), Pre_MulBackConv m →
    θ_run (Cert.MulBackConv.defs (F := Bits)) (onTc (τ := Cert.MulBackConv.τ) (Cert.MulBackConv.main (F := Bits))) ⟨m, fun _ => 0, g⟩ (fun r => (∀ c : Dev Cert.MulBackConv.nD,
      r.2.mem ((c.tc : Thread Cert.MulBackConv.nD Cert.MulBackConv.τ).loc Cert.MulBackConv.main_arg0) = m ((c.tc : Thread Cert.MulBackConv.nD Cert.MulBackConv.τ).loc Cert.MulBackConv.main_arg0)
      ∧ r.2.mem ((c.tc : Thread Cert.MulBackConv.nD Cert.MulBackConv.τ).loc Cert.MulBackConv.main_arg1) = m ((c.tc : Thread Cert.MulBackConv.nD Cert.MulBackConv.τ).loc Cert.MulBackConv.main_arg1))
      ∧ r.2.sem = fun _ => 0)

def quiescent_MulBackConvIdeal [hMulBackConvIdeal : Cert.MulBackConvIdeal.Facts] : Prop :=
  ∀ (m : (ℓ : Loc Cert.MulBackConvIdeal.nD Cert.MulBackConvIdeal.τ Cert.MulBackConvIdeal.sig) → Buf (Elt Ideal) ℓ) (g : Dev Cert.MulBackConvIdeal.nD → PrngReg), Pre_MulBackConvIdeal m →
    θ_run (Cert.MulBackConvIdeal.defs (F := Ideal)) (onTc (τ := Cert.MulBackConvIdeal.τ) (Cert.MulBackConvIdeal.main (F := Ideal))) ⟨m, fun _ => 0, g⟩ (fun r => (∀ c : Dev Cert.MulBackConvIdeal.nD,
      r.2.mem ((c.tc : Thread Cert.MulBackConvIdeal.nD Cert.MulBackConvIdeal.τ).loc Cert.MulBackConvIdeal.main_arg0) = m ((c.tc : Thread Cert.MulBackConvIdeal.nD Cert.MulBackConvIdeal.τ).loc Cert.MulBackConvIdeal.main_arg0)
      ∧ r.2.mem ((c.tc : Thread Cert.MulBackConvIdeal.nD Cert.MulBackConvIdeal.τ).loc Cert.MulBackConvIdeal.main_arg1) = m ((c.tc : Thread Cert.MulBackConvIdeal.nD Cert.MulBackConvIdeal.τ).loc Cert.MulBackConvIdeal.main_arg1))
      ∧ r.2.sem = fun _ => 0)

def quiescent_MulBackConvRefIdeal [hMulBackConvRefIdeal : Cert.MulBackConvRefIdeal.Facts] : Prop :=
  ∀ (m : (ℓ : Loc Cert.MulBackConvRefIdeal.nD Cert.MulBackConvRefIdeal.τ Cert.MulBackConvRefIdeal.sig) → Buf (Elt Ideal) ℓ) (g : Dev Cert.MulBackConvRefIdeal.nD → PrngReg), Pre_MulBackConvRefIdeal m →
    θ_run (Cert.MulBackConvRefIdeal.defs (F := Ideal)) (onTc (τ := Cert.MulBackConvRefIdeal.τ) (Cert.MulBackConvRefIdeal.main (F := Ideal))) ⟨m, fun _ => 0, g⟩ (fun r => (∀ c : Dev Cert.MulBackConvRefIdeal.nD,
      r.2.mem ((c.tc : Thread Cert.MulBackConvRefIdeal.nD Cert.MulBackConvRefIdeal.τ).loc Cert.MulBackConvRefIdeal.main_arg0) = m ((c.tc : Thread Cert.MulBackConvRefIdeal.nD Cert.MulBackConvRefIdeal.τ).loc Cert.MulBackConvRefIdeal.main_arg0)
      ∧ r.2.mem ((c.tc : Thread Cert.MulBackConvRefIdeal.nD Cert.MulBackConvRefIdeal.τ).loc Cert.MulBackConvRefIdeal.main_arg1) = m ((c.tc : Thread Cert.MulBackConvRefIdeal.nD Cert.MulBackConvRefIdeal.τ).loc Cert.MulBackConvRefIdeal.main_arg1))
      ∧ r.2.sem = fun _ => 0)

def quiescent_MulBackQkv [hMulBackQkv : Cert.MulBackQkv.Facts] : Prop :=
  ∀ (m : (ℓ : Loc Cert.MulBackQkv.nD Cert.MulBackQkv.τ Cert.MulBackQkv.sig) → Buf (Elt Bits) ℓ) (g : Dev Cert.MulBackQkv.nD → PrngReg), Pre_MulBackQkv m →
    θ_run (Cert.MulBackQkv.defs (F := Bits)) (onTc (τ := Cert.MulBackQkv.τ) (Cert.MulBackQkv.main (F := Bits))) ⟨m, fun _ => 0, g⟩ (fun r => (∀ c : Dev Cert.MulBackQkv.nD,
      r.2.mem ((c.tc : Thread Cert.MulBackQkv.nD Cert.MulBackQkv.τ).loc Cert.MulBackQkv.main_arg0) = m ((c.tc : Thread Cert.MulBackQkv.nD Cert.MulBackQkv.τ).loc Cert.MulBackQkv.main_arg0)
      ∧ r.2.mem ((c.tc : Thread Cert.MulBackQkv.nD Cert.MulBackQkv.τ).loc Cert.MulBackQkv.main_arg1) = m ((c.tc : Thread Cert.MulBackQkv.nD Cert.MulBackQkv.τ).loc Cert.MulBackQkv.main_arg1))
      ∧ r.2.sem = fun _ => 0)

def quiescent_MulBackQkvIdeal [hMulBackQkvIdeal : Cert.MulBackQkvIdeal.Facts] : Prop :=
  ∀ (m : (ℓ : Loc Cert.MulBackQkvIdeal.nD Cert.MulBackQkvIdeal.τ Cert.MulBackQkvIdeal.sig) → Buf (Elt Ideal) ℓ) (g : Dev Cert.MulBackQkvIdeal.nD → PrngReg), Pre_MulBackQkvIdeal m →
    θ_run (Cert.MulBackQkvIdeal.defs (F := Ideal)) (onTc (τ := Cert.MulBackQkvIdeal.τ) (Cert.MulBackQkvIdeal.main (F := Ideal))) ⟨m, fun _ => 0, g⟩ (fun r => (∀ c : Dev Cert.MulBackQkvIdeal.nD,
      r.2.mem ((c.tc : Thread Cert.MulBackQkvIdeal.nD Cert.MulBackQkvIdeal.τ).loc Cert.MulBackQkvIdeal.main_arg0) = m ((c.tc : Thread Cert.MulBackQkvIdeal.nD Cert.MulBackQkvIdeal.τ).loc Cert.MulBackQkvIdeal.main_arg0)
      ∧ r.2.mem ((c.tc : Thread Cert.MulBackQkvIdeal.nD Cert.MulBackQkvIdeal.τ).loc Cert.MulBackQkvIdeal.main_arg1) = m ((c.tc : Thread Cert.MulBackQkvIdeal.nD Cert.MulBackQkvIdeal.τ).loc Cert.MulBackQkvIdeal.main_arg1))
      ∧ r.2.sem = fun _ => 0)

def quiescent_MulBackQkvRefIdeal [hMulBackQkvRefIdeal : Cert.MulBackQkvRefIdeal.Facts] : Prop :=
  ∀ (m : (ℓ : Loc Cert.MulBackQkvRefIdeal.nD Cert.MulBackQkvRefIdeal.τ Cert.MulBackQkvRefIdeal.sig) → Buf (Elt Ideal) ℓ) (g : Dev Cert.MulBackQkvRefIdeal.nD → PrngReg), Pre_MulBackQkvRefIdeal m →
    θ_run (Cert.MulBackQkvRefIdeal.defs (F := Ideal)) (onTc (τ := Cert.MulBackQkvRefIdeal.τ) (Cert.MulBackQkvRefIdeal.main (F := Ideal))) ⟨m, fun _ => 0, g⟩ (fun r => (∀ c : Dev Cert.MulBackQkvRefIdeal.nD,
      r.2.mem ((c.tc : Thread Cert.MulBackQkvRefIdeal.nD Cert.MulBackQkvRefIdeal.τ).loc Cert.MulBackQkvRefIdeal.main_arg0) = m ((c.tc : Thread Cert.MulBackQkvRefIdeal.nD Cert.MulBackQkvRefIdeal.τ).loc Cert.MulBackQkvRefIdeal.main_arg0)
      ∧ r.2.mem ((c.tc : Thread Cert.MulBackQkvRefIdeal.nD Cert.MulBackQkvRefIdeal.τ).loc Cert.MulBackQkvRefIdeal.main_arg1) = m ((c.tc : Thread Cert.MulBackQkvRefIdeal.nD Cert.MulBackQkvRefIdeal.τ).loc Cert.MulBackQkvRefIdeal.main_arg1))
      ∧ r.2.sem = fun _ => 0)

def quiescent_MulBackGlu [hMulBackGlu : Cert.MulBackGlu.Facts] : Prop :=
  ∀ (m : (ℓ : Loc Cert.MulBackGlu.nD Cert.MulBackGlu.τ Cert.MulBackGlu.sig) → Buf (Elt Bits) ℓ) (g : Dev Cert.MulBackGlu.nD → PrngReg), Pre_MulBackGlu m →
    θ_run (Cert.MulBackGlu.defs (F := Bits)) (onTc (τ := Cert.MulBackGlu.τ) (Cert.MulBackGlu.main (F := Bits))) ⟨m, fun _ => 0, g⟩ (fun r => (∀ c : Dev Cert.MulBackGlu.nD,
      r.2.mem ((c.tc : Thread Cert.MulBackGlu.nD Cert.MulBackGlu.τ).loc Cert.MulBackGlu.main_arg0) = m ((c.tc : Thread Cert.MulBackGlu.nD Cert.MulBackGlu.τ).loc Cert.MulBackGlu.main_arg0)
      ∧ r.2.mem ((c.tc : Thread Cert.MulBackGlu.nD Cert.MulBackGlu.τ).loc Cert.MulBackGlu.main_arg1) = m ((c.tc : Thread Cert.MulBackGlu.nD Cert.MulBackGlu.τ).loc Cert.MulBackGlu.main_arg1))
      ∧ r.2.sem = fun _ => 0)

def quiescent_MulBackGluIdeal [hMulBackGluIdeal : Cert.MulBackGluIdeal.Facts] : Prop :=
  ∀ (m : (ℓ : Loc Cert.MulBackGluIdeal.nD Cert.MulBackGluIdeal.τ Cert.MulBackGluIdeal.sig) → Buf (Elt Ideal) ℓ) (g : Dev Cert.MulBackGluIdeal.nD → PrngReg), Pre_MulBackGluIdeal m →
    θ_run (Cert.MulBackGluIdeal.defs (F := Ideal)) (onTc (τ := Cert.MulBackGluIdeal.τ) (Cert.MulBackGluIdeal.main (F := Ideal))) ⟨m, fun _ => 0, g⟩ (fun r => (∀ c : Dev Cert.MulBackGluIdeal.nD,
      r.2.mem ((c.tc : Thread Cert.MulBackGluIdeal.nD Cert.MulBackGluIdeal.τ).loc Cert.MulBackGluIdeal.main_arg0) = m ((c.tc : Thread Cert.MulBackGluIdeal.nD Cert.MulBackGluIdeal.τ).loc Cert.MulBackGluIdeal.main_arg0)
      ∧ r.2.mem ((c.tc : Thread Cert.MulBackGluIdeal.nD Cert.MulBackGluIdeal.τ).loc Cert.MulBackGluIdeal.main_arg1) = m ((c.tc : Thread Cert.MulBackGluIdeal.nD Cert.MulBackGluIdeal.τ).loc Cert.MulBackGluIdeal.main_arg1))
      ∧ r.2.sem = fun _ => 0)

def quiescent_MulBackGluRefIdeal [hMulBackGluRefIdeal : Cert.MulBackGluRefIdeal.Facts] : Prop :=
  ∀ (m : (ℓ : Loc Cert.MulBackGluRefIdeal.nD Cert.MulBackGluRefIdeal.τ Cert.MulBackGluRefIdeal.sig) → Buf (Elt Ideal) ℓ) (g : Dev Cert.MulBackGluRefIdeal.nD → PrngReg), Pre_MulBackGluRefIdeal m →
    θ_run (Cert.MulBackGluRefIdeal.defs (F := Ideal)) (onTc (τ := Cert.MulBackGluRefIdeal.τ) (Cert.MulBackGluRefIdeal.main (F := Ideal))) ⟨m, fun _ => 0, g⟩ (fun r => (∀ c : Dev Cert.MulBackGluRefIdeal.nD,
      r.2.mem ((c.tc : Thread Cert.MulBackGluRefIdeal.nD Cert.MulBackGluRefIdeal.τ).loc Cert.MulBackGluRefIdeal.main_arg0) = m ((c.tc : Thread Cert.MulBackGluRefIdeal.nD Cert.MulBackGluRefIdeal.τ).loc Cert.MulBackGluRefIdeal.main_arg0)
      ∧ r.2.mem ((c.tc : Thread Cert.MulBackGluRefIdeal.nD Cert.MulBackGluRefIdeal.τ).loc Cert.MulBackGluRefIdeal.main_arg1) = m ((c.tc : Thread Cert.MulBackGluRefIdeal.nD Cert.MulBackGluRefIdeal.τ).loc Cert.MulBackGluRefIdeal.main_arg1))
      ∧ r.2.sem = fun _ => 0)

def quiescent_MulBackFfn [hMulBackFfn : Cert.MulBackFfn.Facts] : Prop :=
  ∀ (m : (ℓ : Loc Cert.MulBackFfn.nD Cert.MulBackFfn.τ Cert.MulBackFfn.sig) → Buf (Elt Bits) ℓ) (g : Dev Cert.MulBackFfn.nD → PrngReg), Pre_MulBackFfn m →
    θ_run (Cert.MulBackFfn.defs (F := Bits)) (onTc (τ := Cert.MulBackFfn.τ) (Cert.MulBackFfn.main (F := Bits))) ⟨m, fun _ => 0, g⟩ (fun r => (∀ c : Dev Cert.MulBackFfn.nD,
      r.2.mem ((c.tc : Thread Cert.MulBackFfn.nD Cert.MulBackFfn.τ).loc Cert.MulBackFfn.main_arg0) = m ((c.tc : Thread Cert.MulBackFfn.nD Cert.MulBackFfn.τ).loc Cert.MulBackFfn.main_arg0)
      ∧ r.2.mem ((c.tc : Thread Cert.MulBackFfn.nD Cert.MulBackFfn.τ).loc Cert.MulBackFfn.main_arg1) = m ((c.tc : Thread Cert.MulBackFfn.nD Cert.MulBackFfn.τ).loc Cert.MulBackFfn.main_arg1))
      ∧ r.2.sem = fun _ => 0)

def quiescent_MulBackFfnIdeal [hMulBackFfnIdeal : Cert.MulBackFfnIdeal.Facts] : Prop :=
  ∀ (m : (ℓ : Loc Cert.MulBackFfnIdeal.nD Cert.MulBackFfnIdeal.τ Cert.MulBackFfnIdeal.sig) → Buf (Elt Ideal) ℓ) (g : Dev Cert.MulBackFfnIdeal.nD → PrngReg), Pre_MulBackFfnIdeal m →
    θ_run (Cert.MulBackFfnIdeal.defs (F := Ideal)) (onTc (τ := Cert.MulBackFfnIdeal.τ) (Cert.MulBackFfnIdeal.main (F := Ideal))) ⟨m, fun _ => 0, g⟩ (fun r => (∀ c : Dev Cert.MulBackFfnIdeal.nD,
      r.2.mem ((c.tc : Thread Cert.MulBackFfnIdeal.nD Cert.MulBackFfnIdeal.τ).loc Cert.MulBackFfnIdeal.main_arg0) = m ((c.tc : Thread Cert.MulBackFfnIdeal.nD Cert.MulBackFfnIdeal.τ).loc Cert.MulBackFfnIdeal.main_arg0)
      ∧ r.2.mem ((c.tc : Thread Cert.MulBackFfnIdeal.nD Cert.MulBackFfnIdeal.τ).loc Cert.MulBackFfnIdeal.main_arg1) = m ((c.tc : Thread Cert.MulBackFfnIdeal.nD Cert.MulBackFfnIdeal.τ).loc Cert.MulBackFfnIdeal.main_arg1))
      ∧ r.2.sem = fun _ => 0)

def quiescent_MulBackFfnRefIdeal [hMulBackFfnRefIdeal : Cert.MulBackFfnRefIdeal.Facts] : Prop :=
  ∀ (m : (ℓ : Loc Cert.MulBackFfnRefIdeal.nD Cert.MulBackFfnRefIdeal.τ Cert.MulBackFfnRefIdeal.sig) → Buf (Elt Ideal) ℓ) (g : Dev Cert.MulBackFfnRefIdeal.nD → PrngReg), Pre_MulBackFfnRefIdeal m →
    θ_run (Cert.MulBackFfnRefIdeal.defs (F := Ideal)) (onTc (τ := Cert.MulBackFfnRefIdeal.τ) (Cert.MulBackFfnRefIdeal.main (F := Ideal))) ⟨m, fun _ => 0, g⟩ (fun r => (∀ c : Dev Cert.MulBackFfnRefIdeal.nD,
      r.2.mem ((c.tc : Thread Cert.MulBackFfnRefIdeal.nD Cert.MulBackFfnRefIdeal.τ).loc Cert.MulBackFfnRefIdeal.main_arg0) = m ((c.tc : Thread Cert.MulBackFfnRefIdeal.nD Cert.MulBackFfnRefIdeal.τ).loc Cert.MulBackFfnRefIdeal.main_arg0)
      ∧ r.2.mem ((c.tc : Thread Cert.MulBackFfnRefIdeal.nD Cert.MulBackFfnRefIdeal.τ).loc Cert.MulBackFfnRefIdeal.main_arg1) = m ((c.tc : Thread Cert.MulBackFfnRefIdeal.nD Cert.MulBackFfnRefIdeal.τ).loc Cert.MulBackFfnRefIdeal.main_arg1))
      ∧ r.2.sem = fun _ => 0)

def quiescent_MulBackAct [hMulBackAct : Cert.MulBackAct.Facts] : Prop :=
  ∀ (m : (ℓ : Loc Cert.MulBackAct.nD Cert.MulBackAct.τ Cert.MulBackAct.sig) → Buf (Elt Bits) ℓ) (g : Dev Cert.MulBackAct.nD → PrngReg), Pre_MulBackAct m →
    θ_run (Cert.MulBackAct.defs (F := Bits)) (onTc (τ := Cert.MulBackAct.τ) (Cert.MulBackAct.main (F := Bits))) ⟨m, fun _ => 0, g⟩ (fun r => (∀ c : Dev Cert.MulBackAct.nD,
      r.2.mem ((c.tc : Thread Cert.MulBackAct.nD Cert.MulBackAct.τ).loc Cert.MulBackAct.main_arg0) = m ((c.tc : Thread Cert.MulBackAct.nD Cert.MulBackAct.τ).loc Cert.MulBackAct.main_arg0)
      ∧ r.2.mem ((c.tc : Thread Cert.MulBackAct.nD Cert.MulBackAct.τ).loc Cert.MulBackAct.main_arg1) = m ((c.tc : Thread Cert.MulBackAct.nD Cert.MulBackAct.τ).loc Cert.MulBackAct.main_arg1))
      ∧ r.2.sem = fun _ => 0)

def quiescent_MulBackActIdeal [hMulBackActIdeal : Cert.MulBackActIdeal.Facts] : Prop :=
  ∀ (m : (ℓ : Loc Cert.MulBackActIdeal.nD Cert.MulBackActIdeal.τ Cert.MulBackActIdeal.sig) → Buf (Elt Ideal) ℓ) (g : Dev Cert.MulBackActIdeal.nD → PrngReg), Pre_MulBackActIdeal m →
    θ_run (Cert.MulBackActIdeal.defs (F := Ideal)) (onTc (τ := Cert.MulBackActIdeal.τ) (Cert.MulBackActIdeal.main (F := Ideal))) ⟨m, fun _ => 0, g⟩ (fun r => (∀ c : Dev Cert.MulBackActIdeal.nD,
      r.2.mem ((c.tc : Thread Cert.MulBackActIdeal.nD Cert.MulBackActIdeal.τ).loc Cert.MulBackActIdeal.main_arg0) = m ((c.tc : Thread Cert.MulBackActIdeal.nD Cert.MulBackActIdeal.τ).loc Cert.MulBackActIdeal.main_arg0)
      ∧ r.2.mem ((c.tc : Thread Cert.MulBackActIdeal.nD Cert.MulBackActIdeal.τ).loc Cert.MulBackActIdeal.main_arg1) = m ((c.tc : Thread Cert.MulBackActIdeal.nD Cert.MulBackActIdeal.τ).loc Cert.MulBackActIdeal.main_arg1))
      ∧ r.2.sem = fun _ => 0)

def quiescent_MulBackActRefIdeal [hMulBackActRefIdeal : Cert.MulBackActRefIdeal.Facts] : Prop :=
  ∀ (m : (ℓ : Loc Cert.MulBackActRefIdeal.nD Cert.MulBackActRefIdeal.τ Cert.MulBackActRefIdeal.sig) → Buf (Elt Ideal) ℓ) (g : Dev Cert.MulBackActRefIdeal.nD → PrngReg), Pre_MulBackActRefIdeal m →
    θ_run (Cert.MulBackActRefIdeal.defs (F := Ideal)) (onTc (τ := Cert.MulBackActRefIdeal.τ) (Cert.MulBackActRefIdeal.main (F := Ideal))) ⟨m, fun _ => 0, g⟩ (fun r => (∀ c : Dev Cert.MulBackActRefIdeal.nD,
      r.2.mem ((c.tc : Thread Cert.MulBackActRefIdeal.nD Cert.MulBackActRefIdeal.τ).loc Cert.MulBackActRefIdeal.main_arg0) = m ((c.tc : Thread Cert.MulBackActRefIdeal.nD Cert.MulBackActRefIdeal.τ).loc Cert.MulBackActRefIdeal.main_arg0)
      ∧ r.2.mem ((c.tc : Thread Cert.MulBackActRefIdeal.nD Cert.MulBackActRefIdeal.τ).loc Cert.MulBackActRefIdeal.main_arg1) = m ((c.tc : Thread Cert.MulBackActRefIdeal.nD Cert.MulBackActRefIdeal.τ).loc Cert.MulBackActRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_LossTotal [hLossTotal : Cert.LossTotal.Facts] : Prop :=
  ∀ (m : (ℓ : Loc Cert.LossTotal.nD Cert.LossTotal.τ Cert.LossTotal.sig) → Buf (Elt Bits) ℓ) (g : Dev Cert.LossTotal.nD → PrngReg), Pre_LossTotal m →
    θ_run (Cert.LossTotal.defs (F := Bits)) (onTc (τ := Cert.LossTotal.τ) (Cert.LossTotal.main (F := Bits))) ⟨m, fun _ => 0, g⟩ (fun r => (∀ c : Dev Cert.LossTotal.nD,
      r.2.mem ((c.tc : Thread Cert.LossTotal.nD Cert.LossTotal.τ).loc Cert.LossTotal.main_arg0) = m ((c.tc : Thread Cert.LossTotal.nD Cert.LossTotal.τ).loc Cert.LossTotal.main_arg0))
      ∧ r.2.sem = fun _ => 0)

def quiescent_LossTotalIdeal [hLossTotalIdeal : Cert.LossTotalIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg), Pre_LossTotalIdeal m →
    θ_run (Cert.LossTotalIdeal.defs (F := Ideal)) (onTc (τ := Cert.LossTotalIdeal.τ) (Cert.LossTotalIdeal.main (F := Ideal))) ⟨m, fun _ => 0, g⟩ (fun r => (∀ c : Dev Cert.LossTotalIdeal.nD,
      r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0))
      ∧ r.2.sem = fun _ => 0)

def quiescent_LossTotalRefIdeal [hLossTotalRefIdeal : Cert.LossTotalRefIdeal.Facts] : Prop :=
  ∀ (m : (ℓ : Loc Cert.LossTotalRefIdeal.nD Cert.LossTotalRefIdeal.τ Cert.LossTotalRefIdeal.sig) → Buf (Elt Ideal) ℓ) (g : Dev Cert.LossTotalRefIdeal.nD → PrngReg), Pre_LossTotalRefIdeal m →
    θ_run (Cert.LossTotalRefIdeal.defs (F := Ideal)) (onTc (τ := Cert.LossTotalRefIdeal.τ) (Cert.LossTotalRefIdeal.main (F := Ideal))) ⟨m, fun _ => 0, g⟩ (fun r => (∀ c : Dev Cert.LossTotalRefIdeal.nD,
      r.2.mem ((c.tc : Thread Cert.LossTotalRefIdeal.nD Cert.LossTotalRefIdeal.τ).loc Cert.LossTotalRefIdeal.main_arg0) = m ((c.tc : Thread Cert.LossTotalRefIdeal.nD Cert.LossTotalRefIdeal.τ).loc Cert.LossTotalRefIdeal.main_arg0))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4)
      ∧ r.2.mem ((c.tc : Thread Cert.PreBwd.nD Cert.PreBwd.τ).loc Cert.PreBwd.main_arg5) = m ((c.tc : Thread Cert.PreBwd.nD Cert.PreBwd.τ).loc Cert.PreBwd.main_arg5))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4)
      ∧ r.2.mem ((c.tc : Thread Cert.PreBwdRefIdeal.nD Cert.PreBwdRefIdeal.τ).loc Cert.PreBwdRefIdeal.main_arg5) = m ((c.tc : Thread Cert.PreBwdRefIdeal.nD Cert.PreBwdRefIdeal.τ).loc Cert.PreBwdRefIdeal.main_arg5))
      ∧ r.2.sem = fun _ => 0)

def quiescent_RowIn [hRowIn : Cert.RowIn.Facts] : Prop :=
  ∀ (m : (ℓ : Loc Cert.RowIn.nD Cert.RowIn.τ Cert.RowIn.sig) → Buf (Elt Bits) ℓ) (g : Dev Cert.RowIn.nD → PrngReg), Pre_RowIn m →
    θ_run (Cert.RowIn.defs (F := Bits)) (onTc (τ := Cert.RowIn.τ) (Cert.RowIn.main (F := Bits))) ⟨m, fun _ => 0, g⟩ (fun r => (∀ c : Dev Cert.RowIn.nD,
      r.2.mem ((c.tc : Thread Cert.RowIn.nD Cert.RowIn.τ).loc Cert.RowIn.main_arg0) = m ((c.tc : Thread Cert.RowIn.nD Cert.RowIn.τ).loc Cert.RowIn.main_arg0)
      ∧ r.2.mem ((c.tc : Thread Cert.RowIn.nD Cert.RowIn.τ).loc Cert.RowIn.main_arg1) = m ((c.tc : Thread Cert.RowIn.nD Cert.RowIn.τ).loc Cert.RowIn.main_arg1)
      ∧ r.2.mem ((c.tc : Thread Cert.RowIn.nD Cert.RowIn.τ).loc Cert.RowIn.main_arg2) = m ((c.tc : Thread Cert.RowIn.nD Cert.RowIn.τ).loc Cert.RowIn.main_arg2)
      ∧ r.2.mem ((c.tc : Thread Cert.RowIn.nD Cert.RowIn.τ).loc Cert.RowIn.main_arg3) = m ((c.tc : Thread Cert.RowIn.nD Cert.RowIn.τ).loc Cert.RowIn.main_arg3))
      ∧ r.2.sem = fun _ => 0)

def quiescent_RowInIdeal [hRowInIdeal : Cert.RowInIdeal.Facts] : Prop :=
  ∀ (m : (ℓ : Loc Cert.RowInIdeal.nD Cert.RowInIdeal.τ Cert.RowInIdeal.sig) → Buf (Elt Ideal) ℓ) (g : Dev Cert.RowInIdeal.nD → PrngReg), Pre_RowInIdeal m →
    θ_run (Cert.RowInIdeal.defs (F := Ideal)) (onTc (τ := Cert.RowInIdeal.τ) (Cert.RowInIdeal.main (F := Ideal))) ⟨m, fun _ => 0, g⟩ (fun r => (∀ c : Dev Cert.RowInIdeal.nD,
      r.2.mem ((c.tc : Thread Cert.RowInIdeal.nD Cert.RowInIdeal.τ).loc Cert.RowInIdeal.main_arg0) = m ((c.tc : Thread Cert.RowInIdeal.nD Cert.RowInIdeal.τ).loc Cert.RowInIdeal.main_arg0)
      ∧ r.2.mem ((c.tc : Thread Cert.RowInIdeal.nD Cert.RowInIdeal.τ).loc Cert.RowInIdeal.main_arg1) = m ((c.tc : Thread Cert.RowInIdeal.nD Cert.RowInIdeal.τ).loc Cert.RowInIdeal.main_arg1)
      ∧ r.2.mem ((c.tc : Thread Cert.RowInIdeal.nD Cert.RowInIdeal.τ).loc Cert.RowInIdeal.main_arg2) = m ((c.tc : Thread Cert.RowInIdeal.nD Cert.RowInIdeal.τ).loc Cert.RowInIdeal.main_arg2)
      ∧ r.2.mem ((c.tc : Thread Cert.RowInIdeal.nD Cert.RowInIdeal.τ).loc Cert.RowInIdeal.main_arg3) = m ((c.tc : Thread Cert.RowInIdeal.nD Cert.RowInIdeal.τ).loc Cert.RowInIdeal.main_arg3))
      ∧ r.2.sem = fun _ => 0)

def quiescent_RowInRefIdeal [hRowInRefIdeal : Cert.RowInRefIdeal.Facts] : Prop :=
  ∀ (m : (ℓ : Loc Cert.RowInRefIdeal.nD Cert.RowInRefIdeal.τ Cert.RowInRefIdeal.sig) → Buf (Elt Ideal) ℓ) (g : Dev Cert.RowInRefIdeal.nD → PrngReg), Pre_RowInRefIdeal m →
    θ_run (Cert.RowInRefIdeal.defs (F := Ideal)) (onTc (τ := Cert.RowInRefIdeal.τ) (Cert.RowInRefIdeal.main (F := Ideal))) ⟨m, fun _ => 0, g⟩ (fun r => (∀ c : Dev Cert.RowInRefIdeal.nD,
      r.2.mem ((c.tc : Thread Cert.RowInRefIdeal.nD Cert.RowInRefIdeal.τ).loc Cert.RowInRefIdeal.main_arg0) = m ((c.tc : Thread Cert.RowInRefIdeal.nD Cert.RowInRefIdeal.τ).loc Cert.RowInRefIdeal.main_arg0)
      ∧ r.2.mem ((c.tc : Thread Cert.RowInRefIdeal.nD Cert.RowInRefIdeal.τ).loc Cert.RowInRefIdeal.main_arg1) = m ((c.tc : Thread Cert.RowInRefIdeal.nD Cert.RowInRefIdeal.τ).loc Cert.RowInRefIdeal.main_arg1)
      ∧ r.2.mem ((c.tc : Thread Cert.RowInRefIdeal.nD Cert.RowInRefIdeal.τ).loc Cert.RowInRefIdeal.main_arg2) = m ((c.tc : Thread Cert.RowInRefIdeal.nD Cert.RowInRefIdeal.τ).loc Cert.RowInRefIdeal.main_arg2)
      ∧ r.2.mem ((c.tc : Thread Cert.RowInRefIdeal.nD Cert.RowInRefIdeal.τ).loc Cert.RowInRefIdeal.main_arg3) = m ((c.tc : Thread Cert.RowInRefIdeal.nD Cert.RowInRefIdeal.τ).loc Cert.RowInRefIdeal.main_arg3))
      ∧ r.2.sem = fun _ => 0)

def quiescent_RowInS5 [hRowInS5 : Cert.RowInS5.Facts] : Prop :=
  ∀ (m : (ℓ : Loc Cert.RowInS5.nD Cert.RowInS5.τ Cert.RowInS5.sig) → Buf (Elt Bits) ℓ) (g : Dev Cert.RowInS5.nD → PrngReg), Pre_RowInS5 m →
    θ_run (Cert.RowInS5.defs (F := Bits)) (onTc (τ := Cert.RowInS5.τ) (Cert.RowInS5.main (F := Bits))) ⟨m, fun _ => 0, g⟩ (fun r => (∀ c : Dev Cert.RowInS5.nD,
      r.2.mem ((c.tc : Thread Cert.RowInS5.nD Cert.RowInS5.τ).loc Cert.RowInS5.main_arg0) = m ((c.tc : Thread Cert.RowInS5.nD Cert.RowInS5.τ).loc Cert.RowInS5.main_arg0)
      ∧ r.2.mem ((c.tc : Thread Cert.RowInS5.nD Cert.RowInS5.τ).loc Cert.RowInS5.main_arg1) = m ((c.tc : Thread Cert.RowInS5.nD Cert.RowInS5.τ).loc Cert.RowInS5.main_arg1)
      ∧ r.2.mem ((c.tc : Thread Cert.RowInS5.nD Cert.RowInS5.τ).loc Cert.RowInS5.main_arg2) = m ((c.tc : Thread Cert.RowInS5.nD Cert.RowInS5.τ).loc Cert.RowInS5.main_arg2)
      ∧ r.2.mem ((c.tc : Thread Cert.RowInS5.nD Cert.RowInS5.τ).loc Cert.RowInS5.main_arg3) = m ((c.tc : Thread Cert.RowInS5.nD Cert.RowInS5.τ).loc Cert.RowInS5.main_arg3))
      ∧ r.2.sem = fun _ => 0)

def quiescent_RowInS5Ideal [hRowInS5Ideal : Cert.RowInS5Ideal.Facts] : Prop :=
  ∀ (m : (ℓ : Loc Cert.RowInS5Ideal.nD Cert.RowInS5Ideal.τ Cert.RowInS5Ideal.sig) → Buf (Elt Ideal) ℓ) (g : Dev Cert.RowInS5Ideal.nD → PrngReg), Pre_RowInS5Ideal m →
    θ_run (Cert.RowInS5Ideal.defs (F := Ideal)) (onTc (τ := Cert.RowInS5Ideal.τ) (Cert.RowInS5Ideal.main (F := Ideal))) ⟨m, fun _ => 0, g⟩ (fun r => (∀ c : Dev Cert.RowInS5Ideal.nD,
      r.2.mem ((c.tc : Thread Cert.RowInS5Ideal.nD Cert.RowInS5Ideal.τ).loc Cert.RowInS5Ideal.main_arg0) = m ((c.tc : Thread Cert.RowInS5Ideal.nD Cert.RowInS5Ideal.τ).loc Cert.RowInS5Ideal.main_arg0)
      ∧ r.2.mem ((c.tc : Thread Cert.RowInS5Ideal.nD Cert.RowInS5Ideal.τ).loc Cert.RowInS5Ideal.main_arg1) = m ((c.tc : Thread Cert.RowInS5Ideal.nD Cert.RowInS5Ideal.τ).loc Cert.RowInS5Ideal.main_arg1)
      ∧ r.2.mem ((c.tc : Thread Cert.RowInS5Ideal.nD Cert.RowInS5Ideal.τ).loc Cert.RowInS5Ideal.main_arg2) = m ((c.tc : Thread Cert.RowInS5Ideal.nD Cert.RowInS5Ideal.τ).loc Cert.RowInS5Ideal.main_arg2)
      ∧ r.2.mem ((c.tc : Thread Cert.RowInS5Ideal.nD Cert.RowInS5Ideal.τ).loc Cert.RowInS5Ideal.main_arg3) = m ((c.tc : Thread Cert.RowInS5Ideal.nD Cert.RowInS5Ideal.τ).loc Cert.RowInS5Ideal.main_arg3))
      ∧ r.2.sem = fun _ => 0)

def quiescent_RowInS5RefIdeal [hRowInS5RefIdeal : Cert.RowInS5RefIdeal.Facts] : Prop :=
  ∀ (m : (ℓ : Loc Cert.RowInS5RefIdeal.nD Cert.RowInS5RefIdeal.τ Cert.RowInS5RefIdeal.sig) → Buf (Elt Ideal) ℓ) (g : Dev Cert.RowInS5RefIdeal.nD → PrngReg), Pre_RowInS5RefIdeal m →
    θ_run (Cert.RowInS5RefIdeal.defs (F := Ideal)) (onTc (τ := Cert.RowInS5RefIdeal.τ) (Cert.RowInS5RefIdeal.main (F := Ideal))) ⟨m, fun _ => 0, g⟩ (fun r => (∀ c : Dev Cert.RowInS5RefIdeal.nD,
      r.2.mem ((c.tc : Thread Cert.RowInS5RefIdeal.nD Cert.RowInS5RefIdeal.τ).loc Cert.RowInS5RefIdeal.main_arg0) = m ((c.tc : Thread Cert.RowInS5RefIdeal.nD Cert.RowInS5RefIdeal.τ).loc Cert.RowInS5RefIdeal.main_arg0)
      ∧ r.2.mem ((c.tc : Thread Cert.RowInS5RefIdeal.nD Cert.RowInS5RefIdeal.τ).loc Cert.RowInS5RefIdeal.main_arg1) = m ((c.tc : Thread Cert.RowInS5RefIdeal.nD Cert.RowInS5RefIdeal.τ).loc Cert.RowInS5RefIdeal.main_arg1)
      ∧ r.2.mem ((c.tc : Thread Cert.RowInS5RefIdeal.nD Cert.RowInS5RefIdeal.τ).loc Cert.RowInS5RefIdeal.main_arg2) = m ((c.tc : Thread Cert.RowInS5RefIdeal.nD Cert.RowInS5RefIdeal.τ).loc Cert.RowInS5RefIdeal.main_arg2)
      ∧ r.2.mem ((c.tc : Thread Cert.RowInS5RefIdeal.nD Cert.RowInS5RefIdeal.τ).loc Cert.RowInS5RefIdeal.main_arg3) = m ((c.tc : Thread Cert.RowInS5RefIdeal.nD Cert.RowInS5RefIdeal.τ).loc Cert.RowInS5RefIdeal.main_arg3))
      ∧ r.2.sem = fun _ => 0)

def quiescent_RowMid [hRowMid : Cert.RowMid.Facts] : Prop :=
  ∀ (m : (ℓ : Loc Cert.RowMid.nD Cert.RowMid.τ Cert.RowMid.sig) → Buf (Elt Bits) ℓ) (g : Dev Cert.RowMid.nD → PrngReg), Pre_RowMid m →
    θ_run (Cert.RowMid.defs (F := Bits)) (onTc (τ := Cert.RowMid.τ) (Cert.RowMid.main (F := Bits))) ⟨m, fun _ => 0, g⟩ (fun r => (∀ c : Dev Cert.RowMid.nD,
      r.2.mem ((c.tc : Thread Cert.RowMid.nD Cert.RowMid.τ).loc Cert.RowMid.main_arg0) = m ((c.tc : Thread Cert.RowMid.nD Cert.RowMid.τ).loc Cert.RowMid.main_arg0)
      ∧ r.2.mem ((c.tc : Thread Cert.RowMid.nD Cert.RowMid.τ).loc Cert.RowMid.main_arg1) = m ((c.tc : Thread Cert.RowMid.nD Cert.RowMid.τ).loc Cert.RowMid.main_arg1)
      ∧ r.2.mem ((c.tc : Thread Cert.RowMid.nD Cert.RowMid.τ).loc Cert.RowMid.main_arg2) = m ((c.tc : Thread Cert.RowMid.nD Cert.RowMid.τ).loc Cert.RowMid.main_arg2)
      ∧ r.2.mem ((c.tc : Thread Cert.RowMid.nD Cert.RowMid.τ).loc Cert.RowMid.main_arg3) = m ((c.tc : Thread Cert.RowMid.nD Cert.RowMid.τ).loc Cert.RowMid.main_arg3)
      ∧ r.2.mem ((c.tc : Thread Cert.RowMid.nD Cert.RowMid.τ).loc Cert.RowMid.main_arg4) = m ((c.tc : Thread Cert.RowMid.nD Cert.RowMid.τ).loc Cert.RowMid.main_arg4)
      ∧ r.2.mem ((c.tc : Thread Cert.RowMid.nD Cert.RowMid.τ).loc Cert.RowMid.main_arg5) = m ((c.tc : Thread Cert.RowMid.nD Cert.RowMid.τ).loc Cert.RowMid.main_arg5)
      ∧ r.2.mem ((c.tc : Thread Cert.RowMid.nD Cert.RowMid.τ).loc Cert.RowMid.main_arg6) = m ((c.tc : Thread Cert.RowMid.nD Cert.RowMid.τ).loc Cert.RowMid.main_arg6))
      ∧ r.2.sem = fun _ => 0)

def quiescent_RowMidIdeal [hRowMidIdeal : Cert.RowMidIdeal.Facts] : Prop :=
  ∀ (m : (ℓ : Loc Cert.RowMidIdeal.nD Cert.RowMidIdeal.τ Cert.RowMidIdeal.sig) → Buf (Elt Ideal) ℓ) (g : Dev Cert.RowMidIdeal.nD → PrngReg), Pre_RowMidIdeal m →
    θ_run (Cert.RowMidIdeal.defs (F := Ideal)) (onTc (τ := Cert.RowMidIdeal.τ) (Cert.RowMidIdeal.main (F := Ideal))) ⟨m, fun _ => 0, g⟩ (fun r => (∀ c : Dev Cert.RowMidIdeal.nD,
      r.2.mem ((c.tc : Thread Cert.RowMidIdeal.nD Cert.RowMidIdeal.τ).loc Cert.RowMidIdeal.main_arg0) = m ((c.tc : Thread Cert.RowMidIdeal.nD Cert.RowMidIdeal.τ).loc Cert.RowMidIdeal.main_arg0)
      ∧ r.2.mem ((c.tc : Thread Cert.RowMidIdeal.nD Cert.RowMidIdeal.τ).loc Cert.RowMidIdeal.main_arg1) = m ((c.tc : Thread Cert.RowMidIdeal.nD Cert.RowMidIdeal.τ).loc Cert.RowMidIdeal.main_arg1)
      ∧ r.2.mem ((c.tc : Thread Cert.RowMidIdeal.nD Cert.RowMidIdeal.τ).loc Cert.RowMidIdeal.main_arg2) = m ((c.tc : Thread Cert.RowMidIdeal.nD Cert.RowMidIdeal.τ).loc Cert.RowMidIdeal.main_arg2)
      ∧ r.2.mem ((c.tc : Thread Cert.RowMidIdeal.nD Cert.RowMidIdeal.τ).loc Cert.RowMidIdeal.main_arg3) = m ((c.tc : Thread Cert.RowMidIdeal.nD Cert.RowMidIdeal.τ).loc Cert.RowMidIdeal.main_arg3)
      ∧ r.2.mem ((c.tc : Thread Cert.RowMidIdeal.nD Cert.RowMidIdeal.τ).loc Cert.RowMidIdeal.main_arg4) = m ((c.tc : Thread Cert.RowMidIdeal.nD Cert.RowMidIdeal.τ).loc Cert.RowMidIdeal.main_arg4)
      ∧ r.2.mem ((c.tc : Thread Cert.RowMidIdeal.nD Cert.RowMidIdeal.τ).loc Cert.RowMidIdeal.main_arg5) = m ((c.tc : Thread Cert.RowMidIdeal.nD Cert.RowMidIdeal.τ).loc Cert.RowMidIdeal.main_arg5)
      ∧ r.2.mem ((c.tc : Thread Cert.RowMidIdeal.nD Cert.RowMidIdeal.τ).loc Cert.RowMidIdeal.main_arg6) = m ((c.tc : Thread Cert.RowMidIdeal.nD Cert.RowMidIdeal.τ).loc Cert.RowMidIdeal.main_arg6))
      ∧ r.2.sem = fun _ => 0)

def quiescent_RowMidRefIdeal [hRowMidRefIdeal : Cert.RowMidRefIdeal.Facts] : Prop :=
  ∀ (m : (ℓ : Loc Cert.RowMidRefIdeal.nD Cert.RowMidRefIdeal.τ Cert.RowMidRefIdeal.sig) → Buf (Elt Ideal) ℓ) (g : Dev Cert.RowMidRefIdeal.nD → PrngReg), Pre_RowMidRefIdeal m →
    θ_run (Cert.RowMidRefIdeal.defs (F := Ideal)) (onTc (τ := Cert.RowMidRefIdeal.τ) (Cert.RowMidRefIdeal.main (F := Ideal))) ⟨m, fun _ => 0, g⟩ (fun r => (∀ c : Dev Cert.RowMidRefIdeal.nD,
      r.2.mem ((c.tc : Thread Cert.RowMidRefIdeal.nD Cert.RowMidRefIdeal.τ).loc Cert.RowMidRefIdeal.main_arg0) = m ((c.tc : Thread Cert.RowMidRefIdeal.nD Cert.RowMidRefIdeal.τ).loc Cert.RowMidRefIdeal.main_arg0)
      ∧ r.2.mem ((c.tc : Thread Cert.RowMidRefIdeal.nD Cert.RowMidRefIdeal.τ).loc Cert.RowMidRefIdeal.main_arg1) = m ((c.tc : Thread Cert.RowMidRefIdeal.nD Cert.RowMidRefIdeal.τ).loc Cert.RowMidRefIdeal.main_arg1)
      ∧ r.2.mem ((c.tc : Thread Cert.RowMidRefIdeal.nD Cert.RowMidRefIdeal.τ).loc Cert.RowMidRefIdeal.main_arg2) = m ((c.tc : Thread Cert.RowMidRefIdeal.nD Cert.RowMidRefIdeal.τ).loc Cert.RowMidRefIdeal.main_arg2)
      ∧ r.2.mem ((c.tc : Thread Cert.RowMidRefIdeal.nD Cert.RowMidRefIdeal.τ).loc Cert.RowMidRefIdeal.main_arg3) = m ((c.tc : Thread Cert.RowMidRefIdeal.nD Cert.RowMidRefIdeal.τ).loc Cert.RowMidRefIdeal.main_arg3)
      ∧ r.2.mem ((c.tc : Thread Cert.RowMidRefIdeal.nD Cert.RowMidRefIdeal.τ).loc Cert.RowMidRefIdeal.main_arg4) = m ((c.tc : Thread Cert.RowMidRefIdeal.nD Cert.RowMidRefIdeal.τ).loc Cert.RowMidRefIdeal.main_arg4)
      ∧ r.2.mem ((c.tc : Thread Cert.RowMidRefIdeal.nD Cert.RowMidRefIdeal.τ).loc Cert.RowMidRefIdeal.main_arg5) = m ((c.tc : Thread Cert.RowMidRefIdeal.nD Cert.RowMidRefIdeal.τ).loc Cert.RowMidRefIdeal.main_arg5)
      ∧ r.2.mem ((c.tc : Thread Cert.RowMidRefIdeal.nD Cert.RowMidRefIdeal.τ).loc Cert.RowMidRefIdeal.main_arg6) = m ((c.tc : Thread Cert.RowMidRefIdeal.nD Cert.RowMidRefIdeal.τ).loc Cert.RowMidRefIdeal.main_arg6))
      ∧ r.2.sem = fun _ => 0)

def quiescent_RowMidConv [hRowMidConv : Cert.RowMidConv.Facts] : Prop :=
  ∀ (m : (ℓ : Loc Cert.RowMidConv.nD Cert.RowMidConv.τ Cert.RowMidConv.sig) → Buf (Elt Bits) ℓ) (g : Dev Cert.RowMidConv.nD → PrngReg), Pre_RowMidConv m →
    θ_run (Cert.RowMidConv.defs (F := Bits)) (onTc (τ := Cert.RowMidConv.τ) (Cert.RowMidConv.main (F := Bits))) ⟨m, fun _ => 0, g⟩ (fun r => (∀ c : Dev Cert.RowMidConv.nD,
      r.2.mem ((c.tc : Thread Cert.RowMidConv.nD Cert.RowMidConv.τ).loc Cert.RowMidConv.main_arg0) = m ((c.tc : Thread Cert.RowMidConv.nD Cert.RowMidConv.τ).loc Cert.RowMidConv.main_arg0)
      ∧ r.2.mem ((c.tc : Thread Cert.RowMidConv.nD Cert.RowMidConv.τ).loc Cert.RowMidConv.main_arg1) = m ((c.tc : Thread Cert.RowMidConv.nD Cert.RowMidConv.τ).loc Cert.RowMidConv.main_arg1)
      ∧ r.2.mem ((c.tc : Thread Cert.RowMidConv.nD Cert.RowMidConv.τ).loc Cert.RowMidConv.main_arg2) = m ((c.tc : Thread Cert.RowMidConv.nD Cert.RowMidConv.τ).loc Cert.RowMidConv.main_arg2)
      ∧ r.2.mem ((c.tc : Thread Cert.RowMidConv.nD Cert.RowMidConv.τ).loc Cert.RowMidConv.main_arg3) = m ((c.tc : Thread Cert.RowMidConv.nD Cert.RowMidConv.τ).loc Cert.RowMidConv.main_arg3)
      ∧ r.2.mem ((c.tc : Thread Cert.RowMidConv.nD Cert.RowMidConv.τ).loc Cert.RowMidConv.main_arg4) = m ((c.tc : Thread Cert.RowMidConv.nD Cert.RowMidConv.τ).loc Cert.RowMidConv.main_arg4)
      ∧ r.2.mem ((c.tc : Thread Cert.RowMidConv.nD Cert.RowMidConv.τ).loc Cert.RowMidConv.main_arg5) = m ((c.tc : Thread Cert.RowMidConv.nD Cert.RowMidConv.τ).loc Cert.RowMidConv.main_arg5)
      ∧ r.2.mem ((c.tc : Thread Cert.RowMidConv.nD Cert.RowMidConv.τ).loc Cert.RowMidConv.main_arg6) = m ((c.tc : Thread Cert.RowMidConv.nD Cert.RowMidConv.τ).loc Cert.RowMidConv.main_arg6)
      ∧ r.2.mem ((c.tc : Thread Cert.RowMidConv.nD Cert.RowMidConv.τ).loc Cert.RowMidConv.main_arg7) = m ((c.tc : Thread Cert.RowMidConv.nD Cert.RowMidConv.τ).loc Cert.RowMidConv.main_arg7))
      ∧ r.2.sem = fun _ => 0)

def quiescent_RowMidConvIdeal [hRowMidConvIdeal : Cert.RowMidConvIdeal.Facts] : Prop :=
  ∀ (m : (ℓ : Loc Cert.RowMidConvIdeal.nD Cert.RowMidConvIdeal.τ Cert.RowMidConvIdeal.sig) → Buf (Elt Ideal) ℓ) (g : Dev Cert.RowMidConvIdeal.nD → PrngReg), Pre_RowMidConvIdeal m →
    θ_run (Cert.RowMidConvIdeal.defs (F := Ideal)) (onTc (τ := Cert.RowMidConvIdeal.τ) (Cert.RowMidConvIdeal.main (F := Ideal))) ⟨m, fun _ => 0, g⟩ (fun r => (∀ c : Dev Cert.RowMidConvIdeal.nD,
      r.2.mem ((c.tc : Thread Cert.RowMidConvIdeal.nD Cert.RowMidConvIdeal.τ).loc Cert.RowMidConvIdeal.main_arg0) = m ((c.tc : Thread Cert.RowMidConvIdeal.nD Cert.RowMidConvIdeal.τ).loc Cert.RowMidConvIdeal.main_arg0)
      ∧ r.2.mem ((c.tc : Thread Cert.RowMidConvIdeal.nD Cert.RowMidConvIdeal.τ).loc Cert.RowMidConvIdeal.main_arg1) = m ((c.tc : Thread Cert.RowMidConvIdeal.nD Cert.RowMidConvIdeal.τ).loc Cert.RowMidConvIdeal.main_arg1)
      ∧ r.2.mem ((c.tc : Thread Cert.RowMidConvIdeal.nD Cert.RowMidConvIdeal.τ).loc Cert.RowMidConvIdeal.main_arg2) = m ((c.tc : Thread Cert.RowMidConvIdeal.nD Cert.RowMidConvIdeal.τ).loc Cert.RowMidConvIdeal.main_arg2)
      ∧ r.2.mem ((c.tc : Thread Cert.RowMidConvIdeal.nD Cert.RowMidConvIdeal.τ).loc Cert.RowMidConvIdeal.main_arg3) = m ((c.tc : Thread Cert.RowMidConvIdeal.nD Cert.RowMidConvIdeal.τ).loc Cert.RowMidConvIdeal.main_arg3)
      ∧ r.2.mem ((c.tc : Thread Cert.RowMidConvIdeal.nD Cert.RowMidConvIdeal.τ).loc Cert.RowMidConvIdeal.main_arg4) = m ((c.tc : Thread Cert.RowMidConvIdeal.nD Cert.RowMidConvIdeal.τ).loc Cert.RowMidConvIdeal.main_arg4)
      ∧ r.2.mem ((c.tc : Thread Cert.RowMidConvIdeal.nD Cert.RowMidConvIdeal.τ).loc Cert.RowMidConvIdeal.main_arg5) = m ((c.tc : Thread Cert.RowMidConvIdeal.nD Cert.RowMidConvIdeal.τ).loc Cert.RowMidConvIdeal.main_arg5)
      ∧ r.2.mem ((c.tc : Thread Cert.RowMidConvIdeal.nD Cert.RowMidConvIdeal.τ).loc Cert.RowMidConvIdeal.main_arg6) = m ((c.tc : Thread Cert.RowMidConvIdeal.nD Cert.RowMidConvIdeal.τ).loc Cert.RowMidConvIdeal.main_arg6)
      ∧ r.2.mem ((c.tc : Thread Cert.RowMidConvIdeal.nD Cert.RowMidConvIdeal.τ).loc Cert.RowMidConvIdeal.main_arg7) = m ((c.tc : Thread Cert.RowMidConvIdeal.nD Cert.RowMidConvIdeal.τ).loc Cert.RowMidConvIdeal.main_arg7))
      ∧ r.2.sem = fun _ => 0)

def quiescent_RowMidConvRefIdeal [hRowMidConvRefIdeal : Cert.RowMidConvRefIdeal.Facts] : Prop :=
  ∀ (m : (ℓ : Loc Cert.RowMidConvRefIdeal.nD Cert.RowMidConvRefIdeal.τ Cert.RowMidConvRefIdeal.sig) → Buf (Elt Ideal) ℓ) (g : Dev Cert.RowMidConvRefIdeal.nD → PrngReg), Pre_RowMidConvRefIdeal m →
    θ_run (Cert.RowMidConvRefIdeal.defs (F := Ideal)) (onTc (τ := Cert.RowMidConvRefIdeal.τ) (Cert.RowMidConvRefIdeal.main (F := Ideal))) ⟨m, fun _ => 0, g⟩ (fun r => (∀ c : Dev Cert.RowMidConvRefIdeal.nD,
      r.2.mem ((c.tc : Thread Cert.RowMidConvRefIdeal.nD Cert.RowMidConvRefIdeal.τ).loc Cert.RowMidConvRefIdeal.main_arg0) = m ((c.tc : Thread Cert.RowMidConvRefIdeal.nD Cert.RowMidConvRefIdeal.τ).loc Cert.RowMidConvRefIdeal.main_arg0)
      ∧ r.2.mem ((c.tc : Thread Cert.RowMidConvRefIdeal.nD Cert.RowMidConvRefIdeal.τ).loc Cert.RowMidConvRefIdeal.main_arg1) = m ((c.tc : Thread Cert.RowMidConvRefIdeal.nD Cert.RowMidConvRefIdeal.τ).loc Cert.RowMidConvRefIdeal.main_arg1)
      ∧ r.2.mem ((c.tc : Thread Cert.RowMidConvRefIdeal.nD Cert.RowMidConvRefIdeal.τ).loc Cert.RowMidConvRefIdeal.main_arg2) = m ((c.tc : Thread Cert.RowMidConvRefIdeal.nD Cert.RowMidConvRefIdeal.τ).loc Cert.RowMidConvRefIdeal.main_arg2)
      ∧ r.2.mem ((c.tc : Thread Cert.RowMidConvRefIdeal.nD Cert.RowMidConvRefIdeal.τ).loc Cert.RowMidConvRefIdeal.main_arg3) = m ((c.tc : Thread Cert.RowMidConvRefIdeal.nD Cert.RowMidConvRefIdeal.τ).loc Cert.RowMidConvRefIdeal.main_arg3)
      ∧ r.2.mem ((c.tc : Thread Cert.RowMidConvRefIdeal.nD Cert.RowMidConvRefIdeal.τ).loc Cert.RowMidConvRefIdeal.main_arg4) = m ((c.tc : Thread Cert.RowMidConvRefIdeal.nD Cert.RowMidConvRefIdeal.τ).loc Cert.RowMidConvRefIdeal.main_arg4)
      ∧ r.2.mem ((c.tc : Thread Cert.RowMidConvRefIdeal.nD Cert.RowMidConvRefIdeal.τ).loc Cert.RowMidConvRefIdeal.main_arg5) = m ((c.tc : Thread Cert.RowMidConvRefIdeal.nD Cert.RowMidConvRefIdeal.τ).loc Cert.RowMidConvRefIdeal.main_arg5)
      ∧ r.2.mem ((c.tc : Thread Cert.RowMidConvRefIdeal.nD Cert.RowMidConvRefIdeal.τ).loc Cert.RowMidConvRefIdeal.main_arg6) = m ((c.tc : Thread Cert.RowMidConvRefIdeal.nD Cert.RowMidConvRefIdeal.τ).loc Cert.RowMidConvRefIdeal.main_arg6)
      ∧ r.2.mem ((c.tc : Thread Cert.RowMidConvRefIdeal.nD Cert.RowMidConvRefIdeal.τ).loc Cert.RowMidConvRefIdeal.main_arg7) = m ((c.tc : Thread Cert.RowMidConvRefIdeal.nD Cert.RowMidConvRefIdeal.τ).loc Cert.RowMidConvRefIdeal.main_arg7))
      ∧ r.2.sem = fun _ => 0)

def quiescent_RowOut [hRowOut : Cert.RowOut.Facts] : Prop :=
  ∀ (m : (ℓ : Loc Cert.RowOut.nD Cert.RowOut.τ Cert.RowOut.sig) → Buf (Elt Bits) ℓ) (g : Dev Cert.RowOut.nD → PrngReg), Pre_RowOut m →
    θ_run (Cert.RowOut.defs (F := Bits)) (onTc (τ := Cert.RowOut.τ) (Cert.RowOut.main (F := Bits))) ⟨m, fun _ => 0, g⟩ (fun r => (∀ c : Dev Cert.RowOut.nD,
      r.2.mem ((c.tc : Thread Cert.RowOut.nD Cert.RowOut.τ).loc Cert.RowOut.main_arg0) = m ((c.tc : Thread Cert.RowOut.nD Cert.RowOut.τ).loc Cert.RowOut.main_arg0)
      ∧ r.2.mem ((c.tc : Thread Cert.RowOut.nD Cert.RowOut.τ).loc Cert.RowOut.main_arg1) = m ((c.tc : Thread Cert.RowOut.nD Cert.RowOut.τ).loc Cert.RowOut.main_arg1)
      ∧ r.2.mem ((c.tc : Thread Cert.RowOut.nD Cert.RowOut.τ).loc Cert.RowOut.main_arg2) = m ((c.tc : Thread Cert.RowOut.nD Cert.RowOut.τ).loc Cert.RowOut.main_arg2)
      ∧ r.2.mem ((c.tc : Thread Cert.RowOut.nD Cert.RowOut.τ).loc Cert.RowOut.main_arg3) = m ((c.tc : Thread Cert.RowOut.nD Cert.RowOut.τ).loc Cert.RowOut.main_arg3))
      ∧ r.2.sem = fun _ => 0)

def quiescent_RowOutIdeal [hRowOutIdeal : Cert.RowOutIdeal.Facts] : Prop :=
  ∀ (m : (ℓ : Loc Cert.RowOutIdeal.nD Cert.RowOutIdeal.τ Cert.RowOutIdeal.sig) → Buf (Elt Ideal) ℓ) (g : Dev Cert.RowOutIdeal.nD → PrngReg), Pre_RowOutIdeal m →
    θ_run (Cert.RowOutIdeal.defs (F := Ideal)) (onTc (τ := Cert.RowOutIdeal.τ) (Cert.RowOutIdeal.main (F := Ideal))) ⟨m, fun _ => 0, g⟩ (fun r => (∀ c : Dev Cert.RowOutIdeal.nD,
      r.2.mem ((c.tc : Thread Cert.RowOutIdeal.nD Cert.RowOutIdeal.τ).loc Cert.RowOutIdeal.main_arg0) = m ((c.tc : Thread Cert.RowOutIdeal.nD Cert.RowOutIdeal.τ).loc Cert.RowOutIdeal.main_arg0)
      ∧ r.2.mem ((c.tc : Thread Cert.RowOutIdeal.nD Cert.RowOutIdeal.τ).loc Cert.RowOutIdeal.main_arg1) = m ((c.tc : Thread Cert.RowOutIdeal.nD Cert.RowOutIdeal.τ).loc Cert.RowOutIdeal.main_arg1)
      ∧ r.2.mem ((c.tc : Thread Cert.RowOutIdeal.nD Cert.RowOutIdeal.τ).loc Cert.RowOutIdeal.main_arg2) = m ((c.tc : Thread Cert.RowOutIdeal.nD Cert.RowOutIdeal.τ).loc Cert.RowOutIdeal.main_arg2)
      ∧ r.2.mem ((c.tc : Thread Cert.RowOutIdeal.nD Cert.RowOutIdeal.τ).loc Cert.RowOutIdeal.main_arg3) = m ((c.tc : Thread Cert.RowOutIdeal.nD Cert.RowOutIdeal.τ).loc Cert.RowOutIdeal.main_arg3))
      ∧ r.2.sem = fun _ => 0)

def quiescent_RowOutRefIdeal [hRowOutRefIdeal : Cert.RowOutRefIdeal.Facts] : Prop :=
  ∀ (m : (ℓ : Loc Cert.RowOutRefIdeal.nD Cert.RowOutRefIdeal.τ Cert.RowOutRefIdeal.sig) → Buf (Elt Ideal) ℓ) (g : Dev Cert.RowOutRefIdeal.nD → PrngReg), Pre_RowOutRefIdeal m →
    θ_run (Cert.RowOutRefIdeal.defs (F := Ideal)) (onTc (τ := Cert.RowOutRefIdeal.τ) (Cert.RowOutRefIdeal.main (F := Ideal))) ⟨m, fun _ => 0, g⟩ (fun r => (∀ c : Dev Cert.RowOutRefIdeal.nD,
      r.2.mem ((c.tc : Thread Cert.RowOutRefIdeal.nD Cert.RowOutRefIdeal.τ).loc Cert.RowOutRefIdeal.main_arg0) = m ((c.tc : Thread Cert.RowOutRefIdeal.nD Cert.RowOutRefIdeal.τ).loc Cert.RowOutRefIdeal.main_arg0)
      ∧ r.2.mem ((c.tc : Thread Cert.RowOutRefIdeal.nD Cert.RowOutRefIdeal.τ).loc Cert.RowOutRefIdeal.main_arg1) = m ((c.tc : Thread Cert.RowOutRefIdeal.nD Cert.RowOutRefIdeal.τ).loc Cert.RowOutRefIdeal.main_arg1)
      ∧ r.2.mem ((c.tc : Thread Cert.RowOutRefIdeal.nD Cert.RowOutRefIdeal.τ).loc Cert.RowOutRefIdeal.main_arg2) = m ((c.tc : Thread Cert.RowOutRefIdeal.nD Cert.RowOutRefIdeal.τ).loc Cert.RowOutRefIdeal.main_arg2)
      ∧ r.2.mem ((c.tc : Thread Cert.RowOutRefIdeal.nD Cert.RowOutRefIdeal.τ).loc Cert.RowOutRefIdeal.main_arg3) = m ((c.tc : Thread Cert.RowOutRefIdeal.nD Cert.RowOutRefIdeal.τ).loc Cert.RowOutRefIdeal.main_arg3))
      ∧ r.2.sem = fun _ => 0)

def quiescent_RowGate [hRowGate : Cert.RowGate.Facts] : Prop :=
  ∀ (m : (ℓ : Loc Cert.RowGate.nD Cert.RowGate.τ Cert.RowGate.sig) → Buf (Elt Bits) ℓ) (g : Dev Cert.RowGate.nD → PrngReg), Pre_RowGate m →
    θ_run (Cert.RowGate.defs (F := Bits)) (onTc (τ := Cert.RowGate.τ) (Cert.RowGate.main (F := Bits))) ⟨m, fun _ => 0, g⟩ (fun r => (∀ c : Dev Cert.RowGate.nD,
      r.2.mem ((c.tc : Thread Cert.RowGate.nD Cert.RowGate.τ).loc Cert.RowGate.main_arg0) = m ((c.tc : Thread Cert.RowGate.nD Cert.RowGate.τ).loc Cert.RowGate.main_arg0)
      ∧ r.2.mem ((c.tc : Thread Cert.RowGate.nD Cert.RowGate.τ).loc Cert.RowGate.main_arg1) = m ((c.tc : Thread Cert.RowGate.nD Cert.RowGate.τ).loc Cert.RowGate.main_arg1))
      ∧ r.2.sem = fun _ => 0)

def quiescent_RowGateIdeal [hRowGateIdeal : Cert.RowGateIdeal.Facts] : Prop :=
  ∀ (m : (ℓ : Loc Cert.RowGateIdeal.nD Cert.RowGateIdeal.τ Cert.RowGateIdeal.sig) → Buf (Elt Ideal) ℓ) (g : Dev Cert.RowGateIdeal.nD → PrngReg), Pre_RowGateIdeal m →
    θ_run (Cert.RowGateIdeal.defs (F := Ideal)) (onTc (τ := Cert.RowGateIdeal.τ) (Cert.RowGateIdeal.main (F := Ideal))) ⟨m, fun _ => 0, g⟩ (fun r => (∀ c : Dev Cert.RowGateIdeal.nD,
      r.2.mem ((c.tc : Thread Cert.RowGateIdeal.nD Cert.RowGateIdeal.τ).loc Cert.RowGateIdeal.main_arg0) = m ((c.tc : Thread Cert.RowGateIdeal.nD Cert.RowGateIdeal.τ).loc Cert.RowGateIdeal.main_arg0)
      ∧ r.2.mem ((c.tc : Thread Cert.RowGateIdeal.nD Cert.RowGateIdeal.τ).loc Cert.RowGateIdeal.main_arg1) = m ((c.tc : Thread Cert.RowGateIdeal.nD Cert.RowGateIdeal.τ).loc Cert.RowGateIdeal.main_arg1))
      ∧ r.2.sem = fun _ => 0)

def quiescent_RowGateRefIdeal [hRowGateRefIdeal : Cert.RowGateRefIdeal.Facts] : Prop :=
  ∀ (m : (ℓ : Loc Cert.RowGateRefIdeal.nD Cert.RowGateRefIdeal.τ Cert.RowGateRefIdeal.sig) → Buf (Elt Ideal) ℓ) (g : Dev Cert.RowGateRefIdeal.nD → PrngReg), Pre_RowGateRefIdeal m →
    θ_run (Cert.RowGateRefIdeal.defs (F := Ideal)) (onTc (τ := Cert.RowGateRefIdeal.τ) (Cert.RowGateRefIdeal.main (F := Ideal))) ⟨m, fun _ => 0, g⟩ (fun r => (∀ c : Dev Cert.RowGateRefIdeal.nD,
      r.2.mem ((c.tc : Thread Cert.RowGateRefIdeal.nD Cert.RowGateRefIdeal.τ).loc Cert.RowGateRefIdeal.main_arg0) = m ((c.tc : Thread Cert.RowGateRefIdeal.nD Cert.RowGateRefIdeal.τ).loc Cert.RowGateRefIdeal.main_arg0)
      ∧ r.2.mem ((c.tc : Thread Cert.RowGateRefIdeal.nD Cert.RowGateRefIdeal.τ).loc Cert.RowGateRefIdeal.main_arg1) = m ((c.tc : Thread Cert.RowGateRefIdeal.nD Cert.RowGateRefIdeal.τ).loc Cert.RowGateRefIdeal.main_arg1))
      ∧ r.2.sem = fun _ => 0)

def quiescent_RowAct [hRowAct : Cert.RowAct.Facts] : Prop :=
  ∀ (m : (ℓ : Loc Cert.RowAct.nD Cert.RowAct.τ Cert.RowAct.sig) → Buf (Elt Bits) ℓ) (g : Dev Cert.RowAct.nD → PrngReg), Pre_RowAct m →
    θ_run (Cert.RowAct.defs (F := Bits)) (onTc (τ := Cert.RowAct.τ) (Cert.RowAct.main (F := Bits))) ⟨m, fun _ => 0, g⟩ (fun r => (∀ c : Dev Cert.RowAct.nD,
      r.2.mem ((c.tc : Thread Cert.RowAct.nD Cert.RowAct.τ).loc Cert.RowAct.main_arg0) = m ((c.tc : Thread Cert.RowAct.nD Cert.RowAct.τ).loc Cert.RowAct.main_arg0))
      ∧ r.2.sem = fun _ => 0)

def quiescent_RowActIdeal [hRowActIdeal : Cert.RowActIdeal.Facts] : Prop :=
  ∀ (m : (ℓ : Loc Cert.RowActIdeal.nD Cert.RowActIdeal.τ Cert.RowActIdeal.sig) → Buf (Elt Ideal) ℓ) (g : Dev Cert.RowActIdeal.nD → PrngReg), Pre_RowActIdeal m →
    θ_run (Cert.RowActIdeal.defs (F := Ideal)) (onTc (τ := Cert.RowActIdeal.τ) (Cert.RowActIdeal.main (F := Ideal))) ⟨m, fun _ => 0, g⟩ (fun r => (∀ c : Dev Cert.RowActIdeal.nD,
      r.2.mem ((c.tc : Thread Cert.RowActIdeal.nD Cert.RowActIdeal.τ).loc Cert.RowActIdeal.main_arg0) = m ((c.tc : Thread Cert.RowActIdeal.nD Cert.RowActIdeal.τ).loc Cert.RowActIdeal.main_arg0))
      ∧ r.2.sem = fun _ => 0)

def quiescent_RowActRefIdeal [hRowActRefIdeal : Cert.RowActRefIdeal.Facts] : Prop :=
  ∀ (m : (ℓ : Loc Cert.RowActRefIdeal.nD Cert.RowActRefIdeal.τ Cert.RowActRefIdeal.sig) → Buf (Elt Ideal) ℓ) (g : Dev Cert.RowActRefIdeal.nD → PrngReg), Pre_RowActRefIdeal m →
    θ_run (Cert.RowActRefIdeal.defs (F := Ideal)) (onTc (τ := Cert.RowActRefIdeal.τ) (Cert.RowActRefIdeal.main (F := Ideal))) ⟨m, fun _ => 0, g⟩ (fun r => (∀ c : Dev Cert.RowActRefIdeal.nD,
      r.2.mem ((c.tc : Thread Cert.RowActRefIdeal.nD Cert.RowActRefIdeal.τ).loc Cert.RowActRefIdeal.main_arg0) = m ((c.tc : Thread Cert.RowActRefIdeal.nD Cert.RowActRefIdeal.τ).loc Cert.RowActRefIdeal.main_arg0))
      ∧ r.2.sem = fun _ => 0)

def quiescent_RowConv [hRowConv : Cert.RowConv.Facts] : Prop :=
  ∀ (m : (ℓ : Loc Cert.RowConv.nD Cert.RowConv.τ Cert.RowConv.sig) → Buf (Elt Bits) ℓ) (g : Dev Cert.RowConv.nD → PrngReg), Pre_RowConv m →
    θ_run (Cert.RowConv.defs (F := Bits)) (onTc (τ := Cert.RowConv.τ) (Cert.RowConv.main (F := Bits))) ⟨m, fun _ => 0, g⟩ (fun r => (∀ c : Dev Cert.RowConv.nD,
      r.2.mem ((c.tc : Thread Cert.RowConv.nD Cert.RowConv.τ).loc Cert.RowConv.main_arg0) = m ((c.tc : Thread Cert.RowConv.nD Cert.RowConv.τ).loc Cert.RowConv.main_arg0)
      ∧ r.2.mem ((c.tc : Thread Cert.RowConv.nD Cert.RowConv.τ).loc Cert.RowConv.main_arg1) = m ((c.tc : Thread Cert.RowConv.nD Cert.RowConv.τ).loc Cert.RowConv.main_arg1)
      ∧ r.2.mem ((c.tc : Thread Cert.RowConv.nD Cert.RowConv.τ).loc Cert.RowConv.main_arg2) = m ((c.tc : Thread Cert.RowConv.nD Cert.RowConv.τ).loc Cert.RowConv.main_arg2))
      ∧ r.2.sem = fun _ => 0)

def quiescent_RowConvIdeal [hRowConvIdeal : Cert.RowConvIdeal.Facts] : Prop :=
  ∀ (m : (ℓ : Loc Cert.RowConvIdeal.nD Cert.RowConvIdeal.τ Cert.RowConvIdeal.sig) → Buf (Elt Ideal) ℓ) (g : Dev Cert.RowConvIdeal.nD → PrngReg), Pre_RowConvIdeal m →
    θ_run (Cert.RowConvIdeal.defs (F := Ideal)) (onTc (τ := Cert.RowConvIdeal.τ) (Cert.RowConvIdeal.main (F := Ideal))) ⟨m, fun _ => 0, g⟩ (fun r => (∀ c : Dev Cert.RowConvIdeal.nD,
      r.2.mem ((c.tc : Thread Cert.RowConvIdeal.nD Cert.RowConvIdeal.τ).loc Cert.RowConvIdeal.main_arg0) = m ((c.tc : Thread Cert.RowConvIdeal.nD Cert.RowConvIdeal.τ).loc Cert.RowConvIdeal.main_arg0)
      ∧ r.2.mem ((c.tc : Thread Cert.RowConvIdeal.nD Cert.RowConvIdeal.τ).loc Cert.RowConvIdeal.main_arg1) = m ((c.tc : Thread Cert.RowConvIdeal.nD Cert.RowConvIdeal.τ).loc Cert.RowConvIdeal.main_arg1)
      ∧ r.2.mem ((c.tc : Thread Cert.RowConvIdeal.nD Cert.RowConvIdeal.τ).loc Cert.RowConvIdeal.main_arg2) = m ((c.tc : Thread Cert.RowConvIdeal.nD Cert.RowConvIdeal.τ).loc Cert.RowConvIdeal.main_arg2))
      ∧ r.2.sem = fun _ => 0)

def quiescent_RowConvRefIdeal [hRowConvRefIdeal : Cert.RowConvRefIdeal.Facts] : Prop :=
  ∀ (m : (ℓ : Loc Cert.RowConvRefIdeal.nD Cert.RowConvRefIdeal.τ Cert.RowConvRefIdeal.sig) → Buf (Elt Ideal) ℓ) (g : Dev Cert.RowConvRefIdeal.nD → PrngReg), Pre_RowConvRefIdeal m →
    θ_run (Cert.RowConvRefIdeal.defs (F := Ideal)) (onTc (τ := Cert.RowConvRefIdeal.τ) (Cert.RowConvRefIdeal.main (F := Ideal))) ⟨m, fun _ => 0, g⟩ (fun r => (∀ c : Dev Cert.RowConvRefIdeal.nD,
      r.2.mem ((c.tc : Thread Cert.RowConvRefIdeal.nD Cert.RowConvRefIdeal.τ).loc Cert.RowConvRefIdeal.main_arg0) = m ((c.tc : Thread Cert.RowConvRefIdeal.nD Cert.RowConvRefIdeal.τ).loc Cert.RowConvRefIdeal.main_arg0)
      ∧ r.2.mem ((c.tc : Thread Cert.RowConvRefIdeal.nD Cert.RowConvRefIdeal.τ).loc Cert.RowConvRefIdeal.main_arg1) = m ((c.tc : Thread Cert.RowConvRefIdeal.nD Cert.RowConvRefIdeal.τ).loc Cert.RowConvRefIdeal.main_arg1)
      ∧ r.2.mem ((c.tc : Thread Cert.RowConvRefIdeal.nD Cert.RowConvRefIdeal.τ).loc Cert.RowConvRefIdeal.main_arg2) = m ((c.tc : Thread Cert.RowConvRefIdeal.nD Cert.RowConvRefIdeal.τ).loc Cert.RowConvRefIdeal.main_arg2))
      ∧ r.2.sem = fun _ => 0)

def quiescent_RowActBwd [hRowActBwd : Cert.RowActBwd.Facts] : Prop :=
  ∀ (m : (ℓ : Loc Cert.RowActBwd.nD Cert.RowActBwd.τ Cert.RowActBwd.sig) → Buf (Elt Bits) ℓ) (g : Dev Cert.RowActBwd.nD → PrngReg), Pre_RowActBwd m →
    θ_run (Cert.RowActBwd.defs (F := Bits)) (onTc (τ := Cert.RowActBwd.τ) (Cert.RowActBwd.main (F := Bits))) ⟨m, fun _ => 0, g⟩ (fun r => (∀ c : Dev Cert.RowActBwd.nD,
      r.2.mem ((c.tc : Thread Cert.RowActBwd.nD Cert.RowActBwd.τ).loc Cert.RowActBwd.main_arg0) = m ((c.tc : Thread Cert.RowActBwd.nD Cert.RowActBwd.τ).loc Cert.RowActBwd.main_arg0)
      ∧ r.2.mem ((c.tc : Thread Cert.RowActBwd.nD Cert.RowActBwd.τ).loc Cert.RowActBwd.main_arg1) = m ((c.tc : Thread Cert.RowActBwd.nD Cert.RowActBwd.τ).loc Cert.RowActBwd.main_arg1))
      ∧ r.2.sem = fun _ => 0)

def quiescent_RowActBwdIdeal [hRowActBwdIdeal : Cert.RowActBwdIdeal.Facts] : Prop :=
  ∀ (m : (ℓ : Loc Cert.RowActBwdIdeal.nD Cert.RowActBwdIdeal.τ Cert.RowActBwdIdeal.sig) → Buf (Elt Ideal) ℓ) (g : Dev Cert.RowActBwdIdeal.nD → PrngReg), Pre_RowActBwdIdeal m →
    θ_run (Cert.RowActBwdIdeal.defs (F := Ideal)) (onTc (τ := Cert.RowActBwdIdeal.τ) (Cert.RowActBwdIdeal.main (F := Ideal))) ⟨m, fun _ => 0, g⟩ (fun r => (∀ c : Dev Cert.RowActBwdIdeal.nD,
      r.2.mem ((c.tc : Thread Cert.RowActBwdIdeal.nD Cert.RowActBwdIdeal.τ).loc Cert.RowActBwdIdeal.main_arg0) = m ((c.tc : Thread Cert.RowActBwdIdeal.nD Cert.RowActBwdIdeal.τ).loc Cert.RowActBwdIdeal.main_arg0)
      ∧ r.2.mem ((c.tc : Thread Cert.RowActBwdIdeal.nD Cert.RowActBwdIdeal.τ).loc Cert.RowActBwdIdeal.main_arg1) = m ((c.tc : Thread Cert.RowActBwdIdeal.nD Cert.RowActBwdIdeal.τ).loc Cert.RowActBwdIdeal.main_arg1))
      ∧ r.2.sem = fun _ => 0)

def quiescent_RowActBwdRefIdeal [hRowActBwdRefIdeal : Cert.RowActBwdRefIdeal.Facts] : Prop :=
  ∀ (m : (ℓ : Loc Cert.RowActBwdRefIdeal.nD Cert.RowActBwdRefIdeal.τ Cert.RowActBwdRefIdeal.sig) → Buf (Elt Ideal) ℓ) (g : Dev Cert.RowActBwdRefIdeal.nD → PrngReg), Pre_RowActBwdRefIdeal m →
    θ_run (Cert.RowActBwdRefIdeal.defs (F := Ideal)) (onTc (τ := Cert.RowActBwdRefIdeal.τ) (Cert.RowActBwdRefIdeal.main (F := Ideal))) ⟨m, fun _ => 0, g⟩ (fun r => (∀ c : Dev Cert.RowActBwdRefIdeal.nD,
      r.2.mem ((c.tc : Thread Cert.RowActBwdRefIdeal.nD Cert.RowActBwdRefIdeal.τ).loc Cert.RowActBwdRefIdeal.main_arg0) = m ((c.tc : Thread Cert.RowActBwdRefIdeal.nD Cert.RowActBwdRefIdeal.τ).loc Cert.RowActBwdRefIdeal.main_arg0)
      ∧ r.2.mem ((c.tc : Thread Cert.RowActBwdRefIdeal.nD Cert.RowActBwdRefIdeal.τ).loc Cert.RowActBwdRefIdeal.main_arg1) = m ((c.tc : Thread Cert.RowActBwdRefIdeal.nD Cert.RowActBwdRefIdeal.τ).loc Cert.RowActBwdRefIdeal.main_arg1))
      ∧ r.2.sem = fun _ => 0)

def quiescent_RowGeluBwd [hRowGeluBwd : Cert.RowGeluBwd.Facts] : Prop :=
  ∀ (m : (ℓ : Loc Cert.RowGeluBwd.nD Cert.RowGeluBwd.τ Cert.RowGeluBwd.sig) → Buf (Elt Bits) ℓ) (g : Dev Cert.RowGeluBwd.nD → PrngReg), Pre_RowGeluBwd m →
    θ_run (Cert.RowGeluBwd.defs (F := Bits)) (onTc (τ := Cert.RowGeluBwd.τ) (Cert.RowGeluBwd.main (F := Bits))) ⟨m, fun _ => 0, g⟩ (fun r => (∀ c : Dev Cert.RowGeluBwd.nD,
      r.2.mem ((c.tc : Thread Cert.RowGeluBwd.nD Cert.RowGeluBwd.τ).loc Cert.RowGeluBwd.main_arg0) = m ((c.tc : Thread Cert.RowGeluBwd.nD Cert.RowGeluBwd.τ).loc Cert.RowGeluBwd.main_arg0)
      ∧ r.2.mem ((c.tc : Thread Cert.RowGeluBwd.nD Cert.RowGeluBwd.τ).loc Cert.RowGeluBwd.main_arg1) = m ((c.tc : Thread Cert.RowGeluBwd.nD Cert.RowGeluBwd.τ).loc Cert.RowGeluBwd.main_arg1))
      ∧ r.2.sem = fun _ => 0)

def quiescent_RowGeluBwdIdeal [hRowGeluBwdIdeal : Cert.RowGeluBwdIdeal.Facts] : Prop :=
  ∀ (m : (ℓ : Loc Cert.RowGeluBwdIdeal.nD Cert.RowGeluBwdIdeal.τ Cert.RowGeluBwdIdeal.sig) → Buf (Elt Ideal) ℓ) (g : Dev Cert.RowGeluBwdIdeal.nD → PrngReg), Pre_RowGeluBwdIdeal m →
    θ_run (Cert.RowGeluBwdIdeal.defs (F := Ideal)) (onTc (τ := Cert.RowGeluBwdIdeal.τ) (Cert.RowGeluBwdIdeal.main (F := Ideal))) ⟨m, fun _ => 0, g⟩ (fun r => (∀ c : Dev Cert.RowGeluBwdIdeal.nD,
      r.2.mem ((c.tc : Thread Cert.RowGeluBwdIdeal.nD Cert.RowGeluBwdIdeal.τ).loc Cert.RowGeluBwdIdeal.main_arg0) = m ((c.tc : Thread Cert.RowGeluBwdIdeal.nD Cert.RowGeluBwdIdeal.τ).loc Cert.RowGeluBwdIdeal.main_arg0)
      ∧ r.2.mem ((c.tc : Thread Cert.RowGeluBwdIdeal.nD Cert.RowGeluBwdIdeal.τ).loc Cert.RowGeluBwdIdeal.main_arg1) = m ((c.tc : Thread Cert.RowGeluBwdIdeal.nD Cert.RowGeluBwdIdeal.τ).loc Cert.RowGeluBwdIdeal.main_arg1))
      ∧ r.2.sem = fun _ => 0)

def quiescent_RowGeluBwdRefIdeal [hRowGeluBwdRefIdeal : Cert.RowGeluBwdRefIdeal.Facts] : Prop :=
  ∀ (m : (ℓ : Loc Cert.RowGeluBwdRefIdeal.nD Cert.RowGeluBwdRefIdeal.τ Cert.RowGeluBwdRefIdeal.sig) → Buf (Elt Ideal) ℓ) (g : Dev Cert.RowGeluBwdRefIdeal.nD → PrngReg), Pre_RowGeluBwdRefIdeal m →
    θ_run (Cert.RowGeluBwdRefIdeal.defs (F := Ideal)) (onTc (τ := Cert.RowGeluBwdRefIdeal.τ) (Cert.RowGeluBwdRefIdeal.main (F := Ideal))) ⟨m, fun _ => 0, g⟩ (fun r => (∀ c : Dev Cert.RowGeluBwdRefIdeal.nD,
      r.2.mem ((c.tc : Thread Cert.RowGeluBwdRefIdeal.nD Cert.RowGeluBwdRefIdeal.τ).loc Cert.RowGeluBwdRefIdeal.main_arg0) = m ((c.tc : Thread Cert.RowGeluBwdRefIdeal.nD Cert.RowGeluBwdRefIdeal.τ).loc Cert.RowGeluBwdRefIdeal.main_arg0)
      ∧ r.2.mem ((c.tc : Thread Cert.RowGeluBwdRefIdeal.nD Cert.RowGeluBwdRefIdeal.τ).loc Cert.RowGeluBwdRefIdeal.main_arg1) = m ((c.tc : Thread Cert.RowGeluBwdRefIdeal.nD Cert.RowGeluBwdRefIdeal.τ).loc Cert.RowGeluBwdRefIdeal.main_arg1))
      ∧ r.2.sem = fun _ => 0)

def quiescent_RowGateBwd [hRowGateBwd : Cert.RowGateBwd.Facts] : Prop :=
  ∀ (m : (ℓ : Loc Cert.RowGateBwd.nD Cert.RowGateBwd.τ Cert.RowGateBwd.sig) → Buf (Elt Bits) ℓ) (g : Dev Cert.RowGateBwd.nD → PrngReg), Pre_RowGateBwd m →
    θ_run (Cert.RowGateBwd.defs (F := Bits)) (onTc (τ := Cert.RowGateBwd.τ) (Cert.RowGateBwd.main (F := Bits))) ⟨m, fun _ => 0, g⟩ (fun r => (∀ c : Dev Cert.RowGateBwd.nD,
      r.2.mem ((c.tc : Thread Cert.RowGateBwd.nD Cert.RowGateBwd.τ).loc Cert.RowGateBwd.main_arg0) = m ((c.tc : Thread Cert.RowGateBwd.nD Cert.RowGateBwd.τ).loc Cert.RowGateBwd.main_arg0)
      ∧ r.2.mem ((c.tc : Thread Cert.RowGateBwd.nD Cert.RowGateBwd.τ).loc Cert.RowGateBwd.main_arg1) = m ((c.tc : Thread Cert.RowGateBwd.nD Cert.RowGateBwd.τ).loc Cert.RowGateBwd.main_arg1)
      ∧ r.2.mem ((c.tc : Thread Cert.RowGateBwd.nD Cert.RowGateBwd.τ).loc Cert.RowGateBwd.main_arg2) = m ((c.tc : Thread Cert.RowGateBwd.nD Cert.RowGateBwd.τ).loc Cert.RowGateBwd.main_arg2))
      ∧ r.2.sem = fun _ => 0)

def quiescent_RowGateBwdIdeal [hRowGateBwdIdeal : Cert.RowGateBwdIdeal.Facts] : Prop :=
  ∀ (m : (ℓ : Loc Cert.RowGateBwdIdeal.nD Cert.RowGateBwdIdeal.τ Cert.RowGateBwdIdeal.sig) → Buf (Elt Ideal) ℓ) (g : Dev Cert.RowGateBwdIdeal.nD → PrngReg), Pre_RowGateBwdIdeal m →
    θ_run (Cert.RowGateBwdIdeal.defs (F := Ideal)) (onTc (τ := Cert.RowGateBwdIdeal.τ) (Cert.RowGateBwdIdeal.main (F := Ideal))) ⟨m, fun _ => 0, g⟩ (fun r => (∀ c : Dev Cert.RowGateBwdIdeal.nD,
      r.2.mem ((c.tc : Thread Cert.RowGateBwdIdeal.nD Cert.RowGateBwdIdeal.τ).loc Cert.RowGateBwdIdeal.main_arg0) = m ((c.tc : Thread Cert.RowGateBwdIdeal.nD Cert.RowGateBwdIdeal.τ).loc Cert.RowGateBwdIdeal.main_arg0)
      ∧ r.2.mem ((c.tc : Thread Cert.RowGateBwdIdeal.nD Cert.RowGateBwdIdeal.τ).loc Cert.RowGateBwdIdeal.main_arg1) = m ((c.tc : Thread Cert.RowGateBwdIdeal.nD Cert.RowGateBwdIdeal.τ).loc Cert.RowGateBwdIdeal.main_arg1)
      ∧ r.2.mem ((c.tc : Thread Cert.RowGateBwdIdeal.nD Cert.RowGateBwdIdeal.τ).loc Cert.RowGateBwdIdeal.main_arg2) = m ((c.tc : Thread Cert.RowGateBwdIdeal.nD Cert.RowGateBwdIdeal.τ).loc Cert.RowGateBwdIdeal.main_arg2))
      ∧ r.2.sem = fun _ => 0)

def quiescent_RowGateBwdRefIdeal [hRowGateBwdRefIdeal : Cert.RowGateBwdRefIdeal.Facts] : Prop :=
  ∀ (m : (ℓ : Loc Cert.RowGateBwdRefIdeal.nD Cert.RowGateBwdRefIdeal.τ Cert.RowGateBwdRefIdeal.sig) → Buf (Elt Ideal) ℓ) (g : Dev Cert.RowGateBwdRefIdeal.nD → PrngReg), Pre_RowGateBwdRefIdeal m →
    θ_run (Cert.RowGateBwdRefIdeal.defs (F := Ideal)) (onTc (τ := Cert.RowGateBwdRefIdeal.τ) (Cert.RowGateBwdRefIdeal.main (F := Ideal))) ⟨m, fun _ => 0, g⟩ (fun r => (∀ c : Dev Cert.RowGateBwdRefIdeal.nD,
      r.2.mem ((c.tc : Thread Cert.RowGateBwdRefIdeal.nD Cert.RowGateBwdRefIdeal.τ).loc Cert.RowGateBwdRefIdeal.main_arg0) = m ((c.tc : Thread Cert.RowGateBwdRefIdeal.nD Cert.RowGateBwdRefIdeal.τ).loc Cert.RowGateBwdRefIdeal.main_arg0)
      ∧ r.2.mem ((c.tc : Thread Cert.RowGateBwdRefIdeal.nD Cert.RowGateBwdRefIdeal.τ).loc Cert.RowGateBwdRefIdeal.main_arg1) = m ((c.tc : Thread Cert.RowGateBwdRefIdeal.nD Cert.RowGateBwdRefIdeal.τ).loc Cert.RowGateBwdRefIdeal.main_arg1)
      ∧ r.2.mem ((c.tc : Thread Cert.RowGateBwdRefIdeal.nD Cert.RowGateBwdRefIdeal.τ).loc Cert.RowGateBwdRefIdeal.main_arg2) = m ((c.tc : Thread Cert.RowGateBwdRefIdeal.nD Cert.RowGateBwdRefIdeal.τ).loc Cert.RowGateBwdRefIdeal.main_arg2))
      ∧ r.2.sem = fun _ => 0)

def quiescent_RowOutBwd [hRowOutBwd : Cert.RowOutBwd.Facts] : Prop :=
  ∀ (m : (ℓ : Loc Cert.RowOutBwd.nD Cert.RowOutBwd.τ Cert.RowOutBwd.sig) → Buf (Elt Bits) ℓ) (g : Dev Cert.RowOutBwd.nD → PrngReg), Pre_RowOutBwd m →
    θ_run (Cert.RowOutBwd.defs (F := Bits)) (onTc (τ := Cert.RowOutBwd.τ) (Cert.RowOutBwd.main (F := Bits))) ⟨m, fun _ => 0, g⟩ (fun r => (∀ c : Dev Cert.RowOutBwd.nD,
      r.2.mem ((c.tc : Thread Cert.RowOutBwd.nD Cert.RowOutBwd.τ).loc Cert.RowOutBwd.main_arg0) = m ((c.tc : Thread Cert.RowOutBwd.nD Cert.RowOutBwd.τ).loc Cert.RowOutBwd.main_arg0)
      ∧ r.2.mem ((c.tc : Thread Cert.RowOutBwd.nD Cert.RowOutBwd.τ).loc Cert.RowOutBwd.main_arg1) = m ((c.tc : Thread Cert.RowOutBwd.nD Cert.RowOutBwd.τ).loc Cert.RowOutBwd.main_arg1)
      ∧ r.2.mem ((c.tc : Thread Cert.RowOutBwd.nD Cert.RowOutBwd.τ).loc Cert.RowOutBwd.main_arg2) = m ((c.tc : Thread Cert.RowOutBwd.nD Cert.RowOutBwd.τ).loc Cert.RowOutBwd.main_arg2)
      ∧ r.2.mem ((c.tc : Thread Cert.RowOutBwd.nD Cert.RowOutBwd.τ).loc Cert.RowOutBwd.main_arg3) = m ((c.tc : Thread Cert.RowOutBwd.nD Cert.RowOutBwd.τ).loc Cert.RowOutBwd.main_arg3)
      ∧ r.2.mem ((c.tc : Thread Cert.RowOutBwd.nD Cert.RowOutBwd.τ).loc Cert.RowOutBwd.main_arg4) = m ((c.tc : Thread Cert.RowOutBwd.nD Cert.RowOutBwd.τ).loc Cert.RowOutBwd.main_arg4))
      ∧ r.2.sem = fun _ => 0)

def quiescent_RowOutBwdIdeal [hRowOutBwdIdeal : Cert.RowOutBwdIdeal.Facts] : Prop :=
  ∀ (m : (ℓ : Loc Cert.RowOutBwdIdeal.nD Cert.RowOutBwdIdeal.τ Cert.RowOutBwdIdeal.sig) → Buf (Elt Ideal) ℓ) (g : Dev Cert.RowOutBwdIdeal.nD → PrngReg), Pre_RowOutBwdIdeal m →
    θ_run (Cert.RowOutBwdIdeal.defs (F := Ideal)) (onTc (τ := Cert.RowOutBwdIdeal.τ) (Cert.RowOutBwdIdeal.main (F := Ideal))) ⟨m, fun _ => 0, g⟩ (fun r => (∀ c : Dev Cert.RowOutBwdIdeal.nD,
      r.2.mem ((c.tc : Thread Cert.RowOutBwdIdeal.nD Cert.RowOutBwdIdeal.τ).loc Cert.RowOutBwdIdeal.main_arg0) = m ((c.tc : Thread Cert.RowOutBwdIdeal.nD Cert.RowOutBwdIdeal.τ).loc Cert.RowOutBwdIdeal.main_arg0)
      ∧ r.2.mem ((c.tc : Thread Cert.RowOutBwdIdeal.nD Cert.RowOutBwdIdeal.τ).loc Cert.RowOutBwdIdeal.main_arg1) = m ((c.tc : Thread Cert.RowOutBwdIdeal.nD Cert.RowOutBwdIdeal.τ).loc Cert.RowOutBwdIdeal.main_arg1)
      ∧ r.2.mem ((c.tc : Thread Cert.RowOutBwdIdeal.nD Cert.RowOutBwdIdeal.τ).loc Cert.RowOutBwdIdeal.main_arg2) = m ((c.tc : Thread Cert.RowOutBwdIdeal.nD Cert.RowOutBwdIdeal.τ).loc Cert.RowOutBwdIdeal.main_arg2)
      ∧ r.2.mem ((c.tc : Thread Cert.RowOutBwdIdeal.nD Cert.RowOutBwdIdeal.τ).loc Cert.RowOutBwdIdeal.main_arg3) = m ((c.tc : Thread Cert.RowOutBwdIdeal.nD Cert.RowOutBwdIdeal.τ).loc Cert.RowOutBwdIdeal.main_arg3)
      ∧ r.2.mem ((c.tc : Thread Cert.RowOutBwdIdeal.nD Cert.RowOutBwdIdeal.τ).loc Cert.RowOutBwdIdeal.main_arg4) = m ((c.tc : Thread Cert.RowOutBwdIdeal.nD Cert.RowOutBwdIdeal.τ).loc Cert.RowOutBwdIdeal.main_arg4))
      ∧ r.2.sem = fun _ => 0)

def quiescent_RowOutBwdRefIdeal [hRowOutBwdRefIdeal : Cert.RowOutBwdRefIdeal.Facts] : Prop :=
  ∀ (m : (ℓ : Loc Cert.RowOutBwdRefIdeal.nD Cert.RowOutBwdRefIdeal.τ Cert.RowOutBwdRefIdeal.sig) → Buf (Elt Ideal) ℓ) (g : Dev Cert.RowOutBwdRefIdeal.nD → PrngReg), Pre_RowOutBwdRefIdeal m →
    θ_run (Cert.RowOutBwdRefIdeal.defs (F := Ideal)) (onTc (τ := Cert.RowOutBwdRefIdeal.τ) (Cert.RowOutBwdRefIdeal.main (F := Ideal))) ⟨m, fun _ => 0, g⟩ (fun r => (∀ c : Dev Cert.RowOutBwdRefIdeal.nD,
      r.2.mem ((c.tc : Thread Cert.RowOutBwdRefIdeal.nD Cert.RowOutBwdRefIdeal.τ).loc Cert.RowOutBwdRefIdeal.main_arg0) = m ((c.tc : Thread Cert.RowOutBwdRefIdeal.nD Cert.RowOutBwdRefIdeal.τ).loc Cert.RowOutBwdRefIdeal.main_arg0)
      ∧ r.2.mem ((c.tc : Thread Cert.RowOutBwdRefIdeal.nD Cert.RowOutBwdRefIdeal.τ).loc Cert.RowOutBwdRefIdeal.main_arg1) = m ((c.tc : Thread Cert.RowOutBwdRefIdeal.nD Cert.RowOutBwdRefIdeal.τ).loc Cert.RowOutBwdRefIdeal.main_arg1)
      ∧ r.2.mem ((c.tc : Thread Cert.RowOutBwdRefIdeal.nD Cert.RowOutBwdRefIdeal.τ).loc Cert.RowOutBwdRefIdeal.main_arg2) = m ((c.tc : Thread Cert.RowOutBwdRefIdeal.nD Cert.RowOutBwdRefIdeal.τ).loc Cert.RowOutBwdRefIdeal.main_arg2)
      ∧ r.2.mem ((c.tc : Thread Cert.RowOutBwdRefIdeal.nD Cert.RowOutBwdRefIdeal.τ).loc Cert.RowOutBwdRefIdeal.main_arg3) = m ((c.tc : Thread Cert.RowOutBwdRefIdeal.nD Cert.RowOutBwdRefIdeal.τ).loc Cert.RowOutBwdRefIdeal.main_arg3)
      ∧ r.2.mem ((c.tc : Thread Cert.RowOutBwdRefIdeal.nD Cert.RowOutBwdRefIdeal.τ).loc Cert.RowOutBwdRefIdeal.main_arg4) = m ((c.tc : Thread Cert.RowOutBwdRefIdeal.nD Cert.RowOutBwdRefIdeal.τ).loc Cert.RowOutBwdRefIdeal.main_arg4))
      ∧ r.2.sem = fun _ => 0)

def quiescent_RowConvBwd [hRowConvBwd : Cert.RowConvBwd.Facts] : Prop :=
  ∀ (m : (ℓ : Loc Cert.RowConvBwd.nD Cert.RowConvBwd.τ Cert.RowConvBwd.sig) → Buf (Elt Bits) ℓ) (g : Dev Cert.RowConvBwd.nD → PrngReg), Pre_RowConvBwd m →
    θ_run (Cert.RowConvBwd.defs (F := Bits)) (onTc (τ := Cert.RowConvBwd.τ) (Cert.RowConvBwd.main (F := Bits))) ⟨m, fun _ => 0, g⟩ (fun r => (∀ c : Dev Cert.RowConvBwd.nD,
      r.2.mem ((c.tc : Thread Cert.RowConvBwd.nD Cert.RowConvBwd.τ).loc Cert.RowConvBwd.main_arg0) = m ((c.tc : Thread Cert.RowConvBwd.nD Cert.RowConvBwd.τ).loc Cert.RowConvBwd.main_arg0)
      ∧ r.2.mem ((c.tc : Thread Cert.RowConvBwd.nD Cert.RowConvBwd.τ).loc Cert.RowConvBwd.main_arg1) = m ((c.tc : Thread Cert.RowConvBwd.nD Cert.RowConvBwd.τ).loc Cert.RowConvBwd.main_arg1)
      ∧ r.2.mem ((c.tc : Thread Cert.RowConvBwd.nD Cert.RowConvBwd.τ).loc Cert.RowConvBwd.main_arg2) = m ((c.tc : Thread Cert.RowConvBwd.nD Cert.RowConvBwd.τ).loc Cert.RowConvBwd.main_arg2)
      ∧ r.2.mem ((c.tc : Thread Cert.RowConvBwd.nD Cert.RowConvBwd.τ).loc Cert.RowConvBwd.main_arg3) = m ((c.tc : Thread Cert.RowConvBwd.nD Cert.RowConvBwd.τ).loc Cert.RowConvBwd.main_arg3)
      ∧ r.2.mem ((c.tc : Thread Cert.RowConvBwd.nD Cert.RowConvBwd.τ).loc Cert.RowConvBwd.main_arg4) = m ((c.tc : Thread Cert.RowConvBwd.nD Cert.RowConvBwd.τ).loc Cert.RowConvBwd.main_arg4))
      ∧ r.2.sem = fun _ => 0)

def quiescent_RowConvBwdIdeal [hRowConvBwdIdeal : Cert.RowConvBwdIdeal.Facts] : Prop :=
  ∀ (m : (ℓ : Loc Cert.RowConvBwdIdeal.nD Cert.RowConvBwdIdeal.τ Cert.RowConvBwdIdeal.sig) → Buf (Elt Ideal) ℓ) (g : Dev Cert.RowConvBwdIdeal.nD → PrngReg), Pre_RowConvBwdIdeal m →
    θ_run (Cert.RowConvBwdIdeal.defs (F := Ideal)) (onTc (τ := Cert.RowConvBwdIdeal.τ) (Cert.RowConvBwdIdeal.main (F := Ideal))) ⟨m, fun _ => 0, g⟩ (fun r => (∀ c : Dev Cert.RowConvBwdIdeal.nD,
      r.2.mem ((c.tc : Thread Cert.RowConvBwdIdeal.nD Cert.RowConvBwdIdeal.τ).loc Cert.RowConvBwdIdeal.main_arg0) = m ((c.tc : Thread Cert.RowConvBwdIdeal.nD Cert.RowConvBwdIdeal.τ).loc Cert.RowConvBwdIdeal.main_arg0)
      ∧ r.2.mem ((c.tc : Thread Cert.RowConvBwdIdeal.nD Cert.RowConvBwdIdeal.τ).loc Cert.RowConvBwdIdeal.main_arg1) = m ((c.tc : Thread Cert.RowConvBwdIdeal.nD Cert.RowConvBwdIdeal.τ).loc Cert.RowConvBwdIdeal.main_arg1)
      ∧ r.2.mem ((c.tc : Thread Cert.RowConvBwdIdeal.nD Cert.RowConvBwdIdeal.τ).loc Cert.RowConvBwdIdeal.main_arg2) = m ((c.tc : Thread Cert.RowConvBwdIdeal.nD Cert.RowConvBwdIdeal.τ).loc Cert.RowConvBwdIdeal.main_arg2)
      ∧ r.2.mem ((c.tc : Thread Cert.RowConvBwdIdeal.nD Cert.RowConvBwdIdeal.τ).loc Cert.RowConvBwdIdeal.main_arg3) = m ((c.tc : Thread Cert.RowConvBwdIdeal.nD Cert.RowConvBwdIdeal.τ).loc Cert.RowConvBwdIdeal.main_arg3)
      ∧ r.2.mem ((c.tc : Thread Cert.RowConvBwdIdeal.nD Cert.RowConvBwdIdeal.τ).loc Cert.RowConvBwdIdeal.main_arg4) = m ((c.tc : Thread Cert.RowConvBwdIdeal.nD Cert.RowConvBwdIdeal.τ).loc Cert.RowConvBwdIdeal.main_arg4))
      ∧ r.2.sem = fun _ => 0)

def quiescent_RowConvBwdRefIdeal [hRowConvBwdRefIdeal : Cert.RowConvBwdRefIdeal.Facts] : Prop :=
  ∀ (m : (ℓ : Loc Cert.RowConvBwdRefIdeal.nD Cert.RowConvBwdRefIdeal.τ Cert.RowConvBwdRefIdeal.sig) → Buf (Elt Ideal) ℓ) (g : Dev Cert.RowConvBwdRefIdeal.nD → PrngReg), Pre_RowConvBwdRefIdeal m →
    θ_run (Cert.RowConvBwdRefIdeal.defs (F := Ideal)) (onTc (τ := Cert.RowConvBwdRefIdeal.τ) (Cert.RowConvBwdRefIdeal.main (F := Ideal))) ⟨m, fun _ => 0, g⟩ (fun r => (∀ c : Dev Cert.RowConvBwdRefIdeal.nD,
      r.2.mem ((c.tc : Thread Cert.RowConvBwdRefIdeal.nD Cert.RowConvBwdRefIdeal.τ).loc Cert.RowConvBwdRefIdeal.main_arg0) = m ((c.tc : Thread Cert.RowConvBwdRefIdeal.nD Cert.RowConvBwdRefIdeal.τ).loc Cert.RowConvBwdRefIdeal.main_arg0)
      ∧ r.2.mem ((c.tc : Thread Cert.RowConvBwdRefIdeal.nD Cert.RowConvBwdRefIdeal.τ).loc Cert.RowConvBwdRefIdeal.main_arg1) = m ((c.tc : Thread Cert.RowConvBwdRefIdeal.nD Cert.RowConvBwdRefIdeal.τ).loc Cert.RowConvBwdRefIdeal.main_arg1)
      ∧ r.2.mem ((c.tc : Thread Cert.RowConvBwdRefIdeal.nD Cert.RowConvBwdRefIdeal.τ).loc Cert.RowConvBwdRefIdeal.main_arg2) = m ((c.tc : Thread Cert.RowConvBwdRefIdeal.nD Cert.RowConvBwdRefIdeal.τ).loc Cert.RowConvBwdRefIdeal.main_arg2)
      ∧ r.2.mem ((c.tc : Thread Cert.RowConvBwdRefIdeal.nD Cert.RowConvBwdRefIdeal.τ).loc Cert.RowConvBwdRefIdeal.main_arg3) = m ((c.tc : Thread Cert.RowConvBwdRefIdeal.nD Cert.RowConvBwdRefIdeal.τ).loc Cert.RowConvBwdRefIdeal.main_arg3)
      ∧ r.2.mem ((c.tc : Thread Cert.RowConvBwdRefIdeal.nD Cert.RowConvBwdRefIdeal.τ).loc Cert.RowConvBwdRefIdeal.main_arg4) = m ((c.tc : Thread Cert.RowConvBwdRefIdeal.nD Cert.RowConvBwdRefIdeal.τ).loc Cert.RowConvBwdRefIdeal.main_arg4))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5)
      ∧ r.2.mem ((c.tc : Thread Cert.MidBwd.nD Cert.MidBwd.τ).loc Cert.MidBwd.main_arg6) = m ((c.tc : Thread Cert.MidBwd.nD Cert.MidBwd.τ).loc Cert.MidBwd.main_arg6)
      ∧ r.2.mem ((c.tc : Thread Cert.MidBwd.nD Cert.MidBwd.τ).loc Cert.MidBwd.main_arg7) = m ((c.tc : Thread Cert.MidBwd.nD Cert.MidBwd.τ).loc Cert.MidBwd.main_arg7)
      ∧ r.2.mem ((c.tc : Thread Cert.MidBwd.nD Cert.MidBwd.τ).loc Cert.MidBwd.main_arg8) = m ((c.tc : Thread Cert.MidBwd.nD Cert.MidBwd.τ).loc Cert.MidBwd.main_arg8))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
      ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6)
      ∧ r.2.mem ((c.tc : Thread Cert.MidBwdIdeal.nD Cert.MidBwdIdeal.τ).loc Cert.MidBwdIdeal.main_arg7) = m ((c.tc : Thread Cert.MidBwdIdeal.nD Cert.MidBwdIdeal.τ).loc Cert.MidBwdIdeal.main_arg7)
      ∧ r.2.mem ((c.tc : Thread Cert.MidBwdIdeal.nD Cert.MidBwdIdeal.τ).loc Cert.MidBwdIdeal.main_arg8) = m ((c.tc : Thread Cert.MidBwdIdeal.nD Cert.MidBwdIdeal.τ).loc Cert.MidBwdIdeal.main_arg8))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5)
      ∧ r.2.mem ((c.tc : Thread Cert.MidBwdRefIdeal.nD Cert.MidBwdRefIdeal.τ).loc Cert.MidBwdRefIdeal.main_arg6) = m ((c.tc : Thread Cert.MidBwdRefIdeal.nD Cert.MidBwdRefIdeal.τ).loc Cert.MidBwdRefIdeal.main_arg6)
      ∧ r.2.mem ((c.tc : Thread Cert.MidBwdRefIdeal.nD Cert.MidBwdRefIdeal.τ).loc Cert.MidBwdRefIdeal.main_arg7) = m ((c.tc : Thread Cert.MidBwdRefIdeal.nD Cert.MidBwdRefIdeal.τ).loc Cert.MidBwdRefIdeal.main_arg7)
      ∧ r.2.mem ((c.tc : Thread Cert.MidBwdRefIdeal.nD Cert.MidBwdRefIdeal.τ).loc Cert.MidBwdRefIdeal.main_arg8) = m ((c.tc : Thread Cert.MidBwdRefIdeal.nD Cert.MidBwdRefIdeal.τ).loc Cert.MidBwdRefIdeal.main_arg8))
      ∧ r.2.sem = fun _ => 0)

def quiescent_Matrices [hMatrices : Cert.Matrices.Facts] : Prop :=
  ∀ (m : (ℓ : Loc Cert.Matrices.nD Cert.Matrices.τ Cert.Matrices.sig) → Buf (Elt Bits) ℓ) (g : Dev Cert.Matrices.nD → PrngReg), Pre_Matrices m →
    θ_run (Cert.Matrices.defs (F := Bits)) (onTc (τ := Cert.Matrices.τ) (Cert.Matrices.main (F := Bits))) ⟨m, fun _ => 0, g⟩ (fun r => (∀ c : Dev Cert.Matrices.nD,
      r.2.mem ((c.tc : Thread Cert.Matrices.nD Cert.Matrices.τ).loc Cert.Matrices.main_arg0) = m ((c.tc : Thread Cert.Matrices.nD Cert.Matrices.τ).loc Cert.Matrices.main_arg0)
      ∧ r.2.mem ((c.tc : Thread Cert.Matrices.nD Cert.Matrices.τ).loc Cert.Matrices.main_arg1) = m ((c.tc : Thread Cert.Matrices.nD Cert.Matrices.τ).loc Cert.Matrices.main_arg1)
      ∧ r.2.mem ((c.tc : Thread Cert.Matrices.nD Cert.Matrices.τ).loc Cert.Matrices.main_arg2) = m ((c.tc : Thread Cert.Matrices.nD Cert.Matrices.τ).loc Cert.Matrices.main_arg2)
      ∧ r.2.mem ((c.tc : Thread Cert.Matrices.nD Cert.Matrices.τ).loc Cert.Matrices.main_arg3) = m ((c.tc : Thread Cert.Matrices.nD Cert.Matrices.τ).loc Cert.Matrices.main_arg3)
      ∧ r.2.mem ((c.tc : Thread Cert.Matrices.nD Cert.Matrices.τ).loc Cert.Matrices.main_arg4) = m ((c.tc : Thread Cert.Matrices.nD Cert.Matrices.τ).loc Cert.Matrices.main_arg4))
      ∧ r.2.sem = fun _ => 0)

def quiescent_MatricesIdeal [hMatricesIdeal : Cert.MatricesIdeal.Facts] : Prop :=
  ∀ (m : (ℓ : Loc Cert.MatricesIdeal.nD Cert.MatricesIdeal.τ Cert.MatricesIdeal.sig) → Buf (Elt Ideal) ℓ) (g : Dev Cert.MatricesIdeal.nD → PrngReg), Pre_MatricesIdeal m →
    θ_run (Cert.MatricesIdeal.defs (F := Ideal)) (onTc (τ := Cert.MatricesIdeal.τ) (Cert.MatricesIdeal.main (F := Ideal))) ⟨m, fun _ => 0, g⟩ (fun r => (∀ c : Dev Cert.MatricesIdeal.nD,
      r.2.mem ((c.tc : Thread Cert.MatricesIdeal.nD Cert.MatricesIdeal.τ).loc Cert.MatricesIdeal.main_arg0) = m ((c.tc : Thread Cert.MatricesIdeal.nD Cert.MatricesIdeal.τ).loc Cert.MatricesIdeal.main_arg0)
      ∧ r.2.mem ((c.tc : Thread Cert.MatricesIdeal.nD Cert.MatricesIdeal.τ).loc Cert.MatricesIdeal.main_arg1) = m ((c.tc : Thread Cert.MatricesIdeal.nD Cert.MatricesIdeal.τ).loc Cert.MatricesIdeal.main_arg1)
      ∧ r.2.mem ((c.tc : Thread Cert.MatricesIdeal.nD Cert.MatricesIdeal.τ).loc Cert.MatricesIdeal.main_arg2) = m ((c.tc : Thread Cert.MatricesIdeal.nD Cert.MatricesIdeal.τ).loc Cert.MatricesIdeal.main_arg2)
      ∧ r.2.mem ((c.tc : Thread Cert.MatricesIdeal.nD Cert.MatricesIdeal.τ).loc Cert.MatricesIdeal.main_arg3) = m ((c.tc : Thread Cert.MatricesIdeal.nD Cert.MatricesIdeal.τ).loc Cert.MatricesIdeal.main_arg3)
      ∧ r.2.mem ((c.tc : Thread Cert.MatricesIdeal.nD Cert.MatricesIdeal.τ).loc Cert.MatricesIdeal.main_arg4) = m ((c.tc : Thread Cert.MatricesIdeal.nD Cert.MatricesIdeal.τ).loc Cert.MatricesIdeal.main_arg4))
      ∧ r.2.sem = fun _ => 0)

def quiescent_MatricesRefIdeal [hMatricesRefIdeal : Cert.MatricesRefIdeal.Facts] : Prop :=
  ∀ (m : (ℓ : Loc Cert.MatricesRefIdeal.nD Cert.MatricesRefIdeal.τ Cert.MatricesRefIdeal.sig) → Buf (Elt Ideal) ℓ) (g : Dev Cert.MatricesRefIdeal.nD → PrngReg), Pre_MatricesRefIdeal m →
    θ_run (Cert.MatricesRefIdeal.defs (F := Ideal)) (onTc (τ := Cert.MatricesRefIdeal.τ) (Cert.MatricesRefIdeal.main (F := Ideal))) ⟨m, fun _ => 0, g⟩ (fun r => (∀ c : Dev Cert.MatricesRefIdeal.nD,
      r.2.mem ((c.tc : Thread Cert.MatricesRefIdeal.nD Cert.MatricesRefIdeal.τ).loc Cert.MatricesRefIdeal.main_arg0) = m ((c.tc : Thread Cert.MatricesRefIdeal.nD Cert.MatricesRefIdeal.τ).loc Cert.MatricesRefIdeal.main_arg0)
      ∧ r.2.mem ((c.tc : Thread Cert.MatricesRefIdeal.nD Cert.MatricesRefIdeal.τ).loc Cert.MatricesRefIdeal.main_arg1) = m ((c.tc : Thread Cert.MatricesRefIdeal.nD Cert.MatricesRefIdeal.τ).loc Cert.MatricesRefIdeal.main_arg1)
      ∧ r.2.mem ((c.tc : Thread Cert.MatricesRefIdeal.nD Cert.MatricesRefIdeal.τ).loc Cert.MatricesRefIdeal.main_arg2) = m ((c.tc : Thread Cert.MatricesRefIdeal.nD Cert.MatricesRefIdeal.τ).loc Cert.MatricesRefIdeal.main_arg2)
      ∧ r.2.mem ((c.tc : Thread Cert.MatricesRefIdeal.nD Cert.MatricesRefIdeal.τ).loc Cert.MatricesRefIdeal.main_arg3) = m ((c.tc : Thread Cert.MatricesRefIdeal.nD Cert.MatricesRefIdeal.τ).loc Cert.MatricesRefIdeal.main_arg3)
      ∧ r.2.mem ((c.tc : Thread Cert.MatricesRefIdeal.nD Cert.MatricesRefIdeal.τ).loc Cert.MatricesRefIdeal.main_arg4) = m ((c.tc : Thread Cert.MatricesRefIdeal.nD Cert.MatricesRefIdeal.τ).loc Cert.MatricesRefIdeal.main_arg4))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![23552, 512]⟩ ⟨2, ![94208, 512]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![23552, 512]⟩ ⟨2, ![94208, 512]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_arg0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![8, 11776, 512]⟩ ⟨3, ![64, 11776, 512]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨3, ![4, 11776, 512]⟩ ⟨3, ![32, 11776, 512]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨3, ![8, 11776, 512]⟩ ⟨3, ![64, 11776, 512]⟩ 0 8 c (m' (((0 : Dev Cert.SiblingRef.nD).tc : Thread Cert.SiblingRef.nD Cert.SiblingRef.τ).loc Cert.SiblingRef.main_arg0))) →
    ∃ (v0 : Buf (Elt Bits) (((0 : Dev Cert.SiblingRef.nD).tc : Thread Cert.SiblingRef.nD Cert.SiblingRef.τ).loc Cert.SiblingRef.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨3, ![4, 11776, 512]⟩ ⟨3, ![32, 11776, 512]⟩ 0 8 c v0
          ∧ r.2.mem ((c.tc : Thread Cert.Sibling.nD Cert.Sibling.τ).loc Cert.Sibling.main_arg0) = m ((c.tc : Thread Cert.Sibling.nD Cert.Sibling.τ).loc Cert.Sibling.main_arg0))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 11776, 512]⟩ ⟨3, ![32, 11776, 512]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v56)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![3, 11776, 512]⟩ ⟨3, ![24, 11776, 512]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v56) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 11776, 512]⟩ ⟨3, ![32, 11776, 512]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v56)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![3, 11776, 512]⟩ ⟨3, ![24, 11776, 512]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v56) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![11776, 512]⟩ ⟨2, ![94208, 512]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 11776, 512]⟩ ⟨3, ![8, 11776, 512]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![11776, 512]⟩ ⟨2, ![94208, 512]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 11776, 512]⟩ ⟨3, ![8, 11776, 512]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v23) = v0 c
          ∧ r.2.mem ((c.tc : Thread Cert.AdamQkvRefIdeal.nD Cert.AdamQkvRefIdeal.τ).loc Cert.AdamQkvRefIdeal.main_v4) = v1 c
          ∧ r.2.mem ((c.tc : Thread Cert.AdamQkvRefIdeal.nD Cert.AdamQkvRefIdeal.τ).loc Cert.AdamQkvRefIdeal.main_v10) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)
      ∧ m' ((c.tc : Thread Cert.AdamModRefIdeal.nD Cert.AdamModRefIdeal.τ).loc Cert.AdamModRefIdeal.main_arg4) = m ((c.tc : Thread Cert.AdamModIdeal.nD Cert.AdamModIdeal.τ).loc Cert.AdamModIdeal.main_arg4)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
          ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v1) = v0 c
          ∧ r.2.mem ((c.tc : Thread Cert.AdamModRefIdeal.nD Cert.AdamModRefIdeal.τ).loc Cert.AdamModRefIdeal.main_v25) = v1 c
          ∧ r.2.mem ((c.tc : Thread Cert.AdamModRefIdeal.nD Cert.AdamModRefIdeal.τ).loc Cert.AdamModRefIdeal.main_v6) = v2 c
          ∧ r.2.mem ((c.tc : Thread Cert.AdamModRefIdeal.nD Cert.AdamModRefIdeal.τ).loc Cert.AdamModRefIdeal.main_v12) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3)
          ∧ r.2.mem ((c.tc : Thread Cert.AdamModRefIdeal.nD Cert.AdamModRefIdeal.τ).loc Cert.AdamModRefIdeal.main_arg4) = m' ((c.tc : Thread Cert.AdamModRefIdeal.nD Cert.AdamModRefIdeal.τ).loc Cert.AdamModRefIdeal.main_arg4))

def preserves_AddOwn_AddOwnIdeal : Prop :=
  True

def algebraic_AddOwnIdeal_AddOwnRefIdeal [hAddOwnIdeal : Cert.AddOwnIdeal.Facts] [hAddOwnRefIdeal : Cert.AddOwnRefIdeal.Facts] [hPre_one_of_two : Cert.Pre_one_of_two.Facts] : Prop :=
  ∀ (m : (ℓ : Loc Cert.AddOwnIdeal.nD Cert.AddOwnIdeal.τ Cert.AddOwnIdeal.sig) → Buf (Elt Ideal) ℓ) (g : Dev Cert.AddOwnIdeal.nD → PrngReg)
    (m' : (ℓ : Loc Cert.AddOwnRefIdeal.nD Cert.AddOwnRefIdeal.τ Cert.AddOwnRefIdeal.sig) → Buf (Elt Ideal) ℓ) (g' : Dev Cert.AddOwnRefIdeal.nD → PrngReg), Pre_AddOwnIdeal m →
    (∀ c : Dev Cert.AddOwnIdeal.nD,
      m' ((c.tc : Thread Cert.AddOwnRefIdeal.nD Cert.AddOwnRefIdeal.τ).loc Cert.AddOwnRefIdeal.main_arg0) = m ((c.tc : Thread Cert.AddOwnIdeal.nD Cert.AddOwnIdeal.τ).loc Cert.AddOwnIdeal.main_arg0)
      ∧ m' ((c.tc : Thread Cert.AddOwnRefIdeal.nD Cert.AddOwnRefIdeal.τ).loc Cert.AddOwnRefIdeal.main_arg1) = m ((c.tc : Thread Cert.AddOwnIdeal.nD Cert.AddOwnIdeal.τ).loc Cert.AddOwnIdeal.main_arg1)
      ∧ m' ((c.tc : Thread Cert.AddOwnRefIdeal.nD Cert.AddOwnRefIdeal.τ).loc Cert.AddOwnRefIdeal.main_arg2) = m ((c.tc : Thread Cert.AddOwnIdeal.nD Cert.AddOwnIdeal.τ).loc Cert.AddOwnIdeal.main_arg2)) →
    ∃ (v0 : (c : Dev Cert.AddOwnIdeal.nD) → Buf (Elt Ideal) ((c.tc : Thread Cert.AddOwnIdeal.nD Cert.AddOwnIdeal.τ).loc Cert.AddOwnIdeal.main_v0)),
      θ_run (Cert.AddOwnIdeal.defs (F := Ideal)) (onTc (τ := Cert.AddOwnIdeal.τ) (Cert.AddOwnIdeal.main (F := Ideal))) ⟨m, fun _ => 0, g⟩ (fun r => ∀ c : Dev Cert.AddOwnIdeal.nD,
          r.2.mem ((c.tc : Thread Cert.AddOwnIdeal.nD Cert.AddOwnIdeal.τ).loc Cert.AddOwnIdeal.main_v0) = v0 c
          ∧ r.2.mem ((c.tc : Thread Cert.AddOwnIdeal.nD Cert.AddOwnIdeal.τ).loc Cert.AddOwnIdeal.main_arg0) = m ((c.tc : Thread Cert.AddOwnIdeal.nD Cert.AddOwnIdeal.τ).loc Cert.AddOwnIdeal.main_arg0)
          ∧ r.2.mem ((c.tc : Thread Cert.AddOwnIdeal.nD Cert.AddOwnIdeal.τ).loc Cert.AddOwnIdeal.main_arg1) = m ((c.tc : Thread Cert.AddOwnIdeal.nD Cert.AddOwnIdeal.τ).loc Cert.AddOwnIdeal.main_arg1)
          ∧ r.2.mem ((c.tc : Thread Cert.AddOwnIdeal.nD Cert.AddOwnIdeal.τ).loc Cert.AddOwnIdeal.main_arg2) = m ((c.tc : Thread Cert.AddOwnIdeal.nD Cert.AddOwnIdeal.τ).loc Cert.AddOwnIdeal.main_arg2))
      ∧ θ_run (Cert.AddOwnRefIdeal.defs (F := Ideal)) (onTc (τ := Cert.AddOwnRefIdeal.τ) (Cert.AddOwnRefIdeal.main (F := Ideal))) ⟨m', fun _ => 0, g'⟩ (fun r => ∀ c : Dev Cert.AddOwnRefIdeal.nD,
          r.2.mem ((c.tc : Thread Cert.AddOwnRefIdeal.nD Cert.AddOwnRefIdeal.τ).loc Cert.AddOwnRefIdeal.main_v8) = v0 c
          ∧ r.2.mem ((c.tc : Thread Cert.AddOwnRefIdeal.nD Cert.AddOwnRefIdeal.τ).loc Cert.AddOwnRefIdeal.main_arg0) = m' ((c.tc : Thread Cert.AddOwnRefIdeal.nD Cert.AddOwnRefIdeal.τ).loc Cert.AddOwnRefIdeal.main_arg0)
          ∧ r.2.mem ((c.tc : Thread Cert.AddOwnRefIdeal.nD Cert.AddOwnRefIdeal.τ).loc Cert.AddOwnRefIdeal.main_arg1) = m' ((c.tc : Thread Cert.AddOwnRefIdeal.nD Cert.AddOwnRefIdeal.τ).loc Cert.AddOwnRefIdeal.main_arg1)
          ∧ r.2.mem ((c.tc : Thread Cert.AddOwnRefIdeal.nD Cert.AddOwnRefIdeal.τ).loc Cert.AddOwnRefIdeal.main_arg2) = m' ((c.tc : Thread Cert.AddOwnRefIdeal.nD Cert.AddOwnRefIdeal.τ).loc Cert.AddOwnRefIdeal.main_arg2))

def bitexact_AddOwn_AddOwnRef [hAddOwn : Cert.AddOwn.Facts] [hAddOwnRef : Cert.AddOwnRef.Facts] [hPre_one_of_two : Cert.Pre_one_of_two.Facts] : Prop :=
  ∀ (m : (ℓ : Loc Cert.AddOwn.nD Cert.AddOwn.τ Cert.AddOwn.sig) → Buf (Elt Bits) ℓ) (g : Dev Cert.AddOwn.nD → PrngReg)
    (m' : (ℓ : Loc Cert.AddOwnRef.nD Cert.AddOwnRef.τ Cert.AddOwnRef.sig) → Buf (Elt Bits) ℓ) (g' : Dev Cert.AddOwnRef.nD → PrngReg), Pre_AddOwn m →
    (∀ c : Dev Cert.AddOwn.nD,
      m' ((c.tc : Thread Cert.AddOwnRef.nD Cert.AddOwnRef.τ).loc Cert.AddOwnRef.main_arg0) = m ((c.tc : Thread Cert.AddOwn.nD Cert.AddOwn.τ).loc Cert.AddOwn.main_arg0)
      ∧ m' ((c.tc : Thread Cert.AddOwnRef.nD Cert.AddOwnRef.τ).loc Cert.AddOwnRef.main_arg1) = m ((c.tc : Thread Cert.AddOwn.nD Cert.AddOwn.τ).loc Cert.AddOwn.main_arg1)
      ∧ m' ((c.tc : Thread Cert.AddOwnRef.nD Cert.AddOwnRef.τ).loc Cert.AddOwnRef.main_arg2) = m ((c.tc : Thread Cert.AddOwn.nD Cert.AddOwn.τ).loc Cert.AddOwn.main_arg2)) →
    ∃ (v0 : (c : Dev Cert.AddOwn.nD) → Buf (Elt Bits) ((c.tc : Thread Cert.AddOwn.nD Cert.AddOwn.τ).loc Cert.AddOwn.main_v0)),
      θ_run (Cert.AddOwn.defs (F := Bits)) (onTc (τ := Cert.AddOwn.τ) (Cert.AddOwn.main (F := Bits))) ⟨m, fun _ => 0, g⟩ (fun r => ∀ c : Dev Cert.AddOwn.nD,
          r.2.mem ((c.tc : Thread Cert.AddOwn.nD Cert.AddOwn.τ).loc Cert.AddOwn.main_v0) = v0 c
          ∧ r.2.mem ((c.tc : Thread Cert.AddOwn.nD Cert.AddOwn.τ).loc Cert.AddOwn.main_arg0) = m ((c.tc : Thread Cert.AddOwn.nD Cert.AddOwn.τ).loc Cert.AddOwn.main_arg0)
          ∧ r.2.mem ((c.tc : Thread Cert.AddOwn.nD Cert.AddOwn.τ).loc Cert.AddOwn.main_arg1) = m ((c.tc : Thread Cert.AddOwn.nD Cert.AddOwn.τ).loc Cert.AddOwn.main_arg1)
          ∧ r.2.mem ((c.tc : Thread Cert.AddOwn.nD Cert.AddOwn.τ).loc Cert.AddOwn.main_arg2) = m ((c.tc : Thread Cert.AddOwn.nD Cert.AddOwn.τ).loc Cert.AddOwn.main_arg2))
      ∧ θ_run (Cert.AddOwnRef.defs (F := Bits)) (onTc (τ := Cert.AddOwnRef.τ) (Cert.AddOwnRef.main (F := Bits))) ⟨m', fun _ => 0, g'⟩ (fun r => ∀ c : Dev Cert.AddOwnRef.nD,
          r.2.mem ((c.tc : Thread Cert.AddOwnRef.nD Cert.AddOwnRef.τ).loc Cert.AddOwnRef.main_v8) = v0 c
          ∧ r.2.mem ((c.tc : Thread Cert.AddOwnRef.nD Cert.AddOwnRef.τ).loc Cert.AddOwnRef.main_arg0) = m' ((c.tc : Thread Cert.AddOwnRef.nD Cert.AddOwnRef.τ).loc Cert.AddOwnRef.main_arg0)
          ∧ r.2.mem ((c.tc : Thread Cert.AddOwnRef.nD Cert.AddOwnRef.τ).loc Cert.AddOwnRef.main_arg1) = m' ((c.tc : Thread Cert.AddOwnRef.nD Cert.AddOwnRef.τ).loc Cert.AddOwnRef.main_arg1)
          ∧ r.2.mem ((c.tc : Thread Cert.AddOwnRef.nD Cert.AddOwnRef.τ).loc Cert.AddOwnRef.main_arg2) = m' ((c.tc : Thread Cert.AddOwnRef.nD Cert.AddOwnRef.τ).loc Cert.AddOwnRef.main_arg2))

def preserves_AddFour_AddFourIdeal : Prop :=
  True

def algebraic_AddFourIdeal_AddFourRefIdeal [hAddFourIdeal : Cert.AddFourIdeal.Facts] [hAddFourRefIdeal : Cert.AddFourRefIdeal.Facts] [hPre_one_of_four : Cert.Pre_one_of_four.Facts] : Prop :=
  ∀ (m : (ℓ : Loc Cert.AddFourIdeal.nD Cert.AddFourIdeal.τ Cert.AddFourIdeal.sig) → Buf (Elt Ideal) ℓ) (g : Dev Cert.AddFourIdeal.nD → PrngReg)
    (m' : (ℓ : Loc Cert.AddFourRefIdeal.nD Cert.AddFourRefIdeal.τ Cert.AddFourRefIdeal.sig) → Buf (Elt Ideal) ℓ) (g' : Dev Cert.AddFourRefIdeal.nD → PrngReg), Pre_AddFourIdeal m →
    (∀ c : Dev Cert.AddFourIdeal.nD,
      m' ((c.tc : Thread Cert.AddFourRefIdeal.nD Cert.AddFourRefIdeal.τ).loc Cert.AddFourRefIdeal.main_arg0) = m ((c.tc : Thread Cert.AddFourIdeal.nD Cert.AddFourIdeal.τ).loc Cert.AddFourIdeal.main_arg0)
      ∧ m' ((c.tc : Thread Cert.AddFourRefIdeal.nD Cert.AddFourRefIdeal.τ).loc Cert.AddFourRefIdeal.main_arg1) = m ((c.tc : Thread Cert.AddFourIdeal.nD Cert.AddFourIdeal.τ).loc Cert.AddFourIdeal.main_arg1)
      ∧ m' ((c.tc : Thread Cert.AddFourRefIdeal.nD Cert.AddFourRefIdeal.τ).loc Cert.AddFourRefIdeal.main_arg2) = m ((c.tc : Thread Cert.AddFourIdeal.nD Cert.AddFourIdeal.τ).loc Cert.AddFourIdeal.main_arg2)) →
    ∃ (v0 : (c : Dev Cert.AddFourIdeal.nD) → Buf (Elt Ideal) ((c.tc : Thread Cert.AddFourIdeal.nD Cert.AddFourIdeal.τ).loc Cert.AddFourIdeal.main_v0)),
      θ_run (Cert.AddFourIdeal.defs (F := Ideal)) (onTc (τ := Cert.AddFourIdeal.τ) (Cert.AddFourIdeal.main (F := Ideal))) ⟨m, fun _ => 0, g⟩ (fun r => ∀ c : Dev Cert.AddFourIdeal.nD,
          r.2.mem ((c.tc : Thread Cert.AddFourIdeal.nD Cert.AddFourIdeal.τ).loc Cert.AddFourIdeal.main_v0) = v0 c
          ∧ r.2.mem ((c.tc : Thread Cert.AddFourIdeal.nD Cert.AddFourIdeal.τ).loc Cert.AddFourIdeal.main_arg0) = m ((c.tc : Thread Cert.AddFourIdeal.nD Cert.AddFourIdeal.τ).loc Cert.AddFourIdeal.main_arg0)
          ∧ r.2.mem ((c.tc : Thread Cert.AddFourIdeal.nD Cert.AddFourIdeal.τ).loc Cert.AddFourIdeal.main_arg1) = m ((c.tc : Thread Cert.AddFourIdeal.nD Cert.AddFourIdeal.τ).loc Cert.AddFourIdeal.main_arg1)
          ∧ r.2.mem ((c.tc : Thread Cert.AddFourIdeal.nD Cert.AddFourIdeal.τ).loc Cert.AddFourIdeal.main_arg2) = m ((c.tc : Thread Cert.AddFourIdeal.nD Cert.AddFourIdeal.τ).loc Cert.AddFourIdeal.main_arg2))
      ∧ θ_run (Cert.AddFourRefIdeal.defs (F := Ideal)) (onTc (τ := Cert.AddFourRefIdeal.τ) (Cert.AddFourRefIdeal.main (F := Ideal))) ⟨m', fun _ => 0, g'⟩ (fun r => ∀ c : Dev Cert.AddFourRefIdeal.nD,
          r.2.mem ((c.tc : Thread Cert.AddFourRefIdeal.nD Cert.AddFourRefIdeal.τ).loc Cert.AddFourRefIdeal.main_v25) = v0 c
          ∧ r.2.mem ((c.tc : Thread Cert.AddFourRefIdeal.nD Cert.AddFourRefIdeal.τ).loc Cert.AddFourRefIdeal.main_arg0) = m' ((c.tc : Thread Cert.AddFourRefIdeal.nD Cert.AddFourRefIdeal.τ).loc Cert.AddFourRefIdeal.main_arg0)
          ∧ r.2.mem ((c.tc : Thread Cert.AddFourRefIdeal.nD Cert.AddFourRefIdeal.τ).loc Cert.AddFourRefIdeal.main_arg1) = m' ((c.tc : Thread Cert.AddFourRefIdeal.nD Cert.AddFourRefIdeal.τ).loc Cert.AddFourRefIdeal.main_arg1)
          ∧ r.2.mem ((c.tc : Thread Cert.AddFourRefIdeal.nD Cert.AddFourRefIdeal.τ).loc Cert.AddFourRefIdeal.main_arg2) = m' ((c.tc : Thread Cert.AddFourRefIdeal.nD Cert.AddFourRefIdeal.τ).loc Cert.AddFourRefIdeal.main_arg2))

def bitexact_AddFour_AddFourRef [hAddFour : Cert.AddFour.Facts] [hAddFourRef : Cert.AddFourRef.Facts] [hPre_one_of_four : Cert.Pre_one_of_four.Facts] : Prop :=
  ∀ (m : (ℓ : Loc Cert.AddFour.nD Cert.AddFour.τ Cert.AddFour.sig) → Buf (Elt Bits) ℓ) (g : Dev Cert.AddFour.nD → PrngReg)
    (m' : (ℓ : Loc Cert.AddFourRef.nD Cert.AddFourRef.τ Cert.AddFourRef.sig) → Buf (Elt Bits) ℓ) (g' : Dev Cert.AddFourRef.nD → PrngReg), Pre_AddFour m →
    (∀ c : Dev Cert.AddFour.nD,
      m' ((c.tc : Thread Cert.AddFourRef.nD Cert.AddFourRef.τ).loc Cert.AddFourRef.main_arg0) = m ((c.tc : Thread Cert.AddFour.nD Cert.AddFour.τ).loc Cert.AddFour.main_arg0)
      ∧ m' ((c.tc : Thread Cert.AddFourRef.nD Cert.AddFourRef.τ).loc Cert.AddFourRef.main_arg1) = m ((c.tc : Thread Cert.AddFour.nD Cert.AddFour.τ).loc Cert.AddFour.main_arg1)
      ∧ m' ((c.tc : Thread Cert.AddFourRef.nD Cert.AddFourRef.τ).loc Cert.AddFourRef.main_arg2) = m ((c.tc : Thread Cert.AddFour.nD Cert.AddFour.τ).loc Cert.AddFour.main_arg2)) →
    ∃ (v0 : (c : Dev Cert.AddFour.nD) → Buf (Elt Bits) ((c.tc : Thread Cert.AddFour.nD Cert.AddFour.τ).loc Cert.AddFour.main_v0)),
      θ_run (Cert.AddFour.defs (F := Bits)) (onTc (τ := Cert.AddFour.τ) (Cert.AddFour.main (F := Bits))) ⟨m, fun _ => 0, g⟩ (fun r => ∀ c : Dev Cert.AddFour.nD,
          r.2.mem ((c.tc : Thread Cert.AddFour.nD Cert.AddFour.τ).loc Cert.AddFour.main_v0) = v0 c
          ∧ r.2.mem ((c.tc : Thread Cert.AddFour.nD Cert.AddFour.τ).loc Cert.AddFour.main_arg0) = m ((c.tc : Thread Cert.AddFour.nD Cert.AddFour.τ).loc Cert.AddFour.main_arg0)
          ∧ r.2.mem ((c.tc : Thread Cert.AddFour.nD Cert.AddFour.τ).loc Cert.AddFour.main_arg1) = m ((c.tc : Thread Cert.AddFour.nD Cert.AddFour.τ).loc Cert.AddFour.main_arg1)
          ∧ r.2.mem ((c.tc : Thread Cert.AddFour.nD Cert.AddFour.τ).loc Cert.AddFour.main_arg2) = m ((c.tc : Thread Cert.AddFour.nD Cert.AddFour.τ).loc Cert.AddFour.main_arg2))
      ∧ θ_run (Cert.AddFourRef.defs (F := Bits)) (onTc (τ := Cert.AddFourRef.τ) (Cert.AddFourRef.main (F := Bits))) ⟨m', fun _ => 0, g'⟩ (fun r => ∀ c : Dev Cert.AddFourRef.nD,
          r.2.mem ((c.tc : Thread Cert.AddFourRef.nD Cert.AddFourRef.τ).loc Cert.AddFourRef.main_v25) = v0 c
          ∧ r.2.mem ((c.tc : Thread Cert.AddFourRef.nD Cert.AddFourRef.τ).loc Cert.AddFourRef.main_arg0) = m' ((c.tc : Thread Cert.AddFourRef.nD Cert.AddFourRef.τ).loc Cert.AddFourRef.main_arg0)
          ∧ r.2.mem ((c.tc : Thread Cert.AddFourRef.nD Cert.AddFourRef.τ).loc Cert.AddFourRef.main_arg1) = m' ((c.tc : Thread Cert.AddFourRef.nD Cert.AddFourRef.τ).loc Cert.AddFourRef.main_arg1)
          ∧ r.2.mem ((c.tc : Thread Cert.AddFourRef.nD Cert.AddFourRef.τ).loc Cert.AddFourRef.main_arg2) = m' ((c.tc : Thread Cert.AddFourRef.nD Cert.AddFourRef.τ).loc Cert.AddFourRef.main_arg2))

def preserves_MulWo_MulWoIdeal : Prop :=
  True

def algebraic_MulWoIdeal_MulWoRefIdeal [hMulWoIdeal : Cert.MulWoIdeal.Facts] [hMulWoRefIdeal : Cert.MulWoRefIdeal.Facts] : Prop :=
  ∀ (m : (ℓ : Loc Cert.MulWoIdeal.nD Cert.MulWoIdeal.τ Cert.MulWoIdeal.sig) → Buf (Elt Ideal) ℓ) (g : Dev Cert.MulWoIdeal.nD → PrngReg)
    (m' : (ℓ : Loc Cert.MulWoRefIdeal.nD Cert.MulWoRefIdeal.τ Cert.MulWoRefIdeal.sig) → Buf (Elt Ideal) ℓ) (g' : Dev Cert.MulWoRefIdeal.nD → PrngReg), Pre_MulWoIdeal m →
    (∀ c : Dev Cert.MulWoIdeal.nD,
      m' ((c.tc : Thread Cert.MulWoRefIdeal.nD Cert.MulWoRefIdeal.τ).loc Cert.MulWoRefIdeal.main_arg0) = m ((c.tc : Thread Cert.MulWoIdeal.nD Cert.MulWoIdeal.τ).loc Cert.MulWoIdeal.main_arg0)
      ∧ m' ((c.tc : Thread Cert.MulWoRefIdeal.nD Cert.MulWoRefIdeal.τ).loc Cert.MulWoRefIdeal.main_arg1) = m ((c.tc : Thread Cert.MulWoIdeal.nD Cert.MulWoIdeal.τ).loc Cert.MulWoIdeal.main_arg1)) →
    ∃ (v0 : (c : Dev Cert.MulWoIdeal.nD) → Buf (Elt Ideal) ((c.tc : Thread Cert.MulWoIdeal.nD Cert.MulWoIdeal.τ).loc Cert.MulWoIdeal.main_v0)),
      θ_run (Cert.MulWoIdeal.defs (F := Ideal)) (onTc (τ := Cert.MulWoIdeal.τ) (Cert.MulWoIdeal.main (F := Ideal))) ⟨m, fun _ => 0, g⟩ (fun r => ∀ c : Dev Cert.MulWoIdeal.nD,
          r.2.mem ((c.tc : Thread Cert.MulWoIdeal.nD Cert.MulWoIdeal.τ).loc Cert.MulWoIdeal.main_v0) = v0 c
          ∧ r.2.mem ((c.tc : Thread Cert.MulWoIdeal.nD Cert.MulWoIdeal.τ).loc Cert.MulWoIdeal.main_arg0) = m ((c.tc : Thread Cert.MulWoIdeal.nD Cert.MulWoIdeal.τ).loc Cert.MulWoIdeal.main_arg0)
          ∧ r.2.mem ((c.tc : Thread Cert.MulWoIdeal.nD Cert.MulWoIdeal.τ).loc Cert.MulWoIdeal.main_arg1) = m ((c.tc : Thread Cert.MulWoIdeal.nD Cert.MulWoIdeal.τ).loc Cert.MulWoIdeal.main_arg1))
      ∧ θ_run (Cert.MulWoRefIdeal.defs (F := Ideal)) (onTc (τ := Cert.MulWoRefIdeal.τ) (Cert.MulWoRefIdeal.main (F := Ideal))) ⟨m', fun _ => 0, g'⟩ (fun r => ∀ c : Dev Cert.MulWoRefIdeal.nD,
          r.2.mem ((c.tc : Thread Cert.MulWoRefIdeal.nD Cert.MulWoRefIdeal.τ).loc Cert.MulWoRefIdeal.main_v0) = v0 c
          ∧ r.2.mem ((c.tc : Thread Cert.MulWoRefIdeal.nD Cert.MulWoRefIdeal.τ).loc Cert.MulWoRefIdeal.main_arg0) = m' ((c.tc : Thread Cert.MulWoRefIdeal.nD Cert.MulWoRefIdeal.τ).loc Cert.MulWoRefIdeal.main_arg0)
          ∧ r.2.mem ((c.tc : Thread Cert.MulWoRefIdeal.nD Cert.MulWoRefIdeal.τ).loc Cert.MulWoRefIdeal.main_arg1) = m' ((c.tc : Thread Cert.MulWoRefIdeal.nD Cert.MulWoRefIdeal.τ).loc Cert.MulWoRefIdeal.main_arg1))

def preserves_MulDWo_MulDWoIdeal : Prop :=
  True

def algebraic_MulDWoIdeal_MulDWoRefIdeal [hMulDWoIdeal : Cert.MulDWoIdeal.Facts] [hMulDWoRefIdeal : Cert.MulDWoRefIdeal.Facts] : Prop :=
  ∀ (m : (ℓ : Loc Cert.MulDWoIdeal.nD Cert.MulDWoIdeal.τ Cert.MulDWoIdeal.sig) → Buf (Elt Ideal) ℓ) (g : Dev Cert.MulDWoIdeal.nD → PrngReg)
    (m' : (ℓ : Loc Cert.MulDWoRefIdeal.nD Cert.MulDWoRefIdeal.τ Cert.MulDWoRefIdeal.sig) → Buf (Elt Ideal) ℓ) (g' : Dev Cert.MulDWoRefIdeal.nD → PrngReg), Pre_MulDWoIdeal m →
    (∀ c : Dev Cert.MulDWoIdeal.nD,
      m' ((c.tc : Thread Cert.MulDWoRefIdeal.nD Cert.MulDWoRefIdeal.τ).loc Cert.MulDWoRefIdeal.main_arg0) = m ((c.tc : Thread Cert.MulDWoIdeal.nD Cert.MulDWoIdeal.τ).loc Cert.MulDWoIdeal.main_arg0)
      ∧ m' ((c.tc : Thread Cert.MulDWoRefIdeal.nD Cert.MulDWoRefIdeal.τ).loc Cert.MulDWoRefIdeal.main_arg1) = m ((c.tc : Thread Cert.MulDWoIdeal.nD Cert.MulDWoIdeal.τ).loc Cert.MulDWoIdeal.main_arg1)) →
    ∃ (v0 : (c : Dev Cert.MulDWoIdeal.nD) → Buf (Elt Ideal) ((c.tc : Thread Cert.MulDWoIdeal.nD Cert.MulDWoIdeal.τ).loc Cert.MulDWoIdeal.main_v0)),
      θ_run (Cert.MulDWoIdeal.defs (F := Ideal)) (onTc (τ := Cert.MulDWoIdeal.τ) (Cert.MulDWoIdeal.main (F := Ideal))) ⟨m, fun _ => 0, g⟩ (fun r => ∀ c : Dev Cert.MulDWoIdeal.nD,
          r.2.mem ((c.tc : Thread Cert.MulDWoIdeal.nD Cert.MulDWoIdeal.τ).loc Cert.MulDWoIdeal.main_v0) = v0 c
          ∧ r.2.mem ((c.tc : Thread Cert.MulDWoIdeal.nD Cert.MulDWoIdeal.τ).loc Cert.MulDWoIdeal.main_arg0) = m ((c.tc : Thread Cert.MulDWoIdeal.nD Cert.MulDWoIdeal.τ).loc Cert.MulDWoIdeal.main_arg0)
          ∧ r.2.mem ((c.tc : Thread Cert.MulDWoIdeal.nD Cert.MulDWoIdeal.τ).loc Cert.MulDWoIdeal.main_arg1) = m ((c.tc : Thread Cert.MulDWoIdeal.nD Cert.MulDWoIdeal.τ).loc Cert.MulDWoIdeal.main_arg1))
      ∧ θ_run (Cert.MulDWoRefIdeal.defs (F := Ideal)) (onTc (τ := Cert.MulDWoRefIdeal.τ) (Cert.MulDWoRefIdeal.main (F := Ideal))) ⟨m', fun _ => 0, g'⟩ (fun r => ∀ c : Dev Cert.MulDWoRefIdeal.nD,
          r.2.mem ((c.tc : Thread Cert.MulDWoRefIdeal.nD Cert.MulDWoRefIdeal.τ).loc Cert.MulDWoRefIdeal.main_v0) = v0 c
          ∧ r.2.mem ((c.tc : Thread Cert.MulDWoRefIdeal.nD Cert.MulDWoRefIdeal.τ).loc Cert.MulDWoRefIdeal.main_arg0) = m' ((c.tc : Thread Cert.MulDWoRefIdeal.nD Cert.MulDWoRefIdeal.τ).loc Cert.MulDWoRefIdeal.main_arg0)
          ∧ r.2.mem ((c.tc : Thread Cert.MulDWoRefIdeal.nD Cert.MulDWoRefIdeal.τ).loc Cert.MulDWoRefIdeal.main_arg1) = m' ((c.tc : Thread Cert.MulDWoRefIdeal.nD Cert.MulDWoRefIdeal.τ).loc Cert.MulDWoRefIdeal.main_arg1))

def preserves_MulQkv_MulQkvIdeal : Prop :=
  True

def algebraic_MulQkvIdeal_MulQkvRefIdeal [hMulQkvIdeal : Cert.MulQkvIdeal.Facts] [hMulQkvRefIdeal : Cert.MulQkvRefIdeal.Facts] : Prop :=
  ∀ (m : (ℓ : Loc Cert.MulQkvIdeal.nD Cert.MulQkvIdeal.τ Cert.MulQkvIdeal.sig) → Buf (Elt Ideal) ℓ) (g : Dev Cert.MulQkvIdeal.nD → PrngReg)
    (m' : (ℓ : Loc Cert.MulQkvRefIdeal.nD Cert.MulQkvRefIdeal.τ Cert.MulQkvRefIdeal.sig) → Buf (Elt Ideal) ℓ) (g' : Dev Cert.MulQkvRefIdeal.nD → PrngReg), Pre_MulQkvIdeal m →
    (∀ c : Dev Cert.MulQkvIdeal.nD,
      m' ((c.tc : Thread Cert.MulQkvRefIdeal.nD Cert.MulQkvRefIdeal.τ).loc Cert.MulQkvRefIdeal.main_arg0) = m ((c.tc : Thread Cert.MulQkvIdeal.nD Cert.MulQkvIdeal.τ).loc Cert.MulQkvIdeal.main_arg0)
      ∧ m' ((c.tc : Thread Cert.MulQkvRefIdeal.nD Cert.MulQkvRefIdeal.τ).loc Cert.MulQkvRefIdeal.main_arg1) = m ((c.tc : Thread Cert.MulQkvIdeal.nD Cert.MulQkvIdeal.τ).loc Cert.MulQkvIdeal.main_arg1)) →
    ∃ (v0 : (c : Dev Cert.MulQkvIdeal.nD) → Buf (Elt Ideal) ((c.tc : Thread Cert.MulQkvIdeal.nD Cert.MulQkvIdeal.τ).loc Cert.MulQkvIdeal.main_v0)),
      θ_run (Cert.MulQkvIdeal.defs (F := Ideal)) (onTc (τ := Cert.MulQkvIdeal.τ) (Cert.MulQkvIdeal.main (F := Ideal))) ⟨m, fun _ => 0, g⟩ (fun r => ∀ c : Dev Cert.MulQkvIdeal.nD,
          r.2.mem ((c.tc : Thread Cert.MulQkvIdeal.nD Cert.MulQkvIdeal.τ).loc Cert.MulQkvIdeal.main_v0) = v0 c
          ∧ r.2.mem ((c.tc : Thread Cert.MulQkvIdeal.nD Cert.MulQkvIdeal.τ).loc Cert.MulQkvIdeal.main_arg0) = m ((c.tc : Thread Cert.MulQkvIdeal.nD Cert.MulQkvIdeal.τ).loc Cert.MulQkvIdeal.main_arg0)
          ∧ r.2.mem ((c.tc : Thread Cert.MulQkvIdeal.nD Cert.MulQkvIdeal.τ).loc Cert.MulQkvIdeal.main_arg1) = m ((c.tc : Thread Cert.MulQkvIdeal.nD Cert.MulQkvIdeal.τ).loc Cert.MulQkvIdeal.main_arg1))
      ∧ θ_run (Cert.MulQkvRefIdeal.defs (F := Ideal)) (onTc (τ := Cert.MulQkvRefIdeal.τ) (Cert.MulQkvRefIdeal.main (F := Ideal))) ⟨m', fun _ => 0, g'⟩ (fun r => ∀ c : Dev Cert.MulQkvRefIdeal.nD,
          r.2.mem ((c.tc : Thread Cert.MulQkvRefIdeal.nD Cert.MulQkvRefIdeal.τ).loc Cert.MulQkvRefIdeal.main_v1) = v0 c
          ∧ r.2.mem ((c.tc : Thread Cert.MulQkvRefIdeal.nD Cert.MulQkvRefIdeal.τ).loc Cert.MulQkvRefIdeal.main_arg0) = m' ((c.tc : Thread Cert.MulQkvRefIdeal.nD Cert.MulQkvRefIdeal.τ).loc Cert.MulQkvRefIdeal.main_arg0)
          ∧ r.2.mem ((c.tc : Thread Cert.MulQkvRefIdeal.nD Cert.MulQkvRefIdeal.τ).loc Cert.MulQkvRefIdeal.main_arg1) = m' ((c.tc : Thread Cert.MulQkvRefIdeal.nD Cert.MulQkvRefIdeal.τ).loc Cert.MulQkvRefIdeal.main_arg1))

def preserves_MulGlu_MulGluIdeal : Prop :=
  True

def algebraic_MulGluIdeal_MulGluRefIdeal [hMulGluIdeal : Cert.MulGluIdeal.Facts] [hMulGluRefIdeal : Cert.MulGluRefIdeal.Facts] : Prop :=
  ∀ (m : (ℓ : Loc Cert.MulGluIdeal.nD Cert.MulGluIdeal.τ Cert.MulGluIdeal.sig) → Buf (Elt Ideal) ℓ) (g : Dev Cert.MulGluIdeal.nD → PrngReg)
    (m' : (ℓ : Loc Cert.MulGluRefIdeal.nD Cert.MulGluRefIdeal.τ Cert.MulGluRefIdeal.sig) → Buf (Elt Ideal) ℓ) (g' : Dev Cert.MulGluRefIdeal.nD → PrngReg), Pre_MulGluIdeal m →
    (∀ c : Dev Cert.MulGluIdeal.nD,
      m' ((c.tc : Thread Cert.MulGluRefIdeal.nD Cert.MulGluRefIdeal.τ).loc Cert.MulGluRefIdeal.main_arg0) = m ((c.tc : Thread Cert.MulGluIdeal.nD Cert.MulGluIdeal.τ).loc Cert.MulGluIdeal.main_arg0)
      ∧ m' ((c.tc : Thread Cert.MulGluRefIdeal.nD Cert.MulGluRefIdeal.τ).loc Cert.MulGluRefIdeal.main_arg1) = m ((c.tc : Thread Cert.MulGluIdeal.nD Cert.MulGluIdeal.τ).loc Cert.MulGluIdeal.main_arg1)) →
    ∃ (v0 : (c : Dev Cert.MulGluIdeal.nD) → Buf (Elt Ideal) ((c.tc : Thread Cert.MulGluIdeal.nD Cert.MulGluIdeal.τ).loc Cert.MulGluIdeal.main_v0)),
      θ_run (Cert.MulGluIdeal.defs (F := Ideal)) (onTc (τ := Cert.MulGluIdeal.τ) (Cert.MulGluIdeal.main (F := Ideal))) ⟨m, fun _ => 0, g⟩ (fun r => ∀ c : Dev Cert.MulGluIdeal.nD,
          r.2.mem ((c.tc : Thread Cert.MulGluIdeal.nD Cert.MulGluIdeal.τ).loc Cert.MulGluIdeal.main_v0) = v0 c
          ∧ r.2.mem ((c.tc : Thread Cert.MulGluIdeal.nD Cert.MulGluIdeal.τ).loc Cert.MulGluIdeal.main_arg0) = m ((c.tc : Thread Cert.MulGluIdeal.nD Cert.MulGluIdeal.τ).loc Cert.MulGluIdeal.main_arg0)
          ∧ r.2.mem ((c.tc : Thread Cert.MulGluIdeal.nD Cert.MulGluIdeal.τ).loc Cert.MulGluIdeal.main_arg1) = m ((c.tc : Thread Cert.MulGluIdeal.nD Cert.MulGluIdeal.τ).loc Cert.MulGluIdeal.main_arg1))
      ∧ θ_run (Cert.MulGluRefIdeal.defs (F := Ideal)) (onTc (τ := Cert.MulGluRefIdeal.τ) (Cert.MulGluRefIdeal.main (F := Ideal))) ⟨m', fun _ => 0, g'⟩ (fun r => ∀ c : Dev Cert.MulGluRefIdeal.nD,
          r.2.mem ((c.tc : Thread Cert.MulGluRefIdeal.nD Cert.MulGluRefIdeal.τ).loc Cert.MulGluRefIdeal.main_v0) = v0 c
          ∧ r.2.mem ((c.tc : Thread Cert.MulGluRefIdeal.nD Cert.MulGluRefIdeal.τ).loc Cert.MulGluRefIdeal.main_arg0) = m' ((c.tc : Thread Cert.MulGluRefIdeal.nD Cert.MulGluRefIdeal.τ).loc Cert.MulGluRefIdeal.main_arg0)
          ∧ r.2.mem ((c.tc : Thread Cert.MulGluRefIdeal.nD Cert.MulGluRefIdeal.τ).loc Cert.MulGluRefIdeal.main_arg1) = m' ((c.tc : Thread Cert.MulGluRefIdeal.nD Cert.MulGluRefIdeal.τ).loc Cert.MulGluRefIdeal.main_arg1))

def preserves_MulGateUp_MulGateUpIdeal : Prop :=
  True

def algebraic_MulGateUpIdeal_MulGateUpRefIdeal [hMulGateUpIdeal : Cert.MulGateUpIdeal.Facts] [hMulGateUpRefIdeal : Cert.MulGateUpRefIdeal.Facts] : Prop :=
  ∀ (m : (ℓ : Loc Cert.MulGateUpIdeal.nD Cert.MulGateUpIdeal.τ Cert.MulGateUpIdeal.sig) → Buf (Elt Ideal) ℓ) (g : Dev Cert.MulGateUpIdeal.nD → PrngReg)
    (m' : (ℓ : Loc Cert.MulGateUpRefIdeal.nD Cert.MulGateUpRefIdeal.τ Cert.MulGateUpRefIdeal.sig) → Buf (Elt Ideal) ℓ) (g' : Dev Cert.MulGateUpRefIdeal.nD → PrngReg), Pre_MulGateUpIdeal m →
    (∀ c : Dev Cert.MulGateUpIdeal.nD,
      m' ((c.tc : Thread Cert.MulGateUpRefIdeal.nD Cert.MulGateUpRefIdeal.τ).loc Cert.MulGateUpRefIdeal.main_arg0) = m ((c.tc : Thread Cert.MulGateUpIdeal.nD Cert.MulGateUpIdeal.τ).loc Cert.MulGateUpIdeal.main_arg0)
      ∧ m' ((c.tc : Thread Cert.MulGateUpRefIdeal.nD Cert.MulGateUpRefIdeal.τ).loc Cert.MulGateUpRefIdeal.main_arg1) = m ((c.tc : Thread Cert.MulGateUpIdeal.nD Cert.MulGateUpIdeal.τ).loc Cert.MulGateUpIdeal.main_arg1)) →
    ∃ (v0 : (c : Dev Cert.MulGateUpIdeal.nD) → Buf (Elt Ideal) ((c.tc : Thread Cert.MulGateUpIdeal.nD Cert.MulGateUpIdeal.τ).loc Cert.MulGateUpIdeal.main_v0)),
      θ_run (Cert.MulGateUpIdeal.defs (F := Ideal)) (onTc (τ := Cert.MulGateUpIdeal.τ) (Cert.MulGateUpIdeal.main (F := Ideal))) ⟨m, fun _ => 0, g⟩ (fun r => ∀ c : Dev Cert.MulGateUpIdeal.nD,
          r.2.mem ((c.tc : Thread Cert.MulGateUpIdeal.nD Cert.MulGateUpIdeal.τ).loc Cert.MulGateUpIdeal.main_v0) = v0 c
          ∧ r.2.mem ((c.tc : Thread Cert.MulGateUpIdeal.nD Cert.MulGateUpIdeal.τ).loc Cert.MulGateUpIdeal.main_arg0) = m ((c.tc : Thread Cert.MulGateUpIdeal.nD Cert.MulGateUpIdeal.τ).loc Cert.MulGateUpIdeal.main_arg0)
          ∧ r.2.mem ((c.tc : Thread Cert.MulGateUpIdeal.nD Cert.MulGateUpIdeal.τ).loc Cert.MulGateUpIdeal.main_arg1) = m ((c.tc : Thread Cert.MulGateUpIdeal.nD Cert.MulGateUpIdeal.τ).loc Cert.MulGateUpIdeal.main_arg1))
      ∧ θ_run (Cert.MulGateUpRefIdeal.defs (F := Ideal)) (onTc (τ := Cert.MulGateUpRefIdeal.τ) (Cert.MulGateUpRefIdeal.main (F := Ideal))) ⟨m', fun _ => 0, g'⟩ (fun r => ∀ c : Dev Cert.MulGateUpRefIdeal.nD,
          r.2.mem ((c.tc : Thread Cert.MulGateUpRefIdeal.nD Cert.MulGateUpRefIdeal.τ).loc Cert.MulGateUpRefIdeal.main_v1) = v0 c
          ∧ r.2.mem ((c.tc : Thread Cert.MulGateUpRefIdeal.nD Cert.MulGateUpRefIdeal.τ).loc Cert.MulGateUpRefIdeal.main_arg0) = m' ((c.tc : Thread Cert.MulGateUpRefIdeal.nD Cert.MulGateUpRefIdeal.τ).loc Cert.MulGateUpRefIdeal.main_arg0)
          ∧ r.2.mem ((c.tc : Thread Cert.MulGateUpRefIdeal.nD Cert.MulGateUpRefIdeal.τ).loc Cert.MulGateUpRefIdeal.main_arg1) = m' ((c.tc : Thread Cert.MulGateUpRefIdeal.nD Cert.MulGateUpRefIdeal.τ).loc Cert.MulGateUpRefIdeal.main_arg1))

def preserves_MulDown_MulDownIdeal : Prop :=
  True

def algebraic_MulDownIdeal_MulDownRefIdeal [hMulDownIdeal : Cert.MulDownIdeal.Facts] [hMulDownRefIdeal : Cert.MulDownRefIdeal.Facts] : Prop :=
  ∀ (m : (ℓ : Loc Cert.MulDownIdeal.nD Cert.MulDownIdeal.τ Cert.MulDownIdeal.sig) → Buf (Elt Ideal) ℓ) (g : Dev Cert.MulDownIdeal.nD → PrngReg)
    (m' : (ℓ : Loc Cert.MulDownRefIdeal.nD Cert.MulDownRefIdeal.τ Cert.MulDownRefIdeal.sig) → Buf (Elt Ideal) ℓ) (g' : Dev Cert.MulDownRefIdeal.nD → PrngReg), Pre_MulDownIdeal m →
    (∀ c : Dev Cert.MulDownIdeal.nD,
      m' ((c.tc : Thread Cert.MulDownRefIdeal.nD Cert.MulDownRefIdeal.τ).loc Cert.MulDownRefIdeal.main_arg0) = m ((c.tc : Thread Cert.MulDownIdeal.nD Cert.MulDownIdeal.τ).loc Cert.MulDownIdeal.main_arg0)
      ∧ m' ((c.tc : Thread Cert.MulDownRefIdeal.nD Cert.MulDownRefIdeal.τ).loc Cert.MulDownRefIdeal.main_arg1) = m ((c.tc : Thread Cert.MulDownIdeal.nD Cert.MulDownIdeal.τ).loc Cert.MulDownIdeal.main_arg1)) →
    ∃ (v0 : (c : Dev Cert.MulDownIdeal.nD) → Buf (Elt Ideal) ((c.tc : Thread Cert.MulDownIdeal.nD Cert.MulDownIdeal.τ).loc Cert.MulDownIdeal.main_v0)),
      θ_run (Cert.MulDownIdeal.defs (F := Ideal)) (onTc (τ := Cert.MulDownIdeal.τ) (Cert.MulDownIdeal.main (F := Ideal))) ⟨m, fun _ => 0, g⟩ (fun r => ∀ c : Dev Cert.MulDownIdeal.nD,
          r.2.mem ((c.tc : Thread Cert.MulDownIdeal.nD Cert.MulDownIdeal.τ).loc Cert.MulDownIdeal.main_v0) = v0 c
          ∧ r.2.mem ((c.tc : Thread Cert.MulDownIdeal.nD Cert.MulDownIdeal.τ).loc Cert.MulDownIdeal.main_arg0) = m ((c.tc : Thread Cert.MulDownIdeal.nD Cert.MulDownIdeal.τ).loc Cert.MulDownIdeal.main_arg0)
          ∧ r.2.mem ((c.tc : Thread Cert.MulDownIdeal.nD Cert.MulDownIdeal.τ).loc Cert.MulDownIdeal.main_arg1) = m ((c.tc : Thread Cert.MulDownIdeal.nD Cert.MulDownIdeal.τ).loc Cert.MulDownIdeal.main_arg1))
      ∧ θ_run (Cert.MulDownRefIdeal.defs (F := Ideal)) (onTc (τ := Cert.MulDownRefIdeal.τ) (Cert.MulDownRefIdeal.main (F := Ideal))) ⟨m', fun _ => 0, g'⟩ (fun r => ∀ c : Dev Cert.MulDownRefIdeal.nD,
          r.2.mem ((c.tc : Thread Cert.MulDownRefIdeal.nD Cert.MulDownRefIdeal.τ).loc Cert.MulDownRefIdeal.main_v0) = v0 c
          ∧ r.2.mem ((c.tc : Thread Cert.MulDownRefIdeal.nD Cert.MulDownRefIdeal.τ).loc Cert.MulDownRefIdeal.main_arg0) = m' ((c.tc : Thread Cert.MulDownRefIdeal.nD Cert.MulDownRefIdeal.τ).loc Cert.MulDownRefIdeal.main_arg0)
          ∧ r.2.mem ((c.tc : Thread Cert.MulDownRefIdeal.nD Cert.MulDownRefIdeal.τ).loc Cert.MulDownRefIdeal.main_arg1) = m' ((c.tc : Thread Cert.MulDownRefIdeal.nD Cert.MulDownRefIdeal.τ).loc Cert.MulDownRefIdeal.main_arg1))

def preserves_MulDQkv_MulDQkvIdeal : Prop :=
  True

def algebraic_MulDQkvIdeal_MulDQkvRefIdeal [hMulDQkvIdeal : Cert.MulDQkvIdeal.Facts] [hMulDQkvRefIdeal : Cert.MulDQkvRefIdeal.Facts] : Prop :=
  ∀ (m : (ℓ : Loc Cert.MulDQkvIdeal.nD Cert.MulDQkvIdeal.τ Cert.MulDQkvIdeal.sig) → Buf (Elt Ideal) ℓ) (g : Dev Cert.MulDQkvIdeal.nD → PrngReg)
    (m' : (ℓ : Loc Cert.MulDQkvRefIdeal.nD Cert.MulDQkvRefIdeal.τ Cert.MulDQkvRefIdeal.sig) → Buf (Elt Ideal) ℓ) (g' : Dev Cert.MulDQkvRefIdeal.nD → PrngReg), Pre_MulDQkvIdeal m →
    (∀ c : Dev Cert.MulDQkvIdeal.nD,
      m' ((c.tc : Thread Cert.MulDQkvRefIdeal.nD Cert.MulDQkvRefIdeal.τ).loc Cert.MulDQkvRefIdeal.main_arg0) = m ((c.tc : Thread Cert.MulDQkvIdeal.nD Cert.MulDQkvIdeal.τ).loc Cert.MulDQkvIdeal.main_arg0)
      ∧ m' ((c.tc : Thread Cert.MulDQkvRefIdeal.nD Cert.MulDQkvRefIdeal.τ).loc Cert.MulDQkvRefIdeal.main_arg1) = m ((c.tc : Thread Cert.MulDQkvIdeal.nD Cert.MulDQkvIdeal.τ).loc Cert.MulDQkvIdeal.main_arg1)) →
    ∃ (v0 : (c : Dev Cert.MulDQkvIdeal.nD) → Buf (Elt Ideal) ((c.tc : Thread Cert.MulDQkvIdeal.nD Cert.MulDQkvIdeal.τ).loc Cert.MulDQkvIdeal.main_v0)),
      θ_run (Cert.MulDQkvIdeal.defs (F := Ideal)) (onTc (τ := Cert.MulDQkvIdeal.τ) (Cert.MulDQkvIdeal.main (F := Ideal))) ⟨m, fun _ => 0, g⟩ (fun r => ∀ c : Dev Cert.MulDQkvIdeal.nD,
          r.2.mem ((c.tc : Thread Cert.MulDQkvIdeal.nD Cert.MulDQkvIdeal.τ).loc Cert.MulDQkvIdeal.main_v0) = v0 c
          ∧ r.2.mem ((c.tc : Thread Cert.MulDQkvIdeal.nD Cert.MulDQkvIdeal.τ).loc Cert.MulDQkvIdeal.main_arg0) = m ((c.tc : Thread Cert.MulDQkvIdeal.nD Cert.MulDQkvIdeal.τ).loc Cert.MulDQkvIdeal.main_arg0)
          ∧ r.2.mem ((c.tc : Thread Cert.MulDQkvIdeal.nD Cert.MulDQkvIdeal.τ).loc Cert.MulDQkvIdeal.main_arg1) = m ((c.tc : Thread Cert.MulDQkvIdeal.nD Cert.MulDQkvIdeal.τ).loc Cert.MulDQkvIdeal.main_arg1))
      ∧ θ_run (Cert.MulDQkvRefIdeal.defs (F := Ideal)) (onTc (τ := Cert.MulDQkvRefIdeal.τ) (Cert.MulDQkvRefIdeal.main (F := Ideal))) ⟨m', fun _ => 0, g'⟩ (fun r => ∀ c : Dev Cert.MulDQkvRefIdeal.nD,
          r.2.mem ((c.tc : Thread Cert.MulDQkvRefIdeal.nD Cert.MulDQkvRefIdeal.τ).loc Cert.MulDQkvRefIdeal.main_v0) = v0 c
          ∧ r.2.mem ((c.tc : Thread Cert.MulDQkvRefIdeal.nD Cert.MulDQkvRefIdeal.τ).loc Cert.MulDQkvRefIdeal.main_arg0) = m' ((c.tc : Thread Cert.MulDQkvRefIdeal.nD Cert.MulDQkvRefIdeal.τ).loc Cert.MulDQkvRefIdeal.main_arg0)
          ∧ r.2.mem ((c.tc : Thread Cert.MulDQkvRefIdeal.nD Cert.MulDQkvRefIdeal.τ).loc Cert.MulDQkvRefIdeal.main_arg1) = m' ((c.tc : Thread Cert.MulDQkvRefIdeal.nD Cert.MulDQkvRefIdeal.τ).loc Cert.MulDQkvRefIdeal.main_arg1))

def preserves_MulDGlu_MulDGluIdeal : Prop :=
  True

def algebraic_MulDGluIdeal_MulDGluRefIdeal [hMulDGluIdeal : Cert.MulDGluIdeal.Facts] [hMulDGluRefIdeal : Cert.MulDGluRefIdeal.Facts] : Prop :=
  ∀ (m : (ℓ : Loc Cert.MulDGluIdeal.nD Cert.MulDGluIdeal.τ Cert.MulDGluIdeal.sig) → Buf (Elt Ideal) ℓ) (g : Dev Cert.MulDGluIdeal.nD → PrngReg)
    (m' : (ℓ : Loc Cert.MulDGluRefIdeal.nD Cert.MulDGluRefIdeal.τ Cert.MulDGluRefIdeal.sig) → Buf (Elt Ideal) ℓ) (g' : Dev Cert.MulDGluRefIdeal.nD → PrngReg), Pre_MulDGluIdeal m →
    (∀ c : Dev Cert.MulDGluIdeal.nD,
      m' ((c.tc : Thread Cert.MulDGluRefIdeal.nD Cert.MulDGluRefIdeal.τ).loc Cert.MulDGluRefIdeal.main_arg0) = m ((c.tc : Thread Cert.MulDGluIdeal.nD Cert.MulDGluIdeal.τ).loc Cert.MulDGluIdeal.main_arg0)
      ∧ m' ((c.tc : Thread Cert.MulDGluRefIdeal.nD Cert.MulDGluRefIdeal.τ).loc Cert.MulDGluRefIdeal.main_arg1) = m ((c.tc : Thread Cert.MulDGluIdeal.nD Cert.MulDGluIdeal.τ).loc Cert.MulDGluIdeal.main_arg1)) →
    ∃ (v0 : (c : Dev Cert.MulDGluIdeal.nD) → Buf (Elt Ideal) ((c.tc : Thread Cert.MulDGluIdeal.nD Cert.MulDGluIdeal.τ).loc Cert.MulDGluIdeal.main_v0)),
      θ_run (Cert.MulDGluIdeal.defs (F := Ideal)) (onTc (τ := Cert.MulDGluIdeal.τ) (Cert.MulDGluIdeal.main (F := Ideal))) ⟨m, fun _ => 0, g⟩ (fun r => ∀ c : Dev Cert.MulDGluIdeal.nD,
          r.2.mem ((c.tc : Thread Cert.MulDGluIdeal.nD Cert.MulDGluIdeal.τ).loc Cert.MulDGluIdeal.main_v0) = v0 c
          ∧ r.2.mem ((c.tc : Thread Cert.MulDGluIdeal.nD Cert.MulDGluIdeal.τ).loc Cert.MulDGluIdeal.main_arg0) = m ((c.tc : Thread Cert.MulDGluIdeal.nD Cert.MulDGluIdeal.τ).loc Cert.MulDGluIdeal.main_arg0)
          ∧ r.2.mem ((c.tc : Thread Cert.MulDGluIdeal.nD Cert.MulDGluIdeal.τ).loc Cert.MulDGluIdeal.main_arg1) = m ((c.tc : Thread Cert.MulDGluIdeal.nD Cert.MulDGluIdeal.τ).loc Cert.MulDGluIdeal.main_arg1))
      ∧ θ_run (Cert.MulDGluRefIdeal.defs (F := Ideal)) (onTc (τ := Cert.MulDGluRefIdeal.τ) (Cert.MulDGluRefIdeal.main (F := Ideal))) ⟨m', fun _ => 0, g'⟩ (fun r => ∀ c : Dev Cert.MulDGluRefIdeal.nD,
          r.2.mem ((c.tc : Thread Cert.MulDGluRefIdeal.nD Cert.MulDGluRefIdeal.τ).loc Cert.MulDGluRefIdeal.main_v0) = v0 c
          ∧ r.2.mem ((c.tc : Thread Cert.MulDGluRefIdeal.nD Cert.MulDGluRefIdeal.τ).loc Cert.MulDGluRefIdeal.main_arg0) = m' ((c.tc : Thread Cert.MulDGluRefIdeal.nD Cert.MulDGluRefIdeal.τ).loc Cert.MulDGluRefIdeal.main_arg0)
          ∧ r.2.mem ((c.tc : Thread Cert.MulDGluRefIdeal.nD Cert.MulDGluRefIdeal.τ).loc Cert.MulDGluRefIdeal.main_arg1) = m' ((c.tc : Thread Cert.MulDGluRefIdeal.nD Cert.MulDGluRefIdeal.τ).loc Cert.MulDGluRefIdeal.main_arg1))

def preserves_MulDGateUp_MulDGateUpIdeal : Prop :=
  True

def algebraic_MulDGateUpIdeal_MulDGateUpRefIdeal [hMulDGateUpIdeal : Cert.MulDGateUpIdeal.Facts] [hMulDGateUpRefIdeal : Cert.MulDGateUpRefIdeal.Facts] : Prop :=
  ∀ (m : (ℓ : Loc Cert.MulDGateUpIdeal.nD Cert.MulDGateUpIdeal.τ Cert.MulDGateUpIdeal.sig) → Buf (Elt Ideal) ℓ) (g : Dev Cert.MulDGateUpIdeal.nD → PrngReg)
    (m' : (ℓ : Loc Cert.MulDGateUpRefIdeal.nD Cert.MulDGateUpRefIdeal.τ Cert.MulDGateUpRefIdeal.sig) → Buf (Elt Ideal) ℓ) (g' : Dev Cert.MulDGateUpRefIdeal.nD → PrngReg), Pre_MulDGateUpIdeal m →
    (∀ c : Dev Cert.MulDGateUpIdeal.nD,
      m' ((c.tc : Thread Cert.MulDGateUpRefIdeal.nD Cert.MulDGateUpRefIdeal.τ).loc Cert.MulDGateUpRefIdeal.main_arg0) = m ((c.tc : Thread Cert.MulDGateUpIdeal.nD Cert.MulDGateUpIdeal.τ).loc Cert.MulDGateUpIdeal.main_arg0)
      ∧ m' ((c.tc : Thread Cert.MulDGateUpRefIdeal.nD Cert.MulDGateUpRefIdeal.τ).loc Cert.MulDGateUpRefIdeal.main_arg1) = m ((c.tc : Thread Cert.MulDGateUpIdeal.nD Cert.MulDGateUpIdeal.τ).loc Cert.MulDGateUpIdeal.main_arg1)) →
    ∃ (v0 : (c : Dev Cert.MulDGateUpIdeal.nD) → Buf (Elt Ideal) ((c.tc : Thread Cert.MulDGateUpIdeal.nD Cert.MulDGateUpIdeal.τ).loc Cert.MulDGateUpIdeal.main_v0)),
      θ_run (Cert.MulDGateUpIdeal.defs (F := Ideal)) (onTc (τ := Cert.MulDGateUpIdeal.τ) (Cert.MulDGateUpIdeal.main (F := Ideal))) ⟨m, fun _ => 0, g⟩ (fun r => ∀ c : Dev Cert.MulDGateUpIdeal.nD,
          r.2.mem ((c.tc : Thread Cert.MulDGateUpIdeal.nD Cert.MulDGateUpIdeal.τ).loc Cert.MulDGateUpIdeal.main_v0) = v0 c
          ∧ r.2.mem ((c.tc : Thread Cert.MulDGateUpIdeal.nD Cert.MulDGateUpIdeal.τ).loc Cert.MulDGateUpIdeal.main_arg0) = m ((c.tc : Thread Cert.MulDGateUpIdeal.nD Cert.MulDGateUpIdeal.τ).loc Cert.MulDGateUpIdeal.main_arg0)
          ∧ r.2.mem ((c.tc : Thread Cert.MulDGateUpIdeal.nD Cert.MulDGateUpIdeal.τ).loc Cert.MulDGateUpIdeal.main_arg1) = m ((c.tc : Thread Cert.MulDGateUpIdeal.nD Cert.MulDGateUpIdeal.τ).loc Cert.MulDGateUpIdeal.main_arg1))
      ∧ θ_run (Cert.MulDGateUpRefIdeal.defs (F := Ideal)) (onTc (τ := Cert.MulDGateUpRefIdeal.τ) (Cert.MulDGateUpRefIdeal.main (F := Ideal))) ⟨m', fun _ => 0, g'⟩ (fun r => ∀ c : Dev Cert.MulDGateUpRefIdeal.nD,
          r.2.mem ((c.tc : Thread Cert.MulDGateUpRefIdeal.nD Cert.MulDGateUpRefIdeal.τ).loc Cert.MulDGateUpRefIdeal.main_v0) = v0 c
          ∧ r.2.mem ((c.tc : Thread Cert.MulDGateUpRefIdeal.nD Cert.MulDGateUpRefIdeal.τ).loc Cert.MulDGateUpRefIdeal.main_arg0) = m' ((c.tc : Thread Cert.MulDGateUpRefIdeal.nD Cert.MulDGateUpRefIdeal.τ).loc Cert.MulDGateUpRefIdeal.main_arg0)
          ∧ r.2.mem ((c.tc : Thread Cert.MulDGateUpRefIdeal.nD Cert.MulDGateUpRefIdeal.τ).loc Cert.MulDGateUpRefIdeal.main_arg1) = m' ((c.tc : Thread Cert.MulDGateUpRefIdeal.nD Cert.MulDGateUpRefIdeal.τ).loc Cert.MulDGateUpRefIdeal.main_arg1))

def preserves_MulDDown_MulDDownIdeal : Prop :=
  True

def algebraic_MulDDownIdeal_MulDDownRefIdeal [hMulDDownIdeal : Cert.MulDDownIdeal.Facts] [hMulDDownRefIdeal : Cert.MulDDownRefIdeal.Facts] : Prop :=
  ∀ (m : (ℓ : Loc Cert.MulDDownIdeal.nD Cert.MulDDownIdeal.τ Cert.MulDDownIdeal.sig) → Buf (Elt Ideal) ℓ) (g : Dev Cert.MulDDownIdeal.nD → PrngReg)
    (m' : (ℓ : Loc Cert.MulDDownRefIdeal.nD Cert.MulDDownRefIdeal.τ Cert.MulDDownRefIdeal.sig) → Buf (Elt Ideal) ℓ) (g' : Dev Cert.MulDDownRefIdeal.nD → PrngReg), Pre_MulDDownIdeal m →
    (∀ c : Dev Cert.MulDDownIdeal.nD,
      m' ((c.tc : Thread Cert.MulDDownRefIdeal.nD Cert.MulDDownRefIdeal.τ).loc Cert.MulDDownRefIdeal.main_arg0) = m ((c.tc : Thread Cert.MulDDownIdeal.nD Cert.MulDDownIdeal.τ).loc Cert.MulDDownIdeal.main_arg0)
      ∧ m' ((c.tc : Thread Cert.MulDDownRefIdeal.nD Cert.MulDDownRefIdeal.τ).loc Cert.MulDDownRefIdeal.main_arg1) = m ((c.tc : Thread Cert.MulDDownIdeal.nD Cert.MulDDownIdeal.τ).loc Cert.MulDDownIdeal.main_arg1)) →
    ∃ (v0 : (c : Dev Cert.MulDDownIdeal.nD) → Buf (Elt Ideal) ((c.tc : Thread Cert.MulDDownIdeal.nD Cert.MulDDownIdeal.τ).loc Cert.MulDDownIdeal.main_v0)),
      θ_run (Cert.MulDDownIdeal.defs (F := Ideal)) (onTc (τ := Cert.MulDDownIdeal.τ) (Cert.MulDDownIdeal.main (F := Ideal))) ⟨m, fun _ => 0, g⟩ (fun r => ∀ c : Dev Cert.MulDDownIdeal.nD,
          r.2.mem ((c.tc : Thread Cert.MulDDownIdeal.nD Cert.MulDDownIdeal.τ).loc Cert.MulDDownIdeal.main_v0) = v0 c
          ∧ r.2.mem ((c.tc : Thread Cert.MulDDownIdeal.nD Cert.MulDDownIdeal.τ).loc Cert.MulDDownIdeal.main_arg0) = m ((c.tc : Thread Cert.MulDDownIdeal.nD Cert.MulDDownIdeal.τ).loc Cert.MulDDownIdeal.main_arg0)
          ∧ r.2.mem ((c.tc : Thread Cert.MulDDownIdeal.nD Cert.MulDDownIdeal.τ).loc Cert.MulDDownIdeal.main_arg1) = m ((c.tc : Thread Cert.MulDDownIdeal.nD Cert.MulDDownIdeal.τ).loc Cert.MulDDownIdeal.main_arg1))
      ∧ θ_run (Cert.MulDDownRefIdeal.defs (F := Ideal)) (onTc (τ := Cert.MulDDownRefIdeal.τ) (Cert.MulDDownRefIdeal.main (F := Ideal))) ⟨m', fun _ => 0, g'⟩ (fun r => ∀ c : Dev Cert.MulDDownRefIdeal.nD,
          r.2.mem ((c.tc : Thread Cert.MulDDownRefIdeal.nD Cert.MulDDownRefIdeal.τ).loc Cert.MulDDownRefIdeal.main_v0) = v0 c
          ∧ r.2.mem ((c.tc : Thread Cert.MulDDownRefIdeal.nD Cert.MulDDownRefIdeal.τ).loc Cert.MulDDownRefIdeal.main_arg0) = m' ((c.tc : Thread Cert.MulDDownRefIdeal.nD Cert.MulDDownRefIdeal.τ).loc Cert.MulDDownRefIdeal.main_arg0)
          ∧ r.2.mem ((c.tc : Thread Cert.MulDDownRefIdeal.nD Cert.MulDDownRefIdeal.τ).loc Cert.MulDDownRefIdeal.main_arg1) = m' ((c.tc : Thread Cert.MulDDownRefIdeal.nD Cert.MulDDownRefIdeal.τ).loc Cert.MulDDownRefIdeal.main_arg1))

def preserves_MulBackO_MulBackOIdeal : Prop :=
  True

def algebraic_MulBackOIdeal_MulBackORefIdeal [hMulBackOIdeal : Cert.MulBackOIdeal.Facts] [hMulBackORefIdeal : Cert.MulBackORefIdeal.Facts] : Prop :=
  ∀ (m : (ℓ : Loc Cert.MulBackOIdeal.nD Cert.MulBackOIdeal.τ Cert.MulBackOIdeal.sig) → Buf (Elt Ideal) ℓ) (g : Dev Cert.MulBackOIdeal.nD → PrngReg)
    (m' : (ℓ : Loc Cert.MulBackORefIdeal.nD Cert.MulBackORefIdeal.τ Cert.MulBackORefIdeal.sig) → Buf (Elt Ideal) ℓ) (g' : Dev Cert.MulBackORefIdeal.nD → PrngReg), Pre_MulBackOIdeal m →
    (∀ c : Dev Cert.MulBackOIdeal.nD,
      m' ((c.tc : Thread Cert.MulBackORefIdeal.nD Cert.MulBackORefIdeal.τ).loc Cert.MulBackORefIdeal.main_arg0) = m ((c.tc : Thread Cert.MulBackOIdeal.nD Cert.MulBackOIdeal.τ).loc Cert.MulBackOIdeal.main_arg0)
      ∧ m' ((c.tc : Thread Cert.MulBackORefIdeal.nD Cert.MulBackORefIdeal.τ).loc Cert.MulBackORefIdeal.main_arg1) = m ((c.tc : Thread Cert.MulBackOIdeal.nD Cert.MulBackOIdeal.τ).loc Cert.MulBackOIdeal.main_arg1)) →
    ∃ (v0 : (c : Dev Cert.MulBackOIdeal.nD) → Buf (Elt Ideal) ((c.tc : Thread Cert.MulBackOIdeal.nD Cert.MulBackOIdeal.τ).loc Cert.MulBackOIdeal.main_v0)),
      θ_run (Cert.MulBackOIdeal.defs (F := Ideal)) (onTc (τ := Cert.MulBackOIdeal.τ) (Cert.MulBackOIdeal.main (F := Ideal))) ⟨m, fun _ => 0, g⟩ (fun r => ∀ c : Dev Cert.MulBackOIdeal.nD,
          r.2.mem ((c.tc : Thread Cert.MulBackOIdeal.nD Cert.MulBackOIdeal.τ).loc Cert.MulBackOIdeal.main_v0) = v0 c
          ∧ r.2.mem ((c.tc : Thread Cert.MulBackOIdeal.nD Cert.MulBackOIdeal.τ).loc Cert.MulBackOIdeal.main_arg0) = m ((c.tc : Thread Cert.MulBackOIdeal.nD Cert.MulBackOIdeal.τ).loc Cert.MulBackOIdeal.main_arg0)
          ∧ r.2.mem ((c.tc : Thread Cert.MulBackOIdeal.nD Cert.MulBackOIdeal.τ).loc Cert.MulBackOIdeal.main_arg1) = m ((c.tc : Thread Cert.MulBackOIdeal.nD Cert.MulBackOIdeal.τ).loc Cert.MulBackOIdeal.main_arg1))
      ∧ θ_run (Cert.MulBackORefIdeal.defs (F := Ideal)) (onTc (τ := Cert.MulBackORefIdeal.τ) (Cert.MulBackORefIdeal.main (F := Ideal))) ⟨m', fun _ => 0, g'⟩ (fun r => ∀ c : Dev Cert.MulBackORefIdeal.nD,
          r.2.mem ((c.tc : Thread Cert.MulBackORefIdeal.nD Cert.MulBackORefIdeal.τ).loc Cert.MulBackORefIdeal.main_v1) = v0 c
          ∧ r.2.mem ((c.tc : Thread Cert.MulBackORefIdeal.nD Cert.MulBackORefIdeal.τ).loc Cert.MulBackORefIdeal.main_arg0) = m' ((c.tc : Thread Cert.MulBackORefIdeal.nD Cert.MulBackORefIdeal.τ).loc Cert.MulBackORefIdeal.main_arg0)
          ∧ r.2.mem ((c.tc : Thread Cert.MulBackORefIdeal.nD Cert.MulBackORefIdeal.τ).loc Cert.MulBackORefIdeal.main_arg1) = m' ((c.tc : Thread Cert.MulBackORefIdeal.nD Cert.MulBackORefIdeal.τ).loc Cert.MulBackORefIdeal.main_arg1))

def preserves_MulBackConv_MulBackConvIdeal : Prop :=
  True

def algebraic_MulBackConvIdeal_MulBackConvRefIdeal [hMulBackConvIdeal : Cert.MulBackConvIdeal.Facts] [hMulBackConvRefIdeal : Cert.MulBackConvRefIdeal.Facts] : Prop :=
  ∀ (m : (ℓ : Loc Cert.MulBackConvIdeal.nD Cert.MulBackConvIdeal.τ Cert.MulBackConvIdeal.sig) → Buf (Elt Ideal) ℓ) (g : Dev Cert.MulBackConvIdeal.nD → PrngReg)
    (m' : (ℓ : Loc Cert.MulBackConvRefIdeal.nD Cert.MulBackConvRefIdeal.τ Cert.MulBackConvRefIdeal.sig) → Buf (Elt Ideal) ℓ) (g' : Dev Cert.MulBackConvRefIdeal.nD → PrngReg), Pre_MulBackConvIdeal m →
    (∀ c : Dev Cert.MulBackConvIdeal.nD,
      m' ((c.tc : Thread Cert.MulBackConvRefIdeal.nD Cert.MulBackConvRefIdeal.τ).loc Cert.MulBackConvRefIdeal.main_arg0) = m ((c.tc : Thread Cert.MulBackConvIdeal.nD Cert.MulBackConvIdeal.τ).loc Cert.MulBackConvIdeal.main_arg0)
      ∧ m' ((c.tc : Thread Cert.MulBackConvRefIdeal.nD Cert.MulBackConvRefIdeal.τ).loc Cert.MulBackConvRefIdeal.main_arg1) = m ((c.tc : Thread Cert.MulBackConvIdeal.nD Cert.MulBackConvIdeal.τ).loc Cert.MulBackConvIdeal.main_arg1)) →
    ∃ (v0 : (c : Dev Cert.MulBackConvIdeal.nD) → Buf (Elt Ideal) ((c.tc : Thread Cert.MulBackConvIdeal.nD Cert.MulBackConvIdeal.τ).loc Cert.MulBackConvIdeal.main_v0)),
      θ_run (Cert.MulBackConvIdeal.defs (F := Ideal)) (onTc (τ := Cert.MulBackConvIdeal.τ) (Cert.MulBackConvIdeal.main (F := Ideal))) ⟨m, fun _ => 0, g⟩ (fun r => ∀ c : Dev Cert.MulBackConvIdeal.nD,
          r.2.mem ((c.tc : Thread Cert.MulBackConvIdeal.nD Cert.MulBackConvIdeal.τ).loc Cert.MulBackConvIdeal.main_v0) = v0 c
          ∧ r.2.mem ((c.tc : Thread Cert.MulBackConvIdeal.nD Cert.MulBackConvIdeal.τ).loc Cert.MulBackConvIdeal.main_arg0) = m ((c.tc : Thread Cert.MulBackConvIdeal.nD Cert.MulBackConvIdeal.τ).loc Cert.MulBackConvIdeal.main_arg0)
          ∧ r.2.mem ((c.tc : Thread Cert.MulBackConvIdeal.nD Cert.MulBackConvIdeal.τ).loc Cert.MulBackConvIdeal.main_arg1) = m ((c.tc : Thread Cert.MulBackConvIdeal.nD Cert.MulBackConvIdeal.τ).loc Cert.MulBackConvIdeal.main_arg1))
      ∧ θ_run (Cert.MulBackConvRefIdeal.defs (F := Ideal)) (onTc (τ := Cert.MulBackConvRefIdeal.τ) (Cert.MulBackConvRefIdeal.main (F := Ideal))) ⟨m', fun _ => 0, g'⟩ (fun r => ∀ c : Dev Cert.MulBackConvRefIdeal.nD,
          r.2.mem ((c.tc : Thread Cert.MulBackConvRefIdeal.nD Cert.MulBackConvRefIdeal.τ).loc Cert.MulBackConvRefIdeal.main_v0) = v0 c
          ∧ r.2.mem ((c.tc : Thread Cert.MulBackConvRefIdeal.nD Cert.MulBackConvRefIdeal.τ).loc Cert.MulBackConvRefIdeal.main_arg0) = m' ((c.tc : Thread Cert.MulBackConvRefIdeal.nD Cert.MulBackConvRefIdeal.τ).loc Cert.MulBackConvRefIdeal.main_arg0)
          ∧ r.2.mem ((c.tc : Thread Cert.MulBackConvRefIdeal.nD Cert.MulBackConvRefIdeal.τ).loc Cert.MulBackConvRefIdeal.main_arg1) = m' ((c.tc : Thread Cert.MulBackConvRefIdeal.nD Cert.MulBackConvRefIdeal.τ).loc Cert.MulBackConvRefIdeal.main_arg1))

def preserves_MulBackQkv_MulBackQkvIdeal : Prop :=
  True

def algebraic_MulBackQkvIdeal_MulBackQkvRefIdeal [hMulBackQkvIdeal : Cert.MulBackQkvIdeal.Facts] [hMulBackQkvRefIdeal : Cert.MulBackQkvRefIdeal.Facts] : Prop :=
  ∀ (m : (ℓ : Loc Cert.MulBackQkvIdeal.nD Cert.MulBackQkvIdeal.τ Cert.MulBackQkvIdeal.sig) → Buf (Elt Ideal) ℓ) (g : Dev Cert.MulBackQkvIdeal.nD → PrngReg)
    (m' : (ℓ : Loc Cert.MulBackQkvRefIdeal.nD Cert.MulBackQkvRefIdeal.τ Cert.MulBackQkvRefIdeal.sig) → Buf (Elt Ideal) ℓ) (g' : Dev Cert.MulBackQkvRefIdeal.nD → PrngReg), Pre_MulBackQkvIdeal m →
    (∀ c : Dev Cert.MulBackQkvIdeal.nD,
      m' ((c.tc : Thread Cert.MulBackQkvRefIdeal.nD Cert.MulBackQkvRefIdeal.τ).loc Cert.MulBackQkvRefIdeal.main_arg0) = m ((c.tc : Thread Cert.MulBackQkvIdeal.nD Cert.MulBackQkvIdeal.τ).loc Cert.MulBackQkvIdeal.main_arg0)
      ∧ m' ((c.tc : Thread Cert.MulBackQkvRefIdeal.nD Cert.MulBackQkvRefIdeal.τ).loc Cert.MulBackQkvRefIdeal.main_arg1) = m ((c.tc : Thread Cert.MulBackQkvIdeal.nD Cert.MulBackQkvIdeal.τ).loc Cert.MulBackQkvIdeal.main_arg1)) →
    ∃ (v0 : (c : Dev Cert.MulBackQkvIdeal.nD) → Buf (Elt Ideal) ((c.tc : Thread Cert.MulBackQkvIdeal.nD Cert.MulBackQkvIdeal.τ).loc Cert.MulBackQkvIdeal.main_v0)),
      θ_run (Cert.MulBackQkvIdeal.defs (F := Ideal)) (onTc (τ := Cert.MulBackQkvIdeal.τ) (Cert.MulBackQkvIdeal.main (F := Ideal))) ⟨m, fun _ => 0, g⟩ (fun r => ∀ c : Dev Cert.MulBackQkvIdeal.nD,
          r.2.mem ((c.tc : Thread Cert.MulBackQkvIdeal.nD Cert.MulBackQkvIdeal.τ).loc Cert.MulBackQkvIdeal.main_v0) = v0 c
          ∧ r.2.mem ((c.tc : Thread Cert.MulBackQkvIdeal.nD Cert.MulBackQkvIdeal.τ).loc Cert.MulBackQkvIdeal.main_arg0) = m ((c.tc : Thread Cert.MulBackQkvIdeal.nD Cert.MulBackQkvIdeal.τ).loc Cert.MulBackQkvIdeal.main_arg0)
          ∧ r.2.mem ((c.tc : Thread Cert.MulBackQkvIdeal.nD Cert.MulBackQkvIdeal.τ).loc Cert.MulBackQkvIdeal.main_arg1) = m ((c.tc : Thread Cert.MulBackQkvIdeal.nD Cert.MulBackQkvIdeal.τ).loc Cert.MulBackQkvIdeal.main_arg1))
      ∧ θ_run (Cert.MulBackQkvRefIdeal.defs (F := Ideal)) (onTc (τ := Cert.MulBackQkvRefIdeal.τ) (Cert.MulBackQkvRefIdeal.main (F := Ideal))) ⟨m', fun _ => 0, g'⟩ (fun r => ∀ c : Dev Cert.MulBackQkvRefIdeal.nD,
          r.2.mem ((c.tc : Thread Cert.MulBackQkvRefIdeal.nD Cert.MulBackQkvRefIdeal.τ).loc Cert.MulBackQkvRefIdeal.main_v0) = v0 c
          ∧ r.2.mem ((c.tc : Thread Cert.MulBackQkvRefIdeal.nD Cert.MulBackQkvRefIdeal.τ).loc Cert.MulBackQkvRefIdeal.main_arg0) = m' ((c.tc : Thread Cert.MulBackQkvRefIdeal.nD Cert.MulBackQkvRefIdeal.τ).loc Cert.MulBackQkvRefIdeal.main_arg0)
          ∧ r.2.mem ((c.tc : Thread Cert.MulBackQkvRefIdeal.nD Cert.MulBackQkvRefIdeal.τ).loc Cert.MulBackQkvRefIdeal.main_arg1) = m' ((c.tc : Thread Cert.MulBackQkvRefIdeal.nD Cert.MulBackQkvRefIdeal.τ).loc Cert.MulBackQkvRefIdeal.main_arg1))

def preserves_MulBackGlu_MulBackGluIdeal : Prop :=
  True

def algebraic_MulBackGluIdeal_MulBackGluRefIdeal [hMulBackGluIdeal : Cert.MulBackGluIdeal.Facts] [hMulBackGluRefIdeal : Cert.MulBackGluRefIdeal.Facts] : Prop :=
  ∀ (m : (ℓ : Loc Cert.MulBackGluIdeal.nD Cert.MulBackGluIdeal.τ Cert.MulBackGluIdeal.sig) → Buf (Elt Ideal) ℓ) (g : Dev Cert.MulBackGluIdeal.nD → PrngReg)
    (m' : (ℓ : Loc Cert.MulBackGluRefIdeal.nD Cert.MulBackGluRefIdeal.τ Cert.MulBackGluRefIdeal.sig) → Buf (Elt Ideal) ℓ) (g' : Dev Cert.MulBackGluRefIdeal.nD → PrngReg), Pre_MulBackGluIdeal m →
    (∀ c : Dev Cert.MulBackGluIdeal.nD,
      m' ((c.tc : Thread Cert.MulBackGluRefIdeal.nD Cert.MulBackGluRefIdeal.τ).loc Cert.MulBackGluRefIdeal.main_arg0) = m ((c.tc : Thread Cert.MulBackGluIdeal.nD Cert.MulBackGluIdeal.τ).loc Cert.MulBackGluIdeal.main_arg0)
      ∧ m' ((c.tc : Thread Cert.MulBackGluRefIdeal.nD Cert.MulBackGluRefIdeal.τ).loc Cert.MulBackGluRefIdeal.main_arg1) = m ((c.tc : Thread Cert.MulBackGluIdeal.nD Cert.MulBackGluIdeal.τ).loc Cert.MulBackGluIdeal.main_arg1)) →
    ∃ (v0 : (c : Dev Cert.MulBackGluIdeal.nD) → Buf (Elt Ideal) ((c.tc : Thread Cert.MulBackGluIdeal.nD Cert.MulBackGluIdeal.τ).loc Cert.MulBackGluIdeal.main_v0)),
      θ_run (Cert.MulBackGluIdeal.defs (F := Ideal)) (onTc (τ := Cert.MulBackGluIdeal.τ) (Cert.MulBackGluIdeal.main (F := Ideal))) ⟨m, fun _ => 0, g⟩ (fun r => ∀ c : Dev Cert.MulBackGluIdeal.nD,
          r.2.mem ((c.tc : Thread Cert.MulBackGluIdeal.nD Cert.MulBackGluIdeal.τ).loc Cert.MulBackGluIdeal.main_v0) = v0 c
          ∧ r.2.mem ((c.tc : Thread Cert.MulBackGluIdeal.nD Cert.MulBackGluIdeal.τ).loc Cert.MulBackGluIdeal.main_arg0) = m ((c.tc : Thread Cert.MulBackGluIdeal.nD Cert.MulBackGluIdeal.τ).loc Cert.MulBackGluIdeal.main_arg0)
          ∧ r.2.mem ((c.tc : Thread Cert.MulBackGluIdeal.nD Cert.MulBackGluIdeal.τ).loc Cert.MulBackGluIdeal.main_arg1) = m ((c.tc : Thread Cert.MulBackGluIdeal.nD Cert.MulBackGluIdeal.τ).loc Cert.MulBackGluIdeal.main_arg1))
      ∧ θ_run (Cert.MulBackGluRefIdeal.defs (F := Ideal)) (onTc (τ := Cert.MulBackGluRefIdeal.τ) (Cert.MulBackGluRefIdeal.main (F := Ideal))) ⟨m', fun _ => 0, g'⟩ (fun r => ∀ c : Dev Cert.MulBackGluRefIdeal.nD,
          r.2.mem ((c.tc : Thread Cert.MulBackGluRefIdeal.nD Cert.MulBackGluRefIdeal.τ).loc Cert.MulBackGluRefIdeal.main_v0) = v0 c
          ∧ r.2.mem ((c.tc : Thread Cert.MulBackGluRefIdeal.nD Cert.MulBackGluRefIdeal.τ).loc Cert.MulBackGluRefIdeal.main_arg0) = m' ((c.tc : Thread Cert.MulBackGluRefIdeal.nD Cert.MulBackGluRefIdeal.τ).loc Cert.MulBackGluRefIdeal.main_arg0)
          ∧ r.2.mem ((c.tc : Thread Cert.MulBackGluRefIdeal.nD Cert.MulBackGluRefIdeal.τ).loc Cert.MulBackGluRefIdeal.main_arg1) = m' ((c.tc : Thread Cert.MulBackGluRefIdeal.nD Cert.MulBackGluRefIdeal.τ).loc Cert.MulBackGluRefIdeal.main_arg1))

def preserves_MulBackFfn_MulBackFfnIdeal : Prop :=
  True

def algebraic_MulBackFfnIdeal_MulBackFfnRefIdeal [hMulBackFfnIdeal : Cert.MulBackFfnIdeal.Facts] [hMulBackFfnRefIdeal : Cert.MulBackFfnRefIdeal.Facts] : Prop :=
  ∀ (m : (ℓ : Loc Cert.MulBackFfnIdeal.nD Cert.MulBackFfnIdeal.τ Cert.MulBackFfnIdeal.sig) → Buf (Elt Ideal) ℓ) (g : Dev Cert.MulBackFfnIdeal.nD → PrngReg)
    (m' : (ℓ : Loc Cert.MulBackFfnRefIdeal.nD Cert.MulBackFfnRefIdeal.τ Cert.MulBackFfnRefIdeal.sig) → Buf (Elt Ideal) ℓ) (g' : Dev Cert.MulBackFfnRefIdeal.nD → PrngReg), Pre_MulBackFfnIdeal m →
    (∀ c : Dev Cert.MulBackFfnIdeal.nD,
      m' ((c.tc : Thread Cert.MulBackFfnRefIdeal.nD Cert.MulBackFfnRefIdeal.τ).loc Cert.MulBackFfnRefIdeal.main_arg0) = m ((c.tc : Thread Cert.MulBackFfnIdeal.nD Cert.MulBackFfnIdeal.τ).loc Cert.MulBackFfnIdeal.main_arg0)
      ∧ m' ((c.tc : Thread Cert.MulBackFfnRefIdeal.nD Cert.MulBackFfnRefIdeal.τ).loc Cert.MulBackFfnRefIdeal.main_arg1) = m ((c.tc : Thread Cert.MulBackFfnIdeal.nD Cert.MulBackFfnIdeal.τ).loc Cert.MulBackFfnIdeal.main_arg1)) →
    ∃ (v0 : (c : Dev Cert.MulBackFfnIdeal.nD) → Buf (Elt Ideal) ((c.tc : Thread Cert.MulBackFfnIdeal.nD Cert.MulBackFfnIdeal.τ).loc Cert.MulBackFfnIdeal.main_v0)),
      θ_run (Cert.MulBackFfnIdeal.defs (F := Ideal)) (onTc (τ := Cert.MulBackFfnIdeal.τ) (Cert.MulBackFfnIdeal.main (F := Ideal))) ⟨m, fun _ => 0, g⟩ (fun r => ∀ c : Dev Cert.MulBackFfnIdeal.nD,
          r.2.mem ((c.tc : Thread Cert.MulBackFfnIdeal.nD Cert.MulBackFfnIdeal.τ).loc Cert.MulBackFfnIdeal.main_v0) = v0 c
          ∧ r.2.mem ((c.tc : Thread Cert.MulBackFfnIdeal.nD Cert.MulBackFfnIdeal.τ).loc Cert.MulBackFfnIdeal.main_arg0) = m ((c.tc : Thread Cert.MulBackFfnIdeal.nD Cert.MulBackFfnIdeal.τ).loc Cert.MulBackFfnIdeal.main_arg0)
          ∧ r.2.mem ((c.tc : Thread Cert.MulBackFfnIdeal.nD Cert.MulBackFfnIdeal.τ).loc Cert.MulBackFfnIdeal.main_arg1) = m ((c.tc : Thread Cert.MulBackFfnIdeal.nD Cert.MulBackFfnIdeal.τ).loc Cert.MulBackFfnIdeal.main_arg1))
      ∧ θ_run (Cert.MulBackFfnRefIdeal.defs (F := Ideal)) (onTc (τ := Cert.MulBackFfnRefIdeal.τ) (Cert.MulBackFfnRefIdeal.main (F := Ideal))) ⟨m', fun _ => 0, g'⟩ (fun r => ∀ c : Dev Cert.MulBackFfnRefIdeal.nD,
          r.2.mem ((c.tc : Thread Cert.MulBackFfnRefIdeal.nD Cert.MulBackFfnRefIdeal.τ).loc Cert.MulBackFfnRefIdeal.main_v0) = v0 c
          ∧ r.2.mem ((c.tc : Thread Cert.MulBackFfnRefIdeal.nD Cert.MulBackFfnRefIdeal.τ).loc Cert.MulBackFfnRefIdeal.main_arg0) = m' ((c.tc : Thread Cert.MulBackFfnRefIdeal.nD Cert.MulBackFfnRefIdeal.τ).loc Cert.MulBackFfnRefIdeal.main_arg0)
          ∧ r.2.mem ((c.tc : Thread Cert.MulBackFfnRefIdeal.nD Cert.MulBackFfnRefIdeal.τ).loc Cert.MulBackFfnRefIdeal.main_arg1) = m' ((c.tc : Thread Cert.MulBackFfnRefIdeal.nD Cert.MulBackFfnRefIdeal.τ).loc Cert.MulBackFfnRefIdeal.main_arg1))

def preserves_MulBackAct_MulBackActIdeal : Prop :=
  True

def algebraic_MulBackActIdeal_MulBackActRefIdeal [hMulBackActIdeal : Cert.MulBackActIdeal.Facts] [hMulBackActRefIdeal : Cert.MulBackActRefIdeal.Facts] : Prop :=
  ∀ (m : (ℓ : Loc Cert.MulBackActIdeal.nD Cert.MulBackActIdeal.τ Cert.MulBackActIdeal.sig) → Buf (Elt Ideal) ℓ) (g : Dev Cert.MulBackActIdeal.nD → PrngReg)
    (m' : (ℓ : Loc Cert.MulBackActRefIdeal.nD Cert.MulBackActRefIdeal.τ Cert.MulBackActRefIdeal.sig) → Buf (Elt Ideal) ℓ) (g' : Dev Cert.MulBackActRefIdeal.nD → PrngReg), Pre_MulBackActIdeal m →
    (∀ c : Dev Cert.MulBackActIdeal.nD,
      m' ((c.tc : Thread Cert.MulBackActRefIdeal.nD Cert.MulBackActRefIdeal.τ).loc Cert.MulBackActRefIdeal.main_arg0) = m ((c.tc : Thread Cert.MulBackActIdeal.nD Cert.MulBackActIdeal.τ).loc Cert.MulBackActIdeal.main_arg0)
      ∧ m' ((c.tc : Thread Cert.MulBackActRefIdeal.nD Cert.MulBackActRefIdeal.τ).loc Cert.MulBackActRefIdeal.main_arg1) = m ((c.tc : Thread Cert.MulBackActIdeal.nD Cert.MulBackActIdeal.τ).loc Cert.MulBackActIdeal.main_arg1)) →
    ∃ (v0 : (c : Dev Cert.MulBackActIdeal.nD) → Buf (Elt Ideal) ((c.tc : Thread Cert.MulBackActIdeal.nD Cert.MulBackActIdeal.τ).loc Cert.MulBackActIdeal.main_v0)),
      θ_run (Cert.MulBackActIdeal.defs (F := Ideal)) (onTc (τ := Cert.MulBackActIdeal.τ) (Cert.MulBackActIdeal.main (F := Ideal))) ⟨m, fun _ => 0, g⟩ (fun r => ∀ c : Dev Cert.MulBackActIdeal.nD,
          r.2.mem ((c.tc : Thread Cert.MulBackActIdeal.nD Cert.MulBackActIdeal.τ).loc Cert.MulBackActIdeal.main_v0) = v0 c
          ∧ r.2.mem ((c.tc : Thread Cert.MulBackActIdeal.nD Cert.MulBackActIdeal.τ).loc Cert.MulBackActIdeal.main_arg0) = m ((c.tc : Thread Cert.MulBackActIdeal.nD Cert.MulBackActIdeal.τ).loc Cert.MulBackActIdeal.main_arg0)
          ∧ r.2.mem ((c.tc : Thread Cert.MulBackActIdeal.nD Cert.MulBackActIdeal.τ).loc Cert.MulBackActIdeal.main_arg1) = m ((c.tc : Thread Cert.MulBackActIdeal.nD Cert.MulBackActIdeal.τ).loc Cert.MulBackActIdeal.main_arg1))
      ∧ θ_run (Cert.MulBackActRefIdeal.defs (F := Ideal)) (onTc (τ := Cert.MulBackActRefIdeal.τ) (Cert.MulBackActRefIdeal.main (F := Ideal))) ⟨m', fun _ => 0, g'⟩ (fun r => ∀ c : Dev Cert.MulBackActRefIdeal.nD,
          r.2.mem ((c.tc : Thread Cert.MulBackActRefIdeal.nD Cert.MulBackActRefIdeal.τ).loc Cert.MulBackActRefIdeal.main_v1) = v0 c
          ∧ r.2.mem ((c.tc : Thread Cert.MulBackActRefIdeal.nD Cert.MulBackActRefIdeal.τ).loc Cert.MulBackActRefIdeal.main_arg0) = m' ((c.tc : Thread Cert.MulBackActRefIdeal.nD Cert.MulBackActRefIdeal.τ).loc Cert.MulBackActRefIdeal.main_arg0)
          ∧ r.2.mem ((c.tc : Thread Cert.MulBackActRefIdeal.nD Cert.MulBackActRefIdeal.τ).loc Cert.MulBackActRefIdeal.main_arg1) = m' ((c.tc : Thread Cert.MulBackActRefIdeal.nD Cert.MulBackActRefIdeal.τ).loc Cert.MulBackActRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v2) = v0 c
          ∧ r.2.mem ((c.tc : Thread Cert.LossHeadRefIdeal.nD Cert.LossHeadRefIdeal.τ).loc Cert.LossHeadRefIdeal.main_v5) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_LossTotal_LossTotalIdeal : Prop :=
  True

def algebraic_LossTotalIdeal_LossTotalRefIdeal [hLossTotalIdeal : Cert.LossTotalIdeal.Facts] [hLossTotalRefIdeal : Cert.LossTotalRefIdeal.Facts] : Prop :=
  ∀ (m : (ℓ : Loc Cert.LossTotalIdeal.nD Cert.LossTotalIdeal.τ Cert.LossTotalIdeal.sig) → Buf (Elt Ideal) ℓ) (g : Dev Cert.LossTotalIdeal.nD → PrngReg)
    (m' : (ℓ : Loc Cert.LossTotalRefIdeal.nD Cert.LossTotalRefIdeal.τ Cert.LossTotalRefIdeal.sig) → Buf (Elt Ideal) ℓ) (g' : Dev Cert.LossTotalRefIdeal.nD → PrngReg), Pre_LossTotalIdeal m →
    (∀ c : Dev Cert.LossTotalIdeal.nD,
      m ((c.tc : Thread Cert.LossTotalIdeal.nD Cert.LossTotalIdeal.τ).loc Cert.LossTotalIdeal.main_arg0) = Layout.block ⟨2, ![1, 1024]⟩ ⟨2, ![8, 1024]⟩ 0 8 c (m' (((0 : Dev Cert.LossTotalRefIdeal.nD).tc : Thread Cert.LossTotalRefIdeal.nD Cert.LossTotalRefIdeal.τ).loc Cert.LossTotalRefIdeal.main_arg0))) →
    ∃ (v0 : Buf (Elt Ideal) (((0 : Dev Cert.LossTotalRefIdeal.nD).tc : Thread Cert.LossTotalRefIdeal.nD Cert.LossTotalRefIdeal.τ).loc Cert.LossTotalRefIdeal.main_v4)),
      θ_run (Cert.LossTotalIdeal.defs (F := Ideal)) (onTc (τ := Cert.LossTotalIdeal.τ) (Cert.LossTotalIdeal.main (F := Ideal))) ⟨m, fun _ => 0, g⟩ (fun r => ∀ c : Dev Cert.LossTotalIdeal.nD,
          r.2.mem ((c.tc : Thread Cert.LossTotalIdeal.nD Cert.LossTotalIdeal.τ).loc Cert.LossTotalIdeal.main_v4) = v0
          ∧ r.2.mem ((c.tc : Thread Cert.LossTotalIdeal.nD Cert.LossTotalIdeal.τ).loc Cert.LossTotalIdeal.main_arg0) = m ((c.tc : Thread Cert.LossTotalIdeal.nD Cert.LossTotalIdeal.τ).loc Cert.LossTotalIdeal.main_arg0))
      ∧ θ_run (Cert.LossTotalRefIdeal.defs (F := Ideal)) (onTc (τ := Cert.LossTotalRefIdeal.τ) (Cert.LossTotalRefIdeal.main (F := Ideal))) ⟨m', fun _ => 0, g'⟩ (fun r =>
          r.2.mem (((0 : Dev Cert.LossTotalRefIdeal.nD).tc : Thread Cert.LossTotalRefIdeal.nD Cert.LossTotalRefIdeal.τ).loc Cert.LossTotalRefIdeal.main_v4) = v0
          ∧ r.2.mem (((0 : Dev Cert.LossTotalRefIdeal.nD).tc : Thread Cert.LossTotalRefIdeal.nD Cert.LossTotalRefIdeal.τ).loc Cert.LossTotalRefIdeal.main_arg0) = m' (((0 : Dev Cert.LossTotalRefIdeal.nD).tc : Thread Cert.LossTotalRefIdeal.nD Cert.LossTotalRefIdeal.τ).loc Cert.LossTotalRefIdeal.main_arg0))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)
      ∧ m' ((c.tc : Thread Cert.PreBwdRefIdeal.nD Cert.PreBwdRefIdeal.τ).loc Cert.PreBwdRefIdeal.main_arg4) = m ((c.tc : Thread Cert.PreBwdIdeal.nD Cert.PreBwdIdeal.τ).loc Cert.PreBwdIdeal.main_arg4)
      ∧ m' ((c.tc : Thread Cert.PreBwdRefIdeal.nD Cert.PreBwdRefIdeal.τ).loc Cert.PreBwdRefIdeal.main_arg5) = m ((c.tc : Thread Cert.PreBwdIdeal.nD Cert.PreBwdIdeal.τ).loc Cert.PreBwdIdeal.main_arg5)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)) (v2 : (c : Dev Cert.PreBwdIdeal.nD) → Buf (Elt Ideal) ((c.tc : Thread Cert.PreBwdIdeal.nD Cert.PreBwdIdeal.τ).loc Cert.PreBwdIdeal.main_v0_2)) (v3 : (c : Dev Cert.PreBwdIdeal.nD) → Buf (Elt Ideal) ((c.tc : Thread Cert.PreBwdIdeal.nD Cert.PreBwdIdeal.τ).loc Cert.PreBwdIdeal.main_v0_3)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_v0_2) = v2 c
          ∧ r.2.mem ((c.tc : Thread Cert.PreBwdIdeal.nD Cert.PreBwdIdeal.τ).loc Cert.PreBwdIdeal.main_v0_3) = v3 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
          ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v48) = v0 c
          ∧ r.2.mem ((c.tc : Thread Cert.PreBwdRefIdeal.nD Cert.PreBwdRefIdeal.τ).loc Cert.PreBwdRefIdeal.main_v31) = v1 c
          ∧ r.2.mem ((c.tc : Thread Cert.PreBwdRefIdeal.nD Cert.PreBwdRefIdeal.τ).loc Cert.PreBwdRefIdeal.main_v23) = v2 c
          ∧ r.2.mem ((c.tc : Thread Cert.PreBwdRefIdeal.nD Cert.PreBwdRefIdeal.τ).loc Cert.PreBwdRefIdeal.main_v26) = v3 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3)
          ∧ r.2.mem ((c.tc : Thread Cert.PreBwdRefIdeal.nD Cert.PreBwdRefIdeal.τ).loc Cert.PreBwdRefIdeal.main_arg4) = m' ((c.tc : Thread Cert.PreBwdRefIdeal.nD Cert.PreBwdRefIdeal.τ).loc Cert.PreBwdRefIdeal.main_arg4)
          ∧ r.2.mem ((c.tc : Thread Cert.PreBwdRefIdeal.nD Cert.PreBwdRefIdeal.τ).loc Cert.PreBwdRefIdeal.main_arg5) = m' ((c.tc : Thread Cert.PreBwdRefIdeal.nD Cert.PreBwdRefIdeal.τ).loc Cert.PreBwdRefIdeal.main_arg5))

def preserves_RowIn_RowInIdeal : Prop :=
  True

def algebraic_RowInIdeal_RowInRefIdeal [hRowInIdeal : Cert.RowInIdeal.Facts] [hRowInRefIdeal : Cert.RowInRefIdeal.Facts] : Prop :=
  ∀ (m : (ℓ : Loc Cert.RowInIdeal.nD Cert.RowInIdeal.τ Cert.RowInIdeal.sig) → Buf (Elt Ideal) ℓ) (g : Dev Cert.RowInIdeal.nD → PrngReg)
    (m' : (ℓ : Loc Cert.RowInRefIdeal.nD Cert.RowInRefIdeal.τ Cert.RowInRefIdeal.sig) → Buf (Elt Ideal) ℓ) (g' : Dev Cert.RowInRefIdeal.nD → PrngReg), Pre_RowInIdeal m →
    (∀ c : Dev Cert.RowInIdeal.nD,
      m' ((c.tc : Thread Cert.RowInRefIdeal.nD Cert.RowInRefIdeal.τ).loc Cert.RowInRefIdeal.main_arg0) = m ((c.tc : Thread Cert.RowInIdeal.nD Cert.RowInIdeal.τ).loc Cert.RowInIdeal.main_arg0)
      ∧ m' ((c.tc : Thread Cert.RowInRefIdeal.nD Cert.RowInRefIdeal.τ).loc Cert.RowInRefIdeal.main_arg1) = m ((c.tc : Thread Cert.RowInIdeal.nD Cert.RowInIdeal.τ).loc Cert.RowInIdeal.main_arg1)
      ∧ m' ((c.tc : Thread Cert.RowInRefIdeal.nD Cert.RowInRefIdeal.τ).loc Cert.RowInRefIdeal.main_arg2) = m ((c.tc : Thread Cert.RowInIdeal.nD Cert.RowInIdeal.τ).loc Cert.RowInIdeal.main_arg2)
      ∧ m' ((c.tc : Thread Cert.RowInRefIdeal.nD Cert.RowInRefIdeal.τ).loc Cert.RowInRefIdeal.main_arg3) = m ((c.tc : Thread Cert.RowInIdeal.nD Cert.RowInIdeal.τ).loc Cert.RowInIdeal.main_arg3)) →
    ∃ (v0 : (c : Dev Cert.RowInIdeal.nD) → Buf (Elt Ideal) ((c.tc : Thread Cert.RowInIdeal.nD Cert.RowInIdeal.τ).loc Cert.RowInIdeal.main_v0)),
      θ_run (Cert.RowInIdeal.defs (F := Ideal)) (onTc (τ := Cert.RowInIdeal.τ) (Cert.RowInIdeal.main (F := Ideal))) ⟨m, fun _ => 0, g⟩ (fun r => ∀ c : Dev Cert.RowInIdeal.nD,
          r.2.mem ((c.tc : Thread Cert.RowInIdeal.nD Cert.RowInIdeal.τ).loc Cert.RowInIdeal.main_v0) = v0 c
          ∧ r.2.mem ((c.tc : Thread Cert.RowInIdeal.nD Cert.RowInIdeal.τ).loc Cert.RowInIdeal.main_arg0) = m ((c.tc : Thread Cert.RowInIdeal.nD Cert.RowInIdeal.τ).loc Cert.RowInIdeal.main_arg0)
          ∧ r.2.mem ((c.tc : Thread Cert.RowInIdeal.nD Cert.RowInIdeal.τ).loc Cert.RowInIdeal.main_arg1) = m ((c.tc : Thread Cert.RowInIdeal.nD Cert.RowInIdeal.τ).loc Cert.RowInIdeal.main_arg1)
          ∧ r.2.mem ((c.tc : Thread Cert.RowInIdeal.nD Cert.RowInIdeal.τ).loc Cert.RowInIdeal.main_arg2) = m ((c.tc : Thread Cert.RowInIdeal.nD Cert.RowInIdeal.τ).loc Cert.RowInIdeal.main_arg2)
          ∧ r.2.mem ((c.tc : Thread Cert.RowInIdeal.nD Cert.RowInIdeal.τ).loc Cert.RowInIdeal.main_arg3) = m ((c.tc : Thread Cert.RowInIdeal.nD Cert.RowInIdeal.τ).loc Cert.RowInIdeal.main_arg3))
      ∧ θ_run (Cert.RowInRefIdeal.defs (F := Ideal)) (onTc (τ := Cert.RowInRefIdeal.τ) (Cert.RowInRefIdeal.main (F := Ideal))) ⟨m', fun _ => 0, g'⟩ (fun r => ∀ c : Dev Cert.RowInRefIdeal.nD,
          r.2.mem ((c.tc : Thread Cert.RowInRefIdeal.nD Cert.RowInRefIdeal.τ).loc Cert.RowInRefIdeal.main_v18) = v0 c
          ∧ r.2.mem ((c.tc : Thread Cert.RowInRefIdeal.nD Cert.RowInRefIdeal.τ).loc Cert.RowInRefIdeal.main_arg0) = m' ((c.tc : Thread Cert.RowInRefIdeal.nD Cert.RowInRefIdeal.τ).loc Cert.RowInRefIdeal.main_arg0)
          ∧ r.2.mem ((c.tc : Thread Cert.RowInRefIdeal.nD Cert.RowInRefIdeal.τ).loc Cert.RowInRefIdeal.main_arg1) = m' ((c.tc : Thread Cert.RowInRefIdeal.nD Cert.RowInRefIdeal.τ).loc Cert.RowInRefIdeal.main_arg1)
          ∧ r.2.mem ((c.tc : Thread Cert.RowInRefIdeal.nD Cert.RowInRefIdeal.τ).loc Cert.RowInRefIdeal.main_arg2) = m' ((c.tc : Thread Cert.RowInRefIdeal.nD Cert.RowInRefIdeal.τ).loc Cert.RowInRefIdeal.main_arg2)
          ∧ r.2.mem ((c.tc : Thread Cert.RowInRefIdeal.nD Cert.RowInRefIdeal.τ).loc Cert.RowInRefIdeal.main_arg3) = m' ((c.tc : Thread Cert.RowInRefIdeal.nD Cert.RowInRefIdeal.τ).loc Cert.RowInRefIdeal.main_arg3))

def preserves_RowInS5_RowInS5Ideal : Prop :=
  True

def algebraic_RowInS5Ideal_RowInS5RefIdeal [hRowInS5Ideal : Cert.RowInS5Ideal.Facts] [hRowInS5RefIdeal : Cert.RowInS5RefIdeal.Facts] : Prop :=
  ∀ (m : (ℓ : Loc Cert.RowInS5Ideal.nD Cert.RowInS5Ideal.τ Cert.RowInS5Ideal.sig) → Buf (Elt Ideal) ℓ) (g : Dev Cert.RowInS5Ideal.nD → PrngReg)
    (m' : (ℓ : Loc Cert.RowInS5RefIdeal.nD Cert.RowInS5RefIdeal.τ Cert.RowInS5RefIdeal.sig) → Buf (Elt Ideal) ℓ) (g' : Dev Cert.RowInS5RefIdeal.nD → PrngReg), Pre_RowInS5Ideal m →
    (∀ c : Dev Cert.RowInS5Ideal.nD,
      m' ((c.tc : Thread Cert.RowInS5RefIdeal.nD Cert.RowInS5RefIdeal.τ).loc Cert.RowInS5RefIdeal.main_arg0) = m ((c.tc : Thread Cert.RowInS5Ideal.nD Cert.RowInS5Ideal.τ).loc Cert.RowInS5Ideal.main_arg0)
      ∧ m' ((c.tc : Thread Cert.RowInS5RefIdeal.nD Cert.RowInS5RefIdeal.τ).loc Cert.RowInS5RefIdeal.main_arg1) = m ((c.tc : Thread Cert.RowInS5Ideal.nD Cert.RowInS5Ideal.τ).loc Cert.RowInS5Ideal.main_arg1)
      ∧ m' ((c.tc : Thread Cert.RowInS5RefIdeal.nD Cert.RowInS5RefIdeal.τ).loc Cert.RowInS5RefIdeal.main_arg2) = m ((c.tc : Thread Cert.RowInS5Ideal.nD Cert.RowInS5Ideal.τ).loc Cert.RowInS5Ideal.main_arg2)
      ∧ m' ((c.tc : Thread Cert.RowInS5RefIdeal.nD Cert.RowInS5RefIdeal.τ).loc Cert.RowInS5RefIdeal.main_arg3) = m ((c.tc : Thread Cert.RowInS5Ideal.nD Cert.RowInS5Ideal.τ).loc Cert.RowInS5Ideal.main_arg3)) →
    ∃ (v0 : (c : Dev Cert.RowInS5Ideal.nD) → Buf (Elt Ideal) ((c.tc : Thread Cert.RowInS5Ideal.nD Cert.RowInS5Ideal.τ).loc Cert.RowInS5Ideal.main_v0)),
      θ_run (Cert.RowInS5Ideal.defs (F := Ideal)) (onTc (τ := Cert.RowInS5Ideal.τ) (Cert.RowInS5Ideal.main (F := Ideal))) ⟨m, fun _ => 0, g⟩ (fun r => ∀ c : Dev Cert.RowInS5Ideal.nD,
          r.2.mem ((c.tc : Thread Cert.RowInS5Ideal.nD Cert.RowInS5Ideal.τ).loc Cert.RowInS5Ideal.main_v0) = v0 c
          ∧ r.2.mem ((c.tc : Thread Cert.RowInS5Ideal.nD Cert.RowInS5Ideal.τ).loc Cert.RowInS5Ideal.main_arg0) = m ((c.tc : Thread Cert.RowInS5Ideal.nD Cert.RowInS5Ideal.τ).loc Cert.RowInS5Ideal.main_arg0)
          ∧ r.2.mem ((c.tc : Thread Cert.RowInS5Ideal.nD Cert.RowInS5Ideal.τ).loc Cert.RowInS5Ideal.main_arg1) = m ((c.tc : Thread Cert.RowInS5Ideal.nD Cert.RowInS5Ideal.τ).loc Cert.RowInS5Ideal.main_arg1)
          ∧ r.2.mem ((c.tc : Thread Cert.RowInS5Ideal.nD Cert.RowInS5Ideal.τ).loc Cert.RowInS5Ideal.main_arg2) = m ((c.tc : Thread Cert.RowInS5Ideal.nD Cert.RowInS5Ideal.τ).loc Cert.RowInS5Ideal.main_arg2)
          ∧ r.2.mem ((c.tc : Thread Cert.RowInS5Ideal.nD Cert.RowInS5Ideal.τ).loc Cert.RowInS5Ideal.main_arg3) = m ((c.tc : Thread Cert.RowInS5Ideal.nD Cert.RowInS5Ideal.τ).loc Cert.RowInS5Ideal.main_arg3))
      ∧ θ_run (Cert.RowInS5RefIdeal.defs (F := Ideal)) (onTc (τ := Cert.RowInS5RefIdeal.τ) (Cert.RowInS5RefIdeal.main (F := Ideal))) ⟨m', fun _ => 0, g'⟩ (fun r => ∀ c : Dev Cert.RowInS5RefIdeal.nD,
          r.2.mem ((c.tc : Thread Cert.RowInS5RefIdeal.nD Cert.RowInS5RefIdeal.τ).loc Cert.RowInS5RefIdeal.main_v17) = v0 c
          ∧ r.2.mem ((c.tc : Thread Cert.RowInS5RefIdeal.nD Cert.RowInS5RefIdeal.τ).loc Cert.RowInS5RefIdeal.main_arg0) = m' ((c.tc : Thread Cert.RowInS5RefIdeal.nD Cert.RowInS5RefIdeal.τ).loc Cert.RowInS5RefIdeal.main_arg0)
          ∧ r.2.mem ((c.tc : Thread Cert.RowInS5RefIdeal.nD Cert.RowInS5RefIdeal.τ).loc Cert.RowInS5RefIdeal.main_arg1) = m' ((c.tc : Thread Cert.RowInS5RefIdeal.nD Cert.RowInS5RefIdeal.τ).loc Cert.RowInS5RefIdeal.main_arg1)
          ∧ r.2.mem ((c.tc : Thread Cert.RowInS5RefIdeal.nD Cert.RowInS5RefIdeal.τ).loc Cert.RowInS5RefIdeal.main_arg2) = m' ((c.tc : Thread Cert.RowInS5RefIdeal.nD Cert.RowInS5RefIdeal.τ).loc Cert.RowInS5RefIdeal.main_arg2)
          ∧ r.2.mem ((c.tc : Thread Cert.RowInS5RefIdeal.nD Cert.RowInS5RefIdeal.τ).loc Cert.RowInS5RefIdeal.main_arg3) = m' ((c.tc : Thread Cert.RowInS5RefIdeal.nD Cert.RowInS5RefIdeal.τ).loc Cert.RowInS5RefIdeal.main_arg3))

def preserves_RowMid_RowMidIdeal : Prop :=
  True

def algebraic_RowMidIdeal_RowMidRefIdeal [hRowMidIdeal : Cert.RowMidIdeal.Facts] [hRowMidRefIdeal : Cert.RowMidRefIdeal.Facts] : Prop :=
  ∀ (m : (ℓ : Loc Cert.RowMidIdeal.nD Cert.RowMidIdeal.τ Cert.RowMidIdeal.sig) → Buf (Elt Ideal) ℓ) (g : Dev Cert.RowMidIdeal.nD → PrngReg)
    (m' : (ℓ : Loc Cert.RowMidRefIdeal.nD Cert.RowMidRefIdeal.τ Cert.RowMidRefIdeal.sig) → Buf (Elt Ideal) ℓ) (g' : Dev Cert.RowMidRefIdeal.nD → PrngReg), Pre_RowMidIdeal m →
    (∀ c : Dev Cert.RowMidIdeal.nD,
      m' ((c.tc : Thread Cert.RowMidRefIdeal.nD Cert.RowMidRefIdeal.τ).loc Cert.RowMidRefIdeal.main_arg0) = m ((c.tc : Thread Cert.RowMidIdeal.nD Cert.RowMidIdeal.τ).loc Cert.RowMidIdeal.main_arg0)
      ∧ m' ((c.tc : Thread Cert.RowMidRefIdeal.nD Cert.RowMidRefIdeal.τ).loc Cert.RowMidRefIdeal.main_arg1) = m ((c.tc : Thread Cert.RowMidIdeal.nD Cert.RowMidIdeal.τ).loc Cert.RowMidIdeal.main_arg1)
      ∧ m' ((c.tc : Thread Cert.RowMidRefIdeal.nD Cert.RowMidRefIdeal.τ).loc Cert.RowMidRefIdeal.main_arg2) = m ((c.tc : Thread Cert.RowMidIdeal.nD Cert.RowMidIdeal.τ).loc Cert.RowMidIdeal.main_arg2)
      ∧ m' ((c.tc : Thread Cert.RowMidRefIdeal.nD Cert.RowMidRefIdeal.τ).loc Cert.RowMidRefIdeal.main_arg3) = m ((c.tc : Thread Cert.RowMidIdeal.nD Cert.RowMidIdeal.τ).loc Cert.RowMidIdeal.main_arg3)
      ∧ m' ((c.tc : Thread Cert.RowMidRefIdeal.nD Cert.RowMidRefIdeal.τ).loc Cert.RowMidRefIdeal.main_arg4) = m ((c.tc : Thread Cert.RowMidIdeal.nD Cert.RowMidIdeal.τ).loc Cert.RowMidIdeal.main_arg4)
      ∧ m' ((c.tc : Thread Cert.RowMidRefIdeal.nD Cert.RowMidRefIdeal.τ).loc Cert.RowMidRefIdeal.main_arg5) = m ((c.tc : Thread Cert.RowMidIdeal.nD Cert.RowMidIdeal.τ).loc Cert.RowMidIdeal.main_arg5)
      ∧ m' ((c.tc : Thread Cert.RowMidRefIdeal.nD Cert.RowMidRefIdeal.τ).loc Cert.RowMidRefIdeal.main_arg6) = m ((c.tc : Thread Cert.RowMidIdeal.nD Cert.RowMidIdeal.τ).loc Cert.RowMidIdeal.main_arg6)) →
    ∃ (v0 : (c : Dev Cert.RowMidIdeal.nD) → Buf (Elt Ideal) ((c.tc : Thread Cert.RowMidIdeal.nD Cert.RowMidIdeal.τ).loc Cert.RowMidIdeal.main_v0_0)) (v1 : (c : Dev Cert.RowMidIdeal.nD) → Buf (Elt Ideal) ((c.tc : Thread Cert.RowMidIdeal.nD Cert.RowMidIdeal.τ).loc Cert.RowMidIdeal.main_v0_1)),
      θ_run (Cert.RowMidIdeal.defs (F := Ideal)) (onTc (τ := Cert.RowMidIdeal.τ) (Cert.RowMidIdeal.main (F := Ideal))) ⟨m, fun _ => 0, g⟩ (fun r => ∀ c : Dev Cert.RowMidIdeal.nD,
          r.2.mem ((c.tc : Thread Cert.RowMidIdeal.nD Cert.RowMidIdeal.τ).loc Cert.RowMidIdeal.main_v0_0) = v0 c
          ∧ r.2.mem ((c.tc : Thread Cert.RowMidIdeal.nD Cert.RowMidIdeal.τ).loc Cert.RowMidIdeal.main_v0_1) = v1 c
          ∧ r.2.mem ((c.tc : Thread Cert.RowMidIdeal.nD Cert.RowMidIdeal.τ).loc Cert.RowMidIdeal.main_arg0) = m ((c.tc : Thread Cert.RowMidIdeal.nD Cert.RowMidIdeal.τ).loc Cert.RowMidIdeal.main_arg0)
          ∧ r.2.mem ((c.tc : Thread Cert.RowMidIdeal.nD Cert.RowMidIdeal.τ).loc Cert.RowMidIdeal.main_arg1) = m ((c.tc : Thread Cert.RowMidIdeal.nD Cert.RowMidIdeal.τ).loc Cert.RowMidIdeal.main_arg1)
          ∧ r.2.mem ((c.tc : Thread Cert.RowMidIdeal.nD Cert.RowMidIdeal.τ).loc Cert.RowMidIdeal.main_arg2) = m ((c.tc : Thread Cert.RowMidIdeal.nD Cert.RowMidIdeal.τ).loc Cert.RowMidIdeal.main_arg2)
          ∧ r.2.mem ((c.tc : Thread Cert.RowMidIdeal.nD Cert.RowMidIdeal.τ).loc Cert.RowMidIdeal.main_arg3) = m ((c.tc : Thread Cert.RowMidIdeal.nD Cert.RowMidIdeal.τ).loc Cert.RowMidIdeal.main_arg3)
          ∧ r.2.mem ((c.tc : Thread Cert.RowMidIdeal.nD Cert.RowMidIdeal.τ).loc Cert.RowMidIdeal.main_arg4) = m ((c.tc : Thread Cert.RowMidIdeal.nD Cert.RowMidIdeal.τ).loc Cert.RowMidIdeal.main_arg4)
          ∧ r.2.mem ((c.tc : Thread Cert.RowMidIdeal.nD Cert.RowMidIdeal.τ).loc Cert.RowMidIdeal.main_arg5) = m ((c.tc : Thread Cert.RowMidIdeal.nD Cert.RowMidIdeal.τ).loc Cert.RowMidIdeal.main_arg5)
          ∧ r.2.mem ((c.tc : Thread Cert.RowMidIdeal.nD Cert.RowMidIdeal.τ).loc Cert.RowMidIdeal.main_arg6) = m ((c.tc : Thread Cert.RowMidIdeal.nD Cert.RowMidIdeal.τ).loc Cert.RowMidIdeal.main_arg6))
      ∧ θ_run (Cert.RowMidRefIdeal.defs (F := Ideal)) (onTc (τ := Cert.RowMidRefIdeal.τ) (Cert.RowMidRefIdeal.main (F := Ideal))) ⟨m', fun _ => 0, g'⟩ (fun r => ∀ c : Dev Cert.RowMidRefIdeal.nD,
          r.2.mem ((c.tc : Thread Cert.RowMidRefIdeal.nD Cert.RowMidRefIdeal.τ).loc Cert.RowMidRefIdeal.main_v16) = v0 c
          ∧ r.2.mem ((c.tc : Thread Cert.RowMidRefIdeal.nD Cert.RowMidRefIdeal.τ).loc Cert.RowMidRefIdeal.main_v35) = v1 c
          ∧ r.2.mem ((c.tc : Thread Cert.RowMidRefIdeal.nD Cert.RowMidRefIdeal.τ).loc Cert.RowMidRefIdeal.main_arg0) = m' ((c.tc : Thread Cert.RowMidRefIdeal.nD Cert.RowMidRefIdeal.τ).loc Cert.RowMidRefIdeal.main_arg0)
          ∧ r.2.mem ((c.tc : Thread Cert.RowMidRefIdeal.nD Cert.RowMidRefIdeal.τ).loc Cert.RowMidRefIdeal.main_arg1) = m' ((c.tc : Thread Cert.RowMidRefIdeal.nD Cert.RowMidRefIdeal.τ).loc Cert.RowMidRefIdeal.main_arg1)
          ∧ r.2.mem ((c.tc : Thread Cert.RowMidRefIdeal.nD Cert.RowMidRefIdeal.τ).loc Cert.RowMidRefIdeal.main_arg2) = m' ((c.tc : Thread Cert.RowMidRefIdeal.nD Cert.RowMidRefIdeal.τ).loc Cert.RowMidRefIdeal.main_arg2)
          ∧ r.2.mem ((c.tc : Thread Cert.RowMidRefIdeal.nD Cert.RowMidRefIdeal.τ).loc Cert.RowMidRefIdeal.main_arg3) = m' ((c.tc : Thread Cert.RowMidRefIdeal.nD Cert.RowMidRefIdeal.τ).loc Cert.RowMidRefIdeal.main_arg3)
          ∧ r.2.mem ((c.tc : Thread Cert.RowMidRefIdeal.nD Cert.RowMidRefIdeal.τ).loc Cert.RowMidRefIdeal.main_arg4) = m' ((c.tc : Thread Cert.RowMidRefIdeal.nD Cert.RowMidRefIdeal.τ).loc Cert.RowMidRefIdeal.main_arg4)
          ∧ r.2.mem ((c.tc : Thread Cert.RowMidRefIdeal.nD Cert.RowMidRefIdeal.τ).loc Cert.RowMidRefIdeal.main_arg5) = m' ((c.tc : Thread Cert.RowMidRefIdeal.nD Cert.RowMidRefIdeal.τ).loc Cert.RowMidRefIdeal.main_arg5)
          ∧ r.2.mem ((c.tc : Thread Cert.RowMidRefIdeal.nD Cert.RowMidRefIdeal.τ).loc Cert.RowMidRefIdeal.main_arg6) = m' ((c.tc : Thread Cert.RowMidRefIdeal.nD Cert.RowMidRefIdeal.τ).loc Cert.RowMidRefIdeal.main_arg6))

def preserves_RowMidConv_RowMidConvIdeal : Prop :=
  True

def algebraic_RowMidConvIdeal_RowMidConvRefIdeal [hRowMidConvIdeal : Cert.RowMidConvIdeal.Facts] [hRowMidConvRefIdeal : Cert.RowMidConvRefIdeal.Facts] : Prop :=
  ∀ (m : (ℓ : Loc Cert.RowMidConvIdeal.nD Cert.RowMidConvIdeal.τ Cert.RowMidConvIdeal.sig) → Buf (Elt Ideal) ℓ) (g : Dev Cert.RowMidConvIdeal.nD → PrngReg)
    (m' : (ℓ : Loc Cert.RowMidConvRefIdeal.nD Cert.RowMidConvRefIdeal.τ Cert.RowMidConvRefIdeal.sig) → Buf (Elt Ideal) ℓ) (g' : Dev Cert.RowMidConvRefIdeal.nD → PrngReg), Pre_RowMidConvIdeal m →
    (∀ c : Dev Cert.RowMidConvIdeal.nD,
      m' ((c.tc : Thread Cert.RowMidConvRefIdeal.nD Cert.RowMidConvRefIdeal.τ).loc Cert.RowMidConvRefIdeal.main_arg0) = m ((c.tc : Thread Cert.RowMidConvIdeal.nD Cert.RowMidConvIdeal.τ).loc Cert.RowMidConvIdeal.main_arg0)
      ∧ m' ((c.tc : Thread Cert.RowMidConvRefIdeal.nD Cert.RowMidConvRefIdeal.τ).loc Cert.RowMidConvRefIdeal.main_arg1) = m ((c.tc : Thread Cert.RowMidConvIdeal.nD Cert.RowMidConvIdeal.τ).loc Cert.RowMidConvIdeal.main_arg1)
      ∧ m' ((c.tc : Thread Cert.RowMidConvRefIdeal.nD Cert.RowMidConvRefIdeal.τ).loc Cert.RowMidConvRefIdeal.main_arg2) = m ((c.tc : Thread Cert.RowMidConvIdeal.nD Cert.RowMidConvIdeal.τ).loc Cert.RowMidConvIdeal.main_arg2)
      ∧ m' ((c.tc : Thread Cert.RowMidConvRefIdeal.nD Cert.RowMidConvRefIdeal.τ).loc Cert.RowMidConvRefIdeal.main_arg3) = m ((c.tc : Thread Cert.RowMidConvIdeal.nD Cert.RowMidConvIdeal.τ).loc Cert.RowMidConvIdeal.main_arg3)
      ∧ m' ((c.tc : Thread Cert.RowMidConvRefIdeal.nD Cert.RowMidConvRefIdeal.τ).loc Cert.RowMidConvRefIdeal.main_arg4) = m ((c.tc : Thread Cert.RowMidConvIdeal.nD Cert.RowMidConvIdeal.τ).loc Cert.RowMidConvIdeal.main_arg4)
      ∧ m' ((c.tc : Thread Cert.RowMidConvRefIdeal.nD Cert.RowMidConvRefIdeal.τ).loc Cert.RowMidConvRefIdeal.main_arg5) = m ((c.tc : Thread Cert.RowMidConvIdeal.nD Cert.RowMidConvIdeal.τ).loc Cert.RowMidConvIdeal.main_arg5)
      ∧ m' ((c.tc : Thread Cert.RowMidConvRefIdeal.nD Cert.RowMidConvRefIdeal.τ).loc Cert.RowMidConvRefIdeal.main_arg6) = m ((c.tc : Thread Cert.RowMidConvIdeal.nD Cert.RowMidConvIdeal.τ).loc Cert.RowMidConvIdeal.main_arg6)
      ∧ m' ((c.tc : Thread Cert.RowMidConvRefIdeal.nD Cert.RowMidConvRefIdeal.τ).loc Cert.RowMidConvRefIdeal.main_arg7) = m ((c.tc : Thread Cert.RowMidConvIdeal.nD Cert.RowMidConvIdeal.τ).loc Cert.RowMidConvIdeal.main_arg7)) →
    ∃ (v0 : (c : Dev Cert.RowMidConvIdeal.nD) → Buf (Elt Ideal) ((c.tc : Thread Cert.RowMidConvIdeal.nD Cert.RowMidConvIdeal.τ).loc Cert.RowMidConvIdeal.main_v0_0)) (v1 : (c : Dev Cert.RowMidConvIdeal.nD) → Buf (Elt Ideal) ((c.tc : Thread Cert.RowMidConvIdeal.nD Cert.RowMidConvIdeal.τ).loc Cert.RowMidConvIdeal.main_v0_1)),
      θ_run (Cert.RowMidConvIdeal.defs (F := Ideal)) (onTc (τ := Cert.RowMidConvIdeal.τ) (Cert.RowMidConvIdeal.main (F := Ideal))) ⟨m, fun _ => 0, g⟩ (fun r => ∀ c : Dev Cert.RowMidConvIdeal.nD,
          r.2.mem ((c.tc : Thread Cert.RowMidConvIdeal.nD Cert.RowMidConvIdeal.τ).loc Cert.RowMidConvIdeal.main_v0_0) = v0 c
          ∧ r.2.mem ((c.tc : Thread Cert.RowMidConvIdeal.nD Cert.RowMidConvIdeal.τ).loc Cert.RowMidConvIdeal.main_v0_1) = v1 c
          ∧ r.2.mem ((c.tc : Thread Cert.RowMidConvIdeal.nD Cert.RowMidConvIdeal.τ).loc Cert.RowMidConvIdeal.main_arg0) = m ((c.tc : Thread Cert.RowMidConvIdeal.nD Cert.RowMidConvIdeal.τ).loc Cert.RowMidConvIdeal.main_arg0)
          ∧ r.2.mem ((c.tc : Thread Cert.RowMidConvIdeal.nD Cert.RowMidConvIdeal.τ).loc Cert.RowMidConvIdeal.main_arg1) = m ((c.tc : Thread Cert.RowMidConvIdeal.nD Cert.RowMidConvIdeal.τ).loc Cert.RowMidConvIdeal.main_arg1)
          ∧ r.2.mem ((c.tc : Thread Cert.RowMidConvIdeal.nD Cert.RowMidConvIdeal.τ).loc Cert.RowMidConvIdeal.main_arg2) = m ((c.tc : Thread Cert.RowMidConvIdeal.nD Cert.RowMidConvIdeal.τ).loc Cert.RowMidConvIdeal.main_arg2)
          ∧ r.2.mem ((c.tc : Thread Cert.RowMidConvIdeal.nD Cert.RowMidConvIdeal.τ).loc Cert.RowMidConvIdeal.main_arg3) = m ((c.tc : Thread Cert.RowMidConvIdeal.nD Cert.RowMidConvIdeal.τ).loc Cert.RowMidConvIdeal.main_arg3)
          ∧ r.2.mem ((c.tc : Thread Cert.RowMidConvIdeal.nD Cert.RowMidConvIdeal.τ).loc Cert.RowMidConvIdeal.main_arg4) = m ((c.tc : Thread Cert.RowMidConvIdeal.nD Cert.RowMidConvIdeal.τ).loc Cert.RowMidConvIdeal.main_arg4)
          ∧ r.2.mem ((c.tc : Thread Cert.RowMidConvIdeal.nD Cert.RowMidConvIdeal.τ).loc Cert.RowMidConvIdeal.main_arg5) = m ((c.tc : Thread Cert.RowMidConvIdeal.nD Cert.RowMidConvIdeal.τ).loc Cert.RowMidConvIdeal.main_arg5)
          ∧ r.2.mem ((c.tc : Thread Cert.RowMidConvIdeal.nD Cert.RowMidConvIdeal.τ).loc Cert.RowMidConvIdeal.main_arg6) = m ((c.tc : Thread Cert.RowMidConvIdeal.nD Cert.RowMidConvIdeal.τ).loc Cert.RowMidConvIdeal.main_arg6)
          ∧ r.2.mem ((c.tc : Thread Cert.RowMidConvIdeal.nD Cert.RowMidConvIdeal.τ).loc Cert.RowMidConvIdeal.main_arg7) = m ((c.tc : Thread Cert.RowMidConvIdeal.nD Cert.RowMidConvIdeal.τ).loc Cert.RowMidConvIdeal.main_arg7))
      ∧ θ_run (Cert.RowMidConvRefIdeal.defs (F := Ideal)) (onTc (τ := Cert.RowMidConvRefIdeal.τ) (Cert.RowMidConvRefIdeal.main (F := Ideal))) ⟨m', fun _ => 0, g'⟩ (fun r => ∀ c : Dev Cert.RowMidConvRefIdeal.nD,
          r.2.mem ((c.tc : Thread Cert.RowMidConvRefIdeal.nD Cert.RowMidConvRefIdeal.τ).loc Cert.RowMidConvRefIdeal.main_v16) = v0 c
          ∧ r.2.mem ((c.tc : Thread Cert.RowMidConvRefIdeal.nD Cert.RowMidConvRefIdeal.τ).loc Cert.RowMidConvRefIdeal.main_v35) = v1 c
          ∧ r.2.mem ((c.tc : Thread Cert.RowMidConvRefIdeal.nD Cert.RowMidConvRefIdeal.τ).loc Cert.RowMidConvRefIdeal.main_arg0) = m' ((c.tc : Thread Cert.RowMidConvRefIdeal.nD Cert.RowMidConvRefIdeal.τ).loc Cert.RowMidConvRefIdeal.main_arg0)
          ∧ r.2.mem ((c.tc : Thread Cert.RowMidConvRefIdeal.nD Cert.RowMidConvRefIdeal.τ).loc Cert.RowMidConvRefIdeal.main_arg1) = m' ((c.tc : Thread Cert.RowMidConvRefIdeal.nD Cert.RowMidConvRefIdeal.τ).loc Cert.RowMidConvRefIdeal.main_arg1)
          ∧ r.2.mem ((c.tc : Thread Cert.RowMidConvRefIdeal.nD Cert.RowMidConvRefIdeal.τ).loc Cert.RowMidConvRefIdeal.main_arg2) = m' ((c.tc : Thread Cert.RowMidConvRefIdeal.nD Cert.RowMidConvRefIdeal.τ).loc Cert.RowMidConvRefIdeal.main_arg2)
          ∧ r.2.mem ((c.tc : Thread Cert.RowMidConvRefIdeal.nD Cert.RowMidConvRefIdeal.τ).loc Cert.RowMidConvRefIdeal.main_arg3) = m' ((c.tc : Thread Cert.RowMidConvRefIdeal.nD Cert.RowMidConvRefIdeal.τ).loc Cert.RowMidConvRefIdeal.main_arg3)
          ∧ r.2.mem ((c.tc : Thread Cert.RowMidConvRefIdeal.nD Cert.RowMidConvRefIdeal.τ).loc Cert.RowMidConvRefIdeal.main_arg4) = m' ((c.tc : Thread Cert.RowMidConvRefIdeal.nD Cert.RowMidConvRefIdeal.τ).loc Cert.RowMidConvRefIdeal.main_arg4)
          ∧ r.2.mem ((c.tc : Thread Cert.RowMidConvRefIdeal.nD Cert.RowMidConvRefIdeal.τ).loc Cert.RowMidConvRefIdeal.main_arg5) = m' ((c.tc : Thread Cert.RowMidConvRefIdeal.nD Cert.RowMidConvRefIdeal.τ).loc Cert.RowMidConvRefIdeal.main_arg5)
          ∧ r.2.mem ((c.tc : Thread Cert.RowMidConvRefIdeal.nD Cert.RowMidConvRefIdeal.τ).loc Cert.RowMidConvRefIdeal.main_arg6) = m' ((c.tc : Thread Cert.RowMidConvRefIdeal.nD Cert.RowMidConvRefIdeal.τ).loc Cert.RowMidConvRefIdeal.main_arg6)
          ∧ r.2.mem ((c.tc : Thread Cert.RowMidConvRefIdeal.nD Cert.RowMidConvRefIdeal.τ).loc Cert.RowMidConvRefIdeal.main_arg7) = m' ((c.tc : Thread Cert.RowMidConvRefIdeal.nD Cert.RowMidConvRefIdeal.τ).loc Cert.RowMidConvRefIdeal.main_arg7))

def preserves_RowOut_RowOutIdeal : Prop :=
  True

def algebraic_RowOutIdeal_RowOutRefIdeal [hRowOutIdeal : Cert.RowOutIdeal.Facts] [hRowOutRefIdeal : Cert.RowOutRefIdeal.Facts] : Prop :=
  ∀ (m : (ℓ : Loc Cert.RowOutIdeal.nD Cert.RowOutIdeal.τ Cert.RowOutIdeal.sig) → Buf (Elt Ideal) ℓ) (g : Dev Cert.RowOutIdeal.nD → PrngReg)
    (m' : (ℓ : Loc Cert.RowOutRefIdeal.nD Cert.RowOutRefIdeal.τ Cert.RowOutRefIdeal.sig) → Buf (Elt Ideal) ℓ) (g' : Dev Cert.RowOutRefIdeal.nD → PrngReg), Pre_RowOutIdeal m →
    (∀ c : Dev Cert.RowOutIdeal.nD,
      m' ((c.tc : Thread Cert.RowOutRefIdeal.nD Cert.RowOutRefIdeal.τ).loc Cert.RowOutRefIdeal.main_arg0) = m ((c.tc : Thread Cert.RowOutIdeal.nD Cert.RowOutIdeal.τ).loc Cert.RowOutIdeal.main_arg0)
      ∧ m' ((c.tc : Thread Cert.RowOutRefIdeal.nD Cert.RowOutRefIdeal.τ).loc Cert.RowOutRefIdeal.main_arg1) = m ((c.tc : Thread Cert.RowOutIdeal.nD Cert.RowOutIdeal.τ).loc Cert.RowOutIdeal.main_arg1)
      ∧ m' ((c.tc : Thread Cert.RowOutRefIdeal.nD Cert.RowOutRefIdeal.τ).loc Cert.RowOutRefIdeal.main_arg2) = m ((c.tc : Thread Cert.RowOutIdeal.nD Cert.RowOutIdeal.τ).loc Cert.RowOutIdeal.main_arg2)
      ∧ m' ((c.tc : Thread Cert.RowOutRefIdeal.nD Cert.RowOutRefIdeal.τ).loc Cert.RowOutRefIdeal.main_arg3) = m ((c.tc : Thread Cert.RowOutIdeal.nD Cert.RowOutIdeal.τ).loc Cert.RowOutIdeal.main_arg3)) →
    ∃ (v0 : (c : Dev Cert.RowOutIdeal.nD) → Buf (Elt Ideal) ((c.tc : Thread Cert.RowOutIdeal.nD Cert.RowOutIdeal.τ).loc Cert.RowOutIdeal.main_v0)),
      θ_run (Cert.RowOutIdeal.defs (F := Ideal)) (onTc (τ := Cert.RowOutIdeal.τ) (Cert.RowOutIdeal.main (F := Ideal))) ⟨m, fun _ => 0, g⟩ (fun r => ∀ c : Dev Cert.RowOutIdeal.nD,
          r.2.mem ((c.tc : Thread Cert.RowOutIdeal.nD Cert.RowOutIdeal.τ).loc Cert.RowOutIdeal.main_v0) = v0 c
          ∧ r.2.mem ((c.tc : Thread Cert.RowOutIdeal.nD Cert.RowOutIdeal.τ).loc Cert.RowOutIdeal.main_arg0) = m ((c.tc : Thread Cert.RowOutIdeal.nD Cert.RowOutIdeal.τ).loc Cert.RowOutIdeal.main_arg0)
          ∧ r.2.mem ((c.tc : Thread Cert.RowOutIdeal.nD Cert.RowOutIdeal.τ).loc Cert.RowOutIdeal.main_arg1) = m ((c.tc : Thread Cert.RowOutIdeal.nD Cert.RowOutIdeal.τ).loc Cert.RowOutIdeal.main_arg1)
          ∧ r.2.mem ((c.tc : Thread Cert.RowOutIdeal.nD Cert.RowOutIdeal.τ).loc Cert.RowOutIdeal.main_arg2) = m ((c.tc : Thread Cert.RowOutIdeal.nD Cert.RowOutIdeal.τ).loc Cert.RowOutIdeal.main_arg2)
          ∧ r.2.mem ((c.tc : Thread Cert.RowOutIdeal.nD Cert.RowOutIdeal.τ).loc Cert.RowOutIdeal.main_arg3) = m ((c.tc : Thread Cert.RowOutIdeal.nD Cert.RowOutIdeal.τ).loc Cert.RowOutIdeal.main_arg3))
      ∧ θ_run (Cert.RowOutRefIdeal.defs (F := Ideal)) (onTc (τ := Cert.RowOutRefIdeal.τ) (Cert.RowOutRefIdeal.main (F := Ideal))) ⟨m', fun _ => 0, g'⟩ (fun r => ∀ c : Dev Cert.RowOutRefIdeal.nD,
          r.2.mem ((c.tc : Thread Cert.RowOutRefIdeal.nD Cert.RowOutRefIdeal.τ).loc Cert.RowOutRefIdeal.main_v14) = v0 c
          ∧ r.2.mem ((c.tc : Thread Cert.RowOutRefIdeal.nD Cert.RowOutRefIdeal.τ).loc Cert.RowOutRefIdeal.main_arg0) = m' ((c.tc : Thread Cert.RowOutRefIdeal.nD Cert.RowOutRefIdeal.τ).loc Cert.RowOutRefIdeal.main_arg0)
          ∧ r.2.mem ((c.tc : Thread Cert.RowOutRefIdeal.nD Cert.RowOutRefIdeal.τ).loc Cert.RowOutRefIdeal.main_arg1) = m' ((c.tc : Thread Cert.RowOutRefIdeal.nD Cert.RowOutRefIdeal.τ).loc Cert.RowOutRefIdeal.main_arg1)
          ∧ r.2.mem ((c.tc : Thread Cert.RowOutRefIdeal.nD Cert.RowOutRefIdeal.τ).loc Cert.RowOutRefIdeal.main_arg2) = m' ((c.tc : Thread Cert.RowOutRefIdeal.nD Cert.RowOutRefIdeal.τ).loc Cert.RowOutRefIdeal.main_arg2)
          ∧ r.2.mem ((c.tc : Thread Cert.RowOutRefIdeal.nD Cert.RowOutRefIdeal.τ).loc Cert.RowOutRefIdeal.main_arg3) = m' ((c.tc : Thread Cert.RowOutRefIdeal.nD Cert.RowOutRefIdeal.τ).loc Cert.RowOutRefIdeal.main_arg3))

def preserves_RowGate_RowGateIdeal : Prop :=
  True

def algebraic_RowGateIdeal_RowGateRefIdeal [hRowGateIdeal : Cert.RowGateIdeal.Facts] [hRowGateRefIdeal : Cert.RowGateRefIdeal.Facts] : Prop :=
  ∀ (m : (ℓ : Loc Cert.RowGateIdeal.nD Cert.RowGateIdeal.τ Cert.RowGateIdeal.sig) → Buf (Elt Ideal) ℓ) (g : Dev Cert.RowGateIdeal.nD → PrngReg)
    (m' : (ℓ : Loc Cert.RowGateRefIdeal.nD Cert.RowGateRefIdeal.τ Cert.RowGateRefIdeal.sig) → Buf (Elt Ideal) ℓ) (g' : Dev Cert.RowGateRefIdeal.nD → PrngReg), Pre_RowGateIdeal m →
    (∀ c : Dev Cert.RowGateIdeal.nD,
      m' ((c.tc : Thread Cert.RowGateRefIdeal.nD Cert.RowGateRefIdeal.τ).loc Cert.RowGateRefIdeal.main_arg0) = m ((c.tc : Thread Cert.RowGateIdeal.nD Cert.RowGateIdeal.τ).loc Cert.RowGateIdeal.main_arg0)
      ∧ m' ((c.tc : Thread Cert.RowGateRefIdeal.nD Cert.RowGateRefIdeal.τ).loc Cert.RowGateRefIdeal.main_arg1) = m ((c.tc : Thread Cert.RowGateIdeal.nD Cert.RowGateIdeal.τ).loc Cert.RowGateIdeal.main_arg1)) →
    ∃ (v0 : (c : Dev Cert.RowGateIdeal.nD) → Buf (Elt Ideal) ((c.tc : Thread Cert.RowGateIdeal.nD Cert.RowGateIdeal.τ).loc Cert.RowGateIdeal.main_v0)),
      θ_run (Cert.RowGateIdeal.defs (F := Ideal)) (onTc (τ := Cert.RowGateIdeal.τ) (Cert.RowGateIdeal.main (F := Ideal))) ⟨m, fun _ => 0, g⟩ (fun r => ∀ c : Dev Cert.RowGateIdeal.nD,
          r.2.mem ((c.tc : Thread Cert.RowGateIdeal.nD Cert.RowGateIdeal.τ).loc Cert.RowGateIdeal.main_v0) = v0 c
          ∧ r.2.mem ((c.tc : Thread Cert.RowGateIdeal.nD Cert.RowGateIdeal.τ).loc Cert.RowGateIdeal.main_arg0) = m ((c.tc : Thread Cert.RowGateIdeal.nD Cert.RowGateIdeal.τ).loc Cert.RowGateIdeal.main_arg0)
          ∧ r.2.mem ((c.tc : Thread Cert.RowGateIdeal.nD Cert.RowGateIdeal.τ).loc Cert.RowGateIdeal.main_arg1) = m ((c.tc : Thread Cert.RowGateIdeal.nD Cert.RowGateIdeal.τ).loc Cert.RowGateIdeal.main_arg1))
      ∧ θ_run (Cert.RowGateRefIdeal.defs (F := Ideal)) (onTc (τ := Cert.RowGateRefIdeal.τ) (Cert.RowGateRefIdeal.main (F := Ideal))) ⟨m', fun _ => 0, g'⟩ (fun r => ∀ c : Dev Cert.RowGateRefIdeal.nD,
          r.2.mem ((c.tc : Thread Cert.RowGateRefIdeal.nD Cert.RowGateRefIdeal.τ).loc Cert.RowGateRefIdeal.main_v10) = v0 c
          ∧ r.2.mem ((c.tc : Thread Cert.RowGateRefIdeal.nD Cert.RowGateRefIdeal.τ).loc Cert.RowGateRefIdeal.main_arg0) = m' ((c.tc : Thread Cert.RowGateRefIdeal.nD Cert.RowGateRefIdeal.τ).loc Cert.RowGateRefIdeal.main_arg0)
          ∧ r.2.mem ((c.tc : Thread Cert.RowGateRefIdeal.nD Cert.RowGateRefIdeal.τ).loc Cert.RowGateRefIdeal.main_arg1) = m' ((c.tc : Thread Cert.RowGateRefIdeal.nD Cert.RowGateRefIdeal.τ).loc Cert.RowGateRefIdeal.main_arg1))

def preserves_RowAct_RowActIdeal : Prop :=
  True

def algebraic_RowActIdeal_RowActRefIdeal [hRowActIdeal : Cert.RowActIdeal.Facts] [hRowActRefIdeal : Cert.RowActRefIdeal.Facts] : Prop :=
  ∀ (m : (ℓ : Loc Cert.RowActIdeal.nD Cert.RowActIdeal.τ Cert.RowActIdeal.sig) → Buf (Elt Ideal) ℓ) (g : Dev Cert.RowActIdeal.nD → PrngReg)
    (m' : (ℓ : Loc Cert.RowActRefIdeal.nD Cert.RowActRefIdeal.τ Cert.RowActRefIdeal.sig) → Buf (Elt Ideal) ℓ) (g' : Dev Cert.RowActRefIdeal.nD → PrngReg), Pre_RowActIdeal m →
    (∀ c : Dev Cert.RowActIdeal.nD,
      m' ((c.tc : Thread Cert.RowActRefIdeal.nD Cert.RowActRefIdeal.τ).loc Cert.RowActRefIdeal.main_arg0) = m ((c.tc : Thread Cert.RowActIdeal.nD Cert.RowActIdeal.τ).loc Cert.RowActIdeal.main_arg0)) →
    ∃ (v0 : (c : Dev Cert.RowActIdeal.nD) → Buf (Elt Ideal) ((c.tc : Thread Cert.RowActIdeal.nD Cert.RowActIdeal.τ).loc Cert.RowActIdeal.main_v0)),
      θ_run (Cert.RowActIdeal.defs (F := Ideal)) (onTc (τ := Cert.RowActIdeal.τ) (Cert.RowActIdeal.main (F := Ideal))) ⟨m, fun _ => 0, g⟩ (fun r => ∀ c : Dev Cert.RowActIdeal.nD,
          r.2.mem ((c.tc : Thread Cert.RowActIdeal.nD Cert.RowActIdeal.τ).loc Cert.RowActIdeal.main_v0) = v0 c
          ∧ r.2.mem ((c.tc : Thread Cert.RowActIdeal.nD Cert.RowActIdeal.τ).loc Cert.RowActIdeal.main_arg0) = m ((c.tc : Thread Cert.RowActIdeal.nD Cert.RowActIdeal.τ).loc Cert.RowActIdeal.main_arg0))
      ∧ θ_run (Cert.RowActRefIdeal.defs (F := Ideal)) (onTc (τ := Cert.RowActRefIdeal.τ) (Cert.RowActRefIdeal.main (F := Ideal))) ⟨m', fun _ => 0, g'⟩ (fun r => ∀ c : Dev Cert.RowActRefIdeal.nD,
          r.2.mem ((c.tc : Thread Cert.RowActRefIdeal.nD Cert.RowActRefIdeal.τ).loc Cert.RowActRefIdeal.main_v5) = v0 c
          ∧ r.2.mem ((c.tc : Thread Cert.RowActRefIdeal.nD Cert.RowActRefIdeal.τ).loc Cert.RowActRefIdeal.main_arg0) = m' ((c.tc : Thread Cert.RowActRefIdeal.nD Cert.RowActRefIdeal.τ).loc Cert.RowActRefIdeal.main_arg0))

def preserves_RowConv_RowConvIdeal : Prop :=
  True

def algebraic_RowConvIdeal_RowConvRefIdeal [hRowConvIdeal : Cert.RowConvIdeal.Facts] [hRowConvRefIdeal : Cert.RowConvRefIdeal.Facts] : Prop :=
  ∀ (m : (ℓ : Loc Cert.RowConvIdeal.nD Cert.RowConvIdeal.τ Cert.RowConvIdeal.sig) → Buf (Elt Ideal) ℓ) (g : Dev Cert.RowConvIdeal.nD → PrngReg)
    (m' : (ℓ : Loc Cert.RowConvRefIdeal.nD Cert.RowConvRefIdeal.τ Cert.RowConvRefIdeal.sig) → Buf (Elt Ideal) ℓ) (g' : Dev Cert.RowConvRefIdeal.nD → PrngReg), Pre_RowConvIdeal m →
    (∀ c : Dev Cert.RowConvIdeal.nD,
      m' ((c.tc : Thread Cert.RowConvRefIdeal.nD Cert.RowConvRefIdeal.τ).loc Cert.RowConvRefIdeal.main_arg0) = m ((c.tc : Thread Cert.RowConvIdeal.nD Cert.RowConvIdeal.τ).loc Cert.RowConvIdeal.main_arg0)
      ∧ m' ((c.tc : Thread Cert.RowConvRefIdeal.nD Cert.RowConvRefIdeal.τ).loc Cert.RowConvRefIdeal.main_arg1) = m ((c.tc : Thread Cert.RowConvIdeal.nD Cert.RowConvIdeal.τ).loc Cert.RowConvIdeal.main_arg1)
      ∧ m' ((c.tc : Thread Cert.RowConvRefIdeal.nD Cert.RowConvRefIdeal.τ).loc Cert.RowConvRefIdeal.main_arg2) = m ((c.tc : Thread Cert.RowConvIdeal.nD Cert.RowConvIdeal.τ).loc Cert.RowConvIdeal.main_arg2)) →
    ∃ (v0 : (c : Dev Cert.RowConvIdeal.nD) → Buf (Elt Ideal) ((c.tc : Thread Cert.RowConvIdeal.nD Cert.RowConvIdeal.τ).loc Cert.RowConvIdeal.main_v0)),
      θ_run (Cert.RowConvIdeal.defs (F := Ideal)) (onTc (τ := Cert.RowConvIdeal.τ) (Cert.RowConvIdeal.main (F := Ideal))) ⟨m, fun _ => 0, g⟩ (fun r => ∀ c : Dev Cert.RowConvIdeal.nD,
          r.2.mem ((c.tc : Thread Cert.RowConvIdeal.nD Cert.RowConvIdeal.τ).loc Cert.RowConvIdeal.main_v0) = v0 c
          ∧ r.2.mem ((c.tc : Thread Cert.RowConvIdeal.nD Cert.RowConvIdeal.τ).loc Cert.RowConvIdeal.main_arg0) = m ((c.tc : Thread Cert.RowConvIdeal.nD Cert.RowConvIdeal.τ).loc Cert.RowConvIdeal.main_arg0)
          ∧ r.2.mem ((c.tc : Thread Cert.RowConvIdeal.nD Cert.RowConvIdeal.τ).loc Cert.RowConvIdeal.main_arg1) = m ((c.tc : Thread Cert.RowConvIdeal.nD Cert.RowConvIdeal.τ).loc Cert.RowConvIdeal.main_arg1)
          ∧ r.2.mem ((c.tc : Thread Cert.RowConvIdeal.nD Cert.RowConvIdeal.τ).loc Cert.RowConvIdeal.main_arg2) = m ((c.tc : Thread Cert.RowConvIdeal.nD Cert.RowConvIdeal.τ).loc Cert.RowConvIdeal.main_arg2))
      ∧ θ_run (Cert.RowConvRefIdeal.defs (F := Ideal)) (onTc (τ := Cert.RowConvRefIdeal.τ) (Cert.RowConvRefIdeal.main (F := Ideal))) ⟨m', fun _ => 0, g'⟩ (fun r => ∀ c : Dev Cert.RowConvRefIdeal.nD,
          r.2.mem ((c.tc : Thread Cert.RowConvRefIdeal.nD Cert.RowConvRefIdeal.τ).loc Cert.RowConvRefIdeal.main_v23) = v0 c
          ∧ r.2.mem ((c.tc : Thread Cert.RowConvRefIdeal.nD Cert.RowConvRefIdeal.τ).loc Cert.RowConvRefIdeal.main_arg0) = m' ((c.tc : Thread Cert.RowConvRefIdeal.nD Cert.RowConvRefIdeal.τ).loc Cert.RowConvRefIdeal.main_arg0)
          ∧ r.2.mem ((c.tc : Thread Cert.RowConvRefIdeal.nD Cert.RowConvRefIdeal.τ).loc Cert.RowConvRefIdeal.main_arg1) = m' ((c.tc : Thread Cert.RowConvRefIdeal.nD Cert.RowConvRefIdeal.τ).loc Cert.RowConvRefIdeal.main_arg1)
          ∧ r.2.mem ((c.tc : Thread Cert.RowConvRefIdeal.nD Cert.RowConvRefIdeal.τ).loc Cert.RowConvRefIdeal.main_arg2) = m' ((c.tc : Thread Cert.RowConvRefIdeal.nD Cert.RowConvRefIdeal.τ).loc Cert.RowConvRefIdeal.main_arg2))

def preserves_RowActBwd_RowActBwdIdeal : Prop :=
  True

def algebraic_RowActBwdIdeal_RowActBwdRefIdeal [hRowActBwdIdeal : Cert.RowActBwdIdeal.Facts] [hRowActBwdRefIdeal : Cert.RowActBwdRefIdeal.Facts] : Prop :=
  ∀ (m : (ℓ : Loc Cert.RowActBwdIdeal.nD Cert.RowActBwdIdeal.τ Cert.RowActBwdIdeal.sig) → Buf (Elt Ideal) ℓ) (g : Dev Cert.RowActBwdIdeal.nD → PrngReg)
    (m' : (ℓ : Loc Cert.RowActBwdRefIdeal.nD Cert.RowActBwdRefIdeal.τ Cert.RowActBwdRefIdeal.sig) → Buf (Elt Ideal) ℓ) (g' : Dev Cert.RowActBwdRefIdeal.nD → PrngReg), Pre_RowActBwdIdeal m →
    (∀ c : Dev Cert.RowActBwdIdeal.nD,
      m' ((c.tc : Thread Cert.RowActBwdRefIdeal.nD Cert.RowActBwdRefIdeal.τ).loc Cert.RowActBwdRefIdeal.main_arg0) = m ((c.tc : Thread Cert.RowActBwdIdeal.nD Cert.RowActBwdIdeal.τ).loc Cert.RowActBwdIdeal.main_arg0)
      ∧ m' ((c.tc : Thread Cert.RowActBwdRefIdeal.nD Cert.RowActBwdRefIdeal.τ).loc Cert.RowActBwdRefIdeal.main_arg1) = m ((c.tc : Thread Cert.RowActBwdIdeal.nD Cert.RowActBwdIdeal.τ).loc Cert.RowActBwdIdeal.main_arg1)) →
    ∃ (v0 : (c : Dev Cert.RowActBwdIdeal.nD) → Buf (Elt Ideal) ((c.tc : Thread Cert.RowActBwdIdeal.nD Cert.RowActBwdIdeal.τ).loc Cert.RowActBwdIdeal.main_v0)),
      θ_run (Cert.RowActBwdIdeal.defs (F := Ideal)) (onTc (τ := Cert.RowActBwdIdeal.τ) (Cert.RowActBwdIdeal.main (F := Ideal))) ⟨m, fun _ => 0, g⟩ (fun r => ∀ c : Dev Cert.RowActBwdIdeal.nD,
          r.2.mem ((c.tc : Thread Cert.RowActBwdIdeal.nD Cert.RowActBwdIdeal.τ).loc Cert.RowActBwdIdeal.main_v0) = v0 c
          ∧ r.2.mem ((c.tc : Thread Cert.RowActBwdIdeal.nD Cert.RowActBwdIdeal.τ).loc Cert.RowActBwdIdeal.main_arg0) = m ((c.tc : Thread Cert.RowActBwdIdeal.nD Cert.RowActBwdIdeal.τ).loc Cert.RowActBwdIdeal.main_arg0)
          ∧ r.2.mem ((c.tc : Thread Cert.RowActBwdIdeal.nD Cert.RowActBwdIdeal.τ).loc Cert.RowActBwdIdeal.main_arg1) = m ((c.tc : Thread Cert.RowActBwdIdeal.nD Cert.RowActBwdIdeal.τ).loc Cert.RowActBwdIdeal.main_arg1))
      ∧ θ_run (Cert.RowActBwdRefIdeal.defs (F := Ideal)) (onTc (τ := Cert.RowActBwdRefIdeal.τ) (Cert.RowActBwdRefIdeal.main (F := Ideal))) ⟨m', fun _ => 0, g'⟩ (fun r => ∀ c : Dev Cert.RowActBwdRefIdeal.nD,
          r.2.mem ((c.tc : Thread Cert.RowActBwdRefIdeal.nD Cert.RowActBwdRefIdeal.τ).loc Cert.RowActBwdRefIdeal.main_v10) = v0 c
          ∧ r.2.mem ((c.tc : Thread Cert.RowActBwdRefIdeal.nD Cert.RowActBwdRefIdeal.τ).loc Cert.RowActBwdRefIdeal.main_arg0) = m' ((c.tc : Thread Cert.RowActBwdRefIdeal.nD Cert.RowActBwdRefIdeal.τ).loc Cert.RowActBwdRefIdeal.main_arg0)
          ∧ r.2.mem ((c.tc : Thread Cert.RowActBwdRefIdeal.nD Cert.RowActBwdRefIdeal.τ).loc Cert.RowActBwdRefIdeal.main_arg1) = m' ((c.tc : Thread Cert.RowActBwdRefIdeal.nD Cert.RowActBwdRefIdeal.τ).loc Cert.RowActBwdRefIdeal.main_arg1))

def preserves_RowGeluBwd_RowGeluBwdIdeal : Prop :=
  True

def algebraic_RowGeluBwdIdeal_RowGeluBwdRefIdeal [hRowGeluBwdIdeal : Cert.RowGeluBwdIdeal.Facts] [hRowGeluBwdRefIdeal : Cert.RowGeluBwdRefIdeal.Facts] : Prop :=
  ∀ (m : (ℓ : Loc Cert.RowGeluBwdIdeal.nD Cert.RowGeluBwdIdeal.τ Cert.RowGeluBwdIdeal.sig) → Buf (Elt Ideal) ℓ) (g : Dev Cert.RowGeluBwdIdeal.nD → PrngReg)
    (m' : (ℓ : Loc Cert.RowGeluBwdRefIdeal.nD Cert.RowGeluBwdRefIdeal.τ Cert.RowGeluBwdRefIdeal.sig) → Buf (Elt Ideal) ℓ) (g' : Dev Cert.RowGeluBwdRefIdeal.nD → PrngReg), Pre_RowGeluBwdIdeal m →
    (∀ c : Dev Cert.RowGeluBwdIdeal.nD,
      m' ((c.tc : Thread Cert.RowGeluBwdRefIdeal.nD Cert.RowGeluBwdRefIdeal.τ).loc Cert.RowGeluBwdRefIdeal.main_arg0) = m ((c.tc : Thread Cert.RowGeluBwdIdeal.nD Cert.RowGeluBwdIdeal.τ).loc Cert.RowGeluBwdIdeal.main_arg0)
      ∧ m' ((c.tc : Thread Cert.RowGeluBwdRefIdeal.nD Cert.RowGeluBwdRefIdeal.τ).loc Cert.RowGeluBwdRefIdeal.main_arg1) = m ((c.tc : Thread Cert.RowGeluBwdIdeal.nD Cert.RowGeluBwdIdeal.τ).loc Cert.RowGeluBwdIdeal.main_arg1)) →
    ∃ (v0 : (c : Dev Cert.RowGeluBwdIdeal.nD) → Buf (Elt Ideal) ((c.tc : Thread Cert.RowGeluBwdIdeal.nD Cert.RowGeluBwdIdeal.τ).loc Cert.RowGeluBwdIdeal.main_v0)),
      θ_run (Cert.RowGeluBwdIdeal.defs (F := Ideal)) (onTc (τ := Cert.RowGeluBwdIdeal.τ) (Cert.RowGeluBwdIdeal.main (F := Ideal))) ⟨m, fun _ => 0, g⟩ (fun r => ∀ c : Dev Cert.RowGeluBwdIdeal.nD,
          r.2.mem ((c.tc : Thread Cert.RowGeluBwdIdeal.nD Cert.RowGeluBwdIdeal.τ).loc Cert.RowGeluBwdIdeal.main_v0) = v0 c
          ∧ r.2.mem ((c.tc : Thread Cert.RowGeluBwdIdeal.nD Cert.RowGeluBwdIdeal.τ).loc Cert.RowGeluBwdIdeal.main_arg0) = m ((c.tc : Thread Cert.RowGeluBwdIdeal.nD Cert.RowGeluBwdIdeal.τ).loc Cert.RowGeluBwdIdeal.main_arg0)
          ∧ r.2.mem ((c.tc : Thread Cert.RowGeluBwdIdeal.nD Cert.RowGeluBwdIdeal.τ).loc Cert.RowGeluBwdIdeal.main_arg1) = m ((c.tc : Thread Cert.RowGeluBwdIdeal.nD Cert.RowGeluBwdIdeal.τ).loc Cert.RowGeluBwdIdeal.main_arg1))
      ∧ θ_run (Cert.RowGeluBwdRefIdeal.defs (F := Ideal)) (onTc (τ := Cert.RowGeluBwdRefIdeal.τ) (Cert.RowGeluBwdRefIdeal.main (F := Ideal))) ⟨m', fun _ => 0, g'⟩ (fun r => ∀ c : Dev Cert.RowGeluBwdRefIdeal.nD,
          r.2.mem ((c.tc : Thread Cert.RowGeluBwdRefIdeal.nD Cert.RowGeluBwdRefIdeal.τ).loc Cert.RowGeluBwdRefIdeal.main_v32) = v0 c
          ∧ r.2.mem ((c.tc : Thread Cert.RowGeluBwdRefIdeal.nD Cert.RowGeluBwdRefIdeal.τ).loc Cert.RowGeluBwdRefIdeal.main_arg0) = m' ((c.tc : Thread Cert.RowGeluBwdRefIdeal.nD Cert.RowGeluBwdRefIdeal.τ).loc Cert.RowGeluBwdRefIdeal.main_arg0)
          ∧ r.2.mem ((c.tc : Thread Cert.RowGeluBwdRefIdeal.nD Cert.RowGeluBwdRefIdeal.τ).loc Cert.RowGeluBwdRefIdeal.main_arg1) = m' ((c.tc : Thread Cert.RowGeluBwdRefIdeal.nD Cert.RowGeluBwdRefIdeal.τ).loc Cert.RowGeluBwdRefIdeal.main_arg1))

def preserves_RowGateBwd_RowGateBwdIdeal : Prop :=
  True

def algebraic_RowGateBwdIdeal_RowGateBwdRefIdeal [hRowGateBwdIdeal : Cert.RowGateBwdIdeal.Facts] [hRowGateBwdRefIdeal : Cert.RowGateBwdRefIdeal.Facts] : Prop :=
  ∀ (m : (ℓ : Loc Cert.RowGateBwdIdeal.nD Cert.RowGateBwdIdeal.τ Cert.RowGateBwdIdeal.sig) → Buf (Elt Ideal) ℓ) (g : Dev Cert.RowGateBwdIdeal.nD → PrngReg)
    (m' : (ℓ : Loc Cert.RowGateBwdRefIdeal.nD Cert.RowGateBwdRefIdeal.τ Cert.RowGateBwdRefIdeal.sig) → Buf (Elt Ideal) ℓ) (g' : Dev Cert.RowGateBwdRefIdeal.nD → PrngReg), Pre_RowGateBwdIdeal m →
    (∀ c : Dev Cert.RowGateBwdIdeal.nD,
      m' ((c.tc : Thread Cert.RowGateBwdRefIdeal.nD Cert.RowGateBwdRefIdeal.τ).loc Cert.RowGateBwdRefIdeal.main_arg0) = m ((c.tc : Thread Cert.RowGateBwdIdeal.nD Cert.RowGateBwdIdeal.τ).loc Cert.RowGateBwdIdeal.main_arg0)
      ∧ m' ((c.tc : Thread Cert.RowGateBwdRefIdeal.nD Cert.RowGateBwdRefIdeal.τ).loc Cert.RowGateBwdRefIdeal.main_arg1) = m ((c.tc : Thread Cert.RowGateBwdIdeal.nD Cert.RowGateBwdIdeal.τ).loc Cert.RowGateBwdIdeal.main_arg1)
      ∧ m' ((c.tc : Thread Cert.RowGateBwdRefIdeal.nD Cert.RowGateBwdRefIdeal.τ).loc Cert.RowGateBwdRefIdeal.main_arg2) = m ((c.tc : Thread Cert.RowGateBwdIdeal.nD Cert.RowGateBwdIdeal.τ).loc Cert.RowGateBwdIdeal.main_arg2)) →
    ∃ (v0 : (c : Dev Cert.RowGateBwdIdeal.nD) → Buf (Elt Ideal) ((c.tc : Thread Cert.RowGateBwdIdeal.nD Cert.RowGateBwdIdeal.τ).loc Cert.RowGateBwdIdeal.main_v0_0)) (v1 : (c : Dev Cert.RowGateBwdIdeal.nD) → Buf (Elt Ideal) ((c.tc : Thread Cert.RowGateBwdIdeal.nD Cert.RowGateBwdIdeal.τ).loc Cert.RowGateBwdIdeal.main_v0_1)),
      θ_run (Cert.RowGateBwdIdeal.defs (F := Ideal)) (onTc (τ := Cert.RowGateBwdIdeal.τ) (Cert.RowGateBwdIdeal.main (F := Ideal))) ⟨m, fun _ => 0, g⟩ (fun r => ∀ c : Dev Cert.RowGateBwdIdeal.nD,
          r.2.mem ((c.tc : Thread Cert.RowGateBwdIdeal.nD Cert.RowGateBwdIdeal.τ).loc Cert.RowGateBwdIdeal.main_v0_0) = v0 c
          ∧ r.2.mem ((c.tc : Thread Cert.RowGateBwdIdeal.nD Cert.RowGateBwdIdeal.τ).loc Cert.RowGateBwdIdeal.main_v0_1) = v1 c
          ∧ r.2.mem ((c.tc : Thread Cert.RowGateBwdIdeal.nD Cert.RowGateBwdIdeal.τ).loc Cert.RowGateBwdIdeal.main_arg0) = m ((c.tc : Thread Cert.RowGateBwdIdeal.nD Cert.RowGateBwdIdeal.τ).loc Cert.RowGateBwdIdeal.main_arg0)
          ∧ r.2.mem ((c.tc : Thread Cert.RowGateBwdIdeal.nD Cert.RowGateBwdIdeal.τ).loc Cert.RowGateBwdIdeal.main_arg1) = m ((c.tc : Thread Cert.RowGateBwdIdeal.nD Cert.RowGateBwdIdeal.τ).loc Cert.RowGateBwdIdeal.main_arg1)
          ∧ r.2.mem ((c.tc : Thread Cert.RowGateBwdIdeal.nD Cert.RowGateBwdIdeal.τ).loc Cert.RowGateBwdIdeal.main_arg2) = m ((c.tc : Thread Cert.RowGateBwdIdeal.nD Cert.RowGateBwdIdeal.τ).loc Cert.RowGateBwdIdeal.main_arg2))
      ∧ θ_run (Cert.RowGateBwdRefIdeal.defs (F := Ideal)) (onTc (τ := Cert.RowGateBwdRefIdeal.τ) (Cert.RowGateBwdRefIdeal.main (F := Ideal))) ⟨m', fun _ => 0, g'⟩ (fun r => ∀ c : Dev Cert.RowGateBwdRefIdeal.nD,
          r.2.mem ((c.tc : Thread Cert.RowGateBwdRefIdeal.nD Cert.RowGateBwdRefIdeal.τ).loc Cert.RowGateBwdRefIdeal.main_v26) = v0 c
          ∧ r.2.mem ((c.tc : Thread Cert.RowGateBwdRefIdeal.nD Cert.RowGateBwdRefIdeal.τ).loc Cert.RowGateBwdRefIdeal.main_v27) = v1 c
          ∧ r.2.mem ((c.tc : Thread Cert.RowGateBwdRefIdeal.nD Cert.RowGateBwdRefIdeal.τ).loc Cert.RowGateBwdRefIdeal.main_arg0) = m' ((c.tc : Thread Cert.RowGateBwdRefIdeal.nD Cert.RowGateBwdRefIdeal.τ).loc Cert.RowGateBwdRefIdeal.main_arg0)
          ∧ r.2.mem ((c.tc : Thread Cert.RowGateBwdRefIdeal.nD Cert.RowGateBwdRefIdeal.τ).loc Cert.RowGateBwdRefIdeal.main_arg1) = m' ((c.tc : Thread Cert.RowGateBwdRefIdeal.nD Cert.RowGateBwdRefIdeal.τ).loc Cert.RowGateBwdRefIdeal.main_arg1)
          ∧ r.2.mem ((c.tc : Thread Cert.RowGateBwdRefIdeal.nD Cert.RowGateBwdRefIdeal.τ).loc Cert.RowGateBwdRefIdeal.main_arg2) = m' ((c.tc : Thread Cert.RowGateBwdRefIdeal.nD Cert.RowGateBwdRefIdeal.τ).loc Cert.RowGateBwdRefIdeal.main_arg2))

def preserves_RowOutBwd_RowOutBwdIdeal : Prop :=
  True

def algebraic_RowOutBwdIdeal_RowOutBwdRefIdeal [hRowOutBwdIdeal : Cert.RowOutBwdIdeal.Facts] [hRowOutBwdRefIdeal : Cert.RowOutBwdRefIdeal.Facts] : Prop :=
  ∀ (m : (ℓ : Loc Cert.RowOutBwdIdeal.nD Cert.RowOutBwdIdeal.τ Cert.RowOutBwdIdeal.sig) → Buf (Elt Ideal) ℓ) (g : Dev Cert.RowOutBwdIdeal.nD → PrngReg)
    (m' : (ℓ : Loc Cert.RowOutBwdRefIdeal.nD Cert.RowOutBwdRefIdeal.τ Cert.RowOutBwdRefIdeal.sig) → Buf (Elt Ideal) ℓ) (g' : Dev Cert.RowOutBwdRefIdeal.nD → PrngReg), Pre_RowOutBwdIdeal m →
    (∀ c : Dev Cert.RowOutBwdIdeal.nD,
      m' ((c.tc : Thread Cert.RowOutBwdRefIdeal.nD Cert.RowOutBwdRefIdeal.τ).loc Cert.RowOutBwdRefIdeal.main_arg0) = m ((c.tc : Thread Cert.RowOutBwdIdeal.nD Cert.RowOutBwdIdeal.τ).loc Cert.RowOutBwdIdeal.main_arg0)
      ∧ m' ((c.tc : Thread Cert.RowOutBwdRefIdeal.nD Cert.RowOutBwdRefIdeal.τ).loc Cert.RowOutBwdRefIdeal.main_arg1) = m ((c.tc : Thread Cert.RowOutBwdIdeal.nD Cert.RowOutBwdIdeal.τ).loc Cert.RowOutBwdIdeal.main_arg1)
      ∧ m' ((c.tc : Thread Cert.RowOutBwdRefIdeal.nD Cert.RowOutBwdRefIdeal.τ).loc Cert.RowOutBwdRefIdeal.main_arg2) = m ((c.tc : Thread Cert.RowOutBwdIdeal.nD Cert.RowOutBwdIdeal.τ).loc Cert.RowOutBwdIdeal.main_arg2)
      ∧ m' ((c.tc : Thread Cert.RowOutBwdRefIdeal.nD Cert.RowOutBwdRefIdeal.τ).loc Cert.RowOutBwdRefIdeal.main_arg3) = m ((c.tc : Thread Cert.RowOutBwdIdeal.nD Cert.RowOutBwdIdeal.τ).loc Cert.RowOutBwdIdeal.main_arg3)
      ∧ m' ((c.tc : Thread Cert.RowOutBwdRefIdeal.nD Cert.RowOutBwdRefIdeal.τ).loc Cert.RowOutBwdRefIdeal.main_arg4) = m ((c.tc : Thread Cert.RowOutBwdIdeal.nD Cert.RowOutBwdIdeal.τ).loc Cert.RowOutBwdIdeal.main_arg4)) →
    ∃ (v0 : (c : Dev Cert.RowOutBwdIdeal.nD) → Buf (Elt Ideal) ((c.tc : Thread Cert.RowOutBwdIdeal.nD Cert.RowOutBwdIdeal.τ).loc Cert.RowOutBwdIdeal.main_v0_0)) (v1 : (c : Dev Cert.RowOutBwdIdeal.nD) → Buf (Elt Ideal) ((c.tc : Thread Cert.RowOutBwdIdeal.nD Cert.RowOutBwdIdeal.τ).loc Cert.RowOutBwdIdeal.main_v0_1)) (v2 : (c : Dev Cert.RowOutBwdIdeal.nD) → Buf (Elt Ideal) ((c.tc : Thread Cert.RowOutBwdIdeal.nD Cert.RowOutBwdIdeal.τ).loc Cert.RowOutBwdIdeal.main_v0_2)),
      θ_run (Cert.RowOutBwdIdeal.defs (F := Ideal)) (onTc (τ := Cert.RowOutBwdIdeal.τ) (Cert.RowOutBwdIdeal.main (F := Ideal))) ⟨m, fun _ => 0, g⟩ (fun r => ∀ c : Dev Cert.RowOutBwdIdeal.nD,
          r.2.mem ((c.tc : Thread Cert.RowOutBwdIdeal.nD Cert.RowOutBwdIdeal.τ).loc Cert.RowOutBwdIdeal.main_v0_0) = v0 c
          ∧ r.2.mem ((c.tc : Thread Cert.RowOutBwdIdeal.nD Cert.RowOutBwdIdeal.τ).loc Cert.RowOutBwdIdeal.main_v0_1) = v1 c
          ∧ r.2.mem ((c.tc : Thread Cert.RowOutBwdIdeal.nD Cert.RowOutBwdIdeal.τ).loc Cert.RowOutBwdIdeal.main_v0_2) = v2 c
          ∧ r.2.mem ((c.tc : Thread Cert.RowOutBwdIdeal.nD Cert.RowOutBwdIdeal.τ).loc Cert.RowOutBwdIdeal.main_arg0) = m ((c.tc : Thread Cert.RowOutBwdIdeal.nD Cert.RowOutBwdIdeal.τ).loc Cert.RowOutBwdIdeal.main_arg0)
          ∧ r.2.mem ((c.tc : Thread Cert.RowOutBwdIdeal.nD Cert.RowOutBwdIdeal.τ).loc Cert.RowOutBwdIdeal.main_arg1) = m ((c.tc : Thread Cert.RowOutBwdIdeal.nD Cert.RowOutBwdIdeal.τ).loc Cert.RowOutBwdIdeal.main_arg1)
          ∧ r.2.mem ((c.tc : Thread Cert.RowOutBwdIdeal.nD Cert.RowOutBwdIdeal.τ).loc Cert.RowOutBwdIdeal.main_arg2) = m ((c.tc : Thread Cert.RowOutBwdIdeal.nD Cert.RowOutBwdIdeal.τ).loc Cert.RowOutBwdIdeal.main_arg2)
          ∧ r.2.mem ((c.tc : Thread Cert.RowOutBwdIdeal.nD Cert.RowOutBwdIdeal.τ).loc Cert.RowOutBwdIdeal.main_arg3) = m ((c.tc : Thread Cert.RowOutBwdIdeal.nD Cert.RowOutBwdIdeal.τ).loc Cert.RowOutBwdIdeal.main_arg3)
          ∧ r.2.mem ((c.tc : Thread Cert.RowOutBwdIdeal.nD Cert.RowOutBwdIdeal.τ).loc Cert.RowOutBwdIdeal.main_arg4) = m ((c.tc : Thread Cert.RowOutBwdIdeal.nD Cert.RowOutBwdIdeal.τ).loc Cert.RowOutBwdIdeal.main_arg4))
      ∧ θ_run (Cert.RowOutBwdRefIdeal.defs (F := Ideal)) (onTc (τ := Cert.RowOutBwdRefIdeal.τ) (Cert.RowOutBwdRefIdeal.main (F := Ideal))) ⟨m', fun _ => 0, g'⟩ (fun r => ∀ c : Dev Cert.RowOutBwdRefIdeal.nD,
          r.2.mem ((c.tc : Thread Cert.RowOutBwdRefIdeal.nD Cert.RowOutBwdRefIdeal.τ).loc Cert.RowOutBwdRefIdeal.main_v43) = v0 c
          ∧ r.2.mem ((c.tc : Thread Cert.RowOutBwdRefIdeal.nD Cert.RowOutBwdRefIdeal.τ).loc Cert.RowOutBwdRefIdeal.main_v23) = v1 c
          ∧ r.2.mem ((c.tc : Thread Cert.RowOutBwdRefIdeal.nD Cert.RowOutBwdRefIdeal.τ).loc Cert.RowOutBwdRefIdeal.main_v26) = v2 c
          ∧ r.2.mem ((c.tc : Thread Cert.RowOutBwdRefIdeal.nD Cert.RowOutBwdRefIdeal.τ).loc Cert.RowOutBwdRefIdeal.main_arg0) = m' ((c.tc : Thread Cert.RowOutBwdRefIdeal.nD Cert.RowOutBwdRefIdeal.τ).loc Cert.RowOutBwdRefIdeal.main_arg0)
          ∧ r.2.mem ((c.tc : Thread Cert.RowOutBwdRefIdeal.nD Cert.RowOutBwdRefIdeal.τ).loc Cert.RowOutBwdRefIdeal.main_arg1) = m' ((c.tc : Thread Cert.RowOutBwdRefIdeal.nD Cert.RowOutBwdRefIdeal.τ).loc Cert.RowOutBwdRefIdeal.main_arg1)
          ∧ r.2.mem ((c.tc : Thread Cert.RowOutBwdRefIdeal.nD Cert.RowOutBwdRefIdeal.τ).loc Cert.RowOutBwdRefIdeal.main_arg2) = m' ((c.tc : Thread Cert.RowOutBwdRefIdeal.nD Cert.RowOutBwdRefIdeal.τ).loc Cert.RowOutBwdRefIdeal.main_arg2)
          ∧ r.2.mem ((c.tc : Thread Cert.RowOutBwdRefIdeal.nD Cert.RowOutBwdRefIdeal.τ).loc Cert.RowOutBwdRefIdeal.main_arg3) = m' ((c.tc : Thread Cert.RowOutBwdRefIdeal.nD Cert.RowOutBwdRefIdeal.τ).loc Cert.RowOutBwdRefIdeal.main_arg3)
          ∧ r.2.mem ((c.tc : Thread Cert.RowOutBwdRefIdeal.nD Cert.RowOutBwdRefIdeal.τ).loc Cert.RowOutBwdRefIdeal.main_arg4) = m' ((c.tc : Thread Cert.RowOutBwdRefIdeal.nD Cert.RowOutBwdRefIdeal.τ).loc Cert.RowOutBwdRefIdeal.main_arg4))

def preserves_RowConvBwd_RowConvBwdIdeal : Prop :=
  True

def algebraic_RowConvBwdIdeal_RowConvBwdRefIdeal [hRowConvBwdIdeal : Cert.RowConvBwdIdeal.Facts] [hRowConvBwdRefIdeal : Cert.RowConvBwdRefIdeal.Facts] : Prop :=
  ∀ (m : (ℓ : Loc Cert.RowConvBwdIdeal.nD Cert.RowConvBwdIdeal.τ Cert.RowConvBwdIdeal.sig) → Buf (Elt Ideal) ℓ) (g : Dev Cert.RowConvBwdIdeal.nD → PrngReg)
    (m' : (ℓ : Loc Cert.RowConvBwdRefIdeal.nD Cert.RowConvBwdRefIdeal.τ Cert.RowConvBwdRefIdeal.sig) → Buf (Elt Ideal) ℓ) (g' : Dev Cert.RowConvBwdRefIdeal.nD → PrngReg), Pre_RowConvBwdIdeal m →
    (∀ c : Dev Cert.RowConvBwdIdeal.nD,
      m' ((c.tc : Thread Cert.RowConvBwdRefIdeal.nD Cert.RowConvBwdRefIdeal.τ).loc Cert.RowConvBwdRefIdeal.main_arg0) = m ((c.tc : Thread Cert.RowConvBwdIdeal.nD Cert.RowConvBwdIdeal.τ).loc Cert.RowConvBwdIdeal.main_arg0)
      ∧ m' ((c.tc : Thread Cert.RowConvBwdRefIdeal.nD Cert.RowConvBwdRefIdeal.τ).loc Cert.RowConvBwdRefIdeal.main_arg1) = m ((c.tc : Thread Cert.RowConvBwdIdeal.nD Cert.RowConvBwdIdeal.τ).loc Cert.RowConvBwdIdeal.main_arg1)
      ∧ m' ((c.tc : Thread Cert.RowConvBwdRefIdeal.nD Cert.RowConvBwdRefIdeal.τ).loc Cert.RowConvBwdRefIdeal.main_arg2) = m ((c.tc : Thread Cert.RowConvBwdIdeal.nD Cert.RowConvBwdIdeal.τ).loc Cert.RowConvBwdIdeal.main_arg2)
      ∧ m' ((c.tc : Thread Cert.RowConvBwdRefIdeal.nD Cert.RowConvBwdRefIdeal.τ).loc Cert.RowConvBwdRefIdeal.main_arg3) = m ((c.tc : Thread Cert.RowConvBwdIdeal.nD Cert.RowConvBwdIdeal.τ).loc Cert.RowConvBwdIdeal.main_arg3)
      ∧ m' ((c.tc : Thread Cert.RowConvBwdRefIdeal.nD Cert.RowConvBwdRefIdeal.τ).loc Cert.RowConvBwdRefIdeal.main_arg4) = m ((c.tc : Thread Cert.RowConvBwdIdeal.nD Cert.RowConvBwdIdeal.τ).loc Cert.RowConvBwdIdeal.main_arg4)) →
    ∃ (v0 : (c : Dev Cert.RowConvBwdIdeal.nD) → Buf (Elt Ideal) ((c.tc : Thread Cert.RowConvBwdIdeal.nD Cert.RowConvBwdIdeal.τ).loc Cert.RowConvBwdIdeal.main_v0_0)) (v1 : (c : Dev Cert.RowConvBwdIdeal.nD) → Buf (Elt Ideal) ((c.tc : Thread Cert.RowConvBwdIdeal.nD Cert.RowConvBwdIdeal.τ).loc Cert.RowConvBwdIdeal.main_v0_1)) (v2 : (c : Dev Cert.RowConvBwdIdeal.nD) → Buf (Elt Ideal) ((c.tc : Thread Cert.RowConvBwdIdeal.nD Cert.RowConvBwdIdeal.τ).loc Cert.RowConvBwdIdeal.main_v0_2)) (v3 : (c : Dev Cert.RowConvBwdIdeal.nD) → Buf (Elt Ideal) ((c.tc : Thread Cert.RowConvBwdIdeal.nD Cert.RowConvBwdIdeal.τ).loc Cert.RowConvBwdIdeal.main_v0_3)),
      θ_run (Cert.RowConvBwdIdeal.defs (F := Ideal)) (onTc (τ := Cert.RowConvBwdIdeal.τ) (Cert.RowConvBwdIdeal.main (F := Ideal))) ⟨m, fun _ => 0, g⟩ (fun r => ∀ c : Dev Cert.RowConvBwdIdeal.nD,
          r.2.mem ((c.tc : Thread Cert.RowConvBwdIdeal.nD Cert.RowConvBwdIdeal.τ).loc Cert.RowConvBwdIdeal.main_v0_0) = v0 c
          ∧ r.2.mem ((c.tc : Thread Cert.RowConvBwdIdeal.nD Cert.RowConvBwdIdeal.τ).loc Cert.RowConvBwdIdeal.main_v0_1) = v1 c
          ∧ r.2.mem ((c.tc : Thread Cert.RowConvBwdIdeal.nD Cert.RowConvBwdIdeal.τ).loc Cert.RowConvBwdIdeal.main_v0_2) = v2 c
          ∧ r.2.mem ((c.tc : Thread Cert.RowConvBwdIdeal.nD Cert.RowConvBwdIdeal.τ).loc Cert.RowConvBwdIdeal.main_v0_3) = v3 c
          ∧ r.2.mem ((c.tc : Thread Cert.RowConvBwdIdeal.nD Cert.RowConvBwdIdeal.τ).loc Cert.RowConvBwdIdeal.main_arg0) = m ((c.tc : Thread Cert.RowConvBwdIdeal.nD Cert.RowConvBwdIdeal.τ).loc Cert.RowConvBwdIdeal.main_arg0)
          ∧ r.2.mem ((c.tc : Thread Cert.RowConvBwdIdeal.nD Cert.RowConvBwdIdeal.τ).loc Cert.RowConvBwdIdeal.main_arg1) = m ((c.tc : Thread Cert.RowConvBwdIdeal.nD Cert.RowConvBwdIdeal.τ).loc Cert.RowConvBwdIdeal.main_arg1)
          ∧ r.2.mem ((c.tc : Thread Cert.RowConvBwdIdeal.nD Cert.RowConvBwdIdeal.τ).loc Cert.RowConvBwdIdeal.main_arg2) = m ((c.tc : Thread Cert.RowConvBwdIdeal.nD Cert.RowConvBwdIdeal.τ).loc Cert.RowConvBwdIdeal.main_arg2)
          ∧ r.2.mem ((c.tc : Thread Cert.RowConvBwdIdeal.nD Cert.RowConvBwdIdeal.τ).loc Cert.RowConvBwdIdeal.main_arg3) = m ((c.tc : Thread Cert.RowConvBwdIdeal.nD Cert.RowConvBwdIdeal.τ).loc Cert.RowConvBwdIdeal.main_arg3)
          ∧ r.2.mem ((c.tc : Thread Cert.RowConvBwdIdeal.nD Cert.RowConvBwdIdeal.τ).loc Cert.RowConvBwdIdeal.main_arg4) = m ((c.tc : Thread Cert.RowConvBwdIdeal.nD Cert.RowConvBwdIdeal.τ).loc Cert.RowConvBwdIdeal.main_arg4))
      ∧ θ_run (Cert.RowConvBwdRefIdeal.defs (F := Ideal)) (onTc (τ := Cert.RowConvBwdRefIdeal.τ) (Cert.RowConvBwdRefIdeal.main (F := Ideal))) ⟨m', fun _ => 0, g'⟩ (fun r => ∀ c : Dev Cert.RowConvBwdRefIdeal.nD,
          r.2.mem ((c.tc : Thread Cert.RowConvBwdRefIdeal.nD Cert.RowConvBwdRefIdeal.τ).loc Cert.RowConvBwdRefIdeal.main_v59) = v0 c
          ∧ r.2.mem ((c.tc : Thread Cert.RowConvBwdRefIdeal.nD Cert.RowConvBwdRefIdeal.τ).loc Cert.RowConvBwdRefIdeal.main_v33) = v1 c
          ∧ r.2.mem ((c.tc : Thread Cert.RowConvBwdRefIdeal.nD Cert.RowConvBwdRefIdeal.τ).loc Cert.RowConvBwdRefIdeal.main_v30) = v2 c
          ∧ r.2.mem ((c.tc : Thread Cert.RowConvBwdRefIdeal.nD Cert.RowConvBwdRefIdeal.τ).loc Cert.RowConvBwdRefIdeal.main_v61) = v3 c
          ∧ r.2.mem ((c.tc : Thread Cert.RowConvBwdRefIdeal.nD Cert.RowConvBwdRefIdeal.τ).loc Cert.RowConvBwdRefIdeal.main_arg0) = m' ((c.tc : Thread Cert.RowConvBwdRefIdeal.nD Cert.RowConvBwdRefIdeal.τ).loc Cert.RowConvBwdRefIdeal.main_arg0)
          ∧ r.2.mem ((c.tc : Thread Cert.RowConvBwdRefIdeal.nD Cert.RowConvBwdRefIdeal.τ).loc Cert.RowConvBwdRefIdeal.main_arg1) = m' ((c.tc : Thread Cert.RowConvBwdRefIdeal.nD Cert.RowConvBwdRefIdeal.τ).loc Cert.RowConvBwdRefIdeal.main_arg1)
          ∧ r.2.mem ((c.tc : Thread Cert.RowConvBwdRefIdeal.nD Cert.RowConvBwdRefIdeal.τ).loc Cert.RowConvBwdRefIdeal.main_arg2) = m' ((c.tc : Thread Cert.RowConvBwdRefIdeal.nD Cert.RowConvBwdRefIdeal.τ).loc Cert.RowConvBwdRefIdeal.main_arg2)
          ∧ r.2.mem ((c.tc : Thread Cert.RowConvBwdRefIdeal.nD Cert.RowConvBwdRefIdeal.τ).loc Cert.RowConvBwdRefIdeal.main_arg3) = m' ((c.tc : Thread Cert.RowConvBwdRefIdeal.nD Cert.RowConvBwdRefIdeal.τ).loc Cert.RowConvBwdRefIdeal.main_arg3)
          ∧ r.2.mem ((c.tc : Thread Cert.RowConvBwdRefIdeal.nD Cert.RowConvBwdRefIdeal.τ).loc Cert.RowConvBwdRefIdeal.main_arg4) = m' ((c.tc : Thread Cert.RowConvBwdRefIdeal.nD Cert.RowConvBwdRefIdeal.τ).loc Cert.RowConvBwdRefIdeal.main_arg4))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v4) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)
      ∧ m' ((c.tc : Thread Cert.MidBwdRefIdeal.nD Cert.MidBwdRefIdeal.τ).loc Cert.MidBwdRefIdeal.main_arg6) = m ((c.tc : Thread Cert.MidBwdIdeal.nD Cert.MidBwdIdeal.τ).loc Cert.MidBwdIdeal.main_arg6)
      ∧ m' ((c.tc : Thread Cert.MidBwdRefIdeal.nD Cert.MidBwdRefIdeal.τ).loc Cert.MidBwdRefIdeal.main_arg7) = m ((c.tc : Thread Cert.MidBwdIdeal.nD Cert.MidBwdIdeal.τ).loc Cert.MidBwdIdeal.main_arg7)
      ∧ m' ((c.tc : Thread Cert.MidBwdRefIdeal.nD Cert.MidBwdRefIdeal.τ).loc Cert.MidBwdRefIdeal.main_arg8) = m ((c.tc : Thread Cert.MidBwdIdeal.nD Cert.MidBwdIdeal.τ).loc Cert.MidBwdIdeal.main_arg8)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)) (v4 : (c : Dev Cert.MidBwdIdeal.nD) → Buf (Elt Ideal) ((c.tc : Thread Cert.MidBwdIdeal.nD Cert.MidBwdIdeal.τ).loc Cert.MidBwdIdeal.main_v0_4)) (v5 : (c : Dev Cert.MidBwdIdeal.nD) → Buf (Elt Ideal) ((c.tc : Thread Cert.MidBwdIdeal.nD Cert.MidBwdIdeal.τ).loc Cert.MidBwdIdeal.main_v0_5)) (v6 : (c : Dev Cert.MidBwdIdeal.nD) → Buf (Elt Ideal) ((c.tc : Thread Cert.MidBwdIdeal.nD Cert.MidBwdIdeal.τ).loc Cert.MidBwdIdeal.main_v0_6)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_v0_4) = v4 c
          ∧ r.2.mem ((c.tc : Thread Cert.MidBwdIdeal.nD Cert.MidBwdIdeal.τ).loc Cert.MidBwdIdeal.main_v0_5) = v5 c
          ∧ r.2.mem ((c.tc : Thread Cert.MidBwdIdeal.nD Cert.MidBwdIdeal.τ).loc Cert.MidBwdIdeal.main_v0_6) = v6 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
          ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6)
          ∧ r.2.mem ((c.tc : Thread Cert.MidBwdIdeal.nD Cert.MidBwdIdeal.τ).loc Cert.MidBwdIdeal.main_arg7) = m ((c.tc : Thread Cert.MidBwdIdeal.nD Cert.MidBwdIdeal.τ).loc Cert.MidBwdIdeal.main_arg7)
          ∧ r.2.mem ((c.tc : Thread Cert.MidBwdIdeal.nD Cert.MidBwdIdeal.τ).loc Cert.MidBwdIdeal.main_arg8) = m ((c.tc : Thread Cert.MidBwdIdeal.nD Cert.MidBwdIdeal.τ).loc Cert.MidBwdIdeal.main_arg8))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v66) = v0 c
          ∧ r.2.mem ((c.tc : Thread Cert.MidBwdRefIdeal.nD Cert.MidBwdRefIdeal.τ).loc Cert.MidBwdRefIdeal.main_v91) = v1 c
          ∧ r.2.mem ((c.tc : Thread Cert.MidBwdRefIdeal.nD Cert.MidBwdRefIdeal.τ).loc Cert.MidBwdRefIdeal.main_v72) = v2 c
          ∧ r.2.mem ((c.tc : Thread Cert.MidBwdRefIdeal.nD Cert.MidBwdRefIdeal.τ).loc Cert.MidBwdRefIdeal.main_v75) = v3 c
          ∧ r.2.mem ((c.tc : Thread Cert.MidBwdRefIdeal.nD Cert.MidBwdRefIdeal.τ).loc Cert.MidBwdRefIdeal.main_v49) = v4 c
          ∧ r.2.mem ((c.tc : Thread Cert.MidBwdRefIdeal.nD Cert.MidBwdRefIdeal.τ).loc Cert.MidBwdRefIdeal.main_v41) = v5 c
          ∧ r.2.mem ((c.tc : Thread Cert.MidBwdRefIdeal.nD Cert.MidBwdRefIdeal.τ).loc Cert.MidBwdRefIdeal.main_v44) = v6 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5)
          ∧ r.2.mem ((c.tc : Thread Cert.MidBwdRefIdeal.nD Cert.MidBwdRefIdeal.τ).loc Cert.MidBwdRefIdeal.main_arg6) = m' ((c.tc : Thread Cert.MidBwdRefIdeal.nD Cert.MidBwdRefIdeal.τ).loc Cert.MidBwdRefIdeal.main_arg6)
          ∧ r.2.mem ((c.tc : Thread Cert.MidBwdRefIdeal.nD Cert.MidBwdRefIdeal.τ).loc Cert.MidBwdRefIdeal.main_arg7) = m' ((c.tc : Thread Cert.MidBwdRefIdeal.nD Cert.MidBwdRefIdeal.τ).loc Cert.MidBwdRefIdeal.main_arg7)
          ∧ r.2.mem ((c.tc : Thread Cert.MidBwdRefIdeal.nD Cert.MidBwdRefIdeal.τ).loc Cert.MidBwdRefIdeal.main_arg8) = m' ((c.tc : Thread Cert.MidBwdRefIdeal.nD Cert.MidBwdRefIdeal.τ).loc Cert.MidBwdRefIdeal.main_arg8))

def preserves_Matrices_MatricesIdeal : Prop :=
  True

def algebraic_MatricesIdeal_MatricesRefIdeal [hMatricesIdeal : Cert.MatricesIdeal.Facts] [hMatricesRefIdeal : Cert.MatricesRefIdeal.Facts] : Prop :=
  ∀ (m : (ℓ : Loc Cert.MatricesIdeal.nD Cert.MatricesIdeal.τ Cert.MatricesIdeal.sig) → Buf (Elt Ideal) ℓ) (g : Dev Cert.MatricesIdeal.nD → PrngReg)
    (m' : (ℓ : Loc Cert.MatricesRefIdeal.nD Cert.MatricesRefIdeal.τ Cert.MatricesRefIdeal.sig) → Buf (Elt Ideal) ℓ) (g' : Dev Cert.MatricesRefIdeal.nD → PrngReg), Pre_MatricesIdeal m →
    (∀ c : Dev Cert.MatricesIdeal.nD,
      m' ((c.tc : Thread Cert.MatricesRefIdeal.nD Cert.MatricesRefIdeal.τ).loc Cert.MatricesRefIdeal.main_arg0) = m ((c.tc : Thread Cert.MatricesIdeal.nD Cert.MatricesIdeal.τ).loc Cert.MatricesIdeal.main_arg0)
      ∧ m' ((c.tc : Thread Cert.MatricesRefIdeal.nD Cert.MatricesRefIdeal.τ).loc Cert.MatricesRefIdeal.main_arg1) = m ((c.tc : Thread Cert.MatricesIdeal.nD Cert.MatricesIdeal.τ).loc Cert.MatricesIdeal.main_arg1)
      ∧ m' ((c.tc : Thread Cert.MatricesRefIdeal.nD Cert.MatricesRefIdeal.τ).loc Cert.MatricesRefIdeal.main_arg2) = m ((c.tc : Thread Cert.MatricesIdeal.nD Cert.MatricesIdeal.τ).loc Cert.MatricesIdeal.main_arg2)
      ∧ m' ((c.tc : Thread Cert.MatricesRefIdeal.nD Cert.MatricesRefIdeal.τ).loc Cert.MatricesRefIdeal.main_arg3) = m ((c.tc : Thread Cert.MatricesIdeal.nD Cert.MatricesIdeal.τ).loc Cert.MatricesIdeal.main_arg3)
      ∧ m' ((c.tc : Thread Cert.MatricesRefIdeal.nD Cert.MatricesRefIdeal.τ).loc Cert.MatricesRefIdeal.main_arg4) = m ((c.tc : Thread Cert.MatricesIdeal.nD Cert.MatricesIdeal.τ).loc Cert.MatricesIdeal.main_arg4)) →
    ∃ (v0 : (c : Dev Cert.MatricesIdeal.nD) → Buf (Elt Ideal) ((c.tc : Thread Cert.MatricesIdeal.nD Cert.MatricesIdeal.τ).loc Cert.MatricesIdeal.main_v0_0)) (v1 : (c : Dev Cert.MatricesIdeal.nD) → Buf (Elt Ideal) ((c.tc : Thread Cert.MatricesIdeal.nD Cert.MatricesIdeal.τ).loc Cert.MatricesIdeal.main_v0_1)) (v2 : (c : Dev Cert.MatricesIdeal.nD) → Buf (Elt Ideal) ((c.tc : Thread Cert.MatricesIdeal.nD Cert.MatricesIdeal.τ).loc Cert.MatricesIdeal.main_v0_2)) (v3 : (c : Dev Cert.MatricesIdeal.nD) → Buf (Elt Ideal) ((c.tc : Thread Cert.MatricesIdeal.nD Cert.MatricesIdeal.τ).loc Cert.MatricesIdeal.main_v0_3)),
      θ_run (Cert.MatricesIdeal.defs (F := Ideal)) (onTc (τ := Cert.MatricesIdeal.τ) (Cert.MatricesIdeal.main (F := Ideal))) ⟨m, fun _ => 0, g⟩ (fun r => ∀ c : Dev Cert.MatricesIdeal.nD,
          r.2.mem ((c.tc : Thread Cert.MatricesIdeal.nD Cert.MatricesIdeal.τ).loc Cert.MatricesIdeal.main_v0_0) = v0 c
          ∧ r.2.mem ((c.tc : Thread Cert.MatricesIdeal.nD Cert.MatricesIdeal.τ).loc Cert.MatricesIdeal.main_v0_1) = v1 c
          ∧ r.2.mem ((c.tc : Thread Cert.MatricesIdeal.nD Cert.MatricesIdeal.τ).loc Cert.MatricesIdeal.main_v0_2) = v2 c
          ∧ r.2.mem ((c.tc : Thread Cert.MatricesIdeal.nD Cert.MatricesIdeal.τ).loc Cert.MatricesIdeal.main_v0_3) = v3 c
          ∧ r.2.mem ((c.tc : Thread Cert.MatricesIdeal.nD Cert.MatricesIdeal.τ).loc Cert.MatricesIdeal.main_arg0) = m ((c.tc : Thread Cert.MatricesIdeal.nD Cert.MatricesIdeal.τ).loc Cert.MatricesIdeal.main_arg0)
          ∧ r.2.mem ((c.tc : Thread Cert.MatricesIdeal.nD Cert.MatricesIdeal.τ).loc Cert.MatricesIdeal.main_arg1) = m ((c.tc : Thread Cert.MatricesIdeal.nD Cert.MatricesIdeal.τ).loc Cert.MatricesIdeal.main_arg1)
          ∧ r.2.mem ((c.tc : Thread Cert.MatricesIdeal.nD Cert.MatricesIdeal.τ).loc Cert.MatricesIdeal.main_arg2) = m ((c.tc : Thread Cert.MatricesIdeal.nD Cert.MatricesIdeal.τ).loc Cert.MatricesIdeal.main_arg2)
          ∧ r.2.mem ((c.tc : Thread Cert.MatricesIdeal.nD Cert.MatricesIdeal.τ).loc Cert.MatricesIdeal.main_arg3) = m ((c.tc : Thread Cert.MatricesIdeal.nD Cert.MatricesIdeal.τ).loc Cert.MatricesIdeal.main_arg3)
          ∧ r.2.mem ((c.tc : Thread Cert.MatricesIdeal.nD Cert.MatricesIdeal.τ).loc Cert.MatricesIdeal.main_arg4) = m ((c.tc : Thread Cert.MatricesIdeal.nD Cert.MatricesIdeal.τ).loc Cert.MatricesIdeal.main_arg4))
      ∧ θ_run (Cert.MatricesRefIdeal.defs (F := Ideal)) (onTc (τ := Cert.MatricesRefIdeal.τ) (Cert.MatricesRefIdeal.main (F := Ideal))) ⟨m', fun _ => 0, g'⟩ (fun r => ∀ c : Dev Cert.MatricesRefIdeal.nD,
          r.2.mem ((c.tc : Thread Cert.MatricesRefIdeal.nD Cert.MatricesRefIdeal.τ).loc Cert.MatricesRefIdeal.main_v5) = v0 c
          ∧ r.2.mem ((c.tc : Thread Cert.MatricesRefIdeal.nD Cert.MatricesRefIdeal.τ).loc Cert.MatricesRefIdeal.main_v8) = v1 c
          ∧ r.2.mem ((c.tc : Thread Cert.MatricesRefIdeal.nD Cert.MatricesRefIdeal.τ).loc Cert.MatricesRefIdeal.main_v28) = v2 c
          ∧ r.2.mem ((c.tc : Thread Cert.MatricesRefIdeal.nD Cert.MatricesRefIdeal.τ).loc Cert.MatricesRefIdeal.main_v33) = v3 c
          ∧ r.2.mem ((c.tc : Thread Cert.MatricesRefIdeal.nD Cert.MatricesRefIdeal.τ).loc Cert.MatricesRefIdeal.main_arg0) = m' ((c.tc : Thread Cert.MatricesRefIdeal.nD Cert.MatricesRefIdeal.τ).loc Cert.MatricesRefIdeal.main_arg0)
          ∧ r.2.mem ((c.tc : Thread Cert.MatricesRefIdeal.nD Cert.MatricesRefIdeal.τ).loc Cert.MatricesRefIdeal.main_arg1) = m' ((c.tc : Thread Cert.MatricesRefIdeal.nD Cert.MatricesRefIdeal.τ).loc Cert.MatricesRefIdeal.main_arg1)
          ∧ r.2.mem ((c.tc : Thread Cert.MatricesRefIdeal.nD Cert.MatricesRefIdeal.τ).loc Cert.MatricesRefIdeal.main_arg2) = m' ((c.tc : Thread Cert.MatricesRefIdeal.nD Cert.MatricesRefIdeal.τ).loc Cert.MatricesRefIdeal.main_arg2)
          ∧ r.2.mem ((c.tc : Thread Cert.MatricesRefIdeal.nD Cert.MatricesRefIdeal.τ).loc Cert.MatricesRefIdeal.main_arg3) = m' ((c.tc : Thread Cert.MatricesRefIdeal.nD Cert.MatricesRefIdeal.τ).loc Cert.MatricesRefIdeal.main_arg3)
          ∧ r.2.mem ((c.tc : Thread Cert.MatricesRefIdeal.nD Cert.MatricesRefIdeal.τ).loc Cert.MatricesRefIdeal.main_arg4) = m' ((c.tc : Thread Cert.MatricesRefIdeal.nD Cert.MatricesRefIdeal.τ).loc Cert.MatricesRefIdeal.main_arg4))

def Claim : Prop :=
  ∃ (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hChips : Cert.Chips.Facts) (hChipsIdeal : Cert.ChipsIdeal.Facts) (hChipsRefIdeal : Cert.ChipsRefIdeal.Facts) (hChipsRef : Cert.ChipsRef.Facts) (hShare : Cert.Share.Facts) (hShareIdeal : Cert.ShareIdeal.Facts) (hShareRefIdeal : Cert.ShareRefIdeal.Facts) (hShareRef : Cert.ShareRef.Facts) (hAdamQkv : Cert.AdamQkv.Facts) (hAdamQkvIdeal : Cert.AdamQkvIdeal.Facts) (hAdamQkvRefIdeal : Cert.AdamQkvRefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamConv : Cert.AdamConv.Facts) (hAdamConvIdeal : Cert.AdamConvIdeal.Facts) (hAdamConvRefIdeal : Cert.AdamConvRefIdeal.Facts) (hAdamFfn : Cert.AdamFfn.Facts) (hAdamFfnIdeal : Cert.AdamFfnIdeal.Facts) (hAdamFfnRefIdeal : Cert.AdamFfnRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hAdamMod : Cert.AdamMod.Facts) (hAdamModIdeal : Cert.AdamModIdeal.Facts) (hAdamModRefIdeal : Cert.AdamModRefIdeal.Facts) (hAddOwn : Cert.AddOwn.Facts) (hAddOwnIdeal : Cert.AddOwnIdeal.Facts) (hAddOwnRefIdeal : Cert.AddOwnRefIdeal.Facts) (hAddOwnRef : Cert.AddOwnRef.Facts) (hAddFour : Cert.AddFour.Facts) (hAddFourIdeal : Cert.AddFourIdeal.Facts) (hAddFourRefIdeal : Cert.AddFourRefIdeal.Facts) (hAddFourRef : Cert.AddFourRef.Facts) (hMulWo : Cert.MulWo.Facts) (hMulWoIdeal : Cert.MulWoIdeal.Facts) (hMulWoRefIdeal : Cert.MulWoRefIdeal.Facts) (hMulDWo : Cert.MulDWo.Facts) (hMulDWoIdeal : Cert.MulDWoIdeal.Facts) (hMulDWoRefIdeal : Cert.MulDWoRefIdeal.Facts) (hMulQkv : Cert.MulQkv.Facts) (hMulQkvIdeal : Cert.MulQkvIdeal.Facts) (hMulQkvRefIdeal : Cert.MulQkvRefIdeal.Facts) (hMulGlu : Cert.MulGlu.Facts) (hMulGluIdeal : Cert.MulGluIdeal.Facts) (hMulGluRefIdeal : Cert.MulGluRefIdeal.Facts) (hMulGateUp : Cert.MulGateUp.Facts) (hMulGateUpIdeal : Cert.MulGateUpIdeal.Facts) (hMulGateUpRefIdeal : Cert.MulGateUpRefIdeal.Facts) (hMulDown : Cert.MulDown.Facts) (hMulDownIdeal : Cert.MulDownIdeal.Facts) (hMulDownRefIdeal : Cert.MulDownRefIdeal.Facts) (hMulDQkv : Cert.MulDQkv.Facts) (hMulDQkvIdeal : Cert.MulDQkvIdeal.Facts) (hMulDQkvRefIdeal : Cert.MulDQkvRefIdeal.Facts) (hMulDGlu : Cert.MulDGlu.Facts) (hMulDGluIdeal : Cert.MulDGluIdeal.Facts) (hMulDGluRefIdeal : Cert.MulDGluRefIdeal.Facts) (hMulDGateUp : Cert.MulDGateUp.Facts) (hMulDGateUpIdeal : Cert.MulDGateUpIdeal.Facts) (hMulDGateUpRefIdeal : Cert.MulDGateUpRefIdeal.Facts) (hMulDDown : Cert.MulDDown.Facts) (hMulDDownIdeal : Cert.MulDDownIdeal.Facts) (hMulDDownRefIdeal : Cert.MulDDownRefIdeal.Facts) (hMulBackO : Cert.MulBackO.Facts) (hMulBackOIdeal : Cert.MulBackOIdeal.Facts) (hMulBackORefIdeal : Cert.MulBackORefIdeal.Facts) (hMulBackConv : Cert.MulBackConv.Facts) (hMulBackConvIdeal : Cert.MulBackConvIdeal.Facts) (hMulBackConvRefIdeal : Cert.MulBackConvRefIdeal.Facts) (hMulBackQkv : Cert.MulBackQkv.Facts) (hMulBackQkvIdeal : Cert.MulBackQkvIdeal.Facts) (hMulBackQkvRefIdeal : Cert.MulBackQkvRefIdeal.Facts) (hMulBackGlu : Cert.MulBackGlu.Facts) (hMulBackGluIdeal : Cert.MulBackGluIdeal.Facts) (hMulBackGluRefIdeal : Cert.MulBackGluRefIdeal.Facts) (hMulBackFfn : Cert.MulBackFfn.Facts) (hMulBackFfnIdeal : Cert.MulBackFfnIdeal.Facts) (hMulBackFfnRefIdeal : Cert.MulBackFfnRefIdeal.Facts) (hMulBackAct : Cert.MulBackAct.Facts) (hMulBackActIdeal : Cert.MulBackActIdeal.Facts) (hMulBackActRefIdeal : Cert.MulBackActRefIdeal.Facts) (hLossHead : Cert.LossHead.Facts) (hLossHeadIdeal : Cert.LossHeadIdeal.Facts) (hLossHeadRefIdeal : Cert.LossHeadRefIdeal.Facts) (hLossTotal : Cert.LossTotal.Facts) (hLossTotalIdeal : Cert.LossTotalIdeal.Facts) (hLossTotalRefIdeal : Cert.LossTotalRefIdeal.Facts) (hPreBwd : Cert.PreBwd.Facts) (hPreBwdIdeal : Cert.PreBwdIdeal.Facts) (hPreBwdRefIdeal : Cert.PreBwdRefIdeal.Facts) (hRowIn : Cert.RowIn.Facts) (hRowInIdeal : Cert.RowInIdeal.Facts) (hRowInRefIdeal : Cert.RowInRefIdeal.Facts) (hRowInS5 : Cert.RowInS5.Facts) (hRowInS5Ideal : Cert.RowInS5Ideal.Facts) (hRowInS5RefIdeal : Cert.RowInS5RefIdeal.Facts) (hRowMid : Cert.RowMid.Facts) (hRowMidIdeal : Cert.RowMidIdeal.Facts) (hRowMidRefIdeal : Cert.RowMidRefIdeal.Facts) (hRowMidConv : Cert.RowMidConv.Facts) (hRowMidConvIdeal : Cert.RowMidConvIdeal.Facts) (hRowMidConvRefIdeal : Cert.RowMidConvRefIdeal.Facts) (hRowOut : Cert.RowOut.Facts) (hRowOutIdeal : Cert.RowOutIdeal.Facts) (hRowOutRefIdeal : Cert.RowOutRefIdeal.Facts) (hRowGate : Cert.RowGate.Facts) (hRowGateIdeal : Cert.RowGateIdeal.Facts) (hRowGateRefIdeal : Cert.RowGateRefIdeal.Facts) (hRowAct : Cert.RowAct.Facts) (hRowActIdeal : Cert.RowActIdeal.Facts) (hRowActRefIdeal : Cert.RowActRefIdeal.Facts) (hRowConv : Cert.RowConv.Facts) (hRowConvIdeal : Cert.RowConvIdeal.Facts) (hRowConvRefIdeal : Cert.RowConvRefIdeal.Facts) (hRowActBwd : Cert.RowActBwd.Facts) (hRowActBwdIdeal : Cert.RowActBwdIdeal.Facts) (hRowActBwdRefIdeal : Cert.RowActBwdRefIdeal.Facts) (hRowGeluBwd : Cert.RowGeluBwd.Facts) (hRowGeluBwdIdeal : Cert.RowGeluBwdIdeal.Facts) (hRowGeluBwdRefIdeal : Cert.RowGeluBwdRefIdeal.Facts) (hRowGateBwd : Cert.RowGateBwd.Facts) (hRowGateBwdIdeal : Cert.RowGateBwdIdeal.Facts) (hRowGateBwdRefIdeal : Cert.RowGateBwdRefIdeal.Facts) (hRowOutBwd : Cert.RowOutBwd.Facts) (hRowOutBwdIdeal : Cert.RowOutBwdIdeal.Facts) (hRowOutBwdRefIdeal : Cert.RowOutBwdRefIdeal.Facts) (hRowConvBwd : Cert.RowConvBwd.Facts) (hRowConvBwdIdeal : Cert.RowConvBwdIdeal.Facts) (hRowConvBwdRefIdeal : Cert.RowConvBwdRefIdeal.Facts) (hModFwd : Cert.ModFwd.Facts) (hModFwdIdeal : Cert.ModFwdIdeal.Facts) (hModFwdRefIdeal : Cert.ModFwdRefIdeal.Facts) (hMidBwd : Cert.MidBwd.Facts) (hMidBwdIdeal : Cert.MidBwdIdeal.Facts) (hMidBwdRefIdeal : Cert.MidBwdRefIdeal.Facts) (hMatrices : Cert.Matrices.Facts) (hMatricesIdeal : Cert.MatricesIdeal.Facts) (hMatricesRefIdeal : Cert.MatricesRefIdeal.Facts) (hPre_one_of_two : Cert.Pre_one_of_two.Facts) (hPre_one_of_four : Cert.Pre_one_of_four.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AddOwn (hAddOwn := hAddOwn) (hPre_one_of_two := hPre_one_of_two)
    ∧ quiescent_AddOwnIdeal (hAddOwnIdeal := hAddOwnIdeal) (hPre_one_of_two := hPre_one_of_two)
    ∧ quiescent_AddOwnRefIdeal (hAddOwnRefIdeal := hAddOwnRefIdeal)
    ∧ quiescent_AddOwnRefIdeal_pre_one_of_two (hAddOwnRefIdeal := hAddOwnRefIdeal) (hPre_one_of_two := hPre_one_of_two)
    ∧ quiescent_AddOwnRef (hAddOwnRef := hAddOwnRef)
    ∧ quiescent_AddOwnRef_pre_one_of_two (hAddOwnRef := hAddOwnRef) (hPre_one_of_two := hPre_one_of_two)
    ∧ quiescent_AddFour (hAddFour := hAddFour) (hPre_one_of_four := hPre_one_of_four)
    ∧ quiescent_AddFourIdeal (hAddFourIdeal := hAddFourIdeal) (hPre_one_of_four := hPre_one_of_four)
    ∧ quiescent_AddFourRefIdeal (hAddFourRefIdeal := hAddFourRefIdeal)
    ∧ quiescent_AddFourRefIdeal_pre_one_of_four (hAddFourRefIdeal := hAddFourRefIdeal) (hPre_one_of_four := hPre_one_of_four)
    ∧ quiescent_AddFourRef (hAddFourRef := hAddFourRef)
    ∧ quiescent_AddFourRef_pre_one_of_four (hAddFourRef := hAddFourRef) (hPre_one_of_four := hPre_one_of_four)
    ∧ quiescent_MulWo (hMulWo := hMulWo)
    ∧ quiescent_MulWoIdeal (hMulWoIdeal := hMulWoIdeal)
    ∧ quiescent_MulWoRefIdeal (hMulWoRefIdeal := hMulWoRefIdeal)
    ∧ quiescent_MulDWo (hMulDWo := hMulDWo)
    ∧ quiescent_MulDWoIdeal (hMulDWoIdeal := hMulDWoIdeal)
    ∧ quiescent_MulDWoRefIdeal (hMulDWoRefIdeal := hMulDWoRefIdeal)
    ∧ quiescent_MulQkv (hMulQkv := hMulQkv)
    ∧ quiescent_MulQkvIdeal (hMulQkvIdeal := hMulQkvIdeal)
    ∧ quiescent_MulQkvRefIdeal (hMulQkvRefIdeal := hMulQkvRefIdeal)
    ∧ quiescent_MulGlu (hMulGlu := hMulGlu)
    ∧ quiescent_MulGluIdeal (hMulGluIdeal := hMulGluIdeal)
    ∧ quiescent_MulGluRefIdeal (hMulGluRefIdeal := hMulGluRefIdeal)
    ∧ quiescent_MulGateUp (hMulGateUp := hMulGateUp)
    ∧ quiescent_MulGateUpIdeal (hMulGateUpIdeal := hMulGateUpIdeal)
    ∧ quiescent_MulGateUpRefIdeal (hMulGateUpRefIdeal := hMulGateUpRefIdeal)
    ∧ quiescent_MulDown (hMulDown := hMulDown)
    ∧ quiescent_MulDownIdeal (hMulDownIdeal := hMulDownIdeal)
    ∧ quiescent_MulDownRefIdeal (hMulDownRefIdeal := hMulDownRefIdeal)
    ∧ quiescent_MulDQkv (hMulDQkv := hMulDQkv)
    ∧ quiescent_MulDQkvIdeal (hMulDQkvIdeal := hMulDQkvIdeal)
    ∧ quiescent_MulDQkvRefIdeal (hMulDQkvRefIdeal := hMulDQkvRefIdeal)
    ∧ quiescent_MulDGlu (hMulDGlu := hMulDGlu)
    ∧ quiescent_MulDGluIdeal (hMulDGluIdeal := hMulDGluIdeal)
    ∧ quiescent_MulDGluRefIdeal (hMulDGluRefIdeal := hMulDGluRefIdeal)
    ∧ quiescent_MulDGateUp (hMulDGateUp := hMulDGateUp)
    ∧ quiescent_MulDGateUpIdeal (hMulDGateUpIdeal := hMulDGateUpIdeal)
    ∧ quiescent_MulDGateUpRefIdeal (hMulDGateUpRefIdeal := hMulDGateUpRefIdeal)
    ∧ quiescent_MulDDown (hMulDDown := hMulDDown)
    ∧ quiescent_MulDDownIdeal (hMulDDownIdeal := hMulDDownIdeal)
    ∧ quiescent_MulDDownRefIdeal (hMulDDownRefIdeal := hMulDDownRefIdeal)
    ∧ quiescent_MulBackO (hMulBackO := hMulBackO)
    ∧ quiescent_MulBackOIdeal (hMulBackOIdeal := hMulBackOIdeal)
    ∧ quiescent_MulBackORefIdeal (hMulBackORefIdeal := hMulBackORefIdeal)
    ∧ quiescent_MulBackConv (hMulBackConv := hMulBackConv)
    ∧ quiescent_MulBackConvIdeal (hMulBackConvIdeal := hMulBackConvIdeal)
    ∧ quiescent_MulBackConvRefIdeal (hMulBackConvRefIdeal := hMulBackConvRefIdeal)
    ∧ quiescent_MulBackQkv (hMulBackQkv := hMulBackQkv)
    ∧ quiescent_MulBackQkvIdeal (hMulBackQkvIdeal := hMulBackQkvIdeal)
    ∧ quiescent_MulBackQkvRefIdeal (hMulBackQkvRefIdeal := hMulBackQkvRefIdeal)
    ∧ quiescent_MulBackGlu (hMulBackGlu := hMulBackGlu)
    ∧ quiescent_MulBackGluIdeal (hMulBackGluIdeal := hMulBackGluIdeal)
    ∧ quiescent_MulBackGluRefIdeal (hMulBackGluRefIdeal := hMulBackGluRefIdeal)
    ∧ quiescent_MulBackFfn (hMulBackFfn := hMulBackFfn)
    ∧ quiescent_MulBackFfnIdeal (hMulBackFfnIdeal := hMulBackFfnIdeal)
    ∧ quiescent_MulBackFfnRefIdeal (hMulBackFfnRefIdeal := hMulBackFfnRefIdeal)
    ∧ quiescent_MulBackAct (hMulBackAct := hMulBackAct)
    ∧ quiescent_MulBackActIdeal (hMulBackActIdeal := hMulBackActIdeal)
    ∧ quiescent_MulBackActRefIdeal (hMulBackActRefIdeal := hMulBackActRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_LossTotal (hLossTotal := hLossTotal)
    ∧ quiescent_LossTotalIdeal (hLossTotalIdeal := hLossTotalIdeal)
    ∧ quiescent_LossTotalRefIdeal (hLossTotalRefIdeal := hLossTotalRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_RowIn (hRowIn := hRowIn)
    ∧ quiescent_RowInIdeal (hRowInIdeal := hRowInIdeal)
    ∧ quiescent_RowInRefIdeal (hRowInRefIdeal := hRowInRefIdeal)
    ∧ quiescent_RowInS5 (hRowInS5 := hRowInS5)
    ∧ quiescent_RowInS5Ideal (hRowInS5Ideal := hRowInS5Ideal)
    ∧ quiescent_RowInS5RefIdeal (hRowInS5RefIdeal := hRowInS5RefIdeal)
    ∧ quiescent_RowMid (hRowMid := hRowMid)
    ∧ quiescent_RowMidIdeal (hRowMidIdeal := hRowMidIdeal)
    ∧ quiescent_RowMidRefIdeal (hRowMidRefIdeal := hRowMidRefIdeal)
    ∧ quiescent_RowMidConv (hRowMidConv := hRowMidConv)
    ∧ quiescent_RowMidConvIdeal (hRowMidConvIdeal := hRowMidConvIdeal)
    ∧ quiescent_RowMidConvRefIdeal (hRowMidConvRefIdeal := hRowMidConvRefIdeal)
    ∧ quiescent_RowOut (hRowOut := hRowOut)
    ∧ quiescent_RowOutIdeal (hRowOutIdeal := hRowOutIdeal)
    ∧ quiescent_RowOutRefIdeal (hRowOutRefIdeal := hRowOutRefIdeal)
    ∧ quiescent_RowGate (hRowGate := hRowGate)
    ∧ quiescent_RowGateIdeal (hRowGateIdeal := hRowGateIdeal)
    ∧ quiescent_RowGateRefIdeal (hRowGateRefIdeal := hRowGateRefIdeal)
    ∧ quiescent_RowAct (hRowAct := hRowAct)
    ∧ quiescent_RowActIdeal (hRowActIdeal := hRowActIdeal)
    ∧ quiescent_RowActRefIdeal (hRowActRefIdeal := hRowActRefIdeal)
    ∧ quiescent_RowConv (hRowConv := hRowConv)
    ∧ quiescent_RowConvIdeal (hRowConvIdeal := hRowConvIdeal)
    ∧ quiescent_RowConvRefIdeal (hRowConvRefIdeal := hRowConvRefIdeal)
    ∧ quiescent_RowActBwd (hRowActBwd := hRowActBwd)
    ∧ quiescent_RowActBwdIdeal (hRowActBwdIdeal := hRowActBwdIdeal)
    ∧ quiescent_RowActBwdRefIdeal (hRowActBwdRefIdeal := hRowActBwdRefIdeal)
    ∧ quiescent_RowGeluBwd (hRowGeluBwd := hRowGeluBwd)
    ∧ quiescent_RowGeluBwdIdeal (hRowGeluBwdIdeal := hRowGeluBwdIdeal)
    ∧ quiescent_RowGeluBwdRefIdeal (hRowGeluBwdRefIdeal := hRowGeluBwdRefIdeal)
    ∧ quiescent_RowGateBwd (hRowGateBwd := hRowGateBwd)
    ∧ quiescent_RowGateBwdIdeal (hRowGateBwdIdeal := hRowGateBwdIdeal)
    ∧ quiescent_RowGateBwdRefIdeal (hRowGateBwdRefIdeal := hRowGateBwdRefIdeal)
    ∧ quiescent_RowOutBwd (hRowOutBwd := hRowOutBwd)
    ∧ quiescent_RowOutBwdIdeal (hRowOutBwdIdeal := hRowOutBwdIdeal)
    ∧ quiescent_RowOutBwdRefIdeal (hRowOutBwdRefIdeal := hRowOutBwdRefIdeal)
    ∧ quiescent_RowConvBwd (hRowConvBwd := hRowConvBwd)
    ∧ quiescent_RowConvBwdIdeal (hRowConvBwdIdeal := hRowConvBwdIdeal)
    ∧ quiescent_RowConvBwdRefIdeal (hRowConvBwdRefIdeal := hRowConvBwdRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_Matrices (hMatrices := hMatrices)
    ∧ quiescent_MatricesIdeal (hMatricesIdeal := hMatricesIdeal)
    ∧ quiescent_MatricesRefIdeal (hMatricesRefIdeal := hMatricesRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamMod_AdamModIdeal
    ∧ algebraic_AdamModIdeal_AdamModRefIdeal (hAdamModIdeal := hAdamModIdeal) (hAdamModRefIdeal := hAdamModRefIdeal)
    ∧ preserves_AddOwn_AddOwnIdeal
    ∧ algebraic_AddOwnIdeal_AddOwnRefIdeal (hAddOwnIdeal := hAddOwnIdeal) (hAddOwnRefIdeal := hAddOwnRefIdeal) (hPre_one_of_two := hPre_one_of_two)
    ∧ bitexact_AddOwn_AddOwnRef (hAddOwn := hAddOwn) (hAddOwnRef := hAddOwnRef) (hPre_one_of_two := hPre_one_of_two)
    ∧ preserves_AddFour_AddFourIdeal
    ∧ algebraic_AddFourIdeal_AddFourRefIdeal (hAddFourIdeal := hAddFourIdeal) (hAddFourRefIdeal := hAddFourRefIdeal) (hPre_one_of_four := hPre_one_of_four)
    ∧ bitexact_AddFour_AddFourRef (hAddFour := hAddFour) (hAddFourRef := hAddFourRef) (hPre_one_of_four := hPre_one_of_four)
    ∧ preserves_MulWo_MulWoIdeal
    ∧ algebraic_MulWoIdeal_MulWoRefIdeal (hMulWoIdeal := hMulWoIdeal) (hMulWoRefIdeal := hMulWoRefIdeal)
    ∧ preserves_MulDWo_MulDWoIdeal
    ∧ algebraic_MulDWoIdeal_MulDWoRefIdeal (hMulDWoIdeal := hMulDWoIdeal) (hMulDWoRefIdeal := hMulDWoRefIdeal)
    ∧ preserves_MulQkv_MulQkvIdeal
    ∧ algebraic_MulQkvIdeal_MulQkvRefIdeal (hMulQkvIdeal := hMulQkvIdeal) (hMulQkvRefIdeal := hMulQkvRefIdeal)
    ∧ preserves_MulGlu_MulGluIdeal
    ∧ algebraic_MulGluIdeal_MulGluRefIdeal (hMulGluIdeal := hMulGluIdeal) (hMulGluRefIdeal := hMulGluRefIdeal)
    ∧ preserves_MulGateUp_MulGateUpIdeal
    ∧ algebraic_MulGateUpIdeal_MulGateUpRefIdeal (hMulGateUpIdeal := hMulGateUpIdeal) (hMulGateUpRefIdeal := hMulGateUpRefIdeal)
    ∧ preserves_MulDown_MulDownIdeal
    ∧ algebraic_MulDownIdeal_MulDownRefIdeal (hMulDownIdeal := hMulDownIdeal) (hMulDownRefIdeal := hMulDownRefIdeal)
    ∧ preserves_MulDQkv_MulDQkvIdeal
    ∧ algebraic_MulDQkvIdeal_MulDQkvRefIdeal (hMulDQkvIdeal := hMulDQkvIdeal) (hMulDQkvRefIdeal := hMulDQkvRefIdeal)
    ∧ preserves_MulDGlu_MulDGluIdeal
    ∧ algebraic_MulDGluIdeal_MulDGluRefIdeal (hMulDGluIdeal := hMulDGluIdeal) (hMulDGluRefIdeal := hMulDGluRefIdeal)
    ∧ preserves_MulDGateUp_MulDGateUpIdeal
    ∧ algebraic_MulDGateUpIdeal_MulDGateUpRefIdeal (hMulDGateUpIdeal := hMulDGateUpIdeal) (hMulDGateUpRefIdeal := hMulDGateUpRefIdeal)
    ∧ preserves_MulDDown_MulDDownIdeal
    ∧ algebraic_MulDDownIdeal_MulDDownRefIdeal (hMulDDownIdeal := hMulDDownIdeal) (hMulDDownRefIdeal := hMulDDownRefIdeal)
    ∧ preserves_MulBackO_MulBackOIdeal
    ∧ algebraic_MulBackOIdeal_MulBackORefIdeal (hMulBackOIdeal := hMulBackOIdeal) (hMulBackORefIdeal := hMulBackORefIdeal)
    ∧ preserves_MulBackConv_MulBackConvIdeal
    ∧ algebraic_MulBackConvIdeal_MulBackConvRefIdeal (hMulBackConvIdeal := hMulBackConvIdeal) (hMulBackConvRefIdeal := hMulBackConvRefIdeal)
    ∧ preserves_MulBackQkv_MulBackQkvIdeal
    ∧ algebraic_MulBackQkvIdeal_MulBackQkvRefIdeal (hMulBackQkvIdeal := hMulBackQkvIdeal) (hMulBackQkvRefIdeal := hMulBackQkvRefIdeal)
    ∧ preserves_MulBackGlu_MulBackGluIdeal
    ∧ algebraic_MulBackGluIdeal_MulBackGluRefIdeal (hMulBackGluIdeal := hMulBackGluIdeal) (hMulBackGluRefIdeal := hMulBackGluRefIdeal)
    ∧ preserves_MulBackFfn_MulBackFfnIdeal
    ∧ algebraic_MulBackFfnIdeal_MulBackFfnRefIdeal (hMulBackFfnIdeal := hMulBackFfnIdeal) (hMulBackFfnRefIdeal := hMulBackFfnRefIdeal)
    ∧ preserves_MulBackAct_MulBackActIdeal
    ∧ algebraic_MulBackActIdeal_MulBackActRefIdeal (hMulBackActIdeal := hMulBackActIdeal) (hMulBackActRefIdeal := hMulBackActRefIdeal)
    ∧ preserves_LossHead_LossHeadIdeal
    ∧ algebraic_LossHeadIdeal_LossHeadRefIdeal (hLossHeadIdeal := hLossHeadIdeal) (hLossHeadRefIdeal := hLossHeadRefIdeal)
    ∧ preserves_LossTotal_LossTotalIdeal
    ∧ algebraic_LossTotalIdeal_LossTotalRefIdeal (hLossTotalIdeal := hLossTotalIdeal) (hLossTotalRefIdeal := hLossTotalRefIdeal)
    ∧ preserves_PreBwd_PreBwdIdeal
    ∧ algebraic_PreBwdIdeal_PreBwdRefIdeal (hPreBwdIdeal := hPreBwdIdeal) (hPreBwdRefIdeal := hPreBwdRefIdeal)
    ∧ preserves_RowIn_RowInIdeal
    ∧ algebraic_RowInIdeal_RowInRefIdeal (hRowInIdeal := hRowInIdeal) (hRowInRefIdeal := hRowInRefIdeal)
    ∧ preserves_RowInS5_RowInS5Ideal
    ∧ algebraic_RowInS5Ideal_RowInS5RefIdeal (hRowInS5Ideal := hRowInS5Ideal) (hRowInS5RefIdeal := hRowInS5RefIdeal)
    ∧ preserves_RowMid_RowMidIdeal
    ∧ algebraic_RowMidIdeal_RowMidRefIdeal (hRowMidIdeal := hRowMidIdeal) (hRowMidRefIdeal := hRowMidRefIdeal)
    ∧ preserves_RowMidConv_RowMidConvIdeal
    ∧ algebraic_RowMidConvIdeal_RowMidConvRefIdeal (hRowMidConvIdeal := hRowMidConvIdeal) (hRowMidConvRefIdeal := hRowMidConvRefIdeal)
    ∧ preserves_RowOut_RowOutIdeal
    ∧ algebraic_RowOutIdeal_RowOutRefIdeal (hRowOutIdeal := hRowOutIdeal) (hRowOutRefIdeal := hRowOutRefIdeal)
    ∧ preserves_RowGate_RowGateIdeal
    ∧ algebraic_RowGateIdeal_RowGateRefIdeal (hRowGateIdeal := hRowGateIdeal) (hRowGateRefIdeal := hRowGateRefIdeal)
    ∧ preserves_RowAct_RowActIdeal
    ∧ algebraic_RowActIdeal_RowActRefIdeal (hRowActIdeal := hRowActIdeal) (hRowActRefIdeal := hRowActRefIdeal)
    ∧ preserves_RowConv_RowConvIdeal
    ∧ algebraic_RowConvIdeal_RowConvRefIdeal (hRowConvIdeal := hRowConvIdeal) (hRowConvRefIdeal := hRowConvRefIdeal)
    ∧ preserves_RowActBwd_RowActBwdIdeal
    ∧ algebraic_RowActBwdIdeal_RowActBwdRefIdeal (hRowActBwdIdeal := hRowActBwdIdeal) (hRowActBwdRefIdeal := hRowActBwdRefIdeal)
    ∧ preserves_RowGeluBwd_RowGeluBwdIdeal
    ∧ algebraic_RowGeluBwdIdeal_RowGeluBwdRefIdeal (hRowGeluBwdIdeal := hRowGeluBwdIdeal) (hRowGeluBwdRefIdeal := hRowGeluBwdRefIdeal)
    ∧ preserves_RowGateBwd_RowGateBwdIdeal
    ∧ algebraic_RowGateBwdIdeal_RowGateBwdRefIdeal (hRowGateBwdIdeal := hRowGateBwdIdeal) (hRowGateBwdRefIdeal := hRowGateBwdRefIdeal)
    ∧ preserves_RowOutBwd_RowOutBwdIdeal
    ∧ algebraic_RowOutBwdIdeal_RowOutBwdRefIdeal (hRowOutBwdIdeal := hRowOutBwdIdeal) (hRowOutBwdRefIdeal := hRowOutBwdRefIdeal)
    ∧ preserves_RowConvBwd_RowConvBwdIdeal
    ∧ algebraic_RowConvBwdIdeal_RowConvBwdRefIdeal (hRowConvBwdIdeal := hRowConvBwdIdeal) (hRowConvBwdRefIdeal := hRowConvBwdRefIdeal)
    ∧ preserves_ModFwd_ModFwdIdeal
    ∧ algebraic_ModFwdIdeal_ModFwdRefIdeal (hModFwdIdeal := hModFwdIdeal) (hModFwdRefIdeal := hModFwdRefIdeal)
    ∧ preserves_MidBwd_MidBwdIdeal
    ∧ algebraic_MidBwdIdeal_MidBwdRefIdeal (hMidBwdIdeal := hMidBwdIdeal) (hMidBwdRefIdeal := hMidBwdRefIdeal)
    ∧ preserves_Matrices_MatricesIdeal
    ∧ algebraic_MatricesIdeal_MatricesRefIdeal (hMatricesIdeal := hMatricesIdeal) (hMatricesRefIdeal := hMatricesRefIdeal)
-- ==== Pre_one_of_four.lean ====
abbrev S1 : Shape := ⟨1, ![1]⟩
abbrev S4x11776x512 : Shape := ⟨3, ![4, 11776, 512]⟩
abbrev S3x11776x512 : Shape := ⟨3, ![3, 11776, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x11776x512 .f32) (main_arg2 : FVec F S3x11776x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_one_of_two.lean ====
abbrev S1 : Shape := ⟨1, ![1]⟩
abbrev S8x11776x512 : Shape := ⟨3, ![8, 11776, 512]⟩
abbrev S4x11776x512 : Shape := ⟨3, ![4, 11776, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x11776x512 .f32) (main_arg2 : FVec F S4x11776x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Gather.lean ====
abbrev S23552x512 : Shape := ⟨2, ![23552, 512]⟩
abbrev S94208x512 : Shape := ⟨2, ![94208, 512]⟩
abbrev S7 : Shape := ⟨1, ![7]⟩
abbrev S_ : Shape := ⟨0, ![]⟩
abbrev S11776x512 : Shape := ⟨2, ![11776, 512]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S23552x512, .bf16⟩
  | .hbm, ⟨1, _⟩ => ⟨S94208x512, .bf16⟩
  | _, _ => ⟨S23552x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c2_i32_9 v5
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c11776_i32_10 : BitVec 32 := 11776#32
  let v19 : BitVec 32 := Scalar.muli v18 c11776_i32_10
  let c0_i32 : BitVec 32 := 0#32
  ![v19.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c11776_i32 : BitVec 32 := 11776#32
  let v14 : BitVec 32 := Scalar.muli v8 c11776_i32
  let c0_i32_11 : BitVec 32 := 0#32
  ![v14.toNat, 0]
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v42 : BitVec 32 := Scalar.muli v2 c4_i32_26
  let v43 : BitVec 32 := Scalar.addi c0_i32_27 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v44 : BitVec 32 := Scalar.muli v5 c2_i32_28
  let v45 : BitVec 32 := Scalar.addi v43 v44
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v46 : BitVec 32 := Scalar.muli v9 c1_i32_29
  let v47 : BitVec 32 := Scalar.addi v45 v46
  v47.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v54 : BitVec 32 := Scalar.muli v10 c4_i32_34
  let v55 : BitVec 32 := Scalar.addi c0_i32_35 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v56 : BitVec 32 := Scalar.muli v5 c2_i32_36
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v58 : BitVec 32 := Scalar.muli v8 c1_i32_37
  let v59 : BitVec 32 := Scalar.addi v57 v58
  v59.toNat
def k0_dev3 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v66 : BitVec 32 := Scalar.muli v2 c4_i32_42
  let v67 : BitVec 32 := Scalar.addi c0_i32_43 v66
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_44 : BitVec 32 := 2#32
  let v68 : BitVec 32 := Scalar.muli v11 c2_i32_44
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v70 : BitVec 32 := Scalar.muli v8 c1_i32_45
  let v71 : BitVec 32 := Scalar.addi v69 v70
  v71.toNat
def k0_dev4 (d0 : Dev nD) : Nat :=
  let c0_i32_50 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_49 : BitVec 32 := 4#32
  let v78 : BitVec 32 := Scalar.muli v12 c4_i32_49
  let v79 : BitVec 32 := Scalar.addi c0_i32_50 v78
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_51 : BitVec 32 := 2#32
  let v80 : BitVec 32 := Scalar.muli v13 c2_i32_51
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v82 : BitVec 32 := Scalar.muli v8 c1_i32_52
  let v83 : BitVec 32 := Scalar.addi v81 v82
  v83.toNat
def k0_off3 (d0 : Dev nD) : Fin 2 → Nat :=
  let c4_i32_76 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v125 : BitVec 32 := Scalar.muli c4_i32_76 v10
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.muli c2_i32_77 v5
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.addi v127 v8
  let c11776_i32_78 : BitVec 32 := 11776#32
  let v129 : BitVec 32 := Scalar.muli v128 c11776_i32_78
  let c0_i32_85 : BitVec 32 := 0#32
  ![v129.toNat, 0]
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v140 : BitVec 32 := Scalar.muli v2 c4_i32_89
  let v141 : BitVec 32 := Scalar.addi c0_i32_90 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v142 : BitVec 32 := Scalar.muli v5 c2_i32_91
  let v143 : BitVec 32 := Scalar.addi v141 v142
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v144 : BitVec 32 := Scalar.muli v9 c1_i32_92
  let v145 : BitVec 32 := Scalar.addi v143 v144
  v145.toNat
def k0_off4 (d0 : Dev nD) : Fin 2 → Nat :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.muli c4_i32_98 v2
  let c2_i32_99 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v158 : BitVec 32 := Scalar.muli c2_i32_99 v11
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v160 : BitVec 32 := Scalar.addi v159 v8
  let c11776_i32_100 : BitVec 32 := 11776#32
  let v161 : BitVec 32 := Scalar.muli v160 c11776_i32_100
  let c0_i32_107 : BitVec 32 := 0#32
  ![v161.toNat, 0]
def k0_dev6 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v172 : BitVec 32 := Scalar.muli v2 c4_i32_110
  let v173 : BitVec 32 := Scalar.addi c0_i32_111 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v174 : BitVec 32 := Scalar.muli v5 c2_i32_112
  let v175 : BitVec 32 := Scalar.addi v173 v174
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_113 : BitVec 32 := 1#32
  let v176 : BitVec 32 := Scalar.muli v9 c1_i32_113
  let v177 : BitVec 32 := Scalar.addi v175 v176
  v177.toNat
def k0_off5 (d0 : Dev nD) : Fin 2 → Nat :=
  let c4_i32_119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v189 : BitVec 32 := Scalar.muli c4_i32_119 v12
  let c2_i32_120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v190 : BitVec 32 := Scalar.muli c2_i32_120 v13
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v192 : BitVec 32 := Scalar.addi v191 v8
  let c11776_i32_121 : BitVec 32 := 11776#32
  let v193 : BitVec 32 := Scalar.muli v192 c11776_i32_121
  let c0_i32_128 : BitVec 32 := 0#32
  ![v193.toNat, 0]
def k0_dev7 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v204 : BitVec 32 := Scalar.muli v2 c4_i32_131
  let v205 : BitVec 32 := Scalar.addi c0_i32_132 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v206 : BitVec 32 := Scalar.muli v5 c2_i32_133
  let v207 : BitVec 32 := Scalar.addi v205 v206
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_134 : BitVec 32 := 1#32
  let v208 : BitVec 32 := Scalar.muli v9 c1_i32_134
  let v209 : BitVec 32 := Scalar.addi v207 v208
  v209.toNat
def k0_off6 (d0 : Dev nD) : Fin 2 → Nat :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.muli c4_i32_140 v2
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v222 : BitVec 32 := Scalar.muli c2_i32_141 v5
  let v223 : BitVec 32 := Scalar.addi v221 v222
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v224 : BitVec 32 := Scalar.addi v223 v9
  let c11776_i32_142 : BitVec 32 := 11776#32
  let v225 : BitVec 32 := Scalar.muli v224 c11776_i32_142
  let c0_i32_149 : BitVec 32 := 0#32
  ![v225.toNat, 0]
def k0_off7 (d0 : Dev nD) : Fin 2 → Nat :=
  let c4_i32_155 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v242 : BitVec 32 := Scalar.muli c4_i32_155 v10
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.muli c2_i32_156 v5
  let v244 : BitVec 32 := Scalar.addi v242 v243
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v236 : BitVec 32 := Scalar.subi c1_i32_151 v8
  let v245 : BitVec 32 := Scalar.addi v244 v236
  let c11776_i32_157 : BitVec 32 := 11776#32
  let v246 : BitVec 32 := Scalar.muli v245 c11776_i32_157
  let c0_i32_164 : BitVec 32 := 0#32
  ![v246.toNat, 0]
def k0_off8 (d0 : Dev nD) : Fin 2 → Nat :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v263 : BitVec 32 := Scalar.muli c4_i32_170 v2
  let c2_i32_171 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v264 : BitVec 32 := Scalar.muli c2_i32_171 v11
  let v265 : BitVec 32 := Scalar.addi v263 v264
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_166 v8
  let v266 : BitVec 32 := Scalar.addi v265 v257
  let c11776_i32_172 : BitVec 32 := 11776#32
  let v267 : BitVec 32 := Scalar.muli v266 c11776_i32_172
  let c0_i32_179 : BitVec 32 := 0#32
  ![v267.toNat, 0]
def k0_off9 (d0 : Dev nD) : Fin 2 → Nat :=
  let c4_i32_185 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v284 : BitVec 32 := Scalar.muli c4_i32_185 v12
  let c2_i32_186 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v285 : BitVec 32 := Scalar.muli c2_i32_186 v13
  let v286 : BitVec 32 := Scalar.addi v284 v285
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v278 : BitVec 32 := Scalar.subi c1_i32_181 v8
  let v287 : BitVec 32 := Scalar.addi v286 v278
  let c11776_i32_187 : BitVec 32 := 11776#32
  let v288 : BitVec 32 := Scalar.muli v287 c11776_i32_187
  let c0_i32_194 : BitVec 32 := 0#32
  ![v288.toNat, 0]
-- ==== GatherRef.lean ====
abbrev S94208x512 : Shape := ⟨2, ![94208, 512]⟩

abbrev nBuf : Space → Nat
  | .hbm => 1
  | .vmem => 0
  | .smem => 0
  | _ => 0

abbrev bufTy : (tb : Table) → Fin (tcTables nBuf tb) → BufTy
  | .hbm, ⟨0, _⟩ => ⟨S94208x512, .bf16⟩
  | _, _ => ⟨S94208x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Sibling.lean ====
abbrev S8x11776x512 : Shape := ⟨3, ![8, 11776, 512]⟩
abbrev S4x11776x512 : Shape := ⟨3, ![4, 11776, 512]⟩
abbrev S4 : Shape := ⟨1, ![4]⟩
abbrev S1 : Shape := ⟨1, ![1]⟩
abbrev S_ : Shape := ⟨0, ![]⟩
abbrev S1x11776x512 : Shape := ⟨3, ![1, 11776, 512]⟩
abbrev S11776x512 : Shape := ⟨2, ![11776, 512]⟩

abbrev nBuf : Space → Nat
  | .hbm => 2
  | .vmem => 0
  | .smem => 0
  | _ => 0

abbrev bufTy : (tb : Table) → Fin (tcTables nBuf tb) → BufTy
  | .hbm, ⟨0, _⟩ => ⟨S8x11776x512, .f32⟩
  | .hbm, ⟨1, _⟩ => ⟨S4x11776x512, .f32⟩
  | _, _ => ⟨S8x11776x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v10 : BitVec 32 := Scalar.addi c0_i32 v9
  let c0_i32_22 : BitVec 32 := 0#32
  let c0_i32_23 : BitVec 32 := 0#32
  ![v10.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v21 : BitVec 32 := Scalar.muli v2 c4_i32_16
  let v22 : BitVec 32 := Scalar.addi c0_i32_17 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v23 : BitVec 32 := Scalar.muli v5 c2_i32_18
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_19 : BitVec 32 := 1#32
  let v25 : BitVec 32 := Scalar.muli v11 c1_i32_19
  let v26 : BitVec 32 := Scalar.addi v24 v25
  v26.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_30 : BitVec 32 := 1#32
  let v39 : BitVec 32 := Scalar.muli v14 c1_i32_30
  let v40 : BitVec 32 := Scalar.addi v38 v39
  v40.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v49 : BitVec 32 := Scalar.muli v2 c4_i32_38
  let v50 : BitVec 32 := Scalar.addi c0_i32_39 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v51 : BitVec 32 := Scalar.muli v5 c2_i32_40
  let v52 : BitVec 32 := Scalar.addi v50 v51
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_10 v8
  let c1_i32_41 : BitVec 32 := 1#32
  let v53 : BitVec 32 := Scalar.muli v17 c1_i32_41
  let v54 : BitVec 32 := Scalar.addi v52 v53
  v54.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v65 : BitVec 32 := Scalar.muli v5 c2_i32_50
  let v66 : BitVec 32 := Scalar.addi v64 v65
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_51 : BitVec 32 := 1#32
  let v67 : BitVec 32 := Scalar.muli v20 c1_i32_51
  let v68 : BitVec 32 := Scalar.addi v66 v67
  v68.toNat
-- ==== SiblingRef.lean ====
abbrev S64x11776x512 : Shape := ⟨3, ![64, 11776, 512]⟩
abbrev S4x2x4x2x11776x512 : Shape := ⟨6, ![4, 2, 4, 2, 11776, 512]⟩
abbrev S4x1x4x1x11776x512 : Shape := ⟨6, ![4, 1, 4, 1, 11776, 512]⟩
abbrev S4x4x11776x512 : Shape := ⟨4, ![4, 4, 11776, 512]⟩
abbrev S4x1x4x11776x512 : Shape := ⟨5, ![4, 1, 4, 11776, 512]⟩
abbrev S4x2x4x11776x512 : Shape := ⟨5, ![4, 2, 4, 11776, 512]⟩
abbrev S32x11776x512 : Shape := ⟨3, ![32, 11776, 512]⟩

abbrev nBuf : Space → Nat
  | .hbm => 10
  | .vmem => 0
  | .smem => 0
  | _ => 0

abbrev bufTy : (tb : Table) → Fin (tcTables nBuf tb) → BufTy
  | .hbm, ⟨0, _⟩ => ⟨S64x11776x512, .f32⟩
  | .hbm, ⟨1, _⟩ => ⟨S4x2x4x2x11776x512, .f32⟩
  | .hbm, ⟨2, _⟩ => ⟨S4x1x4x1x11776x512, .f32⟩
  | .hbm, ⟨3, _⟩ => ⟨S4x4x11776x512, .f32⟩
  | .hbm, ⟨4, _⟩ => ⟨S4x1x4x1x11776x512, .f32⟩
  | .hbm, ⟨5, _⟩ => ⟨S4x4x11776x512, .f32⟩
  | .hbm, ⟨6, _⟩ => ⟨S4x1x4x11776x512, .f32⟩
  | .hbm, ⟨7, _⟩ => ⟨S4x1x4x11776x512, .f32⟩
  | .hbm, ⟨8, _⟩ => ⟨S4x2x4x11776x512, .f32⟩
  | .hbm, ⟨9, _⟩ => ⟨S32x11776x512, .f32⟩
  | _, _ => ⟨S64x11776x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chips.lean ====
abbrev S4x11776x512 : Shape := ⟨3, ![4, 11776, 512]⟩
abbrev S3x11776x512 : Shape := ⟨3, ![3, 11776, 512]⟩
abbrev S3 : Shape := ⟨1, ![3]⟩
abbrev S1 : Shape := ⟨1, ![1]⟩
abbrev S_ : Shape := ⟨0, ![]⟩
abbrev S1x11776x512 : Shape := ⟨3, ![1, 11776, 512]⟩
abbrev S11776x512 : Shape := ⟨2, ![11776, 512]⟩

abbrev nBuf : Space → Nat
  | .hbm => 2
  | .vmem => 0
  | .smem => 0
  | _ => 0

abbrev bufTy : (tb : Table) → Fin (tcTables nBuf tb) → BufTy
  | .hbm, ⟨0, _⟩ => ⟨S4x11776x512, .f32⟩
  | .hbm, ⟨1, _⟩ => ⟨S3x11776x512, .f32⟩
  | _, _ => ⟨S4x11776x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ChipsRef.lean ====
abbrev S32x11776x512 : Shape := ⟨3, ![32, 11776, 512]⟩
abbrev S2x2x2x2x2x11776x512 : Shape := ⟨7, ![2, 2, 2, 2, 2, 11776, 512]⟩
abbrev S1x1x2x1x1x11776x512 : Shape := ⟨7, ![1, 1, 2, 1, 1, 11776, 512]⟩
abbrev S2x11776x512 : Shape := ⟨3, ![2, 11776, 512]⟩
abbrev S1x2x11776x512 : Shape := ⟨4, ![1, 2, 11776, 512]⟩
abbrev S2x2x11776x512 : Shape := ⟨4, ![2, 2, 11776, 512]⟩
abbrev S1x2x2x11776x512 : Shape := ⟨5, ![1, 2, 2, 11776, 512]⟩
abbrev S2x2x2x11776x512 : Shape := ⟨5, ![2, 2, 2, 11776, 512]⟩
abbrev S2x2x2x1x11776x512 : Shape := ⟨6, ![2, 2, 2, 1, 11776, 512]⟩
abbrev S2x2x2x3x11776x512 : Shape := ⟨6, ![2, 2, 2, 3, 11776, 512]⟩
abbrev S24x11776x512 : Shape := ⟨3, ![24, 11776, 512]⟩

abbrev nBuf : Space → Nat
  | .hbm => 58
  | .vmem => 0
  | .smem => 0
  | _ => 0

abbrev bufTy : (tb : Table) → Fin (tcTables nBuf tb) → BufTy
  | .hbm, ⟨0, _⟩ => ⟨S32x11776x512, .f32⟩
  | .hbm, ⟨1, _⟩ => ⟨S2x2x2x2x2x11776x512, .f32⟩
  | .hbm, ⟨2, _⟩ => ⟨S1x1x2x1x1x11776x512, .f32⟩
  | .hbm, ⟨3, _⟩ => ⟨S2x11776x512, .f32⟩
  | .hbm, ⟨4, _⟩ => ⟨S1x1x2x1x1x11776x512, .f32⟩
  | .hbm, ⟨5, _⟩ => ⟨S2x11776x512, .f32⟩
  | .hbm, ⟨6, _⟩ => ⟨S1x2x11776x512, .f32⟩
  | .hbm, ⟨7, _⟩ => ⟨S1x2x11776x512, .f32⟩
  | .hbm, ⟨8, _⟩ => ⟨S2x2x11776x512, .f32⟩
  | .hbm, ⟨9, _⟩ => ⟨S1x1x2x1x1x11776x512, .f32⟩
  | .hbm, ⟨10, _⟩ => ⟨S2x11776x512, .f32⟩
  | .hbm, ⟨11, _⟩ => ⟨S1x1x2x1x1x11776x512, .f32⟩
  | .hbm, ⟨12, _⟩ => ⟨S2x11776x512, .f32⟩
  | .hbm, ⟨13, _⟩ => ⟨S1x2x11776x512, .f32⟩
  | .hbm, ⟨14, _⟩ => ⟨S1x2x11776x512, .f32⟩
  | .hbm, ⟨15, _⟩ => ⟨S2x2x11776x512, .f32⟩
  | .hbm, ⟨16, _⟩ => ⟨S1x2x2x11776x512, .f32⟩
  | .hbm, ⟨17, _⟩ => ⟨S1x2x2x11776x512, .f32⟩
  | .hbm, ⟨18, _⟩ => ⟨S2x2x2x11776x512, .f32⟩
  | .hbm, ⟨19, _⟩ => ⟨S1x1x2x1x1x11776x512, .f32⟩
  | .hbm, ⟨20, _⟩ => ⟨S2x11776x512, .f32⟩
  | .hbm, ⟨21, _⟩ => ⟨S1x1x2x1x1x11776x512, .f32⟩
  | .hbm, ⟨22, _⟩ => ⟨S2x11776x512, .f32⟩
  | .hbm, ⟨23, _⟩ => ⟨S1x2x11776x512, .f32⟩
  | .hbm, ⟨24, _⟩ => ⟨S1x2x11776x512, .f32⟩
  | .hbm, ⟨25, _⟩ => ⟨S2x2x11776x512, .f32⟩
  | .hbm, ⟨26, _⟩ => ⟨S1x1x2x1x1x11776x512, .f32⟩
  | .hbm, ⟨27, _⟩ => ⟨S2x11776x512, .f32⟩
  | .hbm, ⟨28, _⟩ => ⟨S1x1x2x1x1x11776x512, .f32⟩
  | .hbm, ⟨29, _⟩ => ⟨S2x11776x512, .f32⟩
  | .hbm, ⟨30, _⟩ => ⟨S1x2x11776x512, .f32⟩
  | .hbm, ⟨31, _⟩ => ⟨S1x2x11776x512, .f32⟩
  | .hbm, ⟨32, _⟩ => ⟨S2x2x11776x512, .f32⟩
  | .hbm, ⟨33, _⟩ => ⟨S1x2x2x11776x512, .f32⟩
  | .hbm, ⟨34, _⟩ => ⟨S1x2x2x11776x512, .f32⟩
  | .hbm, ⟨35, _⟩ => ⟨S2x2x2x11776x512, .f32⟩
  | .hbm, ⟨36, _⟩ => ⟨S1x1x2x1x1x11776x512, .f32⟩
  | .hbm, ⟨37, _⟩ => ⟨S2x11776x512, .f32⟩
  | .hbm, ⟨38, _⟩ => ⟨S1x1x2x1x1x11776x512, .f32⟩
  | .hbm, ⟨39, _⟩ => ⟨S2x11776x512, .f32⟩
  | .hbm, ⟨40, _⟩ => ⟨S1x2x11776x512, .f32⟩
  | .hbm, ⟨41, _⟩ => ⟨S1x2x11776x512, .f32⟩
  | .hbm, ⟨42, _⟩ => ⟨S2x2x11776x512, .f32⟩
  | .hbm, ⟨43, _⟩ => ⟨S1x1x2x1x1x11776x512, .f32⟩
  | .hbm, ⟨44, _⟩ => ⟨S2x11776x512, .f32⟩
  | .hbm, ⟨45, _⟩ => ⟨S1x1x2x1x1x11776x512, .f32⟩
  | .hbm, ⟨46, _⟩ => ⟨S2x11776x512, .f32⟩
  | .hbm, ⟨47, _⟩ => ⟨S1x2x11776x512, .f32⟩
  | .hbm, ⟨48, _⟩ => ⟨S1x2x11776x512, .f32⟩
  | .hbm, ⟨49, _⟩ => ⟨S2x2x11776x512, .f32⟩
  | .hbm, ⟨50, _⟩ => ⟨S1x2x2x11776x512, .f32⟩
  | .hbm, ⟨51, _⟩ => ⟨S1x2x2x11776x512, .f32⟩
  | .hbm, ⟨52, _⟩ => ⟨S2x2x2x11776x512, .f32⟩
  | .hbm, ⟨53, _⟩ => ⟨S2x2x2x1x11776x512, .f32⟩
  | .hbm, ⟨54, _⟩ => ⟨S2x2x2x1x11776x512, .f32⟩
  | .hbm, ⟨55, _⟩ => ⟨S2x2x2x1x11776x512, .f32⟩
  | .hbm, ⟨56, _⟩ => ⟨S2x2x2x3x11776x512, .f32⟩
  | .hbm, ⟨57, _⟩ => ⟨S24x11776x512, .f32⟩
  | _, _ => ⟨S32x11776x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩

abbrev nD : Nat := 1
abbrev τ : Topo := Topo.v7x

variable {F : FTy → Type} [FloatOps F]
-- ==== Share.lean ====
abbrev S11776x512 : Shape := ⟨2, ![11776, 512]⟩
abbrev S2x11776x512 : Shape := ⟨3, ![2, 11776, 512]⟩
abbrev S_ : Shape := ⟨0, ![]⟩
abbrev S1x11776x512 : Shape := ⟨3, ![1, 11776, 512]⟩

abbrev nBuf : Space → Nat
  | .hbm => 2
  | .vmem => 0
  | .smem => 0
  | _ => 0

abbrev bufTy : (tb : Table) → Fin (tcTables nBuf tb) → BufTy
  | .hbm, ⟨0, _⟩ => ⟨S11776x512, .f32⟩
  | .hbm, ⟨1, _⟩ => ⟨S2x11776x512, .f32⟩
  | _, _ => ⟨S11776x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== ShareRef.lean ====
abbrev S94208x512 : Shape := ⟨2, ![94208, 512]⟩
abbrev S8x11776x512 : Shape := ⟨3, ![8, 11776, 512]⟩

abbrev nBuf : Space → Nat
  | .hbm => 2
  | .vmem => 0
  | .smem => 0
  | _ => 0

abbrev bufTy : (tb : Table) → Fin (tcTables nBuf tb) → BufTy
  | .hbm, ⟨0, _⟩ => ⟨S94208x512, .f32⟩
  | .hbm, ⟨1, _⟩ => ⟨S8x11776x512, .f32⟩
  | _, _ => ⟨S94208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamQkv.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnIdeal.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S616x512 : Shape := ⟨2, ![616, 512]⟩
abbrev S88x512 : Shape := ⟨2, ![88, 512]⟩

abbrev nBuf : Space → Nat
  | .hbm => 7
  | .vmem => 14
  | .smem => 0
  | _ => 0

abbrev bufTy : (tb : Table) → Fin (tcTables nBuf tb) → BufTy
  | .hbm, ⟨0, _⟩ => ⟨S616x512, .f32⟩
  | .hbm, ⟨1, _⟩ => ⟨S616x512, .f32⟩
  | .hbm, ⟨2, _⟩ => ⟨S616x512, .f32⟩
  | .hbm, ⟨3, _⟩ => ⟨S616x512, .f32⟩
  | .hbm, ⟨4, _⟩ => ⟨S616x512, .f32⟩
  | .hbm, ⟨5, _⟩ => ⟨S616x512, .f32⟩
  | .hbm, ⟨6, _⟩ => ⟨S616x512, .f32⟩
  | .local _ .vmem, ⟨0, _⟩ => ⟨S88x512, .f32⟩
  | .local _ .vmem, ⟨1, _⟩ => ⟨S88x512, .f32⟩
  | .local _ .vmem, ⟨2, _⟩ => ⟨S88x512, .f32⟩
  | .local _ .vmem, ⟨3, _⟩ => ⟨S88x512, .f32⟩
  | .local _ .vmem, ⟨4, _⟩ => ⟨S88x512, .f32⟩
  | .local _ .vmem, ⟨5, _⟩ => ⟨S88x512, .f32⟩
  | .local _ .vmem, ⟨6, _⟩ => ⟨S88x512, .f32⟩
  | .local _ .vmem, ⟨7, _⟩ => ⟨S88x512, .f32⟩
  | .local _ .vmem, ⟨8, _⟩ => ⟨S88x512, .f32⟩
  | .local _ .vmem, ⟨9, _⟩ => ⟨S88x512, .f32⟩
  | .local _ .vmem, ⟨10, _⟩ => ⟨S88x512, .f32⟩
  | .local _ .vmem, ⟨11, _⟩ => ⟨S88x512, .f32⟩
  | .local _ .vmem, ⟨12, _⟩ => ⟨S88x512, .f32⟩
  | .local _ .vmem, ⟨13, _⟩ => ⟨S88x512, .f32⟩
  | _, _ => ⟨S616x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S616x512 : Shape := ⟨2, ![616, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S616x512, .f32⟩
  | .hbm, ⟨1, _⟩ => ⟨S616x512, .f32⟩
  | .hbm, ⟨2, _⟩ => ⟨S616x512, .f32⟩
  | .hbm, ⟨3, _⟩ => ⟨S616x512, .f32⟩
  | .hbm, ⟨4, _⟩ => ⟨S_, .f32⟩
  | .hbm, ⟨5, _⟩ => ⟨S616x512, .f32⟩
  | .hbm, ⟨6, _⟩ => ⟨S616x512, .f32⟩
  | .hbm, ⟨7, _⟩ => ⟨S_, .f32⟩
  | .hbm, ⟨8, _⟩ => ⟨S616x512, .f32⟩
  | .hbm, ⟨9, _⟩ => ⟨S616x512, .f32⟩
  | .hbm, ⟨10, _⟩ => ⟨S616x512, .f32⟩
  | .hbm, ⟨11, _⟩ => ⟨S_, .f32⟩
  | .hbm, ⟨12, _⟩ => ⟨S616x512, .f32⟩
  | .hbm, ⟨13, _⟩ => ⟨S616x512, .f32⟩
  | .hbm, ⟨14, _⟩ => ⟨S616x512, .f32⟩
  | .hbm, ⟨15, _⟩ => ⟨S_, .f32⟩
  | .hbm, ⟨16, _⟩ => ⟨S616x512, .f32⟩
  | .hbm, ⟨17, _⟩ => ⟨S616x512, .f32⟩
  | .hbm, ⟨18, _⟩ => ⟨S616x512, .f32⟩
  | .hbm, ⟨19, _⟩ => ⟨S_, .f32⟩
  | .hbm, ⟨20, _⟩ => ⟨S616x512, .f32⟩
  | .hbm, ⟨21, _⟩ => ⟨S616x512, .f32⟩
  | .hbm, ⟨22, _⟩ => ⟨S_, .f32⟩
  | .hbm, ⟨23, _⟩ => ⟨S616x512, .f32⟩
  | .hbm, ⟨24, _⟩ => ⟨S616x512, .f32⟩
  | .hbm, ⟨25, _⟩ => ⟨S616x512, .f32⟩
  | .hbm, ⟨26, _⟩ => ⟨S_, .f32⟩
  | .hbm, ⟨27, _⟩ => ⟨S616x512, .f32⟩
  | .hbm, ⟨28, _⟩ => ⟨S616x512, .f32⟩
  | .hbm, ⟨29, _⟩ => ⟨S616x512, .f32⟩
  | .hbm, ⟨30, _⟩ => ⟨S_, .f32⟩
  | .hbm, ⟨31, _⟩ => ⟨S616x512, .f32⟩
  | .hbm, ⟨32, _⟩ => ⟨S616x512, .f32⟩
  | .hbm, ⟨33, _⟩ => ⟨S616x512, .f32⟩
  | .hbm, ⟨34, _⟩ => ⟨S_, .f32⟩
  | .hbm, ⟨35, _⟩ => ⟨S616x512, .f32⟩
  | .hbm, ⟨36, _⟩ => ⟨S616x512, .f32⟩
  | _, _ => ⟨S616x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S5568x512 : Shape := ⟨2, ![5568, 512]⟩
abbrev S696x512 : Shape := ⟨2, ![696, 512]⟩

abbrev nBuf : Space → Nat
  | .hbm => 2
  | .vmem => 2
  | .smem => 0
  | _ => 0

abbrev bufTy : (tb : Table) → Fin (tcTables nBuf tb) → BufTy
  | .hbm, ⟨0, _⟩ => ⟨S5568x512, .f32⟩
  | .hbm, ⟨1, _⟩ => ⟨S696x512, .f32⟩
  | .local _ .vmem, ⟨0, _⟩ => ⟨S5568x512, .f32⟩
  | .local _ .vmem, ⟨1, _⟩ => ⟨S696x512, .f32⟩
  | _, _ => ⟨S5568x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5568x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S696x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S5568x512 : Shape := ⟨2, ![5568, 512]⟩
abbrev S8x696x512 : Shape := ⟨3, ![8, 696, 512]⟩
abbrev S_ : Shape := ⟨0, ![]⟩
abbrev S696x512 : Shape := ⟨2, ![696, 512]⟩

abbrev nBuf : Space → Nat
  | .hbm => 4
  | .vmem => 0
  | .smem => 0
  | _ => 0

abbrev bufTy : (tb : Table) → Fin (tcTables nBuf tb) → BufTy
  | .hbm, ⟨0, _⟩ => ⟨S5568x512, .f32⟩
  | .hbm, ⟨1, _⟩ => ⟨S8x696x512, .f32⟩
  | .hbm, ⟨2, _⟩ => ⟨S_, .f32⟩
  | .hbm, ⟨3, _⟩ => ⟨S696x512, .f32⟩
  | _, _ => ⟨S5568x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamMod.lean ====
abbrev S1024x8 : Shape := ⟨2, ![1024, 8]⟩
abbrev S4x8x1536 : Shape := ⟨3, ![4, 8, 1536]⟩
abbrev S4x1024x1536 : Shape := ⟨3, ![4, 1024, 1536]⟩
abbrev S256x8 : Shape := ⟨2, ![256, 8]⟩
abbrev S1x8x1536 : Shape := ⟨3, ![1, 8, 1536]⟩
abbrev S1x256x1536 : Shape := ⟨3, ![1, 256, 1536]⟩
abbrev S8x1536 : Shape := ⟨2, ![8, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamModRefIdeal.lean ====
abbrev S1024x8 : Shape := ⟨2, ![1024, 8]⟩
abbrev S4x8x1536 : Shape := ⟨3, ![4, 8, 1536]⟩
abbrev S4x1024x1536 : Shape := ⟨3, ![4, 1024, 1536]⟩
abbrev S4x1536x1024 : Shape := ⟨3, ![4, 1536, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1536x1024, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S_, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .hbm, ⟨14, _⟩ => ⟨S_, .f32⟩
  | .hbm, ⟨15, _⟩ => ⟨S4x1024x1536, .f32⟩
  | .hbm, ⟨16, _⟩ => ⟨S4x1024x1536, .f32⟩
  | .hbm, ⟨17, _⟩ => ⟨S4x1024x1536, .f32⟩
  | .hbm, ⟨18, _⟩ => ⟨S_, .f32⟩
  | .hbm, ⟨19, _⟩ => ⟨S4x1024x1536, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S_, .f32⟩
  | .hbm, ⟨26, _⟩ => ⟨S4x1024x1536, .f32⟩
  | .hbm, ⟨27, _⟩ => ⟨S4x1024x1536, .f32⟩
  | .hbm, ⟨28, _⟩ => ⟨S4x1024x1536, .f32⟩
  | .hbm, ⟨29, _⟩ => ⟨S_, .f32⟩
  | .hbm, ⟨30, _⟩ => ⟨S4x1024x1536, .f32⟩
  | .hbm, ⟨31, _⟩ => ⟨S4x1024x1536, .f32⟩
  | .hbm, ⟨32, _⟩ => ⟨S4x1024x1536, .f32⟩
  | .hbm, ⟨33, _⟩ => ⟨S_, .f32⟩
  | .hbm, ⟨34, _⟩ => ⟨S4x1024x1536, .f32⟩
  | .hbm, ⟨35, _⟩ => ⟨S4x1024x1536, .f32⟩
  | .hbm, ⟨36, _⟩ => ⟨S4x1024x1536, .f32⟩
  | .hbm, ⟨37, _⟩ => ⟨S_, .f32⟩
  | .hbm, ⟨38, _⟩ => ⟨S4x1024x1536, .f32⟩
  | .hbm, ⟨39, _⟩ => ⟨S4x1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AddOwn.lean ====
abbrev S1 : Shape := ⟨1, ![1]⟩
abbrev S8x11776x512 : Shape := ⟨3, ![8, 11776, 512]⟩
abbrev S4x11776x512 : Shape := ⟨3, ![4, 11776, 512]⟩
abbrev S1x512x512 : Shape := ⟨3, ![1, 512, 512]⟩

abbrev nBuf : Space → Nat
  | .hbm => 3
  | .vmem => 6
  | .smem => 1
  | _ => 0

abbrev bufTy : (tb : Table) → Fin (tcTables nBuf tb) → BufTy
  | .hbm, ⟨0, _⟩ => ⟨S8x11776x512, .f32⟩
  | .hbm, ⟨1, _⟩ => ⟨S4x11776x512, .f32⟩
  | .hbm, ⟨2, _⟩ => ⟨S4x11776x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .smem, ⟨0, _⟩ => ⟨S1, .i32⟩
  | _, _ => ⟨S8x11776x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 23], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOwnRef.lean ====
abbrev S1 : Shape := ⟨1, ![1]⟩
abbrev S8x11776x512 : Shape := ⟨3, ![8, 11776, 512]⟩
abbrev S4x11776x512 : Shape := ⟨3, ![4, 11776, 512]⟩
abbrev S4x2x11776x512 : Shape := ⟨4, ![4, 2, 11776, 512]⟩
abbrev S_ : Shape := ⟨0, ![]⟩
abbrev S4x1x11776x512 : Shape := ⟨4, ![4, 1, 11776, 512]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x11776x512, .f32⟩
  | .hbm, ⟨2, _⟩ => ⟨S4x11776x512, .f32⟩
  | .hbm, ⟨3, _⟩ => ⟨S4x2x11776x512, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x11776x512, .f32⟩
  | .hbm, ⟨8, _⟩ => ⟨S4x11776x512, .f32⟩
  | .hbm, ⟨9, _⟩ => ⟨S4x1x11776x512, .f32⟩
  | .hbm, ⟨10, _⟩ => ⟨S4x11776x512, .f32⟩
  | .hbm, ⟨11, _⟩ => ⟨S4x11776x512, .f32⟩
  | .hbm, ⟨12, _⟩ => ⟨S4x11776x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AddFour.lean ====
abbrev S1 : Shape := ⟨1, ![1]⟩
abbrev S4x11776x512 : Shape := ⟨3, ![4, 11776, 512]⟩
abbrev S3x11776x512 : Shape := ⟨3, ![3, 11776, 512]⟩
abbrev S11776x512 : Shape := ⟨2, ![11776, 512]⟩
abbrev S1x512x512 : Shape := ⟨3, ![1, 512, 512]⟩
abbrev S3x512x512 : Shape := ⟨3, ![3, 512, 512]⟩
abbrev S512x512 : Shape := ⟨2, ![512, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x11776x512, .f32⟩
  | .hbm, ⟨1, _⟩ => ⟨S3x11776x512, .f32⟩
  | .hbm, ⟨2, _⟩ => ⟨S11776x512, .f32⟩
  | .local _ .vmem, ⟨0, _⟩ => ⟨S1x512x512, .f32⟩
  | .local _ .vmem, ⟨1, _⟩ => ⟨S1x512x512, .f32⟩
  | .local _ .vmem, ⟨2, _⟩ => ⟨S3x512x512, .f32⟩
  | .local _ .vmem, ⟨3, _⟩ => ⟨S3x512x512, .f32⟩
  | .local _ .vmem, ⟨4, _⟩ => ⟨S512x512, .f32⟩
  | .local _ .vmem, ⟨5, _⟩ => ⟨S512x512, .f32⟩
  | .local _ .smem, ⟨0, _⟩ => ⟨S1, .i32⟩
  | _, _ => ⟨S4x11776x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![23], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddFourRef.lean ====
abbrev S1 : Shape := ⟨1, ![1]⟩
abbrev S4x11776x512 : Shape := ⟨3, ![4, 11776, 512]⟩
abbrev S3x11776x512 : Shape := ⟨3, ![3, 11776, 512]⟩
abbrev S_ : Shape := ⟨0, ![]⟩
abbrev S1x11776x512 : Shape := ⟨3, ![1, 11776, 512]⟩
abbrev S11776x512 : Shape := ⟨2, ![11776, 512]⟩

abbrev nBuf : Space → Nat
  | .hbm => 32
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x11776x512, .f32⟩
  | .hbm, ⟨2, _⟩ => ⟨S3x11776x512, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x11776x512, .f32⟩
  | .hbm, ⟨10, _⟩ => ⟨S11776x512, .f32⟩
  | .hbm, ⟨11, _⟩ => ⟨S1x11776x512, .f32⟩
  | .hbm, ⟨12, _⟩ => ⟨S11776x512, .f32⟩
  | .hbm, ⟨13, _⟩ => ⟨S11776x512, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1x11776x512, .f32⟩
  | .hbm, ⟨18, _⟩ => ⟨S11776x512, .f32⟩
  | .hbm, ⟨19, _⟩ => ⟨S1x11776x512, .f32⟩
  | .hbm, ⟨20, _⟩ => ⟨S11776x512, .f32⟩
  | .hbm, ⟨21, _⟩ => ⟨S11776x512, .f32⟩
  | .hbm, ⟨22, _⟩ => ⟨S11776x512, .f32⟩
  | .hbm, ⟨23, _⟩ => ⟨S1x11776x512, .f32⟩
  | .hbm, ⟨24, _⟩ => ⟨S11776x512, .f32⟩
  | .hbm, ⟨25, _⟩ => ⟨S11776x512, .f32⟩
  | .hbm, ⟨26, _⟩ => ⟨S1x11776x512, .f32⟩
  | .hbm, ⟨27, _⟩ => ⟨S11776x512, .f32⟩
  | .hbm, ⟨28, _⟩ => ⟨S11776x512, .f32⟩
  | .hbm, ⟨29, _⟩ => ⟨S1x11776x512, .f32⟩
  | .hbm, ⟨30, _⟩ => ⟨S11776x512, .f32⟩
  | .hbm, ⟨31, _⟩ => ⟨S11776x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== MulWo.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulWoIdeal.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulWoRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDWo.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDWoIdeal.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDWoRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulQkv.lean ====
abbrev S8192x1024 : Shape := ⟨2, ![8192, 1024]⟩
abbrev S1024x3072 : Shape := ⟨2, ![1024, 3072]⟩
abbrev S8192x3072 : Shape := ⟨2, ![8192, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulQkvIdeal.lean ====
abbrev S8192x1024 : Shape := ⟨2, ![8192, 1024]⟩
abbrev S1024x3072 : Shape := ⟨2, ![1024, 3072]⟩
abbrev S8192x3072 : Shape := ⟨2, ![8192, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulQkvRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .hbm, ⟨3, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MulGlu.lean ====
abbrev S8192x1024 : Shape := ⟨2, ![8192, 1024]⟩
abbrev S1024x2048 : Shape := ⟨2, ![1024, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulGluIdeal.lean ====
abbrev S8192x1024 : Shape := ⟨2, ![8192, 1024]⟩
abbrev S1024x2048 : Shape := ⟨2, ![1024, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulGluRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulGateUp.lean ====
abbrev S8192x1024 : Shape := ⟨2, ![8192, 1024]⟩
abbrev S1024x5632 : Shape := ⟨2, ![1024, 5632]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulGateUpIdeal.lean ====
abbrev S8192x1024 : Shape := ⟨2, ![8192, 1024]⟩
abbrev S1024x5632 : Shape := ⟨2, ![1024, 5632]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulGateUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .hbm, ⟨3, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MulDown.lean ====
abbrev S8192x2816 : Shape := ⟨2, ![8192, 2816]⟩
abbrev S2816x1024 : Shape := ⟨2, ![2816, 1024]⟩
abbrev S8192x1024 : Shape := ⟨2, ![8192, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDownIdeal.lean ====
abbrev S8192x2816 : Shape := ⟨2, ![8192, 2816]⟩
abbrev S2816x1024 : Shape := ⟨2, ![2816, 1024]⟩
abbrev S8192x1024 : Shape := ⟨2, ![8192, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDQkv.lean ====
abbrev S8192x1024 : Shape := ⟨2, ![8192, 1024]⟩
abbrev S8192x3072 : Shape := ⟨2, ![8192, 3072]⟩
abbrev S1024x3072 : Shape := ⟨2, ![1024, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDQkvIdeal.lean ====
abbrev S8192x1024 : Shape := ⟨2, ![8192, 1024]⟩
abbrev S8192x3072 : Shape := ⟨2, ![8192, 3072]⟩
abbrev S1024x3072 : Shape := ⟨2, ![1024, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDQkvRefIdeal.lean ====
abbrev S8192x1024 : Shape := ⟨2, ![8192, 1024]⟩
abbrev S8192x3072 : Shape := ⟨2, ![8192, 3072]⟩
abbrev S1024x3072 : Shape := ⟨2, ![1024, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDGlu.lean ====
abbrev S8192x1024 : Shape := ⟨2, ![8192, 1024]⟩
abbrev S8192x2048 : Shape := ⟨2, ![8192, 2048]⟩
abbrev S1024x2048 : Shape := ⟨2, ![1024, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDGluIdeal.lean ====
abbrev S8192x1024 : Shape := ⟨2, ![8192, 1024]⟩
abbrev S8192x2048 : Shape := ⟨2, ![8192, 2048]⟩
abbrev S1024x2048 : Shape := ⟨2, ![1024, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDGluRefIdeal.lean ====
abbrev S8192x1024 : Shape := ⟨2, ![8192, 1024]⟩
abbrev S8192x2048 : Shape := ⟨2, ![8192, 2048]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDGateUp.lean ====
abbrev S8192x1024 : Shape := ⟨2, ![8192, 1024]⟩
abbrev S8192x5632 : Shape := ⟨2, ![8192, 5632]⟩
abbrev S1024x5632 : Shape := ⟨2, ![1024, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDGateUpIdeal.lean ====
abbrev S8192x1024 : Shape := ⟨2, ![8192, 1024]⟩
abbrev S8192x5632 : Shape := ⟨2, ![8192, 5632]⟩
abbrev S1024x5632 : Shape := ⟨2, ![1024, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDGateUpRefIdeal.lean ====
abbrev S8192x1024 : Shape := ⟨2, ![8192, 1024]⟩
abbrev S8192x5632 : Shape := ⟨2, ![8192, 5632]⟩
abbrev S1024x5632 : Shape := ⟨2, ![1024, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulDDown.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDDownIdeal.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDDownRefIdeal.lean ====
abbrev S8192x2816 : Shape := ⟨2, ![8192, 2816]⟩
abbrev S8192x1024 : Shape := ⟨2, ![8192, 1024]⟩
abbrev S2816x1024 : Shape := ⟨2, ![2816, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulBackO.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackOIdeal.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackORefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MulBackConv.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackConvIdeal.lean ====
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackConvRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulBackQkv.lean ====
abbrev S8192x3072 : Shape := ⟨2, ![8192, 3072]⟩
abbrev S1024x3072 : Shape := ⟨2, ![1024, 3072]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackQkvIdeal.lean ====
abbrev S8192x3072 : Shape := ⟨2, ![8192, 3072]⟩
abbrev S1024x3072 : Shape := ⟨2, ![1024, 3072]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackQkvRefIdeal.lean ====
abbrev S8192x3072 : Shape := ⟨2, ![8192, 3072]⟩
abbrev S1024x3072 : Shape := ⟨2, ![1024, 3072]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulBackGlu.lean ====
abbrev S8192x2048 : Shape := ⟨2, ![8192, 2048]⟩
abbrev S1024x2048 : Shape := ⟨2, ![1024, 2048]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackGluIdeal.lean ====
abbrev S8192x2048 : Shape := ⟨2, ![8192, 2048]⟩
abbrev S1024x2048 : Shape := ⟨2, ![1024, 2048]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackGluRefIdeal.lean ====
abbrev S8192x2048 : Shape := ⟨2, ![8192, 2048]⟩
abbrev S1024x2048 : Shape := ⟨2, ![1024, 2048]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulBackFfn.lean ====
abbrev S8192x5632 : Shape := ⟨2, ![8192, 5632]⟩
abbrev S1024x5632 : Shape := ⟨2, ![1024, 5632]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackFfnIdeal.lean ====
abbrev S8192x5632 : Shape := ⟨2, ![8192, 5632]⟩
abbrev S1024x5632 : Shape := ⟨2, ![1024, 5632]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackFfnRefIdeal.lean ====
abbrev S8192x5632 : Shape := ⟨2, ![8192, 5632]⟩
abbrev S1024x5632 : Shape := ⟨2, ![1024, 5632]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MulBackAct.lean ====
abbrev S8192x1024 : Shape := ⟨2, ![8192, 1024]⟩
abbrev S2816x1024 : Shape := ⟨2, ![2816, 1024]⟩
abbrev S8192x2816 : Shape := ⟨2, ![8192, 2816]⟩
abbrev S512x512 : Shape := ⟨2, ![512, 512]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackActIdeal.lean ====
abbrev S8192x1024 : Shape := ⟨2, ![8192, 1024]⟩
abbrev S2816x1024 : Shape := ⟨2, ![2816, 1024]⟩
abbrev S8192x2816 : Shape := ⟨2, ![8192, 2816]⟩
abbrev S512x512 : Shape := ⟨2, ![512, 512]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulBackActRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_cond2 (i : grid0.Coords) : BitVec 1 :=
  let arg0 : BitVec 32 := BitVec.ofNat 32 (i 0).val
  let c0_i32_7 : BitVec 32 := 0#32
  let v13 : BitVec 1 := Scalar.cmpi .sgt arg0 c0_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== LossTotal.lean ====
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S1x1024, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v1 : Ref sig .tc := ⟨.hbm, 2, rfl⟩
abbrev main_cst_0 : Ref sig .tc := ⟨.hbm, 3, rfl⟩
abbrev main_v2 : Ref sig .tc := ⟨.hbm, 4, rfl⟩
abbrev main_cst_1 : Ref sig .tc := ⟨.hbm, 5, rfl⟩
abbrev main_v3 : Ref sig .tc := ⟨.hbm, 6, rfl⟩
abbrev main_v4 : Ref sig .tc := ⟨.hbm, 7, rfl⟩
abbrev main_v4_s0 : Ref sig .tc := ⟨.hbm, 8, rfl⟩
abbrev main_v4_s1 : Ref sig .tc := ⟨.hbm, 9, rfl⟩
abbrev main_v4_s2 : Ref sig .tc := ⟨.hbm, 10, rfl⟩
abbrev main_v4_s3 : Ref sig .tc := ⟨.hbm, 11, rfl⟩
abbrev main_v4_s4 : Ref sig .tc := ⟨.hbm, 12, rfl⟩
abbrev main_v4_s5 : Ref sig .tc := ⟨.hbm, 13, rfl⟩
abbrev main_v4_s6 : Ref sig .tc := ⟨.hbm, 14, rfl⟩
abbrev main_v4_s7 : Ref sig .tc := ⟨.hbm, 15, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))
-- ==== LossTotalRefIdeal.lean ====
abbrev S8x1024 : Shape := ⟨2, ![8, 1024]⟩
abbrev S_ : Shape := ⟨0, ![]⟩
abbrev S8 : Shape := ⟨1, ![8]⟩

abbrev nBuf : Space → Nat
  | .hbm => 10
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S_, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== PreBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32_22 : BitVec 32 := 0#32
  let v55 : BitVec 1 := Scalar.cmpi .sgt arg0 c0_i32_22
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== RowIn.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowInIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowInRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== RowInS5.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowInS5Ideal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowInS5RefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== RowMid.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RowMidIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RowMidRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== RowMidConv.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RowMidConvRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== RowOut.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowOutIdeal.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowOutRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== RowGate.lean ====
abbrev S8192x2048 : Shape := ⟨2, ![8192, 2048]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowGateIdeal.lean ====
abbrev S8192x2048 : Shape := ⟨2, ![8192, 2048]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowGateRefIdeal.lean ====
abbrev S8192x2048 : Shape := ⟨2, ![8192, 2048]⟩
abbrev S1x2048 : Shape := ⟨2, ![1, 2048]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== RowAct.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RowActIdeal.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RowActRefIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== RowConv.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RowConvRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== RowActBwd.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowActBwdRefIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== RowGeluBwd.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowGeluBwdRefIdeal.lean ====
abbrev S8192x1024 : Shape := ⟨2, ![8192, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== RowGateBwd.lean ====
abbrev S8192x2048 : Shape := ⟨2, ![8192, 2048]⟩
abbrev S8192x1024 : Shape := ⟨2, ![8192, 1024]⟩
abbrev S1x2048 : Shape := ⟨2, ![1, 2048]⟩
abbrev S256x2048 : Shape := ⟨2, ![256, 2048]⟩
abbrev S256x1024 : Shape := ⟨2, ![256, 1024]⟩
abbrev S1x1024 : Shape := ⟨2, ![1, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_9 : BitVec 32 := 0#32
  let v28 : BitVec 1 := Scalar.cmpi .ne v27 c0_i32_9
  v28

def k0_cond2 (i : grid0.Coords) : BitVec 1 :=
  let arg0 : BitVec 32 := BitVec.ofNat 32 (i 0).val
  let c0_i32_10 : BitVec 32 := 0#32
  let v29 : BitVec 1 := Scalar.cmpi .sgt arg0 c0_i32_10
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RowGateBwdRefIdeal.lean ====
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S_ : Shape := ⟨0, ![]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x2048, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x2048, .f32⟩
  | .hbm, ⟨34, _⟩ => ⟨S8192x2048, .bf16⟩
  | .hbm, ⟨35, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== RowOutBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_17 : BitVec 32 := 0#32
  let v49 : BitVec 1 := Scalar.cmpi .ne v48 c0_i32_17
  v49

def k0_cond2 (i : grid0.Coords) : BitVec 1 :=
  let arg0 : BitVec 32 := BitVec.ofNat 32 (i 0).val
  let c0_i32_18 : BitVec 32 := 0#32
  let v50 : BitVec 1 := Scalar.cmpi .sgt arg0 c0_i32_18
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RowOutBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== RowConvBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_30 : BitVec 32 := 0#32
  let v80 : BitVec 1 := Scalar.cmpi .ne v79 c0_i32_30
  v80

def k0_cond2 (i : grid0.Coords) : BitVec 1 :=
  let arg0 : BitVec 32 := BitVec.ofNat 32 (i 0).val
  let c0_i32_31 : BitVec 32 := 0#32
  let v81 : BitVec 1 := Scalar.cmpi .sgt arg0 c0_i32_31
  let v82 : BitVec 32 := Scalar.extui v81
  let c0_i32_32 : BitVec 32 := 0#32
  let v83 : BitVec 1 := Scalar.cmpi .ne v82 c0_i32_32
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RowConvBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩

abbrev nD : Nat := 1
abbrev τ : Topo := Topo.v7x

variable {F : FTy → Type} [FloatOps F]
-- ==== ModFwd.lean ====
abbrev S8x1024 : Shape := ⟨2, ![8, 1024]⟩
abbrev S4x1024x1536 : Shape := ⟨3, ![4, 1024, 1536]⟩
abbrev S4x1x1536 : Shape := ⟨3, ![4, 1, 1536]⟩
abbrev S4x8x1536 : Shape := ⟨3, ![4, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S4x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModFwdRefIdeal.lean ====
abbrev S8x1024 : Shape := ⟨2, ![8, 1024]⟩
abbrev S4x1024x1536 : Shape := ⟨3, ![4, 1024, 1536]⟩
abbrev S4x1x1536 : Shape := ⟨3, ![4, 1, 1536]⟩
abbrev S_ : Shape := ⟨0, ![]⟩
abbrev S4x1536x8 : Shape := ⟨3, ![4, 1536, 8]⟩
abbrev S4x8x1536 : Shape := ⟨3, ![4, 8, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1536x8, .f32⟩
  | .hbm, ⟨13, _⟩ => ⟨S4x8x1536, .f32⟩
  | .hbm, ⟨14, _⟩ => ⟨S4x8x1536, .f32⟩
  | .hbm, ⟨15, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== MidBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v100 : BitVec 1 := Scalar.cmpi .eq arg0 c0_i32
  let v101 : BitVec 32 := Scalar.extui v100
  let c0_i32_38 : BitVec 32 := 0#32
  let v102 : BitVec 1 := Scalar.cmpi .ne v101 c0_i32_38
  v102

def k0_cond2 (i : grid0.Coords) : BitVec 1 :=
  let arg0 : BitVec 32 := BitVec.ofNat 32 (i 0).val
  let c0_i32_39 : BitVec 32 := 0#32
  let v103 : BitVec 1 := Scalar.cmpi .sgt arg0 c0_i32_39
  let v104 : BitVec 32 := Scalar.extui v103
  let c0_i32_40 : BitVec 32 := 0#32
  let v105 : BitVec 1 := Scalar.cmpi .ne v104 c0_i32_40
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MidBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Matrices.lean ====
abbrev S4096x1 : Shape := ⟨2, ![4096, 1]⟩
abbrev S4096x16 : Shape := ⟨2, ![4096, 16]⟩
abbrev S512x1 : Shape := ⟨2, ![512, 1]⟩
abbrev S512x16 : Shape := ⟨2, ![512, 16]⟩

abbrev nBuf : Space → Nat
  | .hbm => 9
  | .vmem => 18
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x1, .f32⟩
  | .hbm, ⟨3, _⟩ => ⟨S4096x16, .f32⟩
  | .hbm, ⟨4, _⟩ => ⟨S4096x16, .f32⟩
  | .hbm, ⟨5, _⟩ => ⟨S4096x1, .f32⟩
  | .hbm, ⟨6, _⟩ => ⟨S4096x1, .f32⟩
  | .hbm, ⟨7, _⟩ => ⟨S4096x16, .f32⟩
  | .hbm, ⟨8, _⟩ => ⟨S4096x16, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x16, .f32⟩
  | .local _ .vmem, ⟨15, _⟩ => ⟨S512x16, .f32⟩
  | .local _ .vmem, ⟨16, _⟩ => ⟨S512x16, .f32⟩
  | .local _ .vmem, ⟨17, _⟩ => ⟨S512x16, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MatricesRefIdeal.lean ====
abbrev S4096x1 : Shape := ⟨2, ![4096, 1]⟩
abbrev S4096x16 : Shape := ⟨2, ![4096, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x1, .f32⟩
  | .hbm, ⟨2, _⟩ => ⟨S4096x1, .f32⟩
  | .hbm, ⟨3, _⟩ => ⟨S4096x16, .f32⟩
  | .hbm, ⟨4, _⟩ => ⟨S4096x16, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.Rows.lean ====
/-
  A slab of an array of three dimensions, and rows of an array of two, read at an index.
-/
module

public import Idealize.ShloMosaic.Lib.Layout
public import Idealize.ShloMosaic.Lib.PointwiseCore

@[expose] public section

set_option Elab.async false

noncomputable section

namespace Cert.Exchange

open Idealize.ShloMosaic

/-- Slab `o` of an array, read at `(r, l)`, is the array at `(o, r, l)`. -/
theorem slab_read {sig : RefSig} {κ : Kind} {cs : Space} {n a w : ℕ} {e : EltTy} {Val : EltTy → Type}
    (M : Memref sig κ cs ⟨3, ![n, a, w]⟩ e) (off : Fin 3 → ℕ)
    (inb : ∀ i, off i + (![1, a, w] : Fin 3 → ℕ) i ≤ (⟨3, ![n, a, w]⟩ : Shape).size i)
    (hr : ∀ i, (Rect.unit (s := ⟨3, ![n, a, w]⟩) off ![1, a, w] inb).stride i = 1)
    (hq : (Rect.unit (s := ⟨3, ![n, a, w]⟩) off ![1, a, w] inb).shape.Squeezes ⟨2, ![a, w]⟩)
    (f : M.view.ty.Contents Val) (o : Fin n) (ho : off = ![o.val, 0, 0]) (r : Fin a) (l : Fin w) :
    ((M.slice (Rect.unit off ![1, a, w] inb) hr).squeeze ⟨2, ![a, w]⟩ hq).view.read Val f (ix2 r l) = M.view.read Val f (ix3 o r l) := by
  subst ho
  have hc : (⟨3, ![1, a, w]⟩ : Shape).ShapeCasts ⟨2, ![a, w]⟩ := by
    show Shape.numel _ = Shape.numel _
    simp [Shape.numel, Fin.prod_univ_succ]
  rw [Memref.read_squeeze_slice M _ hr hq hc]
  rw [shapeCast_apply _ hc (ix2 r l) (ix3 (0 : Fin 1) r l) (by
    rw [Shape.rowMajor_val_three, Shape.rowMajor_val_two]
    show ((0 * a + r.val) * w + l.val) = r.val * w + l.val
    simp only [Nat.zero_mul, Nat.zero_add])]
  show M.view.read Val f _ = _
  refine congrArg _ (funext fun i => Fin.ext ?_)
  match i with
  | ⟨0, _⟩ => simp [Rect.unit, ix3]
  | ⟨1, _⟩ => simp [Rect.unit, ix3]
  | ⟨2, _⟩ => simp [Rect.unit, ix3]

/-- Rows `o` to `o + a` of an array, read at `(r, l)`, are the array at `(o + r, l)`. -/
theorem rows_read {sig : RefSig} {κ : Kind} {cs : Space} {n a w : ℕ} {e : EltTy} {Val : EltTy → Type}
    (M : Memref sig κ cs ⟨2, ![n, w]⟩ e) (off : Fin 2 → ℕ)
    (inb : ∀ i, off i + (![a, w] : Fin 2 → ℕ) i ≤ (⟨2, ![n, w]⟩ : Shape).size i)
    (hr : ∀ i, (Rect.unit (s := ⟨2, ![n, w]⟩) off ![a, w] inb).stride i = 1)
    (f : M.view.ty.Contents Val) (o : ℕ) (ho : off = ![o, 0]) (r : Fin a) (l : Fin w) (h : o + r.val < n) :
    (M.slice (Rect.unit off ![a, w] inb) hr).view.read Val f (ix2 r l) = M.view.read Val f (ix2 (⟨o + r.val, h⟩ : Fin n) l) := by
  subst ho
  show M.view.read Val f _ = _
  refine congrArg _ (funext fun i => Fin.ext ?_)
  match i with
  | ⟨0, _⟩ => show o + 1 * r.val = o + r.val; omega
  | ⟨1, _⟩ => show 0 + 1 * l.val = l.val; omega

end Cert.Exchange

end
-- ==== Proof.Launch.lean ====
/-
  The launch of a program whose one call keeps every operand in HBM and talks to the other devices.

  The arrays of such a call exist on every device before any device starts, so at the launch their ownership can be dealt
  ACROSS the devices: the device that will write a slice of its peer's result holds that slice from the start, and no
  device has to wait for another before it sends. `θ_run_exchange` is the launch theorem with that step (`hdeal`): it
  sees all devices' arrays and semaphores together and hands each device what its body starts from.
-/
module

public import Idealize.ShloMosaic.Lib.Pipeline.Launch
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose cellOf)

/-! ## Two copies of the rounds algebra: the pipeline's and the exchange's -/

/-- One copy: rounds over the machine's cells, one unnamed duty each. -/
abbrev UR (nD : Nat) (τ : Topo) (sig : RefSig) : Type := URounds (GSem nD τ sig) Unit

/-- Both, side by side. -/
abbrev UU (nD : Nat) (τ : Topo) (sig : RefSig) : Type := UR nD τ sig × UR nD τ sig

variable {nD : Nat} {τ : Topo} {sig : RefSig} {Val : EltTy → Type}

local notation "𝕄" => MT nD τ sig Unit Val ℕ (UU nD τ sig) ℕ

/-- The pipeline's copy in the machine's algebra. -/
def EP : Emb (UR nD τ sig) (MT nD τ sig Unit Val ℕ (UU nD τ sig) ℕ) :=
  (Emb.inl : Emb (UR nD τ sig) (UU nD τ sig)).trans
    (uEmb (nD := nD) (sig := sig) (Ix := Unit) (Val := Val) (Name := ℕ) (U := UU nD τ sig) (Lvl := ℕ)).toEmb

/-- The exchange's copy. -/
def EX : Emb (UR nD τ sig) (MT nD τ sig Unit Val ℕ (UU nD τ sig) ℕ) :=
  (Emb.inr : Emb (UR nD τ sig) (UU nD τ sig)).trans
    (uEmb (nD := nD) (sig := sig) (Ix := Unit) (Val := Val) (Name := ℕ) (U := UU nD τ sig) (Lvl := ℕ)).toEmb

instance EP_lands : (EP : Emb (UR nD τ sig) 𝕄).LandsIn (upEmb : UEmb _ 𝕄) := by unfold EP; infer_instance
instance EX_lands : (EX : Emb (UR nD τ sig) 𝕄).LandsIn (upEmb : UEmb _ 𝕄) := by unfold EX; infer_instance

/-- The launch element of both copies is the launch element of each. -/
theorem ownU_pair (a b : UR nD τ sig) : (ownU (a, b) : sProp 𝕄) ⊢ iprop(BI.own (EP a) ∗ BI.own (EX b)) :=
  BI.own_op_elim ((uEmb (nD := nD) (sig := sig) (Ix := Unit) (Val := Val) (Name := ℕ) (U := UU nD τ sig) (Lvl := ℕ)).toEmb.op_of_mem
    (Prod.mk_mem_op (URA.mem_op_one a) (URA.mem_one_op b)))

/-! ## The call as a pipeline without windows -/

section Run

variable {Λ₀ : Labels} [∀ e, Nonempty (Val e)] (cfgs : Fin 1 → Cfg sig Λ₀)

/-- The pipeline's data of a call without windows and with one grid point: it starts from `S`, owing `O`, and ends
    with `T`, owing nothing. -/
def talk (hW : ∀ p, (cfgs p).W = 0) (S T : Dev nD → sProp 𝕄) (O : Dev nD → CellTallies nD τ sig Unit) :
    (p : Fin 1) → (c : Dev nD) → Dat τ Val Unit ℕ (UU nD τ sig) ℕ (cfgs p) c :=
  fun p c => { A := fun w => (Fin.cast (hW p) w).elim0
               after := fun w => (Fin.cast (hW p) w).elim0
               Φ := fun t => if t.val = 0 then S c else T c
               q := fun _ => fullShare
               owed := fun t => if t.val = 0 then O c else 0 }

theorem talk_inv (hW : ∀ p, (cfgs p).W = 0) (S T : Dev nD → sProp 𝕄) (O : Dev nD → CellTallies nD τ sig Unit) (p : Fin 1) (c : Dev nD)
    (t : Fin ((cfgs p).N + 1)) : (talk cfgs hW S T O p c).Φ t = if t.val = 0 then S c else T c := rfl

theorem talk_owed (hW : ∀ p, (cfgs p).W = 0) (S T : Dev nD → sProp 𝕄) (O : Dev nD → CellTallies nD τ sig Unit) (p : Fin 1) (c : Dev nD)
    (t : Fin ((cfgs p).N + 1)) : (talk cfgs hW S T O p c).owed t = if t.val = 0 then O c else 0 := rfl

variable (hN : (cfgs 0).N = 1) (hW : ∀ p, (cfgs p).W = 0)

section Levels

variable (L : GSem nD τ sig → Finset Unit) (lv : GSem nD τ sig → Unit → ℕ) (hL : ∀ g, g.1.2 ≠ .tc → L g = ∅)

include hL in
/-- The launch assigns every TensorCore cell its levels, once for the whole machine. -/
theorem levels_dealt : (bigSep Finset.univ fun c : Dev nD =>
      levels0 (Ix := Unit) (Val := Val) (Name := ℕ) (U := UU nD τ sig) (Lvl := ℕ) (τ := τ) (sig := sig) c)
    ⊢ (|==> levAts L lv : sProp 𝕄) := by
  classical
  refine (bigSep_mono fun c _ => lev_assign_cells (c.tc : Thread nD τ) L lv).trans <| (BI.bigSep_bupd _ _).trans <| BI.bupd_mono ?_
  have hrest : (bigSep Finset.univ fun d : Dev nD => bigSep (Finset.univ.erase Proc.tc) fun p =>
      (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [hL (((d, p) : Thread nD τ), sm) (Finset.ne_of_mem_erase hp), BI.bigSep_empty], BI.bigSep_emp_const]).trans
      (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hrest, bigSep_sep']
  show (_ : sProp 𝕄) ⊢ _
  iintro ⟨-, H⟩
  isplitl [H]
  · iexact H
  · iempintro

end Levels

include hN hW in
/-- Every weakly fair execution of such a program ends, with each device's memory as `hread` reads it off what the
    device's body ended with, and every scoped counter at zero. -/
theorem θ_run_exchange (hinj : Function.Injective (cellOf (nD := nD) (τ := τ) cfgs))
    (hw : Pipeline.WinFacts (cfgs 0).spec)
    {K : Type} [Fintype K] {osem : K → SemLoc sig} (ho : Pipeline.OwnSemFacts (cfgs 0).spec osem)
    (defs₀ : Defs nD τ sig Val Λ₀) (m : (ℓ : Loc nD τ sig) → Buf Val ℓ) (ρ : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (hrest : ∀ c : Dev nD, (Pipeline.scopedRest (Ix := Unit) (Name := ℕ) (U := UU nD τ sig) (Lvl := ℕ) (Val := Val) (τ := τ) (cfgs 0).spec c : sProp 𝕄) = BI.emp)
    (O : Dev nD → CellTallies nD τ sig Unit)
    (L : GSem nD τ sig → Finset Unit) (lv : GSem nD τ sig → Unit → ℕ) (hL : ∀ g, g.1.2 ≠ .tc → L g = ∅)
    (x₀ : UR nD τ sig) (G S Y : Dev nD → sProp 𝕄)
    (hfund : (BI.own (EX x₀) : sProp 𝕄) ⊢ |={Set.univ}=> bigSep Finset.univ G)
    (hdeal : (bigSep Finset.univ fun c => iprop(Pipeline.ownSems0 osem c
        ∗ Pipeline.unscopedRest (cfgs 0).spec c (fun b => m ((c.tc : Thread nD τ).loc b)) ∗ G c) : sProp 𝕄) ⊢ |={Set.univ}=> bigSep Finset.univ S)
    (hbody : ∀ c (t : Fin (cfgs 0).N) (W : Finset (SemLoc sig × Unit)),
      iprop((levAts L lv ∗ Pipeline.launchCred O c ∗ S c) ∗ owes (c.tc : Thread nD τ) (O c) W)
        ⊢ wp frame (wpE defs₀ Variants.none (c.tc : Thread nD τ) none) Set.univ
            (defs₀ .tc (cfgs 0).body ((cfgs 0).bodyArgs t ((cfgs 0).slots t)))
            fun _ => iprop((Y c ∗ Pipeline.ownSems0 osem c) ∗ ∃ W', owes (c.tc : Thread nD τ) 0 W'))
    (QY : Dev nD → MemSt nD τ sig Val → Prop)
    (hread : ∀ c (s' : Phys nD τ sig Val), iprop(Y c ∗ SI s') ⊢ |={Set.univ}=> iprop(⌜QY c s'.mem⌝ ∗ SI s')) :
    θ_run (Pipeline.defs (fun q => (cfgs q).toPCfg) defs₀) (onTc main) ⟨m, fun _ => 0, ρ⟩
      fun r => (∀ c, QY c r.2) ∧ ∀ g : GSem nD τ sig, (g.1.2 ≠ .tc ∨ g.2.isScoped .tc = true) → r.2.sem g = 0 := by
  classical
  haveI : IsEmpty (Fin (cfgs 0).W) := ⟨fun w => (Fin.cast (hW 0) w).elim0⟩
  let start : Dev nD → sProp 𝕄 := fun c => iprop(levAts L lv ∗ Pipeline.launchCred O c ∗ S c)
  let stop : Dev nD → sProp 𝕄 := fun c => iprop(Y c ∗ Pipeline.ownSems0 osem c)
  let dats := talk cfgs hW start stop O
  -- a device's scoped buffers are none, its semaphores the call's own and the idle ones
  have hss := fun c : Dev nD => Pipeline.scopedSems0_split cfgs hinj (0 : Fin 1) hw.to₀ ho (Ix := Unit) (Val := Val) (Name := ℕ) (U := UU nD τ sig) (Lvl := ℕ) c
  have hsb := fun c : Dev nD => Pipeline.scopedBufs_split cfgs (0 : Fin 1) hw.stage_scoped hw.stage_inj (fun w => isEmptyElim w) c (nD := nD) (τ := τ) (Ix := Unit) (Val := Val) (Name := ℕ) (U := UU nD τ sig) (Lvl := ℕ)
  have hub := fun c : Dev nD => Pipeline.unscopedBufs_split cfgs (0 : Fin 1) hw.arr_unscoped hw.arr_inj c (nD := nD) (τ := τ) (Ix := Unit) (Name := ℕ) (U := UU nD τ sig) (Lvl := ℕ) (fun b => m ((c.tc : Thread nD τ).loc b))
  let pre : Dev nD → sProp 𝕄 := fun c => iprop((scopedBufs (c.tc : Thread nD τ) ∗ Pipeline.cellsSems0 cfgs 0 c ∗ Pipeline.idleSems0 cfgs hinj 0 ho c)
    ∗ owes (c.tc : Thread nD τ) (O c) ∅ ∗ levAts L lv ∗ Pipeline.launchCred O c
    ∗ Pipeline.cellsGhost cfgs EP 0 c ∗ Pipeline.toksInit cfgs EP 0 c ∗ S c)
  let fin : Dev nD → sProp 𝕄 := fun c => iprop(Y c ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g : GSem nD τ sig, g.1.2 ≠ .tc → r.2.sem g = 0)
    (fun r hr => ⟨fun c => (hr.1 c).1, sems_of_reads (fun c => (hr.1 c).2) hr.2⟩) (adequate_tpu _ _ _ _
    (reflect_intro_fupd_tc_sems (X := Unit) (Variants.lift Variants.none) (Pipeline.owing O) 0 (noBookings fun _ => le_rfl) (Pipeline.owing_of_ne O)
      ((initOf (Pipeline.cells cfgs hinj) (Pipeline.launchToks cfgs hinj), x₀) : UU nD τ sig) (fun _ => pre) (fun _ => fin)
      (fun _ => iprop(emp)) Set.univ ?_ (fun _ c => ?_) fun _ => ?_))
  · have hcore (c : Dev nD) :
        coreInit (Ix := Unit) (Name := ℕ) (U := UU nD τ sig) (Lvl := ℕ) (Pipeline.owing O) 0 (⟨m, fun _ => 0, ρ⟩ : MemSt nD τ sig Val) (c.tc : Thread nD τ)
          ⊢ iprop((scopedBufs (c.tc : Thread nD τ) ∗ Pipeline.cellsSems0 cfgs 0 c ∗ Pipeline.idleSems0 cfgs hinj 0 ho c)
              ∗ Pipeline.ownSems0 osem c ∗ Pipeline.unscopedRest (cfgs 0).spec c (fun b => m ((c.tc : Thread nD τ).loc b))
              ∗ owes (c.tc : Thread nD τ) (O c) ∅ ∗ levels0 c ∗ Pipeline.launchCred O c) := by
      refine (Pipeline.coreInit_boundary_owing O m ρ c).trans ?_
      unfold boundary
      rw [hss c, hub c]
      iintro ⟨⟨Hsc, ⟨⟨Hcells, Hos⟩, Hidle⟩, -⟩, ⟨-, Hur⟩, -, HO, Hlv, -, Hcr⟩
      isplitl [Hsc Hcells Hidle]
      · isplitl [Hsc]; · iexact Hsc
        isplitl [Hcells] <;> iassumption
      isplitl [Hos]; · iexact Hos
      isplitl [Hur]; · iexact Hur
      isplitl [HO]; · iexact HO
      isplitl [Hlv] <;> iassumption
    have hpick (Φ : Fin 1 → Dev nD → sProp 𝕄) :
        (bigSep Finset.univ fun c : Dev nD => bigSep Finset.univ fun p' => Φ p' c) ⊢ bigSep Finset.univ fun c : Dev nD => Φ 0 c :=
      bigSep_mono fun c _ => BI.bigSep_elim (Finset.mem_univ 0)
    have hcores := bigSep_mono (s := Finset.univ) fun (c : Dev nD) _ => hcore c
    simp only [bigSep_sep'] at hcores
    iintro ⟨Hcores, Hu⟩
    ihave Hc := (show (_ : sProp 𝕄) ⊢ (_ : sProp 𝕄) from hcores) $$ Hcores
    icases Hc with ⟨⟨Hsc, Hcells, Hidle⟩, Hos, Hur, HO, Hlv, Hcr⟩
    imod (levels_dealt L lv hL) $$ Hlv with Hla
    ihave Hu2 := (ownU_pair _ _) $$ Hu
    icases Hu2 with ⟨HP, HX⟩
    imod hfund $$ HX with HG
    imod (Pipeline.fund_ghost cfgs EP hinj) $$ HP with ⟨Hg, Ht⟩
    imod hdeal $$ [Hos Hur HG] with HS
    · rw [bigSep_sep', bigSep_sep']
      isplitl [Hos]; · iexact Hos
      isplitl [Hur] <;> iassumption
    imodintro
    iexists ()
    isplitr []
    · simp only [pre, bigSep_sep']
      isplitl [Hsc Hcells Hidle]
      · isplitl [Hsc]; · iexact Hsc
        isplitl [Hcells] <;> iassumption
      isplitl [HO]; · iexact HO
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p' c => Pipeline.cellsGhost cfgs EP p' c); iexact Hg
      isplitl [Ht]; · iapply (hpick fun p' c => Pipeline.toksInit cfgs EP p' c); iexact Ht
      iexact HS
    · iempintro
  · -- one device's run: into the call, its body, out of it
    have hin : iprop(start c ∗ Pipeline.prefHeld ((cfgs 0).toPCfg (Val := Val)).pre c (fun _ => fullShare) ((cfgs 0).toPCfg_adm (Val := Val)).1
        ∗ BI.emp) ⊢ (dats 0 c).Φ 0 := by
      rw [show (dats 0 c).Φ 0 = start c from (talk_inv cfgs hW start stop O 0 c _).trans (if_pos (Fin.val_zero _))]
      iintro ⟨H, -, -⟩
      iexact H
    have hlast : (dats 0 c).Φ (Fin.last (cfgs 0).N) = stop c := by
      exact (talk_inv cfgs hW start stop O 0 c _).trans (if_neg (by rw [Fin.val_last, hN]; exact Nat.one_ne_zero))
    have hout : iprop((dats 0 c).Φ (Fin.last (cfgs 0).N) ∗ Pipeline.cellsSems0 cfgs 0 c ∗ Dat.staging (cfgs 0) c ∗ Pipeline.idleSems0 cfgs hinj 0 ho c)
        ⊢ iprop(Y c ∗ scopedSems0 (c.tc : Thread nD τ) ∗ scopedBufs (c.tc : Thread nD τ)) := by
      rw [hss c, hsb c, hlast, hrest]
      iintro ⟨⟨HY, Hos⟩, Hcells, Hst, Hidle⟩
      isplitl [HY]; · iexact HY
      isplitl [Hcells Hos Hidle]
      · isplitl [Hcells Hos]; · isplitl [Hcells] <;> iassumption
        iexact Hidle
      isplitl [Hst]; · iexact Hst
      iempintro
    have hob : BodyObligationLoose (dats 0 c) defs₀ Variants.none () Set.univ := by
      intro t
      have ht : t.val = 0 := by have := t.isLt; omega
      have h0 : (dats 0 c).Φ t.castSucc = start c := (talk_inv cfgs hW start stop O 0 c _).trans (if_pos ht)
      have h1 : (dats 0 c).Φ t.succ = stop c := (talk_inv cfgs hW start stop O 0 c _).trans (if_neg (Nat.succ_ne_zero _))
      have o0 : (dats 0 c).owed t.castSucc = O c := (talk_owed cfgs hW start stop O 0 c _).trans (if_pos ht)
      have o1 : (dats 0 c).owed t.succ = 0 := (talk_owed cfgs hW start stop O 0 c _).trans (if_neg (Nat.succ_ne_zero _))
      rw [h0, h1]
      unfold Dat.owesAt Pipeline.owesWithin
      rw [o0, o1]
      simp only [Finset.univ_eq_empty, BI.bigSep_empty]
      iintro ⟨HS, ⟨%W, -, HO⟩, -⟩
      ihave H := (hbody c t W) $$ [HS HO]
      · isplitl [HS] <;> iassumption
      iapply (wp_mono frame (wpE defs₀ Variants.none (c.tc : Thread nD τ) none) Set.univ ?_) $$ H
      intro _
      iintro ⟨HT, ⟨%W', HO⟩⟩
      isplitl [HT]; · iexact HT
      isplitl [HO]
      · iexists W'
        isplitr; · ipureintro; exact fun x _ => Or.inl trivial
        iexact HO
      · iempintro
    simp only [pre]
    rw [hmain c]
    iintro ⟨⟨Hsc, Hcells, Hidle⟩, HO, #Hla, Hcr, Hg, Ht, HS⟩
    iapply (fupd_wp frame (wpE _ _ (c.tc : Thread nD τ) none) Set.univ _ _)
    imod (Pipeline.cellsInit_alloc cfgs dats EP hinj 0 c) $$ [Hcells Hg] with ⟨%κ, -, Hinit⟩
    · isplitl [Hcells] <;> iassumption
    imodintro
    iapply (Pipeline.wp_customCall_entry_frame (fun q => (cfgs q).toPCfg) (fun q => (cfgs q).toPCfg_adm) dats () EP κ hinj 0 defs₀ Variants.none (fun _ => fullShare) c Set.univ
        (fun _ _ => Set.mem_univ _) hob (fun w => isEmptyElim w) none (fun u h => nomatch h) (X := start c) (Y := Y c) (R := BI.emp)
        (I := Pipeline.idleSems0 cfgs hinj 0 ho c) (Entails.of_eq ((hsb c).trans (by rw [hrest]))) hin hout
        (k := fun _ => .ret ⟨⟩) (Q := fun _ => post (liftTc fin BI.emp) (c.tc : Thread nD τ))) $$ [HO Hinit Ht HS Hcr Hidle Hsc]
    · isplitl [HO Hinit Ht]
      · unfold Pipeline.EntryPre Pipeline.PerCore.EntryPre Dat.owesAt Pipeline.owesWithin
        rw [show (dats 0 c).owed 0 = O c from (talk_owed cfgs hW start stop O 0 c _).trans (if_pos (Fin.val_zero _))]
        isplitr
        · unfold Dat.arrays
          simp only [Finset.univ_eq_empty, BI.bigSep_empty]
          iempintro
        isplitl [HO]
        · iexists ∅; isplitr; · ipureintro; rw [Finset.coe_empty]; exact Set.empty_subset _
          iexact HO
        isplitr
        · iapply (Pipeline.cellsWaits_intro cfgs dats () 0 c (R := (levAts L lv : sProp 𝕄)) fun w => isEmptyElim w)
          iexact Hla
        isplitl [Hinit] <;> iassumption
      isplitr
      · unfold Pipeline.prefHeld
        iempintro
      isplitl [HS Hcr]
      · isplitr; · iexact Hla
        isplitl [Hcr] <;> iassumption
      isplitl [Hidle] <;> iassumption
    · iintro ⟨Hpost, HY, Hss, -⟩
      rw [wp_ret]; imodintro
      unfold post; simp only [liftTc_tc, fin]
      unfold Pipeline.EntryPost Pipeline.PerCore.EntryPost Dat.owesAt Pipeline.owesWithin
      rw [show (dats 0 c).owed (Fin.last (cfgs 0).N) = 0 from
        (talk_owed cfgs hW start stop O 0 c _).trans (if_neg (by rw [Fin.val_last, hN]; exact Nat.one_ne_zero))]
      icases Hpost with ⟨-, ⟨%W, -, HW⟩⟩
      isplitr [HW]
      · isplitl [HY] <;> iassumption
      · iexists W; iexact HW
  · have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hread c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Run

end Cert.Exchange

end
-- ==== Proof.Exchange.lean ====
/-
  One exchange among devices: transfers of one size, each of which completes two counters.

  Device `c` starts `n` remote transfers and `l` copies of its own. Remote transfer `i` goes to device `peer i c`; when the
  source has been read, cell `send i` of `c` is credited, and when the data has landed, cell `recv i` of `peer i c`. A copy
  of its own credits cell `here i`. Every cell is credited once and awaited once. What a device gets back at a wait is
  written `pay c k`: the landed slice at a receive cell, the lent source at a send cell, both at a copy's own cell.

  `Plan` collects these data, `sched` is the schedule they define, `records` what every device knows, `right` what
  entitles a device to start a transfer, `fresh`/`spent` its place at a cell before and after the wait. The rules
  `wp_put`, `wp_local` and `wp_take` are the three steps a body makes, `close_cells` returns the counters at zero, and
  `run_exchange` is the launch.
-/
module

public import proofs.«01_k».proof.Proof.Launch

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose cellOf)

variable {nD : Nat} {τ : Topo} {sig : RefSig} {Val : EltTy → Type}

local notation "𝕄" => MT nD τ sig Unit Val ℕ (UU nD τ sig) ℕ

/-- The cells of a device: `n` send cells, `n` receive cells, `l` cells of its own copies. -/
abbrev Cells (n l : ℕ) : Type := Fin n ⊕ Fin n ⊕ Fin l

/-- One thing for each cell: for the send cells, the receive cells and the cells of the copies. -/
theorem bigSep_cells {n l : ℕ} (Φ : Cells n l → sProp (MT nD τ sig Unit Val ℕ (UU nD τ sig) ℕ)) :
    bigSep Finset.univ Φ = iprop((bigSep Finset.univ fun i => Φ (.inl i)) ∗ (bigSep Finset.univ fun i => Φ (.inr (.inl i)))
      ∗ bigSep Finset.univ fun j => Φ (.inr (.inr j))) := by
  rw [BI.bigSep_univ_sum, BI.bigSep_univ_sum]; rfl

/-- The data of an exchange. `lvl` orders the receive cells: a device may wait at a cell while it still owes only
    transfers to cells of higher level. -/
structure Plan (nD : Nat) (τ : Topo) (sig : RefSig) (Val : EltTy → Type) (n l : ℕ) where
  sem : Cells n l → SemLoc sig
  sem_inj : Function.Injective sem
  peer : Fin n → Equiv.Perm (Dev nD)
  size : ℕ
  size_pos : 0 < size
  lvl : Cells n l → ℕ
  pay : Dev nD → Cells n l → sProp (MT nD τ sig Unit Val ℕ (UU nD τ sig) ℕ)
  pay_storable : ∀ c k, Storable (upEmb : UEmb _ (MT nD τ sig Unit Val ℕ (UU nD τ sig) ℕ)) (pay c k)

namespace Plan

variable {n l : ℕ} (P : Plan nD τ sig Val n l)

/-- The cell `k` of device `c`. -/
abbrev cell (c : Dev nD) (k : Cells n l) : GSem nD τ sig := ((c.tc : Thread nD τ), P.sem k)

/-- Which of the exchange's cells a semaphore is, if any. -/
def which (s : SemLoc sig) : Option (Cells n l) := by
  classical exact if h : ∃ k, P.sem k = s then some h.choose else none

theorem which_sem (k : Cells n l) : P.which (P.sem k) = some k := by
  have h : ∃ k', P.sem k' = P.sem k := ⟨k, rfl⟩
  unfold which; rw [dif_pos h]; exact congrArg some (P.sem_inj h.choose_spec)

/-- What a credited cell hands its owner. -/
def payload (g : GSem nD τ sig) : sProp 𝕄 :=
  match P.which g.2 with
  | some k => P.pay g.1.1 k
  | none => iprop(emp)

theorem payload_cell (c : Dev nD) (k : Cells n l) : P.payload (P.cell c k) = P.pay c k := by
  unfold payload; rw [P.which_sem]

/-- One round of one duty at every cell. -/
def sched : Schedule (GSem nD τ sig) Unit 𝕄 where
  duties := fun _ r => if r = 0 then {()} else ∅
  amount := fun _ _ _ => P.size
  payload := fun g _ _ => P.payload g
  amount_pos := fun _ _ _ _ => P.size_pos

instance sched_storable (g : GSem nD τ sig) (r : ℕ) (d : Unit) :
    Storable (upEmb : UEmb _ 𝕄) (P.sched.payload g r d) := by
  show Storable _ (P.payload g)
  unfold payload; split
  · exact P.pay_storable _ _
  · infer_instance

theorem duty_mem (g : GSem nD τ sig) : () ∈ P.sched.duties g 0 := Finset.mem_singleton_self ()
theorem duties_zero (g : GSem nD τ sig) : P.sched.duties g 0 = {()} := rfl
theorem expect_zero (g : GSem nD τ sig) : 0 + P.size = P.sched.expect g 0 := by
  unfold Schedule.expect Schedule.amountOf; rw [duties_zero, Finset.sum_singleton, Nat.zero_add]; rfl

theorem payload_at (c : Dev nD) (k : Cells n l) :
    P.sched.payload ((c.tc : Thread nD τ), P.sem k) 0 () = P.pay c k := P.payload_cell c k

/-! ## What is owed -/

/-- What device `c` owes for the transfers in `s`: one amount to each target's receive cell. -/
def owed (c : Dev nD) (s : Finset (Fin n)) : CellTallies nD τ sig Unit :=
  ∑ i ∈ s, tallyAt (P.cell (P.peer i c) (.inr (.inl i))) () P.size

theorem owed_erase (c : Dev nD) {s : Finset (Fin n)} {i : Fin n} (hi : i ∈ s) :
    P.owed c s = P.owed c (s.erase i) + tallyAt (P.cell (P.peer i c) (.inr (.inl i))) () P.size :=
  (Finset.sum_erase_add s _ hi).symm

/-- `c` owes the transfers in `s`. -/
def owe (c : Dev nD) (s : Finset (Fin n)) : sProp 𝕄 := iprop(∃ W, owes (c.tc : Thread nD τ) (P.owed c s) W)

/-- The levels: the unit index at every cell of a TensorCore, in the plan's order. -/
def levIx (g : GSem nD τ sig) : Finset Unit := if g.1.2 = .tc then {()} else ∅
def lev (g : GSem nD τ sig) (_ : Unit) : ℕ := (P.which g.2).elim 0 P.lvl

theorem levIx_tc (c : Dev nD) (s : SemLoc sig) : () ∈ levIx ((c.tc : Thread nD τ), s) := by
  unfold levIx; rw [if_pos rfl]; exact Finset.mem_singleton_self ()

theorem levIx_of_ne (g : GSem nD τ sig) (h : g.1.2 ≠ .tc) : levIx g = ∅ := if_neg h

theorem mayWait (c : Dev nD) (k : Cells n l) (s : Finset (Fin n)) (h : ∀ i ∈ s, P.lvl k < P.lvl (.inr (.inl i))) :
    (levAts levIx P.lev : sProp 𝕄) ⊢ MayWait (c.tc : Thread nD τ) (P.sem k) () (P.owed c s) := by
  refine Pipeline.mayWait_of_levAts (levIx_tc c _) fun g i hg => ?_
  obtain ⟨j, hj, hpos⟩ := Pipeline.sum_pos_exists hg
  have hgc := (Pipeline.tallyAt_pos hpos).1
  subst hgc
  refine ⟨levIx_tc _ _, ?_⟩
  show (P.which (P.sem k)).elim 0 P.lvl < (P.which (P.sem (.inr (.inl j)))).elim 0 P.lvl
  rw [P.which_sem, P.which_sem]; exact h j hj

/-! ## What the devices hold -/

/-- What everybody knows: every cell's invariant, under the names `κ`, that every cell has reached its round, and the
    levels. -/
def records (κ : Dev nD × Cells n l → ℕ) : sProp 𝕄 :=
  iprop(((bigSep Finset.univ fun ck => cellInv EX P.sched (κ ck) (P.cell ck.1 ck.2))
    ∗ bigSep Finset.univ fun ck : Dev nD × Cells n l => reached EX (P.cell ck.1 ck.2) 0) ∗ levAts levIx P.lev)

instance records_persistent (κ : Dev nD × Cells n l → ℕ) : Persistent (P.records κ) := by
  unfold records; infer_instance

/-- A cell not yet awaited, and awaited. -/
def fresh (c : Dev nD) (k : Cells n l) : sProp 𝕄 := atPos EX (P.cell c k) 0 ∅ 0
def spent (c : Dev nD) (k : Cells n l) : sProp 𝕄 := atPos EX (P.cell c k) 1 ∅ 0
/-- The claim to a cell's credit: it is coming. -/
def coming (c : Dev nD) (k : Cells n l) : sProp 𝕄 := cred (tallyAt (P.cell c k) () P.size)
/-- The right to start remote transfer `i`, and copy `j`. -/
def right (c : Dev nD) (i : Fin n) : sProp 𝕄 :=
  iprop(dutyTok EX (P.cell c (.inl i)) 0 () ∗ dutyTok EX (P.cell (P.peer i c) (.inr (.inl i))) 0 ())
def rightHere (c : Dev nD) (j : Fin l) : sProp 𝕄 := dutyTok EX (P.cell c (.inr (.inr j))) 0 ()

theorem records_inv (κ : Dev nD × Cells n l → ℕ) (c : Dev nD) (k : Cells n l) :
    P.records κ ⊢ cellInv EX P.sched (κ (c, k)) (P.cell c k) :=
  sep_elim_left.trans (sep_elim_left.trans (bigSep_elim (Finset.mem_univ (c, k))))

theorem records_reached (κ : Dev nD × Cells n l → ℕ) (c : Dev nD) (k : Cells n l) :
    P.records κ ⊢ reached EX (P.cell c k) 0 :=
  sep_elim_left.trans (sep_elim_right.trans (bigSep_elim (Finset.mem_univ (c, k))))

theorem records_lev (κ : Dev nD × Cells n l → ℕ) : P.records κ ⊢ levAts levIx P.lev := sep_elim_right

/-! ## The steps of a body -/

section Steps

variable {Λ : Labels} [∀ e, Nonempty (Val e)] {defs : Defs nD τ sig Val Λ} (𝒱 : Variants) (bd : Option 𝒱.V)
variable {α : Type} {Q : α → sProp (MT nD τ sig Unit Val ℕ (UU nD τ sig) ℕ)} {sp sp' : Space} {s : Shape} {e : EltTy}

/-- Start remote transfer `i`: the source's share and the target's slice go, the claim to the send cell comes. -/
theorem wp_put (κ : Dev nD × Cells n l → ℕ) (c d : Dev nD) (i : Fin n) (S : Finset (Fin n)) (hi : i ∈ S) (hd : d = P.peer i c)
    {src : Memref sig (c.tc : Thread nD τ).2.kind sp s e} {dst : Memref sig (d.tc : Thread nD τ).2.kind sp' s e}
    {hsc : dst.view.ref.isScScratch = false} {sS sR : SemLoc sig} (hS : sS = P.sem (.inl i)) (hR : sR = P.sem (.inr (.inl i)))
    {hsrc : src.view.WordExact} {hdst : dst.view.WordExact} {hsem : DmaTarget.Typed sp sR (.remote (d.tc : Thread nD τ) dst sS hsc)}
    {k : PUnit → Prog (TpuEff nD τ sig Val Λ (c.tc : Thread nD τ).2) α} {q : PosShare TreeShare}
    {fs : Buf Val (src.view.loc (c.tc : Thread nD τ))} {fd : Buf Val (dst.view.loc (d.tc : Thread nD τ))}
    (hN : dst.view.amount sR = P.size)
    (hp₁ : (src.view.loc (c.tc : Thread nD τ) ↦[src.view.set]{q} fs) ⊢ P.pay c (.inl i))
    (hp₂ : (dst.view.loc (d.tc : Thread nD τ) ↦[dst.view.set]{fullShare} (dst.view.write Val fd (src.view.read Val fs) Finset.univ))
      ⊢ P.pay d (.inr (.inl i))) (hr : τ.routes (c.tc : Thread nD τ) (d.tc : Thread nD τ) = true := by routes) :
    iprop(P.records κ ∗ (src.view.loc (c.tc : Thread nD τ) ↦[src.view.set]{q} fs)
        ∗ (dst.view.loc (d.tc : Thread nD τ) ↦[dst.view.set]{fullShare} fd) ∗ P.owe c S ∗ P.right c i)
      ⊢ iprop(((P.coming c (.inl i) ∗ P.owe c (S.erase i)) -∗ wp frame (wpE' defs 𝒱 (c.tc : Thread nD τ) bd ∅) Set.univ (k ⟨⟩) Q)
          -∗ wp frame (wpE' defs 𝒱 (c.tc : Thread nD τ) bd ∅) Set.univ
              (.op (.enqueueDma src (.remote (d.tc : Thread nD τ) dst sS hsc) sR hsrc hdst hsem) k) Q) := by
  subst hd; subst hS; subst hR
  unfold owe right coming
  iintro ⟨#HR, Hs, Hd, ⟨%W, HO⟩, Ht, Hu⟩ Hk
  iapply (wp_send_pointsTo 𝒱 EX P.sched (c.tc : Thread nD τ) bd (κ₁ := κ (c, .inl i)) (κ₂ := κ (P.peer i c, .inr (.inl i)))
    (P.duty_mem _) (P.duty_mem _) () () P.size hN rfl rfl (P.owed c (S.erase i)) (P.owed_erase c hi)
    (hp₁.trans (Entails.of_eq (P.payload_cell c (.inl i)).symm))
    (hp₂.trans (Entails.of_eq (P.payload_cell (P.peer i c) (.inr (.inl i))).symm)) (hr := hr)) $$ [Hs Hd HO Ht Hu] [Hk]
  · isplitr; · iapply (P.records_inv κ c (.inl i)); iexact HR
    isplitr; · iapply (P.records_inv κ (P.peer i c) (.inr (.inl i))); iexact HR
    isplitl [Hs]; · iexact Hs
    isplitl [Hd]; · iexact Hd
    isplitl [HO]; · iexact HO
    isplitl [Ht]; · iexact Ht
    isplitr; · iapply (P.records_reached κ c (.inl i)); iexact HR
    isplitl [Hu]; · iexact Hu
    iapply (P.records_reached κ (P.peer i c) (.inr (.inl i))); iexact HR
  · iintro ⟨Hc, HO⟩
    iapply Hk $$ [Hc HO]
    isplitl [Hc]; · iexact Hc
    iexists W; iexact HO

/-- Start copy `j` of the device's own. -/
theorem wp_local (κ : Dev nD × Cells n l → ℕ) (c : Dev nD) (j : Fin l)
    {src : Memref sig (c.tc : Thread nD τ).2.kind sp s e} {dst : Memref sig (c.tc : Thread nD τ).2.kind sp' s e}
    {sR : SemLoc sig} (hR : sR = P.sem (.inr (.inr j)))
    {hsrc : src.view.WordExact} {hdst : dst.view.WordExact} {hsem : DmaTarget.Typed (nD := nD) sp sR (.here dst)}
    {k : PUnit → Prog (TpuEff nD τ sig Val Λ (c.tc : Thread nD τ).2) α} {q : PosShare TreeShare}
    {fs : Buf Val (src.view.loc (c.tc : Thread nD τ))} {fd : Buf Val (dst.view.loc (c.tc : Thread nD τ))}
    (hN : dst.view.amount sR = P.size)
    (hp : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c (.inr (.inr j))) :
    iprop(P.records κ ∗ (src.view.loc (c.tc : Thread nD τ) ↦[src.view.set]{q} fs)
        ∗ (dst.view.loc (c.tc : Thread nD τ) ↦[dst.view.set]{fullShare} fd) ∗ P.rightHere c j)
      ⊢ iprop((P.coming c (.inr (.inr j)) -∗ wp frame (wpE' defs 𝒱 (c.tc : Thread nD τ) bd ∅) Set.univ (k ⟨⟩) Q)
          -∗ wp frame (wpE' defs 𝒱 (c.tc : Thread nD τ) bd ∅) Set.univ
              (.op (.enqueueDma src (.here dst) sR hsrc hdst hsem) k) Q) := by
  subst hR
  unfold rightHere coming
  iintro ⟨#HR, Hs, Hd, Ht⟩ Hk
  iapply (wp_copy_pointsTo 𝒱 EX P.sched (c.tc : Thread nD τ) bd (κ := κ (c, .inr (.inr j)))
    (P.duty_mem _) () P.size hN rfl (hp.trans (Entails.of_eq (P.payload_cell c (.inr (.inr j))).symm))) $$ [Hs Hd Ht] [Hk]
  · isplitr; · iapply (P.records_inv κ c (.inr (.inr j))); iexact HR
    isplitl [Hs]; · iexact Hs
    isplitl [Hd]; · iexact Hd
    isplitl [Ht]; · iexact Ht
    iapply (P.records_reached κ c (.inr (.inr j))); iexact HR
  · iexact Hk

/-- Wait at cell `k`, which hands over what the credit brought. -/
theorem wp_take (κ : Dev nD × Cells n l → ℕ) (c : Dev nD) (k : Cells n l) (S : Finset (Fin n))
    (hl : ∀ i ∈ S, P.lvl k < P.lvl (.inr (.inl i)))
    {sm : DmaSem sig} (hm : SemLoc.dma sm = P.sem k) {κ' : Kind} {src : Memref sig (c.tc : Thread nD τ).2.kind sp' s e}
    {s' : Shape} {e' : EltTy} {dst : Memref sig κ' sp s' e'}
    {hsrc : src.view.WordExact} {hdst : dst.view.WordExact}
    {f : PUnit → Prog (TpuEff nD τ sig Val Λ (c.tc : Thread nD τ).2) α} (hN : dst.view.dmaCredit = P.size) :
    iprop(P.records κ ∗ P.coming c k ∗ P.owe c S ∗ P.fresh c k)
      ⊢ iprop(((P.owe c S ∗ P.spent c k ∗ P.pay c k) -∗ wp frame (wpE' defs 𝒱 (c.tc : Thread nD τ) bd ∅) Set.univ (f ⟨⟩) Q)
          -∗ wp frame (wpE' defs 𝒱 (c.tc : Thread nD τ) bd ∅) Set.univ (.op (.waitDma2 sm src dst hsrc hdst) f) Q) := by
  unfold owe coming fresh spent
  iintro ⟨#HR, Hc, ⟨%W, HO⟩, Hf⟩ Hk
  iapply (wp_wait_rest_token 𝒱 EX P.sched (c.tc : Thread nD τ) bd (κ := κ (c, k)) (sm := P.sem k) (k' := P.size)
    (fun K => by rw [← hm, ← hN]; exact wpE_waitDma2_eq 𝒱 (c.tc : Thread nD τ) bd Set.univ K) (Set.mem_univ _) ()
    (O := P.owed c S) (W := W) (R := 0) (m := 0) (T := ∅) (P.expect_zero _)) $$ [Hc HO Hf] [Hk]
  · isplitr; · iapply (P.records_inv κ c k); iexact HR
    isplitl [Hc]; · iexact Hc
    isplitl [HO]; · iexact HO
    isplitr; · iapply (P.mayWait c k S hl); iapply (P.records_lev κ); iexact HR
    iexact Hf
  · iintro ⟨HO, Hp, -, Hpay⟩
    iapply Hk $$ [HO Hp Hpay]
    isplitl [HO]; · iexists _; iexact HO
    isplitl [Hp]; · iexact Hp
    have e : (bigSep (P.sched.duties (P.cell c k) 0 \ ∅) fun d => (P.sched.payload (P.cell c k) 0 d : sProp 𝕄)) = P.pay c k := by
      rw [P.duties_zero, Finset.sdiff_empty, bigSep_singleton]; exact P.payload_cell c k
    iapply (Entails.of_eq e); iexact Hpay

end Steps

/-- Every cell awaited: the counters are zero. -/
theorem close_cells (κ : Dev nD × Cells n l → ℕ) (c : Dev nD) :
    iprop(P.records κ ∗ bigSep Finset.univ fun k => P.spent c k) ⊢ |={Set.univ}=> Pipeline.ownSems0 P.sem c := by
  have h1 (k : Cells n l) : iprop(P.records κ ∗ P.spent c k) ⊢ |={Set.univ}=> semVal (P.cell c k) 0 := by
    refine (sep_mono_left (P.records_inv κ c k)).trans ?_
    exact cell_close EX P.sched (Set.mem_univ _) (fun h => h) fun r hr => if_neg (by omega)
  have h2 : iprop(P.records κ ∗ bigSep Finset.univ fun k => P.spent c k)
      ⊢ bigSep Finset.univ fun k => iprop(|={Set.univ}=> semVal (P.cell c k) 0) := by
    refine (sep_mono_left (BI.bigSep_of_persistent (Finset.univ : Finset (Cells n l)) (P.records κ))).trans ?_
    rw [← bigSep_sep']
    exact bigSep_mono fun k _ => h1 k
  exact h2.trans (bigSep_fupd _ _)

/-- The end of a body: every cell awaited, nothing owed. -/
theorem wp_done {Λ : Labels} [∀ e, Nonempty (Val e)] {defs : Defs nD τ sig Val Λ} (𝒱 : Variants) (bd : Option 𝒱.V)
    (κ : Dev nD × Cells n l → ℕ) (c : Dev nD) (Y : sProp 𝕄) :
    iprop(P.records κ ∗ Y ∗ (bigSep Finset.univ fun k => P.spent c k) ∗ P.owe c ∅)
      ⊢ wp frame (wpE' defs 𝒱 (c.tc : Thread nD τ) bd ∅) Set.univ (.ret PUnit.unit)
          fun _ => iprop((Y ∗ Pipeline.ownSems0 P.sem c) ∗ ∃ W', owes (c.tc : Thread nD τ) 0 W') := by
  iintro ⟨#HR, HY, Hs, HO⟩
  rw [wp_ret]
  imod (P.close_cells κ c) $$ [Hs] with H
  · isplitr; · iexact HR
    iexact Hs
  imodintro
  isplitl [HY H]
  · isplitl [HY]; · iexact HY
    iexact H
  · unfold owe
    icases HO with ⟨%W, HO⟩
    iexists W; iexact HO

/-! ## The launch -/

/-- What a device's body starts from, besides its arrays. -/
def start (c : Dev nD) : sProp 𝕄 :=
  iprop((bigSep Finset.univ fun k => P.fresh c k) ∗ (bigSep Finset.univ fun i => P.right c i)
    ∗ bigSep Finset.univ fun j => P.rightHere c j)

/-- The claims to the credits of the receive cells. -/
def claims (c : Dev nD) : sProp 𝕄 := bigSep Finset.univ fun i : Fin n => P.coming c (.inr (.inl i))

/-- The credit of the launch is the claims. -/
theorem launch_claims (c : Dev nD) : (Pipeline.launchCred (fun d => P.owed d Finset.univ) c : sProp 𝕄) ⊢ P.claims c := by
  unfold owed claims coming
  rw [Pipeline.launchCred_sum]
  exact bigSep_mono fun i _ => Pipeline.launchCred_tallyAt _ (P.peer i) (P.peer i).symm (fun d => (P.peer i).apply_symm_apply d)
    (fun d => (P.peer i).symm_apply_apply d) () P.size c

section Run

variable {Λ₀ : Labels} [∀ e, Nonempty (Val e)] (cfgs : Fin 1 → Cfg sig Λ₀) (ho : Pipeline.OwnSemFacts (cfgs 0).spec P.sem)

/-- The duties a device's cells have: one each. -/
def duties (_ : Dev nD) : Finset (Cells n l × ℕ × Unit) :=
  Finset.univ.map ⟨fun k => (k, 0, ()), fun _ _ h => (Prod.mk.inj h).1⟩

/-- The launch element: every cell's round, and every duty. -/
def seed : UR nD τ sig := initOf (Pipeline.ownCells cfgs 0 ho) (Pipeline.ownToksOf cfgs 0 ho duties)

/-- What the launch deals a device: its cells' rounds and the duties of its own cells. -/
def dealt (c : Dev nD) : sProp 𝕄 :=
  iprop(Pipeline.ownGhost cfgs 0 ho EX P.sched c ∗ bigSep Finset.univ fun k => dutyTok EX (P.cell c k) 0 ())

theorem fund_dealt : BI.own (EX (P.seed cfgs ho)) ⊢ (|={Set.univ}=> bigSep Finset.univ (P.dealt cfgs ho) : sProp 𝕄) := by
  have e : (bigSep (Pipeline.ownToksOf cfgs 0 ho duties) fun x => (dutyTok EX x.1 x.2.1 x.2.2 : sProp 𝕄))
      = bigSep Finset.univ fun c : Dev nD => bigSep Finset.univ fun k => dutyTok EX (P.cell c k) 0 () := by
    rw [Pipeline.bigSep_ownToksOf cfgs 0 ho EX duties]
    congr 1; funext c; unfold duties; rw [bigSep_map]; rfl
  unfold seed
  iintro H
  imod (Pipeline.fund_own cfgs 0 ho EX P.sched (Pipeline.ownToksOf cfgs 0 ho duties)) $$ H with ⟨Hg, Ht⟩
  imodintro
  unfold dealt
  rw [bigSep_sep', ← e]
  isplitl [Hg]; · iexact Hg
  iexact Ht

/-- All devices' duties, dealt to the devices that pay them. -/
theorem deal_rights :
    (bigSep Finset.univ fun c : Dev nD => bigSep Finset.univ fun k => (dutyTok EX (P.cell c k) 0 () : sProp 𝕄))
      ⊢ bigSep Finset.univ fun c : Dev nD => iprop((bigSep Finset.univ fun i => P.right c i) ∗ bigSep Finset.univ fun j => P.rightHere c j) := by
  have e1 (c : Dev nD) : (bigSep Finset.univ fun k => (dutyTok EX (P.cell c k) 0 () : sProp 𝕄))
      = iprop((bigSep Finset.univ fun i => dutyTok EX (P.cell c (.inl i)) 0 ())
          ∗ (bigSep Finset.univ fun i => dutyTok EX (P.cell c (.inr (.inl i))) 0 ())
          ∗ bigSep Finset.univ fun j => P.rightHere c j) := by
    rw [BI.bigSep_univ_sum, BI.bigSep_univ_sum]; rfl
  have e2 : (bigSep Finset.univ fun c : Dev nD => bigSep Finset.univ fun i => (dutyTok EX (P.cell c (.inr (.inl i))) 0 () : sProp 𝕄))
      = bigSep Finset.univ fun c : Dev nD => bigSep Finset.univ fun i => dutyTok EX (P.cell (P.peer i c) (.inr (.inl i))) 0 () := by
    rw [BI.bigSep_univ_comm]
    conv_rhs => rw [BI.bigSep_univ_comm]
    congr 1; funext i
    exact BI.bigSep_univ_equiv (P.peer i) _
  have e3 : (bigSep Finset.univ fun c : Dev nD => iprop((bigSep Finset.univ fun i => P.right c i) ∗ bigSep Finset.univ fun j => P.rightHere c j))
      = iprop(((bigSep Finset.univ fun c : Dev nD => bigSep Finset.univ fun i => (dutyTok EX (P.cell c (.inl i)) 0 () : sProp 𝕄))
          ∗ bigSep Finset.univ fun c : Dev nD => bigSep Finset.univ fun i => dutyTok EX (P.cell (P.peer i c) (.inr (.inl i))) 0 ())
        ∗ bigSep Finset.univ fun c : Dev nD => bigSep Finset.univ fun j => P.rightHere c j) := by
    unfold right; simp only [bigSep_sep']
  rw [e3, ← e2]
  simp only [e1, bigSep_sep']
  exact sep_assoc.2

/-- One device opens its cells. -/
theorem open_cells (c : Dev nD) (R : sProp 𝕄) :
    iprop(Pipeline.ownSems0 P.sem c ∗ R ∗ P.dealt cfgs ho c)
      ⊢ |={Set.univ}=> ((bigSep Finset.univ fun k => iprop(∃ ν : ℕ, cellInv EX P.sched ν (P.cell c k)))
        ∗ (bigSep Finset.univ fun k => reached EX (P.cell c k) 0) ∗ (bigSep Finset.univ fun k => P.fresh c k)
        ∗ (bigSep Finset.univ fun k => dutyTok EX (P.cell c k) 0 ()) ∗ R) := by
  have e : Pipeline.ownGhost cfgs 0 ho EX P.sched c
      = iprop((bigSep Finset.univ fun k => roundState EX P.sched (P.cell c k) 0)
          ∗ (bigSep Finset.univ fun k => P.fresh c k) ∗ bigSep Finset.univ fun k => reached EX (P.cell c k) 0) := by
    rw [Pipeline.ownGhost_eq, bigSep_sep']; rfl
  unfold dealt
  iintro ⟨Hs, HR, Hg, Ht⟩
  ihave Hg' := (Entails.of_eq e) $$ Hg
  icases Hg' with ⟨Hst, Hf, Hr⟩
  imod (Pipeline.ownCells_alloc cfgs 0 ho EX P.sched c (E := Set.univ)) $$ [Hs Hst] with Hi
  · isplitl [Hs]; · iexact Hs
    iexact Hst
  imodintro
  isplitl [Hi]; · iexact Hi
  isplitl [Hr]; · iexact Hr
  isplitl [Hf]; · iexact Hf
  isplitl [Ht]; · iexact Ht
  iexact HR

/-- The global step of the launch: the cells' invariants are opened, everybody learns them, the duties and the arrays
    are dealt. -/
theorem deal (V B : Dev nD → sProp 𝕄) (hbuf : bigSep Finset.univ V ⊢ bigSep Finset.univ B) :
    bigSep Finset.univ (fun c => iprop(Pipeline.ownSems0 P.sem c ∗ V c ∗ P.dealt cfgs ho c))
      ⊢ |={Set.univ}=> bigSep Finset.univ fun c => iprop(∃ κ : Dev nD × Cells n l → ℕ,
          ((bigSep Finset.univ fun ck => cellInv EX P.sched (κ ck) (P.cell ck.1 ck.2))
            ∗ bigSep Finset.univ fun ck : Dev nD × Cells n l => reached EX (P.cell ck.1 ck.2) 0) ∗ P.start c ∗ B c) := by
  refine ((bigSep_mono fun c _ => P.open_cells cfgs ho c (V c)).trans (bigSep_fupd _ _)).trans
    (show (_ : sProp 𝕄) ⊢ (_ : sProp 𝕄) from BI.fupd_mono ?_)
  show (_ : sProp 𝕄) ⊢ (_ : sProp 𝕄)
  simp only [bigSep_sep']
  have eI : (bigSep Finset.univ fun c : Dev nD => bigSep Finset.univ fun k => iprop(∃ ν : ℕ, cellInv EX P.sched ν (P.cell c k)))
      ⊢ (iprop(∃ κ : Dev nD × Cells n l → ℕ, bigSep Finset.univ fun ck => cellInv EX P.sched (κ ck) (P.cell ck.1 ck.2)) : sProp 𝕄) := by
    have h1 := bigSep_univ_prod (fun ck : Dev nD × Cells n l => (iprop(∃ ν : ℕ, cellInv EX P.sched ν (P.cell ck.1 ck.2)) : sProp 𝕄))
    have h2 := BI.bigSep_exists_pi (Y := fun _ => ℕ) (Finset.univ : Finset (Dev nD × Cells n l))
      (fun ck ν => (cellInv EX P.sched ν (P.cell ck.1 ck.2) : sProp 𝕄))
    exact (Entails.of_eq h1.symm).trans h2
  have eR : (bigSep Finset.univ fun c : Dev nD => bigSep Finset.univ fun k => (reached EX (P.cell c k) 0 : sProp 𝕄))
      ⊢ bigSep Finset.univ fun ck : Dev nD × Cells n l => reached EX (P.cell ck.1 ck.2) 0 :=
    Entails.of_eq (bigSep_univ_prod (fun ck : Dev nD × Cells n l => (reached EX (P.cell ck.1 ck.2) 0 : sProp 𝕄))).symm
  iintro ⟨Hi, Hr, Hf, Ht, HV⟩
  ihave Hi' := eI $$ Hi
  icases Hi' with ⟨%κ, #HI⟩
  ihave Hr' := eR $$ Hr
  icases Hr' with #HR
  ihave Ht' := P.deal_rights $$ Ht
  ihave HB := hbuf $$ HV
  have hall : iprop((((bigSep Finset.univ fun ck => cellInv EX P.sched (κ ck) (P.cell ck.1 ck.2))
            ∗ bigSep Finset.univ fun ck : Dev nD × Cells n l => reached EX (P.cell ck.1 ck.2) 0))
        ∗ (bigSep Finset.univ fun c : Dev nD => iprop(P.start c ∗ B c)))
      ⊢ bigSep Finset.univ fun c => iprop(∃ κ : Dev nD × Cells n l → ℕ,
          ((bigSep Finset.univ fun ck => cellInv EX P.sched (κ ck) (P.cell ck.1 ck.2))
            ∗ bigSep Finset.univ fun ck : Dev nD × Cells n l => reached EX (P.cell ck.1 ck.2) 0) ∗ P.start c ∗ B c) := by
    refine (sep_mono_left (BI.bigSep_of_persistent (Finset.univ : Finset (Dev nD)) _)).trans ?_
    rw [← bigSep_sep']
    refine bigSep_mono fun c _ => ?_
    show (_ : sProp 𝕄) ⊢ (_ : sProp 𝕄)
    iintro H
    iexists κ
    iexact H
  iapply hall
  isplitr
  · isplitr; · iexact HI
    iexact HR
  · unfold start
    simp only [bigSep_sep']
    isplitl [Hf Ht']
    · isplitl [Hf]; · iexact Hf
      iexact Ht'
    · iexact HB

include ho in
/-- The run of the exchange: from the arrays dealt as `B`, every device's body reaches `Y`, with every cell awaited. -/
theorem run_exchange (hN : (cfgs 0).N = 1) (hW : ∀ p, (cfgs p).W = 0)
    (hinj : Function.Injective (cellOf (nD := nD) (τ := τ) cfgs)) (hw : Pipeline.WinFacts (cfgs 0).spec)
    (defs₀ : Defs nD τ sig Val Λ₀) (m : (ℓ : Loc nD τ sig) → Buf Val ℓ) (ρ : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (hrest : ∀ c : Dev nD, (Pipeline.scopedRest (Ix := Unit) (Name := ℕ) (U := UU nD τ sig) (Lvl := ℕ) (Val := Val) (τ := τ) (cfgs 0).spec c : sProp 𝕄) = BI.emp)
    (B Y : Dev nD → sProp 𝕄)
    (hbuf : bigSep Finset.univ (fun c => Pipeline.unscopedRest (cfgs 0).spec c (fun b => m ((c.tc : Thread nD τ).loc b))) ⊢ bigSep Finset.univ B)
    (hbody : ∀ (κ : Dev nD × Cells n l → ℕ) (c : Dev nD) (t : Fin (cfgs 0).N),
      iprop(P.records κ ∗ P.start c ∗ P.claims c ∗ P.owe c Finset.univ ∗ B c)
        ⊢ wp frame (wpE defs₀ Variants.none (c.tc : Thread nD τ) none) Set.univ
            (defs₀ .tc (cfgs 0).body ((cfgs 0).bodyArgs t ((cfgs 0).slots t)))
            fun _ => iprop((Y c ∗ Pipeline.ownSems0 P.sem c) ∗ ∃ W', owes (c.tc : Thread nD τ) 0 W'))
    (QY : Dev nD → MemSt nD τ sig Val → Prop) (hread : ∀ c (s' : Phys nD τ sig Val), iprop(Y c ∗ SI s') ⊢ |={Set.univ}=> iprop(⌜QY c s'.mem⌝ ∗ SI s')) :
    θ_run (Pipeline.defs (fun q => (cfgs q).toPCfg) defs₀) (onTc main) ⟨m, fun _ => 0, ρ⟩
      fun r => (∀ c, QY c r.2) ∧ ∀ g, (g.1.2 ≠ .tc ∨ g.2.isScoped .tc = true) → r.2.sem g = 0 := by
  refine θ_run_exchange cfgs hN hW hinj hw ho defs₀ m ρ main hmain hrest (fun c => P.owed c Finset.univ) levIx P.lev levIx_of_ne
    (P.seed cfgs ho) (P.dealt cfgs ho) _ Y (P.fund_dealt cfgs ho) (P.deal cfgs ho _ B hbuf) (fun c t W => ?_) QY hread
  iintro ⟨⟨#HL, Hc, ⟨%κ, ⟨#HI, #HR⟩, Hs, HB⟩⟩, HO⟩
  iapply (hbody κ c t)
  isplitr
  · unfold records
    isplitr
    · isplitr; · iexact HI
      iexact HR
    · iexact HL
  isplitl [Hs]; · iexact Hs
  isplitl [Hc]; · iapply (P.launch_claims c); iexact Hc
  isplitl [HO]; · unfold owe; iexists W; iexact HO
  iexact HB

end Run

end Plan

end Cert.Exchange
-- ==== Proof.Slabs.lean ====
/-
  Slices of arrays that the exchanges move: a source lent for reading, a slice that holds a known block, arrays dealt in
  slices, and what the memory holds at the end.
-/
module

public import proofs.«01_k».proof.Proof.Exchange
public import Idealize.ShloMosaic.Lib.ViewIndex
public import Idealize.ShloMosaic.Lib.VecWindow

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UU nD τ sig) ℕ

/-! ## Conjunctions over a few indices -/

section Few

variable {M : Type} [URA M]

theorem bigSep_fin_zero (Φ : Fin 0 → sProp M) : bigSep Finset.univ Φ = iprop(emp) := by
  rw [Finset.univ_eq_empty, bigSep_empty]; rfl

theorem bigSep_fin_succ {n : ℕ} (Φ : Fin (n + 1) → sProp M) :
    bigSep Finset.univ Φ = iprop(Φ 0 ∗ bigSep Finset.univ fun i : Fin n => Φ i.succ) := by
  classical
  rw [Fin.univ_succ, Finset.cons_eq_insert, bigSep_insert (by simp [Fin.succ_ne_zero]), bigSep_map]; rfl

theorem bigSep_one (Φ : Fin 1 → sProp M) : bigSep Finset.univ Φ = iprop(Φ 0 ∗ emp) := by
  rw [bigSep_fin_succ, bigSep_fin_zero]

theorem bigSep_two (Φ : Fin 2 → sProp M) : bigSep Finset.univ Φ = iprop(Φ 0 ∗ Φ 1 ∗ emp) := by
  rw [bigSep_fin_succ, bigSep_one]; rfl

theorem bigSep_three (Φ : Fin 3 → sProp M) : bigSep Finset.univ Φ = iprop(Φ 0 ∗ Φ 1 ∗ Φ 2 ∗ emp) := by
  rw [bigSep_fin_succ, bigSep_two]; rfl

theorem bigSep_four (Φ : Fin 4 → sProp M) : bigSep Finset.univ Φ = iprop(Φ 0 ∗ Φ 1 ∗ Φ 2 ∗ Φ 3 ∗ emp) := by
  rw [bigSep_fin_succ, bigSep_three]; rfl

theorem bigSep_seven (Φ : Fin 7 → sProp M) :
    bigSep Finset.univ Φ = iprop(Φ 0 ∗ Φ 1 ∗ Φ 2 ∗ Φ 3 ∗ Φ 4 ∗ Φ 5 ∗ Φ 6 ∗ emp) := by
  rw [bigSep_fin_succ, bigSep_fin_succ, bigSep_fin_succ, bigSep_four]; rfl

theorem bigSep_eight (Φ : Fin 8 → sProp M) :
    bigSep Finset.univ Φ = iprop(Φ 0 ∗ Φ 1 ∗ Φ 2 ∗ Φ 3 ∗ Φ 4 ∗ Φ 5 ∗ Φ 6 ∗ Φ 7 ∗ emp) := by
  rw [bigSep_fin_succ, bigSep_seven]; rfl

/-- Things indexed by the devices and dealt along a permutation of them. -/
theorem deal_along {T : Type} [Fintype T] (peer : T → Equiv.Perm (Dev nD)) (Φ : Dev nD → T → sProp M) :
    (bigSep Finset.univ fun c : Dev nD => bigSep Finset.univ fun i => Φ c i)
      = bigSep Finset.univ fun c : Dev nD => bigSep Finset.univ fun i => Φ (peer i c) i := by
  rw [BI.bigSep_univ_comm]
  conv_rhs => rw [BI.bigSep_univ_comm]
  congr 1; funext i
  exact BI.bigSep_univ_equiv (peer i) _

end Few

/-! ## Lent elements -/

section Lent

variable {ℓ : Loc nD τ sig}

/-- Some share of the elements `I` of `ℓ`, at contents `f`: enough to read them. -/
def lent (ℓ : Loc nD τ sig) (I : Finset (Idx ℓ)) (f : Buf Val ℓ) : sProp 𝕄 := iprop(∃ q, ℓ ↦[I]{q} f)

instance lent_storable (I : Finset (Idx ℓ)) (f : Buf Val ℓ) : Storable (upEmb : UEmb _ 𝕄) (lent ℓ I f) := by
  unfold lent; infer_instance

theorem lent_intro {I : Finset (Idx ℓ)} {q : PosShare TreeShare} {f : Buf Val ℓ} : (ℓ ↦[I]{q} f : sProp 𝕄) ⊢ lent ℓ I f := by
  unfold lent; iintro H; iexists q; iexact H

/-- Part of what is lent may be lent on. -/
theorem lent_carve {I K : Finset (Idx ℓ)} (h : K ⊆ I) (f : Buf Val ℓ) :
    (lent ℓ I f : sProp 𝕄) ⊢ iprop(lent ℓ K f ∗ lent ℓ I f) := by
  unfold lent
  iintro ⟨%q, H⟩
  ihave H' := (pointsTo_share (PosShare.mem_left_op_right q)).1 $$ H
  icases H' with ⟨H1, H2⟩
  ihave H1' := (pointsTo_split_subset h).1 $$ H1
  icases H1' with ⟨H1, -⟩
  isplitl [H1]
  · iexists q.left; iexact H1
  · iexists q.right; iexact H2

/-- To several readers. -/
theorem lent_several {T : Type} [DecidableEq T] (S : Finset T) (K : T → Finset (Idx ℓ)) {I : Finset (Idx ℓ)} (h : ∀ t, K t ⊆ I) (f : Buf Val ℓ) :
    (lent ℓ I f : sProp 𝕄) ⊢ iprop((bigSep S fun t => lent ℓ (K t) f) ∗ lent ℓ I f) := by
  induction S using Finset.induction_on with
  | empty => rw [bigSep_empty]; iintro H; isplitr; · iempintro
             iexact H
  | insert t S ht ih =>
    rw [bigSep_insert ht]
    show (_ : sProp 𝕄) ⊢ iprop((lent ℓ (K t) f ∗ bigSep S fun t => lent ℓ (K t) f) ∗ lent ℓ I f)
    iintro H
    ihave H' := ih $$ H
    icases H' with ⟨HS, H⟩
    ihave H' := (lent_carve (h t) f) $$ H
    icases H' with ⟨Ht, H⟩
    isplitl [Ht HS]
    · isplitl [Ht]; · iexact Ht
      iexact HS
    · iexact H

/-- An array dealt in slices that have no element in common. -/
theorem deal_slices {T : Type} [Fintype T] (K : T → Finset (Idx ℓ)) (h : ∀ t t', t ≠ t' → Disjoint (K t) (K t'))
    (f : Buf Val ℓ) : (ℓ ↦{fullShare} f : sProp 𝕄) ⊢ bigSep Finset.univ fun t => ℓ ↦[K t]{fullShare} f := by
  classical
  iintro H
  ihave H' := (pointsTo_split_subset (Finset.subset_univ (Finset.univ.biUnion K))).1 $$ H
  icases H' with ⟨H, -⟩
  iapply (Entails.of_eq (pointsTo_biUnion Finset.univ K fun t _ t' _ hne => h t t' hne))
  iexact H

/-- What is lent is what the memory holds. -/
theorem lent_read (s' : Phys nD τ sig Val) (I : Finset (Idx ℓ)) (f : Buf Val ℓ) :
    iprop(lent ℓ I f ∗ SI s') ⊢ (iprop(⌜∀ i ∈ I, s'.mem.mem ℓ i = f i⌝ ∗ SI s') : sProp 𝕄) := by
  unfold lent
  iintro ⟨⟨%q, H⟩, HSI⟩
  icombine HSI H gives %h
  isplitr
  · ipureintro; exact h
  · iexact HSI

end Lent

/-! ## A slice that holds a block -/

section Holds

variable [∀ e, Nonempty (Val e)] {sp : Space} {s : Shape} {e : EltTy}

/-- The slice `M` of device `c`'s array holds `X`. -/
def holds (c : Dev nD) (M : Memref sig (c.tc : Thread nD τ).2.kind sp s e) (X : s.Idx → Val e) : sProp 𝕄 :=
  lent (M.view.loc (c.tc : Thread nD τ)) M.view.set (M.view.rep X)

instance holds_storable (c : Dev nD) (M : Memref sig (c.tc : Thread nD τ).2.kind sp s e) (X : s.Idx → Val e) :
    Storable (upEmb : UEmb _ 𝕄) (holds c M X) := by
  unfold holds; infer_instance

/-- A landed transfer. -/
theorem holds_landed (c : Dev nD) (M : Memref sig (c.tc : Thread nD τ).2.kind sp s e) (fd : Buf Val (M.view.loc (c.tc : Thread nD τ)))
    (X : s.Idx → Val e) :
    (M.view.loc (c.tc : Thread nD τ) ↦[M.view.set]{fullShare} (M.view.write Val fd X Finset.univ) : sProp 𝕄) ⊢ holds c M X :=
  (pointsTo_rep_of_read (c.tc : Thread nD τ) M _ fullShare X (View.read_write_univ _ _)).trans lent_intro

/-- Read at the end. -/
theorem holds_read (c : Dev nD) (M : Memref sig (c.tc : Thread nD τ).2.kind sp s e) (X : s.Idx → Val e) (s' : Phys nD τ sig Val) :
    iprop(holds c M X ∗ SI s')
      ⊢ (iprop(⌜M.view.read Val (s'.mem.mem (M.view.loc (c.tc : Thread nD τ))) = X⌝ ∗ SI s') : sProp 𝕄) := by
  unfold holds
  refine (lent_read s' _ _).trans (sep_mono_left ?_)
  iintro %h
  ipureintro
  funext x
  conv_rhs => rw [← View.read_rep M.view X]
  rw [View.read_apply, View.read_apply, h _ (Finset.mem_map_of_mem _ (Finset.mem_univ x))]

/-- Several of them. -/
theorem holds_read_all {T : Type} [DecidableEq T] (S : Finset T) (c : Dev nD) (M : T → Memref sig (c.tc : Thread nD τ).2.kind sp s e)
    (X : T → s.Idx → Val e) (s' : Phys nD τ sig Val) :
    iprop((bigSep S fun t => holds c (M t) (X t)) ∗ SI s')
      ⊢ (iprop(⌜∀ t ∈ S, (M t).view.read Val (s'.mem.mem ((M t).view.loc (c.tc : Thread nD τ))) = X t⌝ ∗ SI s') : sProp 𝕄) := by
  induction S using Finset.induction_on with
  | empty => iintro ⟨-, H⟩; isplitr; · ipureintro; simp
             iexact H
  | insert t S ht ih =>
    rw [bigSep_insert ht]
    show iprop((holds c (M t) (X t) ∗ bigSep S fun t => holds c (M t) (X t)) ∗ SI s') ⊢ _
    iintro ⟨⟨Ht, HS⟩, HSI⟩
    ihave H := (holds_read c (M t) (X t) s') $$ [Ht HSI]
    · isplitl [Ht]; · iexact Ht
      iexact HSI
    icases H with ⟨%h, HSI⟩
    ihave H := ih $$ [HS HSI]
    · isplitl [HS]; · iexact HS
      iexact HSI
    icases H with ⟨%hS, HSI⟩
    isplitr
    · ipureintro
      intro u hu
      rcases Finset.mem_insert.mp hu with rfl | hu
      exacts [h, hS u hu]
    · iexact HSI

/-- The end of an exchange read off: the array lent is unchanged, and every slice holds its block. -/
theorem read_end {T : Type} [Fintype T] [DecidableEq T] (c : Dev nD) (ℓ : Loc nD τ sig) (f : Buf Val ℓ)
    (M : T → Memref sig (c.tc : Thread nD τ).2.kind sp s e) (X : T → s.Idx → Val e) (s' : Phys nD τ sig Val) :
    iprop((lent ℓ Finset.univ f ∗ bigSep Finset.univ fun t => holds c (M t) (X t)) ∗ SI s')
      ⊢ |={Set.univ}=> (iprop(⌜s'.mem.mem ℓ = f ∧ ∀ t, (M t).view.read Val (s'.mem.mem ((M t).view.loc (c.tc : Thread nD τ))) = X t⌝ ∗ SI s') : sProp 𝕄) := by
  iintro ⟨⟨Hl, Hh⟩, HSI⟩
  ihave H := (lent_read s' Finset.univ f) $$ [Hl HSI]
  · isplitl [Hl]; · iexact Hl
    iexact HSI
  icases H with ⟨%h, HSI⟩
  ihave H := (holds_read_all Finset.univ c M X s') $$ [Hh HSI]
  · isplitl [Hh]; · iexact Hh
    iexact HSI
  icases H with ⟨%hS, HSI⟩
  imodintro
  isplitr
  · ipureintro; exact ⟨funext fun i => h i (Finset.mem_univ i), fun t => hS t (Finset.mem_univ t)⟩
  · iexact HSI

end Holds

end Cert.Exchange
-- ==== Proof.GatherRun.lean ====
/-
  The gather of the weights from all eight devices: its protocol and its run.

  Device `c` keeps the half of its chip's weights that belongs to its core: it copies it into its own rows of the result and
  sends it to its sibling and to the same core of the other three chips, always into the rows of the result that are
  device `c`'s. What arrives from another chip it forwards to its sibling, out of its own result. Transfers 0 to 3 are the
  first four, 4 to 6 the forwards; a forward is owed while the arrivals of the first four are awaited, so the counters of
  the first four come before those of the forwards.
-/
module

public import proofs.«01_k».proof.Defs
public import proofs.«01_k».proof.Proof.Slabs
public import proofs.«01_k».proof.Proof.Gen.GatherIdeal
public import proofs.«01_k».proof.Proof.Gen.GatherIdeal.Skeleton
public import proofs.«01_k».proof.Proof.Gen.GatherIdeal.Launch

@[expose] public section

set_option Elab.async false

noncomputable section

namespace Cert.Gat

open Cert.GatherIdeal Cert.GatherIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Who sends what to whom -/

/-- The other core of the chip, and the same core of the chip across `x`, across `y` and across both. -/
def mate (k : Fin 4) (c : Dev nD) : Dev nD :=
  have h : c.val < 8 := c.isLt
  match k with
  | 0 => ⟨2 * (c.val / 2) + (1 - c.val % 2), by show _ < 8; omega⟩
  | 1 => ⟨(c.val + 4) % 8, by show _ < 8; omega⟩
  | 2 => ⟨4 * (c.val / 4) + (c.val + 2) % 4, by show _ < 8; omega⟩
  | 3 => ⟨6 - 2 * (c.val / 2) + c.val % 2, by show _ < 8; omega⟩

theorem mate_mate (k : Fin 4) (c : Dev nD) : mate k (mate k c) = c := by revert k c; decide

/-- The forwards go to the sibling, like the first transfer. -/
def lane : Fin 7 → Fin 4 := ![0, 1, 2, 3, 0, 0, 0]

/-- Whom transfer `i` reaches. -/
def peer (i : Fin 7) : Equiv.Perm (Dev nD) := Function.Involutive.toPerm (mate (lane i)) (mate_mate (lane i))

/-- Whose half it is that transfer `i` brings to device `c`. -/
def origin (i : Fin 7) (c : Dev nD) : Dev nD :=
  match i with
  | 0 => mate 0 c
  | 1 => mate 1 c
  | 2 => mate 2 c
  | 3 => mate 3 c
  | 4 => mate 1 (mate 0 c)
  | 5 => mate 2 (mate 0 c)
  | 6 => mate 3 (mate 0 c)

/-- Whose half it is that device `c` sends with transfer `i`. -/
def carried (i : Fin 7) (c : Dev nD) : Dev nD := origin i (mate (lane i) c)

/-- The device's own half, and then those that arrive. -/
def place (c : Dev nD) : Fin 8 → Dev nD := Fin.cases c fun i => origin i c

theorem place_inj (c : Dev nD) (s t : Fin 8) (h : s ≠ t) : place c s ≠ place c t := by revert c s t; decide
theorem place_covers (c d : Dev nD) : ∃ t, place c t = d := by revert c d; decide

theorem dev1 (c : Dev nD) : (⟨k0_dev1 c, k0_dev1_lt c⟩ : Dev nD) = mate (lane 0) c := Fin.ext ((k0_dev1_eq c).trans (by revert c; decide))
theorem dev2 (c : Dev nD) : (⟨k0_dev2 c, k0_dev2_lt c⟩ : Dev nD) = mate (lane 1) c := Fin.ext ((k0_dev2_eq c).trans (by revert c; decide))
theorem dev3 (c : Dev nD) : (⟨k0_dev3 c, k0_dev3_lt c⟩ : Dev nD) = mate (lane 2) c := Fin.ext ((k0_dev3_eq c).trans (by revert c; decide))
theorem dev4 (c : Dev nD) : (⟨k0_dev4 c, k0_dev4_lt c⟩ : Dev nD) = mate (lane 3) c := Fin.ext ((k0_dev4_eq c).trans (by revert c; decide))
theorem dev5 (c : Dev nD) : (⟨k0_dev5 c, k0_dev5_lt c⟩ : Dev nD) = mate (lane 4) c := Fin.ext ((k0_dev5_eq c).trans (by revert c; decide))
theorem dev6 (c : Dev nD) : (⟨k0_dev6 c, k0_dev6_lt c⟩ : Dev nD) = mate (lane 5) c := Fin.ext ((k0_dev6_eq c).trans (by revert c; decide))
theorem dev7 (c : Dev nD) : (⟨k0_dev7 c, k0_dev7_lt c⟩ : Dev nD) = mate (lane 6) c := Fin.ext ((k0_dev7_eq c).trans (by revert c; decide))

/-- The forwards still to come when `k` of them have been sent. -/
def forwards (k : ℕ) : Finset (Fin 7) := Finset.univ.filter fun i => 4 + k ≤ i.val

/-! ## The slices -/

/-- Rows of the result. -/
def rowsAt (off : Fin 2 → ℕ) (h : ∀ a, off a + S11776x512.size a ≤ S94208x512.size a) : Memref sig .tc .hbm S11776x512 .bf16 :=
  (Memref.whole main_v1).slice (Rect.unit (s := S94208x512) off S11776x512.size h) (fun _ => rfl)

theorem rowsAt_congr {o o' : Fin 2 → ℕ} (e : o = o') (h : ∀ a, o a + S11776x512.size a ≤ S94208x512.size a)
    (h' : ∀ a, o' a + S11776x512.size a ≤ S94208x512.size a) : rowsAt o h = rowsAt o' h' := by subst e; rfl

def offset (d : Dev nD) : Fin 2 → ℕ := ![11776 * d.val, 0]

theorem offset_inb (d : Dev nD) : ∀ a, offset d a + S11776x512.size a ≤ S94208x512.size a := by
  have h : d.val < 8 := d.isLt
  intro a
  match a with
  | 0 => show 11776 * d.val + 11776 ≤ 94208; omega
  | 1 => show 0 + 512 ≤ 512; omega

/-- The rows of the result that are device `d`'s. -/
def rows (d : Dev nD) : Memref sig .tc .hbm S11776x512 .bf16 := rowsAt (offset d) (offset_inb d)

/-- The half of its array that device `c` sends. -/
def own (c : Dev nD) : Memref sig .tc .hbm S11776x512 .bf16 :=
  (Memref.whole main_arg0).slice (Rect.unit (s := S23552x512) (k0_off2 c) S11776x512.size (k0_off2_inb c)) (fun _ => rfl)

theorem rows_disjoint (d e : Dev nD) (h : d ≠ e) : Disjoint (rows d).view.set (rows e).view.set := by
  unfold rows rowsAt
  refine View.disjoint_slice (Rect.unit_disjoint 0 ?_)
  have : d.val ≠ e.val := fun e => h (Fin.ext e)
  show 11776 * d.val + 11776 ≤ 11776 * e.val ∨ 11776 * e.val + 11776 ≤ 11776 * d.val
  omega

theorem rows1 (c : Dev nD) : rowsAt (k0_off1 c) (k0_off1_inb c) = rows (c) := rowsAt_congr ((k0_off1_eq c).trans (by revert c; decide)) _ _
theorem rows3 (c : Dev nD) : rowsAt (k0_off3 c) (k0_off3_inb c) = rows (mate 1 c) := rowsAt_congr ((k0_off3_eq c).trans (by revert c; decide)) _ _
theorem rows4 (c : Dev nD) : rowsAt (k0_off4 c) (k0_off4_inb c) = rows (mate 2 c) := rowsAt_congr ((k0_off4_eq c).trans (by revert c; decide)) _ _
theorem rows5 (c : Dev nD) : rowsAt (k0_off5 c) (k0_off5_inb c) = rows (mate 3 c) := rowsAt_congr ((k0_off5_eq c).trans (by revert c; decide)) _ _

theorem carried_first (i : Fin 7) (h : i.val < 4) (c : Dev nD) : carried i c = c := by revert i c; decide
theorem carried_4 (c : Dev nD) : carried 4 c = mate 1 c := by revert c; decide
theorem carried_5 (c : Dev nD) : carried 5 c = mate 2 c := by revert c; decide
theorem carried_6 (c : Dev nD) : carried 6 c = mate 3 c := by revert c; decide

variable (m : (ℓ : Loc nD τ sig) → Buf (Elt F) ℓ)

/-- Device `d`'s half. -/
def part (d : Dev nD) : S11776x512.Idx → Elt F .bf16 := (own d).view.read (Elt F) (m (d.tc.loc main_arg0))

/-! ## The protocol -/

def cellSem : Cells 7 1 → SemLoc sig
  | .inl i => .dma ⟨i.val, by have := i.isLt; show _ < 15; omega⟩
  | .inr (.inl i) => .dma ⟨7 + i.val, by have := i.isLt; show _ < 15; omega⟩
  | .inr (.inr _) => .dma ⟨14, by decide⟩

theorem ownSem : Pipeline.OwnSemFacts (cfgs 0).spec cellSem := by decide

/-- The size of a transfer, as its counters see it. -/
def size : ℕ := (rows 0).view.dmaCredit

def pay (c : Dev nD) : Cells 7 1 → sProp 𝕄
  | .inl _ => iprop(emp)
  | .inr (.inl i) => holds c (rows (origin i c)) (part m (origin i c))
  | .inr (.inr _) => holds c (rows c) (part m c)

instance pay_storable (c : Dev nD) (k : Cells 7 1) : Storable (upEmb : UEmb _ 𝕄) (pay m c k) := by
  rcases k with j | j | j <;> unfold pay <;> infer_instance

/-- The counters of the forwards come last. -/
def level : Cells 7 1 → ℕ
  | .inr (.inl i) => if i.val < 4 then 1 else 2
  | _ => 0

def plan : Plan nD τ sig (Elt F) 7 1 where
  sem := cellSem
  sem_inj := ownSem.inj
  peer := peer
  size := size
  size_pos := View.dmaCredit_pos _ (by decide)
  lvl := level
  pay := pay m
  pay_storable := fun c k => pay_storable m c k

/-! ## The body -/

/-- The arrays a device starts from: its weights, lent, its own rows of its result, and the rows that it fills in the others'
    results. -/
def arrays (c : Dev nD) : sProp 𝕄 :=
  iprop(lent (c.tc.loc main_arg0) Finset.univ (m (c.tc.loc main_arg0))
    ∗ (c.tc.loc main_v1 ↦[(rows c).view.set]{fullShare} m (c.tc.loc main_v1))
    ∗ bigSep Finset.univ fun i => (mate (lane i) c).tc.loc main_v1 ↦[(rows (carried i c)).view.set]{fullShare} m ((mate (lane i) c).tc.loc main_v1))

/-- What it ends with. -/
def result (c : Dev nD) : sProp 𝕄 :=
  iprop(lent (c.tc.loc main_arg0) Finset.univ (m (c.tc.loc main_arg0))
    ∗ bigSep Finset.univ fun t => holds c (rows (place c t)) (part m (place c t)))

/-- The half lent. -/
theorem lend (c : Dev nD) : (lent (c.tc.loc main_arg0) Finset.univ (m (c.tc.loc main_arg0)) : sProp 𝕄)
    ⊢ iprop(lent ((own c).view.loc (c.tc : Thread nD τ)) (own c).view.set (m (c.tc.loc main_arg0))
      ∗ lent (c.tc.loc main_arg0) Finset.univ (m (c.tc.loc main_arg0))) :=
  lent_carve (Finset.subset_univ (own c).view.set) (m (c.tc.loc main_arg0))

/-- One transfer, started, out of a slice that holds what it carries. -/
theorem put (κ : Dev nD × Cells 7 1 → ℕ) (c n : Dev nD) (i : Fin 7) (S : Finset (Fin 7)) (hi : i ∈ S) (hn : n = mate (lane i) c)
    {src dst : Memref sig .tc .hbm S11776x512 .bf16} (hd : dst = rows (carried i c))
    (fs : Buf (Elt F) (src.view.loc (c.tc : Thread nD τ))) (hX : src.view.read (Elt F) fs = part m (carried i c))
    {hsc : dst.view.ref.isScScratch = false} {sS sR : DmaSem sig} (hS : SemLoc.dma sS = cellSem (.inl i)) (hR : SemLoc.dma sR = cellSem (.inr (.inl i)))
    {hsrc : src.view.WordExact} {hdst : dst.view.WordExact}
    {hsem : DmaTarget.Typed .hbm (SemLoc.dma sR) (.remote (n.tc : Thread nD τ) dst (SemLoc.dma sS) hsc)}
    {α : Type} {k : PUnit → Prog (TpuEff nD τ sig (Elt F) Λ₀ .tc) α} {Q : α → sProp (MT nD τ sig Unit (Elt F) ℕ (UU nD τ sig) ℕ)} :
    iprop((plan m).records κ ∗ lent (src.view.loc (c.tc : Thread nD τ)) src.view.set fs
        ∗ ((mate (lane i) c).tc.loc main_v1 ↦[(rows (carried i c)).view.set]{fullShare} m ((mate (lane i) c).tc.loc main_v1))
        ∗ (plan m).owe c S ∗ (plan m).right c i)
      ⊢ iprop(((lent (src.view.loc (c.tc : Thread nD τ)) src.view.set fs ∗ (plan m).coming c (.inl i) ∗ (plan m).owe c (S.erase i))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.remote (n.tc : Thread nD τ) dst (SemLoc.dma sS) hsc) (SemLoc.dma sR) hsrc hdst hsem) k) Q) := by
  subst hn hd
  iintro ⟨#HR, Hl, Hd, HO, Ht⟩ Hk
  have hc : (lent (src.view.loc (c.tc : Thread nD τ)) src.view.set fs : sProp 𝕄)
      ⊢ iprop(lent (src.view.loc (c.tc : Thread nD τ)) src.view.set fs ∗ lent (src.view.loc (c.tc : Thread nD τ)) src.view.set fs) :=
    lent_carve (Finset.Subset.refl _) fs
  ihave H := hc $$ Hl
  icases H with ⟨Hs, Hl⟩
  have ho : (lent (src.view.loc (c.tc : Thread nD τ)) src.view.set fs : sProp 𝕄) ⊢ iprop(∃ q, src.view.loc (c.tc : Thread nD τ) ↦[src.view.set]{q} fs) := by
    unfold lent; exact .rfl
  ihave Hs := ho $$ Hs
  icases Hs with ⟨%q, Hs⟩
  iapply ((plan m).wp_put Variants.none none κ c (mate (lane i) c) i S hi rfl hS hR (q := q) (fs := fs)
    (fd := m ((mate (lane i) c).tc.loc main_v1)) rfl (by show _ ⊢ iprop(emp); iintro -; iempintro)
    (by
      refine (holds_landed (mate (lane i) c) (rows (carried i c)) _ _).trans ?_
      rw [hX]; exact .rfl)) $$ [Hs Hd HO Ht] [Hl Hk]
  · isplitr; · iexact HR
    isplitl [Hs]; · iexact Hs
    isplitl [Hd]; · iexact Hd
    isplitl [HO]; · iexact HO
    iexact Ht
  · iintro ⟨Hc, HO⟩
    iapply Hk
    isplitl [Hl]; · iexact Hl
    isplitl [Hc]; · iexact Hc
    iexact HO

set_option maxRecDepth 65536 in
/-- What a device holds of another's half it can send on. -/
theorem put_on (κ : Dev nD × Cells 7 1 → ℕ) (c n : Dev nD) (i : Fin 7) (S : Finset (Fin 7)) (hi : i ∈ S) (hn : n = mate (lane i) c)
    {src dst : Memref sig .tc .hbm S11776x512 .bf16} (d : Dev nD) (hc : d = carried i c) (hs : src = rows d) (hd : dst = rows d)
    {hsc : dst.view.ref.isScScratch = false} {sS sR : DmaSem sig} (hS : SemLoc.dma sS = cellSem (.inl i)) (hR : SemLoc.dma sR = cellSem (.inr (.inl i)))
    {hsrc : src.view.WordExact} {hdst : dst.view.WordExact}
    {hsem : DmaTarget.Typed .hbm (SemLoc.dma sR) (.remote (n.tc : Thread nD τ) dst (SemLoc.dma sS) hsc)}
    {α : Type} {k : PUnit → Prog (TpuEff nD τ sig (Elt F) Λ₀ .tc) α} {Q : α → sProp (MT nD τ sig Unit (Elt F) ℕ (UU nD τ sig) ℕ)} :
    iprop((plan m).records κ ∗ holds c (rows d) (part m d)
        ∗ ((mate (lane i) c).tc.loc main_v1 ↦[(rows (carried i c)).view.set]{fullShare} m ((mate (lane i) c).tc.loc main_v1))
        ∗ (plan m).owe c S ∗ (plan m).right c i)
      ⊢ iprop(((holds c (rows d) (part m d) ∗ (plan m).coming c (.inl i) ∗ (plan m).owe c (S.erase i))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.remote (n.tc : Thread nD τ) dst (SemLoc.dma sS) hsc) (SemLoc.dma sR) hsrc hdst hsem) k) Q) := by
  subst hc
  subst hs
  unfold holds
  exact put m κ c n i S hi hn (src := rows (carried i c)) hd ((rows (carried i c)).view.rep (part m (carried i c))) (View.read_rep _ _)
    hS hR (hsrc := hsrc) (hdst := hdst) (hsem := hsem) (k := k) (Q := Q)

/-- The copy, started. -/
theorem copy (κ : Dev nD × Cells 7 1 → ℕ) (c : Dev nD)
    {src dst : Memref sig .tc .hbm S11776x512 .bf16} (hs : src = own c) (hd : dst = rows c)
    {sR : DmaSem sig} (hR : SemLoc.dma sR = cellSem (.inr (.inr 0)))
    {hsrc : src.view.WordExact} {hdst : dst.view.WordExact} {hsem : DmaTarget.Typed (nD := nD) (τ := τ) (p := Proc.tc) .hbm (SemLoc.dma sR) (.here dst)}
    {α : Type} {k : PUnit → Prog (TpuEff nD τ sig (Elt F) Λ₀ .tc) α} {Q : α → sProp (MT nD τ sig Unit (Elt F) ℕ (UU nD τ sig) ℕ)} :
    iprop((plan m).records κ ∗ lent (c.tc.loc main_arg0) Finset.univ (m (c.tc.loc main_arg0))
        ∗ (c.tc.loc main_v1 ↦[(rows c).view.set]{fullShare} m (c.tc.loc main_v1)) ∗ (plan m).rightHere c 0)
      ⊢ iprop(((lent (c.tc.loc main_arg0) Finset.univ (m (c.tc.loc main_arg0)) ∗ (plan m).coming c (.inr (.inr 0)))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.here dst) (SemLoc.dma sR) hsrc hdst hsem) k) Q) := by
  subst hs hd
  iintro ⟨#HR, Hl, Hd, Ht⟩ Hk
  have hc := lend m c
  ihave H := hc $$ Hl
  icases H with ⟨Hs, Hl⟩
  unfold lent
  icases Hs with ⟨%q, Hs⟩
  iapply ((plan m).wp_local Variants.none none κ c 0 hR (q := q) (fs := m (c.tc.loc main_arg0))
    (fd := m (c.tc.loc main_v1)) rfl (by
      refine BIBase.Entails.trans ?_ (holds_landed c (rows c) (m (c.tc.loc main_v1)) (part m c))
      iintro ⟨H, -⟩; iexact H)) $$ [Hs Hd Ht] [Hl Hk]
  · isplitr; · iexact HR
    isplitl [Hs]; · iexact Hs
    isplitl [Hd]; · iexact Hd
    iexact Ht
  · iintro Hc
    iapply Hk
    isplitl [Hl]; · iexact Hl
    iexact Hc

/-- One wait. -/
theorem take (κ : Dev nD × Cells 7 1 → ℕ) (c : Dev nD) (k : Cells 7 1) (S : Finset (Fin 7)) (hl : ∀ i ∈ S, level k < level (.inr (.inl i)))
    (src dst : Memref sig .tc .hbm S11776x512 .bf16) {sm : DmaSem sig} (hm : SemLoc.dma sm = cellSem k)
    {hsrc : src.view.WordExact} {hdst : dst.view.WordExact} (hN : dst.view.dmaCredit = size)
    {V : sProp (MT nD τ sig Unit (Elt F) ℕ (UU nD τ sig) ℕ)} (hV : pay m c k = V)
    {α : Type} {f : PUnit → Prog (TpuEff nD τ sig (Elt F) Λ₀ .tc) α} {Q : α → sProp (MT nD τ sig Unit (Elt F) ℕ (UU nD τ sig) ℕ)} :
    iprop((plan m).records κ ∗ (plan m).coming c k ∗ (plan m).owe c S ∗ (plan m).fresh c k)
      ⊢ iprop((((plan m).owe c S ∗ (plan m).spent c k ∗ V)
            -∗ wp frame (wpE (defs₀ (F := F)) Variants.none (c.tc : Thread nD τ) none) Set.univ (f ⟨⟩) Q)
          -∗ wp frame (wpE (defs₀ (F := F)) Variants.none (c.tc : Thread nD τ) none) Set.univ
              (.op (.waitDma2 sm src dst hsrc hdst) f) Q) :=
  hV ▸ (plan m).wp_take Variants.none none κ c k S hl hm hN

set_option maxRecDepth 65536 in
/-- The body of device `c`. -/
theorem body (κ : Dev nD × Cells 7 1 → ℕ) (c : Dev nD) (t : Fin cfg0.N) :
    iprop((plan m).records κ ∗ (plan m).start c ∗ (plan m).claims c ∗ (plan m).owe c Finset.univ ∗ arrays m c)
      ⊢ wp frame (wpE (defs₀ (F := F)) Variants.none (c.tc : Thread nD τ) none) Set.univ
          (defs₀ .tc cfg0.body (cfg0.bodyArgs t (cfg0.slots t)))
          fun _ => iprop((result m c ∗ Pipeline.ownSems0 cellSem c) ∗ ∃ W', owes (c.tc : Thread nD τ) 0 W') := by
  change _ ⊢ wp frame _ Set.univ (cc0_gather_big_2 (Memref.whole main_arg0) (Memref.isWhole_whole _) (Memref.whole main_v1) (Memref.isWhole_whole _) cc0_scratch0 cc0_scratch1 cc0_scratch2) _
  simp only [cc0_gather_big_2_eq_skeleton]
  unfold cc0_gather_big_2_skel
  simp only [k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold Plan.start Plan.claims arrays
  simp only [bigSep_cells, bigSep_one, bigSep_seven]
  iintro ⟨#HR, ⟨⟨⟨Fs0, Fs1, Fs2, Fs3, Fs4, Fs5, Fs6, -⟩, ⟨Fr0, Fr1, Fr2, Fr3, Fr4, Fr5, Fr6, -⟩, ⟨Fl, -⟩⟩, ⟨T0, T1, T2, T3, T4, T5, T6, -⟩, ⟨U, -⟩⟩, ⟨C0, C1, C2, C3, C4, C5, C6, -⟩, HO, HL, D, ⟨D0, D1, D2, D3, D4, D5, D6, -⟩⟩
  iapply (copy m κ c rfl (rows1 c) rfl) $$ [HL D U]
  · isplitr; · iexact HR
    isplitl [HL]; · iexact HL
    isplitl [D]; · iexact D
    iexact U
  iintro ⟨HL, L⟩
  have hle := lend m c
  ihave HL := hle $$ HL
  icases HL with ⟨Hs, HL⟩
  iapply (put m κ c ⟨k0_dev1 c, k0_dev1_lt c⟩ 0 (Finset.univ) (by decide) (dev1 c) (src := own c) ((rows1 c).trans (congrArg rows (carried_first 0 (by decide) c).symm))
    (m (c.tc.loc main_arg0)) (by rw [carried_first 0 (by decide) c]; rfl) rfl rfl) $$ [Hs D0 HO T0]
  · isplitr; · iexact HR
    isplitl [Hs]; · iexact Hs
    isplitl [D0]; · iexact D0
    isplitl [HO]; · iexact HO
    iexact T0
  iintro ⟨Hs, S0, HO⟩
  iapply (put m κ c ⟨k0_dev2 c, k0_dev2_lt c⟩ 1 ((Finset.univ).erase 0) (by decide) (dev2 c) (src := own c) ((rows1 c).trans (congrArg rows (carried_first 1 (by decide) c).symm))
    (m (c.tc.loc main_arg0)) (by rw [carried_first 1 (by decide) c]; rfl) rfl rfl) $$ [Hs D1 HO T1]
  · isplitr; · iexact HR
    isplitl [Hs]; · iexact Hs
    isplitl [D1]; · iexact D1
    isplitl [HO]; · iexact HO
    iexact T1
  iintro ⟨Hs, S1, HO⟩
  iapply (put m κ c ⟨k0_dev3 c, k0_dev3_lt c⟩ 2 (((Finset.univ).erase 0).erase 1) (by decide) (dev3 c) (src := own c) ((rows1 c).trans (congrArg rows (carried_first 2 (by decide) c).symm))
    (m (c.tc.loc main_arg0)) (by rw [carried_first 2 (by decide) c]; rfl) rfl rfl) $$ [Hs D2 HO T2]
  · isplitr; · iexact HR
    isplitl [Hs]; · iexact Hs
    isplitl [D2]; · iexact D2
    isplitl [HO]; · iexact HO
    iexact T2
  iintro ⟨Hs, S2, HO⟩
  iapply (put m κ c ⟨k0_dev4 c, k0_dev4_lt c⟩ 3 ((((Finset.univ).erase 0).erase 1).erase 2) (by decide) (dev4 c) (src := own c) ((rows1 c).trans (congrArg rows (carried_first 3 (by decide) c).symm))
    (m (c.tc.loc main_arg0)) (by rw [carried_first 3 (by decide) c]; rfl) rfl rfl) $$ [Hs D3 HO T3]
  · isplitr; · iexact HR
    isplitl [Hs]; · iexact Hs
    isplitl [D3]; · iexact D3
    isplitl [HO]; · iexact HO
    iexact T3
  iintro ⟨Hs, S3, HO⟩
  rw [show (((((Finset.univ).erase 0).erase 1).erase 2).erase 3 : Finset (Fin 7)) = forwards 0 by decide]
  iapply (take m κ c (.inr (.inl 1)) (forwards 0) (by decide) (rowsAt (k0_off3 c) (k0_off3_inb c)) (rowsAt (k0_off3 c) (k0_off3_inb c)) rfl rfl (V := holds c (rows (mate 1 c)) (part m (mate 1 c))) rfl) $$ [C1 HO Fr1]
  · isplitr; · iexact HR
    isplitl [C1]; · iexact C1
    isplitl [HO]; · iexact HO
    iexact Fr1
  iintro ⟨HO, Pr1, V1⟩
  iapply (put_on m κ c ⟨k0_dev5 c, k0_dev5_lt c⟩ 4 (forwards 0) (by decide) (dev5 c) (mate 1 c) (carried_4 c).symm (rows3 c) (rows3 c) rfl rfl) $$ [V1 D4 HO T4]
  · isplitr; · iexact HR
    isplitl [V1]; · iexact V1
    isplitl [D4]; · iexact D4
    isplitl [HO]; · iexact HO
    iexact T4
  iintro ⟨V1, S4, HO⟩
  rw [show ((forwards 0).erase 4) = forwards 1 by decide]
  iapply (take m κ c (.inr (.inl 2)) (forwards 1) (by decide) (rowsAt (k0_off4 c) (k0_off4_inb c)) (rowsAt (k0_off4 c) (k0_off4_inb c)) rfl rfl (V := holds c (rows (mate 2 c)) (part m (mate 2 c))) rfl) $$ [C2 HO Fr2]
  · isplitr; · iexact HR
    isplitl [C2]; · iexact C2
    isplitl [HO]; · iexact HO
    iexact Fr2
  iintro ⟨HO, Pr2, V2⟩
  iapply (put_on m κ c ⟨k0_dev6 c, k0_dev6_lt c⟩ 5 (forwards 1) (by decide) (dev6 c) (mate 2 c) (carried_5 c).symm (rows4 c) (rows4 c) rfl rfl) $$ [V2 D5 HO T5]
  · isplitr; · iexact HR
    isplitl [V2]; · iexact V2
    isplitl [D5]; · iexact D5
    isplitl [HO]; · iexact HO
    iexact T5
  iintro ⟨V2, S5, HO⟩
  rw [show ((forwards 1).erase 5) = forwards 2 by decide]
  iapply (take m κ c (.inr (.inl 3)) (forwards 2) (by decide) (rowsAt (k0_off5 c) (k0_off5_inb c)) (rowsAt (k0_off5 c) (k0_off5_inb c)) rfl rfl (V := holds c (rows (mate 3 c)) (part m (mate 3 c))) rfl) $$ [C3 HO Fr3]
  · isplitr; · iexact HR
    isplitl [C3]; · iexact C3
    isplitl [HO]; · iexact HO
    iexact Fr3
  iintro ⟨HO, Pr3, V3⟩
  iapply (put_on m κ c ⟨k0_dev7 c, k0_dev7_lt c⟩ 6 (forwards 2) (by decide) (dev7 c) (mate 3 c) (carried_6 c).symm (rows5 c) (rows5 c) rfl rfl) $$ [V3 D6 HO T6]
  · isplitr; · iexact HR
    isplitl [V3]; · iexact V3
    isplitl [D6]; · iexact D6
    isplitl [HO]; · iexact HO
    iexact T6
  iintro ⟨V3, S6, HO⟩
  rw [show ((forwards 2).erase 6) = ∅ by decide]
  iapply (take m κ c (.inr (.inl 0)) ∅ (by decide) (rowsAt (k0_off6 c) (k0_off6_inb c)) (rowsAt (k0_off6 c) (k0_off6_inb c)) rfl rfl (V := holds c (rows (mate 0 c)) (part m (mate 0 c))) rfl) $$ [C0 HO Fr0]
  · isplitr; · iexact HR
    isplitl [C0]; · iexact C0
    isplitl [HO]; · iexact HO
    iexact Fr0
  iintro ⟨HO, Pr0, V0⟩
  iapply (take m κ c (.inr (.inl 4)) ∅ (by decide) (rowsAt (k0_off7 c) (k0_off7_inb c)) (rowsAt (k0_off7 c) (k0_off7_inb c)) rfl rfl (V := holds c (rows (mate 1 (mate 0 c))) (part m (mate 1 (mate 0 c)))) rfl) $$ [C4 HO Fr4]
  · isplitr; · iexact HR
    isplitl [C4]; · iexact C4
    isplitl [HO]; · iexact HO
    iexact Fr4
  iintro ⟨HO, Pr4, V4⟩
  iapply (take m κ c (.inr (.inl 5)) ∅ (by decide) (rowsAt (k0_off8 c) (k0_off8_inb c)) (rowsAt (k0_off8 c) (k0_off8_inb c)) rfl rfl (V := holds c (rows (mate 2 (mate 0 c))) (part m (mate 2 (mate 0 c)))) rfl) $$ [C5 HO Fr5]
  · isplitr; · iexact HR
    isplitl [C5]; · iexact C5
    isplitl [HO]; · iexact HO
    iexact Fr5
  iintro ⟨HO, Pr5, V5⟩
  iapply (take m κ c (.inr (.inl 6)) ∅ (by decide) (rowsAt (k0_off9 c) (k0_off9_inb c)) (rowsAt (k0_off9 c) (k0_off9_inb c)) rfl rfl (V := holds c (rows (mate 3 (mate 0 c))) (part m (mate 3 (mate 0 c)))) rfl) $$ [C6 HO Fr6]
  · isplitr; · iexact HR
    isplitl [C6]; · iexact C6
    isplitl [HO]; · iexact HO
    iexact Fr6
  iintro ⟨HO, Pr6, V6⟩
  iapply (take m κ c (.inl 0) ∅ (by decide) (rowsAt (k0_off1 c) (k0_off1_inb c)) (own c) rfl rfl rfl) $$ [S0 HO Fs0]
  · isplitr; · iexact HR
    isplitl [S0]; · iexact S0
    isplitl [HO]; · iexact HO
    iexact Fs0
  iintro ⟨HO, Ps0, -⟩
  iapply (take m κ c (.inl 1) ∅ (by decide) (rowsAt (k0_off1 c) (k0_off1_inb c)) (own c) rfl rfl rfl) $$ [S1 HO Fs1]
  · isplitr; · iexact HR
    isplitl [S1]; · iexact S1
    isplitl [HO]; · iexact HO
    iexact Fs1
  iintro ⟨HO, Ps1, -⟩
  iapply (take m κ c (.inl 2) ∅ (by decide) (rowsAt (k0_off1 c) (k0_off1_inb c)) (own c) rfl rfl rfl) $$ [S2 HO Fs2]
  · isplitr; · iexact HR
    isplitl [S2]; · iexact S2
    isplitl [HO]; · iexact HO
    iexact Fs2
  iintro ⟨HO, Ps2, -⟩
  iapply (take m κ c (.inl 3) ∅ (by decide) (rowsAt (k0_off1 c) (k0_off1_inb c)) (own c) rfl rfl rfl) $$ [S3 HO Fs3]
  · isplitr; · iexact HR
    isplitl [S3]; · iexact S3
    isplitl [HO]; · iexact HO
    iexact Fs3
  iintro ⟨HO, Ps3, -⟩
  iapply (take m κ c (.inl 4) ∅ (by decide) (rowsAt (k0_off3 c) (k0_off3_inb c)) (rowsAt (k0_off3 c) (k0_off3_inb c)) rfl rfl rfl) $$ [S4 HO Fs4]
  · isplitr; · iexact HR
    isplitl [S4]; · iexact S4
    isplitl [HO]; · iexact HO
    iexact Fs4
  iintro ⟨HO, Ps4, -⟩
  iapply (take m κ c (.inl 5) ∅ (by decide) (rowsAt (k0_off4 c) (k0_off4_inb c)) (rowsAt (k0_off4 c) (k0_off4_inb c)) rfl rfl rfl) $$ [S5 HO Fs5]
  · isplitr; · iexact HR
    isplitl [S5]; · iexact S5
    isplitl [HO]; · iexact HO
    iexact Fs5
  iintro ⟨HO, Ps5, -⟩
  iapply (take m κ c (.inl 6) ∅ (by decide) (rowsAt (k0_off5 c) (k0_off5_inb c)) (rowsAt (k0_off5 c) (k0_off5_inb c)) rfl rfl rfl) $$ [S6 HO Fs6]
  · isplitr; · iexact HR
    isplitl [S6]; · iexact S6
    isplitl [HO]; · iexact HO
    iexact Fs6
  iintro ⟨HO, Ps6, -⟩
  iapply (take m κ c (.inr (.inr 0)) ∅ (by decide) (own c) (rowsAt (k0_off1 c) (k0_off1_inb c)) rfl rfl (V := holds c (rows c) (part m c)) rfl) $$ [L HO Fl]
  · isplitr; · iexact HR
    isplitl [L]; · iexact L
    isplitl [HO]; · iexact HO
    iexact Fl
  iintro ⟨HO, Pl, V⟩
  iapply ((plan m).wp_done Variants.none none κ c (result m c))
  unfold result
  simp only [bigSep_cells, bigSep_one, bigSep_seven, bigSep_eight]
  isplitr; · iexact HR
  isplitl [HL V V0 V1 V2 V3 V4 V5 V6]
  · isplitl [HL]; · iexact HL
    isplitl [V]; · iexact V
    isplitl [V0]; · iexact V0
    isplitl [V1]; · iexact V1
    isplitl [V2]; · iexact V2
    isplitl [V3]; · iexact V3
    isplitl [V4]; · iexact V4
    isplitl [V5]; · iexact V5
    isplitl [V6]; · iexact V6
    iempintro
  isplitr [HO]
  · isplitl [Ps0 Ps1 Ps2 Ps3 Ps4 Ps5 Ps6]
    · isplitl [Ps0]; · iexact Ps0
      isplitl [Ps1]; · iexact Ps1
      isplitl [Ps2]; · iexact Ps2
      isplitl [Ps3]; · iexact Ps3
      isplitl [Ps4]; · iexact Ps4
      isplitl [Ps5]; · iexact Ps5
      isplitl [Ps6]; · iexact Ps6
      iempintro
    isplitl [Pr0 Pr1 Pr2 Pr3 Pr4 Pr5 Pr6]
    · isplitl [Pr0]; · iexact Pr0
      isplitl [Pr1]; · iexact Pr1
      isplitl [Pr2]; · iexact Pr2
      isplitl [Pr3]; · iexact Pr3
      isplitl [Pr4]; · iexact Pr4
      isplitl [Pr5]; · iexact Pr5
      isplitl [Pr6]; · iexact Pr6
      iempintro
    isplitl [Pl]; · iexact Pl
    iempintro
  iexact HO

/-! ## The run -/

/-- A result, dealt in the devices' rows. -/
theorem split (c : Dev nD) : (c.tc.loc main_v1 ↦{fullShare} m (c.tc.loc main_v1) : sProp 𝕄)
    ⊢ bigSep Finset.univ fun t => c.tc.loc main_v1 ↦[(rows (place c t)).view.set]{fullShare} m (c.tc.loc main_v1) :=
  have h : ∀ s t : Fin 8, s ≠ t → Disjoint ((rows (place c s)).view.set : Finset (Idx (c.tc.loc main_v1 : Loc nD τ sig))) (rows (place c t)).view.set :=
    fun s t h => rows_disjoint _ _ (place_inj c s t h)
  deal_slices (T := Fin 8) (ℓ := (c.tc.loc main_v1 : Loc nD τ sig)) (fun t => (rows (place c t)).view.set) h _

/-- The arrays as the launch deals them. -/
theorem dealt : bigSep Finset.univ (fun c => Pipeline.unscopedRest (Ix := Unit) (Name := ℕ) (U := UU nD τ sig) (Lvl := ℕ) (τ := τ) (cfgs 0).spec c (fun b => m ((c.tc : Thread nD τ).loc b)))
    ⊢ (bigSep Finset.univ (arrays m) : sProp 𝕄) := by
  have h : ∀ c : Dev nD, (Pipeline.unscopedRest (Ix := Unit) (Name := ℕ) (U := UU nD τ sig) (Lvl := ℕ) (τ := τ) (cfgs 0).spec c (fun b => m ((c.tc : Thread nD τ).loc b)) : sProp 𝕄)
      ⊢ iprop(lent (c.tc.loc main_arg0) Finset.univ (m (c.tc.loc main_arg0))
        ∗ (c.tc.loc main_v1 ↦[(rows c).view.set]{fullShare} m (c.tc.loc main_v1))
        ∗ bigSep Finset.univ fun i => c.tc.loc main_v1 ↦[(rows (origin i c)).view.set]{fullShare} m (c.tc.loc main_v1)) := fun c => by
    refine (Entails.of_eq (unscopedRest0_eq c _)).trans ?_
    refine BIClass.sep_mono lent_intro ?_
    have h₂ := split m c
    rw [bigSep_fin_succ] at h₂
    exact h₂
  have e : (bigSep Finset.univ (arrays m) : sProp 𝕄) = bigSep Finset.univ fun c : Dev nD => iprop(lent (c.tc.loc main_arg0) Finset.univ (m (c.tc.loc main_arg0))
        ∗ (c.tc.loc main_v1 ↦[(rows c).view.set]{fullShare} m (c.tc.loc main_v1))
        ∗ bigSep Finset.univ fun i => c.tc.loc main_v1 ↦[(rows (origin i c)).view.set]{fullShare} m (c.tc.loc main_v1)) := by
    unfold arrays
    rw [bigSep_sep', bigSep_sep', bigSep_sep', bigSep_sep', deal_along peer fun c i =>
      (c.tc.loc main_v1 ↦[(rows (origin i c)).view.set]{fullShare} m (c.tc.loc main_v1) : sProp 𝕄)]
    rfl
  exact (bigSep_mono fun c _ => h c).trans (Entails.of_eq e.symm)

/-- The run: every device keeps its own weights and ends with every device's half in its result's rows, and every counter is
    back at zero. -/
theorem run_main (ρ : Dev nD → PrngReg) :
    θ_run (defs (F := F)) (onTc (τ := τ) (main (F := F))) ⟨m, fun _ => 0, ρ⟩ fun r =>
      (∀ c : Dev nD, r.2.mem (c.tc.loc main_arg0) = m (c.tc.loc main_arg0)
        ∧ ∀ t, (rows (place c t)).view.read (Elt F) (r.2.mem ((rows (place c t)).view.loc (c.tc : Thread nD τ))) = part m (place c t))
      ∧ r.2.sem = fun _ => 0 := by
  refine (θ_run defs _ _).mono (fun r h => ⟨h.1, sem_eq_zero_of_scoped (by decide) h.2⟩) ((plan m).run_exchange cfgs ownSem N_0 (fun _ => rfl) cellOf_inj winFacts0 defs₀ m ρ main (fun _ => rfl)
    (fun c => scopedRest0_eq c) (arrays m) (result m) (dealt m) (body m)
    (fun c μ => μ.mem (c.tc.loc main_arg0) = m (c.tc.loc main_arg0)
        ∧ ∀ t, (rows (place c t)).view.read (Elt F) (μ.mem ((rows (place c t)).view.loc (c.tc : Thread nD τ))) = part m (place c t))
    fun c s' => read_end c (c.tc.loc main_arg0) (m (c.tc.loc main_arg0)) (fun t => rows (place c t)) (fun t => part m (place c t)) s')

end Cert.Gat
-- ==== Proof.GatherRef.lean ====
/-
  The gather's reference: the whole array of weights, as it is. It runs no operation.
-/
module

public import proofs.«01_k».proof.Proof.Gen.GatherRefIdeal
public import Idealize.ShloMosaic.Lib.StableHlo.Run

@[expose] public section

noncomputable section

namespace Cert.Gat.Ref

open Cert.GatherRefIdeal
open Idealize.ShloMosaic
open Idealize.ShloMosaic.TcCoe
open Idealize.SL.Sem

variable {F : FTy → Type} [FloatOps F]

theorem no_scoped_refs : (Finset.univ.filter fun b : Ref sig .tc => b.isScoped) = ∅ := by decide
theorem no_scoped_sems : (Finset.univ.filter fun sm : SemLoc sig => sm.isScoped .tc) = ∅ := by decide

/-- It leaves its argument, which is its result. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (StableHlo.run_seq no_scoped_refs no_scoped_sems defs main (fun _ => []) (fun _ => rfl) (fun _ => trivial) m ρ)

end Cert.Gat.Ref

end
-- ==== Proof.GatherValue.lean ====
/-
  The gather of the weights: what it computes, and the claims about it.

  Device `d`'s half is rows `11776 d` to `11776 (d + 1)` of the whole array, so a result whose rows are the devices' halves in
  order is the whole array.
-/
module

public import proofs.«01_k».proof.Defs
public import proofs.«01_k».proof.Proof.Rows
public import proofs.«01_k».proof.Proof.GatherRun
public import proofs.«01_k».proof.Proof.GatherRef
public import proofs.«01_k».proof.Proof.Gen.Gather
public import proofs.«01_k».proof.Proof.Gen.GatherRef

@[expose] public section

set_option Elab.async false

noncomputable section

namespace Cert.Gat

open Cert.GatherIdeal Cert.GatherIdeal.Gen Cert.Exchange
open Idealize.ShloMosaic
open Idealize.ShloMosaic.TcCoe
open Idealize.SL.Sem

variable {F : FTy → Type} [FloatOps F]

theorem row_lt (d : Dev nD) (r : Fin 11776) : 11776 * d.val + r.val < 94208 := by
  have : d.val < 8 := d.isLt
  omega

theorem rows_at (f : S94208x512.Idx → Elt F .bf16) (d : Dev nD) (r : Fin 11776) (l : Fin 512) :
    (rows d).view.read (Elt F) f (ix2 r l) = f (ix2 (⟨11776 * d.val + r.val, row_lt d r⟩ : Fin 94208) l) :=
  rows_read (Memref.whole main_v1) (offset d) (offset_inb d) (fun _ => rfl) f (11776 * d.val) rfl r l (row_lt d r)

theorem half_lt (c : Dev nD) (r : Fin 11776) : 11776 * (c.val % 2) + r.val < 23552 := by omega

theorem own_at (f : S23552x512.Idx → Elt F .bf16) (c : Dev nD) (r : Fin 11776) (l : Fin 512) :
    (own c).view.read (Elt F) f (ix2 r l) = f (ix2 (⟨11776 * (c.val % 2) + r.val, half_lt c r⟩ : Fin 23552) l) :=
  rows_read (Memref.whole main_arg0) (k0_off2 c) (k0_off2_inb c) (fun _ => rfl) f (11776 * (c.val % 2)) (k0_off2_eq c) r l (half_lt c r)

/-- Device `d`'s half of a whole array. -/
theorem part_at (m : (ℓ : Loc nD τ sig) → Buf (Elt F) ℓ) (X : S94208x512.Idx → Elt F .bf16)
    (hX : ∀ c : Dev nD, m (c.tc.loc main_arg0) = Layout.blockN ⟨2, ![23552, 512]⟩ ⟨2, ![94208, 512]⟩ (Layout.meshBlock [2, 2, 2] ![[0, 1], []] c) X)
    (d : Dev nD) (r : Fin 11776) (l : Fin 512) :
    part m d (ix2 r l) = X (ix2 (⟨11776 * d.val + r.val, row_lt d r⟩ : Fin 94208) l) := by
  unfold part
  rw [hX]
  refine (own_at _ d r l).trans ?_
  refine congrArg X (funext fun a => Fin.ext ?_)
  match a with
  | ⟨0, _⟩ =>
    have h : ∀ d : Dev nD, Layout.meshLin [2, 2, 2] d.val [0, 1] = d.val / 2 := by decide
    show Layout.meshLin [2, 2, 2] d.val [0, 1] * 23552 + (11776 * (d.val % 2) + r.val) = 11776 * d.val + r.val
    rw [h]; omega
  | ⟨1, _⟩ => show 0 * 512 + l.val = l.val; omega

/-- A result with every device's half in its rows is the whole array. -/
theorem value (m : (ℓ : Loc nD τ sig) → Buf (Elt F) ℓ) (X : S94208x512.Idx → Elt F .bf16)
    (hX : ∀ c : Dev nD, m (c.tc.loc main_arg0) = Layout.blockN ⟨2, ![23552, 512]⟩ ⟨2, ![94208, 512]⟩ (Layout.meshBlock [2, 2, 2] ![[0, 1], []] c) X)
    (c : Dev nD) (f : S94208x512.Idx → Elt F .bf16) (hf : ∀ t, (rows (place c t)).view.read (Elt F) f = part m (place c t)) : f = X := by
  funext i
  obtain ⟨n, l, rfl⟩ : ∃ (n : Fin 94208) (l : Fin 512), i = ix2 n l := ⟨i 0, i 1, eq_ix2 i⟩
  obtain ⟨t, ht⟩ := place_covers c ⟨n.val / 11776, by show _ < 8; have := n.isLt; omega⟩
  have h := congrFun (hf t) (ix2 (⟨n.val % 11776, by omega⟩ : Fin 11776) l)
  rw [rows_at, part_at m X hX, ht] at h
  have e : n = (⟨11776 * (n.val / 11776) + n.val % 11776, by have := n.isLt; omega⟩ : Fin 94208) := Fin.ext (by show n.val = 11776 * (n.val / 11776) + n.val % 11776; omega)
  rw [e]
  exact h

/-! ## The claims -/

theorem frame_kernel : Cert.quiescent_Gather (hGather := Cert.Gather.Gen.facts) := fun m ρ _ =>
  (θ_run Cert.GatherIdeal.defs _ _).mono (fun _ h => ⟨fun c => (h.1 c).1, h.2⟩) (run_main (F := Bits) m ρ)

theorem frame_ideal : Cert.quiescent_GatherIdeal (hGatherIdeal := Cert.GatherIdeal.Gen.facts) := fun m ρ _ =>
  (θ_run Cert.GatherIdeal.defs _ _).mono (fun _ h => ⟨fun c => (h.1 c).1, h.2⟩) (run_main (F := Ideal) m ρ)

theorem frame_reference : Cert.quiescent_GatherRefIdeal (hGatherRefIdeal := Cert.GatherRefIdeal.Gen.facts) := fun m ρ _ =>
  (θ_run Cert.GatherRefIdeal.defs _ _).mono (fun r h => ⟨h, sem_eq_zero_of_no_sems (by decide) r.2⟩) (Ref.run (F := Ideal) m ρ)

theorem frame_reference_bits : Cert.quiescent_GatherRef (hGatherRef := Cert.GatherRef.Gen.facts) := fun m ρ _ =>
  (θ_run Cert.GatherRefIdeal.defs _ _).mono (fun r h => ⟨h, sem_eq_zero_of_no_sems (by decide) r.2⟩) (Ref.run (F := Bits) m ρ)

theorem algebraic : Cert.algebraic_GatherIdeal_GatherRefIdeal (hGatherIdeal := Cert.GatherIdeal.Gen.facts)
    (hGatherRefIdeal := Cert.GatherRefIdeal.Gen.facts) := fun m ρ m' ρ' _ hX =>
  ⟨m' (((0 : Dev Cert.GatherRefIdeal.nD).tc : Thread Cert.GatherRefIdeal.nD Cert.GatherRefIdeal.τ).loc Cert.GatherRefIdeal.main_arg0),
    (θ_run Cert.GatherIdeal.defs _ _).mono (fun _ h c => ⟨value m _ hX c _ (h.1 c).2, (h.1 c).1⟩) (run_main (F := Ideal) m ρ),
    (θ_run Cert.GatherRefIdeal.defs _ _).mono (fun _ h => ⟨h 0, h 0⟩) (Ref.run (F := Ideal) m' ρ')⟩

theorem bitexact : Cert.bitexact_Gather_GatherRef (hGather := Cert.Gather.Gen.facts)
    (hGatherRef := Cert.GatherRef.Gen.facts) := fun m ρ m' ρ' _ hX =>
  ⟨m' (((0 : Dev Cert.GatherRefIdeal.nD).tc : Thread Cert.GatherRefIdeal.nD Cert.GatherRefIdeal.τ).loc Cert.GatherRefIdeal.main_arg0),
    (θ_run Cert.GatherIdeal.defs _ _).mono (fun _ h c => ⟨value m _ hX c _ (h.1 c).2, (h.1 c).1⟩) (run_main (F := Bits) m ρ),
    (θ_run Cert.GatherRefIdeal.defs _ _).mono (fun _ h => ⟨h 0, h 0⟩) (Ref.run (F := Bits) m' ρ')⟩

end Cert.Gat

end
-- ==== Proof.SiblingRun.lean ====
/-
  The exchange of the gradients' halves between the two cores of a chip: its protocol and its run.

  Device `c` sends, of the four pairs of halves in its array, the half `2j + 1 - core` of pair `j` to its sibling, into
  block `j` of the sibling's result. Four transfers, all started before any is awaited; a device waits for the four that
  come to it and then for its own four to have been read.
-/
module

public import proofs.«01_k».proof.Defs
public import proofs.«01_k».proof.Proof.Slabs
public import proofs.«01_k».proof.Proof.Gen.SiblingIdeal
public import proofs.«01_k».proof.Proof.Gen.SiblingIdeal.Skeleton
public import proofs.«01_k».proof.Proof.Gen.SiblingIdeal.Launch

@[expose] public section

set_option Elab.async false

noncomputable section

namespace Cert.Sib

open Cert.SiblingIdeal Cert.SiblingIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Who sends what to whom -/

/-- The other core of the chip. -/
def sibling : Equiv.Perm (Dev nD) :=
  Function.Involutive.toPerm (fun c => ⟨(4 * (c.val / 4) + 2 * ((c.val / 2) % 2) + 1) - c.val % 2, by
    have := c.isLt; show _ < 8; have : c.val < 8 := c.isLt; omega⟩) (by intro c; revert c; decide)

theorem dev1 (c : Dev nD) : (⟨k0_dev1 c, k0_dev1_lt c⟩ : Dev nD) = sibling c := Fin.ext (k0_dev1_eq c)
theorem dev2 (c : Dev nD) : (⟨k0_dev2 c, k0_dev2_lt c⟩ : Dev nD) = sibling c := Fin.ext (k0_dev2_eq c)
theorem dev3 (c : Dev nD) : (⟨k0_dev3 c, k0_dev3_lt c⟩ : Dev nD) = sibling c := Fin.ext (k0_dev3_eq c)
theorem dev4 (c : Dev nD) : (⟨k0_dev4 c, k0_dev4_lt c⟩ : Dev nD) = sibling c := Fin.ext (k0_dev4_eq c)

/-- The half of pair `j` that device `c` sends. -/
def half (c : Dev nD) (j : Fin 4) : Memref sig .tc .hbm S11776x512 .f32 :=
  ((Memref.whole main_arg0).slice (Rect.unit (s := S8x11776x512) (k0_off1 c (BitVec.ofNat 32 (2 * j.val))) S1x11776x512.size
    (k0_off1_inb c j)) (fun _ => rfl)).squeeze S11776x512 squeezes_S1x11776x512_S11776x512

theorem block_inb (j : Fin 4) : ∀ a, (![j.val, 0, 0] : Fin 3 → Nat) a + S1x11776x512.size a ≤ S4x11776x512.size a := by
  revert j; decide

/-- Block `j` of the result. -/
def block (j : Fin 4) : Memref sig .tc .hbm S11776x512 .f32 :=
  ((Memref.whole main_v1).slice (Rect.unit (s := S4x11776x512) ![j.val, 0, 0] S1x11776x512.size (block_inb j))
    (fun _ => rfl)).squeeze S11776x512 squeezes_S1x11776x512_S11776x512

theorem block_disjoint (i j : Fin 4) (h : i ≠ j) : Disjoint (block i).view.set (block j).view.set := by
  unfold block
  simp only [Memref.squeeze, Memref.slice, View.set_reshape]
  refine View.disjoint_slice (Rect.unit_disjoint 0 ?_)
  have : i.val ≠ j.val := fun e => h (Fin.ext e)
  show i.val + 1 ≤ j.val ∨ j.val + 1 ≤ i.val
  omega

variable (m : (ℓ : Loc nD τ sig) → Buf (Elt F) ℓ)

/-- What block `j` of device `c`'s result holds at the end: the half that its sibling sent. -/
def landed (c : Dev nD) (j : Fin 4) : S11776x512.Idx → Elt F .f32 :=
  (half (sibling c) j).view.read (Elt F) (m ((sibling c).tc.loc main_arg0))

/-! ## The protocol -/

def cellSem : Cells 4 0 → SemLoc sig
  | .inl j => .dma ⟨j.val, by have := j.isLt; show _ < 8; omega⟩
  | .inr (.inl j) => .dma ⟨4 + j.val, by have := j.isLt; show _ < 8; omega⟩
  | .inr (.inr j) => j.elim0

theorem ownSem : Pipeline.OwnSemFacts (cfgs 0).spec cellSem := by decide

/-- The size of a transfer, as its counters see it. -/
def size : ℕ := (block 0).view.dmaCredit

def pay (c : Dev nD) : Cells 4 0 → sProp 𝕄
  | .inr (.inl j) => holds c (block j) (landed m c j)
  | _ => iprop(emp)

instance pay_storable (c : Dev nD) (k : Cells 4 0) : Storable (upEmb : UEmb _ 𝕄) (pay m c k) := by
  rcases k with j | j | j <;> unfold pay <;> infer_instance

def plan : Plan nD τ sig (Elt F) 4 0 where
  sem := cellSem
  sem_inj := ownSem.inj
  peer := fun _ => sibling
  size := size
  size_pos := View.dmaCredit_pos _ (by decide)
  lvl := fun _ => 0
  pay := pay m
  pay_storable := fun c k => pay_storable m c k

/-! ## The body -/

/-- The arrays a device starts from: its own, lent, and the blocks of its sibling's result. -/
def arrays (c : Dev nD) : sProp 𝕄 :=
  iprop(lent (c.tc.loc main_arg0) Finset.univ (m (c.tc.loc main_arg0))
    ∗ bigSep Finset.univ fun j => (sibling c).tc.loc main_v1 ↦[(block j).view.set]{fullShare} m ((sibling c).tc.loc main_v1))

/-- What it ends with. -/
def result (c : Dev nD) : sProp 𝕄 :=
  iprop(lent (c.tc.loc main_arg0) Finset.univ (m (c.tc.loc main_arg0))
    ∗ bigSep Finset.univ fun j => holds c (block j) (landed m c j))

/-- One transfer, started. -/
theorem put (κ : Dev nD × Cells 4 0 → ℕ) (c n : Dev nD) (j : Fin 4) (S : Finset (Fin 4)) (hj : j ∈ S) (hn : n = sibling c)
    {src dst : Memref sig .tc .hbm S11776x512 .f32} (hs : src = half c j) (hd : dst = block j)
    {hsc : dst.view.ref.isScScratch = false} {sS sR : DmaSem sig} (hS : SemLoc.dma sS = cellSem (.inl j)) (hR : SemLoc.dma sR = cellSem (.inr (.inl j)))
    {hsrc : src.view.WordExact} {hdst : dst.view.WordExact}
    {hsem : DmaTarget.Typed .hbm (SemLoc.dma sR) (.remote (n.tc : Thread nD τ) dst (SemLoc.dma sS) hsc)}
    {α : Type} {k : PUnit → Prog (TpuEff nD τ sig (Elt F) Λ₀ .tc) α} {Q : α → sProp (MT nD τ sig Unit (Elt F) ℕ (UU nD τ sig) ℕ)} :
    iprop((plan m).records κ ∗ lent (c.tc.loc main_arg0) Finset.univ (m (c.tc.loc main_arg0))
        ∗ ((sibling c).tc.loc main_v1 ↦[(block j).view.set]{fullShare} m ((sibling c).tc.loc main_v1))
        ∗ (plan m).owe c S ∗ (plan m).right c j)
      ⊢ iprop(((lent (c.tc.loc main_arg0) Finset.univ (m (c.tc.loc main_arg0)) ∗ (plan m).coming c (.inl j) ∗ (plan m).owe c (S.erase j))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.remote (n.tc : Thread nD τ) dst (SemLoc.dma sS) hsc) (SemLoc.dma sR) hsrc hdst hsem) k) Q) := by
  subst hn hs hd
  iintro ⟨#HR, Hl, Hd, HO, Ht⟩ Hk
  have hc : (lent (c.tc.loc main_arg0) Finset.univ (m (c.tc.loc main_arg0)) : sProp 𝕄)
      ⊢ iprop(lent ((half c j).view.loc (c.tc : Thread nD τ)) (half c j).view.set (m (c.tc.loc main_arg0))
        ∗ lent (c.tc.loc main_arg0) Finset.univ (m (c.tc.loc main_arg0))) :=
    lent_carve (Finset.subset_univ (half c j).view.set) (m (c.tc.loc main_arg0))
  ihave H := hc $$ Hl
  icases H with ⟨Hs, Hl⟩
  unfold lent
  icases Hs with ⟨%q, Hs⟩
  iapply ((plan m).wp_put Variants.none none κ c (sibling c) j S hj rfl hS hR (q := q) (fs := m (c.tc.loc main_arg0))
    (fd := m ((sibling c).tc.loc main_v1)) rfl (by show _ ⊢ iprop(emp); iintro -; iempintro)
    (by
      have e : landed m (sibling c) j = (half c j).view.read (Elt F) (m (c.tc.loc main_arg0)) := by
        unfold landed; rw [show sibling (sibling c) = c from sibling.symm_apply_apply c]
      refine (holds_landed (sibling c) (block j) _ _).trans ?_
      rw [← e]; exact .rfl)) $$ [Hs Hd HO Ht] [Hl Hk]
  · isplitr; · iexact HR
    isplitl [Hs]; · iexact Hs
    isplitl [Hd]; · iexact Hd
    isplitl [HO]; · iexact HO
    iexact Ht
  · iintro ⟨Hc, HO⟩
    iapply Hk
    isplitl [Hl]; · iexact Hl
    isplitl [Hc]; · iexact Hc
    iexact HO

/-- One wait. -/
theorem take (κ : Dev nD × Cells 4 0 → ℕ) (c : Dev nD) (k : Cells 4 0)
    (src dst : Memref sig .tc .hbm S11776x512 .f32) {sm : DmaSem sig} (hm : SemLoc.dma sm = cellSem k)
    {hsrc : src.view.WordExact} {hdst : dst.view.WordExact} (hN : dst.view.dmaCredit = size) {V : sProp (MT nD τ sig Unit (Elt F) ℕ (UU nD τ sig) ℕ)} (hV : pay m c k = V)
    {α : Type} {f : PUnit → Prog (TpuEff nD τ sig (Elt F) Λ₀ .tc) α} {Q : α → sProp (MT nD τ sig Unit (Elt F) ℕ (UU nD τ sig) ℕ)} :
    iprop((plan m).records κ ∗ (plan m).coming c k ∗ (plan m).owe c ∅ ∗ (plan m).fresh c k)
      ⊢ iprop((((plan m).owe c ∅ ∗ (plan m).spent c k ∗ V)
            -∗ wp frame (wpE (defs₀ (F := F)) Variants.none (c.tc : Thread nD τ) none) Set.univ (f ⟨⟩) Q)
          -∗ wp frame (wpE (defs₀ (F := F)) Variants.none (c.tc : Thread nD τ) none) Set.univ
              (.op (.waitDma2 sm src dst hsrc hdst) f) Q) :=
  hV ▸ (plan m).wp_take Variants.none none κ c k ∅ (fun _ h => absurd h (Finset.notMem_empty _)) hm hN

set_option maxRecDepth 65536 in
/-- The body of device `c`. -/
theorem body (κ : Dev nD × Cells 4 0 → ℕ) (c : Dev nD) (t : Fin cfg0.N) :
    iprop((plan m).records κ ∗ (plan m).start c ∗ (plan m).claims c ∗ (plan m).owe c Finset.univ ∗ arrays m c)
      ⊢ wp frame (wpE (defs₀ (F := F)) Variants.none (c.tc : Thread nD τ) none) Set.univ
          (defs₀ .tc cfg0.body (cfg0.bodyArgs t (cfg0.slots t)))
          fun _ => iprop((result m c ∗ Pipeline.ownSems0 cellSem c) ∗ ∃ W', owes (c.tc : Thread nD τ) 0 W') := by
  change _ ⊢ wp frame _ Set.univ (cc0_reduce_sibling_4 (Memref.whole main_arg0) (Memref.isWhole_whole _) (Memref.whole main_v1) (Memref.isWhole_whole _) cc0_scratch0 cc0_scratch1) _
  simp only [cc0_reduce_sibling_4_eq_skeleton]
  unfold cc0_reduce_sibling_4_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold Plan.start Plan.claims arrays
  simp only [bigSep_cells, bigSep_four, bigSep_fin_zero]
  iintro ⟨#HR, ⟨⟨⟨Fs0, Fs1, Fs2, Fs3, -⟩, ⟨Fr0, Fr1, Fr2, Fr3, -⟩, -⟩, ⟨T0, T1, T2, T3, -⟩, -⟩, ⟨C0, C1, C2, C3, -⟩, HO, HL, ⟨D0, D1, D2, D3, -⟩⟩
  iapply (put m κ c ⟨k0_dev1 c, k0_dev1_lt c⟩ 0 Finset.univ (by decide) (dev1 c) rfl rfl rfl rfl) $$ [HL D0 HO T0]
  · isplitr; · iexact HR
    isplitl [HL]; · iexact HL
    isplitl [D0]; · iexact D0
    isplitl [HO]; · iexact HO
    iexact T0
  iintro ⟨HL, S0, HO⟩
  iapply (put m κ c ⟨k0_dev2 c, k0_dev2_lt c⟩ 1 (Finset.univ.erase 0) (by decide) (dev2 c) rfl rfl rfl rfl) $$ [HL D1 HO T1]
  · isplitr; · iexact HR
    isplitl [HL]; · iexact HL
    isplitl [D1]; · iexact D1
    isplitl [HO]; · iexact HO
    iexact T1
  iintro ⟨HL, S1, HO⟩
  iapply (put m κ c ⟨k0_dev3 c, k0_dev3_lt c⟩ 2 ((Finset.univ.erase 0).erase 1) (by decide) (dev3 c) rfl rfl rfl rfl) $$ [HL D2 HO T2]
  · isplitr; · iexact HR
    isplitl [HL]; · iexact HL
    isplitl [D2]; · iexact D2
    isplitl [HO]; · iexact HO
    iexact T2
  iintro ⟨HL, S2, HO⟩
  iapply (put m κ c ⟨k0_dev4 c, k0_dev4_lt c⟩ 3 (((Finset.univ.erase 0).erase 1).erase 2) (by decide) (dev4 c) rfl rfl rfl rfl) $$ [HL D3 HO T3]
  · isplitr; · iexact HR
    isplitl [HL]; · iexact HL
    isplitl [D3]; · iexact D3
    isplitl [HO]; · iexact HO
    iexact T3
  iintro ⟨HL, S3, HO⟩
  rw [show ((((Finset.univ.erase 0).erase 1).erase 2).erase 3 : Finset (Fin 4)) = ∅ by decide]
  iapply (take m κ c (.inr (.inl 0)) (half c 0) (block 0) rfl rfl (V := holds c (block 0) (landed m c 0)) rfl) $$ [C0 HO Fr0]
  · isplitr; · iexact HR
    isplitl [C0]; · iexact C0
    isplitl [HO]; · iexact HO
    iexact Fr0
  iintro ⟨HO, Pr0, V0⟩
  iapply (take m κ c (.inr (.inl 1)) (half c 1) (block 1) rfl rfl (V := holds c (block 1) (landed m c 1)) rfl) $$ [C1 HO Fr1]
  · isplitr; · iexact HR
    isplitl [C1]; · iexact C1
    isplitl [HO]; · iexact HO
    iexact Fr1
  iintro ⟨HO, Pr1, V1⟩
  iapply (take m κ c (.inr (.inl 2)) (half c 2) (block 2) rfl rfl (V := holds c (block 2) (landed m c 2)) rfl) $$ [C2 HO Fr2]
  · isplitr; · iexact HR
    isplitl [C2]; · iexact C2
    isplitl [HO]; · iexact HO
    iexact Fr2
  iintro ⟨HO, Pr2, V2⟩
  iapply (take m κ c (.inr (.inl 3)) (half c 3) (block 3) rfl rfl (V := holds c (block 3) (landed m c 3)) rfl) $$ [C3 HO Fr3]
  · isplitr; · iexact HR
    isplitl [C3]; · iexact C3
    isplitl [HO]; · iexact HO
    iexact Fr3
  iintro ⟨HO, Pr3, V3⟩
  iapply (take m κ c (.inl 0) (block 0) (half c 0) rfl rfl rfl) $$ [S0 HO Fs0]
  · isplitr; · iexact HR
    isplitl [S0]; · iexact S0
    isplitl [HO]; · iexact HO
    iexact Fs0
  iintro ⟨HO, Ps0, -⟩
  iapply (take m κ c (.inl 1) (block 1) (half c 1) rfl rfl rfl) $$ [S1 HO Fs1]
  · isplitr; · iexact HR
    isplitl [S1]; · iexact S1
    isplitl [HO]; · iexact HO
    iexact Fs1
  iintro ⟨HO, Ps1, -⟩
  iapply (take m κ c (.inl 2) (block 2) (half c 2) rfl rfl rfl) $$ [S2 HO Fs2]
  · isplitr; · iexact HR
    isplitl [S2]; · iexact S2
    isplitl [HO]; · iexact HO
    iexact Fs2
  iintro ⟨HO, Ps2, -⟩
  iapply (take m κ c (.inl 3) (block 3) (half c 3) rfl rfl rfl) $$ [S3 HO Fs3]
  · isplitr; · iexact HR
    isplitl [S3]; · iexact S3
    isplitl [HO]; · iexact HO
    iexact Fs3
  iintro ⟨HO, Ps3, -⟩
  iapply ((plan m).wp_done Variants.none none κ c (result m c))
  unfold result
  simp only [bigSep_cells, bigSep_four, bigSep_fin_zero]
  isplitr; · iexact HR
  isplitl [HL V0 V1 V2 V3]
  · isplitl [HL]; · iexact HL
    isplitl [V0]; · iexact V0
    isplitl [V1]; · iexact V1
    isplitl [V2]; · iexact V2
    isplitl [V3]; · iexact V3
    iempintro
  isplitr [HO]
  · isplitl [Ps0 Ps1 Ps2 Ps3]
    · isplitl [Ps0]; · iexact Ps0
      isplitl [Ps1]; · iexact Ps1
      isplitl [Ps2]; · iexact Ps2
      isplitl [Ps3]; · iexact Ps3
      iempintro
    isplitl [Pr0 Pr1 Pr2 Pr3]
    · isplitl [Pr0]; · iexact Pr0
      isplitl [Pr1]; · iexact Pr1
      isplitl [Pr2]; · iexact Pr2
      isplitl [Pr3]; · iexact Pr3
      iempintro
    iempintro
  iexact HO

/-! ## The run -/

/-- A result, dealt in its blocks. -/
theorem split (c : Dev nD) : (c.tc.loc main_v1 ↦{fullShare} m (c.tc.loc main_v1) : sProp 𝕄)
    ⊢ bigSep Finset.univ fun j => c.tc.loc main_v1 ↦[(block j).view.set]{fullShare} m (c.tc.loc main_v1) :=
  have h : ∀ i j : Fin 4, i ≠ j → Disjoint ((block i).view.set : Finset (Idx (c.tc.loc main_v1 : Loc nD τ sig))) (block j).view.set :=
    block_disjoint
  deal_slices (T := Fin 4) (ℓ := (c.tc.loc main_v1 : Loc nD τ sig)) (fun j => (block j).view.set) h _

/-- The arrays as the launch deals them. -/
theorem dealt : bigSep Finset.univ (fun c => Pipeline.unscopedRest (Ix := Unit) (Name := ℕ) (U := UU nD τ sig) (Lvl := ℕ) (τ := τ) (cfgs 0).spec c (fun b => m ((c.tc : Thread nD τ).loc b)))
    ⊢ (bigSep Finset.univ (arrays m) : sProp 𝕄) := by
  have h : ∀ c : Dev nD, (Pipeline.unscopedRest (Ix := Unit) (Name := ℕ) (U := UU nD τ sig) (Lvl := ℕ) (τ := τ) (cfgs 0).spec c (fun b => m ((c.tc : Thread nD τ).loc b)) : sProp 𝕄)
      ⊢ iprop(lent (c.tc.loc main_arg0) Finset.univ (m (c.tc.loc main_arg0))
        ∗ bigSep Finset.univ fun j => c.tc.loc main_v1 ↦[(block j).view.set]{fullShare} m (c.tc.loc main_v1)) := fun c => by
    refine (Entails.of_eq (unscopedRest0_eq c _)).trans ?_
    exact BIClass.sep_mono lent_intro (split m c)
  have e : (bigSep Finset.univ (arrays m) : sProp 𝕄) = bigSep Finset.univ fun c : Dev nD => iprop(lent (c.tc.loc main_arg0) Finset.univ (m (c.tc.loc main_arg0))
        ∗ bigSep Finset.univ fun j => c.tc.loc main_v1 ↦[(block j).view.set]{fullShare} m (c.tc.loc main_v1)) := by
    unfold arrays
    rw [bigSep_sep', bigSep_sep', deal_along (fun _ => sibling) fun c j =>
      (c.tc.loc main_v1 ↦[(block j).view.set]{fullShare} m (c.tc.loc main_v1) : sProp 𝕄)]
  exact (bigSep_mono fun c _ => h c).trans (Entails.of_eq e.symm)

/-- The run: every device keeps its own array and ends with its sibling's halves in its result's blocks, and every counter
    is back at zero. -/
theorem run_main (ρ : Dev nD → PrngReg) :
    θ_run (defs (F := F)) (onTc (τ := τ) (main (F := F))) ⟨m, fun _ => 0, ρ⟩ fun r =>
      (∀ c : Dev nD, r.2.mem (c.tc.loc main_arg0) = m (c.tc.loc main_arg0)
        ∧ ∀ j, (block j).view.read (Elt F) (r.2.mem (c.tc.loc main_v1)) = landed m c j)
      ∧ r.2.sem = fun _ => 0 := by
  refine (θ_run defs _ _).mono (fun r h => ⟨h.1, sem_eq_zero_of_scoped (by decide) h.2⟩) ((plan m).run_exchange cfgs ownSem N_0 (fun _ => rfl) cellOf_inj winFacts0 defs₀ m ρ main (fun _ => rfl)
    (fun c => scopedRest0_eq c) (arrays m) (result m) (dealt m) (body m)
    (fun c μ => μ.mem (c.tc.loc main_arg0) = m (c.tc.loc main_arg0)
        ∧ ∀ j, (block j).view.read (Elt F) (μ.mem (c.tc.loc main_v1)) = landed m c j)
    fun c s' => read_end c (c.tc.loc main_arg0) (m (c.tc.loc main_arg0)) block (landed m c) s')

end Cert.Sib
-- ==== Proof.SiblingRefAt.lean ====
/-
  The reference of the exchange of the gradients' halves, read at an index.
-/
module

public import proofs.«01_k».proof.Proof.Rows
public import proofs.«01_k».proof.Proof.Gen.SiblingRefIdeal.Run

@[expose] public section

set_option Elab.async false

noncomputable section

namespace Cert.Sib

open Cert.SiblingRefIdeal Cert.SiblingRefIdeal.Gen
open Idealize.ShloMosaic

variable {F : FTy → Type} [FloatOps F]

/-- The reference's result, as a function of its argument. -/
def stacked (X : S64x11776x512.Idx → Elt F .f32) : S32x11776x512.Idx → Elt F .f32 :=
  shapeCast _ (concatenate S4x2x4x11776x512 1 [⟨S4x1x4x11776x512, (broadcastInDim S4x1x4x11776x512 ![0, 2, 3, 4] bcast_S4x4x11776x512_S4x1x4x11776x512_0_2_3_4 (shapeCast _ (extractStridedSlice S4x1x4x1x11776x512 ![0, 1, 0, 0, 0, 0] (shapeCast _ X shapeCasts_S64x11776x512_S4x2x4x2x11776x512) slices_S4x2x4x2x11776x512_S4x1x4x1x11776x512_0_1_0_0_0_0) shapeCasts_S4x1x4x1x11776x512_S4x4x11776x512))⟩, ⟨S4x1x4x11776x512, (broadcastInDim S4x1x4x11776x512 ![0, 2, 3, 4] bcast_S4x4x11776x512_S4x1x4x11776x512_0_2_3_4 (shapeCast _ (extractStridedSlice S4x1x4x1x11776x512 ![0, 0, 0, 1, 0, 0] (shapeCast _ X shapeCasts_S64x11776x512_S4x2x4x2x11776x512) slices_S4x2x4x2x11776x512_S4x1x4x1x11776x512_0_0_0_1_0_0) shapeCasts_S4x1x4x1x11776x512_S4x4x11776x512))⟩] concatenates_S4x1x4x11776x512_S4x1x4x11776x512_S4x2x4x11776x512_d1) shapeCasts_S4x2x4x11776x512_S32x11776x512

/-- Which of the 64 halves block `j` of device `c` is. -/
def source (c : Fin 8) (j : Fin 4) : Fin 64 := ⟨8 * (4 * (c.val / 4) + 2 * ((c.val / 2) % 2) + 1 - c.val % 2) + 2 * j.val + c.val % 2, by omega⟩

set_option maxRecDepth 16384 in
/-- Row `(r, l)` of block `j` of device `c`, in the reference's result. -/
theorem stacked_at (X : S64x11776x512.Idx → Elt F .f32) (c : Fin 8) (j : Fin 4) (r : Fin 11776) (l : Fin 512) :
    stacked X (ix3 (⟨4 * c.val + j.val, by omega⟩ : Fin 32) r l) = X (ix3 (source c j) r l) := by
  unfold stacked
  pointwise
  split
  · refine congrArg (fun k => X (ix3 k r l)) (Fin.ext ?_)
    simp only [source]; omega
  · refine congrArg (fun k => X (ix3 k r l)) (Fin.ext ?_)
    simp only [source]; omega

end Cert.Sib

end
-- ==== Proof.SiblingValue.lean ====
/-
  The exchange of the gradients' halves: what it computes.

  Block `j` of device `c`'s result is half `2j + core` of the sibling's array, which is what the reference's stack of the
  halves holds there.
-/
module

public import proofs.«01_k».proof.Proof.SiblingRun
public import proofs.«01_k».proof.Proof.SiblingRefAt

@[expose] public section

set_option Elab.async false

noncomputable section

namespace Cert.Sib

open Cert.SiblingIdeal Cert.SiblingIdeal.Gen Cert.Exchange
open Idealize.ShloMosaic
open Idealize.ShloMosaic.TcCoe
open Idealize.SL.Sem

variable {F : FTy → Type} [FloatOps F]

theorem block_at (f : S4x11776x512.Idx → Elt F .f32) (j : Fin 4) (r : Fin 11776) (l : Fin 512) :
    (block j).view.read (Elt F) f (ix2 r l) = f (ix3 j r l) :=
  slab_read (Memref.whole main_v1) ![j.val, 0, 0] (block_inb j) (fun _ => rfl) squeezes_S1x11776x512_S11776x512 f j rfl r l

theorem half_at (f : S8x11776x512.Idx → Elt F .f32) (c : Dev nD) (j : Fin 4) (r : Fin 11776) (l : Fin 512) :
    (half c j).view.read (Elt F) f (ix2 r l) = f (ix3 (⟨2 * j.val + 1 - c.val % 2, by omega⟩ : Fin 8) r l) :=
  slab_read (Memref.whole main_arg0) _ (k0_off1_inb c j) (fun _ => rfl) squeezes_S1x11776x512_S11776x512 f _ (k0_off1_eq c j) r l

/-- The blocks that arrived are the device's block of the reference's result. -/
theorem value (m : (ℓ : Loc nD τ sig) → Buf (Elt F) ℓ) (X : Cert.SiblingRefIdeal.S64x11776x512.Idx → Elt F .f32)
    (hX : ∀ c : Dev nD, m (c.tc.loc main_arg0) = Layout.block ⟨3, ![8, 11776, 512]⟩ ⟨3, ![64, 11776, 512]⟩ 0 8 c X)
    (c : Dev nD) (f : S4x11776x512.Idx → Elt F .f32) (hf : ∀ j, (block j).view.read (Elt F) f = landed m c j) :
    f = Layout.block ⟨3, ![4, 11776, 512]⟩ ⟨3, ![32, 11776, 512]⟩ 0 8 c (stacked X) := by
  funext i
  obtain ⟨j, r, l, rfl⟩ : ∃ (j : Fin 4) (r : Fin 11776) (l : Fin 512), i = ix3 j r l := ⟨i 0, i 1, i 2, eq_ix3 i⟩
  have h := congrFun (hf j) (ix2 r l)
  rw [block_at] at h
  rw [h]
  unfold landed
  rw [hX]
  refine (half_at _ _ _ _ _).trans ?_
  rw [Layout.block_apply, Layout.block_apply]
  have e : Layout.Tiles.idx (S := ⟨3, ![4, 11776, 512]⟩) (T := ⟨3, ![32, 11776, 512]⟩) (a := 0) (k := 8) (by decide) c (ix3 j r l)
      = ix3 (⟨4 * c.val + j.val, by have : c.val < 8 := c.isLt; omega⟩ : Fin 32) r l := by
    funext a; refine Fin.ext ?_
    match a with
    | ⟨0, _⟩ => show c.val * 4 + j.val = 4 * c.val + j.val; omega
    | ⟨1, _⟩ => rfl
    | ⟨2, _⟩ => rfl
  refine Eq.trans ?_ ((congrArg (stacked X) e).trans (stacked_at X c j r l)).symm
  refine congrArg X (funext fun a => Fin.ext ?_)
  have : c.val < 8 := c.isLt
  match a with
  | ⟨0, _⟩ =>
    show (sibling c).val * 8 + (2 * j.val + 1 - (sibling c).val % 2) = (source c j).val
    simp only [source, sibling, Function.Involutive.coe_toPerm]
    omega
  | ⟨1, _⟩ => rfl
  | ⟨2, _⟩ => rfl

end Cert.Sib

end
-- ==== Proof.SiblingClaims.lean ====
/-
  The claims about the exchange of the gradients' halves.
-/
module

public import proofs.«01_k».proof.Defs
public import proofs.«01_k».proof.Proof.SiblingValue
public import proofs.«01_k».proof.Proof.Gen.Sibling
public import proofs.«01_k».proof.Proof.Gen.SiblingRef

@[expose] public section

set_option Elab.async false

noncomputable section

namespace Cert.Sib

open Idealize.ShloMosaic
open Idealize.ShloMosaic.TcCoe
open Idealize.SL.Sem

theorem frame_kernel : Cert.quiescent_Sibling (hSibling := Cert.Sibling.Gen.facts) := fun m ρ _ =>
  (θ_run Cert.SiblingIdeal.defs _ _).mono (fun _ h => ⟨fun c => (h.1 c).1, h.2⟩) (run_main (F := Bits) m ρ)

theorem frame_ideal : Cert.quiescent_SiblingIdeal (hSiblingIdeal := Cert.SiblingIdeal.Gen.facts) := fun m ρ _ =>
  (θ_run Cert.SiblingIdeal.defs _ _).mono (fun _ h => ⟨fun c => (h.1 c).1, h.2⟩) (run_main (F := Ideal) m ρ)

theorem frame_reference : Cert.quiescent_SiblingRefIdeal (hSiblingRefIdeal := Cert.SiblingRefIdeal.Gen.facts) := fun m ρ _ =>
  (θ_run Cert.SiblingRefIdeal.defs _ _).mono (fun r h => ⟨fun c => (h c).2, sem_eq_zero_of_no_sems (by decide) r.2⟩)
    (Cert.SiblingRefIdeal.Value.run (F := Ideal) m ρ)

theorem frame_reference_bits : Cert.quiescent_SiblingRef (hSiblingRef := Cert.SiblingRef.Gen.facts) := fun m ρ _ =>
  (θ_run Cert.SiblingRefIdeal.defs _ _).mono (fun r h => ⟨fun c => (h c).2, sem_eq_zero_of_no_sems (by decide) r.2⟩)
    (Cert.SiblingRefIdeal.Value.run (F := Bits) m ρ)

theorem algebraic : Cert.algebraic_SiblingIdeal_SiblingRefIdeal (hSiblingIdeal := Cert.SiblingIdeal.Gen.facts)
    (hSiblingRefIdeal := Cert.SiblingRefIdeal.Gen.facts) := fun m ρ m' ρ' _ hX =>
  ⟨stacked (F := Ideal) (m' (((0 : Dev Cert.SiblingRefIdeal.nD).tc : Thread Cert.SiblingRefIdeal.nD Cert.SiblingRefIdeal.τ).loc Cert.SiblingRefIdeal.main_arg0)),
    (θ_run Cert.SiblingIdeal.defs _ _).mono (fun _ h c => ⟨value m _ hX c _ (h.1 c).2, (h.1 c).1⟩) (run_main (F := Ideal) m ρ),
    (θ_run Cert.SiblingRefIdeal.defs _ _).mono (fun _ h => h 0) (Cert.SiblingRefIdeal.Value.run (F := Ideal) m' ρ')⟩

theorem bitexact : Cert.bitexact_Sibling_SiblingRef (hSibling := Cert.Sibling.Gen.facts)
    (hSiblingRef := Cert.SiblingRef.Gen.facts) := fun m ρ m' ρ' _ hX =>
  ⟨stacked (F := Bits) (m' (((0 : Dev Cert.SiblingRefIdeal.nD).tc : Thread Cert.SiblingRefIdeal.nD Cert.SiblingRefIdeal.τ).loc Cert.SiblingRefIdeal.main_arg0)),
    (θ_run Cert.SiblingIdeal.defs _ _).mono (fun _ h c => ⟨value m _ hX c _ (h.1 c).2, (h.1 c).1⟩) (run_main (F := Bits) m ρ),
    (θ_run Cert.SiblingRefIdeal.defs _ _).mono (fun _ h => h 0) (Cert.SiblingRefIdeal.Value.run (F := Bits) m' ρ')⟩

end Cert.Sib

end
-- ==== Proof.ChipsRun.lean ====
/-
  The exchange of the gradients' quarters between the chips: its protocol and its run.

  Core `p` of a chip sends, to the same core of each of the other three chips, the quarter of its array that belongs to
  that chip, into the block of the other's result that stands for the direction of the two chips: block 0 across `x`,
  block 1 across `y`, block 2 across both. Three transfers, all started before any is awaited.
-/
module

public import proofs.«01_k».proof.Defs
public import proofs.«01_k».proof.Proof.Slabs
public import proofs.«01_k».proof.Proof.Gen.ChipsIdeal
public import proofs.«01_k».proof.Proof.Gen.ChipsIdeal.Skeleton
public import proofs.«01_k».proof.Proof.Gen.ChipsIdeal.Launch

@[expose] public section

set_option Elab.async false

noncomputable section

namespace Cert.Chp

open Cert.ChipsIdeal Cert.ChipsIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Who sends what to whom -/

/-- The device on the other end of direction `k`. -/
def towards (k : Fin 3) (c : Dev nD) : Dev nD :=
  match k with
  | 0 => ⟨k0_dev1 c, k0_dev1_lt c⟩
  | 1 => ⟨k0_dev2 c, k0_dev2_lt c⟩
  | 2 => ⟨k0_dev3 c, k0_dev3_lt c⟩

theorem towards_towards (k : Fin 3) (c : Dev nD) : towards k (towards k c) = c := by
  match k with
  | 0 => refine Fin.ext ?_; simp only [towards, k0_dev1_eq]; revert c; decide
  | 1 => refine Fin.ext ?_; simp only [towards, k0_dev2_eq]; revert c; decide
  | 2 => refine Fin.ext ?_; simp only [towards, k0_dev3_eq]; revert c; decide

/-- A direction, as an exchange of the devices. -/
def across (k : Fin 3) : Equiv.Perm (Dev nD) := Function.Involutive.toPerm (towards k) (towards_towards k)

/-- Where in its array device `c` keeps what goes in direction `k`. -/
def offs (c : Dev nD) (k : Fin 3) : Fin 3 → ℕ :=
  match k with
  | 0 => k0_off1 c
  | 1 => k0_off2 c
  | 2 => k0_off3 c

theorem offs_inb (c : Dev nD) (k : Fin 3) : ∀ a, offs c k a + S1x11776x512.size a ≤ S4x11776x512.size a := by
  match k with
  | 0 => exact k0_off1_inb c
  | 1 => exact k0_off2_inb c
  | 2 => exact k0_off3_inb c

/-- The quarter that device `c` sends in direction `k`. -/
def quarter (c : Dev nD) (k : Fin 3) : Memref sig .tc .hbm S11776x512 .f32 :=
  ((Memref.whole main_arg0).slice (Rect.unit (s := S4x11776x512) (offs c k) S1x11776x512.size
    (offs_inb c k)) (fun _ => rfl)).squeeze S11776x512 squeezes_S1x11776x512_S11776x512

theorem block_inb (j : Fin 3) : ∀ a, (![j.val, 0, 0] : Fin 3 → Nat) a + S1x11776x512.size a ≤ S3x11776x512.size a := by
  revert j; decide

/-- Block `j` of the result. -/
def block (j : Fin 3) : Memref sig .tc .hbm S11776x512 .f32 :=
  ((Memref.whole main_v1).slice (Rect.unit (s := S3x11776x512) ![j.val, 0, 0] S1x11776x512.size (block_inb j))
    (fun _ => rfl)).squeeze S11776x512 squeezes_S1x11776x512_S11776x512

theorem block_disjoint (i j : Fin 3) (h : i ≠ j) : Disjoint (block i).view.set (block j).view.set := by
  unfold block
  simp only [Memref.squeeze, Memref.slice, View.set_reshape]
  refine View.disjoint_slice (Rect.unit_disjoint 0 ?_)
  have : i.val ≠ j.val := fun e => h (Fin.ext e)
  show i.val + 1 ≤ j.val ∨ j.val + 1 ≤ i.val
  omega

variable (m : (ℓ : Loc nD τ sig) → Buf (Elt F) ℓ)

/-- What block `j` of device `c`'s result holds at the end: the quarter that came along direction `j`. -/
def landed (c : Dev nD) (j : Fin 3) : S11776x512.Idx → Elt F .f32 :=
  (quarter (across j c) j).view.read (Elt F) (m ((across j c).tc.loc main_arg0))

/-! ## The protocol -/

def cellSem : Cells 3 0 → SemLoc sig
  | .inl j => .dma ⟨j.val, by have := j.isLt; show _ < 6; omega⟩
  | .inr (.inl j) => .dma ⟨3 + j.val, by have := j.isLt; show _ < 6; omega⟩
  | .inr (.inr j) => j.elim0

theorem ownSem : Pipeline.OwnSemFacts (cfgs 0).spec cellSem := by decide

/-- The size of a transfer, as its counters see it. -/
def size : ℕ := (block 0).view.dmaCredit

def pay (c : Dev nD) : Cells 3 0 → sProp 𝕄
  | .inr (.inl j) => holds c (block j) (landed m c j)
  | _ => iprop(emp)

instance pay_storable (c : Dev nD) (k : Cells 3 0) : Storable (upEmb : UEmb _ 𝕄) (pay m c k) := by
  rcases k with j | j | j <;> unfold pay <;> infer_instance

def plan : Plan nD τ sig (Elt F) 3 0 where
  sem := cellSem
  sem_inj := ownSem.inj
  peer := across
  size := size
  size_pos := View.dmaCredit_pos _ (by decide)
  lvl := fun _ => 0
  pay := pay m
  pay_storable := fun c k => pay_storable m c k

/-! ## The body -/

/-- The arrays a device starts from: its own, lent, and the blocks that it fills in the others' results. -/
def arrays (c : Dev nD) : sProp 𝕄 :=
  iprop(lent (c.tc.loc main_arg0) Finset.univ (m (c.tc.loc main_arg0))
    ∗ bigSep Finset.univ fun j => (across j c).tc.loc main_v1 ↦[(block j).view.set]{fullShare} m ((across j c).tc.loc main_v1))

/-- What it ends with. -/
def result (c : Dev nD) : sProp 𝕄 :=
  iprop(lent (c.tc.loc main_arg0) Finset.univ (m (c.tc.loc main_arg0))
    ∗ bigSep Finset.univ fun j => holds c (block j) (landed m c j))

/-- One transfer, started. -/
theorem put (κ : Dev nD × Cells 3 0 → ℕ) (c n : Dev nD) (j : Fin 3) (S : Finset (Fin 3)) (hj : j ∈ S) (hn : n = across j c)
    {src dst : Memref sig .tc .hbm S11776x512 .f32} (hs : src = quarter c j) (hd : dst = block j)
    {hsc : dst.view.ref.isScScratch = false} {sS sR : DmaSem sig} (hS : SemLoc.dma sS = cellSem (.inl j)) (hR : SemLoc.dma sR = cellSem (.inr (.inl j)))
    {hsrc : src.view.WordExact} {hdst : dst.view.WordExact}
    {hsem : DmaTarget.Typed .hbm (SemLoc.dma sR) (.remote (n.tc : Thread nD τ) dst (SemLoc.dma sS) hsc)}
    {α : Type} {k : PUnit → Prog (TpuEff nD τ sig (Elt F) Λ₀ .tc) α} {Q : α → sProp (MT nD τ sig Unit (Elt F) ℕ (UU nD τ sig) ℕ)} :
    iprop((plan m).records κ ∗ lent (c.tc.loc main_arg0) Finset.univ (m (c.tc.loc main_arg0))
        ∗ ((across j c).tc.loc main_v1 ↦[(block j).view.set]{fullShare} m ((across j c).tc.loc main_v1))
        ∗ (plan m).owe c S ∗ (plan m).right c j)
      ⊢ iprop(((lent (c.tc.loc main_arg0) Finset.univ (m (c.tc.loc main_arg0)) ∗ (plan m).coming c (.inl j) ∗ (plan m).owe c (S.erase j))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.remote (n.tc : Thread nD τ) dst (SemLoc.dma sS) hsc) (SemLoc.dma sR) hsrc hdst hsem) k) Q) := by
  subst hn hs hd
  iintro ⟨#HR, Hl, Hd, HO, Ht⟩ Hk
  have hc : (lent (c.tc.loc main_arg0) Finset.univ (m (c.tc.loc main_arg0)) : sProp 𝕄)
      ⊢ iprop(lent ((quarter c j).view.loc (c.tc : Thread nD τ)) (quarter c j).view.set (m (c.tc.loc main_arg0))
        ∗ lent (c.tc.loc main_arg0) Finset.univ (m (c.tc.loc main_arg0))) :=
    lent_carve (Finset.subset_univ (quarter c j).view.set) (m (c.tc.loc main_arg0))
  ihave H := hc $$ Hl
  icases H with ⟨Hs, Hl⟩
  unfold lent
  icases Hs with ⟨%q, Hs⟩
  iapply ((plan m).wp_put Variants.none none κ c (across j c) j S hj rfl hS hR (q := q) (fs := m (c.tc.loc main_arg0))
    (fd := m ((across j c).tc.loc main_v1)) rfl (by show _ ⊢ iprop(emp); iintro -; iempintro)
    (by
      have e : landed m (across j c) j = (quarter c j).view.read (Elt F) (m (c.tc.loc main_arg0)) := by
        unfold landed; rw [show across j (across j c) = c from (across j).symm_apply_apply c]
      refine (holds_landed (across j c) (block j) _ _).trans ?_
      rw [← e]; exact .rfl)) $$ [Hs Hd HO Ht] [Hl Hk]
  · isplitr; · iexact HR
    isplitl [Hs]; · iexact Hs
    isplitl [Hd]; · iexact Hd
    isplitl [HO]; · iexact HO
    iexact Ht
  · iintro ⟨Hc, HO⟩
    iapply Hk
    isplitl [Hl]; · iexact Hl
    isplitl [Hc]; · iexact Hc
    iexact HO

/-- One wait. -/
theorem take (κ : Dev nD × Cells 3 0 → ℕ) (c : Dev nD) (k : Cells 3 0)
    (src dst : Memref sig .tc .hbm S11776x512 .f32) {sm : DmaSem sig} (hm : SemLoc.dma sm = cellSem k)
    {hsrc : src.view.WordExact} {hdst : dst.view.WordExact} (hN : dst.view.dmaCredit = size) {V : sProp (MT nD τ sig Unit (Elt F) ℕ (UU nD τ sig) ℕ)} (hV : pay m c k = V)
    {α : Type} {f : PUnit → Prog (TpuEff nD τ sig (Elt F) Λ₀ .tc) α} {Q : α → sProp (MT nD τ sig Unit (Elt F) ℕ (UU nD τ sig) ℕ)} :
    iprop((plan m).records κ ∗ (plan m).coming c k ∗ (plan m).owe c ∅ ∗ (plan m).fresh c k)
      ⊢ iprop((((plan m).owe c ∅ ∗ (plan m).spent c k ∗ V)
            -∗ wp frame (wpE (defs₀ (F := F)) Variants.none (c.tc : Thread nD τ) none) Set.univ (f ⟨⟩) Q)
          -∗ wp frame (wpE (defs₀ (F := F)) Variants.none (c.tc : Thread nD τ) none) Set.univ
              (.op (.waitDma2 sm src dst hsrc hdst) f) Q) :=
  hV ▸ (plan m).wp_take Variants.none none κ c k ∅ (fun _ h => absurd h (Finset.notMem_empty _)) hm hN

set_option maxRecDepth 65536 in
/-- The body of device `c`. -/
theorem body (κ : Dev nD × Cells 3 0 → ℕ) (c : Dev nD) (t : Fin cfg0.N) :
    iprop((plan m).records κ ∗ (plan m).start c ∗ (plan m).claims c ∗ (plan m).owe c Finset.univ ∗ arrays m c)
      ⊢ wp frame (wpE (defs₀ (F := F)) Variants.none (c.tc : Thread nD τ) none) Set.univ
          (defs₀ .tc cfg0.body (cfg0.bodyArgs t (cfg0.slots t)))
          fun _ => iprop((result m c ∗ Pipeline.ownSems0 cellSem c) ∗ ∃ W', owes (c.tc : Thread nD τ) 0 W') := by
  change _ ⊢ wp frame _ Set.univ (cc0_reduce_chips_6 (Memref.whole main_arg0) (Memref.isWhole_whole _) (Memref.whole main_v1) (Memref.isWhole_whole _) cc0_scratch0 cc0_scratch1) _
  simp only [cc0_reduce_chips_6_eq_skeleton]
  unfold cc0_reduce_chips_6_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  unfold Plan.start Plan.claims arrays
  simp only [bigSep_cells, bigSep_three, bigSep_fin_zero]
  iintro ⟨#HR, ⟨⟨⟨Fs0, Fs1, Fs2, -⟩, ⟨Fr0, Fr1, Fr2, -⟩, -⟩, ⟨T0, T1, T2, -⟩, -⟩, ⟨C0, C1, C2, -⟩, HO, HL, ⟨D0, D1, D2, -⟩⟩
  iapply (put m κ c ⟨k0_dev1 c, k0_dev1_lt c⟩ 0 Finset.univ (by decide) rfl rfl rfl rfl rfl) $$ [HL D0 HO T0]
  · isplitr; · iexact HR
    isplitl [HL]; · iexact HL
    isplitl [D0]; · iexact D0
    isplitl [HO]; · iexact HO
    iexact T0
  iintro ⟨HL, S0, HO⟩
  iapply (put m κ c ⟨k0_dev2 c, k0_dev2_lt c⟩ 1 (Finset.univ.erase 0) (by decide) rfl rfl rfl rfl rfl) $$ [HL D1 HO T1]
  · isplitr; · iexact HR
    isplitl [HL]; · iexact HL
    isplitl [D1]; · iexact D1
    isplitl [HO]; · iexact HO
    iexact T1
  iintro ⟨HL, S1, HO⟩
  iapply (put m κ c ⟨k0_dev3 c, k0_dev3_lt c⟩ 2 ((Finset.univ.erase 0).erase 1) (by decide) rfl rfl rfl rfl rfl) $$ [HL D2 HO T2]
  · isplitr; · iexact HR
    isplitl [HL]; · iexact HL
    isplitl [D2]; · iexact D2
    isplitl [HO]; · iexact HO
    iexact T2
  iintro ⟨HL, S2, HO⟩
  rw [show (((Finset.univ.erase 0).erase 1).erase 2 : Finset (Fin 3)) = ∅ by decide]
  iapply (take m κ c (.inr (.inl 0)) (quarter c 0) (block 0) rfl rfl (V := holds c (block 0) (landed m c 0)) rfl) $$ [C0 HO Fr0]
  · isplitr; · iexact HR
    isplitl [C0]; · iexact C0
    isplitl [HO]; · iexact HO
    iexact Fr0
  iintro ⟨HO, Pr0, V0⟩
  iapply (take m κ c (.inr (.inl 1)) (quarter c 1) (block 1) rfl rfl (V := holds c (block 1) (landed m c 1)) rfl) $$ [C1 HO Fr1]
  · isplitr; · iexact HR
    isplitl [C1]; · iexact C1
    isplitl [HO]; · iexact HO
    iexact Fr1
  iintro ⟨HO, Pr1, V1⟩
  iapply (take m κ c (.inr (.inl 2)) (quarter c 2) (block 2) rfl rfl (V := holds c (block 2) (landed m c 2)) rfl) $$ [C2 HO Fr2]
  · isplitr; · iexact HR
    isplitl [C2]; · iexact C2
    isplitl [HO]; · iexact HO
    iexact Fr2
  iintro ⟨HO, Pr2, V2⟩
  iapply (take m κ c (.inl 0) (block 0) (quarter c 0) rfl rfl rfl) $$ [S0 HO Fs0]
  · isplitr; · iexact HR
    isplitl [S0]; · iexact S0
    isplitl [HO]; · iexact HO
    iexact Fs0
  iintro ⟨HO, Ps0, -⟩
  iapply (take m κ c (.inl 1) (block 1) (quarter c 1) rfl rfl rfl) $$ [S1 HO Fs1]
  · isplitr; · iexact HR
    isplitl [S1]; · iexact S1
    isplitl [HO]; · iexact HO
    iexact Fs1
  iintro ⟨HO, Ps1, -⟩
  iapply (take m κ c (.inl 2) (block 2) (quarter c 2) rfl rfl rfl) $$ [S2 HO Fs2]
  · isplitr; · iexact HR
    isplitl [S2]; · iexact S2
    isplitl [HO]; · iexact HO
    iexact Fs2
  iintro ⟨HO, Ps2, -⟩
  iapply ((plan m).wp_done Variants.none none κ c (result m c))
  unfold result
  simp only [bigSep_cells, bigSep_three, bigSep_fin_zero]
  isplitr; · iexact HR
  isplitl [HL V0 V1 V2]
  · isplitl [HL]; · iexact HL
    isplitl [V0]; · iexact V0
    isplitl [V1]; · iexact V1
    isplitl [V2]; · iexact V2
    iempintro
  isplitr [HO]
  · isplitl [Ps0 Ps1 Ps2]
    · isplitl [Ps0]; · iexact Ps0
      isplitl [Ps1]; · iexact Ps1
      isplitl [Ps2]; · iexact Ps2
      iempintro
    isplitl [Pr0 Pr1 Pr2]
    · isplitl [Pr0]; · iexact Pr0
      isplitl [Pr1]; · iexact Pr1
      isplitl [Pr2]; · iexact Pr2
      iempintro
    iempintro
  iexact HO

/-! ## The run -/

/-- A result, dealt in its blocks. -/
theorem split (c : Dev nD) : (c.tc.loc main_v1 ↦{fullShare} m (c.tc.loc main_v1) : sProp 𝕄)
    ⊢ bigSep Finset.univ fun j => c.tc.loc main_v1 ↦[(block j).view.set]{fullShare} m (c.tc.loc main_v1) :=
  have h : ∀ i j : Fin 3, i ≠ j → Disjoint ((block i).view.set : Finset (Idx (c.tc.loc main_v1 : Loc nD τ sig))) (block j).view.set :=
    block_disjoint
  deal_slices (T := Fin 3) (ℓ := (c.tc.loc main_v1 : Loc nD τ sig)) (fun j => (block j).view.set) h _

/-- The arrays as the launch deals them. -/
theorem dealt : bigSep Finset.univ (fun c => Pipeline.unscopedRest (Ix := Unit) (Name := ℕ) (U := UU nD τ sig) (Lvl := ℕ) (τ := τ) (cfgs 0).spec c (fun b => m ((c.tc : Thread nD τ).loc b)))
    ⊢ (bigSep Finset.univ (arrays m) : sProp 𝕄) := by
  have h : ∀ c : Dev nD, (Pipeline.unscopedRest (Ix := Unit) (Name := ℕ) (U := UU nD τ sig) (Lvl := ℕ) (τ := τ) (cfgs 0).spec c (fun b => m ((c.tc : Thread nD τ).loc b)) : sProp 𝕄)
      ⊢ iprop(lent (c.tc.loc main_arg0) Finset.univ (m (c.tc.loc main_arg0))
        ∗ bigSep Finset.univ fun j => c.tc.loc main_v1 ↦[(block j).view.set]{fullShare} m (c.tc.loc main_v1)) := fun c => by
    refine (Entails.of_eq (unscopedRest0_eq c _)).trans ?_
    exact BIClass.sep_mono lent_intro (split m c)
  have e : (bigSep Finset.univ (arrays m) : sProp 𝕄) = bigSep Finset.univ fun c : Dev nD => iprop(lent (c.tc.loc main_arg0) Finset.univ (m (c.tc.loc main_arg0))
        ∗ bigSep Finset.univ fun j => c.tc.loc main_v1 ↦[(block j).view.set]{fullShare} m (c.tc.loc main_v1)) := by
    unfold arrays
    rw [bigSep_sep', bigSep_sep', deal_along (across) fun c j =>
      (c.tc.loc main_v1 ↦[(block j).view.set]{fullShare} m (c.tc.loc main_v1) : sProp 𝕄)]
  exact (bigSep_mono fun c _ => h c).trans (Entails.of_eq e.symm)

/-- The run: every device keeps its own array and ends with the others' quarters in its result's blocks, and every counter
    is back at zero. -/
theorem run_main (ρ : Dev nD → PrngReg) :
    θ_run (defs (F := F)) (onTc (τ := τ) (main (F := F))) ⟨m, fun _ => 0, ρ⟩ fun r =>
      (∀ c : Dev nD, r.2.mem (c.tc.loc main_arg0) = m (c.tc.loc main_arg0)
        ∧ ∀ j, (block j).view.read (Elt F) (r.2.mem (c.tc.loc main_v1)) = landed m c j)
      ∧ r.2.sem = fun _ => 0 := by
  refine (θ_run defs _ _).mono (fun r h => ⟨h.1, sem_eq_zero_of_scoped (by decide) h.2⟩) ((plan m).run_exchange cfgs ownSem N_0 (fun _ => rfl) cellOf_inj winFacts0 defs₀ m ρ main (fun _ => rfl)
    (fun c => scopedRest0_eq c) (arrays m) (result m) (dealt m) (body m)
    (fun c μ => μ.mem (c.tc.loc main_arg0) = m (c.tc.loc main_arg0)
        ∧ ∀ j, (block j).view.read (Elt F) (μ.mem (c.tc.loc main_v1)) = landed m c j)
    fun c s' => read_end c (c.tc.loc main_arg0) (m (c.tc.loc main_arg0)) block (landed m c) s')

end Cert.Chp
-- ==== Proof.ChipsRefAt.lean ====
/-
  The reference of the exchange of the gradients' quarters, read at an index.

  The reference stacks, for each of the three directions, the four chips' quarters, and then the three directions. It is
  read in the same steps: one quarter, two of them, two pairs, three directions.
-/
module

public import proofs.«01_k».proof.Proof.Rows
public import proofs.«01_k».proof.Proof.Gen.ChipsRefIdeal.Run

@[expose] public section

set_option Elab.async false

noncomputable section

namespace Cert.Chp

open Cert.ChipsRefIdeal Cert.ChipsRefIdeal.Gen
open Idealize.ShloMosaic Idealize.ShloMosaic.TcCoe

variable {F : FTy → Type} [FloatOps F]

/-- The quarter of chip `(a, b)` for chip `(d, e)`, on both cores. -/
def pick (a b d e : ℕ) (h : S2x2x2x2x2x11776x512.Slices ![a, b, 0, d, e, 0, 0] S1x1x2x1x1x11776x512) (X : S32x11776x512.Idx → Elt F .f32) : S2x11776x512.Idx → Elt F .f32 :=
  shapeCast _ (extractStridedSlice S1x1x2x1x1x11776x512 ![a, b, 0, d, e, 0, 0] (shapeCast _ X shapeCasts_S32x11776x512_S2x2x2x2x2x11776x512) h) shapeCasts_S1x1x2x1x1x11776x512_S2x11776x512

/-- Two chips, stacked. -/
def two (p q : S2x11776x512.Idx → Elt F .f32) : S2x2x11776x512.Idx → Elt F .f32 :=
  concatenate S2x2x11776x512 0 [⟨S1x2x11776x512, broadcastInDim S1x2x11776x512 ![1, 2, 3] bcast_S2x11776x512_S1x2x11776x512_1_2_3 p⟩, ⟨S1x2x11776x512, broadcastInDim S1x2x11776x512 ![1, 2, 3] bcast_S2x11776x512_S1x2x11776x512_1_2_3 q⟩] concatenates_S1x2x11776x512_S1x2x11776x512_S2x2x11776x512_d0

/-- Two pairs of chips, stacked. -/
def pairs (p q : S2x2x11776x512.Idx → Elt F .f32) : S2x2x2x11776x512.Idx → Elt F .f32 :=
  concatenate S2x2x2x11776x512 0 [⟨S1x2x2x11776x512, broadcastInDim S1x2x2x11776x512 ![1, 2, 3, 4] bcast_S2x2x11776x512_S1x2x2x11776x512_1_2_3_4 p⟩, ⟨S1x2x2x11776x512, broadcastInDim S1x2x2x11776x512 ![1, 2, 3, 4] bcast_S2x2x11776x512_S1x2x2x11776x512_1_2_3_4 q⟩] concatenates_S1x2x2x11776x512_S1x2x2x11776x512_S2x2x2x11776x512_d0

/-- The three directions, stacked on every device. -/
def three (p q s : S2x2x2x11776x512.Idx → Elt F .f32) : S24x11776x512.Idx → Elt F .f32 :=
  shapeCast _ (concatenate S2x2x2x3x11776x512 3 [⟨S2x2x2x1x11776x512, broadcastInDim S2x2x2x1x11776x512 ![0, 1, 2, 4, 5] bcast_S2x2x2x11776x512_S2x2x2x1x11776x512_0_1_2_4_5 p⟩, ⟨S2x2x2x1x11776x512, broadcastInDim S2x2x2x1x11776x512 ![0, 1, 2, 4, 5] bcast_S2x2x2x11776x512_S2x2x2x1x11776x512_0_1_2_4_5 q⟩, ⟨S2x2x2x1x11776x512, broadcastInDim S2x2x2x1x11776x512 ![0, 1, 2, 4, 5] bcast_S2x2x2x11776x512_S2x2x2x1x11776x512_0_1_2_4_5 s⟩] concatenates_S2x2x2x1x11776x512_S2x2x2x1x11776x512_S2x2x2x1x11776x512_S2x2x2x3x11776x512_d3) shapeCasts_S2x2x2x3x11776x512_S24x11776x512

set_option maxRecDepth 16384 in
theorem pick_at (a b d e : ℕ) (h : S2x2x2x2x2x11776x512.Slices ![a, b, 0, d, e, 0, 0] S1x1x2x1x1x11776x512) (X : S32x11776x512.Idx → Elt F .f32)
    (n : Fin 32) (p : Fin 2) (hn : n.val = 16 * a + 8 * b + 4 * p.val + 2 * d + e) (r : Fin 11776) (l : Fin 512) :
    pick a b d e h X (ix3 p r l) = X (ix3 n r l) := by
  unfold pick
  pointwise
  exact congrArg (fun k => X (ix3 k r l)) (Fin.ext (by simp only []; omega))

set_option maxRecDepth 16384 in
theorem two_at (p q : S2x11776x512.Idx → Elt F .f32) (y k : Fin 2) (r : Fin 11776) (l : Fin 512) :
    two p q (ix4 y k r l) = if y.val = 0 then p (ix3 k r l) else q (ix3 k r l) := by
  unfold two
  pointwise
  exact if_congr (by omega) rfl rfl

set_option maxRecDepth 16384 in
theorem pairs_at (p q : S2x2x11776x512.Idx → Elt F .f32) (x y k : Fin 2) (r : Fin 11776) (l : Fin 512) :
    pairs p q (ix5 x y k r l) = if x.val = 0 then p (ix4 y k r l) else q (ix4 y k r l) := by
  unfold pairs
  pointwise
  exact if_congr (by omega) rfl rfl

set_option maxRecDepth 16384 in
theorem three_at (p q s : S2x2x2x11776x512.Idx → Elt F .f32) (c : Fin 8) (k : Fin 3) (r : Fin 11776) (l : Fin 512) :
    three p q s (ix3 (⟨3 * c.val + k.val, by omega⟩ : Fin 24) r l)
      = (if k.val = 0 then p else if k.val = 1 then q else s) (ix5 (⟨c.val / 4, by omega⟩ : Fin 2) (⟨c.val / 2 % 2, by omega⟩ : Fin 2) (⟨c.val % 2, by omega⟩ : Fin 2) r l) := by
  have key : three p q s (ix3 (⟨3 * c.val + k.val, by omega⟩ : Fin 24) r l)
      = if k.val < 1 then p (ix5 (⟨(3 * c.val + k.val) / 12, by omega⟩ : Fin 2) (⟨(3 * c.val + k.val) / 6 % 2, by omega⟩ : Fin 2) (⟨(3 * c.val + k.val) / 3 % 2, by omega⟩ : Fin 2) r l)
        else if k.val - 1 < 1 then q (ix5 (⟨(3 * c.val + k.val) / 12, by omega⟩ : Fin 2) (⟨(3 * c.val + k.val) / 6 % 2, by omega⟩ : Fin 2) (⟨(3 * c.val + k.val) / 3 % 2, by omega⟩ : Fin 2) r l)
        else s (ix5 (⟨(3 * c.val + k.val) / 12, by omega⟩ : Fin 2) (⟨(3 * c.val + k.val) / 6 % 2, by omega⟩ : Fin 2) (⟨(3 * c.val + k.val) / 3 % 2, by omega⟩ : Fin 2) r l) := by
    unfold three
    pointwise
    rfl
  have e1 : (⟨(3 * c.val + k.val) / 12, by omega⟩ : Fin 2) = ⟨c.val / 4, by omega⟩ := Fin.ext (by simp only []; omega)
  have e2 : (⟨(3 * c.val + k.val) / 6 % 2, by omega⟩ : Fin 2) = ⟨c.val / 2 % 2, by omega⟩ := Fin.ext (by simp only []; omega)
  have e3 : (⟨(3 * c.val + k.val) / 3 % 2, by omega⟩ : Fin 2) = ⟨c.val % 2, by omega⟩ := Fin.ext (by simp only []; omega)
  have e : (ix5 (⟨(3 * c.val + k.val) / 12, by omega⟩ : Fin 2) (⟨(3 * c.val + k.val) / 6 % 2, by omega⟩ : Fin 2) (⟨(3 * c.val + k.val) / 3 % 2, by omega⟩ : Fin 2) r l
      : S2x2x2x11776x512.Idx) = ix5 ⟨c.val / 4, by omega⟩ ⟨c.val / 2 % 2, by omega⟩ ⟨c.val % 2, by omega⟩ r l := by rw [e1, e2, e3]
  rw [key, e]
  rcases (by omega : k.val = 0 ∨ k.val = 1 ∨ k.val = 2) with h | h | h
  · rw [if_pos (by omega), if_pos h]
  · rw [if_neg (by omega), if_pos (by omega), if_neg (by omega), if_pos h]
  · rw [if_neg (by omega), if_neg (by omega), if_neg (by omega), if_neg (by omega)]

/-- The reference's result, as a function of its argument. -/
def arranged (X : S32x11776x512.Idx → Elt F .f32) : S24x11776x512.Idx → Elt F .f32 :=
  three
    (pairs (two (pick 1 0 0 0 slices_S2x2x2x2x2x11776x512_S1x1x2x1x1x11776x512_1_0_0_0_0_0_0 X) (pick 1 1 0 1 slices_S2x2x2x2x2x11776x512_S1x1x2x1x1x11776x512_1_1_0_0_1_0_0 X))
      (two (pick 0 0 1 0 slices_S2x2x2x2x2x11776x512_S1x1x2x1x1x11776x512_0_0_0_1_0_0_0 X) (pick 0 1 1 1 slices_S2x2x2x2x2x11776x512_S1x1x2x1x1x11776x512_0_1_0_1_1_0_0 X)))
    (pairs (two (pick 0 1 0 0 slices_S2x2x2x2x2x11776x512_S1x1x2x1x1x11776x512_0_1_0_0_0_0_0 X) (pick 0 0 0 1 slices_S2x2x2x2x2x11776x512_S1x1x2x1x1x11776x512_0_0_0_0_1_0_0 X))
      (two (pick 1 1 1 0 slices_S2x2x2x2x2x11776x512_S1x1x2x1x1x11776x512_1_1_0_1_0_0_0 X) (pick 1 0 1 1 slices_S2x2x2x2x2x11776x512_S1x1x2x1x1x11776x512_1_0_0_1_1_0_0 X)))
    (pairs (two (pick 1 1 0 0 slices_S2x2x2x2x2x11776x512_S1x1x2x1x1x11776x512_1_1_0_0_0_0_0 X) (pick 1 0 0 1 slices_S2x2x2x2x2x11776x512_S1x1x2x1x1x11776x512_1_0_0_0_1_0_0 X))
      (two (pick 0 1 1 0 slices_S2x2x2x2x2x11776x512_S1x1x2x1x1x11776x512_0_1_0_1_0_0_0 X) (pick 0 0 1 1 slices_S2x2x2x2x2x11776x512_S1x1x2x1x1x11776x512_0_0_0_1_1_0_0 X)))

theorem result_eq (m : (ℓ : Loc nD τ sig) → Buf (Elt F) ℓ) (d : Dev nD) :
    Value.res_main_v56 m d = arranged (m (d.tc.loc main_arg0)) := rfl

/-- Which of the 32 quarters block `k` of device `c` is: entry `c / 2` of the device on the other end of direction `k`. -/
def source (c : Fin 8) (k : Fin 3) : Fin 32 :=
  match k with
  | 0 => ⟨4 * ((c.val + 4) % 8) + c.val / 2, by omega⟩
  | 1 => ⟨4 * (4 * (c.val / 4) + (c.val + 2) % 4) + c.val / 2, by omega⟩
  | 2 => ⟨4 * (6 - 2 * (c.val / 2) + c.val % 2) + c.val / 2, by omega⟩

/-- Row `(r, l)` of block `k` of device `c`, in the reference's result. -/
theorem arranged_at (X : S32x11776x512.Idx → Elt F .f32) (c : Fin 8) (k : Fin 3) (r : Fin 11776) (l : Fin 512) :
    arranged X (ix3 (⟨3 * c.val + k.val, by omega⟩ : Fin 24) r l) = X (ix3 (source c k) r l) := by
  unfold arranged
  rw [three_at]
  match k with
  | 0 =>
    show pairs _ _ _ = _
    rw [pairs_at, two_at, two_at]
    simp only []
    split
    · split
      · exact pick_at _ _ _ _ _ X _ _ (by simp only [source]; omega) r l
      · exact pick_at _ _ _ _ _ X _ _ (by simp only [source]; omega) r l
    · split
      · exact pick_at _ _ _ _ _ X _ _ (by simp only [source]; omega) r l
      · exact pick_at _ _ _ _ _ X _ _ (by simp only [source]; omega) r l
  | 1 =>
    show pairs _ _ _ = _
    rw [pairs_at, two_at, two_at]
    simp only []
    split
    · split
      · exact pick_at _ _ _ _ _ X _ _ (by simp only [source]; omega) r l
      · exact pick_at _ _ _ _ _ X _ _ (by simp only [source]; omega) r l
    · split
      · exact pick_at _ _ _ _ _ X _ _ (by simp only [source]; omega) r l
      · exact pick_at _ _ _ _ _ X _ _ (by simp only [source]; omega) r l
  | 2 =>
    show pairs _ _ _ = _
    rw [pairs_at, two_at, two_at]
    simp only []
    split
    · split
      · exact pick_at _ _ _ _ _ X _ _ (by simp only [source]; omega) r l
      · exact pick_at _ _ _ _ _ X _ _ (by simp only [source]; omega) r l
    · split
      · exact pick_at _ _ _ _ _ X _ _ (by simp only [source]; omega) r l
      · exact pick_at _ _ _ _ _ X _ _ (by simp only [source]; omega) r l

end Cert.Chp

end
-- ==== Proof.ChipsValue.lean ====
/-
  The exchange of the gradients' quarters: what it computes, and the claims about it.

  Block `k` of device `c`'s result is the quarter that the device on the other end of direction `k` keeps for `c`'s chip,
  which is what the reference's stack of the quarters holds there.
-/
module

public import proofs.«01_k».proof.Defs
public import proofs.«01_k».proof.Proof.ChipsRun
public import proofs.«01_k».proof.Proof.ChipsRefAt
public import proofs.«01_k».proof.Proof.Gen.Chips
public import proofs.«01_k».proof.Proof.Gen.ChipsRef

@[expose] public section

set_option Elab.async false

noncomputable section

namespace Cert.Chp

open Cert.ChipsIdeal Cert.ChipsIdeal.Gen Cert.Exchange
open Idealize.ShloMosaic
open Idealize.ShloMosaic.TcCoe
open Idealize.SL.Sem

variable {F : FTy → Type} [FloatOps F]

theorem block_at (f : S3x11776x512.Idx → Elt F .f32) (j : Fin 3) (r : Fin 11776) (l : Fin 512) :
    (block j).view.read (Elt F) f (ix2 r l) = f (ix3 j r l) :=
  slab_read (Memref.whole main_v1) ![j.val, 0, 0] (block_inb j) (fun _ => rfl) squeezes_S1x11776x512_S11776x512 f j rfl r l

/-- The chip that device `c` reaches in direction `k`, which is the entry it sends there. -/
def entry (c : Dev nD) (k : Fin 3) : Fin 4 := ⟨(across k c).val / 2, by have : (across k c).val < 8 := (across k c).isLt; omega⟩

theorem offs_eq (c : Dev nD) (k : Fin 3) : offs c k = ![(entry c k).val, 0, 0] := by
  match k with
  | 0 => refine (k0_off1_eq c).trans (congrArg (![·, 0, 0]) ?_); show _ = k0_dev1 c / 2; rw [k0_dev1_eq]; revert c; decide
  | 1 => refine (k0_off2_eq c).trans (congrArg (![·, 0, 0]) ?_); show _ = k0_dev2 c / 2; rw [k0_dev2_eq]; revert c; decide
  | 2 => refine (k0_off3_eq c).trans (congrArg (![·, 0, 0]) ?_); show _ = k0_dev3 c / 2; rw [k0_dev3_eq]; revert c; decide

theorem quarter_at (f : S4x11776x512.Idx → Elt F .f32) (c : Dev nD) (k : Fin 3) (r : Fin 11776) (l : Fin 512) :
    (quarter c k).view.read (Elt F) f (ix2 r l) = f (ix3 (entry c k) r l) :=
  slab_read (Memref.whole main_arg0) _ (offs_inb c k) (fun _ => rfl) squeezes_S1x11776x512_S11776x512 f _ (offs_eq c k) r l

theorem source_eq (c : Dev nD) (k : Fin 3) : (across k c).val * 4 + (entry (across k c) k).val = (source c k).val := by
  have e : entry (across k c) k = ⟨c.val / 2, by have : c.val < 8 := c.isLt; omega⟩ :=
    Fin.ext (congrArg (fun d : Dev nD => d.val / 2) (towards_towards k c))
  rw [e]
  match k with
  | 0 => show k0_dev1 c * 4 + c.val / 2 = _; rw [k0_dev1_eq]; revert c; decide
  | 1 => show k0_dev2 c * 4 + c.val / 2 = _; rw [k0_dev2_eq]; revert c; decide
  | 2 => show k0_dev3 c * 4 + c.val / 2 = _; rw [k0_dev3_eq]; revert c; decide

/-- The blocks that arrived are the device's block of the reference's result. -/
theorem value (m : (ℓ : Loc nD τ sig) → Buf (Elt F) ℓ) (X : Cert.ChipsRefIdeal.S32x11776x512.Idx → Elt F .f32)
    (hX : ∀ c : Dev nD, m (c.tc.loc main_arg0) = Layout.block ⟨3, ![4, 11776, 512]⟩ ⟨3, ![32, 11776, 512]⟩ 0 8 c X)
    (c : Dev nD) (f : S3x11776x512.Idx → Elt F .f32) (hf : ∀ j, (block j).view.read (Elt F) f = landed m c j) :
    f = Layout.block ⟨3, ![3, 11776, 512]⟩ ⟨3, ![24, 11776, 512]⟩ 0 8 c (arranged X) := by
  funext i
  obtain ⟨j, r, l, rfl⟩ : ∃ (j : Fin 3) (r : Fin 11776) (l : Fin 512), i = ix3 j r l := ⟨i 0, i 1, i 2, eq_ix3 i⟩
  have h := congrFun (hf j) (ix2 r l)
  rw [block_at] at h
  rw [h]
  unfold landed
  rw [hX]
  refine (quarter_at _ _ _ _ _).trans ?_
  rw [Layout.block_apply, Layout.block_apply]
  have e : Layout.Tiles.idx (S := ⟨3, ![3, 11776, 512]⟩) (T := ⟨3, ![24, 11776, 512]⟩) (a := 0) (k := 8) (by decide) c (ix3 j r l)
      = ix3 (⟨3 * c.val + j.val, by have : c.val < 8 := c.isLt; omega⟩ : Fin 24) r l := by
    funext a; refine Fin.ext ?_
    match a with
    | ⟨0, _⟩ => show c.val * 3 + j.val = 3 * c.val + j.val; omega
    | ⟨1, _⟩ => rfl
    | ⟨2, _⟩ => rfl
  refine Eq.trans ?_ ((congrArg (arranged X) e).trans (arranged_at X c j r l)).symm
  refine congrArg X (funext fun a => Fin.ext ?_)
  match a with
  | ⟨0, _⟩ => exact source_eq c j
  | ⟨1, _⟩ => rfl
  | ⟨2, _⟩ => rfl

/-! ## The claims -/

theorem frame_kernel : Cert.quiescent_Chips (hChips := Cert.Chips.Gen.facts) := fun m ρ _ =>
  (θ_run Cert.ChipsIdeal.defs _ _).mono (fun _ h => ⟨fun c => (h.1 c).1, h.2⟩) (run_main (F := Bits) m ρ)

theorem frame_ideal : Cert.quiescent_ChipsIdeal (hChipsIdeal := Cert.ChipsIdeal.Gen.facts) := fun m ρ _ =>
  (θ_run Cert.ChipsIdeal.defs _ _).mono (fun _ h => ⟨fun c => (h.1 c).1, h.2⟩) (run_main (F := Ideal) m ρ)

theorem frame_reference : Cert.quiescent_ChipsRefIdeal (hChipsRefIdeal := Cert.ChipsRefIdeal.Gen.facts) := fun m ρ _ =>
  (θ_run Cert.ChipsRefIdeal.defs _ _).mono (fun r h => ⟨fun c => (h c).2, sem_eq_zero_of_no_sems (by decide) r.2⟩)
    (Cert.ChipsRefIdeal.Value.run (F := Ideal) m ρ)

theorem frame_reference_bits : Cert.quiescent_ChipsRef (hChipsRef := Cert.ChipsRef.Gen.facts) := fun m ρ _ =>
  (θ_run Cert.ChipsRefIdeal.defs _ _).mono (fun r h => ⟨fun c => (h c).2, sem_eq_zero_of_no_sems (by decide) r.2⟩)
    (Cert.ChipsRefIdeal.Value.run (F := Bits) m ρ)

theorem algebraic : Cert.algebraic_ChipsIdeal_ChipsRefIdeal (hChipsIdeal := Cert.ChipsIdeal.Gen.facts)
    (hChipsRefIdeal := Cert.ChipsRefIdeal.Gen.facts) := fun m ρ m' ρ' _ hX =>
  ⟨arranged (F := Ideal) (m' (((0 : Dev Cert.ChipsRefIdeal.nD).tc : Thread Cert.ChipsRefIdeal.nD Cert.ChipsRefIdeal.τ).loc Cert.ChipsRefIdeal.main_arg0)),
    (θ_run Cert.ChipsIdeal.defs _ _).mono (fun _ h c => ⟨value m _ hX c _ (h.1 c).2, (h.1 c).1⟩) (run_main (F := Ideal) m ρ),
    (θ_run Cert.ChipsRefIdeal.defs _ _).mono (fun _ h => ⟨((h 0).1.trans (result_eq m' 0)), (h 0).2⟩) (Cert.ChipsRefIdeal.Value.run (F := Ideal) m' ρ')⟩

theorem bitexact : Cert.bitexact_Chips_ChipsRef (hChips := Cert.Chips.Gen.facts)
    (hChipsRef := Cert.ChipsRef.Gen.facts) := fun m ρ m' ρ' _ hX =>
  ⟨arranged (F := Bits) (m' (((0 : Dev Cert.ChipsRefIdeal.nD).tc : Thread Cert.ChipsRefIdeal.nD Cert.ChipsRefIdeal.τ).loc Cert.ChipsRefIdeal.main_arg0)),
    (θ_run Cert.ChipsIdeal.defs _ _).mono (fun _ h c => ⟨value m _ hX c _ (h.1 c).2, (h.1 c).1⟩) (run_main (F := Bits) m ρ),
    (θ_run Cert.ChipsRefIdeal.defs _ _).mono (fun _ h => ⟨((h 0).1.trans (result_eq m' 0)), (h 0).2⟩) (Cert.ChipsRefIdeal.Value.run (F := Bits) m' ρ')⟩

end Cert.Chp

end
-- ==== Proof.ShareRun.lean ====
/-
  The exchange of the reduced shards between the two cores of a chip: its protocol and its run.

  Device `c` copies its shard into slab `core` of its own result and sends it into slab `core` of its sibling's. It waits
  for its sibling's shard, in the other slab, for its own transfer to have been read, and for its own copy.
-/
module

public import proofs.«01_k».proof.Proof.Slabs
public import proofs.«01_k».proof.Proof.Gen.ShareIdeal
public import proofs.«01_k».proof.Proof.Gen.ShareIdeal.Skeleton
public import proofs.«01_k».proof.Proof.Gen.ShareIdeal.Launch

@[expose] public section

set_option Elab.async false

noncomputable section

namespace Cert.Shr

open Cert.ShareIdeal Cert.ShareIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## Who sends what to whom -/

/-- The other core of the chip. -/
def sibling : Equiv.Perm (Dev nD) :=
  Function.Involutive.toPerm (fun c => ⟨(4 * (c.val / 4) + 2 * ((c.val / 2) % 2) + 1) - c.val % 2, by
    have := c.isLt; show _ < 8; have : c.val < 8 := c.isLt; omega⟩) (by intro c; revert c; decide)

theorem sibling_sibling (c : Dev nD) : sibling (sibling c) = c := sibling.symm_apply_apply c

theorem dev1 (c : Dev nD) : (⟨k0_dev1 c, k0_dev1_lt c⟩ : Dev nD) = sibling c := Fin.ext (k0_dev1_eq c)

/-- The shard. -/
abbrev shard : Memref sig .tc .hbm S11776x512 .f32 := Memref.whole main_arg0

/-- The slab of the result at given offsets. -/
def slab (off : Fin 3 → ℕ) (h : ∀ a, off a + S1x11776x512.size a ≤ S2x11776x512.size a) : Memref sig .tc .hbm S11776x512 .f32 :=
  ((Memref.whole main_v1).slice (Rect.unit (s := S2x11776x512) off S1x11776x512.size h) (fun _ => rfl)).squeeze
    S11776x512 squeezes_S1x11776x512_S11776x512

theorem slab_congr {off off' : Fin 3 → ℕ} (e : off = off') (h : ∀ a, off a + S1x11776x512.size a ≤ S2x11776x512.size a)
    (h' : ∀ a, off' a + S1x11776x512.size a ≤ S2x11776x512.size a) : slab off h = slab off' h' := by
  subst e; rfl

/-- Where the two slabs are: a device's own shard's, and its sibling's. -/
def offs (c : Dev nD) : Fin 2 → Fin 3 → ℕ
  | 0 => k0_off1 c
  | 1 => k0_off2 c

theorem offs_inb (c : Dev nD) : ∀ (t : Fin 2) (a : Fin 3), offs c t a + S1x11776x512.size a ≤ S2x11776x512.size a
  | 0 => k0_off1_inb c
  | 1 => k0_off2_inb c

/-- The two slabs. -/
def part (c : Dev nD) (t : Fin 2) : Memref sig .tc .hbm S11776x512 .f32 := slab (offs c t) (offs_inb c t)

theorem part_disjoint (c : Dev nD) (i j : Fin 2) (h : i ≠ j) : Disjoint (part c i).view.set (part c j).view.set := by
  have hd : Disjoint (part c 0).view.set (part c 1).view.set := by
    unfold part slab
    simp only [Memref.squeeze, Memref.slice, View.set_reshape]
    refine View.disjoint_slice (Rect.unit_disjoint 0 ?_)
    show k0_off1 c 0 + 1 ≤ k0_off2 c 0 ∨ k0_off2 c 0 + 1 ≤ k0_off1 c 0
    rw [k0_off1_eq, k0_off2_eq]
    show c.val % 2 + 1 ≤ 1 - c.val % 2 ∨ 1 - c.val % 2 + 1 ≤ c.val % 2
    omega
  match i, j with
  | 0, 0 => exact absurd rfl h
  | 0, 1 => exact hd
  | 1, 0 => exact hd.symm
  | 1, 1 => exact absurd rfl h

/-- Where a device sends its shard: to the slab its sibling keeps for it. -/
theorem part_sibling (c : Dev nD) : part c 0 = part (sibling c) 1 := by
  refine slab_congr ?_ _ _
  show k0_off1 c = k0_off2 (sibling c)
  rw [k0_off1_eq, k0_off2_eq]
  revert c; decide

variable (m : (ℓ : Loc nD τ sig) → Buf (Elt F) ℓ)

/-- Whose shard each slab holds at the end. -/
def owner (c : Dev nD) : Fin 2 → Dev nD
  | 0 => c
  | 1 => sibling c

/-- What slab `t` of device `c` holds at the end. -/
def landed (c : Dev nD) (t : Fin 2) : S11776x512.Idx → Elt F .f32 := shard.view.read (Elt F) (m ((owner c t).tc.loc main_arg0))

/-! ## The protocol -/

def cellSem : Cells 1 1 → SemLoc sig
  | .inl _ => .dma ⟨0, by decide⟩
  | .inr (.inl _) => .dma ⟨1, by decide⟩
  | .inr (.inr _) => .dma ⟨2, by decide⟩

theorem ownSem : Pipeline.OwnSemFacts (cfgs 0).spec cellSem := by decide

/-- The size of a transfer, as its counters see it. -/
def size : ℕ := shard.view.dmaCredit

def pay (c : Dev nD) : Cells 1 1 → sProp 𝕄
  | .inl _ => iprop(emp)
  | .inr (.inl _) => holds c (part c 1) (landed m c 1)
  | .inr (.inr _) => holds c (part c 0) (landed m c 0)

instance pay_storable (c : Dev nD) (k : Cells 1 1) : Storable (upEmb : UEmb _ 𝕄) (pay m c k) := by
  rcases k with j | j | j <;> unfold pay <;> infer_instance

def plan : Plan nD τ sig (Elt F) 1 1 where
  sem := cellSem
  sem_inj := ownSem.inj
  peer := fun _ => sibling
  size := size
  size_pos := View.dmaCredit_pos _ (by decide)
  lvl := fun _ => 0
  pay := pay m
  pay_storable := fun c k => pay_storable m c k

/-! ## The body -/

/-- The arrays a device starts from: its shard, lent, the slab of its own shard, and its sibling's slab for it. -/
def arrays (c : Dev nD) : sProp 𝕄 :=
  iprop(lent (c.tc.loc main_arg0) Finset.univ (m (c.tc.loc main_arg0))
    ∗ (c.tc.loc main_v1 ↦[(part c 0).view.set]{fullShare} m (c.tc.loc main_v1))
    ∗ ((sibling c).tc.loc main_v1 ↦[(part (sibling c) 1).view.set]{fullShare} m ((sibling c).tc.loc main_v1)))

/-- What it ends with. -/
def result (c : Dev nD) : sProp 𝕄 :=
  iprop(lent (c.tc.loc main_arg0) Finset.univ (m (c.tc.loc main_arg0))
    ∗ bigSep Finset.univ fun t => holds c (part c t) (landed m c t))

/-- The shard lent once more. -/
theorem lend (c : Dev nD) : (lent (c.tc.loc main_arg0) Finset.univ (m (c.tc.loc main_arg0)) : sProp 𝕄)
    ⊢ iprop(lent (shard.view.loc (c.tc : Thread nD τ)) shard.view.set (m (c.tc.loc main_arg0))
      ∗ lent (c.tc.loc main_arg0) Finset.univ (m (c.tc.loc main_arg0))) :=
  lent_carve (Finset.subset_univ shard.view.set) (m (c.tc.loc main_arg0))

/-- The transfer, started. -/
theorem put (κ : Dev nD × Cells 1 1 → ℕ) (c n : Dev nD) (hn : n = sibling c)
    {src dst : Memref sig .tc .hbm S11776x512 .f32} (hs : src = shard) (hd : dst = part c 0)
    {hsc : dst.view.ref.isScScratch = false} {sS sR : DmaSem sig} (hS : SemLoc.dma sS = cellSem (.inl 0)) (hR : SemLoc.dma sR = cellSem (.inr (.inl 0)))
    {hsrc : src.view.WordExact} {hdst : dst.view.WordExact}
    {hsem : DmaTarget.Typed .hbm (SemLoc.dma sR) (.remote (n.tc : Thread nD τ) dst (SemLoc.dma sS) hsc)}
    {α : Type} {k : PUnit → Prog (TpuEff nD τ sig (Elt F) Λ₀ .tc) α} {Q : α → sProp (MT nD τ sig Unit (Elt F) ℕ (UU nD τ sig) ℕ)} :
    iprop((plan m).records κ ∗ lent (c.tc.loc main_arg0) Finset.univ (m (c.tc.loc main_arg0))
        ∗ ((sibling c).tc.loc main_v1 ↦[(part (sibling c) 1).view.set]{fullShare} m ((sibling c).tc.loc main_v1))
        ∗ (plan m).owe c Finset.univ ∗ (plan m).right c 0)
      ⊢ iprop(((lent (c.tc.loc main_arg0) Finset.univ (m (c.tc.loc main_arg0)) ∗ (plan m).coming c (.inl 0) ∗ (plan m).owe c ∅)
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.remote (n.tc : Thread nD τ) dst (SemLoc.dma sS) hsc) (SemLoc.dma sR) hsrc hdst hsem) k) Q) := by
  rw [part_sibling] at hd
  subst hn hs hd
  iintro ⟨#HR, Hl, Hd, HO, Ht⟩ Hk
  have hc := lend m c
  ihave H := hc $$ Hl
  icases H with ⟨Hs, Hl⟩
  unfold lent
  icases Hs with ⟨%q, Hs⟩
  iapply ((plan m).wp_put Variants.none none κ c (sibling c) 0 Finset.univ (Finset.mem_univ _) rfl hS hR (q := q) (fs := m (c.tc.loc main_arg0))
    (fd := m ((sibling c).tc.loc main_v1)) rfl (by show _ ⊢ iprop(emp); iintro -; iempintro)
    (by
      have e : landed m (sibling c) 1 = shard.view.read (Elt F) (m (c.tc.loc main_arg0)) := by
        unfold landed owner; rw [sibling_sibling]
      refine (holds_landed (sibling c) (part (sibling c) 1) _ _).trans ?_
      rw [← e]; exact .rfl)) $$ [Hs Hd HO Ht] [Hl Hk]
  · isplitr; · iexact HR
    isplitl [Hs]; · iexact Hs
    isplitl [Hd]; · iexact Hd
    isplitl [HO]; · iexact HO
    iexact Ht
  · iintro ⟨Hc, HO⟩
    iapply Hk
    isplitl [Hl]; · iexact Hl
    isplitl [Hc]; · iexact Hc
    iexact HO

/-- The copy, started. -/
theorem copy (κ : Dev nD × Cells 1 1 → ℕ) (c : Dev nD)
    {src dst : Memref sig .tc .hbm S11776x512 .f32} (hs : src = shard) (hd : dst = part c 0)
    {sR : DmaSem sig} (hR : SemLoc.dma sR = cellSem (.inr (.inr 0)))
    {hsrc : src.view.WordExact} {hdst : dst.view.WordExact} {hsem : DmaTarget.Typed (nD := nD) (τ := τ) (p := Proc.tc) .hbm (SemLoc.dma sR) (.here dst)}
    {α : Type} {k : PUnit → Prog (TpuEff nD τ sig (Elt F) Λ₀ .tc) α} {Q : α → sProp (MT nD τ sig Unit (Elt F) ℕ (UU nD τ sig) ℕ)} :
    iprop((plan m).records κ ∗ lent (c.tc.loc main_arg0) Finset.univ (m (c.tc.loc main_arg0))
        ∗ (c.tc.loc main_v1 ↦[(part c 0).view.set]{fullShare} m (c.tc.loc main_v1)) ∗ (plan m).rightHere c 0)
      ⊢ iprop(((lent (c.tc.loc main_arg0) Finset.univ (m (c.tc.loc main_arg0)) ∗ (plan m).coming c (.inr (.inr 0)))
            -∗ wp frame (wpE (defs₀ (F := F)) Variants.none (c.tc : Thread nD τ) none) Set.univ (k ⟨⟩) Q)
          -∗ wp frame (wpE (defs₀ (F := F)) Variants.none (c.tc : Thread nD τ) none) Set.univ
              (.op (.enqueueDma src (.here dst) (SemLoc.dma sR) hsrc hdst hsem) k) Q) := by
  subst hs hd
  iintro ⟨#HR, Hl, Hd, Ht⟩ Hk
  have hc := lend m c
  ihave H := hc $$ Hl
  icases H with ⟨Hs, Hl⟩
  unfold lent
  icases Hs with ⟨%q, Hs⟩
  iapply ((plan m).wp_local Variants.none none κ c 0 hR (q := q) (fs := m (c.tc.loc main_arg0))
    (fd := m (c.tc.loc main_v1)) rfl (by
      refine BIBase.Entails.trans ?_ (holds_landed c (part c 0) (m (c.tc.loc main_v1)) (landed m c 0))
      iintro ⟨H, -⟩; iexact H)) $$ [Hs Hd Ht] [Hl Hk]
  · isplitr; · iexact HR
    isplitl [Hs]; · iexact Hs
    isplitl [Hd]; · iexact Hd
    iexact Ht
  · iintro Hc
    iapply Hk
    isplitl [Hl]; · iexact Hl
    iexact Hc

/-- One wait. -/
theorem take (κ : Dev nD × Cells 1 1 → ℕ) (c : Dev nD) (k : Cells 1 1)
    (src dst : Memref sig .tc .hbm S11776x512 .f32) {sm : DmaSem sig} (hm : SemLoc.dma sm = cellSem k)
    {hsrc : src.view.WordExact} {hdst : dst.view.WordExact} (hN : dst.view.dmaCredit = size)
    {V : sProp (MT nD τ sig Unit (Elt F) ℕ (UU nD τ sig) ℕ)} (hV : pay m c k = V)
    {α : Type} {f : PUnit → Prog (TpuEff nD τ sig (Elt F) Λ₀ .tc) α} {Q : α → sProp (MT nD τ sig Unit (Elt F) ℕ (UU nD τ sig) ℕ)} :
    iprop((plan m).records κ ∗ (plan m).coming c k ∗ (plan m).owe c ∅ ∗ (plan m).fresh c k)
      ⊢ iprop((((plan m).owe c ∅ ∗ (plan m).spent c k ∗ V)
            -∗ wp frame (wpE (defs₀ (F := F)) Variants.none (c.tc : Thread nD τ) none) Set.univ (f ⟨⟩) Q)
          -∗ wp frame (wpE (defs₀ (F := F)) Variants.none (c.tc : Thread nD τ) none) Set.univ
              (.op (.waitDma2 sm src dst hsrc hdst) f) Q) :=
  hV ▸ (plan m).wp_take Variants.none none κ c k ∅ (fun _ h => absurd h (Finset.notMem_empty _)) hm hN

set_option maxRecDepth 65536 in
/-- The body of device `c`. -/
theorem body (κ : Dev nD × Cells 1 1 → ℕ) (c : Dev nD) (t : Fin cfg0.N) :
    iprop((plan m).records κ ∗ (plan m).start c ∗ (plan m).claims c ∗ (plan m).owe c Finset.univ ∗ arrays m c)
      ⊢ wp frame (wpE (defs₀ (F := F)) Variants.none (c.tc : Thread nD τ) none) Set.univ
          (defs₀ .tc cfg0.body (cfg0.bodyArgs t (cfg0.slots t)))
          fun _ => iprop((result m c ∗ Pipeline.ownSems0 cellSem c) ∗ ∃ W', owes (c.tc : Thread nD τ) 0 W') := by
  change _ ⊢ wp frame _ Set.univ (cc0_reduce_share_8 (Memref.whole main_arg0) (Memref.isWhole_whole _) (Memref.whole main_v1) (Memref.isWhole_whole _) cc0_scratch0 cc0_scratch1 cc0_scratch2) _
  simp only [cc0_reduce_share_8_eq_skeleton]
  unfold cc0_reduce_share_8_skel
  simp only [k0_part1_eq_skeleton]
  unfold k0_part1_skel
  simp only [Prog.lift, Prog.bind_op, Prog.bind_ret, Prog.pure_eq_ret, wp_deviceId]
  unfold Plan.start Plan.claims arrays
  simp only [bigSep_cells, bigSep_one]
  iintro ⟨#HR, ⟨⟨⟨Fs, -⟩, ⟨Fr, -⟩, ⟨Fl, -⟩⟩, ⟨T, -⟩, ⟨U, -⟩⟩, ⟨C, -⟩, HO, HL, D0, D1⟩
  iapply (copy m κ c rfl rfl rfl) $$ [HL D0 U]
  · isplitr; · iexact HR
    isplitl [HL]; · iexact HL
    isplitl [D0]; · iexact D0
    iexact U
  iintro ⟨HL, L⟩
  iapply (put m κ c ⟨k0_dev1 c, k0_dev1_lt c⟩ (dev1 c) rfl rfl rfl rfl) $$ [HL D1 HO T]
  · isplitr; · iexact HR
    isplitl [HL]; · iexact HL
    isplitl [D1]; · iexact D1
    isplitl [HO]; · iexact HO
    iexact T
  iintro ⟨HL, S, HO⟩
  iapply (take m κ c (.inr (.inl 0)) shard (part c 1) rfl rfl (V := holds c (part c 1) (landed m c 1)) rfl) $$ [C HO Fr]
  · isplitr; · iexact HR
    isplitl [C]; · iexact C
    isplitl [HO]; · iexact HO
    iexact Fr
  iintro ⟨HO, Pr, V1⟩
  iapply (take m κ c (.inl 0) (part c 0) shard rfl rfl rfl) $$ [S HO Fs]
  · isplitr; · iexact HR
    isplitl [S]; · iexact S
    isplitl [HO]; · iexact HO
    iexact Fs
  iintro ⟨HO, Ps, -⟩
  iapply (take m κ c (.inr (.inr 0)) shard (part c 0) rfl rfl (V := holds c (part c 0) (landed m c 0)) rfl) $$ [L HO Fl]
  · isplitr; · iexact HR
    isplitl [L]; · iexact L
    isplitl [HO]; · iexact HO
    iexact Fl
  iintro ⟨HO, Pl, V0⟩
  iapply ((plan m).wp_done Variants.none none κ c (result m c))
  unfold result
  simp only [bigSep_cells, bigSep_one, bigSep_two]
  isplitr; · iexact HR
  isplitl [HL V0 V1]
  · isplitl [HL]; · iexact HL
    isplitl [V0]; · iexact V0
    isplitl [V1]; · iexact V1
    iempintro
  isplitr [HO]
  · isplitl [Ps]
    · isplitl [Ps]; · iexact Ps
      iempintro
    isplitl [Pr]
    · isplitl [Pr]; · iexact Pr
      iempintro
    isplitl [Pl]; · iexact Pl
    iempintro
  iexact HO

/-! ## The run -/

/-- A result, dealt in its two slabs. -/
theorem split (c : Dev nD) : (c.tc.loc main_v1 ↦{fullShare} m (c.tc.loc main_v1) : sProp 𝕄)
    ⊢ bigSep Finset.univ fun t => c.tc.loc main_v1 ↦[(part c t).view.set]{fullShare} m (c.tc.loc main_v1) :=
  have h : ∀ i j : Fin 2, i ≠ j → Disjoint ((part c i).view.set : Finset (Idx (c.tc.loc main_v1 : Loc nD τ sig))) (part c j).view.set :=
    part_disjoint c
  deal_slices (T := Fin 2) (ℓ := (c.tc.loc main_v1 : Loc nD τ sig)) (fun t => (part c t).view.set) h _

/-- The arrays as the launch deals them. -/
theorem dealt : bigSep Finset.univ (fun c => Pipeline.unscopedRest (Ix := Unit) (Name := ℕ) (U := UU nD τ sig) (Lvl := ℕ) (τ := τ) (cfgs 0).spec c (fun b => m ((c.tc : Thread nD τ).loc b)))
    ⊢ (bigSep Finset.univ (arrays m) : sProp 𝕄) := by
  have h : ∀ c : Dev nD, (Pipeline.unscopedRest (Ix := Unit) (Name := ℕ) (U := UU nD τ sig) (Lvl := ℕ) (τ := τ) (cfgs 0).spec c (fun b => m ((c.tc : Thread nD τ).loc b)) : sProp 𝕄)
      ⊢ iprop(lent (c.tc.loc main_arg0) Finset.univ (m (c.tc.loc main_arg0))
        ∗ (c.tc.loc main_v1 ↦[(part c 0).view.set]{fullShare} m (c.tc.loc main_v1))
        ∗ (c.tc.loc main_v1 ↦[(part c 1).view.set]{fullShare} m (c.tc.loc main_v1))) := fun c => by
    refine (Entails.of_eq (unscopedRest0_eq c _)).trans ?_
    refine BIClass.sep_mono lent_intro ?_
    have h₂ := split m c
    rw [bigSep_two] at h₂
    refine BIBase.Entails.trans h₂ ?_
    iintro ⟨H0, H1, -⟩
    isplitl [H0]; · iexact H0
    iexact H1
  have e : (bigSep Finset.univ (arrays m) : sProp 𝕄) = bigSep Finset.univ fun c : Dev nD => iprop(lent (c.tc.loc main_arg0) Finset.univ (m (c.tc.loc main_arg0))
        ∗ (c.tc.loc main_v1 ↦[(part c 0).view.set]{fullShare} m (c.tc.loc main_v1))
        ∗ (c.tc.loc main_v1 ↦[(part c 1).view.set]{fullShare} m (c.tc.loc main_v1))) := by
    unfold arrays
    rw [bigSep_sep', bigSep_sep', bigSep_sep', bigSep_sep', BI.bigSep_univ_equiv sibling fun c : Dev nD =>
      (c.tc.loc main_v1 ↦[(part c 1).view.set]{fullShare} m (c.tc.loc main_v1) : sProp 𝕄)]
  exact (bigSep_mono fun c _ => h c).trans (Entails.of_eq e.symm)

/-- The run: every device keeps its own shard and ends with both shards in its result's slabs, and every counter is back at
    zero. -/
theorem run_main (ρ : Dev nD → PrngReg) :
    θ_run (defs (F := F)) (onTc (τ := τ) (main (F := F))) ⟨m, fun _ => 0, ρ⟩ fun r =>
      (∀ c : Dev nD, r.2.mem (c.tc.loc main_arg0) = m (c.tc.loc main_arg0)
        ∧ ∀ t, (part c t).view.read (Elt F) (r.2.mem ((part c t).view.loc (c.tc : Thread nD τ))) = landed m c t)
      ∧ r.2.sem = fun _ => 0 := by
  refine (θ_run defs _ _).mono (fun r h => ⟨h.1, sem_eq_zero_of_scoped (by decide) h.2⟩) ((plan m).run_exchange cfgs ownSem N_0 (fun _ => rfl) cellOf_inj winFacts0 defs₀ m ρ main (fun _ => rfl)
    (fun c => scopedRest0_eq c) (arrays m) (result m) (dealt m) (body m)
    (fun c μ => μ.mem (c.tc.loc main_arg0) = m (c.tc.loc main_arg0)
        ∧ ∀ t, (part c t).view.read (Elt F) (μ.mem ((part c t).view.loc (c.tc : Thread nD τ))) = landed m c t)
    fun c s' => read_end c (c.tc.loc main_arg0) (m (c.tc.loc main_arg0)) (part c) (landed m c) s')

end Cert.Shr

end
-- ==== Proof.ShareValue.lean ====
/-
  The exchange of the reduced shards: what it computes, and the claims about it.

  A device's result is the pair of its chip's two shards, in the cores' order, which is what the reshaped array holds there.
-/
module

public import proofs.«01_k».proof.Defs
public import proofs.«01_k».proof.Proof.Rows
public import proofs.«01_k».proof.Proof.ShareRun
public import proofs.«01_k».proof.Proof.Gen.Share
public import proofs.«01_k».proof.Proof.Gen.ShareRef
public import proofs.«01_k».proof.Proof.Gen.ShareRefIdeal.Run

@[expose] public section

set_option Elab.async false

noncomputable section

namespace Cert.Shr

open Cert.ShareIdeal Cert.ShareIdeal.Gen Cert.Exchange
open Idealize.ShloMosaic
open Idealize.ShloMosaic.TcCoe
open Idealize.SL.Sem

variable {F : FTy → Type} [FloatOps F]

/-- The reference's result, as a function of its argument. -/
def paired (X : Cert.ShareRefIdeal.S94208x512.Idx → Elt F .f32) : Cert.ShareRefIdeal.S8x11776x512.Idx → Elt F .f32 :=
  shapeCast _ X Cert.ShareRefIdeal.Gen.shapeCasts_S94208x512_S8x11776x512

set_option maxRecDepth 16384 in
theorem paired_at (X : Cert.ShareRefIdeal.S94208x512.Idx → Elt F .f32) (k : Fin 8) (r : Fin 11776) (l : Fin 512) :
    paired X (ix3 k r l) = X (ix2 (⟨k.val * 11776 + r.val, by omega⟩ : Fin 94208) l) := by
  unfold paired
  refine shapeCast_apply _ _ _ _ ?_
  rw [Shape.rowMajor_val_three, Shape.rowMajor_val_two]
  rfl

/-- Which slab of the result is which of the two in the table. -/
def slot (c : Dev nD) : Fin 2 → Fin 2
  | 0 => ⟨c.val % 2, by omega⟩
  | 1 => ⟨1 - c.val % 2, by omega⟩

theorem slot_covers (c : Dev nD) (k : Fin 2) : ∃ t, slot c t = k := by revert c k; decide

theorem offs_eq (c : Dev nD) (t : Fin 2) : offs c t = ![(slot c t).val, 0, 0] := by
  match t with
  | 0 => exact k0_off1_eq c
  | 1 => exact k0_off2_eq c

theorem part_at (f : S2x11776x512.Idx → Elt F .f32) (c : Dev nD) (t : Fin 2) (r : Fin 11776) (l : Fin 512) :
    (part c t).view.read (Elt F) f (ix2 r l) = f (ix3 (slot c t) r l) :=
  slab_read (Memref.whole main_v1) (offs c t) (offs_inb c t) (fun _ => rfl) squeezes_S1x11776x512_S11776x512 f (slot c t) (offs_eq c t) r l

theorem owner_slot (c : Dev nD) (t : Fin 2) : (owner c t).val = 2 * (c.val / 2) + (slot c t).val := by revert c t; decide

/-- The shards that arrived are the device's block of the reference's result. -/
theorem value (m : (ℓ : Loc nD τ sig) → Buf (Elt F) ℓ) (X : Cert.ShareRefIdeal.S94208x512.Idx → Elt F .f32)
    (hX : ∀ c : Dev nD, m (c.tc.loc main_arg0) = Layout.block ⟨2, ![11776, 512]⟩ ⟨2, ![94208, 512]⟩ 0 8 c X)
    (c : Dev nD) (f : S2x11776x512.Idx → Elt F .f32) (hf : ∀ t, (part c t).view.read (Elt F) f = landed m c t) :
    f = Layout.blockN ⟨3, ![2, 11776, 512]⟩ ⟨3, ![8, 11776, 512]⟩ (Layout.meshBlock [2, 2, 2] ![[0, 1], [], []] c) (paired X) := by
  funext i
  obtain ⟨k, r, l, rfl⟩ : ∃ (k : Fin 2) (r : Fin 11776) (l : Fin 512), i = ix3 k r l := ⟨i 0, i 1, i 2, eq_ix3 i⟩
  obtain ⟨t, rfl⟩ := slot_covers c k
  have h := congrFun (hf t) (ix2 r l)
  rw [part_at] at h
  rw [h]
  have e : Layout.TilesN.idx (S := ⟨3, ![2, 11776, 512]⟩) (T := ⟨3, ![8, 11776, 512]⟩) (by decide) (Layout.meshBlock [2, 2, 2] ![[0, 1], [], []] c) (ix3 (slot c t) r l)
      = ix3 (⟨2 * (c.val / 2) + (slot c t).val, by have : c.val < 8 := c.isLt; have := (slot c t).isLt; omega⟩ : Fin 8) r l := by
    funext a; refine Fin.ext ?_
    match a with
    | ⟨0, _⟩ =>
      have : ∀ c : Dev nD, Layout.meshLin [2, 2, 2] c.val [0, 1] * 2 = 2 * (c.val / 2) := by decide
      show Layout.meshLin [2, 2, 2] c.val [0, 1] * 2 + (slot c t).val = _
      rw [this]
      rfl
    | ⟨1, _⟩ => show 0 * 11776 + r.val = r.val; omega
    | ⟨2, _⟩ => show 0 * 512 + l.val = l.val; omega
  refine Eq.trans ?_ ((congrArg (paired X) e).trans (paired_at X _ r l)).symm
  unfold landed
  rw [hX]
  refine congrArg X (funext fun a => Fin.ext ?_)
  match a with
  | ⟨0, _⟩ => show (owner c t).val * 11776 + r.val = (2 * (c.val / 2) + (slot c t).val) * 11776 + r.val; rw [owner_slot]
  | ⟨1, _⟩ => rfl

/-! ## The claims -/

theorem frame_kernel : Cert.quiescent_Share (hShare := Cert.Share.Gen.facts) := fun m ρ _ =>
  (θ_run Cert.ShareIdeal.defs _ _).mono (fun _ h => ⟨fun c => (h.1 c).1, h.2⟩) (run_main (F := Bits) m ρ)

theorem frame_ideal : Cert.quiescent_ShareIdeal (hShareIdeal := Cert.ShareIdeal.Gen.facts) := fun m ρ _ =>
  (θ_run Cert.ShareIdeal.defs _ _).mono (fun _ h => ⟨fun c => (h.1 c).1, h.2⟩) (run_main (F := Ideal) m ρ)

theorem frame_reference : Cert.quiescent_ShareRefIdeal (hShareRefIdeal := Cert.ShareRefIdeal.Gen.facts) := fun m ρ _ =>
  (θ_run Cert.ShareRefIdeal.defs _ _).mono (fun r h => ⟨fun c => (h c).2, sem_eq_zero_of_no_sems (by decide) r.2⟩)
    (Cert.ShareRefIdeal.Value.run (F := Ideal) m ρ)

theorem frame_reference_bits : Cert.quiescent_ShareRef (hShareRef := Cert.ShareRef.Gen.facts) := fun m ρ _ =>
  (θ_run Cert.ShareRefIdeal.defs _ _).mono (fun r h => ⟨fun c => (h c).2, sem_eq_zero_of_no_sems (by decide) r.2⟩)
    (Cert.ShareRefIdeal.Value.run (F := Bits) m ρ)

theorem algebraic : Cert.algebraic_ShareIdeal_ShareRefIdeal (hShareIdeal := Cert.ShareIdeal.Gen.facts)
    (hShareRefIdeal := Cert.ShareRefIdeal.Gen.facts) := fun m ρ m' ρ' _ hX =>
  ⟨paired (F := Ideal) (m' (((0 : Dev Cert.ShareRefIdeal.nD).tc : Thread Cert.ShareRefIdeal.nD Cert.ShareRefIdeal.τ).loc Cert.ShareRefIdeal.main_arg0)),
    (θ_run Cert.ShareIdeal.defs _ _).mono (fun _ h c => ⟨value m _ hX c _ (h.1 c).2, (h.1 c).1⟩) (run_main (F := Ideal) m ρ),
    (θ_run Cert.ShareRefIdeal.defs _ _).mono (fun _ h => h 0) (Cert.ShareRefIdeal.Value.run (F := Ideal) m' ρ')⟩

theorem bitexact : Cert.bitexact_Share_ShareRef (hShare := Cert.Share.Gen.facts)
    (hShareRef := Cert.ShareRef.Gen.facts) := fun m ρ m' ρ' _ hX =>
  ⟨paired (F := Bits) (m' (((0 : Dev Cert.ShareRefIdeal.nD).tc : Thread Cert.ShareRefIdeal.nD Cert.ShareRefIdeal.τ).loc Cert.ShareRefIdeal.main_arg0)),
    (θ_run Cert.ShareIdeal.defs _ _).mono (fun _ h c => ⟨value m _ hX c _ (h.1 c).2, (h.1 c).1⟩) (run_main (F := Bits) m ρ),
    (θ_run Cert.ShareRefIdeal.defs _ _).mono (fun _ h => h 0) (Cert.ShareRefIdeal.Value.run (F := Bits) m' ρ')⟩

end Cert.Shr

end
-- ==== Proof.Adam.lean ====
/-
  The optimiser's step: the host's operations and the kernel's give the same arrays.

  Kernel and reference compute one expression of the weight, the gradient and the two moments at every index, the kernel with
  its own division and square root and the reference with the host's. On the reals each pair is one operation.
-/
module

public import Idealize.ShloMosaic.PureOps
public import Idealize.ShloMosaic.PureOps.Ideal

@[expose] public section

set_option Elab.async false

noncomputable section

namespace Cert.Adam

open Idealize.ShloMosaic

/-- An array of reals. -/
abbrev Arr (S : Shape) : Type := FVec Ideal S .f32

/-- The first moment, an index at a time. -/
abbrev first {S : Shape} (g m : Arr S) : Arr S := fun i =>
  FloatOps.addf (FloatOps.mulf (Scalar.ofBits .f32 0x3F666666#32) (m i)) (FloatOps.mulf (Scalar.ofBits .f32 0x3DCCCCCD#32) (g i))

/-- The second moment. -/
abbrev second {S : Shape} (g v : Arr S) : Arr S := fun i =>
  FloatOps.addf (FloatOps.mulf (Scalar.ofBits .f32 0x3F7FBE77#32) (v i)) (FloatOps.mulf (Scalar.ofBits .f32 0x3A83126F#32) (FloatOps.mulf (g i) (g i)))

/-- The weight's change. -/
abbrev change {S : Shape} (w g m v : Arr S) : Arr S := fun i =>
  FloatOps.mulf (Scalar.ofBits .f32 0xBA83126F#32) (FloatOps.addf
    (FloatOps.divf (FloatOps.divf (first g m i) (Scalar.ofBits .f32 0x3F26BD02#32))
      (FloatOps.addf (FloatOps.sqrt (FloatOps.divf (second g v i) (Scalar.ofBits .f32 0x3C231ACC#32))) (Scalar.ofBits .f32 0x322BCC77#32)))
    (FloatOps.mulf (Scalar.ofBits .f32 0x3C23D70A#32) (w i)))

section At

variable {S S' : Shape} {w g m v : Arr S} {w' g' m' v' : Arr S'} {i : S.Idx} {i' : S'.Idx}

/-! Each depends on its arrays' elements at the one index. -/

theorem first_at (hg : g i = g' i') (hm : m i = m' i') : first g m i = first g' m' i' := by
  dsimp only [first]; rw [hg, hm]

theorem second_at (hg : g i = g' i') (hv : v i = v' i') : second g v i = second g' v' i' := by
  dsimp only [second]; rw [hg, hv]

theorem change_at (hw : w i = w' i') (hg : g i = g' i') (hm : m i = m' i') (hv : v i = v' i') :
    change w g m v i = change w' g' m' v' i' := by
  dsimp only [change, first, second]; rw [hw, hg, hm, hv]

end At

section Host

variable {S : Shape} (hb : (⟨0, ![]⟩ : Shape).BroadcastsInDim S ![])

/-- A number, at every index. -/
abbrev splat (b : BitVec 32) : Arr S := broadcastInDim S ![] hb (constant ⟨0, ![]⟩ .f32 b)

abbrev hostFirst (g m : Arr S) : Arr S := addf (mulf (splat hb 0x3F666666#32) m) (mulf (splat hb 0x3DCCCCCD#32) g)

abbrev hostSecond (g v : Arr S) : Arr S := addf (mulf (splat hb 0x3F7FBE77#32) v) (mulf (splat hb 0x3A83126F#32) (mulf g g))

abbrev hostChange (w g m v : Arr S) : Arr S :=
  mulf (splat hb 0xBA83126F#32) (addf
    (Host.divf (Host.divf (hostFirst hb g m) (splat hb 0x3F26BD02#32))
      (addf (Host.sqrt (Host.divf (hostSecond hb g v) (splat hb 0x3C231ACC#32))) (splat hb 0x322BCC77#32)))
    (mulf (splat hb 0x3C23D70A#32) w))

variable {w w' g g' m m' v v' : Arr S}

theorem first_eq (hg : g' = g) (hm : m' = m) : hostFirst hb g' m' = first g m := by
  subst hg hm; rfl

theorem second_eq (hg : g' = g) (hv : v' = v) : hostSecond hb g' v' = second g v := by
  subst hg hv; rfl

theorem change_eq (hw : w' = w) (hg : g' = g) (hm : m' = m) (hv : v' = v) : hostChange hb w' g' m' v' = change w g m v := by
  subst hw hg hm hv; rfl

/-- The three results together, beside whatever else holds. -/
theorem step_eq {d a b : Arr S} {P : Prop} (h : w' = w ∧ g' = g ∧ m' = m ∧ v' = v)
    (r : d = hostChange hb w' g' m' v' ∧ a = hostFirst hb g' m' ∧ b = hostSecond hb g' v' ∧ P) :
    d = change w g m v ∧ a = first g m ∧ b = second g v ∧ P :=
  ⟨r.1.trans (change_eq hb h.1 h.2.1 h.2.2.1 h.2.2.2), r.2.1.trans (first_eq hb h.2.1 h.2.2.1),
    r.2.2.1.trans (second_eq hb h.2.1 h.2.2.2), r.2.2.2⟩

end Host

end Cert.Adam

end
-- ==== Proof.AdamClaims.lean ====
/-
  The claims about the optimiser's step, at each shape a weight has.

  The kernel's run gives the three arrays an index at a time; the reference's are the same by `step_eq`.
-/
module

public import proofs.«01_k».proof.Defs
public import proofs.«01_k».proof.Proof.Adam
public import proofs.«01_k».proof.Proof.Gen.AdamQkv
public import proofs.«01_k».proof.Proof.Gen.AdamQkvIdeal.Value
public import proofs.«01_k».proof.Proof.Gen.AdamQkvRefIdeal.Run
public import proofs.«01_k».proof.Proof.Gen.AdamOut
public import proofs.«01_k».proof.Proof.Gen.AdamOutIdeal.Value
public import proofs.«01_k».proof.Proof.Gen.AdamOutRefIdeal.Run
public import proofs.«01_k».proof.Proof.Gen.AdamGlu
public import proofs.«01_k».proof.Proof.Gen.AdamGluIdeal.Value
public import proofs.«01_k».proof.Proof.Gen.AdamGluRefIdeal.Run
public import proofs.«01_k».proof.Proof.Gen.AdamConv
public import proofs.«01_k».proof.Proof.Gen.AdamConvIdeal.Value
public import proofs.«01_k».proof.Proof.Gen.AdamConvRefIdeal.Run
public import proofs.«01_k».proof.Proof.Gen.AdamFfn
public import proofs.«01_k».proof.Proof.Gen.AdamFfnIdeal.Value
public import proofs.«01_k».proof.Proof.Gen.AdamFfnRefIdeal.Run
public import proofs.«01_k».proof.Proof.Gen.AdamDown
public import proofs.«01_k».proof.Proof.Gen.AdamDownIdeal.Value
public import proofs.«01_k».proof.Proof.Gen.AdamDownRefIdeal.Run
public import proofs.«01_k».proof.Proof.Gen.AdamSmall
public import proofs.«01_k».proof.Proof.Gen.AdamSmallIdeal.Value
public import proofs.«01_k».proof.Proof.Gen.AdamSmallRefIdeal.Run

@[expose] public section

set_option Elab.async false

noncomputable section

namespace Cert.Adam

open Idealize.ShloMosaic
open Idealize.ShloMosaic.TcCoe
open Idealize.SL.Sem

/-! ## The attention block's input projection -/

set_option smartUnfolding false in
theorem kernel_qkv : Cert.quiescent_AdamQkv (hAdamQkv := Cert.AdamQkv.Gen.facts) := fun m ρ _ => by
  with_unfolding_all exact Cert.AdamQkvIdeal.Gen.frame (F := Bits) m ρ

theorem ideal_qkv : Cert.quiescent_AdamQkvIdeal (hAdamQkvIdeal := Cert.AdamQkvIdeal.Gen.facts) := fun m ρ _ => Cert.AdamQkvIdeal.Gen.frame m ρ

theorem reference_qkv : Cert.quiescent_AdamQkvRefIdeal (hAdamQkvRefIdeal := Cert.AdamQkvRefIdeal.Gen.facts) := fun m ρ _ =>
  (θ_run Cert.AdamQkvRefIdeal.defs _ _).mono (fun r h => ⟨fun c => (h c).2.2.2, sem_eq_zero_of_no_sems (by decide) r.2⟩)
    (Cert.AdamQkvRefIdeal.Value.run m ρ)

theorem algebraic_qkv : Cert.algebraic_AdamQkvIdeal_AdamQkvRefIdeal (hAdamQkvIdeal := Cert.AdamQkvIdeal.Gen.facts)
    (hAdamQkvRefIdeal := Cert.AdamQkvRefIdeal.Gen.facts) := fun m ρ m' ρ' _ h =>
  ⟨_, _, _, Cert.AdamQkvIdeal.Value.run m ρ,
    (θ_run Cert.AdamQkvRefIdeal.defs _ _).mono (fun _ r c => step_eq _ (h c) (r c)) (Cert.AdamQkvRefIdeal.Value.run m' ρ')⟩

/-! ## Its output projection -/

set_option smartUnfolding false in
theorem kernel_out : Cert.quiescent_AdamOut (hAdamOut := Cert.AdamOut.Gen.facts) := fun m ρ _ => by
  with_unfolding_all exact Cert.AdamOutIdeal.Gen.frame (F := Bits) m ρ

theorem ideal_out : Cert.quiescent_AdamOutIdeal (hAdamOutIdeal := Cert.AdamOutIdeal.Gen.facts) := fun m ρ _ => Cert.AdamOutIdeal.Gen.frame m ρ

theorem reference_out : Cert.quiescent_AdamOutRefIdeal (hAdamOutRefIdeal := Cert.AdamOutRefIdeal.Gen.facts) := fun m ρ _ =>
  (θ_run Cert.AdamOutRefIdeal.defs _ _).mono (fun r h => ⟨fun c => (h c).2.2.2, sem_eq_zero_of_no_sems (by decide) r.2⟩)
    (Cert.AdamOutRefIdeal.Value.run m ρ)

theorem algebraic_out : Cert.algebraic_AdamOutIdeal_AdamOutRefIdeal (hAdamOutIdeal := Cert.AdamOutIdeal.Gen.facts)
    (hAdamOutRefIdeal := Cert.AdamOutRefIdeal.Gen.facts) := fun m ρ m' ρ' _ h =>
  ⟨_, _, _, Cert.AdamOutIdeal.Value.run m ρ,
    (θ_run Cert.AdamOutRefIdeal.defs _ _).mono (fun _ r c => step_eq _ (h c) (r c)) (Cert.AdamOutRefIdeal.Value.run m' ρ')⟩

/-! ## The projections of shape 1024 × 512 -/

set_option smartUnfolding false in
theorem kernel_glu : Cert.quiescent_AdamGlu (hAdamGlu := Cert.AdamGlu.Gen.facts) := fun m ρ _ => by
  with_unfolding_all exact Cert.AdamGluIdeal.Gen.frame (F := Bits) m ρ

theorem ideal_glu : Cert.quiescent_AdamGluIdeal (hAdamGluIdeal := Cert.AdamGluIdeal.Gen.facts) := fun m ρ _ => Cert.AdamGluIdeal.Gen.frame m ρ

theorem reference_glu : Cert.quiescent_AdamGluRefIdeal (hAdamGluRefIdeal := Cert.AdamGluRefIdeal.Gen.facts) := fun m ρ _ =>
  (θ_run Cert.AdamGluRefIdeal.defs _ _).mono (fun r h => ⟨fun c => (h c).2.2.2, sem_eq_zero_of_no_sems (by decide) r.2⟩)
    (Cert.AdamGluRefIdeal.Value.run m ρ)

theorem algebraic_glu : Cert.algebraic_AdamGluIdeal_AdamGluRefIdeal (hAdamGluIdeal := Cert.AdamGluIdeal.Gen.facts)
    (hAdamGluRefIdeal := Cert.AdamGluRefIdeal.Gen.facts) := fun m ρ m' ρ' _ h =>
  ⟨_, _, _, Cert.AdamGluIdeal.Value.run m ρ,
    (θ_run Cert.AdamGluRefIdeal.defs _ _).mono (fun _ r c => step_eq _ (h c) (r c)) (Cert.AdamGluRefIdeal.Value.run m' ρ')⟩

/-! ## The convolution block's second projection -/

set_option smartUnfolding false in
theorem kernel_conv : Cert.quiescent_AdamConv (hAdamConv := Cert.AdamConv.Gen.facts) := fun m ρ _ => by
  with_unfolding_all exact Cert.AdamConvIdeal.Gen.frame (F := Bits) m ρ

theorem ideal_conv : Cert.quiescent_AdamConvIdeal (hAdamConvIdeal := Cert.AdamConvIdeal.Gen.facts) := fun m ρ _ => Cert.AdamConvIdeal.Gen.frame m ρ

theorem reference_conv : Cert.quiescent_AdamConvRefIdeal (hAdamConvRefIdeal := Cert.AdamConvRefIdeal.Gen.facts) := fun m ρ _ =>
  (θ_run Cert.AdamConvRefIdeal.defs _ _).mono (fun r h => ⟨fun c => (h c).2.2.2, sem_eq_zero_of_no_sems (by decide) r.2⟩)
    (Cert.AdamConvRefIdeal.Value.run m ρ)

theorem algebraic_conv : Cert.algebraic_AdamConvIdeal_AdamConvRefIdeal (hAdamConvIdeal := Cert.AdamConvIdeal.Gen.facts)
    (hAdamConvRefIdeal := Cert.AdamConvRefIdeal.Gen.facts) := fun m ρ m' ρ' _ h =>
  ⟨_, _, _, Cert.AdamConvIdeal.Value.run m ρ,
    (θ_run Cert.AdamConvRefIdeal.defs _ _).mono (fun _ r c => step_eq _ (h c) (r c)) (Cert.AdamConvRefIdeal.Value.run m' ρ')⟩

/-! ## The feed-forward block's gate and up projections -/

set_option smartUnfolding false in
theorem kernel_ffn : Cert.quiescent_AdamFfn (hAdamFfn := Cert.AdamFfn.Gen.facts) := fun m ρ _ => by
  with_unfolding_all exact Cert.AdamFfnIdeal.Gen.frame (F := Bits) m ρ

theorem ideal_ffn : Cert.quiescent_AdamFfnIdeal (hAdamFfnIdeal := Cert.AdamFfnIdeal.Gen.facts) := fun m ρ _ => Cert.AdamFfnIdeal.Gen.frame m ρ

theorem reference_ffn : Cert.quiescent_AdamFfnRefIdeal (hAdamFfnRefIdeal := Cert.AdamFfnRefIdeal.Gen.facts) := fun m ρ _ =>
  (θ_run Cert.AdamFfnRefIdeal.defs _ _).mono (fun r h => ⟨fun c => (h c).2.2.2, sem_eq_zero_of_no_sems (by decide) r.2⟩)
    (Cert.AdamFfnRefIdeal.Value.run m ρ)

theorem algebraic_ffn : Cert.algebraic_AdamFfnIdeal_AdamFfnRefIdeal (hAdamFfnIdeal := Cert.AdamFfnIdeal.Gen.facts)
    (hAdamFfnRefIdeal := Cert.AdamFfnRefIdeal.Gen.facts) := fun m ρ m' ρ' _ h =>
  ⟨_, _, _, Cert.AdamFfnIdeal.Value.run m ρ,
    (θ_run Cert.AdamFfnRefIdeal.defs _ _).mono (fun _ r c => step_eq _ (h c) (r c)) (Cert.AdamFfnRefIdeal.Value.run m' ρ')⟩

/-! ## Its down projection -/

set_option smartUnfolding false in
theorem kernel_down : Cert.quiescent_AdamDown (hAdamDown := Cert.AdamDown.Gen.facts) := fun m ρ _ => by
  with_unfolding_all exact Cert.AdamDownIdeal.Gen.frame (F := Bits) m ρ

theorem ideal_down : Cert.quiescent_AdamDownIdeal (hAdamDownIdeal := Cert.AdamDownIdeal.Gen.facts) := fun m ρ _ => Cert.AdamDownIdeal.Gen.frame m ρ

theorem reference_down : Cert.quiescent_AdamDownRefIdeal (hAdamDownRefIdeal := Cert.AdamDownRefIdeal.Gen.facts) := fun m ρ _ =>
  (θ_run Cert.AdamDownRefIdeal.defs _ _).mono (fun r h => ⟨fun c => (h c).2.2.2, sem_eq_zero_of_no_sems (by decide) r.2⟩)
    (Cert.AdamDownRefIdeal.Value.run m ρ)

theorem algebraic_down : Cert.algebraic_AdamDownIdeal_AdamDownRefIdeal (hAdamDownIdeal := Cert.AdamDownIdeal.Gen.facts)
    (hAdamDownRefIdeal := Cert.AdamDownRefIdeal.Gen.facts) := fun m ρ m' ρ' _ h =>
  ⟨_, _, _, Cert.AdamDownIdeal.Value.run m ρ,
    (θ_run Cert.AdamDownRefIdeal.defs _ _).mono (fun _ r c => step_eq _ (h c) (r c)) (Cert.AdamDownRefIdeal.Value.run m' ρ')⟩

/-! ## The small weights, packed -/

set_option smartUnfolding false in
theorem kernel_small : Cert.quiescent_AdamSmall (hAdamSmall := Cert.AdamSmall.Gen.facts) := fun m ρ _ => by
  with_unfolding_all exact Cert.AdamSmallIdeal.Gen.frame (F := Bits) m ρ

theorem ideal_small : Cert.quiescent_AdamSmallIdeal (hAdamSmallIdeal := Cert.AdamSmallIdeal.Gen.facts) := fun m ρ _ => Cert.AdamSmallIdeal.Gen.frame m ρ

theorem reference_small : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2, sem_eq_zero_of_no_sems (by decide) r.2⟩)
    (Cert.AdamSmallRefIdeal.Value.run m ρ)

theorem algebraic_small : Cert.algebraic_AdamSmallIdeal_AdamSmallRefIdeal (hAdamSmallIdeal := Cert.AdamSmallIdeal.Gen.facts)
    (hAdamSmallRefIdeal := Cert.AdamSmallRefIdeal.Gen.facts) := fun m ρ m' ρ' _ h =>
  ⟨_, _, _, Cert.AdamSmallIdeal.Value.run m ρ,
    (θ_run Cert.AdamSmallRefIdeal.defs _ _).mono (fun _ r c => step_eq _ (h c) (r c)) (Cert.AdamSmallRefIdeal.Value.run m' ρ')⟩

end Cert.Adam

end
-- ==== Proof.SumClaims.lean ====
/-
  The claims about the small gradients' sum over the eight devices.

  The kernel adds the devices' parts of the gathered array one after another; the reference adds over the array's first axis.
-/
module

public import proofs.«01_k».proof.Defs
public import proofs.«01_k».proof.Proof.Gen.SumSmall
public import proofs.«01_k».proof.Proof.Gen.SumSmallIdeal.Value
public import proofs.«01_k».proof.Proof.Gen.SumSmallRefIdeal.Run
public import Idealize.ShloMosaic.Lib.Pointwise

@[expose] public section

set_option Elab.async false

noncomputable section

namespace Cert.SmallSum

open Idealize.ShloMosaic
open Idealize.ShloMosaic.TcCoe
open Idealize.SL.Sem

section Reference

open Cert.SumSmallRefIdeal Cert.SumSmallRefIdeal.Gen

/-- Device `k`'s part of the gathered array, read at an index. -/
theorem part (a : FVec Ideal S5568x512 .f32) (k : Fin 8) (o : Nat) (ho : o = k.val * 696)
    (inb : ∀ x, (![o, 0] : Fin 2 → Nat) x + S696x512.size x ≤ S5568x512.size x) (j : S696x512.Idx) (hk : k.val * 696 + (j 0).val < 5568) :
    a (ix2 (⟨k.val * 696 + (j 0).val, hk⟩ : Fin 5568) (j 1 : Fin 512)) = (View.ld (Val := Elt Ideal) (e' := .f32) a (Rect.unit (s := S5568x512) ![o, 0] S696x512.size inb) j : EReal) := by
  refine congrArg a (funext fun x => Fin.ext ?_)
  match x with
  | ⟨0, _⟩ => show k.val * 696 + (j 0).val = o + 1 * (j 0).val; omega
  | ⟨1, _⟩ => show (j 1).val = 0 + 1 * (j 1).val; omega

theorem sum_eq {a a' : FVec Ideal S5568x512 .f32} (h : a' = a) :
    Host.reduceAdd (shapeCast S8x696x512 a' shapeCasts_S5568x512_S8x696x512) (constant S_ .f32 0x00000000#32)
      reducesTo_S8x696x512_S696x512_d0 h_S_ = Cert.SumSmallIdeal.Value.G1 (F := Ideal) a := by
  subst h
  funext j
  simp only [pointwise, zero_add, Fin.sum_univ_eight]
  exact congrArg₂ (· + ·) (congrArg₂ (· + ·) (congrArg₂ (· + ·) (congrArg₂ (· + ·) (congrArg₂ (· + ·) (congrArg₂ (· + ·)
    (congrArg₂ (· + ·) (part _ 0 _ rfl _ j _) (part _ 1 _ rfl _ j _)) (part _ 2 _ rfl _ j _)) (part _ 3 _ rfl _ j _))
    (part _ 4 _ rfl _ j _)) (part _ 5 _ rfl _ j _)) (part _ 6 _ rfl _ j _)) (part _ 7 _ rfl _ j _)

end Reference

set_option smartUnfolding false in
theorem kernel_frame : Cert.quiescent_SumSmall (hSumSmall := Cert.SumSmall.Gen.facts) := fun m ρ _ => by
  with_unfolding_all exact Cert.SumSmallIdeal.Gen.frame (F := Bits) m ρ

theorem ideal_frame : Cert.quiescent_SumSmallIdeal (hSumSmallIdeal := Cert.SumSmallIdeal.Gen.facts) := fun m ρ _ =>
  Cert.SumSmallIdeal.Gen.frame m ρ

theorem reference_frame : Cert.quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩)
    (Cert.SumSmallRefIdeal.Value.run m ρ)

theorem algebraic : Cert.algebraic_SumSmallIdeal_SumSmallRefIdeal (hSumSmallIdeal := Cert.SumSmallIdeal.Gen.facts)
    (hSumSmallRefIdeal := Cert.SumSmallRefIdeal.Gen.facts) := fun m ρ m' ρ' _ h =>
  ⟨_, Cert.SumSmallIdeal.Value.run m ρ,
    (θ_run Cert.SumSmallRefIdeal.defs _ _).mono (fun _ r c => ⟨(r c).1.trans (sum_eq (h c)), (r c).2⟩)
      (Cert.SumSmallRefIdeal.Value.run m' ρ')⟩

end Cert.SmallSum

end
-- ==== Proof.ModValue.lean ====
/-
  The modulation weight's step: what the kernel leaves, as whole arrays.

  The kernel forms the gradient's block from a block of the one factor's rows and a layer of the other, and takes the
  optimiser's step on the block. The blocks tile the four results.
-/
module

public import proofs.«01_k».proof.Proof.Adam
public import proofs.«01_k».proof.Proof.Gen.AdamModIdeal.Value
public import Idealize.ShloMosaic.Lib.Pointwise

@[expose] public section

set_option Elab.async false

noncomputable section

namespace Cert.Modulation

open Idealize.ShloMosaic
open Idealize.ShloMosaic.TcCoe
open Idealize.ShloMosaic.Pipeline (Window)
open Idealize.SL.Sem
open Cert.Adam
open Cert.AdamModIdeal Cert.AdamModIdeal.Gen Cert.AdamModIdeal.Value

/-- The gradient: the product, layer by layer, over the batch's eight rows. -/
abbrev grad (s : Arr S1024x8) (d : Arr S4x8x1536) : Arr S4x1024x1536 := fun i =>
  ∑ k : Fin 8, s (ix2 (i 1 : Fin 1024) k) * d (ix3 (i 0 : Fin 4) k (i 2 : Fin 1536))

variable (m : (ℓ : Loc nD τ sig) → Buf (Elt Ideal) ℓ)

/-! ## A point's block -/

/-- Where a point's block of a result lies. -/
abbrev spot (t : Fin cfg0.N) (j : S1x256x1536.Idx) : S4x1024x1536.Idx := ((cfg0.win 5).blk t).view.emb j

/-- A point's layer and row tile, as each window has them. -/
theorem tiles : ∀ t : Fin cfg0.N, win0_0.index t (0 : Fin 2) = win0_5.index t (1 : Fin 3) ∧ win0_0.index t (1 : Fin 2) = 0
    ∧ win0_1.index t (0 : Fin 3) = win0_5.index t (0 : Fin 3) ∧ win0_1.index t (1 : Fin 3) = 0 ∧ win0_1.index t (2 : Fin 3) = 0
    ∧ win0_5.index t (2 : Fin 3) = 0 :=
  (by decide +kernel : ∀ t : Fin grid0.N, _)

/-- A block's index without its layer. -/
theorem flat_eq (j : S1x256x1536.Idx) : ix5_0 j = (ix2 (j 1 : Fin 256) (j 2 : Fin 1536) : S256x1536.Idx) := by
  funext a
  match a with
  | ⟨0, _⟩ => rfl
  | ⟨1, _⟩ => rfl

/-- The block of the product is the product's block. -/
theorem block_grad (c : Dev nD) (t : Fin cfg0.N) (j : S1x256x1536.Idx) :
    k0_pay5 (F := Ideal) (iblk m c 0 t) (iblk m c 1 t) (ix5_0 j)
      = grad (V m c main_arg0) (V m c main_arg1) (spot t j) := by
  obtain ⟨e0, e1, e2, e3, e4, e5⟩ := tiles t
  have h0 : (j 0).val < 1 := (j 0).isLt
  rw [flat_eq]
  simp only [k0_pay5, pointwise, zero_add]
  refine Finset.sum_congr rfl fun k _ => ?_
  have hs : ((cfg0.win 0).blk t).view.emb (ix2 (j 1 : Fin 256) k) = (ix2 (spot t j 1 : Fin 1024) k : S1024x8.Idx) := by
    funext a; apply Fin.ext
    match a with
    | ⟨0, _⟩ => show win0_0.index t (0 : Fin 2) * 256 + 1 * (j 1).val = win0_5.index t (1 : Fin 3) * 256 + 1 * (j 1).val; omega
    | ⟨1, _⟩ => show win0_0.index t (1 : Fin 2) * 8 + 1 * k.val = k.val; omega
  have hd : ((cfg0.win 1).blk t).view.emb (ix3 (0 : Fin 1) k (j 2 : Fin 1536))
      = (ix3 (spot t j 0 : Fin 4) k (spot t j 2 : Fin 1536) : S4x8x1536.Idx) := by
    funext a; apply Fin.ext
    match a with
    | ⟨0, _⟩ => show win0_1.index t (0 : Fin 3) * 1 + 1 * 0 = win0_5.index t (0 : Fin 3) * 1 + 1 * (j 0).val; omega
    | ⟨1, _⟩ => show win0_1.index t (1 : Fin 3) * 8 + 1 * k.val = k.val; omega
    | ⟨2, _⟩ => show win0_1.index t (2 : Fin 3) * 1536 + 1 * (j 2).val = win0_5.index t (2 : Fin 3) * 1536 + 1 * (j 2).val; omega
  rw [← hs, ← hd]
  rfl

theorem origin3 : (![0, 0, 0] : Fin 3 → Nat) = fun _ => 0 := funext fun a => by fin_cases a <;> rfl
theorem origin2 : (![0, 0] : Fin 2 → Nat) = fun _ => 0 := funext fun a => by fin_cases a <;> rfl

theorem flushed_grad (c : Dev nD) (t : Fin cfg0.N) :
    (dats m 0 c).flushed 5 t = ((cfg0.win 5).blk t).view.read (Elt Ideal)
      (grad (V m c main_arg0) (V m c main_arg1) : S4x1024x1536.Idx → Elt Ideal .f32) := by
  rw [flushed5]
  unfold out0_5
  simp only [View.ld_unit_zero (S := S256x8) origin2, View.ld_unit_zero (S := S1x8x1536) origin3]
  funext j
  exact (canon5_eq (F := Ideal) (iblk m c 0 t) (iblk m c 1 t) j).trans (block_grad m c t j)

/-- A block's index with its layer. -/
theorem same_eq (j : S1x256x1536.Idx) : ix7_0 j = j := by
  have h0 : (j 0).val < 1 := (j 0).isLt
  funext a; apply Fin.ext
  match a with
  | ⟨0, _⟩ => show 0 = (j 0).val; omega
  | ⟨1, _⟩ => rfl
  | ⟨2, _⟩ => rfl

theorem block_w (c : Dev nD) (t : Fin cfg0.N) (j : S1x256x1536.Idx) : iblk m c 2 t j = V m c main_arg2 (spot t j) := rfl
theorem block_m (c : Dev nD) (t : Fin cfg0.N) (j : S1x256x1536.Idx) : iblk m c 3 t j = V m c main_arg3 (spot t j) := rfl
theorem block_v (c : Dev nD) (t : Fin cfg0.N) (j : S1x256x1536.Idx) : iblk m c 4 t j = V m c main_arg4 (spot t j) := rfl

/-- The block of a weight-shaped array, over the block's own index. -/
abbrev laid (x : Arr S1x256x1536) : Arr S1x256x1536 := fun y => x (ix7_0 y)

/-- The block of the gradient, likewise. -/
abbrev block (c : Dev nD) (t : Fin cfg0.N) : Arr S1x256x1536 := fun y => k0_pay5 (F := Ideal) (iblk m c 0 t) (iblk m c 1 t) (ix5_0 y)

theorem laid_w (c : Dev nD) (t : Fin cfg0.N) (j : S1x256x1536.Idx) : laid (iblk m c 2 t) j = V m c main_arg2 (spot t j) :=
  (congrArg (iblk m c 2 t) (same_eq j)).trans (block_w m c t j)
theorem laid_m (c : Dev nD) (t : Fin cfg0.N) (j : S1x256x1536.Idx) : laid (iblk m c 3 t) j = V m c main_arg3 (spot t j) :=
  (congrArg (iblk m c 3 t) (same_eq j)).trans (block_m m c t j)
theorem laid_v (c : Dev nD) (t : Fin cfg0.N) (j : S1x256x1536.Idx) : laid (iblk m c 4 t) j = V m c main_arg4 (spot t j) :=
  (congrArg (iblk m c 4 t) (same_eq j)).trans (block_v m c t j)

theorem block_first (c : Dev nD) (t : Fin cfg0.N) (j : S1x256x1536.Idx) :
    E7 (F := Ideal) (iblk m c 3 t) (iblk m c 0 t) (iblk m c 1 t) j
      = first (grad (V m c main_arg0) (V m c main_arg1)) (V m c main_arg3) (spot t j) :=
  first_at (g := block m c t) (m := laid (iblk m c 3 t)) (block_grad m c t j) (laid_m m c t j)

theorem block_second (c : Dev nD) (t : Fin cfg0.N) (j : S1x256x1536.Idx) :
    E8 (F := Ideal) (iblk m c 4 t) (iblk m c 0 t) (iblk m c 1 t) j
      = second (grad (V m c main_arg0) (V m c main_arg1)) (V m c main_arg4) (spot t j) :=
  second_at (g := block m c t) (v := laid (iblk m c 4 t)) (block_grad m c t j) (laid_v m c t j)

theorem block_change (c : Dev nD) (t : Fin cfg0.N) (j : S1x256x1536.Idx) :
    E6 (F := Ideal) (iblk m c 3 t) (iblk m c 0 t) (iblk m c 1 t) (iblk m c 4 t) (iblk m c 2 t) j
      = change (V m c main_arg2) (grad (V m c main_arg0) (V m c main_arg1)) (V m c main_arg3) (V m c main_arg4) (spot t j) :=
  change_at (w := laid (iblk m c 2 t)) (g := block m c t) (m := laid (iblk m c 3 t)) (v := laid (iblk m c 4 t))
    (laid_w m c t j) (block_grad m c t j) (laid_m m c t j) (laid_v m c t j)

theorem flushed_change (c : Dev nD) (t : Fin cfg0.N) :
    (dats m 0 c).flushed 6 t = ((cfg0.win 6).blk t).view.read (Elt Ideal)
      (change (V m c main_arg2) (grad (V m c main_arg0) (V m c main_arg1)) (V m c main_arg3) (V m c main_arg4) : S4x1024x1536.Idx → Elt Ideal .f32) := by
  rw [flushed6]
  unfold out0_6
  simp only [View.ld_unit_zero (S := S256x8) origin2, View.ld_unit_zero (S := S1x8x1536) origin3, View.ld_unit_zero (S := S1x256x1536) origin3]
  funext j
  exact (canon6_eq (F := Ideal) (iblk m c 3 t) (iblk m c 0 t) (iblk m c 1 t) (iblk m c 4 t) (iblk m c 2 t) j).trans (block_change m c t j)

theorem flushed_first (c : Dev nD) (t : Fin cfg0.N) :
    (dats m 0 c).flushed 7 t = ((cfg0.win 7).blk t).view.read (Elt Ideal)
      (first (grad (V m c main_arg0) (V m c main_arg1)) (V m c main_arg3) : S4x1024x1536.Idx → Elt Ideal .f32) := by
  rw [flushed7]
  unfold out0_7
  simp only [View.ld_unit_zero (S := S256x8) origin2, View.ld_unit_zero (S := S1x8x1536) origin3, View.ld_unit_zero (S := S1x256x1536) origin3]
  funext j
  exact (canon7_eq (F := Ideal) (iblk m c 3 t) (iblk m c 0 t) (iblk m c 1 t) j).trans (block_first m c t j)

theorem flushed_second (c : Dev nD) (t : Fin cfg0.N) :
    (dats m 0 c).flushed 8 t = ((cfg0.win 8).blk t).view.read (Elt Ideal)
      (second (grad (V m c main_arg0) (V m c main_arg1)) (V m c main_arg4) : S4x1024x1536.Idx → Elt Ideal .f32) := by
  rw [flushed8]
  unfold out0_8
  simp only [View.ld_unit_zero (S := S256x8) origin2, View.ld_unit_zero (S := S1x8x1536) origin3, View.ld_unit_zero (S := S1x256x1536) origin3]
  funext j
  exact (canon8_eq (F := Ideal) (iblk m c 4 t) (iblk m c 0 t) (iblk m c 1 t) j).trans (block_second m c t j)

/-! ## The blocks tile a result -/

theorem every_tile : ∀ (l : Fin 4) (q : Fin 4), ∃ t : Fin cfg0.N, win0_5.index t = ![l.val, q.val, 0] :=
  (by decide +kernel : ∀ (l : Fin 4) (q : Fin 4), ∃ t : Fin grid0.N, win0_5.index t = ![l.val, q.val, 0])

theorem mem_block (t : Fin cfg0.N) (i : S4x1024x1536.Idx) :
    i ∈ ((cfg0.win 5).blk t).view.set
      ↔ ∀ a : Fin 3, win0_5.index t a * S1x256x1536.size a ≤ (i a).val ∧ (i a).val < win0_5.index t a * S1x256x1536.size a + S1x256x1536.size a := by
  show i ∈ ((View.whole main_v0_0).slice (win0_5.rect t)).set ↔ _
  rw [View.set_slice_whole, Rect.mem_set_unit]
  exact Iff.rfl

theorem tiled (i : S4x1024x1536.Idx) : ∃ t : Fin cfg0.N, i ∈ ((cfg0.win 5).blk t).view.set := by
  have h0 : (i 0).val < 4 := (i 0).isLt
  have h1 : (i 1).val < 1024 := (i 1).isLt
  have h2 : (i 2).val < 1536 := (i 2).isLt
  obtain ⟨t, ht⟩ := every_tile (i 0) ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, (mem_block t i).2 fun a => ?_⟩
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1536 ≤ (i 2).val ∧ (i 2).val < win0_5.index t (2 : Fin 3) * 1536 + 1536; omega

/-- Four results' worth of it: each is written at every point, over the same blocks. -/
theorem final_grad (c : Dev nD) : (dats m 0 c).arrAt 5 cfg0.N = grad (V m c main_arg0) (V m c main_arg1) :=
  (dats m 0 c).arrAt_eq_of_cover 5 _ (fun t _ => flushed_grad m c t) fun i => (tiled i).imp fun t h => ⟨flush0_5 t, h⟩

theorem final_change (c : Dev nD) : (dats m 0 c).arrAt 6 cfg0.N
    = change (V m c main_arg2) (grad (V m c main_arg0) (V m c main_arg1)) (V m c main_arg3) (V m c main_arg4) :=
  (dats m 0 c).arrAt_eq_of_cover 6 _ (fun t _ => flushed_change m c t) fun i => (tiled i).imp fun t h => ⟨flush0_6 t, h⟩

theorem final_first (c : Dev nD) : (dats m 0 c).arrAt 7 cfg0.N = first (grad (V m c main_arg0) (V m c main_arg1)) (V m c main_arg3) :=
  (dats m 0 c).arrAt_eq_of_cover 7 _ (fun t _ => flushed_first m c t) fun i => (tiled i).imp fun t h => ⟨flush0_7 t, h⟩

theorem final_second (c : Dev nD) : (dats m 0 c).arrAt 8 cfg0.N = second (grad (V m c main_arg0) (V m c main_arg1)) (V m c main_arg4) :=
  (dats m 0 c).arrAt_eq_of_cover 8 _ (fun t _ => flushed_second m c t) fun i => (tiled i).imp fun t h => ⟨flush0_8 t, h⟩

end Cert.Modulation

end
-- ==== Proof.ModClaims.lean ====
/-
  The claims about the modulation weight's step.

  The reference's gradient is the same sum of products, and its step is the optimiser's of it.
-/
module

public import proofs.«01_k».proof.Defs
public import proofs.«01_k».proof.Proof.Adam
public import proofs.«01_k».proof.Proof.ModValue
public import proofs.«01_k».proof.Proof.Gen.AdamMod
public import proofs.«01_k».proof.Proof.Gen.AdamModIdeal.Value
public import proofs.«01_k».proof.Proof.Gen.AdamModRefIdeal.Run
public import Idealize.ShloMosaic.Lib.Pointwise

@[expose] public section

set_option Elab.async false

noncomputable section

namespace Cert.Modulation

open Idealize.ShloMosaic
open Idealize.ShloMosaic.TcCoe
open Idealize.SL.Sem
open Cert.Adam

section Reference

open Cert.AdamModRefIdeal Cert.AdamModRefIdeal.Gen

/-- The reference's product, which has the layer's row last, turned. -/
theorem host_grad {s s' : Arr S1024x8} {d d' : Arr S4x8x1536} (hs : s' = s) (hd : d' = d) :
    transpose S4x1024x1536 [0, 2, 1] (Host.dotGeneral dot_S4x8x1536_S1024x8_S4x1536x1024_1_1_02_0_n_n none d' s')
      transposes_S4x1536x1024_S4x1024x1536_0_2_1 = grad s d := by
  subst hs hd
  funext j
  simp only [pointwise, zero_add]
  exact Finset.sum_congr rfl fun k _ => mul_comm _ _

end Reference

set_option smartUnfolding false in
theorem kernel_frame : Cert.quiescent_AdamMod (hAdamMod := Cert.AdamMod.Gen.facts) := fun m ρ _ => by
  with_unfolding_all exact Cert.AdamModIdeal.Gen.frame (F := Bits) m ρ

theorem ideal_frame : Cert.quiescent_AdamModIdeal (hAdamModIdeal := Cert.AdamModIdeal.Gen.facts) := fun m ρ _ =>
  Cert.AdamModIdeal.Gen.frame m ρ

theorem reference_frame : Cert.quiescent_AdamModRefIdeal (hAdamModRefIdeal := Cert.AdamModRefIdeal.Gen.facts) := fun m ρ _ =>
  (θ_run Cert.AdamModRefIdeal.defs _ _).mono (fun r h => ⟨fun c => (h c).2.2.2.2, sem_eq_zero_of_no_sems (by decide) r.2⟩)
    (Cert.AdamModRefIdeal.Value.run m ρ)

theorem algebraic : Cert.algebraic_AdamModIdeal_AdamModRefIdeal (hAdamModIdeal := Cert.AdamModIdeal.Gen.facts)
    (hAdamModRefIdeal := Cert.AdamModRefIdeal.Gen.facts) := fun m ρ m' ρ' _ h =>
  ⟨_, _, _, _,
    (θ_run Cert.AdamModIdeal.defs _ _).mono (fun _ r c =>
        ⟨(r c).1.trans (final_grad m c), (r c).2.1.trans (final_change m c), (r c).2.2.1.trans (final_first m c),
          (r c).2.2.2.1.trans (final_second m c), (r c).2.2.2.2⟩)
      (Cert.AdamModIdeal.Value.run_blocks m ρ),
    (θ_run Cert.AdamModRefIdeal.defs _ _).mono (fun _ r c =>
        have g := host_grad (h c).1 (h c).2.1
        ⟨(r c).1.trans g, step_eq _ ⟨(h c).2.2.1, g, (h c).2.2.2.1, (h c).2.2.2.2⟩ (r c).2⟩)
      (Cert.AdamModRefIdeal.Value.run m' ρ')⟩

end Cert.Modulation

end
-- ==== Proof.Number.lean ====
/-
  A word that a precondition bounds.
-/
module

public import Idealize.ShloMosaic.Lib.WordCmp
public import Idealize.ShloMosaic.PureOps

@[expose] public section

namespace Cert.Number

open Idealize.ShloMosaic

/-- A word that is at least 0 and less than a bound, as signed numbers, is less than it as a natural number. -/
theorem below {k : Nat} (hk : k < 2 ^ 31) {w : BitVec 32}
    (h : IntOp.andi (IntOp.cmpi .sge w 0#32) (IntOp.cmpi .slt w (BitVec.ofNat 32 k)) = 1#1) : w.toNat < k := by
  rw [WordCmp.andi_sge_zero_slt_ofNat hk] at h
  by_contra ge
  rw [decide_eq_false ge] at h
  exact absurd h (by decide)

/-- An array of one word is that word everywhere. -/
theorem single {s : Shape} (hs : ∀ i j : s.Idx, i = j) (v : IVec s 32) (i : s.Idx) : v = fun _ => BitVec.ofNat 32 (v i).toNat :=
  funext fun j => by rw [BitVec.ofNat_toNat, BitVec.setWidth_eq]; exact congrArg v (hs j i)

end Cert.Number
-- ==== Proof.OwnClaims.lean ====
/-
  The claims about the sum of a core's half of the gradients with the half it received.

  The core's number picks, of each pair of slabs, the one that is added: the kernel's index map reads it, the reference
  chooses by it.
-/
module

public import proofs.«01_k».proof.Defs
public import proofs.«01_k».proof.Proof.Number
public import proofs.«01_k».proof.Proof.Gen.Pre_one_of_two
public import proofs.«01_k».proof.Proof.Gen.AddOwn
public import proofs.«01_k».proof.Proof.Gen.AddOwnIdeal.Frame
public import proofs.«01_k».proof.Proof.Gen.AddOwnRef
public import proofs.«01_k».proof.Proof.Gen.AddOwnRefIdeal.Run
public import Idealize.ShloMosaic.Lib.Pipeline.Value
public import Idealize.ShloMosaic.Lib.Pointwise

@[expose] public section

set_option Elab.async false

noncomputable section

namespace Cert.OwnSum

open Idealize.ShloMosaic
open Idealize.ShloMosaic.TcCoe
open Idealize.ShloMosaic.Pipeline (Window)
open Idealize.SL.Sem

/-! ## The core's number -/

/-- The one index of the number. -/
def one : Cert.Pre_one_of_two.S1.Idx := fun a => ⟨0, by fin_cases a; decide⟩

theorem one_only (i j : Cert.Pre_one_of_two.S1.Idx) : i = j := funext fun a => Fin.ext (by
  have := (i a).isLt
  have := (j a).isLt
  fin_cases a
  exact (Nat.lt_one_iff.mp ‹_›).trans (Nat.lt_one_iff.mp ‹_›).symm)

/-- The precondition says that the number is 0 or 1. -/
theorem number {F : FTy → Type} [FloatOps F] (v : IVec Cert.Pre_one_of_two.S1 32) (g : FVec F Cert.Pre_one_of_two.S8x11776x512 .f32)
    (r : FVec F Cert.Pre_one_of_two.S4x11776x512 .f32)
    (h : Cert.Pre_one_of_two.fn (F := F) v g r = fun _ => 1#1) :
    ∃ k : Fin 2, v = fun _ => BitVec.ofNat 32 k.val := by
  have lt : (v one).toNat < 2 := Cert.Number.below (by decide) (congrFun h one)
  exact ⟨⟨(v one).toNat, lt⟩, Cert.Number.single one_only v one⟩

section Kernel

open Cert.AddOwnIdeal Cert.AddOwnIdeal.Gen

variable {F : FTy → Type} [FloatOps F]

theorem origin : (![0, 0, 0] : Fin 3 → Nat) = fun _ => 0 := funext fun a => by fin_cases a <;> rfl

/-- The block index of the core's own half. -/
theorem own_index (pf : pre0.Contents (Elt F)) (i : grid0.Coords) (k : Nat) (hk : k < 2)
    (h : pf.at 0 (Rect.unit (s := S1) ![0] S1.size inb_S1_S1_0) numel1_S1 = BitVec.ofNat 32 k) :
    cc0_transform_0 inb_S1_S1_0 numel1_S1 pf i = ![2 * (i 0).val + k, (i 1).val, 0] := by
  have h0 : (i 0).val < 4 := (i 0).isLt
  have h1 : (i 1).val < 23 := (i 1).isLt
  unfold cc0_transform_0
  rw [h]
  funext a
  fin_cases a
  · simp [Scalar.addi, Scalar.muli, IntOp.addi, IntOp.muli, BitVec.toNat_add, BitVec.toNat_mul, BitVec.toNat_ofNat]; omega
  · simp [BitVec.toNat_ofNat]; omega
  · rfl

theorem own_ok (pf : pre0.Contents (Elt F)) (k : Nat) (hk : k < 2)
    (h : pf.at 0 (Rect.unit (s := S1) ![0] S1.size inb_S1_S1_0) numel1_S1 = BitVec.ofNat 32 k) : ok0 pf := fun i => by
  have h0 : (i 0).val < 4 := (i 0).isLt
  have h1 : (i 1).val < 23 := (i 1).isLt
  refine ⟨fun a => ?_, .inl rfl⟩
  rw [own_index pf i k hk h]
  match a with
  | ⟨0, _⟩ => show (2 * (i 0).val + k + 1) * 1 ≤ 8; omega
  | ⟨1, _⟩ => show ((i 1).val + 1) * 512 ≤ 11776; omega
  | ⟨2, _⟩ => show (0 + 1) * 512 ≤ 512; omega

/-- What the body leaves is the sum of the two blocks. -/
theorem body_sum (c : Dev nD) (i : grid0.Coords) (a3 : Memref sig .tc .vmem S1x512x512 .f32) (h3 : a3.IsWhole)
    (a4 : Memref sig .tc .vmem S1x512x512 .f32) (h4 : a4.IsWhole) (a5 : Memref sig .tc .vmem S1x512x512 .f32) (h5 : a5.IsWhole)
    (x y : Vec F S1x512x512 .f32) (w : TbBuf0 (F := F) c tbM0_0) : out0_A_2 c i a3 h3 a4 h4 a5 h5 x y w = addf x y := by
  unfold out0_A_2
  rw [View.read_writes_eq_canon _ _ _ (cover0_A_2 c i a3 h3 a4 h4 a5 h5 x y w)]
  unfold kernelRun0_A
  dsimp only
  rw [View.canon_unit_zero (S := S1x512x512) origin]
  simp only [View.readAt_eq_ld, h3.read_unread, h4.read_unread, View.ld_unit_zero (S := S1x512x512) origin]
  rfl

variable (m : (ℓ : Loc nD τ sig) → Buf (Elt F) ℓ)

/-- The core's of a pair of slabs. -/
abbrev own (k : Fin 2) (i : S4x11776x512.Idx) : S8x11776x512.Idx :=
  ix3 (⟨2 * (i 0).val + k.val, by have : (i 0).val < 4 := (i 0).isLt; omega⟩ : Fin 8) (i 1 : Fin 11776) (i 2 : Fin 512)

/-- The sum: of each pair of slabs the core's, with the received slab. -/
def total (k : Fin 2) (g : FVec F S8x11776x512 .f32) (r : FVec F S4x11776x512 .f32) : FVec F S4x11776x512 .f32 := fun i =>
  FloatOps.addf (g (own k i)) (r i)

/-- Where a point's block of the result lies. -/
abbrev spot (hO : Ok m) (t : Fin (cfgM m hO).N) (j : S1x512x512.Idx) : S4x11776x512.Idx := (((cfgM m hO).win 2).blk t).view.emb j

/-- A point's coordinates, as the windows without the number have them. -/
theorem tile (i : grid0.Coords) : cc0_transform_1 i = ![(i 0).val, (i 1).val, 0] ∧ cc0_transform_2 i = ![(i 0).val, (i 1).val, 0] := by
  have h0 : (i 0).val < 4 := (i 0).isLt
  have h1 : (i 1).val < 23 := (i 1).isLt
  constructor <;> funext a <;> fin_cases a
  · simp [cc0_transform_1, BitVec.toNat_ofNat]; omega
  · simp [cc0_transform_1, BitVec.toNat_ofNat]; omega
  · rfl
  · simp [cc0_transform_2, BitVec.toNat_ofNat]; omega
  · simp [cc0_transform_2, BitVec.toNat_ofNat]; omega
  · rfl

theorem flushed (hO : Ok m) (k : Fin 2) (c : Dev nD) (hk : tbl m 0 = fun _ => BitVec.ofNat 32 k.val) (t : Fin (cfgM m hO).N) :
    (dats m hO 0 c).flushed 2 t = (((cfgM m hO).win 2).blk t).view.read (Elt F) (total k (V m c main_arg1) (V m c main_arg2)) := by
  show ((cfgM m hO).win 2).cut (grid0.coords t) ((dats m hO 0 c).after 2 t) = _
  rw [after0_2]
  unfold outsAt0
  erw [body_sum c (grid0.coords t)]
  funext (j : S1x512x512.Idx)
  have h0 : (j 0).val < 1 := (j 0).isLt
  have e := own_index (tbl m) (grid0.coords t) k.val k.isLt (congrFun hk _)
  obtain ⟨e1, e2⟩ := tile (grid0.coords t)
  have p0 : (((cfgM m hO).win 0).blk t).view.emb j = own k (spot m hO t j) := by
    funext a; apply Fin.ext
    match a with
    | ⟨0, _⟩ =>
      show cc0_transform_0 inb_S1_S1_0 numel1_S1 (tbl m) (grid0.coords t) 0 * 1 + 1 * (j 0).val
        = 2 * (cc0_transform_2 (grid0.coords t) 0 * 1 + 1 * (j 0).val) + k.val
      rw [e, e2]; simp; omega
    | ⟨1, _⟩ =>
      show cc0_transform_0 inb_S1_S1_0 numel1_S1 (tbl m) (grid0.coords t) 1 * 512 + 1 * (j 1).val = cc0_transform_2 (grid0.coords t) 1 * 512 + 1 * (j 1).val
      rw [e, e2]; simp
    | ⟨2, _⟩ =>
      show cc0_transform_0 inb_S1_S1_0 numel1_S1 (tbl m) (grid0.coords t) 2 * 512 + 1 * (j 2).val = cc0_transform_2 (grid0.coords t) 2 * 512 + 1 * (j 2).val
      rw [e, e2]; simp
  have p1 : (((cfgM m hO).win 1).blk t).view.emb j = spot m hO t j := by
    funext a; apply Fin.ext
    match a with
    | ⟨0, _⟩ => show cc0_transform_1 (grid0.coords t) 0 * 1 + 1 * (j 0).val = cc0_transform_2 (grid0.coords t) 0 * 1 + 1 * (j 0).val; rw [e1, e2]
    | ⟨1, _⟩ => show cc0_transform_1 (grid0.coords t) 1 * 512 + 1 * (j 1).val = cc0_transform_2 (grid0.coords t) 1 * 512 + 1 * (j 1).val; rw [e1, e2]
    | ⟨2, _⟩ => show cc0_transform_1 (grid0.coords t) 2 * 512 + 1 * (j 2).val = cc0_transform_2 (grid0.coords t) 2 * 512 + 1 * (j 2).val; rw [e1, e2]
  exact congrArg₂ FloatOps.addf (congrArg (V m c main_arg1) p0) (congrArg (V m c main_arg2) p1)

theorem every_tile : ∀ (l : Fin 4) (q : Fin 23), ∃ t : Fin grid0.N, cc0_transform_2 (grid0.coords t) = ![l.val, q.val, 0] := by
  decide +kernel

theorem mem_block (hO : Ok m) (t : Fin (cfgM m hO).N) (i : S4x11776x512.Idx) :
    i ∈ (((cfgM m hO).win 2).blk t).view.set ↔ ∀ a : Fin 3, cc0_transform_2 (grid0.coords t) a * S1x512x512.size a ≤ (i a).val
      ∧ (i a).val < cc0_transform_2 (grid0.coords t) a * S1x512x512.size a + S1x512x512.size a := by
  show i ∈ ((View.whole main_v0).slice (((cfgM m hO).win 2).rect t)).set ↔ _
  erw [View.set_slice_whole, Rect.mem_set_unit]
  exact Iff.rfl

theorem tiled (hO : Ok m) (i : S4x11776x512.Idx) : ∃ t : Fin (cfgM m hO).N, i ∈ (((cfgM m hO).win 2).blk t).view.set := by
  have h0 : (i 0).val < 4 := (i 0).isLt
  have h1 : (i 1).val < 11776 := (i 1).isLt
  have h2 : (i 2).val < 512 := (i 2).isLt
  obtain ⟨t, ht⟩ := every_tile (i 0) ⟨(i 1).val / 512, by omega⟩
  refine ⟨t, (mem_block m hO t i).2 fun a => ?_⟩
  rw [ht]
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 512 ≤ (i 2).val ∧ (i 2).val < 0 * 512 + 512; omega

theorem final (hO : Ok m) (k : Fin 2) (c : Dev nD) (hk : tbl m 0 = fun _ => BitVec.ofNat 32 k.val) :
    (dats m hO 0 c).arrAt 2 (cfgM m hO).N = total k (V m c main_arg1) (V m c main_arg2) :=
  (dats m hO 0 c).arrAt_eq_of_cover 2 _ (fun t _ => flushed m hO k c hk t) fun i => (tiled m hO i).imp fun t h => ⟨flush0_2 _ t, h⟩

/-- The precondition gives the windows' condition. -/
theorem ok {k : Fin 2} (hk : tbl m 0 = fun _ => BitVec.ofNat 32 k.val) : Ok m := own_ok (tbl m) k.val k.isLt (congrFun hk _)

/-- What the precondition says of the memory. -/
abbrev Pre : Prop := ∀ c : Dev nD, Cert.Pre_one_of_two.fn (F := F) (m ((c.tc : Thread nD τ).loc main_arg0))
  (m ((c.tc : Thread nD τ).loc main_arg1)) (m ((c.tc : Thread nD τ).loc main_arg2)) = fun _ => 1#1

theorem number_of (h : Pre m) : ∃ k : Fin 2, ∀ c : Dev nD, m ((c.tc : Thread nD τ).loc main_arg0) = fun _ => BitVec.ofNat 32 k.val := by
  obtain ⟨k, hk⟩ := number _ _ _ (h 0)
  refine ⟨k, fun c => ?_⟩
  obtain rfl : c = 0 := Subsingleton.elim _ _
  exact hk

theorem kernel_quiet (ρ : Dev nD → PrngReg) (h : Pre m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  let ⟨_, hk⟩ := number_of m h
  Cert.AddOwnIdeal.Gen.frame m ρ (ok m (hk 0))

theorem kernel_value (ρ : Dev nD → PrngReg) {k : Fin 2} (hk : ∀ c : Dev nD, m ((c.tc : Thread nD τ).loc main_arg0) = fun _ => BitVec.ofNat 32 k.val) :
    θ_run defs (onTc (τ := τ) (main (F := F))) ⟨m, fun _ => 0, ρ⟩ (fun r => ∀ c : Dev nD,
      r.2.mem ((c.tc : Thread nD τ).loc main_v0) = total k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ r c => ⟨((r.2 c).1 2).trans (final m (ok m (hk 0)) k c (hk 0)), r.1 c⟩)
    (θ_run_and (unchanged m ρ (ok m (hk 0))) (run_main m ρ (ok m (hk 0))))

end Kernel

section Reference

open Cert.AddOwnRefIdeal Cert.AddOwnRefIdeal.Gen

variable {F : FTy → Type} [FloatOps F]

theorem host_total (k : Fin 2) (v : IVec S1 32) (g : FVec F S8x11776x512 .f32) (r : FVec F S4x11776x512 .f32) (h : v = fun _ => BitVec.ofNat 32 k.val) :
    addf (select (broadcastInDim S4x11776x512 ![] bcast_S_S4x11776x512 (cmpi .eq (shapeCast _ v shapeCasts_S1_S_) (constantI S_ 32 0#32)))
      (shapeCast S4x11776x512 (extractStridedSlice S4x1x11776x512 ![0, 0, 0, 0] (shapeCast S4x2x11776x512 g shapeCasts_S8x11776x512_S4x2x11776x512) slices_S4x2x11776x512_S4x1x11776x512_0_0_0_0) shapeCasts_S4x1x11776x512_S4x11776x512)
      (shapeCast S4x11776x512 (extractStridedSlice S4x1x11776x512 ![0, 1, 0, 0] (shapeCast S4x2x11776x512 g shapeCasts_S8x11776x512_S4x2x11776x512) slices_S4x2x11776x512_S4x1x11776x512_0_1_0_0) shapeCasts_S4x1x11776x512_S4x11776x512)) r
      = total k g r := by
  subst h
  funext i
  fin_cases k
  · simp only [pointwise]
    refine congrArg (fun x => FloatOps.addf (g x) (r i)) (funext fun a => Fin.ext ?_)
    match a with
    | ⟨0, _⟩ => show (0 + (i 0).val) * 2 + 0 = 2 * (i 0).val + 0; omega
    | ⟨1, _⟩ => show 0 + (i 1).val = (i 1).val; omega
    | ⟨2, _⟩ => show 0 + (i 2).val = (i 2).val; omega
  · simp only [pointwise]
    rw [show IntOp.cmpi CmpIPredicate.eq 1#32 0#32 = 0#1 from by decide]
    refine congrArg (fun x => FloatOps.addf (g x) (r i)) (funext fun a => Fin.ext ?_)
    match a with
    | ⟨0, _⟩ => show (0 + (i 0).val) * 2 + 1 = 2 * (i 0).val + 1; omega
    | ⟨1, _⟩ => show 0 + (i 1).val = (i 1).val; omega
    | ⟨2, _⟩ => show 0 + (i 2).val = (i 2).val; omega

theorem host_value (m : (ℓ : Loc nD τ sig) → Buf (Elt F) ℓ) (ρ : Dev nD → PrngReg) {k : Fin 2}
    (hk : ∀ c : Dev nD, m ((c.tc : Thread nD τ).loc main_arg0) = fun _ => BitVec.ofNat 32 k.val) :
    θ_run defs (onTc (τ := τ) (main (F := F))) ⟨m, fun _ => 0, ρ⟩ (fun r => ∀ c : Dev nD,
      r.2.mem ((c.tc : Thread nD τ).loc main_v8) = total k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ r c => ⟨(r c).1.trans (host_total k _ _ _ (hk c)), (r c).2⟩) (Cert.AddOwnRefIdeal.Value.run m ρ)

theorem host_quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.AddOwnRefIdeal.Value.run m ρ)

end Reference

/-! ## The claims -/

set_option smartUnfolding false in
theorem kernel_frame : Cert.quiescent_AddOwn (hAddOwn := Cert.AddOwn.Gen.facts) (hPre_one_of_two := Cert.Pre_one_of_two.Gen.facts) := fun m ρ h => by
  with_unfolding_all exact kernel_quiet (F := Bits) m ρ h

theorem ideal_frame : Cert.quiescent_AddOwnIdeal (hAddOwnIdeal := Cert.AddOwnIdeal.Gen.facts) (hPre_one_of_two := Cert.Pre_one_of_two.Gen.facts) :=
  fun m ρ h => kernel_quiet m ρ h

theorem reference_frame : Cert.quiescent_AddOwnRefIdeal (hAddOwnRefIdeal := Cert.AddOwnRefIdeal.Gen.facts) := fun m ρ _ => host_quiet m ρ

theorem reference_frame_pre : Cert.quiescent_AddOwnRefIdeal_pre_one_of_two (hAddOwnRefIdeal := Cert.AddOwnRefIdeal.Gen.facts)
    (hPre_one_of_two := Cert.Pre_one_of_two.Gen.facts) := fun m ρ _ => host_quiet m ρ

set_option smartUnfolding false in
theorem bits_frame : Cert.quiescent_AddOwnRef (hAddOwnRef := Cert.AddOwnRef.Gen.facts) := fun m ρ _ => by
  with_unfolding_all exact host_quiet (F := Bits) m ρ

set_option smartUnfolding false in
theorem bits_frame_pre : Cert.quiescent_AddOwnRef_pre_one_of_two (hAddOwnRef := Cert.AddOwnRef.Gen.facts)
    (hPre_one_of_two := Cert.Pre_one_of_two.Gen.facts) := fun m ρ _ => by
  with_unfolding_all exact host_quiet (F := Bits) m ρ

theorem algebraic : Cert.algebraic_AddOwnIdeal_AddOwnRefIdeal (hAddOwnIdeal := Cert.AddOwnIdeal.Gen.facts)
    (hAddOwnRefIdeal := Cert.AddOwnRefIdeal.Gen.facts) (hPre_one_of_two := Cert.Pre_one_of_two.Gen.facts) := fun m ρ m' ρ' pre h =>
  let ⟨_, hk⟩ := number_of m pre
  ⟨_, kernel_value m ρ hk, (θ_run Cert.AddOwnRefIdeal.defs _ _).mono
    (fun _ r c => ⟨(r c).1.trans (congrArg₂ (total _) (h c).2.1 (h c).2.2), (r c).2⟩)
    (host_value m' ρ' fun c => (h c).1.trans (hk c))⟩

set_option smartUnfolding false in
theorem bitexact : Cert.bitexact_AddOwn_AddOwnRef (hAddOwn := Cert.AddOwn.Gen.facts)
    (hAddOwnRef := Cert.AddOwnRef.Gen.facts) (hPre_one_of_two := Cert.Pre_one_of_two.Gen.facts) := fun m ρ m' ρ' pre h => by
  with_unfolding_all exact
    let ⟨_, hk⟩ := number_of (F := Bits) m pre
    ⟨_, kernel_value (F := Bits) m ρ hk, (θ_run Cert.AddOwnRefIdeal.defs _ _).mono
      (fun _ r c => ⟨(r c).1.trans (congrArg₂ (total _) (h c).2.1 (h c).2.2), (r c).2⟩)
      (host_value (F := Bits) m' ρ' fun c => (h c).1.trans (hk c))⟩

end Cert.OwnSum

end
-- ==== Proof.FourClaims.lean ====
/-
  The claims about the sum of a chip's slab with the three it received.

  The chip's number picks the slab that is added: the kernel's index map reads it, the reference chooses by it.
-/
module

public import proofs.«01_k».proof.Defs
public import proofs.«01_k».proof.Proof.Number
public import proofs.«01_k».proof.Proof.Gen.Pre_one_of_four
public import proofs.«01_k».proof.Proof.Gen.AddFour
public import proofs.«01_k».proof.Proof.Gen.AddFourIdeal.Frame
public import proofs.«01_k».proof.Proof.Gen.AddFourRef
public import proofs.«01_k».proof.Proof.Gen.AddFourRefIdeal.Run
public import Idealize.ShloMosaic.Lib.Pipeline.Value
public import Idealize.ShloMosaic.Lib.Pointwise

@[expose] public section

set_option Elab.async false

noncomputable section

namespace Cert.FourSum

open Idealize.ShloMosaic
open Idealize.ShloMosaic.TcCoe
open Idealize.ShloMosaic.Pipeline (Window)
open Idealize.SL.Sem

/-! ## The chip's number -/

/-- The one index of the number. -/
def one : Cert.Pre_one_of_four.S1.Idx := fun a => ⟨0, by fin_cases a; decide⟩

theorem one_only (i j : Cert.Pre_one_of_four.S1.Idx) : i = j := funext fun a => Fin.ext (by
  have := (i a).isLt
  have := (j a).isLt
  fin_cases a
  exact (Nat.lt_one_iff.mp ‹_›).trans (Nat.lt_one_iff.mp ‹_›).symm)

/-- The precondition says that the number is one of four. -/
theorem number {F : FTy → Type} [FloatOps F] (v : IVec Cert.Pre_one_of_four.S1 32) (g : FVec F Cert.Pre_one_of_four.S4x11776x512 .f32)
    (r : FVec F Cert.Pre_one_of_four.S3x11776x512 .f32)
    (h : Cert.Pre_one_of_four.fn (F := F) v g r = fun _ => 1#1) :
    ∃ k : Fin 4, v = fun _ => BitVec.ofNat 32 k.val := by
  have lt : (v one).toNat < 4 := Cert.Number.below (by decide) (congrFun h one)
  exact ⟨⟨(v one).toNat, lt⟩, Cert.Number.single one_only v one⟩

section Kernel

open Cert.AddFourIdeal Cert.AddFourIdeal.Gen

variable {F : FTy → Type} [FloatOps F]

theorem origin : (![0, 0, 0] : Fin 3 → Nat) = fun _ => 0 := funext fun a => by fin_cases a <;> rfl

theorem origin2 : (![0, 0] : Fin 2 → Nat) = fun _ => 0 := funext fun a => by fin_cases a <;> rfl

/-- The block index of the chip's own slab. -/
theorem own_index (pf : pre0.Contents (Elt F)) (i : grid0.Coords) (k : Nat) (hk : k < 4)
    (h : pf.at 0 (Rect.unit (s := S1) ![0] S1.size inb_S1_S1_0) numel1_S1 = BitVec.ofNat 32 k) :
    cc0_transform_0 inb_S1_S1_0 numel1_S1 pf i = ![k, (i 0).val, 0] := by
  have h0 : (i 0).val < 23 := (i 0).isLt
  unfold cc0_transform_0
  rw [h]
  funext a
  fin_cases a
  · simp [BitVec.toNat_ofNat]; omega
  · simp [BitVec.toNat_ofNat]; omega
  · rfl

/-- The other windows' block indices. -/
theorem tile (i : grid0.Coords) : cc0_transform_1 i = ![0, (i 0).val, 0] ∧ cc0_transform_2 i = ![(i 0).val, 0] := by
  have h0 : (i 0).val < 23 := (i 0).isLt
  constructor <;> funext a <;> fin_cases a
  · rfl
  · simp [cc0_transform_1, BitVec.toNat_ofNat]; omega
  · rfl
  · simp [cc0_transform_2, BitVec.toNat_ofNat]; omega
  · rfl

theorem own_ok (pf : pre0.Contents (Elt F)) (k : Nat) (hk : k < 4)
    (h : pf.at 0 (Rect.unit (s := S1) ![0] S1.size inb_S1_S1_0) numel1_S1 = BitVec.ofNat 32 k) : ok0 pf := fun i => by
  have h0 : (i 0).val < 23 := (i 0).isLt
  refine ⟨fun a => ?_, .inl rfl⟩
  rw [own_index pf i k hk h]
  match a with
  | ⟨0, _⟩ => show (k + 1) * 1 ≤ 4; omega
  | ⟨1, _⟩ => show ((i 0).val + 1) * 512 ≤ 11776; omega
  | ⟨2, _⟩ => show (0 + 1) * 512 ≤ 512; omega

/-- A slab and three more, added in turn. -/
abbrev chain (x : F .f32) (y : Fin 3 → F .f32) : F .f32 := FloatOps.addf (FloatOps.addf (FloatOps.addf x (y 0)) (y 1)) (y 2)

/-- What the body leaves is the sum of the block and the three received blocks, in their order. -/
theorem body_sum (c : Dev nD) (i : grid0.Coords) (a3 : Memref sig .tc .vmem S1x512x512 .f32) (h3 : a3.IsWhole)
    (a4 : Memref sig .tc .vmem S3x512x512 .f32) (h4 : a4.IsWhole) (a5 : Memref sig .tc .vmem S512x512 .f32) (h5 : a5.IsWhole)
    (x : Vec F S1x512x512 .f32) (y : Vec F S3x512x512 .f32) (w : TbBuf0 (F := F) c tbM0_0) :
    out0_A_2 c i a3 h3 a4 h4 a5 h5 x y w
      = fun j => chain (x (ix3 (0 : Fin 1) (j 0 : Fin 512) (j 1 : Fin 512))) fun s => y (ix3 s (j 0 : Fin 512) (j 1 : Fin 512)) := by
  unfold out0_A_2
  rw [View.read_writes_eq_canon _ _ _ (cover0_A_2 c i a3 h3 a4 h4 a5 h5 x y w)]
  unfold kernelRun0_A
  dsimp only
  rw [View.canon_unit_zero (S := S512x512) origin2]
  simp only [View.readAt_eq_ld, h3.read_unread, h4.read_unread, View.ld_unit_zero (S := S1x512x512) origin]
  unfold k0_pay1
  funext j
  simp only [pointwise]
  have e (s : Fin 3) (o : Fin 3 → Nat) (h1 : o 1 = 0) (h2 : o 2 = 0) (l1 : o 1 + 1 * (j 0).val < 512) (l2 : o 2 + 1 * (j 1).val < 512) :
      y (ix3 s (⟨o 1 + 1 * (j 0).val, l1⟩ : Fin 512) (⟨o 2 + 1 * (j 1).val, l2⟩ : Fin 512)) = y (ix3 s (j 0 : Fin 512) (j 1 : Fin 512)) := by
    refine congrArg y (congrArg₂ (ix3 s) (Fin.ext ?_) (Fin.ext ?_))
    · show o 1 + 1 * (j 0).val = (j 0).val; omega
    · show o 2 + 1 * (j 1).val = (j 1).val; omega
  exact congrArg₂ FloatOps.addf (congrArg₂ FloatOps.addf (congrArg₂ FloatOps.addf rfl (e 0 _ rfl rfl _ _)) (e 1 _ rfl rfl _ _)) (e 2 _ rfl rfl _ _)

variable (m : (ℓ : Loc nD τ sig) → Buf (Elt F) ℓ)

/-- The sum: the chip's slab, with the three received. -/
def total (k : Fin 4) (t : FVec F S4x11776x512 .f32) (r : FVec F S3x11776x512 .f32) : FVec F S11776x512 .f32 := fun i =>
  chain (t (ix3 k (i 0 : Fin 11776) (i 1 : Fin 512))) fun s => r (ix3 s (i 0 : Fin 11776) (i 1 : Fin 512))

/-- Where a point's block of the result lies. -/
abbrev spot (hO : Ok m) (t : Fin (cfgM m hO).N) (j : S512x512.Idx) : S11776x512.Idx := (((cfgM m hO).win 2).blk t).view.emb j

theorem flushed (hO : Ok m) (k : Fin 4) (c : Dev nD) (hk : tbl m 0 = fun _ => BitVec.ofNat 32 k.val) (t : Fin (cfgM m hO).N) :
    (dats m hO 0 c).flushed 2 t = (((cfgM m hO).win 2).blk t).view.read (Elt F) (total k (V m c main_arg1) (V m c main_arg2)) := by
  show ((cfgM m hO).win 2).cut (grid0.coords t) ((dats m hO 0 c).after 2 t) = _
  rw [after0_2]
  unfold outsAt0
  erw [body_sum c (grid0.coords t)]
  funext (j : S512x512.Idx)
  have e := own_index (tbl m) (grid0.coords t) k.val k.isLt (congrFun hk _)
  obtain ⟨e1, e2⟩ := tile (grid0.coords t)
  have p0 : (((cfgM m hO).win 0).blk t).view.emb (ix3 (0 : Fin 1) (j 0 : Fin 512) (j 1 : Fin 512))
      = (ix3 k (spot m hO t j 0 : Fin 11776) (spot m hO t j 1 : Fin 512) : S4x11776x512.Idx) := by
    funext a; apply Fin.ext
    match a with
    | ⟨0, _⟩ => show cc0_transform_0 inb_S1_S1_0 numel1_S1 (tbl m) (grid0.coords t) 0 * 1 + 1 * 0 = k.val; rw [e]; simp
    | ⟨1, _⟩ =>
      show cc0_transform_0 inb_S1_S1_0 numel1_S1 (tbl m) (grid0.coords t) 1 * 512 + 1 * (j 0).val = cc0_transform_2 (grid0.coords t) 0 * 512 + 1 * (j 0).val
      rw [e, e2]; simp
    | ⟨2, _⟩ =>
      show cc0_transform_0 inb_S1_S1_0 numel1_S1 (tbl m) (grid0.coords t) 2 * 512 + 1 * (j 1).val = cc0_transform_2 (grid0.coords t) 1 * 512 + 1 * (j 1).val
      rw [e, e2]; simp
  have p1 (s : Fin 3) : (((cfgM m hO).win 1).blk t).view.emb (ix3 s (j 0 : Fin 512) (j 1 : Fin 512))
      = (ix3 s (spot m hO t j 0 : Fin 11776) (spot m hO t j 1 : Fin 512) : S3x11776x512.Idx) := by
    funext a; apply Fin.ext
    match a with
    | ⟨0, _⟩ => show cc0_transform_1 (grid0.coords t) 0 * 3 + 1 * s.val = s.val; rw [e1]; simp
    | ⟨1, _⟩ => show cc0_transform_1 (grid0.coords t) 1 * 512 + 1 * (j 0).val = cc0_transform_2 (grid0.coords t) 0 * 512 + 1 * (j 0).val; rw [e1, e2]; simp
    | ⟨2, _⟩ => show cc0_transform_1 (grid0.coords t) 2 * 512 + 1 * (j 1).val = cc0_transform_2 (grid0.coords t) 1 * 512 + 1 * (j 1).val; rw [e1, e2]; simp
  exact congrArg₂ chain (congrArg (V m c main_arg1) p0) (funext fun s => congrArg (V m c main_arg2) (p1 s))

theorem every_tile : ∀ q : Fin 23, ∃ t : Fin grid0.N, cc0_transform_2 (grid0.coords t) = ![q.val, 0] := by
  decide +kernel

theorem mem_block (hO : Ok m) (t : Fin (cfgM m hO).N) (i : S11776x512.Idx) :
    i ∈ (((cfgM m hO).win 2).blk t).view.set ↔ ∀ a : Fin 2, cc0_transform_2 (grid0.coords t) a * S512x512.size a ≤ (i a).val
      ∧ (i a).val < cc0_transform_2 (grid0.coords t) a * S512x512.size a + S512x512.size a := by
  show i ∈ ((View.whole main_v0).slice (((cfgM m hO).win 2).rect t)).set ↔ _
  erw [View.set_slice_whole, Rect.mem_set_unit]
  exact Iff.rfl

theorem tiled (hO : Ok m) (i : S11776x512.Idx) : ∃ t : Fin (cfgM m hO).N, i ∈ (((cfgM m hO).win 2).blk t).view.set := by
  have h0 : (i 0).val < 11776 := (i 0).isLt
  have h1 : (i 1).val < 512 := (i 1).isLt
  obtain ⟨t, ht⟩ := every_tile ⟨(i 0).val / 512, by omega⟩
  refine ⟨t, (mem_block m hO t i).2 fun a => ?_⟩
  rw [ht]
  match a with
  | ⟨0, _⟩ => show (i 0).val / 512 * 512 ≤ (i 0).val ∧ (i 0).val < (i 0).val / 512 * 512 + 512; omega
  | ⟨1, _⟩ => show 0 * 512 ≤ (i 1).val ∧ (i 1).val < 0 * 512 + 512; omega

theorem final (hO : Ok m) (k : Fin 4) (c : Dev nD) (hk : tbl m 0 = fun _ => BitVec.ofNat 32 k.val) :
    (dats m hO 0 c).arrAt 2 (cfgM m hO).N = total k (V m c main_arg1) (V m c main_arg2) :=
  (dats m hO 0 c).arrAt_eq_of_cover 2 _ (fun t _ => flushed m hO k c hk t) fun i => (tiled m hO i).imp fun t h => ⟨flush0_2 _ t, h⟩

/-- The precondition gives the windows' condition. -/
theorem ok {k : Fin 4} (hk : tbl m 0 = fun _ => BitVec.ofNat 32 k.val) : Ok m := own_ok (tbl m) k.val k.isLt (congrFun hk _)

/-- What the precondition says of the memory. -/
abbrev Pre : Prop := ∀ c : Dev nD, Cert.Pre_one_of_four.fn (F := F) (m ((c.tc : Thread nD τ).loc main_arg0))
  (m ((c.tc : Thread nD τ).loc main_arg1)) (m ((c.tc : Thread nD τ).loc main_arg2)) = fun _ => 1#1

theorem number_of (h : Pre m) : ∃ k : Fin 4, ∀ c : Dev nD, m ((c.tc : Thread nD τ).loc main_arg0) = fun _ => BitVec.ofNat 32 k.val := by
  obtain ⟨k, hk⟩ := number _ _ _ (h 0)
  refine ⟨k, fun c => ?_⟩
  obtain rfl : c = 0 := Subsingleton.elim _ _
  exact hk

theorem kernel_quiet (ρ : Dev nD → PrngReg) (h : Pre m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  let ⟨_, hk⟩ := number_of m h
  Cert.AddFourIdeal.Gen.frame m ρ (ok m (hk 0))

theorem kernel_value (ρ : Dev nD → PrngReg) {k : Fin 4} (hk : ∀ c : Dev nD, m ((c.tc : Thread nD τ).loc main_arg0) = fun _ => BitVec.ofNat 32 k.val) :
    θ_run defs (onTc (τ := τ) (main (F := F))) ⟨m, fun _ => 0, ρ⟩ (fun r => ∀ c : Dev nD,
      r.2.mem ((c.tc : Thread nD τ).loc main_v0) = total k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ r c => ⟨((r.2 c).1 2).trans (final m (ok m (hk 0)) k c (hk 0)), r.1 c⟩)
    (θ_run_and (unchanged m ρ (ok m (hk 0))) (run_main m ρ (ok m (hk 0))))

end Kernel

section Reference

open Cert.AddFourRefIdeal Cert.AddFourRefIdeal.Gen

variable {F : FTy → Type} [FloatOps F]

theorem host_total (k : Fin 4) (v : IVec S1 32) (t : FVec F S4x11776x512 .f32) (r : FVec F S3x11776x512 .f32) (h : v = fun _ => BitVec.ofNat 32 k.val) :
    addf (addf (addf (select (broadcastInDim S11776x512 ![] bcast_S_S11776x512 (cmpi .slt (shapeCast _ v shapeCasts_S1_S_) (constantI S_ 32 2#32)))
        (select (broadcastInDim S11776x512 ![] bcast_S_S11776x512 (cmpi .eq (shapeCast _ v shapeCasts_S1_S_) (constantI S_ 32 0#32)))
          (shapeCast S11776x512 (extractStridedSlice S1x11776x512 ![0, 0, 0] t slices_S4x11776x512_S1x11776x512_0_0_0) shapeCasts_S1x11776x512_S11776x512)
          (shapeCast S11776x512 (extractStridedSlice S1x11776x512 ![1, 0, 0] t slices_S4x11776x512_S1x11776x512_1_0_0) shapeCasts_S1x11776x512_S11776x512))
        (select (broadcastInDim S11776x512 ![] bcast_S_S11776x512 (cmpi .eq (shapeCast _ v shapeCasts_S1_S_) (constantI S_ 32 2#32)))
          (shapeCast S11776x512 (extractStridedSlice S1x11776x512 ![2, 0, 0] t slices_S4x11776x512_S1x11776x512_2_0_0) shapeCasts_S1x11776x512_S11776x512)
          (shapeCast S11776x512 (extractStridedSlice S1x11776x512 ![3, 0, 0] t slices_S4x11776x512_S1x11776x512_3_0_0) shapeCasts_S1x11776x512_S11776x512)))
      (shapeCast S11776x512 (extractStridedSlice S1x11776x512 ![0, 0, 0] r slices_S3x11776x512_S1x11776x512_0_0_0) shapeCasts_S1x11776x512_S11776x512))
      (shapeCast S11776x512 (extractStridedSlice S1x11776x512 ![1, 0, 0] r slices_S3x11776x512_S1x11776x512_1_0_0) shapeCasts_S1x11776x512_S11776x512))
      (shapeCast S11776x512 (extractStridedSlice S1x11776x512 ![2, 0, 0] r slices_S3x11776x512_S1x11776x512_2_0_0) shapeCasts_S1x11776x512_S11776x512)
      = total k t r := by
  subst h
  funext i
  have e {n : Nat} (x : FVec F ⟨3, ![n, 11776, 512]⟩ .f32) (s : Fin n) (o : Fin 3 → Nat) (h1 : o 1 = 0) (h2 : o 2 = 0)
      (l1 : o 1 + (i 0).val < 11776) (l2 : o 2 + (i 1).val < 512) :
      x (ix3 s (⟨o 1 + (i 0).val, l1⟩ : Fin 11776) (⟨o 2 + (i 1).val, l2⟩ : Fin 512)) = x (ix3 s (i 0 : Fin 11776) (i 1 : Fin 512)) := by
    refine congrArg x (congrArg₂ (ix3 s) (Fin.ext ?_) (Fin.ext ?_))
    · show o 1 + (i 0).val = (i 0).val; omega
    · show o 2 + (i 1).val = (i 1).val; omega
  fin_cases k <;> simp only [pointwise] <;>
    exact congrArg₂ FloatOps.addf (congrArg₂ FloatOps.addf (congrArg₂ FloatOps.addf (e t _ _ rfl rfl _ _) (e r 0 _ rfl rfl _ _)) (e r 1 _ rfl rfl _ _)) (e r 2 _ rfl rfl _ _)

theorem host_value (m : (ℓ : Loc nD τ sig) → Buf (Elt F) ℓ) (ρ : Dev nD → PrngReg) {k : Fin 4}
    (hk : ∀ c : Dev nD, m ((c.tc : Thread nD τ).loc main_arg0) = fun _ => BitVec.ofNat 32 k.val) :
    θ_run defs (onTc (τ := τ) (main (F := F))) ⟨m, fun _ => 0, ρ⟩ (fun r => ∀ c : Dev nD,
      r.2.mem ((c.tc : Thread nD τ).loc main_v25) = total k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ r c => ⟨(r c).1.trans (host_total k _ _ _ (hk c)), (r c).2⟩) (Cert.AddFourRefIdeal.Value.run m ρ)

theorem host_quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.AddFourRefIdeal.Value.run m ρ)

end Reference

/-! ## The claims -/

set_option smartUnfolding false in
theorem kernel_frame : Cert.quiescent_AddFour (hAddFour := Cert.AddFour.Gen.facts) (hPre_one_of_four := Cert.Pre_one_of_four.Gen.facts) := fun m ρ h => by
  with_unfolding_all exact kernel_quiet (F := Bits) m ρ h

theorem ideal_frame : Cert.quiescent_AddFourIdeal (hAddFourIdeal := Cert.AddFourIdeal.Gen.facts) (hPre_one_of_four := Cert.Pre_one_of_four.Gen.facts) :=
  fun m ρ h => kernel_quiet m ρ h

theorem reference_frame : Cert.quiescent_AddFourRefIdeal (hAddFourRefIdeal := Cert.AddFourRefIdeal.Gen.facts) := fun m ρ _ => host_quiet m ρ

theorem reference_frame_pre : Cert.quiescent_AddFourRefIdeal_pre_one_of_four (hAddFourRefIdeal := Cert.AddFourRefIdeal.Gen.facts)
    (hPre_one_of_four := Cert.Pre_one_of_four.Gen.facts) := fun m ρ _ => host_quiet m ρ

set_option smartUnfolding false in
theorem bits_frame : Cert.quiescent_AddFourRef (hAddFourRef := Cert.AddFourRef.Gen.facts) := fun m ρ _ => by
  with_unfolding_all exact host_quiet (F := Bits) m ρ

set_option smartUnfolding false in
theorem bits_frame_pre : Cert.quiescent_AddFourRef_pre_one_of_four (hAddFourRef := Cert.AddFourRef.Gen.facts)
    (hPre_one_of_four := Cert.Pre_one_of_four.Gen.facts) := fun m ρ _ => by
  with_unfolding_all exact host_quiet (F := Bits) m ρ

theorem algebraic : Cert.algebraic_AddFourIdeal_AddFourRefIdeal (hAddFourIdeal := Cert.AddFourIdeal.Gen.facts)
    (hAddFourRefIdeal := Cert.AddFourRefIdeal.Gen.facts) (hPre_one_of_four := Cert.Pre_one_of_four.Gen.facts) := fun m ρ m' ρ' pre h =>
  let ⟨_, hk⟩ := number_of m pre
  ⟨_, kernel_value m ρ hk, (θ_run Cert.AddFourRefIdeal.defs _ _).mono
    (fun _ r c => ⟨(r c).1.trans (congrArg₂ (total _) (h c).2.1 (h c).2.2), (r c).2⟩)
    (host_value m' ρ' fun c => (h c).1.trans (hk c))⟩

set_option smartUnfolding false in
theorem bitexact : Cert.bitexact_AddFour_AddFourRef (hAddFour := Cert.AddFour.Gen.facts)
    (hAddFourRef := Cert.AddFourRef.Gen.facts) (hPre_one_of_four := Cert.Pre_one_of_four.Gen.facts) := fun m ρ m' ρ' pre h => by
  with_unfolding_all exact
    let ⟨_, hk⟩ := number_of (F := Bits) m pre
    ⟨_, kernel_value (F := Bits) m ρ hk, (θ_run Cert.AddFourRefIdeal.defs _ _).mono
      (fun _ r c => ⟨(r c).1.trans (congrArg₂ (total _) (h c).2.1 (h c).2.2), (r c).2⟩)
      (host_value (F := Bits) m' ρ' fun c => (h c).1.trans (hk c))⟩

end Cert.FourSum

end
-- ==== Proof.BlockSum.lean ====
/-
  What the blocked matrix products share: a block of the result is added up in a scratch buffer over the `J` steps of the
  contraction, which the grid's last axis runs through, and is written out at the last of them. So a block that is written out
  holds the sums over the whole contracted axis of `J` times `n` places.
-/
module

public import Idealize.ShloMosaic.Lib.Pipeline.ValueKit

@[expose] public section

namespace Cert.Products

open Idealize.ShloMosaic

/-- `f` is what a point leaves in the result's block and in the scratch buffer, `a` and `b` the factors of the products that a
    point adds, and `A` and `B` those along the whole contracted axis. -/
theorem sum_of_steps {N n L : ℕ} (J : ℕ) [NeZero J] {ι : Type} (f : (t : ℕ) → t < N → (ι → EReal) × (ι → EReal))
    {a b : Fin N → ι → Fin n → EReal} {A B : Fin L → EReal}
    (reset : ∀ t : Fin N, t.val % J = 0 → ∀ i, (f t.val t.isLt).2 i = ∑ l, a t i l * b t i l)
    (step : ∀ t : Fin N, ¬t.val % J = 0 → ∀ i,
      (f t.val t.isLt).2 i = (f (t.val - 1) (Nat.lt_of_le_of_lt (Nat.sub_le _ _) t.isLt)).2 i + ∑ l, a t i l * b t i l)
    (last : ∀ t : Fin N, t.val % J = J - 1 → ∀ i, (f t.val t.isLt).1 i = (f t.val t.isLt).2 i)
    (t : Fin N) (h : t.val % J = J - 1) (i : ι)
    (factors : ∀ (s : Fin J) (k : Fin n) (hl : s.val * n + k.val < L),
      a ⟨J * (t.val / J) + s.val, Pipeline.run_point_lt_of_flush t h s⟩ i k
          * b ⟨J * (t.val / J) + s.val, Pipeline.run_point_lt_of_flush t h s⟩ i k
        = A ⟨s.val * n + k.val, hl⟩ * B ⟨s.val * n + k.val, hl⟩)
    (hL : L = J * n := by decide) : (f t.val t.isLt).1 i = ∑ l, A l * B l := by
  rw [last t h, Pipeline.eq_sum_fin_of_reset_step_apply_of_flush (fun t h => (f t h).2) J (fun _ => 0)
    (fun t i => ∑ l, a t i l * b t i l) (fun t h i => by rw [zero_add]; exact reset t h i) step t h i, zero_add]
  exact Fin.sum_mul_add_congr factors hL

end Cert.Products

end
-- ==== Proof.ProductsForward.lean ====
/-
  The products of the forward pass, an activation of 8192 rows times a weight. Each is the reference's by `sum_of_steps`: what is
  the program's own is the block that a point adds (`part_at`), where the blocks lie (`idx`) and the reference at an index.
-/
module

public import proofs.«01_k».proof.Defs
public import proofs.«01_k».proof.Proof.BlockSum
public import proofs.«01_k».proof.Proof.Gen.MulWo
public import proofs.«01_k».proof.Proof.Gen.MulWoIdeal.Value
public import proofs.«01_k».proof.Proof.Gen.MulWoRefIdeal.Run
public import proofs.«01_k».proof.Proof.Gen.MulQkv
public import proofs.«01_k».proof.Proof.Gen.MulQkvIdeal.Value
public import proofs.«01_k».proof.Proof.Gen.MulQkvRefIdeal.Run
public import proofs.«01_k».proof.Proof.Gen.MulGlu
public import proofs.«01_k».proof.Proof.Gen.MulGluIdeal.Value
public import proofs.«01_k».proof.Proof.Gen.MulGluRefIdeal.Run
public import proofs.«01_k».proof.Proof.Gen.MulGateUp
public import proofs.«01_k».proof.Proof.Gen.MulGateUpIdeal.Value
public import proofs.«01_k».proof.Proof.Gen.MulGateUpRefIdeal.Run
public import proofs.«01_k».proof.Proof.Gen.MulDown
public import proofs.«01_k».proof.Proof.Gen.MulDownIdeal.Value
public import proofs.«01_k».proof.Proof.Gen.MulDownRefIdeal.Run
public import Idealize.ShloMosaic.Lib.Pointwise

@[expose] public section

set_option Elab.async false

noncomputable section

namespace Cert.Products

open Idealize.ShloMosaic
open Idealize.ShloMosaic.TcCoe
open Idealize.SL.Sem

/-! ## The attention's output, and the convolution's second product -/

namespace Wo

open Cert.MulWoIdeal Cert.MulWoIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 l (j 1)) := by pointwise [k0_pay2]

theorem idx : ∀ t : Fin cfg0.N, win0_0.index t = ![t.val / 4, t.val % 2] ∧ win0_1.index t = ![t.val % 2, t.val / 2 % 2]
    ∧ win0_2.index t = ![t.val / 4, t.val / 2 % 2] := (by decide +kernel : ∀ t : Fin grid0.N, _)

abbrev result (a : FVec Ideal S8192x1024 .bf16) (b : FVec Ideal S1024x1024 .bf16) : FVec Ideal S8192x1024 .f32 :=
  Host.dotGeneral Cert.MulWoRefIdeal.dot_S8192x1024_S1024x1024_S8192x1024_1_0_0_1_n_n none a b

theorem result_at (a : FVec Ideal S8192x1024 .bf16) (b : FVec Ideal S1024x1024 .bf16) (j : S8192x1024.Idx) :
    result a b j = ∑ l : Fin 1024, a (ix2 (j 0) l) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulWo (hMulWo := Cert.MulWo.Gen.facts) := fun m ρ _ => by
  with_unfolding_all exact frame (F := Bits) m ρ

theorem ideal_frame : Cert.quiescent_MulWoIdeal (hMulWoIdeal := facts) := fun m ρ _ => frame m ρ

theorem reference_frame : Cert.quiescent_MulWoRefIdeal (hMulWoRefIdeal := Cert.MulWoRefIdeal.Gen.facts) := fun m ρ _ =>
  (θ_run Cert.MulWoRefIdeal.defs _ _).mono (fun r h => ⟨fun c => (h c).2, sem_eq_zero_of_no_sems (by decide) r.2⟩)
    (Cert.MulWoRefIdeal.Value.run m ρ)

theorem algebraic : Cert.algebraic_MulWoIdeal_MulWoRefIdeal (hMulWoIdeal := facts) (hMulWoRefIdeal := Cert.MulWoRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulWoIdeal.Value.run_blocks m ρ),
    (θ_run Cert.MulWoRefIdeal.defs _ _).mono (fun _ r c => ⟨(r c).1.trans (congrArg₂ result (h c).1 (h c).2), (r c).2⟩)
      (Cert.MulWoRefIdeal.Value.run m' ρ')⟩

end Wo

/-! ## The attention's input -/

namespace Qkv

open Cert.MulQkvIdeal Cert.MulQkvIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 l (j 1)) := by pointwise [k0_pay2]

theorem idx : ∀ t : Fin cfg0.N, win0_0.index t = ![t.val / 12, t.val % 2] ∧ win0_1.index t = ![t.val % 2, t.val / 2 % 6]
    ∧ win0_2.index t = ![t.val / 12, t.val / 2 % 6] := (by decide +kernel : ∀ t : Fin grid0.N, _)

abbrev result (a : FVec Ideal S8192x1024 .bf16) (b : FVec Ideal S1024x3072 .bf16) : FVec Ideal S8192x3072 .bf16 :=
  truncf .bf16 (Host.dotGeneral Cert.MulQkvRefIdeal.dot_S8192x1024_S1024x3072_S8192x3072_1_0_0_1_n_n none a b : FVec Ideal S8192x3072 .f32) bitsLt_bf16_f32

theorem result_at (a : FVec Ideal S8192x1024 .bf16) (b : FVec Ideal S1024x3072 .bf16) (j : S8192x3072.Idx) :
    result a b j = ∑ l : Fin 1024, a (ix2 (j 0) l) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out; pointwise [k0_pay3]) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulQkv (hMulQkv := Cert.MulQkv.Gen.facts) := fun m ρ _ => by
  with_unfolding_all exact frame (F := Bits) m ρ

theorem ideal_frame : Cert.quiescent_MulQkvIdeal (hMulQkvIdeal := facts) := fun m ρ _ => frame m ρ

theorem reference_frame : Cert.quiescent_MulQkvRefIdeal (hMulQkvRefIdeal := Cert.MulQkvRefIdeal.Gen.facts) := fun m ρ _ =>
  (θ_run Cert.MulQkvRefIdeal.defs _ _).mono (fun r h => ⟨fun c => (h c).2, sem_eq_zero_of_no_sems (by decide) r.2⟩)
    (Cert.MulQkvRefIdeal.Value.run m ρ)

theorem algebraic : Cert.algebraic_MulQkvIdeal_MulQkvRefIdeal (hMulQkvIdeal := facts) (hMulQkvRefIdeal := Cert.MulQkvRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulQkvIdeal.Value.run_blocks m ρ),
    (θ_run Cert.MulQkvRefIdeal.defs _ _).mono (fun _ r c => ⟨(r c).1.trans (congrArg₂ result (h c).1 (h c).2), (r c).2⟩)
      (Cert.MulQkvRefIdeal.Value.run m' ρ')⟩

end Qkv

/-! ## The gated products of the S5 layer and of the convolution -/

namespace Glu

open Cert.MulGluIdeal Cert.MulGluIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 l (j 1)) := by pointwise [k0_pay2]

theorem idx : ∀ t : Fin cfg0.N, win0_0.index t = ![t.val / 8, t.val % 2] ∧ win0_1.index t = ![t.val % 2, t.val / 2 % 4]
    ∧ win0_2.index t = ![t.val / 8, t.val / 2 % 4] := (by decide +kernel : ∀ t : Fin grid0.N, _)

abbrev result (a : FVec Ideal S8192x1024 .bf16) (b : FVec Ideal S1024x2048 .bf16) : FVec Ideal S8192x2048 .f32 :=
  Host.dotGeneral Cert.MulGluRefIdeal.dot_S8192x1024_S1024x2048_S8192x2048_1_0_0_1_n_n none a b

theorem result_at (a : FVec Ideal S8192x1024 .bf16) (b : FVec Ideal S1024x2048 .bf16) (j : S8192x2048.Idx) :
    result a b j = ∑ l : Fin 1024, a (ix2 (j 0) l) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulGlu (hMulGlu := Cert.MulGlu.Gen.facts) := fun m ρ _ => by
  with_unfolding_all exact frame (F := Bits) m ρ

theorem ideal_frame : Cert.quiescent_MulGluIdeal (hMulGluIdeal := facts) := fun m ρ _ => frame m ρ

theorem reference_frame : Cert.quiescent_MulGluRefIdeal (hMulGluRefIdeal := Cert.MulGluRefIdeal.Gen.facts) := fun m ρ _ =>
  (θ_run Cert.MulGluRefIdeal.defs _ _).mono (fun r h => ⟨fun c => (h c).2, sem_eq_zero_of_no_sems (by decide) r.2⟩)
    (Cert.MulGluRefIdeal.Value.run m ρ)

theorem algebraic : Cert.algebraic_MulGluIdeal_MulGluRefIdeal (hMulGluIdeal := facts) (hMulGluRefIdeal := Cert.MulGluRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulGluIdeal.Value.run_blocks m ρ),
    (θ_run Cert.MulGluRefIdeal.defs _ _).mono (fun _ r c => ⟨(r c).1.trans (congrArg₂ result (h c).1 (h c).2), (r c).2⟩)
      (Cert.MulGluRefIdeal.Value.run m' ρ')⟩

end Glu

/-! ## The feed-forward's gate and up -/

namespace GateUp

open Cert.MulGateUpIdeal Cert.MulGateUpIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 l (j 1)) := by pointwise [k0_pay2]

theorem idx : ∀ t : Fin cfg0.N, win0_0.index t = ![t.val / 22, t.val % 2] ∧ win0_1.index t = ![t.val % 2, t.val / 2 % 11]
    ∧ win0_2.index t = ![t.val / 22, t.val / 2 % 11] := (by decide +kernel : ∀ t : Fin grid0.N, _)

abbrev result (a : FVec Ideal S8192x1024 .bf16) (b : FVec Ideal S1024x5632 .bf16) : FVec Ideal S8192x5632 .bf16 :=
  truncf .bf16 (Host.dotGeneral Cert.MulGateUpRefIdeal.dot_S8192x1024_S1024x5632_S8192x5632_1_0_0_1_n_n none a b : FVec Ideal S8192x5632 .f32) bitsLt_bf16_f32

theorem result_at (a : FVec Ideal S8192x1024 .bf16) (b : FVec Ideal S1024x5632 .bf16) (j : S8192x5632.Idx) :
    result a b j = ∑ l : Fin 1024, a (ix2 (j 0) l) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out; pointwise [k0_pay3]) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulGateUp (hMulGateUp := Cert.MulGateUp.Gen.facts) := fun m ρ _ => by
  with_unfolding_all exact frame (F := Bits) m ρ

theorem ideal_frame : Cert.quiescent_MulGateUpIdeal (hMulGateUpIdeal := facts) := fun m ρ _ => frame m ρ

theorem reference_frame : Cert.quiescent_MulGateUpRefIdeal (hMulGateUpRefIdeal := Cert.MulGateUpRefIdeal.Gen.facts) := fun m ρ _ =>
  (θ_run Cert.MulGateUpRefIdeal.defs _ _).mono (fun r h => ⟨fun c => (h c).2, sem_eq_zero_of_no_sems (by decide) r.2⟩)
    (Cert.MulGateUpRefIdeal.Value.run m ρ)

theorem algebraic : Cert.algebraic_MulGateUpIdeal_MulGateUpRefIdeal (hMulGateUpIdeal := facts) (hMulGateUpRefIdeal := Cert.MulGateUpRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulGateUpIdeal.Value.run_blocks m ρ),
    (θ_run Cert.MulGateUpRefIdeal.defs _ _).mono (fun _ r c => ⟨(r c).1.trans (congrArg₂ result (h c).1 (h c).2), (r c).2⟩)
      (Cert.MulGateUpRefIdeal.Value.run m' ρ')⟩

end GateUp

/-! ## The feed-forward's down -/

namespace Down

open Cert.MulDownIdeal Cert.MulDownIdeal.Gen

theorem zero_at (j : S512x512.Idx) : k0_pay1 (F := Ideal) j = 0 := by pointwise [k0_pay1]

theorem part_at (s : FVec Ideal S512x512 .f32) (a : FVec Ideal S512x256 .bf16) (b : FVec Ideal S256x512 .bf16) (j : S512x512.Idx) :
    k0_pay2 s a b j = s j + ∑ l : Fin 256, a (ix2 (j 0) l) * b (ix2 l (j 1)) := by pointwise [k0_pay2]

theorem idx : ∀ t : Fin cfg0.N, win0_0.index t = ![t.val / 22, t.val % 11] ∧ win0_1.index t = ![t.val % 11, t.val / 11 % 2]
    ∧ win0_2.index t = ![t.val / 22, t.val / 11 % 2] := (by decide +kernel : ∀ t : Fin grid0.N, _)

abbrev result (a : FVec Ideal S8192x2816 .bf16) (b : FVec Ideal S2816x1024 .bf16) : FVec Ideal S8192x1024 .f32 :=
  Host.dotGeneral Cert.MulDownRefIdeal.dot_S8192x2816_S2816x1024_S8192x1024_1_0_0_1_n_n none a b

theorem result_at (a : FVec Ideal S8192x2816 .bf16) (b : FVec Ideal S2816x1024 .bf16) (j : S8192x1024.Idx) :
    result a b j = ∑ l : Fin 2816, a (ix2 (j 0) l) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 11 (outsAt0 m c)
    (fun t h j => by rw [outsAt0_A m c t h (by omega)]; frame_out; rw [part_at, zero_at, zero_add])
    (fun t h j => by
      by_cases h' : t.val % 11 = 10
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDown (hMulDown := Cert.MulDown.Gen.facts) := fun m ρ _ => by
  with_unfolding_all exact frame (F := Bits) m ρ

theorem ideal_frame : Cert.quiescent_MulDownIdeal (hMulDownIdeal := facts) := fun m ρ _ => frame m ρ

theorem reference_frame : Cert.quiescent_MulDownRefIdeal (hMulDownRefIdeal := Cert.MulDownRefIdeal.Gen.facts) := fun m ρ _ =>
  (θ_run Cert.MulDownRefIdeal.defs _ _).mono (fun r h => ⟨fun c => (h c).2, sem_eq_zero_of_no_sems (by decide) r.2⟩)
    (Cert.MulDownRefIdeal.Value.run m ρ)

theorem algebraic : Cert.algebraic_MulDownIdeal_MulDownRefIdeal (hMulDownIdeal := facts) (hMulDownRefIdeal := Cert.MulDownRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDownIdeal.Value.run_blocks m ρ),
    (θ_run Cert.MulDownRefIdeal.defs _ _).mono (fun _ r c => ⟨(r c).1.trans (congrArg₂ result (h c).1 (h c).2), (r c).2⟩)
      (Cert.MulDownRefIdeal.Value.run m' ρ')⟩

end Down

end Cert.Products

end
-- ==== Proof.ProductsWeights.lean ====
/-
  The products that give the weights' gradients: an activation and a gradient of 8192 rows each, contracted over the rows. As in
  the forward pass each is the reference's by `sum_of_steps`.
-/
module

public import proofs.«01_k».proof.Defs
public import proofs.«01_k».proof.Proof.BlockSum
public import proofs.«01_k».proof.Proof.Gen.MulDWo
public import proofs.«01_k».proof.Proof.Gen.MulDWoIdeal.Value
public import proofs.«01_k».proof.Proof.Gen.MulDWoRefIdeal.Run
public import proofs.«01_k».proof.Proof.Gen.MulDQkv
public import proofs.«01_k».proof.Proof.Gen.MulDQkvIdeal.Value
public import proofs.«01_k».proof.Proof.Gen.MulDQkvRefIdeal.Run
public import proofs.«01_k».proof.Proof.Gen.MulDGlu
public import proofs.«01_k».proof.Proof.Gen.MulDGluIdeal.Value
public import proofs.«01_k».proof.Proof.Gen.MulDGluRefIdeal.Run
public import proofs.«01_k».proof.Proof.Gen.MulDGateUp
public import proofs.«01_k».proof.Proof.Gen.MulDGateUpIdeal.Value
public import proofs.«01_k».proof.Proof.Gen.MulDGateUpRefIdeal.Run
public import proofs.«01_k».proof.Proof.Gen.MulDDown
public import proofs.«01_k».proof.Proof.Gen.MulDDownIdeal.Value
public import proofs.«01_k».proof.Proof.Gen.MulDDownRefIdeal.Run
public import Idealize.ShloMosaic.Lib.Pointwise

@[expose] public section

set_option Elab.async false

noncomputable section

namespace Cert.Products

open Idealize.ShloMosaic
open Idealize.ShloMosaic.TcCoe
open Idealize.SL.Sem

/-! ## Of the attention's output and of the convolution's second product -/

namespace DWo

open Cert.MulDWoIdeal Cert.MulDWoIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 l (j 0)) * b (ix2 l (j 1)) := by pointwise [k0_pay2]

theorem idx : ∀ t : Fin cfg0.N, win0_0.index t = ![t.val % 16, t.val / 32] ∧ win0_1.index t = ![t.val % 16, t.val / 16 % 2]
    ∧ win0_2.index t = ![t.val / 32, t.val / 16 % 2] := (by decide +kernel : ∀ t : Fin grid0.N, _)

abbrev result (a b : FVec Ideal S8192x1024 .bf16) : FVec Ideal S1024x1024 .f32 :=
  Host.dotGeneral Cert.MulDWoRefIdeal.dot_S8192x1024_S8192x1024_S1024x1024_0_0_1_1_n_n none a b

theorem result_at (a b : FVec Ideal S8192x1024 .bf16) (j : S1024x1024.Idx) :
    result a b j = ∑ l : Fin 8192, a (ix2 l (j 0)) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 16 (outsAt0 m c)
    (fun t h j => by rw [outsAt0_A m c t h (by omega)]; frame_out; rw [part_at, zero_at, zero_add])
    (fun t h j => by
      by_cases h' : t.val % 16 = 15
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDWo (hMulDWo := Cert.MulDWo.Gen.facts) := fun m ρ _ => by
  with_unfolding_all exact frame (F := Bits) m ρ

theorem ideal_frame : Cert.quiescent_MulDWoIdeal (hMulDWoIdeal := facts) := fun m ρ _ => frame m ρ

theorem reference_frame : Cert.quiescent_MulDWoRefIdeal (hMulDWoRefIdeal := Cert.MulDWoRefIdeal.Gen.facts) := fun m ρ _ =>
  (θ_run Cert.MulDWoRefIdeal.defs _ _).mono (fun r h => ⟨fun c => (h c).2, sem_eq_zero_of_no_sems (by decide) r.2⟩)
    (Cert.MulDWoRefIdeal.Value.run m ρ)

theorem algebraic : Cert.algebraic_MulDWoIdeal_MulDWoRefIdeal (hMulDWoIdeal := facts) (hMulDWoRefIdeal := Cert.MulDWoRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDWoIdeal.Value.run_blocks m ρ),
    (θ_run Cert.MulDWoRefIdeal.defs _ _).mono (fun _ r c => ⟨(r c).1.trans (congrArg₂ result (h c).1 (h c).2), (r c).2⟩)
      (Cert.MulDWoRefIdeal.Value.run m' ρ')⟩

end DWo

/-! ## Of the attention's input -/

namespace DQkv

open Cert.MulDQkvIdeal Cert.MulDQkvIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 l (j 0)) * b (ix2 l (j 1)) := by pointwise [k0_pay2]

theorem idx : ∀ t : Fin cfg0.N, win0_0.index t = ![t.val % 16, t.val / 96] ∧ win0_1.index t = ![t.val % 16, t.val / 16 % 6]
    ∧ win0_2.index t = ![t.val / 96, t.val / 16 % 6] := (by decide +kernel : ∀ t : Fin grid0.N, _)

abbrev result (a : FVec Ideal S8192x1024 .bf16) (b : FVec Ideal S8192x3072 .bf16) : FVec Ideal S1024x3072 .f32 :=
  Host.dotGeneral Cert.MulDQkvRefIdeal.dot_S8192x1024_S8192x3072_S1024x3072_0_0_1_1_n_n none a b

theorem result_at (a : FVec Ideal S8192x1024 .bf16) (b : FVec Ideal S8192x3072 .bf16) (j : S1024x3072.Idx) :
    result a b j = ∑ l : Fin 8192, a (ix2 l (j 0)) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 16 (outsAt0 m c)
    (fun t h j => by rw [outsAt0_A m c t h (by omega)]; frame_out; rw [part_at, zero_at, zero_add])
    (fun t h j => by
      by_cases h' : t.val % 16 = 15
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDQkv (hMulDQkv := Cert.MulDQkv.Gen.facts) := fun m ρ _ => by
  with_unfolding_all exact frame (F := Bits) m ρ

theorem ideal_frame : Cert.quiescent_MulDQkvIdeal (hMulDQkvIdeal := facts) := fun m ρ _ => frame m ρ

theorem reference_frame : Cert.quiescent_MulDQkvRefIdeal (hMulDQkvRefIdeal := Cert.MulDQkvRefIdeal.Gen.facts) := fun m ρ _ =>
  (θ_run Cert.MulDQkvRefIdeal.defs _ _).mono (fun r h => ⟨fun c => (h c).2, sem_eq_zero_of_no_sems (by decide) r.2⟩)
    (Cert.MulDQkvRefIdeal.Value.run m ρ)

theorem algebraic : Cert.algebraic_MulDQkvIdeal_MulDQkvRefIdeal (hMulDQkvIdeal := facts) (hMulDQkvRefIdeal := Cert.MulDQkvRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDQkvIdeal.Value.run_blocks m ρ),
    (θ_run Cert.MulDQkvRefIdeal.defs _ _).mono (fun _ r c => ⟨(r c).1.trans (congrArg₂ result (h c).1 (h c).2), (r c).2⟩)
      (Cert.MulDQkvRefIdeal.Value.run m' ρ')⟩

end DQkv

/-! ## Of the gated products -/

namespace DGlu

open Cert.MulDGluIdeal Cert.MulDGluIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 l (j 0)) * b (ix2 l (j 1)) := by pointwise [k0_pay2]

theorem idx : ∀ t : Fin cfg0.N, win0_0.index t = ![t.val % 16, t.val / 64] ∧ win0_1.index t = ![t.val % 16, t.val / 16 % 4]
    ∧ win0_2.index t = ![t.val / 64, t.val / 16 % 4] := (by decide +kernel : ∀ t : Fin grid0.N, _)

abbrev result (a : FVec Ideal S8192x1024 .bf16) (b : FVec Ideal S8192x2048 .bf16) : FVec Ideal S1024x2048 .f32 :=
  Host.dotGeneral Cert.MulDGluRefIdeal.dot_S8192x1024_S8192x2048_S1024x2048_0_0_1_1_n_n none a b

theorem result_at (a : FVec Ideal S8192x1024 .bf16) (b : FVec Ideal S8192x2048 .bf16) (j : S1024x2048.Idx) :
    result a b j = ∑ l : Fin 8192, a (ix2 l (j 0)) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 16 (outsAt0 m c)
    (fun t h j => by rw [outsAt0_A m c t h (by omega)]; frame_out; rw [part_at, zero_at, zero_add])
    (fun t h j => by
      by_cases h' : t.val % 16 = 15
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDGlu (hMulDGlu := Cert.MulDGlu.Gen.facts) := fun m ρ _ => by
  with_unfolding_all exact frame (F := Bits) m ρ

theorem ideal_frame : Cert.quiescent_MulDGluIdeal (hMulDGluIdeal := facts) := fun m ρ _ => frame m ρ

theorem reference_frame : Cert.quiescent_MulDGluRefIdeal (hMulDGluRefIdeal := Cert.MulDGluRefIdeal.Gen.facts) := fun m ρ _ =>
  (θ_run Cert.MulDGluRefIdeal.defs _ _).mono (fun r h => ⟨fun c => (h c).2, sem_eq_zero_of_no_sems (by decide) r.2⟩)
    (Cert.MulDGluRefIdeal.Value.run m ρ)

theorem algebraic : Cert.algebraic_MulDGluIdeal_MulDGluRefIdeal (hMulDGluIdeal := facts) (hMulDGluRefIdeal := Cert.MulDGluRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDGluIdeal.Value.run_blocks m ρ),
    (θ_run Cert.MulDGluRefIdeal.defs _ _).mono (fun _ r c => ⟨(r c).1.trans (congrArg₂ result (h c).1 (h c).2), (r c).2⟩)
      (Cert.MulDGluRefIdeal.Value.run m' ρ')⟩

end DGlu

/-! ## Of the feed-forward's gate and up -/

namespace DGateUp

open Cert.MulDGateUpIdeal Cert.MulDGateUpIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 l (j 0)) * b (ix2 l (j 1)) := by pointwise [k0_pay2]

theorem idx : ∀ t : Fin cfg0.N, win0_0.index t = ![t.val % 16, t.val / 176] ∧ win0_1.index t = ![t.val % 16, t.val / 16 % 11]
    ∧ win0_2.index t = ![t.val / 176, t.val / 16 % 11] := (by decide +kernel : ∀ t : Fin grid0.N, _)

abbrev result (a : FVec Ideal S8192x1024 .bf16) (b : FVec Ideal S8192x5632 .bf16) : FVec Ideal S1024x5632 .f32 :=
  Host.dotGeneral Cert.MulDGateUpRefIdeal.dot_S8192x1024_S8192x5632_S1024x5632_0_0_1_1_n_n none a b

theorem result_at (a : FVec Ideal S8192x1024 .bf16) (b : FVec Ideal S8192x5632 .bf16) (j : S1024x5632.Idx) :
    result a b j = ∑ l : Fin 8192, a (ix2 l (j 0)) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 16 (outsAt0 m c)
    (fun t h j => by rw [outsAt0_A m c t h (by omega)]; frame_out; rw [part_at, zero_at, zero_add])
    (fun t h j => by
      by_cases h' : t.val % 16 = 15
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDGateUp (hMulDGateUp := Cert.MulDGateUp.Gen.facts) := fun m ρ _ => by
  with_unfolding_all exact frame (F := Bits) m ρ

theorem ideal_frame : Cert.quiescent_MulDGateUpIdeal (hMulDGateUpIdeal := facts) := fun m ρ _ => frame m ρ

theorem reference_frame : Cert.quiescent_MulDGateUpRefIdeal (hMulDGateUpRefIdeal := Cert.MulDGateUpRefIdeal.Gen.facts) := fun m ρ _ =>
  (θ_run Cert.MulDGateUpRefIdeal.defs _ _).mono (fun r h => ⟨fun c => (h c).2, sem_eq_zero_of_no_sems (by decide) r.2⟩)
    (Cert.MulDGateUpRefIdeal.Value.run m ρ)

theorem algebraic : Cert.algebraic_MulDGateUpIdeal_MulDGateUpRefIdeal (hMulDGateUpIdeal := facts) (hMulDGateUpRefIdeal := Cert.MulDGateUpRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDGateUpIdeal.Value.run_blocks m ρ),
    (θ_run Cert.MulDGateUpRefIdeal.defs _ _).mono (fun _ r c => ⟨(r c).1.trans (congrArg₂ result (h c).1 (h c).2), (r c).2⟩)
      (Cert.MulDGateUpRefIdeal.Value.run m' ρ')⟩

end DGateUp

/-! ## Of the feed-forward's down -/

namespace DDown

open Cert.MulDDownIdeal Cert.MulDDownIdeal.Gen

theorem zero_at (j : S256x512.Idx) : k0_pay1 (F := Ideal) j = 0 := by pointwise [k0_pay1]

theorem part_at (s : FVec Ideal S256x512 .f32) (a : FVec Ideal S512x256 .bf16) (b : FVec Ideal S512x512 .bf16) (j : S256x512.Idx) :
    k0_pay2 s a b j = s j + ∑ l : Fin 512, a (ix2 l (j 0)) * b (ix2 l (j 1)) := by pointwise [k0_pay2]

theorem idx : ∀ t : Fin cfg0.N, win0_0.index t = ![t.val % 16, t.val / 32] ∧ win0_1.index t = ![t.val % 16, t.val / 16 % 2]
    ∧ win0_2.index t = ![t.val / 32, t.val / 16 % 2] := (by decide +kernel : ∀ t : Fin grid0.N, _)

abbrev result (a : FVec Ideal S8192x2816 .bf16) (b : FVec Ideal S8192x1024 .bf16) : FVec Ideal S2816x1024 .f32 :=
  Host.dotGeneral Cert.MulDDownRefIdeal.dot_S8192x2816_S8192x1024_S2816x1024_0_0_1_1_n_n none a b

theorem result_at (a : FVec Ideal S8192x2816 .bf16) (b : FVec Ideal S8192x1024 .bf16) (j : S2816x1024.Idx) :
    result a b j = ∑ l : Fin 8192, a (ix2 l (j 0)) * b (ix2 l (j 1)) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 16 (outsAt0 m c)
    (fun t h j => by rw [outsAt0_A m c t h (by omega)]; frame_out; rw [part_at, zero_at, zero_add])
    (fun t h j => by
      by_cases h' : t.val % 16 = 15
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulDDown (hMulDDown := Cert.MulDDown.Gen.facts) := fun m ρ _ => by
  with_unfolding_all exact frame (F := Bits) m ρ

theorem ideal_frame : Cert.quiescent_MulDDownIdeal (hMulDDownIdeal := facts) := fun m ρ _ => frame m ρ

theorem reference_frame : Cert.quiescent_MulDDownRefIdeal (hMulDDownRefIdeal := Cert.MulDDownRefIdeal.Gen.facts) := fun m ρ _ =>
  (θ_run Cert.MulDDownRefIdeal.defs _ _).mono (fun r h => ⟨fun c => (h c).2, sem_eq_zero_of_no_sems (by decide) r.2⟩)
    (Cert.MulDDownRefIdeal.Value.run m ρ)

theorem algebraic : Cert.algebraic_MulDDownIdeal_MulDDownRefIdeal (hMulDDownIdeal := facts) (hMulDDownRefIdeal := Cert.MulDDownRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulDDownIdeal.Value.run_blocks m ρ),
    (θ_run Cert.MulDDownRefIdeal.defs _ _).mono (fun _ r c => ⟨(r c).1.trans (congrArg₂ result (h c).1 (h c).2), (r c).2⟩)
      (Cert.MulDDownRefIdeal.Value.run m' ρ')⟩

end DDown

end Cert.Products

end
-- ==== Proof.ProductsBack.lean ====
/-
  The products that take a gradient back through a weight: a gradient of 8192 rows times the weight's transpose. As in the
  forward pass each is the reference's by `sum_of_steps`.
-/
module

public import proofs.«01_k».proof.Defs
public import proofs.«01_k».proof.Proof.BlockSum
public import proofs.«01_k».proof.Proof.Gen.MulBackO
public import proofs.«01_k».proof.Proof.Gen.MulBackOIdeal.Value
public import proofs.«01_k».proof.Proof.Gen.MulBackORefIdeal.Run
public import proofs.«01_k».proof.Proof.Gen.MulBackConv
public import proofs.«01_k».proof.Proof.Gen.MulBackConvIdeal.Value
public import proofs.«01_k».proof.Proof.Gen.MulBackConvRefIdeal.Run
public import proofs.«01_k».proof.Proof.Gen.MulBackQkv
public import proofs.«01_k».proof.Proof.Gen.MulBackQkvIdeal.Value
public import proofs.«01_k».proof.Proof.Gen.MulBackQkvRefIdeal.Run
public import proofs.«01_k».proof.Proof.Gen.MulBackGlu
public import proofs.«01_k».proof.Proof.Gen.MulBackGluIdeal.Value
public import proofs.«01_k».proof.Proof.Gen.MulBackGluRefIdeal.Run
public import proofs.«01_k».proof.Proof.Gen.MulBackFfn
public import proofs.«01_k».proof.Proof.Gen.MulBackFfnIdeal.Value
public import proofs.«01_k».proof.Proof.Gen.MulBackFfnRefIdeal.Run
public import proofs.«01_k».proof.Proof.Gen.MulBackAct
public import proofs.«01_k».proof.Proof.Gen.MulBackActIdeal.Value
public import proofs.«01_k».proof.Proof.Gen.MulBackActRefIdeal.Run
public import Idealize.ShloMosaic.Lib.Pointwise

@[expose] public section

set_option Elab.async false

noncomputable section

namespace Cert.Products

open Idealize.ShloMosaic
open Idealize.ShloMosaic.TcCoe
open Idealize.SL.Sem

/-! ## At the attention's output -/

namespace BackO

open Cert.MulBackOIdeal Cert.MulBackOIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 (j 1) l) := by pointwise [k0_pay2]

theorem idx : ∀ t : Fin cfg0.N, win0_0.index t = ![t.val / 4, t.val % 2] ∧ win0_1.index t = ![t.val / 2 % 2, t.val % 2]
    ∧ win0_2.index t = ![t.val / 4, t.val / 2 % 2] := (by decide +kernel : ∀ t : Fin grid0.N, _)

abbrev result (a : FVec Ideal S8192x1024 .bf16) (b : FVec Ideal S1024x1024 .bf16) : FVec Ideal S8192x1024 .bf16 :=
  truncf .bf16 (Host.dotGeneral Cert.MulBackORefIdeal.dot_S8192x1024_S1024x1024_S8192x1024_1_1_0_0_n_n none a b : FVec Ideal S8192x1024 .f32) bitsLt_bf16_f32

theorem result_at (a : FVec Ideal S8192x1024 .bf16) (b : FVec Ideal S1024x1024 .bf16) (j : S8192x1024.Idx) :
    result a b j = ∑ l : Fin 1024, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out; pointwise [k0_pay3]) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackO (hMulBackO := Cert.MulBackO.Gen.facts) := fun m ρ _ => by
  with_unfolding_all exact frame (F := Bits) m ρ

theorem ideal_frame : Cert.quiescent_MulBackOIdeal (hMulBackOIdeal := facts) := fun m ρ _ => frame m ρ

theorem reference_frame : Cert.quiescent_MulBackORefIdeal (hMulBackORefIdeal := Cert.MulBackORefIdeal.Gen.facts) := fun m ρ _ =>
  (θ_run Cert.MulBackORefIdeal.defs _ _).mono (fun r h => ⟨fun c => (h c).2, sem_eq_zero_of_no_sems (by decide) r.2⟩)
    (Cert.MulBackORefIdeal.Value.run m ρ)

theorem algebraic : Cert.algebraic_MulBackOIdeal_MulBackORefIdeal (hMulBackOIdeal := facts) (hMulBackORefIdeal := Cert.MulBackORefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackOIdeal.Value.run_blocks m ρ),
    (θ_run Cert.MulBackORefIdeal.defs _ _).mono (fun _ r c => ⟨(r c).1.trans (congrArg₂ result (h c).1 (h c).2), (r c).2⟩)
      (Cert.MulBackORefIdeal.Value.run m' ρ')⟩

end BackO

/-! ## At the convolution's second product -/

namespace BackConv

open Cert.MulBackConvIdeal Cert.MulBackConvIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 (j 1) l) := by pointwise [k0_pay2]

theorem idx : ∀ t : Fin cfg0.N, win0_0.index t = ![t.val / 4, t.val % 2] ∧ win0_1.index t = ![t.val / 2 % 2, t.val % 2]
    ∧ win0_2.index t = ![t.val / 4, t.val / 2 % 2] := (by decide +kernel : ∀ t : Fin grid0.N, _)

abbrev result (a : FVec Ideal S8192x1024 .bf16) (b : FVec Ideal S1024x1024 .bf16) : FVec Ideal S8192x1024 .f32 :=
  Host.dotGeneral Cert.MulBackConvRefIdeal.dot_S8192x1024_S1024x1024_S8192x1024_1_1_0_0_n_n none a b

theorem result_at (a : FVec Ideal S8192x1024 .bf16) (b : FVec Ideal S1024x1024 .bf16) (j : S8192x1024.Idx) :
    result a b j = ∑ l : Fin 1024, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackConv (hMulBackConv := Cert.MulBackConv.Gen.facts) := fun m ρ _ => by
  with_unfolding_all exact frame (F := Bits) m ρ

theorem ideal_frame : Cert.quiescent_MulBackConvIdeal (hMulBackConvIdeal := facts) := fun m ρ _ => frame m ρ

theorem reference_frame : Cert.quiescent_MulBackConvRefIdeal (hMulBackConvRefIdeal := Cert.MulBackConvRefIdeal.Gen.facts) := fun m ρ _ =>
  (θ_run Cert.MulBackConvRefIdeal.defs _ _).mono (fun r h => ⟨fun c => (h c).2, sem_eq_zero_of_no_sems (by decide) r.2⟩)
    (Cert.MulBackConvRefIdeal.Value.run m ρ)

theorem algebraic : Cert.algebraic_MulBackConvIdeal_MulBackConvRefIdeal (hMulBackConvIdeal := facts) (hMulBackConvRefIdeal := Cert.MulBackConvRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackConvIdeal.Value.run_blocks m ρ),
    (θ_run Cert.MulBackConvRefIdeal.defs _ _).mono (fun _ r c => ⟨(r c).1.trans (congrArg₂ result (h c).1 (h c).2), (r c).2⟩)
      (Cert.MulBackConvRefIdeal.Value.run m' ρ')⟩

end BackConv

/-! ## At the attention's input -/

namespace BackQkv

open Cert.MulBackQkvIdeal Cert.MulBackQkvIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 (j 1) l) := by pointwise [k0_pay2]

theorem idx : ∀ t : Fin cfg0.N, win0_0.index t = ![t.val / 12, t.val % 6] ∧ win0_1.index t = ![t.val / 6 % 2, t.val % 6]
    ∧ win0_2.index t = ![t.val / 12, t.val / 6 % 2] := (by decide +kernel : ∀ t : Fin grid0.N, _)

abbrev result (a : FVec Ideal S8192x3072 .bf16) (b : FVec Ideal S1024x3072 .bf16) : FVec Ideal S8192x1024 .f32 :=
  Host.dotGeneral Cert.MulBackQkvRefIdeal.dot_S8192x3072_S1024x3072_S8192x1024_1_1_0_0_n_n none a b

theorem result_at (a : FVec Ideal S8192x3072 .bf16) (b : FVec Ideal S1024x3072 .bf16) (j : S8192x1024.Idx) :
    result a b j = ∑ l : Fin 3072, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 6 (outsAt0 m c)
    (fun t h j => by rw [outsAt0_A m c t h (by omega)]; frame_out; rw [part_at, zero_at, zero_add])
    (fun t h j => by
      by_cases h' : t.val % 6 = 5
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackQkv (hMulBackQkv := Cert.MulBackQkv.Gen.facts) := fun m ρ _ => by
  with_unfolding_all exact frame (F := Bits) m ρ

theorem ideal_frame : Cert.quiescent_MulBackQkvIdeal (hMulBackQkvIdeal := facts) := fun m ρ _ => frame m ρ

theorem reference_frame : Cert.quiescent_MulBackQkvRefIdeal (hMulBackQkvRefIdeal := Cert.MulBackQkvRefIdeal.Gen.facts) := fun m ρ _ =>
  (θ_run Cert.MulBackQkvRefIdeal.defs _ _).mono (fun r h => ⟨fun c => (h c).2, sem_eq_zero_of_no_sems (by decide) r.2⟩)
    (Cert.MulBackQkvRefIdeal.Value.run m ρ)

theorem algebraic : Cert.algebraic_MulBackQkvIdeal_MulBackQkvRefIdeal (hMulBackQkvIdeal := facts) (hMulBackQkvRefIdeal := Cert.MulBackQkvRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackQkvIdeal.Value.run_blocks m ρ),
    (θ_run Cert.MulBackQkvRefIdeal.defs _ _).mono (fun _ r c => ⟨(r c).1.trans (congrArg₂ result (h c).1 (h c).2), (r c).2⟩)
      (Cert.MulBackQkvRefIdeal.Value.run m' ρ')⟩

end BackQkv

/-! ## At the gated products -/

namespace BackGlu

open Cert.MulBackGluIdeal Cert.MulBackGluIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 (j 1) l) := by pointwise [k0_pay2]

theorem idx : ∀ t : Fin cfg0.N, win0_0.index t = ![t.val / 8, t.val % 4] ∧ win0_1.index t = ![t.val / 4 % 2, t.val % 4]
    ∧ win0_2.index t = ![t.val / 8, t.val / 4 % 2] := (by decide +kernel : ∀ t : Fin grid0.N, _)

abbrev result (a : FVec Ideal S8192x2048 .bf16) (b : FVec Ideal S1024x2048 .bf16) : FVec Ideal S8192x1024 .f32 :=
  Host.dotGeneral Cert.MulBackGluRefIdeal.dot_S8192x2048_S1024x2048_S8192x1024_1_1_0_0_n_n none a b

theorem result_at (a : FVec Ideal S8192x2048 .bf16) (b : FVec Ideal S1024x2048 .bf16) (j : S8192x1024.Idx) :
    result a b j = ∑ l : Fin 2048, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 4 (outsAt0 m c)
    (fun t h j => by rw [outsAt0_A m c t h (by omega)]; frame_out; rw [part_at, zero_at, zero_add])
    (fun t h j => by
      by_cases h' : t.val % 4 = 3
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackGlu (hMulBackGlu := Cert.MulBackGlu.Gen.facts) := fun m ρ _ => by
  with_unfolding_all exact frame (F := Bits) m ρ

theorem ideal_frame : Cert.quiescent_MulBackGluIdeal (hMulBackGluIdeal := facts) := fun m ρ _ => frame m ρ

theorem reference_frame : Cert.quiescent_MulBackGluRefIdeal (hMulBackGluRefIdeal := Cert.MulBackGluRefIdeal.Gen.facts) := fun m ρ _ =>
  (θ_run Cert.MulBackGluRefIdeal.defs _ _).mono (fun r h => ⟨fun c => (h c).2, sem_eq_zero_of_no_sems (by decide) r.2⟩)
    (Cert.MulBackGluRefIdeal.Value.run m ρ)

theorem algebraic : Cert.algebraic_MulBackGluIdeal_MulBackGluRefIdeal (hMulBackGluIdeal := facts) (hMulBackGluRefIdeal := Cert.MulBackGluRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackGluIdeal.Value.run_blocks m ρ),
    (θ_run Cert.MulBackGluRefIdeal.defs _ _).mono (fun _ r c => ⟨(r c).1.trans (congrArg₂ result (h c).1 (h c).2), (r c).2⟩)
      (Cert.MulBackGluRefIdeal.Value.run m' ρ')⟩

end BackGlu

/-! ## At the feed-forward's gate and up -/

namespace BackFfn

open Cert.MulBackFfnIdeal Cert.MulBackFfnIdeal.Gen

theorem zero_at (j : S512x512.Idx) : k0_pay1 (F := Ideal) j = 0 := by pointwise [k0_pay1]

theorem part_at (s : FVec Ideal S512x512 .f32) (a b : FVec Ideal S512x512 .bf16) (j : S512x512.Idx) :
    k0_pay2 s a b j = s j + ∑ l : Fin 512, a (ix2 (j 0) l) * b (ix2 (j 1) l) := by pointwise [k0_pay2]

theorem idx : ∀ t : Fin cfg0.N, win0_0.index t = ![t.val / 22, t.val % 11] ∧ win0_1.index t = ![t.val / 11 % 2, t.val % 11]
    ∧ win0_2.index t = ![t.val / 22, t.val / 11 % 2] := (by decide +kernel : ∀ t : Fin grid0.N, _)

abbrev result (a : FVec Ideal S8192x5632 .bf16) (b : FVec Ideal S1024x5632 .bf16) : FVec Ideal S8192x1024 .f32 :=
  Host.dotGeneral Cert.MulBackFfnRefIdeal.dot_S8192x5632_S1024x5632_S8192x1024_1_1_0_0_n_n none a b

theorem result_at (a : FVec Ideal S8192x5632 .bf16) (b : FVec Ideal S1024x5632 .bf16) (j : S8192x1024.Idx) :
    result a b j = ∑ l : Fin 5632, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 11 (outsAt0 m c)
    (fun t h j => by rw [outsAt0_A m c t h (by omega)]; frame_out; rw [part_at, zero_at, zero_add])
    (fun t h j => by
      by_cases h' : t.val % 11 = 10
      · rw [outsAt0_C m c t h h']; frame_out; erw [part_at, (Memref.isWhole_whole cc0_scratch0).read_unread]
      · rw [outsAt0_B m c t h h']; frame_out; erw [part_at, (Memref.isWhole_whole cc0_scratch0).read_unread])
    (fun t h j => by rw [outsAt0_C m c t (by omega) h]; frame_out) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackFfn (hMulBackFfn := Cert.MulBackFfn.Gen.facts) := fun m ρ _ => by
  with_unfolding_all exact frame (F := Bits) m ρ

theorem ideal_frame : Cert.quiescent_MulBackFfnIdeal (hMulBackFfnIdeal := facts) := fun m ρ _ => frame m ρ

theorem reference_frame : Cert.quiescent_MulBackFfnRefIdeal (hMulBackFfnRefIdeal := Cert.MulBackFfnRefIdeal.Gen.facts) := fun m ρ _ =>
  (θ_run Cert.MulBackFfnRefIdeal.defs _ _).mono (fun r h => ⟨fun c => (h c).2, sem_eq_zero_of_no_sems (by decide) r.2⟩)
    (Cert.MulBackFfnRefIdeal.Value.run m ρ)

theorem algebraic : Cert.algebraic_MulBackFfnIdeal_MulBackFfnRefIdeal (hMulBackFfnIdeal := facts) (hMulBackFfnRefIdeal := Cert.MulBackFfnRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackFfnIdeal.Value.run_blocks m ρ),
    (θ_run Cert.MulBackFfnRefIdeal.defs _ _).mono (fun _ r c => ⟨(r c).1.trans (congrArg₂ result (h c).1 (h c).2), (r c).2⟩)
      (Cert.MulBackFfnRefIdeal.Value.run m' ρ')⟩

end BackFfn

/-! ## At the feed-forward's down -/

namespace BackAct

open Cert.MulBackActIdeal Cert.MulBackActIdeal.Gen

theorem zero_at (j : S512x256.Idx) : k0_pay1 (F := Ideal) j = 0 := by pointwise [k0_pay1]

theorem part_at (s : FVec Ideal S512x256 .f32) (a : FVec Ideal S512x512 .bf16) (b : FVec Ideal S256x512 .bf16) (j : S512x256.Idx) :
    k0_pay2 s a b j = s j + ∑ l : Fin 512, a (ix2 (j 0) l) * b (ix2 (j 1) l) := by pointwise [k0_pay2]

theorem idx : ∀ t : Fin cfg0.N, win0_0.index t = ![t.val / 22, t.val % 2] ∧ win0_1.index t = ![t.val / 2 % 11, t.val % 2]
    ∧ win0_2.index t = ![t.val / 22, t.val / 2 % 11] := (by decide +kernel : ∀ t : Fin grid0.N, _)

abbrev result (a : FVec Ideal S8192x1024 .bf16) (b : FVec Ideal S2816x1024 .bf16) : FVec Ideal S8192x2816 .bf16 :=
  truncf .bf16 (Host.dotGeneral Cert.MulBackActRefIdeal.dot_S8192x1024_S2816x1024_S8192x2816_1_1_0_0_n_n none a b : FVec Ideal S8192x2816 .f32) bitsLt_bf16_f32

theorem result_at (a : FVec Ideal S8192x1024 .bf16) (b : FVec Ideal S2816x1024 .bf16) (j : S8192x2816.Idx) :
    result a b j = ∑ l : Fin 1024, a (ix2 (j 0) l) * b (ix2 (j 1) l) := by pointwise [result]

theorem product (m : (ℓ : Loc nD τ sig) → Buf (Elt Ideal) ℓ) (c : Dev nD) :
    (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, result_at]
  refine sum_of_steps 2 (outsAt0 m c)
    (fun t h j => by rw [outsAt0_A m c t h (by omega)]; frame_out; rw [part_at, zero_at, zero_add])
    (fun t h j => by
      rw [outsAt0_B m c t h (by omega)]; frame_out; erw [part_at, (Memref.isWhole_whole cc0_scratch0).read_unread])
    (fun t h j => by rw [outsAt0_B m c t (by omega) h]; frame_out; pointwise [k0_pay3]) t ((flush0_2 t).mp hf) _ fun s k hl => ?_
  blk_point [iblk, V, idx t, idx ⟨_, Pipeline.run_point_lt_of_flush t ((flush0_2 t).mp hf) s⟩]

set_option smartUnfolding false in
theorem kernel_frame : Cert.quiescent_MulBackAct (hMulBackAct := Cert.MulBackAct.Gen.facts) := fun m ρ _ => by
  with_unfolding_all exact frame (F := Bits) m ρ

theorem ideal_frame : Cert.quiescent_MulBackActIdeal (hMulBackActIdeal := facts) := fun m ρ _ => frame m ρ

theorem reference_frame : Cert.quiescent_MulBackActRefIdeal (hMulBackActRefIdeal := Cert.MulBackActRefIdeal.Gen.facts) := fun m ρ _ =>
  (θ_run Cert.MulBackActRefIdeal.defs _ _).mono (fun r h => ⟨fun c => (h c).2, sem_eq_zero_of_no_sems (by decide) r.2⟩)
    (Cert.MulBackActRefIdeal.Value.run m ρ)

theorem algebraic : Cert.algebraic_MulBackActIdeal_MulBackActRefIdeal (hMulBackActIdeal := facts) (hMulBackActRefIdeal := Cert.MulBackActRefIdeal.Gen.facts) :=
  fun m ρ m' ρ' _ h => ⟨fun c => result (m ((c : Thread nD τ).loc main_arg0)) (m ((c : Thread nD τ).loc main_arg1)),
    (θ_run defs _ _).mono (fun _ r c => ⟨(r c).1.trans (product m c), (r c).2⟩) (Cert.MulBackActIdeal.Value.run_blocks m ρ),
    (θ_run Cert.MulBackActRefIdeal.defs _ _).mono (fun _ r c => ⟨(r c).1.trans (congrArg₂ result (h c).1 (h c).2), (r c).2⟩)
      (Cert.MulBackActRefIdeal.Value.run m' ρ')⟩

end BackAct

end Cert.Products

end
-- ==== Proof.LossClaims.lean ====
/-
  The claims about the loss at the trunk's output: its derivative there, and its sum over the rows.

  Each grid point treats 256 rows and adds their squares to the running row of sums; the reference adds all rows at once.
-/
module

public import proofs.«01_k».proof.Defs
public import proofs.«01_k».proof.Proof.Gen.LossHead
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pointwise

@[expose] public section

set_option Elab.async false

noncomputable section

namespace Cert.Loss

open Idealize.ShloMosaic
open Idealize.ShloMosaic.TcCoe
open Idealize.SL.Sem

open Cert.LossHeadIdeal Cert.LossHeadIdeal.Gen

/-- The first point's row of sums: the squares of its 256 rows. -/
theorem first_at (y t : FVec Ideal S256x1024 .f32) (j : S1x1024.Idx) :
    k0_pay2 y t j = 0 + ∑ k : Fin 256, (y (ix2 k (j 1)) - t (ix2 k (j 1))) * (y (ix2 k (j 1)) - t (ix2 k (j 1))) := by pointwise [k0_pay2]

/-- A later point's: the squares of its rows are added. -/
theorem next_at (y t : FVec Ideal S256x1024 .f32) (s : FVec Ideal S1x1024 .f32) (j : S1x1024.Idx) :
    k0_pay3 y t s j = s j + ∑ k : Fin 256, (y (ix2 k (j 1)) - t (ix2 k (j 1))) * (y (ix2 k (j 1)) - t (ix2 k (j 1))) := by
  pointwise [k0_pay3, k0_pay2]

theorem ofBits_1024 : Ideal.ofBits .f32 0x44800000#32 = ((1024 : ℝ) : EReal) := by simp [Ideal.ofBits, Ideal.ieee, -EReal.coe_mul]; norm_num

theorem ofBits_inv_1024 : Ideal.ofBits .f32 0x3A800000#32 = ((1 / 1024 : ℝ) : EReal) := by simp [Ideal.ofBits, Ideal.ieee, -EReal.coe_mul]; norm_num

/-- The reference's sums. -/
abbrev sums (y t : FVec Ideal S8192x1024 .f32) : FVec Ideal S1x1024 .f32 :=
  broadcastInDim Cert.LossHeadRefIdeal.S1x1024 ![1] Cert.LossHeadRefIdeal.Gen.bcast_S1024_S1x1024_1
    (Host.reduceAdd (mulf (subf y t) (subf y t)) (constant Cert.LossHeadRefIdeal.S_ .f32 0x00000000#32)
      Cert.LossHeadRefIdeal.Gen.reducesTo_S8192x1024_S1024_d0 Cert.LossHeadRefIdeal.Gen.h_S_)

/-- The reference's derivative. -/
abbrev slope (y t : FVec Ideal S8192x1024 .f32) : FVec Ideal S8192x1024 .f32 :=
  Host.divf (subf y t) (broadcastInDim Cert.LossHeadRefIdeal.S8192x1024 ![] Cert.LossHeadRefIdeal.Gen.bcast_S_S8192x1024
    (constant Cert.LossHeadRefIdeal.S_ .f32 0x44800000#32))

theorem sums_at (y t : FVec Ideal S8192x1024 .f32) (j : S1x1024.Idx) :
    sums y t j = ∑ k : Fin 8192, (y (ix2 k (j 1)) - t (ix2 k (j 1))) * (y (ix2 k (j 1)) - t (ix2 k (j 1))) := by pointwise [sums]

theorem idx : ∀ t : Fin cfg0.N, win0_0.index t = ![t.val, 0] ∧ win0_1.index t = ![t.val, 0] ∧ win0_2.index t = ![t.val, 0]
    ∧ win0_3.index t = ![0, 0] := (by decide +kernel : ∀ t : Fin grid0.N, _)

theorem sum_columns (m : (ℓ : Loc nD τ sig) → Buf (Elt Ideal) ℓ) (c : Dev nD) :
    (dats m 0 c).arrAt 3 cfg0.N = sums (m ((c : Thread nD τ).loc main_arg0)) (m ((c : Thread nD τ).loc main_arg1)) := by
  refine (dats m 0 c).arrAt_eq_of_covers 3 _ (by decide +kernel) fun t hf y => ?_
  have h1 := (flush0_3 t).mp hf
  blk_simp
  rw [after0_3, Pipeline.eq_sum_fin_of_reset_step_apply_of_flush (fun n h => (outsAt0 m c n h).2) 32 (fun _ => 0) _
    (fun t h j => by
      have : t.val < 32 := t.isLt
      rw [outsAt0_A m c t h (by omega)]; frame_out; rw [first_at])
    (fun t h j => by rw [outsAt0_B m c t h (by omega)]; frame_out; erw [next_at])
    t h1 _, zero_add]
  rw [sums_at]
  refine Fin.sum_mul_add_congr fun s k hl => ?_
  blk_point [iblk, V, idx t, idx ⟨_, Pipeline.run_point_lt_of_flush t ((flush0_3 t).mp hf) s⟩]

theorem slope_blocks (m : (ℓ : Loc nD τ sig) → Buf (Elt Ideal) ℓ) (c : Dev nD) :
    (dats m 0 c).arrAt 2 cfg0.N = slope (m ((c : Thread nD τ).loc main_arg0)) (m ((c : Thread nD τ).loc main_arg1)) := by
  refine (dats m 0 c).arrAt_eq_of_covers 2 _ (by decide +kernel) fun t hf y => ?_
  blk_simp
  have e : ∀ j, (outsAt0 m c t.val t.isLt).1 j = k0_pay1 (iblk m c 0 t) (iblk m c 1 t) j := fun j => by
    by_cases h : t.val % 32 = 0
    · have : t.val < 32 := t.isLt
      rw [outsAt0_A m c t h (by omega)]; frame_out
    · rw [outsAt0_B m c t h (by omega)]; frame_out
  rw [after0_2, e]
  pointwise [k0_pay1, slope]
  rw [ofBits_1024, ofBits_inv_1024, Ideal.div_coe (by norm_num)]
  congr 1

/-! ## The claims -/

set_option smartUnfolding false in
theorem kernel_frame : Cert.quiescent_LossHead (hLossHead := Cert.LossHead.Gen.facts) := fun m ρ _ => by
  with_unfolding_all exact Cert.LossHeadIdeal.Gen.frame (F := Bits) m ρ

theorem ideal_frame : Cert.quiescent_LossHeadIdeal (hLossHeadIdeal := Cert.LossHeadIdeal.Gen.facts) := fun m ρ _ =>
  Cert.LossHeadIdeal.Gen.frame m ρ

theorem reference_frame : Cert.quiescent_LossHeadRefIdeal (hLossHeadRefIdeal := Cert.LossHeadRefIdeal.Gen.facts) := fun m ρ _ =>
  (θ_run Cert.LossHeadRefIdeal.defs _ _).mono (fun r h => ⟨fun c => (h c).2.2, sem_eq_zero_of_no_sems (by decide) r.2⟩)
    (Cert.LossHeadRefIdeal.Value.run m ρ)

theorem algebraic : Cert.algebraic_LossHeadIdeal_LossHeadRefIdeal (hLossHeadIdeal := Cert.LossHeadIdeal.Gen.facts)
    (hLossHeadRefIdeal := Cert.LossHeadRefIdeal.Gen.facts) := fun m ρ m' ρ' _ h =>
  ⟨fun c => slope (m ((c : Thread nD τ).loc main_arg0)) (m ((c : Thread nD τ).loc main_arg1)),
    fun c => sums (m ((c : Thread nD τ).loc main_arg0)) (m ((c : Thread nD τ).loc main_arg1)),
    (θ_run defs _ _).mono (fun _ r c => ⟨(r c).1.trans (slope_blocks m c), (r c).2.1.trans (sum_columns m c), (r c).2.2⟩)
      (Cert.LossHeadIdeal.Value.run_blocks m ρ),
    (θ_run Cert.LossHeadRefIdeal.defs _ _).mono
      (fun _ r c => ⟨(r c).1.trans (congrArg₂ slope (h c).1 (h c).2), (r c).2.1.trans (congrArg₂ sums (h c).1 (h c).2), (r c).2.2⟩)
      (Cert.LossHeadRefIdeal.Value.run m' ρ')⟩

end Cert.Loss

end
-- ==== Proof.LossTotalClaims.lean ====
/-
  `LossTotal`: every device's row of column sums is added up, halved and divided by the width, and the eight numbers
  are added across the mesh by an all-reduce of the host's. `Cert.LossTotal.run_total` runs it at any float values:
  the launch follows the library's segments, the stretch of host operations and then the all-reduce, and the result
  is left as the fold of the eight devices' numbers. Over the extended reals that fold is the sum, which is the
  reference's one half of the sum of the rows' means.
-/
module

public import proofs.«01_k».proof.Defs
public import proofs.«01_k».proof.Proof.Gen.LossTotal
public import proofs.«01_k».proof.Proof.Gen.LossTotalIdeal
public import proofs.«01_k».proof.Proof.Gen.LossTotalIdeal.Launch
public import proofs.«01_k».proof.Proof.Gen.LossTotalRefIdeal.Run
public import Idealize.ShloMosaic.Lib.StableHlo.CollectiveRules
public import Idealize.ShloMosaic.Lib.StableHlo.AllReduceFold
public import Idealize.ShloMosaic.Lib.Pipeline.Regions
public import Idealize.ShloMosaic.Lib.Pipeline.CollectiveSegs
public import Idealize.ShloMosaic.Lib.Pipeline.Kit
public import Idealize.ShloMosaic.Lib.Tactic
public import Idealize.ShloMosaic.Lib.Pipeline.ValueKit

@[expose] public section

noncomputable section

namespace Cert.Total

open Cert.LossTotalIdeal Cert.LossTotalIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LossTotalIdeal.Gen.Sites (L lv)

variable {F : FTy → Type} [FloatOps F]

/-! ## The launch -/

abbrev Res : Type := UR sig nD τ × Sites.UC

local notation "𝕄" => MT nD τ sig ℕ (Elt F) ℕ Res ℕ

abbrev pipeEmb : Emb (UR sig nD τ) (MT nD τ sig ℕ (Elt F) ℕ Res ℕ) := embL
abbrev siteEmb : Emb Sites.UC (MT nD τ sig ℕ (Elt F) ℕ Res ℕ) := embR

variable (m : (ℓ : Loc nD τ sig) → Buf (Elt F) ℓ) (ρ : Dev nD → PrngReg)

/-- A device's buffers at launch, after its own operations, and after the all-reduce. -/
abbrev atLaunch (c : Dev nD) : Valuation τ sig (Elt F) := fun b => m (c, b)
abbrev atSite (c : Dev nD) : Valuation τ sig (Elt F) := StableHlo.after hostOps0 (atLaunch m c)
abbrev atEnd (c : Dev nD) : Valuation τ sig (Elt F) := (ar0 (F := F)).after₀ (atSite m) c

abbrev noTables : (p : Fin 0) → (pcfgs (F := F) p).Adm := fun p => p.elim0
abbrev noDats : (p : Fin 0) → (c : Dev nD) → Pipeline.Dat τ (Elt F) ℕ ℕ Res ℕ (Pipeline.pin (pcfgs (F := F)) noTables p) c :=
  fun p => p.elim0

/-- That the all-reduce's cells are under their invariants. -/
abbrev cellsKept : sProp 𝕄 := iprop(∃ κ, (AllReduce.Dat.once (ar0 (F := F)) (atSite m)).cellInvs (Sites.E0 siteEmb) κ)

local notation "HSeg" => Pipeline.HostSeg (Name := ℕ) (U := Res) (pcfgs (F := F)) defs₀ Variants.none L lv

/-- A device's own operations, over all its buffers. -/
def ownSeg : HSeg := Pipeline.HostSeg.ofOps _ _ _ _ _ (Pipeline.ucRefs τ sig) (hostOps0 (F := F))
  (fun op h => Pipeline.sub_ucRefs op (List.forall_iff_forall_mem.mp hostOps0_sub op h))
  (fun op h => by
    simp only [hostOps0, List.mem_cons, List.mem_nil_iff, or_false] at h
    rcases h with rfl | rfl | rfl | rfl | rfl | rfl <;> rfl)
  (atLaunch m) (Sites.Es siteEmb (atSite m) 0)

/-- The all-reduce. -/
def sumSeg : HSeg := Sites.seg0 siteEmb Variants.none (atSite m) (Sites.Rest0 (atSite m) fun _ => cellsKept m)

def segs : List (Pipeline.Seg (pcfgs (F := F)) noTables (noDats (F := F)) 0 defs₀ Variants.none L lv) := [.host (ownSeg m), .host (sumSeg m)]

theorem main_runs (c : Dev nD) : main (F := F) c = Pipeline.Seg.run (segs m) :=
  main_segs noTables noDats 0 Variants.none L lv (ownSeg m) (sumSeg m) rfl rfl c

/-- A device's state at launch and at the end. -/
abbrev first (c : Dev nD) : sProp 𝕄 := (ownSeg m).pre c
abbrev last (c : Dev nD) : sProp 𝕄 :=
  iprop(StableHlo.held (c : Thread nD τ) (Pipeline.ucRefs τ sig) (atEnd m c) ∗ Sites.Ghost0 siteEmb c ∗ cellsKept m)

theorem own_sum (c : Dev nD) : (ownSeg m).post c ⊢ (sumSeg (F := F) m).pre c := by
  refine .trans ?_ (Sites.pre0 siteEmb Variants.none (atSite m) (fun _ => cellsKept m) c)
  show iprop(StableHlo.held (c : Thread nD τ) (Pipeline.ucRefs τ sig) (atSite m c) ∗ Sites.Es siteEmb (atSite m) 0 c) ⊢ _
  rw [Sites.Es_0]
  iintro ⟨Hb, HO, Hp, Hr⟩
  ihave #Hi := (show Sites.rides0 siteEmb (atSite m) c ⊢ cellsKept m from by
    unfold Sites.rides0 AllReduce.Dat.rides; iintro ⟨Hi, -⟩; iexact Hi) $$ Hr
  isplitl [Hb]; · iexact Hb
  isplitl [HO Hp Hr]
  · isplitl [HO]; · iexact HO
    isplitl [Hp] <;> iassumption
  iexact Hi

theorem sum_last (c : Dev nD) :
    (sumSeg (F := F) m).post c ⊢ iprop(last m c ∗ ∃ W, owes (c : Thread nD τ) (0 : CellTallies nD τ sig ℕ) W) := by
  refine (Sites.post0 siteEmb Variants.none (atSite m) (fun _ => cellsKept m) c).trans ?_
  iintro ⟨Hb, He, Hg, Hi⟩
  ihave HO := (Sites.hE_last siteEmb (atSite m) c) $$ He
  isplitr [HO]
  · isplitl [Hb]; · iexact Hb
    isplitl [Hg]; · iexact Hg
    iexact Hi
  · iexact HO

def launchRes : Res :=
  (initOf (Pipeline.cells (Pipeline.pin (pcfgs (F := F)) noTables) cellOf_inj) (Pipeline.launchToks (Pipeline.pin (pcfgs (F := F)) noTables) cellOf_inj),
    Sites.uC (U := Res) (atSite m))

theorem start :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G siteEmb (atSite m) c)) ∗ levAts L lv)
      ⊢ (|={Set.univ}=> bigSep Finset.univ (first m) : sProp 𝕄) := by
  iintro ⟨H, HL⟩
  ihave H' := (show _ ⊢ iprop((bigSep Finset.univ fun c : Dev nD => unscopedBufs c (fun b => m ((c : Thread nD τ).loc b)))
        ∗ bigSep Finset.univ fun c : Dev nD => iprop(unscopedSems0 c ∗ owes (c : Thread nD τ) (Sites.O0 (F := F) c) ∅
            ∗ Pipeline.launchCred (Sites.O0 (F := F)) c ∗ prngReg c (ρ c) ∗ Sites.G siteEmb (atSite m) c))
      from by rw [← bigSep_sep']) $$ H
  icases H' with ⟨Hb, Hs⟩
  imod (Sites.hE0 siteEmb (atSite m) ρ) $$ [Hs HL] with He
  · isplitl [Hs] <;> iassumption
  imodintro
  iapply (show iprop((bigSep Finset.univ fun c : Dev nD => unscopedBufs c (fun b => m ((c : Thread nD τ).loc b)))
        ∗ bigSep Finset.univ (Sites.Es siteEmb (atSite m) 0)) ⊢ bigSep Finset.univ (first m)
      from by
        rw [← bigSep_sep']
        refine bigSep_mono fun c _ => ?_
        show _ ⊢ iprop(StableHlo.held (c : Thread nD τ) (Pipeline.ucRefs τ sig) (atLaunch m c) ∗ Sites.Es siteEmb (atSite m) 0 c)
        rw [← Pipeline.unscopedBufs_held])
  isplitl [Hb]; · iexact Hb
  iexact He

/-- The buffers a final state is read at: the argument and the result. -/
theorem read_ends (c : Dev nD) :
    (StableHlo.held (c : Thread nD τ) (Pipeline.ucRefs τ sig) (atEnd m c) : sProp 𝕄)
      ⊢ iprop((((c : Thread nD τ).loc main_arg0) ↦{fullShare} (atEnd m c main_arg0))
          ∗ (((c : Thread nD τ).loc main_v4) ↦{fullShare} (atEnd m c main_v4))) := by
  rw [StableHlo.held_sub_split (T := {Proc.devRef .tc main_arg0, Proc.devRef .tc main_v4}) (c : Thread nD τ) (by decide) (atEnd m c)]
  unfold StableHlo.held
  rw [bigSep_eq_bigSepL_of_eq (S := {Proc.devRef .tc main_arg0, Proc.devRef .tc main_v4}) [Proc.devRef .tc main_arg0, Proc.devRef .tc main_v4] (by decide) (by decide)]
  refine .trans ?_ (Entails.of_eq (show bigSepL [Proc.devRef .tc main_arg0, Proc.devRef .tc main_v4]
    (fun b : DevRef τ sig => (((c : Thread nD τ).1, b) ↦{fullShare} atEnd m c b : sProp 𝕄)) = _ from rfl))
  iintro ⟨H, -⟩
  iexact H

theorem arg_kept (c : Dev nD) : atEnd m c main_arg0 = m ((c : Thread nD τ).loc main_arg0) := by
  refine ((ar0 (F := F)).after₀_of_notMem (atSite m) c (b := Proc.devRef .tc main_arg0) fun h => ?_).trans ?_
  · rcases Finset.mem_insert.mp h with h | h
    · exact absurd (Proc.devRef_injective _ h) (by decide : main_arg0 ≠ main_v4)
    · obtain ⟨j, hj⟩ := (ar0 (F := F)).mem_stageRefs.mp h
      exact absurd (Proc.devRef_injective _ hj) ((by decide : ∀ j : Fin 8, main_arg0 ≠ ar0_stage j) j)
  after_results

set_option backward.isDefEq.respectTransparency.types false in
/-- At any float values, from any memory with zero counters, every weakly fair execution ends with the argument kept,
    the result as the all-reduce leaves it, and every counter at zero. -/
theorem run_total : θ_run defs (onTc (τ := τ) (main (F := F))) (s₀ m ρ)
    (fun r => (∀ c : Dev nD, r.2.mem ((c : Thread nD τ).loc main_v4) = atEnd m c main_v4
      ∧ r.2.mem ((c : Thread nD τ).loc main_arg0) = m ((c : Thread nD τ).loc main_arg0)) ∧ r.2.sem = fun _ => 0) :=
  Pipeline.θ_run_regions_kit_sems (pcfgs (F := F)) noTables noDats 0 cellOf_inj pipeEmb defs₀ Variants.none L lv m ρ main (segs m)
    (fun c Q => by rw [main_runs m c])
    (by simp only [segs, Pipeline.Seg.pipes_host, Pipeline.Seg.pipes_nil]; decide)
    (O₀ := Sites.O0 (F := F)) (hL := Sites.hL) (G := Sites.G siteEmb (atSite m)) (u₀ := launchRes m)
    (hu₀ := by
      unfold launchRes
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨fun c => .rfl, own_sum m, sum_last m⟩)
    (hinit := start m ρ)
    (QY := fun c s => (s.mem ((c : Thread nD τ).loc main_v4) = atEnd m c main_v4
        ∧ s.mem ((c : Thread nD τ).loc main_arg0) = m ((c : Thread nD τ).loc main_arg0))
      ∧ s.sem ((ar0 (F := F)).barrierCell c) = 0 ∧ s.sem ((ar0 (F := F)).recvCell c) = 0 ∧ s.sem ((ar0 (F := F)).sendCell c) = 0)
    (hfin := fun c s' => by
      iintro ⟨⟨Hb, Hg, Hi⟩, HSI⟩
      ihave Hr := (read_ends m c) $$ Hb
      icases Hr with ⟨Ha, Hv⟩
      icombine HSI Ha gives %ha
      icombine HSI Hv gives %hv
      imod ((AllReduce.Dat.once (ar0 (F := F)) (atSite m)).ghostAfter_read (Sites.E0 siteEmb) c (k := 0) le_rfl s') $$ [Hi Hg HSI] with ⟨%hz, HSI⟩
      · isplitl [Hi Hg]
        · isplitl [Hi] <;> iassumption
        iexact HSI
      imodintro
      isplitr; · ipureintro; exact ⟨⟨Buf.eq_of_forall_mem_univ hv, (Buf.eq_of_forall_mem_univ ha).trans (arg_kept m c)⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## The value over the extended reals -/

theorem own_value (m : (ℓ : Loc nD τ sig) → Buf (Elt F) ℓ) (c : Dev nD) : atSite m c main_v3
    = Host.divf (mulf (constant S_ .f32 0x3F000000#32) (Host.reduceAdd (m ((c : Thread nD τ).loc main_arg0))
        (constant S_ .f32 0x00000000#32) reducesTo_S1x1024_S_d0_1 h_S_)) (constant S_ .f32 0x44800000#32) := by
  after_results

theorem group_at (c : Dev nD) (j : Fin 8) : (ar0 (F := F)).peer c j = j := by fin_cases c <;> fin_cases j <;> rfl

theorem result_value (m : (ℓ : Loc nD τ sig) → Buf (Elt F) ℓ) (c : Dev nD) :
    atEnd m c main_v4 = (ar0 (F := F)).foldGroup fun j => atSite m j main_v3 := by
  refine ((ar0 (F := F)).after₀_result (atSite m) c).trans ?_
  simp only [group_at]
  rfl

theorem fold_sum (v : Fin 8 → (⟨S_, .f32⟩ : BufTy).Contents (Elt Ideal)) (i : S_.Idx) :
    (ar0 (F := Ideal)).foldGroup v i = ∑ j : Fin 8, v j i := by
  rw [Fin.sum_univ_eight]
  rfl

theorem ofBits_half : Ideal.ofBits .f32 0x3F000000#32 = ((1 / 2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- A finite number that isn't negative distributes over a sum of any extended reals. -/
theorem mul_sum_ext (a : ℝ) (ha : 0 ≤ a) {n : ℕ} (f : Fin n → EReal) : (a : EReal) * ∑ j, f j = ∑ j, (a : EReal) * f j := by
  induction n with
  | zero => simp
  | succ n ih =>
    rw [Fin.sum_univ_succ, Fin.sum_univ_succ, EReal.left_distrib_of_nonneg_of_ne_top (by exact_mod_cast ha) (EReal.coe_ne_top a), ih]

/-- The loss of all the rows: half the sum of the rows' means. -/
def loss (x : (⟨Cert.LossTotalRefIdeal.S8x1024, .f32⟩ : BufTy).Contents (Elt Ideal)) : (⟨S_, .f32⟩ : BufTy).Contents (Elt Ideal) :=
  fun _ => ∑ j : Fin 8, ((1 / 2 : ℝ) : EReal) * ((∑ l : Fin 1024, x (ix2 j l)) * ((1 / 1024 : ℝ) : EReal))

theorem own_at (x : (⟨S1x1024, .f32⟩ : BufTy).Contents (Elt Ideal)) (i : S_.Idx) :
    Host.divf (F := Ideal) (mulf (constant S_ .f32 0x3F000000#32) (Host.reduceAdd x (constant S_ .f32 0x00000000#32) reducesTo_S1x1024_S_d0_1 h_S_))
      (constant S_ .f32 0x44800000#32) i = ((1 / 2 : ℝ) : EReal) * ((∑ l : Fin 1024, x (ix2 0 l)) * ((1 / 1024 : ℝ) : EReal)) := by
  pointwise
  rw [ofBits_half, ofBits_1024, Ideal.div_coe (by norm_num), mul_assoc, Fin.sum_univ_one]

theorem reference_value (x : (⟨Cert.LossTotalRefIdeal.S8x1024, .f32⟩ : BufTy).Contents (Elt Ideal)) :
    mulf (F := Ideal) (constant Cert.LossTotalRefIdeal.S_ .f32 0x3F000000#32) (Host.reduceAdd (Host.divf (Host.reduceAdd x
        (constant Cert.LossTotalRefIdeal.S_ .f32 0x00000000#32) Cert.LossTotalRefIdeal.Gen.reducesTo_S8x1024_S8_d1 Cert.LossTotalRefIdeal.Gen.h_S_)
          (broadcastInDim Cert.LossTotalRefIdeal.S8 ![] Cert.LossTotalRefIdeal.Gen.bcast_S_S8 (constant Cert.LossTotalRefIdeal.S_ .f32 0x44800000#32)))
        (constant Cert.LossTotalRefIdeal.S_ .f32 0x00000000#32) Cert.LossTotalRefIdeal.Gen.reducesTo_S8_S_d0 Cert.LossTotalRefIdeal.Gen.h_S_) = loss x := by
  funext i
  pointwise [loss]
  rw [ofBits_half, ofBits_1024, mul_sum_ext _ (by norm_num)]
  refine Finset.sum_congr rfl fun j _ => ?_
  rw [Ideal.div_coe (by norm_num)]

theorem total (m : (ℓ : Loc nD τ sig) → Buf (Elt Ideal) ℓ) (X : (⟨Cert.LossTotalRefIdeal.S8x1024, .f32⟩ : BufTy).Contents (Elt Ideal))
    (hX : ∀ c : Dev nD, m ((c : Thread nD τ).loc main_arg0) = Layout.block ⟨2, ![1, 1024]⟩ ⟨2, ![8, 1024]⟩ 0 8 c X) (c : Dev nD) :
    atEnd m c main_v4 = loss X := by
  refine (result_value m c).trans (funext fun i => (fold_sum (fun j => atSite m j main_v3) i).trans ?_)
  refine Finset.sum_congr (M := EReal) rfl fun j _ => ?_
  refine (congrFun (own_value m j) i).trans ((own_at _ i).trans ?_)
  rw [hX]
  refine congrArg (_ * ·) (congrArg (· * _) (Finset.sum_congr rfl fun l _ => ?_))
  rw [Layout.block_apply]
  refine congrArg X (funext fun a => ?_)
  fin_cases a <;> apply Fin.ext <;> simp [Layout.Tiles.idx]

/-! ## The claims -/

set_option smartUnfolding false in
theorem kernel_frame : Cert.quiescent_LossTotal (hLossTotal := Cert.LossTotal.Gen.facts) := fun m ρ _ => by
  with_unfolding_all exact (θ_run (Cert.LossTotalIdeal.defs (F := Bits)) _ _).mono (fun _ h => ⟨fun c => (h.1 c).2, h.2⟩) (run_total (F := Bits) m ρ)

theorem ideal_frame : Cert.quiescent_LossTotalIdeal (hLossTotalIdeal := Cert.LossTotalIdeal.Gen.facts) := fun m ρ _ =>
  (θ_run defs _ _).mono (fun _ h => ⟨fun c => (h.1 c).2, h.2⟩) (run_total m ρ)

theorem reference_frame : Cert.quiescent_LossTotalRefIdeal (hLossTotalRefIdeal := Cert.LossTotalRefIdeal.Gen.facts) := fun m ρ _ =>
  (θ_run Cert.LossTotalRefIdeal.defs _ _).mono (fun r h => ⟨fun c => (h c).2, sem_eq_zero_of_no_sems (by decide) r.2⟩)
    (Cert.LossTotalRefIdeal.Value.run m ρ)

theorem algebraic : Cert.algebraic_LossTotalIdeal_LossTotalRefIdeal (hLossTotalIdeal := Cert.LossTotalIdeal.Gen.facts)
    (hLossTotalRefIdeal := Cert.LossTotalRefIdeal.Gen.facts) := fun m ρ m' ρ' _ h =>
  ⟨loss (m' (((0 : Dev Cert.LossTotalRefIdeal.nD) : Thread Cert.LossTotalRefIdeal.nD Cert.LossTotalRefIdeal.τ).loc Cert.LossTotalRefIdeal.main_arg0)),
    (θ_run defs _ _).mono (fun _ r c => ⟨(r.1 c).1.trans (total m _ h c), (r.1 c).2⟩) (run_total m ρ),
    (θ_run Cert.LossTotalRefIdeal.defs _ _).mono (fun _ r => ⟨(r 0).1.trans (reference_value _), (r 0).2⟩)
      (Cert.LossTotalRefIdeal.Value.run m' ρ')⟩

end Cert.Total

end
-- ==== Proof.PreClaims.lean ====
/-
  The claims about the backward pass of the first norm and modulation, the step that ends in the input's gradient.

  A row of the input's gradient is a function of the same row of the three large arguments; the other three results
  are sums over all rows, which the kernel takes 256 at a time.
-/
module

public import proofs.«01_k».proof.Defs
public import proofs.«01_k».proof.Proof.Gen.PreBwd
public import proofs.«01_k».proof.Proof.Gen.PreBwdIdeal.Value
public import proofs.«01_k».proof.Proof.Gen.PreBwdRefIdeal.Run
public import Idealize.ShloMosaic.Lib.Pipeline.ValueKit
public import Idealize.ShloMosaic.Lib.Pointwise

@[expose] public section

set_option Elab.async false

noncomputable section

namespace Cert.Pre

open Idealize.ShloMosaic
open Idealize.ShloMosaic.TcCoe
open Idealize.SL.Sem

open Cert.PreBwdIdeal Cert.PreBwdIdeal.Gen

/-! ## The reference's results -/

abbrev wide (a : FVec Ideal S1x1024 .f32) : FVec Ideal S8192x1024 .f32 :=
  broadcastInDim Cert.PreBwdRefIdeal.S8192x1024 ![0, 1] Cert.PreBwdRefIdeal.Gen.bcast_S1x1024_S8192x1024_0_1 a

abbrev total (a : FVec Ideal S8192x1024 .f32) : FVec Ideal S1x1024 .f32 :=
  shapeCast _ (Host.reduceAdd a (constant Cert.PreBwdRefIdeal.S_ .f32 0x00000000#32)
    Cert.PreBwdRefIdeal.Gen.reducesTo_S8192x1024_S1024_d0 Cert.PreBwdRefIdeal.Gen.h_S_) Cert.PreBwdRefIdeal.Gen.shapeCasts_S1024_S1x1024

abbrev same (a : FVec Ideal S8192x1024 .f32) : FVec Ideal S8192x1024 .f32 :=
  shapeCast _ a Cert.PreBwdRefIdeal.Gen.shapeCasts_S8192x1024_S8192x1024

abbrev normed (h : FVec Ideal S8192x1024 .f32) : FVec Ideal S8192x1024 .f32 :=
  mulf h (broadcastInDim Cert.PreBwdRefIdeal.S8192x1024 ![0, 1] Cert.PreBwdRefIdeal.Gen.bcast_S8192x1_S8192x1024_0_1 (Host.rsqrt (addf
    (Host.divf (broadcastInDim Cert.PreBwdRefIdeal.S8192x1 ![0] Cert.PreBwdRefIdeal.Gen.bcast_S8192_S8192x1_0 (Host.reduceAdd (mulf h h)
      (constant Cert.PreBwdRefIdeal.S_ .f32 0x00000000#32) Cert.PreBwdRefIdeal.Gen.reducesTo_S8192x1024_S8192_d1 Cert.PreBwdRefIdeal.Gen.h_S_))
      (broadcastInDim Cert.PreBwdRefIdeal.S8192x1 ![] Cert.PreBwdRefIdeal.Gen.bcast_S_S8192x1 (constant Cert.PreBwdRefIdeal.S_ .f32 0x44800000#32)))
    (broadcastInDim Cert.PreBwdRefIdeal.S8192x1 ![] Cert.PreBwdRefIdeal.Gen.bcast_S_S8192x1 (constant Cert.PreBwdRefIdeal.S_ .f32 0x358637BD#32)))))

abbrev gain (h u : FVec Ideal S8192x1024 .f32) (b : FVec Ideal S1x1024 .f32) : FVec Ideal S1x1024 .f32 :=
  total (mulf (normed h) (mulf (same u) (wide (addf (broadcastInDim Cert.PreBwdRefIdeal.S1x1024 ![] Cert.PreBwdRefIdeal.Gen.bcast_S_S1x1024
    (constant Cert.PreBwdRefIdeal.S_ .f32 0x3F800000#32)) b))))

abbrev shift (u : FVec Ideal S8192x1024 .f32) : FVec Ideal S1x1024 .f32 := total u

abbrev scale (h u : FVec Ideal S8192x1024 .f32) (g : FVec Ideal S1x1024 .f32) : FVec Ideal S1x1024 .f32 :=
  total (mulf (mulf (normed h) (wide g)) (same u))

/-- A row's reciprocal root mean square. -/
abbrev inv (r : Fin 1024 → EReal) : EReal :=
  Ideal.rsqrt (Ideal.div (∑ x, r x * r x) (Ideal.ofBits .f32 0x44800000#32) + Ideal.ofBits .f32 0x358637BD#32)

theorem gain_at (h u : FVec Ideal S8192x1024 .f32) (b : FVec Ideal S1x1024 .f32) (j : S1x1024.Idx) :
    gain h u b j = ∑ k : Fin 8192, h (ix2 k (j 1)) * inv (fun x => h (ix2 k x)) * (u (ix2 k (j 1)) * (1 + b (ix2 0 (j 1)))) := by
  pointwise [gain]

theorem shift_at (u : FVec Ideal S8192x1024 .f32) (j : S1x1024.Idx) : shift u j = ∑ k : Fin 8192, u (ix2 k (j 1)) := by
  pointwise [shift]

theorem scale_at (h u : FVec Ideal S8192x1024 .f32) (g : FVec Ideal S1x1024 .f32) (j : S1x1024.Idx) :
    scale h u g j = ∑ k : Fin 8192, h (ix2 k (j 1)) * inv (fun x => h (ix2 k x)) * g (ix2 0 (j 1)) * u (ix2 k (j 1)) := by
  pointwise [scale]

/-! ## The kernel's -/

theorem gain_part (h u : FVec Ideal S256x1024 .f32) (b : FVec Ideal S1x1024 .f32) (j : S1x1024.Idx) :
    k0_pay13 (F := Ideal) h u b j
      = ∑ k : Fin 256, h (ix2 k (j 1)) * inv (fun x => h (ix2 k x)) * (u (ix2 k (j 1)) * (1 + b (ix2 0 (j 1)))) := by
  pointwise [k0_pay13, k0_pay8, k0_pay6, k0_pay5, k0_pay12, k0_pay9]

theorem shift_part (u : FVec Ideal S256x1024 .f32) (j : S1x1024.Idx) :
    k0_pay10 (F := Ideal) u j = ∑ k : Fin 256, u (ix2 k (j 1)) := by pointwise [k0_pay10]

theorem scale_part (h u : FVec Ideal S256x1024 .f32) (g : FVec Ideal S1x1024 .f32) (j : S1x1024.Idx) :
    k0_pay11 (F := Ideal) h u g j
      = ∑ k : Fin 256, h (ix2 k (j 1)) * inv (fun x => h (ix2 k x)) * g (ix2 0 (j 1)) * u (ix2 k (j 1)) := by
  pointwise [k0_pay11, k0_pay8, k0_pay9, k0_pay6, k0_pay5]

theorem later (p s : FVec Ideal S1x1024 .f32) (j : S1x1024.Idx) : k0_pay2 (F := Ideal) p s j = s j + p j := by pointwise [k0_pay2]

theorem later3 (p s : FVec Ideal S1x1024 .f32) (j : S1x1024.Idx) : k0_pay3 (F := Ideal) p s j = s j + p j := later p s j

theorem later4 (p s : FVec Ideal S1x1024 .f32) (j : S1x1024.Idx) : k0_pay4 (F := Ideal) p s j = s j + p j := later p s j

theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_6.index t = ![t.val, 0]
    ∧ win0_7.index t = ![0, 0] ∧ win0_8.index t = ![0, 0] ∧ win0_9.index t = ![0, 0] :=
  (by decide +kernel : ∀ t : Fin grid0.N, _)

theorem gain_sum (m : (ℓ : Loc nD τ sig) → Buf (Elt Ideal) ℓ) (c : Dev nD) :
    (dats m 0 c).arrAt 7 cfg0.N = gain (m ((c : Thread nD τ).loc main_arg0)) (m ((c : Thread nD τ).loc main_arg2))
      (m ((c : Thread nD τ).loc main_arg5)) := by
  refine (dats m 0 c).arrAt_eq_of_covers 7 _ (by decide +kernel) fun t hf y => ?_
  have h1 := (flush0_7 t).mp hf
  blk_simp
  rw [after0_7, Pipeline.eq_sum_fin_of_reset_step_apply_of_flush (fun n h => (outsAt0 m c n h).2.1) 32 (fun _ => 0) _
    (fun t h j => by
      have : t.val < 32 := t.isLt
      rw [outsAt0_A m c t h (by omega)]; frame_out; rw [gain_part, zero_add])
    (fun t h j => by rw [outsAt0_B m c t h (by omega)]; frame_out; erw [later, gain_part])
    t h1 _, zero_add]
  rw [gain_at]
  refine Fin.sum_mul_add_congr fun s k hl => ?_
  blk_point [iblk, V, idx t, idx ⟨_, Pipeline.run_point_lt_of_flush t ((flush0_7 t).mp hf) s⟩]

theorem shift_sum (m : (ℓ : Loc nD τ sig) → Buf (Elt Ideal) ℓ) (c : Dev nD) :
    (dats m 0 c).arrAt 8 cfg0.N = shift (m ((c : Thread nD τ).loc main_arg2)) := by
  refine (dats m 0 c).arrAt_eq_of_covers 8 _ (by decide +kernel) fun t hf y => ?_
  have h1 := (flush0_8 t).mp hf
  blk_simp
  rw [after0_8, Pipeline.eq_sum_fin_of_reset_step_apply_of_flush (fun n h => (outsAt0 m c n h).2.2.1) 32 (fun _ => 0) _
    (fun t h j => by
      have : t.val < 32 := t.isLt
      rw [outsAt0_A m c t h (by omega)]; frame_out; rw [shift_part, zero_add])
    (fun t h j => by rw [outsAt0_B m c t h (by omega)]; frame_out; erw [later3, shift_part])
    t h1 _, zero_add]
  rw [shift_at]
  refine Fin.sum_mul_add_congr fun s k hl => ?_
  blk_point [iblk, V, idx t, idx ⟨_, Pipeline.run_point_lt_of_flush t ((flush0_8 t).mp hf) s⟩]

theorem scale_sum (m : (ℓ : Loc nD τ sig) → Buf (Elt Ideal) ℓ) (c : Dev nD) :
    (dats m 0 c).arrAt 9 cfg0.N = scale (m ((c : Thread nD τ).loc main_arg0)) (m ((c : Thread nD τ).loc main_arg2))
      (m ((c : Thread nD τ).loc main_arg3)) := by
  refine (dats m 0 c).arrAt_eq_of_covers 9 _ (by decide +kernel) fun t hf y => ?_
  have h1 := (flush0_9 t).mp hf
  blk_simp
  rw [after0_9, Pipeline.eq_sum_fin_of_reset_step_apply_of_flush (fun n h => (outsAt0 m c n h).2.2.2) 32 (fun _ => 0) _
    (fun t h j => by
      have : t.val < 32 := t.isLt
      rw [outsAt0_A m c t h (by omega)]; frame_out; rw [scale_part, zero_add])
    (fun t h j => by rw [outsAt0_B m c t h (by omega)]; frame_out; erw [later4, scale_part])
    t h1 _, zero_add]
  rw [scale_at]
  refine Fin.sum_mul_add_congr fun s k hl => ?_
  blk_point [iblk, V, idx t, idx ⟨_, Pipeline.run_point_lt_of_flush t ((flush0_9 t).mp hf) s⟩]

/-! ## The input's gradient, row by row -/

abbrev part (r : Fin 1024 → EReal) (w : Fin 1024 → EReal) : EReal :=
  Ideal.div ((∑ x, r x * w x) * (Ideal.ofBits .f32 0xBF000000#32 * Ideal.div (inv r)
    (Ideal.div (∑ x, r x * r x) (Ideal.ofBits .f32 0x44800000#32) + Ideal.ofBits .f32 0x358637BD#32))) (Ideal.ofBits .f32 0x44800000#32)

/-- Column `j` of the gradient's row, from the rows `r` of the input, `d` of the gradient so far, `u` of the modulated
    value's gradient, and the gain and scale. -/
def back (r d u g b : Fin 1024 → EReal) (j : Fin 1024) : EReal :=
  d j + (u j * (1 + b j) * g j * inv r + r j * (∑ _ : Fin 1, part r fun x => u x * (1 + b x) * g x)
    + (∑ _ : Fin 1, part r fun x => u x * (1 + b x) * g x) * r j)

set_option maxRecDepth 16384 in
theorem back_part (h d u : FVec Ideal S256x1024 .f32) (g b : FVec Ideal S1x1024 .f32) (j : S256x1024.Idx) :
    k0_pay1 (F := Ideal) h d (k0_pay7 (F := Ideal) h) (k0_pay15 (F := Ideal) h u g b) (k0_pay16 (F := Ideal) h u g b) j
      = back (fun x => h (ix2 (j 0) x)) (fun x => d (ix2 (j 0) x)) (fun x => u (ix2 (j 0) x)) (fun x => g (ix2 0 x))
        (fun x => b (ix2 0 x)) (j 1) := by
  pointwise [k0_pay1, k0_pay7, k0_pay15, k0_pay16, k0_pay6, k0_pay5, k0_pay14, k0_pay12, k0_pay9, back]

theorem back_at (m : (ℓ : Loc Cert.PreBwdRefIdeal.nD Cert.PreBwdRefIdeal.τ Cert.PreBwdRefIdeal.sig) → Buf (Elt Ideal) ℓ)
    (c : Dev Cert.PreBwdRefIdeal.nD) (h d u : FVec Ideal S8192x1024 .f32) (g b : FVec Ideal S1x1024 .f32)
    (h0 : m ((c.tc : Thread _ Cert.PreBwdRefIdeal.τ).loc Cert.PreBwdRefIdeal.main_arg0) = h)
    (h1 : m ((c.tc : Thread _ Cert.PreBwdRefIdeal.τ).loc Cert.PreBwdRefIdeal.main_arg1) = d)
    (h2 : m ((c.tc : Thread _ Cert.PreBwdRefIdeal.τ).loc Cert.PreBwdRefIdeal.main_arg2) = u)
    (h3 : m ((c.tc : Thread _ Cert.PreBwdRefIdeal.τ).loc Cert.PreBwdRefIdeal.main_arg3) = g)
    (h5 : m ((c.tc : Thread _ Cert.PreBwdRefIdeal.τ).loc Cert.PreBwdRefIdeal.main_arg5) = b) (j : S8192x1024.Idx) :
    (Cert.PreBwdRefIdeal.Value.res_main_v48 m c : FVec Ideal S8192x1024 .f32) j
      = back (fun x => h (ix2 (j 0) x)) (fun x => d (ix2 (j 0) x)) (fun x => u (ix2 (j 0) x)) (fun x => g (ix2 0 x))
        (fun x => b (ix2 0 x)) (j 1) := by
  subst h0 h1 h2 h3 h5
  pointwise [Cert.PreBwdRefIdeal.Value.res_main_v48, back]

/-- The same, array wide. -/
abbrev grad (h d u : FVec Ideal S8192x1024 .f32) (g b : FVec Ideal S1x1024 .f32) : FVec Ideal S8192x1024 .f32 := fun j =>
  back (fun x => h (ix2 (j 0) x)) (fun x => d (ix2 (j 0) x)) (fun x => u (ix2 (j 0) x)) (fun x => g (ix2 0 x))
    (fun x => b (ix2 0 x)) (j 1)

theorem grad_blocks (m : (ℓ : Loc nD τ sig) → Buf (Elt Ideal) ℓ) (c : Dev nD) :
    (dats m 0 c).arrAt 6 cfg0.N = grad (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 6 _ (by decide +kernel) fun t hf y => ?_
  blk_simp
  have e : ∀ j, (outsAt0 m c t.val t.isLt).1 j = k0_pay1 (F := Ideal) (iblk m c 0 t) (iblk m c 1 t) (k0_pay7 (iblk m c 0 t))
      (k0_pay15 (iblk m c 0 t) (iblk m c 2 t) (iblk m c 3 t) (iblk m c 5 t))
      (k0_pay16 (iblk m c 0 t) (iblk m c 2 t) (iblk m c 3 t) (iblk m c 5 t)) j := fun j => by
    by_cases h : t.val % 32 = 0
    · have : t.val < 32 := t.isLt
      rw [outsAt0_A m c t h (by omega)]; frame_out
    · rw [outsAt0_B m c t h (by omega)]; frame_out
  rw [after0_6, e, back_part]
  unfold grad
  congr 1
  · funext x; blk_point [iblk, V, idx t]
  · funext x; blk_point [iblk, V, idx t]
  · funext x; blk_point [iblk, V, idx t]
  · funext x; blk_point [iblk, V, idx t]
  · funext x; blk_point [iblk, V, idx t]
  · apply Fin.ext
    blk_simp [idx t]

/-! ## The claims -/

set_option smartUnfolding false in
theorem kernel_frame : Cert.quiescent_PreBwd (hPreBwd := Cert.PreBwd.Gen.facts) := fun m ρ _ => by
  with_unfolding_all exact Cert.PreBwdIdeal.Gen.frame (F := Bits) m ρ

theorem ideal_frame : Cert.quiescent_PreBwdIdeal (hPreBwdIdeal := Cert.PreBwdIdeal.Gen.facts) := fun m ρ _ =>
  Cert.PreBwdIdeal.Gen.frame m ρ

theorem reference_frame : Cert.quiescent_PreBwdRefIdeal (hPreBwdRefIdeal := Cert.PreBwdRefIdeal.Gen.facts) := fun m ρ _ =>
  (θ_run Cert.PreBwdRefIdeal.defs _ _).mono (fun r h => ⟨fun c => (h c).2.2.2.2, sem_eq_zero_of_no_sems (by decide) r.2⟩)
    (Cert.PreBwdRefIdeal.Value.run m ρ)

theorem algebraic : Cert.algebraic_PreBwdIdeal_PreBwdRefIdeal (hPreBwdIdeal := Cert.PreBwdIdeal.Gen.facts)
    (hPreBwdRefIdeal := Cert.PreBwdRefIdeal.Gen.facts) := fun m ρ m' ρ' _ h =>
  ⟨fun c => grad (m ((c : Thread nD τ).loc main_arg0)) (m ((c : Thread nD τ).loc main_arg1)) (m ((c : Thread nD τ).loc main_arg2))
      (m ((c : Thread nD τ).loc main_arg3)) (m ((c : Thread nD τ).loc main_arg5)),
    fun c => gain (m ((c : Thread nD τ).loc main_arg0)) (m ((c : Thread nD τ).loc main_arg2)) (m ((c : Thread nD τ).loc main_arg5)),
    fun c => shift (m ((c : Thread nD τ).loc main_arg2)),
    fun c => scale (m ((c : Thread nD τ).loc main_arg0)) (m ((c : Thread nD τ).loc main_arg2)) (m ((c : Thread nD τ).loc main_arg3)),
    (θ_run defs _ _).mono (fun _ r c => ⟨(r c).1.trans (grad_blocks m c), (r c).2.1.trans (gain_sum m c),
        (r c).2.2.1.trans (shift_sum m c), (r c).2.2.2.1.trans (scale_sum m c), (r c).2.2.2.2⟩)
      (Cert.PreBwdIdeal.Value.run_blocks m ρ),
    (θ_run Cert.PreBwdRefIdeal.defs _ _).mono (fun _ r c => by
        obtain ⟨h0, h1, h2, h3, h4, h5⟩ := h c
        have e1 := congr (congrArg₂ gain h0 h2) h5
        have e3 := congr (congrArg₂ scale h0 h2) h3
        exact ⟨(r c).1.trans (funext fun j : S8192x1024.Idx => back_at m' c _ _ _ _ _ h0 h1 h2 h3 h5 j),
          (r c).2.1.trans e1, (r c).2.2.1.trans (congrArg shift h2),
          (r c).2.2.2.1.trans e3, (r c).2.2.2.2⟩)
      (Cert.PreBwdRefIdeal.Value.run m' ρ')⟩

end Cert.Pre

end
-- ==== Proof.RowClaims.lean ====
/-
  The calls that go row by row: the norms, gates and activations of the layers' forward pass. What such a call makes of a row is
  a function of that row and of the vectors it takes; `normed`, `added`, `gated`, `active` and `centred` apply it to all rows of
  an array of any height, so that they speak of a block and of the whole array alike, and serve every program that computes them.
-/
module

public import proofs.«01_k».proof.Defs
public import proofs.«01_k».proof.Proof.Gen.RowIn
public import proofs.«01_k».proof.Proof.Gen.RowInIdeal.Value
public import proofs.«01_k».proof.Proof.Gen.RowInRefIdeal.Run
public import proofs.«01_k».proof.Proof.Gen.RowInS5
public import proofs.«01_k».proof.Proof.Gen.RowInS5Ideal.Value
public import proofs.«01_k».proof.Proof.Gen.RowInS5RefIdeal.Run
public import proofs.«01_k».proof.Proof.Gen.RowMid
public import proofs.«01_k».proof.Proof.Gen.RowMidIdeal.Value
public import proofs.«01_k».proof.Proof.Gen.RowMidRefIdeal.Run
public import proofs.«01_k».proof.Proof.Gen.RowMidConv
public import proofs.«01_k».proof.Proof.Gen.RowMidConvIdeal.Value
public import proofs.«01_k».proof.Proof.Gen.RowMidConvRefIdeal.Run
public import proofs.«01_k».proof.Proof.Gen.RowOut
public import proofs.«01_k».proof.Proof.Gen.RowOutIdeal.Value
public import proofs.«01_k».proof.Proof.Gen.RowOutRefIdeal.Run
public import proofs.«01_k».proof.Proof.Gen.RowGate
public import proofs.«01_k».proof.Proof.Gen.RowGateIdeal.Value
public import proofs.«01_k».proof.Proof.Gen.RowGateRefIdeal.Run
public import proofs.«01_k».proof.Proof.Gen.RowAct
public import proofs.«01_k».proof.Proof.Gen.RowActIdeal.Value
public import proofs.«01_k».proof.Proof.Gen.RowActRefIdeal.Run
public import proofs.«01_k».proof.Proof.Gen.RowConv
public import proofs.«01_k».proof.Proof.Gen.RowConvIdeal.Value
public import proofs.«01_k».proof.Proof.Gen.RowConvRefIdeal.Run
public import Idealize.ShloMosaic.Lib.Pipeline.ValueKit
public import Idealize.ShloMosaic.Lib.Pointwise

@[expose] public section

set_option Elab.async false

noncomputable section

namespace Cert.Rows

open Idealize.ShloMosaic
open Idealize.ShloMosaic.TcCoe
open Idealize.SL.Sem

/-! ## What becomes of a row -/

/-- An array of `n` rows of `k`. -/
abbrev Arr (n k : ℕ) : Type := Shape.Idx ⟨2, ![n, k]⟩ → EReal

abbrev row {n k : ℕ} (a : Arr n k) (i : Fin n) : Fin k → EReal := fun x => a (ix2 i x)

/-- A row's mean, from its sum. -/
abbrev mean (s : EReal) : EReal := Ideal.div s (Ideal.ofBits .f32 0x44800000#32)

/-- The reciprocal root of a mean square, from the sum of squares. -/
abbrev inv (s : EReal) : EReal := Ideal.rsqrt (mean s + Ideal.ofBits .f32 0x358637BD#32)

/-- A row normed with a weight and modulated by a shift and a scale. -/
def pre (r g a b : Fin 1024 → EReal) (j : Fin 1024) : EReal := r j * inv (∑ x, r x * r x) * g j * (1 + b j) + a j

/-- A row with another's norm added through a gate. -/
def post (r m s g : Fin 1024 → EReal) (j : Fin 1024) : EReal := r j + s j * (m j * inv (∑ x, m x * m x) * g j)

/-- The first half of a row, gated by the second. -/
def gate (t b : Fin 2048 → EReal) (j : Fin 1024) : EReal :=
  (t ⟨j.val, by omega⟩ + b ⟨j.val, by omega⟩) * Ideal.logistic (t ⟨1024 + j.val, by omega⟩ + b ⟨1024 + j.val, by omega⟩)

/-- The first half of a row through the activation, times the second. -/
def act (r : Fin 5632 → EReal) (j : Fin 2816) : EReal :=
  r ⟨j.val, by omega⟩ * Ideal.logistic (r ⟨j.val, by omega⟩) * r ⟨2816 + j.val, by omega⟩

/-- A row centred and normed, with gain and bias, through the activation. -/
def centre (r g b : Fin 1024 → EReal) (j : Fin 1024) : EReal :=
  ((r j - mean (∑ x, r x)) * inv (∑ x, (r x - mean (∑ x, r x)) * (r x - mean (∑ x, r x))) * g j + b j)
    * Ideal.logistic ((r j - mean (∑ x, r x)) * inv (∑ x, (r x - mean (∑ x, r x)) * (r x - mean (∑ x, r x))) * g j + b j)

/-! The same for every row of an array. -/

abbrev normed {n : ℕ} (h : Arr n 1024) (g a b : Arr 1 1024) (i : Shape.Idx ⟨2, ![n, 1024]⟩) : EReal :=
  pre (row h (i 0)) (row g 0) (row a 0) (row b 0) (i 1)

abbrev added {n : ℕ} (h m : Arr n 1024) (s g : Arr 1 1024) (i : Shape.Idx ⟨2, ![n, 1024]⟩) : EReal :=
  post (row h (i 0)) (row m (i 0)) (row s 0) (row g 0) (i 1)

/-- With a bias added to every row. -/
abbrev biased {n : ℕ} (m : Arr n 1024) (e : Arr 1 1024) (i : Shape.Idx ⟨2, ![n, 1024]⟩) : EReal :=
  row m (i 0) (i 1) + row e 0 (i 1)

abbrev gated {n : ℕ} (t : Arr n 2048) (b : Arr 1 2048) (i : Shape.Idx ⟨2, ![n, 1024]⟩) : EReal :=
  gate (row t (i 0)) (row b 0) (i 1)

abbrev active {n : ℕ} (a : Arr n 5632) (i : Shape.Idx ⟨2, ![n, 2816]⟩) : EReal := act (row a (i 0)) (i 1)

abbrev centred {n : ℕ} (h : Arr n 1024) (g b : Arr 1 1024) (i : Shape.Idx ⟨2, ![n, 1024]⟩) : EReal :=
  centre (row h (i 0)) (row g 0) (row b 0) (i 1)

/-! ## From a block to the whole array

A block's rows are rows of the whole array, and the vectors are the same for every block. -/

section Blocks

variable {n N : ℕ} {h m : Arr n 1024} {H M : Arr N 1024} {y : Shape.Idx ⟨2, ![n, 1024]⟩} {z : Shape.Idx ⟨2, ![N, 1024]⟩}
  {g a b G A B : Arr 1 1024} (hh : ∀ x, h (ix2 (y 0) x) = H (ix2 (z 0) x)) (hm : ∀ x, m (ix2 (y 0) x) = M (ix2 (z 0) x))
  (hg : ∀ x, g (ix2 0 x) = G (ix2 0 x)) (ha : ∀ x, a (ix2 0 x) = A (ix2 0 x)) (hb : ∀ x, b (ix2 0 x) = B (ix2 0 x))
  (e : (y 1 : Fin 1024) = z 1)

include hh hg ha hb e in
theorem normed_block : normed h g a b y = normed H G A B z :=
  congr (congr (congr (congrArg₂ pre (funext hh) (funext hg)) (funext ha)) (funext hb)) e

include hh hm hg ha e in
theorem added_block : added h m g a y = added H M G A z :=
  congr (congr (congr (congrArg₂ post (funext hh) (funext hm)) (funext hg)) (funext ha)) e

include hh hg e in
theorem biased_block : biased h g y = biased H G z :=
  congrArg₂ (· + ·) ((hh _).trans (congrArg (row H (z 0)) e)) ((hg _).trans (congrArg (row G 0) e))

include hh hg hb e in
theorem centred_block : centred h g b y = centred H G B z :=
  congr (congr (congrArg₂ centre (funext hh) (funext hg)) (funext hb)) e

end Blocks

theorem gated_block {n N : ℕ} {t : Arr n 2048} {T : Arr N 2048} {b B : Arr 1 2048} {y : Shape.Idx ⟨2, ![n, 1024]⟩}
    {z : Shape.Idx ⟨2, ![N, 1024]⟩} (ht : ∀ x, t (ix2 (y 0) x) = T (ix2 (z 0) x)) (hb : ∀ x, b (ix2 0 x) = B (ix2 0 x))
    (e : (y 1 : Fin 1024) = z 1) : gated t b y = gated T B z :=
  congr (congrArg₂ gate (funext ht) (funext hb)) e

theorem active_block {n N : ℕ} {a : Arr n 5632} {A : Arr N 5632} {y : Shape.Idx ⟨2, ![n, 2816]⟩}
    {z : Shape.Idx ⟨2, ![N, 2816]⟩} (ha : ∀ x, a (ix2 (y 0) x) = A (ix2 (z 0) x)) (e : (y 1 : Fin 2816) = z 1) :
    active a y = active A z :=
  congr (congrArg act (funext ha)) e

/-! ## A layer's input -/

namespace In

open Cert.RowInIdeal Cert.RowInIdeal.Gen

theorem pay (h : FVec Ideal S256x1024 .f32) (g a b : FVec Ideal S1x1024 .f32) : k0_pay1 (F := Ideal) h g a b = normed h g a b :=
  funext fun j : S256x1024.Idx => by pointwise [k0_pay1, pre, row]

theorem idx : ∀ t : Fin cfg0.N, win0_0.index t = ![t.val, 0] ∧ win0_4.index t = ![t.val, 0]
    ∧ win0_1.index t = ![0, 0] ∧ win0_2.index t = ![0, 0] ∧ win0_3.index t = ![0, 0] :=
  (by decide +kernel : ∀ t : Fin grid0.N, _)

abbrev result (m : (ℓ : Loc nD τ sig) → Buf (Elt Ideal) ℓ) (c : Dev nD) : FVec Ideal S8192x1024 .bf16 :=
  normed (n := 8192) (m ((c : Thread nD τ).loc main_arg0)) (m ((c : Thread nD τ).loc main_arg1))
    (m ((c : Thread nD τ).loc main_arg2)) (m ((c : Thread nD τ).loc main_arg3))

theorem value (m : (ℓ : Loc nD τ sig) → Buf (Elt Ideal) ℓ) (c : Dev nD) : (dats m 0 c).arrAt 4 cfg0.N = result m c := by
  refine (dats m 0 c).arrAt_eq_of_covers 4 _ (by decide +kernel) fun t hf y => ?_
  blk_simp
  rw [after0_4]
  frame_out
  rw [pay]
  refine normed_block (fun x => ?_) (fun x => ?_) (fun x => ?_) (fun x => ?_) (Fin.ext (by blk_simp [idx t]))
  all_goals blk_point [iblk, V, idx t]

set_option smartUnfolding false in
theorem kernel_frame : Cert.quiescent_RowIn (hRowIn := Cert.RowIn.Gen.facts) := fun m ρ _ => by
  with_unfolding_all exact frame (F := Bits) m ρ

theorem ideal_frame : Cert.quiescent_RowInIdeal (hRowInIdeal := facts) := fun m ρ _ => frame m ρ

theorem reference_frame : Cert.quiescent_RowInRefIdeal (hRowInRefIdeal := Cert.RowInRefIdeal.Gen.facts) := fun m ρ _ =>
  (θ_run Cert.RowInRefIdeal.defs _ _).mono (fun r h => ⟨fun c => (h c).2, sem_eq_zero_of_no_sems (by decide) r.2⟩)
    (Cert.RowInRefIdeal.Value.run m ρ)

theorem algebraic : Cert.algebraic_RowInIdeal_RowInRefIdeal (hRowInIdeal := facts)
    (hRowInRefIdeal := Cert.RowInRefIdeal.Gen.facts) :=
  fun m ρ m' ρ' _ h => ⟨result m,
    (θ_run defs _ _).mono (fun _ r c => ⟨(r c).1.trans (value m c), (r c).2⟩) (Cert.RowInIdeal.Value.run_blocks m ρ),
    (θ_run Cert.RowInRefIdeal.defs _ _).mono (fun _ r c => by
      obtain ⟨h0, h1, h2, h3⟩ := h c
      have e := congr (congr (congrArg₂ (normed (n := 8192)) h0 h1) h2) h3
      refine ⟨(r c).1.trans (Eq.trans ?_ e), (r c).2⟩
      exact funext fun j : S8192x1024.Idx => by pointwise [pre, row]) (Cert.RowInRefIdeal.Value.run m' ρ')⟩

end In

/-! ## The feed-forward's activation -/

namespace Act

open Cert.RowActIdeal Cert.RowActIdeal.Gen

theorem pay (a : FVec Ideal S256x5632 .bf16) : k0_pay1 (F := Ideal) a = active a :=
  funext fun j : S256x2816.Idx => by pointwise [k0_pay1, act, row]

theorem idx : ∀ t : Fin cfg0.N, win0_0.index t = ![t.val, 0] ∧ win0_1.index t = ![t.val, 0] :=
  (by decide +kernel : ∀ t : Fin grid0.N, _)

abbrev result (m : (ℓ : Loc nD τ sig) → Buf (Elt Ideal) ℓ) (c : Dev nD) : FVec Ideal S8192x2816 .bf16 :=
  active (n := 8192) (m ((c : Thread nD τ).loc main_arg0))

theorem value (m : (ℓ : Loc nD τ sig) → Buf (Elt Ideal) ℓ) (c : Dev nD) : (dats m 0 c).arrAt 1 cfg0.N = result m c := by
  refine (dats m 0 c).arrAt_eq_of_covers 1 _ (by decide +kernel) fun t hf y => ?_
  blk_simp
  rw [after0_1]
  frame_out
  rw [pay]
  exact active_block (fun x => by blk_point [iblk, V, idx t]) (Fin.ext (by blk_simp [idx t]))

set_option smartUnfolding false in
theorem kernel_frame : Cert.quiescent_RowAct (hRowAct := Cert.RowAct.Gen.facts) := fun m ρ _ => by
  with_unfolding_all exact frame (F := Bits) m ρ

theorem ideal_frame : Cert.quiescent_RowActIdeal (hRowActIdeal := facts) := fun m ρ _ => frame m ρ

theorem reference_frame : Cert.quiescent_RowActRefIdeal (hRowActRefIdeal := Cert.RowActRefIdeal.Gen.facts) := fun m ρ _ =>
  (θ_run Cert.RowActRefIdeal.defs _ _).mono (fun r h => ⟨fun c => (h c).2, sem_eq_zero_of_no_sems (by decide) r.2⟩)
    (Cert.RowActRefIdeal.Value.run m ρ)

theorem algebraic : Cert.algebraic_RowActIdeal_RowActRefIdeal (hRowActIdeal := facts)
    (hRowActRefIdeal := Cert.RowActRefIdeal.Gen.facts) :=
  fun m ρ m' ρ' _ h => ⟨result m,
    (θ_run defs _ _).mono (fun _ r c => ⟨(r c).1.trans (value m c), (r c).2⟩) (Cert.RowActIdeal.Value.run_blocks m ρ),
    (θ_run Cert.RowActRefIdeal.defs _ _).mono (fun _ r c => by
      have e := congrArg (active (n := 8192)) (h c)
      refine ⟨(r c).1.trans (Eq.trans ?_ e), (r c).2⟩
      exact funext fun j : S8192x2816.Idx => by pointwise [act, row, Ideal.logistic]) (Cert.RowActRefIdeal.Value.run m' ρ')⟩

end Act

/-! ## The input of the S5 layer, which stays in f32 -/

namespace InS5

open Cert.RowInS5Ideal Cert.RowInS5Ideal.Gen

theorem pay (h : FVec Ideal S256x1024 .f32) (g a b : FVec Ideal S1x1024 .f32) : k0_pay1 (F := Ideal) h g a b = normed h g a b :=
  funext fun j : S256x1024.Idx => by pointwise [k0_pay1, pre, row]

theorem idx : ∀ t : Fin cfg0.N, win0_0.index t = ![t.val, 0] ∧ win0_4.index t = ![t.val, 0]
    ∧ win0_1.index t = ![0, 0] ∧ win0_2.index t = ![0, 0] ∧ win0_3.index t = ![0, 0] :=
  (by decide +kernel : ∀ t : Fin grid0.N, _)

abbrev result (m : (ℓ : Loc nD τ sig) → Buf (Elt Ideal) ℓ) (c : Dev nD) : FVec Ideal S8192x1024 .f32 :=
  normed (n := 8192) (m ((c : Thread nD τ).loc main_arg0)) (m ((c : Thread nD τ).loc main_arg1))
    (m ((c : Thread nD τ).loc main_arg2)) (m ((c : Thread nD τ).loc main_arg3))

theorem value (m : (ℓ : Loc nD τ sig) → Buf (Elt Ideal) ℓ) (c : Dev nD) : (dats m 0 c).arrAt 4 cfg0.N = result m c := by
  refine (dats m 0 c).arrAt_eq_of_covers 4 _ (by decide +kernel) fun t hf y => ?_
  blk_simp
  rw [after0_4]
  frame_out
  rw [pay]
  refine normed_block (fun x => ?_) (fun x => ?_) (fun x => ?_) (fun x => ?_) (Fin.ext (by blk_simp [idx t]))
  all_goals blk_point [iblk, V, idx t]

set_option smartUnfolding false in
theorem kernel_frame : Cert.quiescent_RowInS5 (hRowInS5 := Cert.RowInS5.Gen.facts) := fun m ρ _ => by
  with_unfolding_all exact frame (F := Bits) m ρ

theorem ideal_frame : Cert.quiescent_RowInS5Ideal (hRowInS5Ideal := facts) := fun m ρ _ => frame m ρ

theorem reference_frame : Cert.quiescent_RowInS5RefIdeal (hRowInS5RefIdeal := Cert.RowInS5RefIdeal.Gen.facts) := fun m ρ _ =>
  (θ_run Cert.RowInS5RefIdeal.defs _ _).mono (fun r h => ⟨fun c => (h c).2, sem_eq_zero_of_no_sems (by decide) r.2⟩)
    (Cert.RowInS5RefIdeal.Value.run m ρ)

theorem algebraic : Cert.algebraic_RowInS5Ideal_RowInS5RefIdeal (hRowInS5Ideal := facts)
    (hRowInS5RefIdeal := Cert.RowInS5RefIdeal.Gen.facts) :=
  fun m ρ m' ρ' _ h => ⟨result m,
    (θ_run defs _ _).mono (fun _ r c => ⟨(r c).1.trans (value m c), (r c).2⟩) (Cert.RowInS5Ideal.Value.run_blocks m ρ),
    (θ_run Cert.RowInS5RefIdeal.defs _ _).mono (fun _ r c => by
      obtain ⟨h0, h1, h2, h3⟩ := h c
      have e := congr (congr (congrArg₂ (normed (n := 8192)) h0 h1) h2) h3
      refine ⟨(r c).1.trans (Eq.trans ?_ e), (r c).2⟩
      exact funext fun j : S8192x1024.Idx => by pointwise [pre, row]) (Cert.RowInS5RefIdeal.Value.run m' ρ')⟩

end InS5

/-! ## A layer's output -/

namespace Out

open Cert.RowOutIdeal Cert.RowOutIdeal.Gen

theorem pay (h m : FVec Ideal S256x1024 .f32) (s g : FVec Ideal S1x1024 .f32) : k0_pay1 (F := Ideal) h m s g = added h m s g :=
  funext fun j : S256x1024.Idx => by pointwise [k0_pay1, post, row]

theorem idx : ∀ t : Fin cfg0.N, win0_0.index t = ![t.val, 0] ∧ win0_1.index t = ![t.val, 0]
    ∧ win0_4.index t = ![t.val, 0] ∧ win0_2.index t = ![0, 0] ∧ win0_3.index t = ![0, 0] :=
  (by decide +kernel : ∀ t : Fin grid0.N, _)

abbrev result (m : (ℓ : Loc nD τ sig) → Buf (Elt Ideal) ℓ) (c : Dev nD) : FVec Ideal S8192x1024 .f32 :=
  added (n := 8192) (m ((c : Thread nD τ).loc main_arg0)) (m ((c : Thread nD τ).loc main_arg1))
    (m ((c : Thread nD τ).loc main_arg2)) (m ((c : Thread nD τ).loc main_arg3))

theorem value (m : (ℓ : Loc nD τ sig) → Buf (Elt Ideal) ℓ) (c : Dev nD) : (dats m 0 c).arrAt 4 cfg0.N = result m c := by
  refine (dats m 0 c).arrAt_eq_of_covers 4 _ (by decide +kernel) fun t hf y => ?_
  blk_simp
  rw [after0_4]
  frame_out
  rw [pay]
  refine added_block (fun x => ?_) (fun x => ?_) (fun x => ?_) (fun x => ?_) (Fin.ext (by blk_simp [idx t]))
  all_goals blk_point [iblk, V, idx t]

set_option smartUnfolding false in
theorem kernel_frame : Cert.quiescent_RowOut (hRowOut := Cert.RowOut.Gen.facts) := fun m ρ _ => by
  with_unfolding_all exact frame (F := Bits) m ρ

theorem ideal_frame : Cert.quiescent_RowOutIdeal (hRowOutIdeal := facts) := fun m ρ _ => frame m ρ

theorem reference_frame : Cert.quiescent_RowOutRefIdeal (hRowOutRefIdeal := Cert.RowOutRefIdeal.Gen.facts) := fun m ρ _ =>
  (θ_run Cert.RowOutRefIdeal.defs _ _).mono (fun r h => ⟨fun c => (h c).2, sem_eq_zero_of_no_sems (by decide) r.2⟩)
    (Cert.RowOutRefIdeal.Value.run m ρ)

theorem algebraic : Cert.algebraic_RowOutIdeal_RowOutRefIdeal (hRowOutIdeal := facts)
    (hRowOutRefIdeal := Cert.RowOutRefIdeal.Gen.facts) :=
  fun m ρ m' ρ' _ h => ⟨result m,
    (θ_run defs _ _).mono (fun _ r c => ⟨(r c).1.trans (value m c), (r c).2⟩) (Cert.RowOutIdeal.Value.run_blocks m ρ),
    (θ_run Cert.RowOutRefIdeal.defs _ _).mono (fun _ r c => by
      obtain ⟨h0, h1, h2, h3⟩ := h c
      have e := congr (congr (congrArg₂ (added (n := 8192)) h0 h1) h2) h3
      refine ⟨(r c).1.trans (Eq.trans ?_ e), (r c).2⟩
      exact funext fun j : S8192x1024.Idx => by pointwise [post, row]) (Cert.RowOutRefIdeal.Value.run m' ρ')⟩

end Out

/-! ## After the mixer: the residual and the feed-forward's input -/

namespace Mid

open Cert.RowMidIdeal Cert.RowMidIdeal.Gen

theorem pay_residual (h m : FVec Ideal S256x1024 .f32) (s g : FVec Ideal S1x1024 .f32) :
    k0_pay2 (F := Ideal) h m s g = added h m s g :=
  funext fun j : S256x1024.Idx => by pointwise [k0_pay2, post, row]

theorem pay_input (h m : FVec Ideal S256x1024 .f32) (s g k a b : FVec Ideal S1x1024 .f32) :
    k0_pay1 (F := Ideal) a (k0_pay3 h m s g k b) = normed (added h m s g) k a b := by
  rw [← pay_residual]
  exact funext fun j : S256x1024.Idx => by pointwise [k0_pay1, k0_pay3, pre, row]

theorem idx : ∀ t : Fin cfg0.N, (win0_0.index t = ![t.val, 0] ∧ win0_1.index t = ![t.val, 0]
    ∧ win0_7.index t = ![t.val, 0] ∧ win0_8.index t = ![t.val, 0]) ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

abbrev residual (m : (ℓ : Loc nD τ sig) → Buf (Elt Ideal) ℓ) (c : Dev nD) : FVec Ideal S8192x1024 .f32 :=
  added (n := 8192) (m ((c : Thread nD τ).loc main_arg0)) (m ((c : Thread nD τ).loc main_arg1))
    (m ((c : Thread nD τ).loc main_arg2)) (m ((c : Thread nD τ).loc main_arg3))

abbrev input (m : (ℓ : Loc nD τ sig) → Buf (Elt Ideal) ℓ) (c : Dev nD) : FVec Ideal S8192x1024 .bf16 :=
  normed (n := 8192) (residual m c) (m ((c : Thread nD τ).loc main_arg4)) (m ((c : Thread nD τ).loc main_arg5))
    (m ((c : Thread nD τ).loc main_arg6))

theorem residual_value (m : (ℓ : Loc nD τ sig) → Buf (Elt Ideal) ℓ) (c : Dev nD) :
    (dats m 0 c).arrAt 7 cfg0.N = residual m c := by
  refine (dats m 0 c).arrAt_eq_of_covers 7 _ (by decide +kernel) fun t hf y => ?_
  blk_simp
  rw [after0_7]
  frame_out
  rw [pay_residual]
  refine added_block (fun x => ?_) (fun x => ?_) (fun x => ?_) (fun x => ?_) (Fin.ext (by blk_simp [idx t]))
  all_goals blk_point [iblk, V, idx t]

theorem input_value (m : (ℓ : Loc nD τ sig) → Buf (Elt Ideal) ℓ) (c : Dev nD) :
    (dats m 0 c).arrAt 8 cfg0.N = input m c := by
  refine (dats m 0 c).arrAt_eq_of_covers 8 _ (by decide +kernel) fun t hf y => ?_
  blk_simp
  rw [after0_8]
  frame_out
  rw [pay_input]
  refine normed_block (fun x => added_block (fun z => ?_) (fun z => ?_) (fun z => ?_) (fun z => ?_) rfl) (fun x => ?_)
    (fun x => ?_) (fun x => ?_) (Fin.ext (by blk_simp [idx t]))
  all_goals blk_point [iblk, V, idx t]

set_option smartUnfolding false in
theorem kernel_frame : Cert.quiescent_RowMid (hRowMid := Cert.RowMid.Gen.facts) := fun m ρ _ => by
  with_unfolding_all exact frame (F := Bits) m ρ

theorem ideal_frame : Cert.quiescent_RowMidIdeal (hRowMidIdeal := facts) := fun m ρ _ => frame m ρ

theorem reference_frame : Cert.quiescent_RowMidRefIdeal (hRowMidRefIdeal := Cert.RowMidRefIdeal.Gen.facts) := fun m ρ _ =>
  (θ_run Cert.RowMidRefIdeal.defs _ _).mono (fun r h => ⟨fun c => (h c).2.2, sem_eq_zero_of_no_sems (by decide) r.2⟩)
    (Cert.RowMidRefIdeal.Value.run m ρ)

theorem algebraic : Cert.algebraic_RowMidIdeal_RowMidRefIdeal (hRowMidIdeal := facts)
    (hRowMidRefIdeal := Cert.RowMidRefIdeal.Gen.facts) :=
  fun m ρ m' ρ' _ h => ⟨residual m, input m,
    (θ_run defs _ _).mono (fun _ r c => ⟨(r c).1.trans (residual_value m c), (r c).2.1.trans (input_value m c), (r c).2.2⟩)
      (Cert.RowMidIdeal.Value.run_blocks m ρ),
    (θ_run Cert.RowMidRefIdeal.defs _ _).mono (fun _ r c => by
      obtain ⟨h0, h1, h2, h3, h4, h5, h6⟩ := h c
      have e := congr (congr (congrArg₂ (added (n := 8192)) h0 h1) h2) h3
      have e' := congr (congr (congrArg₂ (normed (n := 8192)) e h4) h5) h6
      refine ⟨(r c).1.trans (Eq.trans ?_ e), (r c).2.1.trans (Eq.trans ?_ e'), (r c).2.2⟩
      · exact funext fun j : S8192x1024.Idx => by pointwise [post, row]
      · exact funext fun j : S8192x1024.Idx => by pointwise [Cert.RowMidRefIdeal.Value.res_main_v35, pre, post, row])
      (Cert.RowMidRefIdeal.Value.run m' ρ')⟩

end Mid

/-! ## The same after the convolution, whose last product takes its bias here -/

namespace MidConv

open Cert.RowMidConvIdeal Cert.RowMidConvIdeal.Gen

theorem pay_residual (h m : FVec Ideal S256x1024 .f32) (s g e : FVec Ideal S1x1024 .f32) :
    k0_pay2 (F := Ideal) h m s g e = added h (biased m e) s g :=
  funext fun j : S256x1024.Idx => by pointwise [k0_pay2, post, biased, row, inv, mean]

theorem pay_input (h m : FVec Ideal S256x1024 .f32) (s g k a b e : FVec Ideal S1x1024 .f32) :
    k0_pay1 (F := Ideal) a b (k0_pay3 h m s g k e) = normed (added h (biased m e) s g) k a b := by
  rw [← pay_residual]
  exact funext fun j : S256x1024.Idx => by pointwise [k0_pay1, k0_pay3, pre, row]

theorem idx : ∀ t : Fin cfg0.N, (win0_0.index t = ![t.val, 0] ∧ win0_1.index t = ![t.val, 0]
    ∧ win0_8.index t = ![t.val, 0] ∧ win0_9.index t = ![t.val, 0]) ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

abbrev residual (m : (ℓ : Loc nD τ sig) → Buf (Elt Ideal) ℓ) (c : Dev nD) : FVec Ideal S8192x1024 .f32 :=
  added (n := 8192) (m ((c : Thread nD τ).loc main_arg0))
    (biased (m ((c : Thread nD τ).loc main_arg1)) (m ((c : Thread nD τ).loc main_arg7)))
    (m ((c : Thread nD τ).loc main_arg2)) (m ((c : Thread nD τ).loc main_arg3))

abbrev input (m : (ℓ : Loc nD τ sig) → Buf (Elt Ideal) ℓ) (c : Dev nD) : FVec Ideal S8192x1024 .bf16 :=
  normed (n := 8192) (residual m c) (m ((c : Thread nD τ).loc main_arg4)) (m ((c : Thread nD τ).loc main_arg5))
    (m ((c : Thread nD τ).loc main_arg6))

theorem residual_value (m : (ℓ : Loc nD τ sig) → Buf (Elt Ideal) ℓ) (c : Dev nD) :
    (dats m 0 c).arrAt 8 cfg0.N = residual m c := by
  refine (dats m 0 c).arrAt_eq_of_covers 8 _ (by decide +kernel) fun t hf y => ?_
  blk_simp
  rw [after0_8]
  frame_out
  rw [pay_residual]
  refine added_block (fun x => ?_) (fun x => biased_block (fun x => ?_) (fun x => ?_) rfl) (fun x => ?_) (fun x => ?_)
    (Fin.ext (by blk_simp [idx t]))
  all_goals blk_point [iblk, V, idx t]

theorem input_value (m : (ℓ : Loc nD τ sig) → Buf (Elt Ideal) ℓ) (c : Dev nD) :
    (dats m 0 c).arrAt 9 cfg0.N = input m c := by
  refine (dats m 0 c).arrAt_eq_of_covers 9 _ (by decide +kernel) fun t hf y => ?_
  blk_simp
  rw [after0_9]
  frame_out
  rw [pay_input]
  refine normed_block (fun x => added_block (fun z => ?_) (fun z => biased_block (fun x => ?_) (fun x => ?_) rfl) (fun z => ?_) (fun z => ?_) rfl)
    (fun x => ?_) (fun x => ?_) (fun x => ?_) (Fin.ext (by blk_simp [idx t]))
  all_goals blk_point [iblk, V, idx t]

set_option smartUnfolding false in
theorem kernel_frame : Cert.quiescent_RowMidConv (hRowMidConv := Cert.RowMidConv.Gen.facts) := fun m ρ _ => by
  with_unfolding_all exact frame (F := Bits) m ρ

theorem ideal_frame : Cert.quiescent_RowMidConvIdeal (hRowMidConvIdeal := facts) := fun m ρ _ => frame m ρ

theorem reference_frame : Cert.quiescent_RowMidConvRefIdeal (hRowMidConvRefIdeal := Cert.RowMidConvRefIdeal.Gen.facts) :=
  fun m ρ _ =>
  (θ_run Cert.RowMidConvRefIdeal.defs _ _).mono (fun r h => ⟨fun c => (h c).2.2, sem_eq_zero_of_no_sems (by decide) r.2⟩)
    (Cert.RowMidConvRefIdeal.Value.run m ρ)

theorem algebraic : Cert.algebraic_RowMidConvIdeal_RowMidConvRefIdeal (hRowMidConvIdeal := facts)
    (hRowMidConvRefIdeal := Cert.RowMidConvRefIdeal.Gen.facts) :=
  fun m ρ m' ρ' _ h => ⟨residual m, input m,
    (θ_run defs _ _).mono (fun _ r c => ⟨(r c).1.trans (residual_value m c), (r c).2.1.trans (input_value m c), (r c).2.2⟩)
      (Cert.RowMidConvIdeal.Value.run_blocks m ρ),
    (θ_run Cert.RowMidConvRefIdeal.defs _ _).mono (fun _ r c => by
      obtain ⟨h0, h1, h2, h3, h4, h5, h6, h7⟩ := h c
      have e := congr (congr (congrArg₂ (added (n := 8192)) h0 (congrArg₂ (biased (n := 8192)) h1 h7)) h2) h3
      have e' := congr (congr (congrArg₂ (normed (n := 8192)) e h4) h5) h6
      refine ⟨(r c).1.trans (Eq.trans ?_ e), (r c).2.1.trans (Eq.trans ?_ e'), (r c).2.2⟩
      · exact funext fun j : S8192x1024.Idx => by pointwise [post, biased, row, inv, mean]
      · exact funext fun j : S8192x1024.Idx => by pointwise [Cert.RowMidConvRefIdeal.Value.res_main_v35, pre, post, biased, row, inv, mean])
      (Cert.RowMidConvRefIdeal.Value.run m' ρ')⟩

end MidConv

/-! ## The gate of the S5 layer and of the convolution -/

namespace Gate

open Cert.RowGateIdeal Cert.RowGateIdeal.Gen

theorem pay (t : FVec Ideal S256x2048 .f32) (b : FVec Ideal S1x2048 .f32) : k0_pay1 (F := Ideal) t b = gated t b :=
  funext fun j : S256x1024.Idx => by pointwise [k0_pay1, gate, row]

theorem idx : ∀ t : Fin cfg0.N, win0_0.index t = ![t.val, 0] ∧ win0_1.index t = ![0, 0] ∧ win0_2.index t = ![t.val, 0] :=
  (by decide +kernel : ∀ t : Fin grid0.N, _)

abbrev result (m : (ℓ : Loc nD τ sig) → Buf (Elt Ideal) ℓ) (c : Dev nD) : FVec Ideal S8192x1024 .f32 :=
  gated (n := 8192) (m ((c : Thread nD τ).loc main_arg0)) (m ((c : Thread nD τ).loc main_arg1))

theorem value (m : (ℓ : Loc nD τ sig) → Buf (Elt Ideal) ℓ) (c : Dev nD) : (dats m 0 c).arrAt 2 cfg0.N = result m c := by
  refine (dats m 0 c).arrAt_eq_of_covers 2 _ (by decide +kernel) fun t hf y => ?_
  blk_simp
  rw [after0_2]
  frame_out
  rw [pay]
  refine gated_block (fun x => ?_) (fun x => ?_) (Fin.ext (by blk_simp [idx t]))
  all_goals blk_point [iblk, V, idx t]

set_option smartUnfolding false in
theorem kernel_frame : Cert.quiescent_RowGate (hRowGate := Cert.RowGate.Gen.facts) := fun m ρ _ => by
  with_unfolding_all exact frame (F := Bits) m ρ

theorem ideal_frame : Cert.quiescent_RowGateIdeal (hRowGateIdeal := facts) := fun m ρ _ => frame m ρ

theorem reference_frame : Cert.quiescent_RowGateRefIdeal (hRowGateRefIdeal := Cert.RowGateRefIdeal.Gen.facts) := fun m ρ _ =>
  (θ_run Cert.RowGateRefIdeal.defs _ _).mono (fun r h => ⟨fun c => (h c).2, sem_eq_zero_of_no_sems (by decide) r.2⟩)
    (Cert.RowGateRefIdeal.Value.run m ρ)

theorem algebraic : Cert.algebraic_RowGateIdeal_RowGateRefIdeal (hRowGateIdeal := facts)
    (hRowGateRefIdeal := Cert.RowGateRefIdeal.Gen.facts) :=
  fun m ρ m' ρ' _ h => ⟨result m,
    (θ_run defs _ _).mono (fun _ r c => ⟨(r c).1.trans (value m c), (r c).2⟩) (Cert.RowGateIdeal.Value.run_blocks m ρ),
    (θ_run Cert.RowGateRefIdeal.defs _ _).mono (fun _ r c => by
      have e := congrArg₂ (gated (n := 8192)) (h c).1 (h c).2
      refine ⟨(r c).1.trans (Eq.trans ?_ e), (r c).2⟩
      exact funext fun j : S8192x1024.Idx => by pointwise [gate, row, Ideal.logistic]) (Cert.RowGateRefIdeal.Value.run m' ρ')⟩

end Gate

/-! ## The convolution's norm and activation -/

namespace Conv

open Cert.RowConvIdeal Cert.RowConvIdeal.Gen

theorem pay (h : FVec Ideal S256x1024 .f32) (g b : FVec Ideal S1x1024 .f32) : k0_pay1 (F := Ideal) h g b = centred h g b :=
  funext fun j : S256x1024.Idx => by pointwise [k0_pay1, centre, row]

theorem idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

abbrev result (m : (ℓ : Loc nD τ sig) → Buf (Elt Ideal) ℓ) (c : Dev nD) : FVec Ideal S8192x1024 .bf16 :=
  centred (n := 8192) (m ((c : Thread nD τ).loc main_arg0)) (m ((c : Thread nD τ).loc main_arg1))
    (m ((c : Thread nD τ).loc main_arg2))

theorem value (m : (ℓ : Loc nD τ sig) → Buf (Elt Ideal) ℓ) (c : Dev nD) : (dats m 0 c).arrAt 3 cfg0.N = result m c := by
  refine (dats m 0 c).arrAt_eq_of_covers 3 _ (by decide +kernel) fun t hf y => ?_
  blk_simp
  rw [after0_3]
  frame_out
  rw [pay]
  refine centred_block (fun x => ?_) (fun x => ?_) (fun x => ?_) (Fin.ext (by blk_simp [idx t]))
  all_goals blk_point [iblk, V, idx t]

set_option smartUnfolding false in
theorem kernel_frame : Cert.quiescent_RowConv (hRowConv := Cert.RowConv.Gen.facts) := fun m ρ _ => by
  with_unfolding_all exact frame (F := Bits) m ρ

theorem ideal_frame : Cert.quiescent_RowConvIdeal (hRowConvIdeal := facts) := fun m ρ _ => frame m ρ

theorem reference_frame : Cert.quiescent_RowConvRefIdeal (hRowConvRefIdeal := Cert.RowConvRefIdeal.Gen.facts) := fun m ρ _ =>
  (θ_run Cert.RowConvRefIdeal.defs _ _).mono (fun r h => ⟨fun c => (h c).2, sem_eq_zero_of_no_sems (by decide) r.2⟩)
    (Cert.RowConvRefIdeal.Value.run m ρ)

theorem algebraic : Cert.algebraic_RowConvIdeal_RowConvRefIdeal (hRowConvIdeal := facts)
    (hRowConvRefIdeal := Cert.RowConvRefIdeal.Gen.facts) :=
  fun m ρ m' ρ' _ h => ⟨result m,
    (θ_run defs _ _).mono (fun _ r c => ⟨(r c).1.trans (value m c), (r c).2⟩) (Cert.RowConvIdeal.Value.run_blocks m ρ),
    (θ_run Cert.RowConvRefIdeal.defs _ _).mono (fun _ r c => by
      obtain ⟨h0, h1, h2⟩ := h c
      have e := congr (congrArg₂ (centred (n := 8192)) h0 h1) h2
      refine ⟨(r c).1.trans (Eq.trans ?_ e), (r c).2⟩
      exact funext fun j : S8192x1024.Idx => by pointwise [centre, row, Ideal.logistic])
      (Cert.RowConvRefIdeal.Value.run m' ρ')⟩

end Conv

end Cert.Rows

end
-- ==== Proof.RowBackClaims.lean ====
/-
  The calls that go row by row on the way back: the gradients of the norms, gates and activations, and the modulation's own
  product. As on the way forward, what such a call makes of a row is a function of that row and of the vectors it takes, said
  once for arrays of any height. The gradients of the vectors are sums over all rows, which a kernel takes 256 at a time.
-/
module

public import proofs.«01_k».proof.Proof.RowClaims
public import proofs.«01_k».proof.Proof.Gen.RowActBwd
public import proofs.«01_k».proof.Proof.Gen.RowActBwdIdeal.Value
public import proofs.«01_k».proof.Proof.Gen.RowActBwdRefIdeal.Run
public import proofs.«01_k».proof.Proof.Gen.RowGeluBwd
public import proofs.«01_k».proof.Proof.Gen.RowGeluBwdIdeal.Value
public import proofs.«01_k».proof.Proof.Gen.RowGeluBwdRefIdeal.Run
public import proofs.«01_k».proof.Proof.Gen.RowGateBwd
public import proofs.«01_k».proof.Proof.Gen.RowGateBwdIdeal.Value
public import proofs.«01_k».proof.Proof.Gen.RowGateBwdRefIdeal.Run
public import proofs.«01_k».proof.Proof.Gen.RowOutBwd
public import proofs.«01_k».proof.Proof.Gen.RowOutBwdIdeal.Value
public import proofs.«01_k».proof.Proof.Gen.RowOutBwdRefIdeal.Run
public import proofs.«01_k».proof.Proof.Gen.RowConvBwd
public import proofs.«01_k».proof.Proof.Gen.RowConvBwdIdeal.Value
public import proofs.«01_k».proof.Proof.Gen.RowConvBwdRefIdeal.Run
public import proofs.«01_k».proof.Proof.Gen.ModFwd
public import proofs.«01_k».proof.Proof.Gen.ModFwdIdeal.Value
public import proofs.«01_k».proof.Proof.Gen.ModFwdRefIdeal.Run

@[expose] public section

set_option Elab.async false

noncomputable section

namespace Cert.Rows

open Idealize.ShloMosaic
open Idealize.ShloMosaic.TcCoe
open Idealize.SL.Sem

/-! ## What becomes of a row -/

/-- The gradient of the activation that multiplies its two halves, from the gradient `d` of its result. -/
def actBack (r : Fin 5632 → EReal) (d : Fin 2816 → EReal) (j : Fin 5632) : EReal :=
  if h : j.val < 2816 then
    d ⟨j.val, h⟩ * r ⟨2816 + j.val, by omega⟩ * Ideal.logistic (r j)
      + r j * (d ⟨j.val, h⟩ * r ⟨2816 + j.val, by omega⟩) * (Ideal.logistic (r j) * (1 - Ideal.logistic (r j)))
  else
    r ⟨j.val - 2816, by omega⟩ * Ideal.logistic (r ⟨j.val - 2816, by omega⟩) * d ⟨j.val - 2816, by omega⟩

/-- The hyperbolic tangent in the gate of a number. -/
abbrev bend (y : EReal) : EReal :=
  Ideal.tanh (Ideal.ofBits .f32 0x3F4C422A#32 * (y + Ideal.ofBits .f32 0x3D372713#32 * (y * (y * y))))

/-- What the gradient `d` of a gated number gives the tangent's argument. -/
abbrev bendBack (y d : EReal) : EReal :=
  Ideal.ofBits .f32 0x3F4C422A#32 * (Ideal.ofBits .f32 0x3F000000#32 * (y * d) * ((1 + bend y) * (1 - bend y)))

/-- The gradient of a number gated by its tangent. -/
def geluBack (y d : EReal) : EReal :=
  d * (Ideal.ofBits .f32 0x3F000000#32 * (1 + bend y)) + bendBack y d
    + Ideal.ofBits .f32 0x3D372713#32 * bendBack y d * (Ideal.ofBits .f32 0x40400000#32 * (y * y))

/-- The gradient of the first half of a row, gated by the second. -/
def gateBack (t b : Fin 2048 → EReal) (d : Fin 1024 → EReal) (j : Fin 2048) : EReal :=
  if h : j.val < 1024 then
    d ⟨j.val, h⟩ * Ideal.logistic (t ⟨1024 + j.val, by omega⟩ + b ⟨1024 + j.val, by omega⟩)
  else
    (t ⟨j.val - 1024, by omega⟩ + b ⟨j.val - 1024, by omega⟩) * d ⟨j.val - 1024, by omega⟩
      * (Ideal.logistic (t ⟨1024 + (j.val - 1024), by omega⟩ + b ⟨1024 + (j.val - 1024), by omega⟩)
        * (1 - Ideal.logistic (t ⟨1024 + (j.val - 1024), by omega⟩ + b ⟨1024 + (j.val - 1024), by omega⟩)))

/-- What the gradient `w` of a row divided by its root mean square gives the mean square, spread over the row. -/
abbrev slope (r w : Fin 1024 → EReal) : EReal :=
  mean ((∑ x, r x * w x) * (Ideal.ofBits .f32 0xBF000000#32
    * Ideal.div (inv (∑ x, r x * r x)) (mean (∑ x, r x * r x) + Ideal.ofBits .f32 0x358637BD#32)))

/-- The gradient of a row that is added after its norm and through a gate. -/
def postBack (r d s g : Fin 1024 → EReal) (j : Fin 1024) : EReal :=
  s j * d j * g j * inv (∑ x, r x * r x) + r j * (∑ _ : Fin 1, slope r fun x => s x * d x * g x)
    + (∑ _ : Fin 1, slope r fun x => s x * d x * g x) * r j

/-- What a row gives the gradient of that gate. -/
def postGate (r d g : Fin 1024 → EReal) (j : Fin 1024) : EReal := d j * (r j * inv (∑ x, r x * r x) * g j)

/-- What a row gives the gradient of that norm's weight. -/
def postGain (r d s : Fin 1024 → EReal) (j : Fin 1024) : EReal := r j * inv (∑ x, r x * r x) * (s j * d j)

/-- A row less its mean. -/
abbrev off (r : Fin 1024 → EReal) (j : Fin 1024) : EReal := r j - mean (∑ x, r x)

/-- A row centred and normed. -/
abbrev even (r : Fin 1024 → EReal) (j : Fin 1024) : EReal := off r j * inv (∑ x, off r x * off r x)

/-- The gradient of the activation of a row centred and normed, with gain and bias. -/
def biasBack (r d g b : Fin 1024 → EReal) (j : Fin 1024) : EReal :=
  d j * Ideal.logistic (even r j * g j + b j)
    + (even r j * g j + b j) * d j * (Ideal.logistic (even r j * g j + b j) * (1 - Ideal.logistic (even r j * g j + b j)))

/-- What a row gives the gradient of the gain. -/
def gainBack (r d g b : Fin 1024 → EReal) (j : Fin 1024) : EReal := even r j * biasBack r d g b j

/-- What the gradient `w` of the normed row gives the centred row through its mean square. -/
abbrev bulk (r w : Fin 1024 → EReal) (j : Fin 1024) : EReal :=
  (∑ _ : Fin 1, slope (off r) w) * (Ideal.ofBits .f32 0x40000000#32 * off r j)

/-- The gradient of a row that is centred and normed, from the gradient `w` of what is made of it. -/
def evenBack (r w : Fin 1024 → EReal) (j : Fin 1024) : EReal :=
  w j * inv (∑ x, off r x * off r x) + bulk r w j
    + ∑ _ : Fin 1, mean ((∑ x, (0 - w x * inv (∑ x, off r x * off r x))) + ∑ x, (0 - bulk r w x))

/-- The gradient of the whole step. -/
def centreBack (r d g b : Fin 1024 → EReal) (j : Fin 1024) : EReal := evenBack r (fun x => biasBack r d g b x * g x) j

/-- A column of the modulation: the activation of a row of conditions times the column, with a bias. -/
def condition (r w : Fin 1024 → EReal) (b : EReal) : EReal := ∑ x, r x * Ideal.logistic (r x) * w x + b

/-! The same for every row of an array, and the sums over the rows. -/

abbrev actBacked {n : ℕ} (a : Arr n 5632) (d : Arr n 2816) (i : Shape.Idx ⟨2, ![n, 5632]⟩) : EReal :=
  actBack (row a (i 0)) (row d (i 0)) (i 1)

abbrev geluBacked {n : ℕ} (y d : Arr n 1024) (i : Shape.Idx ⟨2, ![n, 1024]⟩) : EReal :=
  geluBack (row y (i 0) (i 1)) (row d (i 0) (i 1))

abbrev gateBacked {n : ℕ} (t : Arr n 2048) (d : Arr n 1024) (b : Arr 1 2048) (i : Shape.Idx ⟨2, ![n, 2048]⟩) : EReal :=
  gateBack (row t (i 0)) (row b 0) (row d (i 0)) (i 1)

/-- A function of two rows and two vectors, on arrays. -/
abbrev rowwise {n : ℕ} (f : (r d s g : Fin 1024 → EReal) → Fin 1024 → EReal) (m d : Arr n 1024) (s g : Arr 1 1024)
    (i : Shape.Idx ⟨2, ![n, 1024]⟩) : EReal :=
  f (row m (i 0)) (row d (i 0)) (row s 0) (row g 0) (i 1)

abbrev conditioned {p : ℕ} (c : Arr 8 1024) (w : Shape.Idx ⟨3, ![p, 1024, 1536]⟩ → EReal)
    (b : Shape.Idx ⟨3, ![p, 1, 1536]⟩ → EReal) (i : Shape.Idx ⟨3, ![p, 8, 1536]⟩) : EReal :=
  condition (row c (i 1)) (fun x => w (ix3 (i 0) x (i 2))) (b (ix3 (i 0) 0 (i 2)))

/-- An array's sums over its rows. -/
abbrev total {n w : ℕ} (a : Arr n w) (i : Shape.Idx ⟨2, ![1, w]⟩) : EReal := ∑ k : Fin n, a (ix2 k (i 1))

/-! ## From a block to the whole array -/

theorem actBacked_block {n N : ℕ} {a : Arr n 5632} {A : Arr N 5632} {d : Arr n 2816} {D : Arr N 2816}
    {y : Shape.Idx ⟨2, ![n, 5632]⟩} {z : Shape.Idx ⟨2, ![N, 5632]⟩} (ha : ∀ x, a (ix2 (y 0) x) = A (ix2 (z 0) x))
    (hd : ∀ x, d (ix2 (y 0) x) = D (ix2 (z 0) x)) (e : (y 1 : Fin 5632) = z 1) : actBacked a d y = actBacked A D z :=
  congr (congrArg₂ actBack (funext ha) (funext hd)) e

theorem geluBacked_block {n N : ℕ} {a d : Arr n 1024} {A D : Arr N 1024} {y : Shape.Idx ⟨2, ![n, 1024]⟩}
    {z : Shape.Idx ⟨2, ![N, 1024]⟩} (ha : ∀ x, a (ix2 (y 0) x) = A (ix2 (z 0) x)) (hd : ∀ x, d (ix2 (y 0) x) = D (ix2 (z 0) x))
    (e : (y 1 : Fin 1024) = z 1) : geluBacked a d y = geluBacked A D z :=
  congrArg₂ geluBack ((ha _).trans (congrArg (row A (z 0)) e)) ((hd _).trans (congrArg (row D (z 0)) e))

theorem gateBacked_block {n N : ℕ} {t : Arr n 2048} {T : Arr N 2048} {d : Arr n 1024} {D : Arr N 1024} {b B : Arr 1 2048}
    {y : Shape.Idx ⟨2, ![n, 2048]⟩} {z : Shape.Idx ⟨2, ![N, 2048]⟩} (ht : ∀ x, t (ix2 (y 0) x) = T (ix2 (z 0) x))
    (hd : ∀ x, d (ix2 (y 0) x) = D (ix2 (z 0) x)) (hb : ∀ x, b (ix2 0 x) = B (ix2 0 x)) (e : (y 1 : Fin 2048) = z 1) :
    gateBacked t d b y = gateBacked T D B z :=
  congr (congr (congrArg₂ gateBack (funext ht) (funext hb)) (funext hd)) e

theorem rowwise_block {n N : ℕ} {f : (r d s g : Fin 1024 → EReal) → Fin 1024 → EReal} {m d : Arr n 1024} {M D : Arr N 1024}
    {s g S G : Arr 1 1024} {y : Shape.Idx ⟨2, ![n, 1024]⟩} {z : Shape.Idx ⟨2, ![N, 1024]⟩}
    (hm : ∀ x, m (ix2 (y 0) x) = M (ix2 (z 0) x)) (hd : ∀ x, d (ix2 (y 0) x) = D (ix2 (z 0) x))
    (hs : ∀ x, s (ix2 0 x) = S (ix2 0 x)) (hg : ∀ x, g (ix2 0 x) = G (ix2 0 x)) (e : (y 1 : Fin 1024) = z 1) :
    rowwise f m d s g y = rowwise f M D S G z :=
  congr (congr (congr (congrArg₂ f (funext hm) (funext hd)) (funext hs)) (funext hg)) e

theorem conditioned_block {p P : ℕ} {c C : Arr 8 1024} {w : Shape.Idx ⟨3, ![p, 1024, 1536]⟩ → EReal}
    {W : Shape.Idx ⟨3, ![P, 1024, 1536]⟩ → EReal} {b : Shape.Idx ⟨3, ![p, 1, 1536]⟩ → EReal}
    {B : Shape.Idx ⟨3, ![P, 1, 1536]⟩ → EReal} {y : Shape.Idx ⟨3, ![p, 8, 1536]⟩} {z : Shape.Idx ⟨3, ![P, 8, 1536]⟩}
    (hc : ∀ x, c (ix2 (y 1) x) = C (ix2 (z 1) x)) (hw : ∀ x, w (ix3 (y 0) x (y 2)) = W (ix3 (z 0) x (z 2)))
    (hb : b (ix3 (y 0) 0 (y 2)) = B (ix3 (z 0) 0 (z 2))) : conditioned c w b y = conditioned C W B z :=
  congr (congrArg₂ condition (funext hc) (funext hw)) hb

/-- The blocks' sums, added up over 32 points of the grid, are the whole array's: `f` is what a point leaves, `p` the block
    whose sums it adds and `P` the whole array. -/
theorem total_of_blocks {N w : ℕ} (f : (t : ℕ) → t < N → Arr 1 w) {p : Fin N → Arr 256 w} {P : Arr 8192 w}
    (reset : ∀ t : Fin N, t.val % 32 = 0 → ∀ i, f t.val t.isLt i = total (p t) i)
    (step : ∀ t : Fin N, ¬t.val % 32 = 0 → ∀ i,
      f t.val t.isLt i = f (t.val - 1) (Nat.lt_of_le_of_lt (Nat.sub_le _ _) t.isLt) i + total (p t) i)
    (t : Fin N) (h : t.val % 32 = 31) {y z : Shape.Idx ⟨2, ![1, w]⟩}
    (blocks : ∀ (s : Fin 32) (k : Fin 256) (hl : s.val * 256 + k.val < 8192),
      p ⟨32 * (t.val / 32) + s.val, Pipeline.run_point_lt_of_flush t h s⟩ (ix2 k (y 1)) = P (ix2 ⟨s.val * 256 + k.val, hl⟩ (z 1))) :
    f t.val t.isLt y = total P z := by
  rw [Pipeline.eq_sum_fin_of_reset_step_apply_of_flush f 32 (fun _ => 0) (fun t => total (p t))
    (fun t h i => by rw [zero_add]; exact reset t h i) step t h y, zero_add]
  exact Fin.sum_mul_add_congr blocks

/-! ## The activation's gradient -/

namespace ActBwd

open Cert.RowActBwdIdeal Cert.RowActBwdIdeal.Gen

theorem pay (a : FVec Ideal S256x5632 .bf16) (d : FVec Ideal S256x2816 .bf16) : k0_pay1 (F := Ideal) a d = actBacked a d :=
  funext fun j : S256x5632.Idx => by pointwise [k0_pay1, actBack, row]

theorem idx : ∀ t : Fin cfg0.N, win0_0.index t = ![t.val, 0] ∧ win0_1.index t = ![t.val, 0] ∧ win0_2.index t = ![t.val, 0] :=
  (by decide +kernel : ∀ t : Fin grid0.N, _)

abbrev result (m : (ℓ : Loc nD τ sig) → Buf (Elt Ideal) ℓ) (c : Dev nD) : FVec Ideal S8192x5632 .bf16 :=
  actBacked (n := 8192) (m ((c : Thread nD τ).loc main_arg0)) (m ((c : Thread nD τ).loc main_arg1))

theorem value (m : (ℓ : Loc nD τ sig) → Buf (Elt Ideal) ℓ) (c : Dev nD) : (dats m 0 c).arrAt 2 cfg0.N = result m c := by
  refine (dats m 0 c).arrAt_eq_of_covers 2 _ (by decide +kernel) fun t hf y => ?_
  blk_simp
  rw [after0_2]
  frame_out
  rw [pay]
  refine actBacked_block (fun x => ?_) (fun x => ?_) (Fin.ext (by blk_simp [idx t]))
  all_goals blk_point [iblk, V, idx t]

set_option smartUnfolding false in
theorem kernel_frame : Cert.quiescent_RowActBwd (hRowActBwd := Cert.RowActBwd.Gen.facts) := fun m ρ _ => by
  with_unfolding_all exact frame (F := Bits) m ρ

theorem ideal_frame : Cert.quiescent_RowActBwdIdeal (hRowActBwdIdeal := facts) := fun m ρ _ => frame m ρ

theorem reference_frame : Cert.quiescent_RowActBwdRefIdeal (hRowActBwdRefIdeal := Cert.RowActBwdRefIdeal.Gen.facts) :=
  fun m ρ _ => (θ_run Cert.RowActBwdRefIdeal.defs _ _).mono
    (fun r h => ⟨fun c => (h c).2, sem_eq_zero_of_no_sems (by decide) r.2⟩) (Cert.RowActBwdRefIdeal.Value.run m ρ)

theorem algebraic : Cert.algebraic_RowActBwdIdeal_RowActBwdRefIdeal (hRowActBwdIdeal := facts)
    (hRowActBwdRefIdeal := Cert.RowActBwdRefIdeal.Gen.facts) :=
  fun m ρ m' ρ' _ h => ⟨result m,
    (θ_run defs _ _).mono (fun _ r c => ⟨(r c).1.trans (value m c), (r c).2⟩) (Cert.RowActBwdIdeal.Value.run_blocks m ρ),
    (θ_run Cert.RowActBwdRefIdeal.defs _ _).mono (fun _ r c => by
      obtain ⟨h0, h1⟩ := h c
      have e := congrArg₂ (actBacked (n := 8192)) h0 h1
      refine ⟨(r c).1.trans (Eq.trans ?_ e), (r c).2⟩
      exact funext fun j : S8192x5632.Idx => by pointwise [actBack, row, Ideal.logistic])
      (Cert.RowActBwdRefIdeal.Value.run m' ρ')⟩

end ActBwd

/-! ## The gradient of the gate by the hyperbolic tangent -/

namespace GeluBwd

open Cert.RowGeluBwdIdeal Cert.RowGeluBwdIdeal.Gen

theorem pay (y d : FVec Ideal S256x1024 .f32) : k0_pay1 (F := Ideal) y d = geluBacked y d :=
  funext fun j : S256x1024.Idx => by pointwise [k0_pay1, geluBack, bendBack, bend, row]

theorem idx : ∀ t : Fin cfg0.N, win0_0.index t = ![t.val, 0] ∧ win0_1.index t = ![t.val, 0] ∧ win0_2.index t = ![t.val, 0] :=
  (by decide +kernel : ∀ t : Fin grid0.N, _)

abbrev result (m : (ℓ : Loc nD τ sig) → Buf (Elt Ideal) ℓ) (c : Dev nD) : FVec Ideal S8192x1024 .f32 :=
  geluBacked (n := 8192) (m ((c : Thread nD τ).loc main_arg0)) (m ((c : Thread nD τ).loc main_arg1))

theorem value (m : (ℓ : Loc nD τ sig) → Buf (Elt Ideal) ℓ) (c : Dev nD) : (dats m 0 c).arrAt 2 cfg0.N = result m c := by
  refine (dats m 0 c).arrAt_eq_of_covers 2 _ (by decide +kernel) fun t hf y => ?_
  blk_simp
  rw [after0_2]
  frame_out
  rw [pay]
  refine geluBacked_block (fun x => ?_) (fun x => ?_) (Fin.ext (by blk_simp [idx t]))
  all_goals blk_point [iblk, V, idx t]

set_option smartUnfolding false in
theorem kernel_frame : Cert.quiescent_RowGeluBwd (hRowGeluBwd := Cert.RowGeluBwd.Gen.facts) := fun m ρ _ => by
  with_unfolding_all exact frame (F := Bits) m ρ

theorem ideal_frame : Cert.quiescent_RowGeluBwdIdeal (hRowGeluBwdIdeal := facts) := fun m ρ _ => frame m ρ

theorem reference_frame : Cert.quiescent_RowGeluBwdRefIdeal (hRowGeluBwdRefIdeal := Cert.RowGeluBwdRefIdeal.Gen.facts) :=
  fun m ρ _ => (θ_run Cert.RowGeluBwdRefIdeal.defs _ _).mono
    (fun r h => ⟨fun c => (h c).2, sem_eq_zero_of_no_sems (by decide) r.2⟩) (Cert.RowGeluBwdRefIdeal.Value.run m ρ)

set_option maxRecDepth 16384 in
theorem algebraic : Cert.algebraic_RowGeluBwdIdeal_RowGeluBwdRefIdeal (hRowGeluBwdIdeal := facts)
    (hRowGeluBwdRefIdeal := Cert.RowGeluBwdRefIdeal.Gen.facts) :=
  fun m ρ m' ρ' _ h => ⟨result m,
    (θ_run defs _ _).mono (fun _ r c => ⟨(r c).1.trans (value m c), (r c).2⟩) (Cert.RowGeluBwdIdeal.Value.run_blocks m ρ),
    (θ_run Cert.RowGeluBwdRefIdeal.defs _ _).mono (fun _ r c => by
      obtain ⟨h0, h1⟩ := h c
      have e := congrArg₂ (geluBacked (n := 8192)) h0 h1
      refine ⟨(r c).1.trans (Eq.trans ?_ e), (r c).2⟩
      exact funext fun j : S8192x1024.Idx => by pointwise [geluBack, bendBack, bend, row, mul_assoc])
      (Cert.RowGeluBwdRefIdeal.Value.run m' ρ')⟩

end GeluBwd

/-! ## The modulation -/

namespace Cond

open Cert.ModFwdIdeal Cert.ModFwdIdeal.Gen

theorem pay (c : FVec Ideal S8x1024 .f32) (w : FVec Ideal S1x1024x1536 .f32) (b : FVec Ideal S1x1x1536 .f32) :
    k0_pay1 (F := Ideal) c w b = conditioned (p := 1) c w b :=
  funext fun j : S1x8x1536.Idx => by
    have h : j 0 = (0 : Fin 1) := Subsingleton.elim (α := Fin 1) _ _
    pointwise [k0_pay1, condition, row, h]

theorem idx : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

abbrev result (m : (ℓ : Loc nD τ sig) → Buf (Elt Ideal) ℓ) (c : Dev nD) : FVec Ideal S4x8x1536 .f32 :=
  conditioned (p := 4) (m ((c : Thread nD τ).loc main_arg0)) (m ((c : Thread nD τ).loc main_arg1))
    (m ((c : Thread nD τ).loc main_arg2))

theorem value (m : (ℓ : Loc nD τ sig) → Buf (Elt Ideal) ℓ) (c : Dev nD) : (dats m 0 c).arrAt 3 cfg0.N = result m c := by
  refine (dats m 0 c).arrAt_eq_of_covers 3 _ (by decide +kernel) fun t hf y => ?_
  blk_simp
  rw [after0_3]
  frame_out
  rw [pay]
  refine conditioned_block (fun x => ?_) (fun x => ?_) ?_
  all_goals blk_point [iblk, V, idx t]

set_option smartUnfolding false in
theorem kernel_frame : Cert.quiescent_ModFwd (hModFwd := Cert.ModFwd.Gen.facts) := fun m ρ _ => by
  with_unfolding_all exact frame (F := Bits) m ρ

theorem ideal_frame : Cert.quiescent_ModFwdIdeal (hModFwdIdeal := facts) := fun m ρ _ => frame m ρ

theorem reference_frame : Cert.quiescent_ModFwdRefIdeal (hModFwdRefIdeal := Cert.ModFwdRefIdeal.Gen.facts) :=
  fun m ρ _ => (θ_run Cert.ModFwdRefIdeal.defs _ _).mono
    (fun r h => ⟨fun c => (h c).2, sem_eq_zero_of_no_sems (by decide) r.2⟩) (Cert.ModFwdRefIdeal.Value.run m ρ)

theorem algebraic : Cert.algebraic_ModFwdIdeal_ModFwdRefIdeal (hModFwdIdeal := facts)
    (hModFwdRefIdeal := Cert.ModFwdRefIdeal.Gen.facts) :=
  fun m ρ m' ρ' _ h => ⟨result m,
    (θ_run defs _ _).mono (fun _ r c => ⟨(r c).1.trans (value m c), (r c).2⟩) (Cert.ModFwdIdeal.Value.run_blocks m ρ),
    (θ_run Cert.ModFwdRefIdeal.defs _ _).mono (fun _ r c => by
      obtain ⟨h0, h1, h2⟩ := h c
      have e := congr (congrArg₂ (conditioned (p := 4)) h0 h1) h2
      refine ⟨(r c).1.trans (Eq.trans ?_ e), (r c).2⟩
      refine funext fun j : S4x8x1536.Idx => ?_
      pointwise [condition, row, Ideal.logistic]
      exact congrArg (· + _) (Finset.sum_congr rfl fun x _ => mul_comm _ _))
      (Cert.ModFwdRefIdeal.Value.run m' ρ')⟩

end Cond

/-! ## The gradient of the gate by the logistic function -/

namespace GateBwd

open Cert.RowGateBwdIdeal Cert.RowGateBwdIdeal.Gen

theorem pay (t : FVec Ideal S256x2048 .f32) (d : FVec Ideal S256x1024 .f32) (b : FVec Ideal S1x2048 .f32) :
    k0_pay5 (F := Ideal) t d b = gateBacked t d b :=
  funext fun j : S256x2048.Idx => by pointwise [k0_pay5, k0_pay3, k0_pay2, k0_pay1, gateBack, row]

theorem part (t : FVec Ideal S256x2048 .f32) (d : FVec Ideal S256x1024 .f32) (b : FVec Ideal S1x2048 .f32) (j : S1x2048.Idx) :
    k0_pay4 (F := Ideal) t d b j = total (n := 256) (w := 2048) (gateBacked t d b) j := by
  by_cases h : (j 1).val < 1024 <;> pointwise [k0_pay4, k0_pay3, k0_pay2, k0_pay1, total, gateBacked, gateBack, row, h]

theorem later (t : FVec Ideal S256x2048 .f32) (d : FVec Ideal S256x1024 .f32) (b s : FVec Ideal S1x2048 .f32) (j : S1x2048.Idx) :
    k0_pay6 (F := Ideal) t d b s j = s j + k0_pay4 (F := Ideal) t d b j := by pointwise [k0_pay6]

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

abbrev result (m : (ℓ : Loc nD τ sig) → Buf (Elt Ideal) ℓ) (c : Dev nD) : FVec Ideal S8192x2048 .bf16 :=
  gateBacked (n := 8192) (m ((c : Thread nD τ).loc main_arg0)) (m ((c : Thread nD τ).loc main_arg1))
    (m ((c : Thread nD τ).loc main_arg2))

theorem value (m : (ℓ : Loc nD τ sig) → Buf (Elt Ideal) ℓ) (c : Dev nD) : (dats m 0 c).arrAt 3 cfg0.N = result m c := by
  refine (dats m 0 c).arrAt_eq_of_covers 3 _ (by decide +kernel) fun t hf y => ?_
  blk_simp
  have e : ∀ j, (outsAt0 m c t.val t.isLt).1 j = k0_pay5 (F := Ideal) (iblk m c 0 t) (iblk m c 1 t) (iblk m c 2 t) j := fun j => by
    by_cases h : t.val % 32 = 0
    · have : t.val < 32 := t.isLt
      rw [outsAt0_A m c t h (by omega)]; frame_out
    · rw [outsAt0_B m c t h (by omega)]; frame_out
  rw [after0_3, e, pay]
  refine gateBacked_block (fun x => ?_) (fun x => ?_) (fun x => ?_) (Fin.ext (by blk_simp [idx t]))
  all_goals blk_point [iblk, V, idx t]

theorem sums (m : (ℓ : Loc nD τ sig) → Buf (Elt Ideal) ℓ) (c : Dev nD) :
    (dats m 0 c).arrAt 4 cfg0.N = (total (n := 8192) (w := 2048) (result m c) : FVec Ideal S1x2048 .f32) := by
  refine (dats m 0 c).arrAt_eq_of_covers 4 _ (by decide +kernel) fun t hf y => ?_
  have h1 := (flush0_4 t).mp hf
  blk_simp
  rw [after0_4]
  refine total_of_blocks (fun n h => (outsAt0 m c n h).2)
    (p := fun t => gateBacked (n := 256) (iblk m c 0 t) (iblk m c 1 t) (iblk m c 2 t))
    (fun t h j => by
      have : t.val < 32 := t.isLt
      rw [outsAt0_A m c t h (by omega)]; frame_out; rw [part])
    (fun t h j => by rw [outsAt0_B m c t h (by omega)]; frame_out; erw [later, part]) t h1 fun s k hl => ?_
  have := idx ⟨_, Pipeline.run_point_lt_of_flush t h1 s⟩
  refine gateBacked_block (fun x => ?_) (fun x => ?_) (fun x => ?_) (Fin.ext (by blk_simp [idx t]))
  all_goals blk_point [iblk, V, idx t, this]

set_option smartUnfolding false in
theorem kernel_frame : Cert.quiescent_RowGateBwd (hRowGateBwd := Cert.RowGateBwd.Gen.facts) := fun m ρ _ => by
  with_unfolding_all exact frame (F := Bits) m ρ

theorem ideal_frame : Cert.quiescent_RowGateBwdIdeal (hRowGateBwdIdeal := facts) := fun m ρ _ => frame m ρ

theorem reference_frame : Cert.quiescent_RowGateBwdRefIdeal (hRowGateBwdRefIdeal := Cert.RowGateBwdRefIdeal.Gen.facts) :=
  fun m ρ _ => (θ_run Cert.RowGateBwdRefIdeal.defs _ _).mono
    (fun r h => ⟨fun c => (h c).2.2, sem_eq_zero_of_no_sems (by decide) r.2⟩) (Cert.RowGateBwdRefIdeal.Value.run m ρ)

set_option maxRecDepth 16384 in
theorem algebraic : Cert.algebraic_RowGateBwdIdeal_RowGateBwdRefIdeal (hRowGateBwdIdeal := facts)
    (hRowGateBwdRefIdeal := Cert.RowGateBwdRefIdeal.Gen.facts) :=
  fun m ρ m' ρ' _ h => ⟨result m, fun c => total (n := 8192) (w := 2048) (result m c),
    (θ_run defs _ _).mono (fun _ r c => ⟨(r c).1.trans (value m c), (r c).2.1.trans (sums m c), (r c).2.2⟩)
      (Cert.RowGateBwdIdeal.Value.run_blocks m ρ),
    (θ_run Cert.RowGateBwdRefIdeal.defs _ _).mono (fun _ r c => by
      obtain ⟨h0, h1, h2⟩ := h c
      have e := congr (congrArg₂ (gateBacked (n := 8192)) h0 h1) h2
      refine ⟨(r c).1.trans (Eq.trans ?_ e), (r c).2.1.trans (Eq.trans ?_ (congrArg (total (n := 8192) (w := 2048)) e)), (r c).2.2⟩
      · exact funext fun j : S8192x2048.Idx => by pointwise [gateBack, row, Ideal.logistic]
      · refine funext fun j : S1x2048.Idx => ?_
        by_cases h : (j 1).val < 1024 <;> pointwise [total, gateBacked, gateBack, row, Ideal.logistic, h])
      (Cert.RowGateBwdRefIdeal.Value.run m' ρ')⟩

end GateBwd

/-! ## The gradients at a layer's output -/

namespace OutBwd

open Cert.RowOutBwdIdeal Cert.RowOutBwdIdeal.Gen

set_option maxRecDepth 16384 in
theorem pay (m d : FVec Ideal S256x1024 .f32) (s g : FVec Ideal S1x1024 .f32) :
    k0_pay1 (F := Ideal) m (k0_pay12 (F := Ideal) m d s g) (k0_pay13 (F := Ideal) m d s g) (k0_pay14 (F := Ideal) m d s g)
      = rowwise postBack m d s g :=
  funext fun j : S256x1024.Idx => by
    pointwise [k0_pay1, k0_pay12, k0_pay13, k0_pay14, k0_pay11, k0_pay8, k0_pay7, k0_pay5, k0_pay4, postBack, slope, inv, mean, row]

theorem gate_part (m d : FVec Ideal S256x1024 .f32) (s g : FVec Ideal S1x1024 .f32) (j : S1x1024.Idx) :
    k0_pay9 (F := Ideal) m d g j = total (n := 256) (rowwise (fun r d _ g => postGate r d g) m d s g) j := by
  pointwise [k0_pay9, k0_pay6, k0_pay7, k0_pay5, k0_pay4, total, rowwise, postGate, inv, mean, row]

theorem gain_part (m d : FVec Ideal S256x1024 .f32) (s g : FVec Ideal S1x1024 .f32) (j : S1x1024.Idx) :
    k0_pay10 (F := Ideal) m d s j = total (n := 256) (rowwise (fun r d s _ => postGain r d s) m d s g) j := by
  pointwise [k0_pay10, k0_pay8, k0_pay6, k0_pay7, k0_pay5, k0_pay4, total, rowwise, postGain, inv, mean, row]

theorem later (p s : FVec Ideal S1x1024 .f32) (j : S1x1024.Idx) : k0_pay2 (F := Ideal) p s j = s j + p j := by pointwise [k0_pay2]

theorem later3 (p s : FVec Ideal S1x1024 .f32) (j : S1x1024.Idx) : k0_pay3 (F := Ideal) p s j = s j + p j := later p s j

theorem idx : ∀ t : Fin cfg0.N, (win0_1.index t = ![t.val, 0] ∧ win0_2.index t = ![t.val, 0]) ∧ win0_3.index t = ![0, 0]
    ∧ win0_4.index t = ![0, 0] ∧ win0_5.index t = ![t.val, 0] ∧ win0_6.index t = ![0, 0] ∧ win0_7.index t = ![0, 0] :=
  (by decide +kernel : ∀ t : Fin grid0.N, _)

abbrev whole (f : (r d s g : Fin 1024 → EReal) → Fin 1024 → EReal) (m : (ℓ : Loc nD τ sig) → Buf (Elt Ideal) ℓ) (c : Dev nD) :
    Arr 8192 1024 :=
  rowwise (n := 8192) f (m ((c : Thread nD τ).loc main_arg1)) (m ((c : Thread nD τ).loc main_arg2))
    (m ((c : Thread nD τ).loc main_arg3)) (m ((c : Thread nD τ).loc main_arg4))

abbrev back (m : (ℓ : Loc nD τ sig) → Buf (Elt Ideal) ℓ) (c : Dev nD) : FVec Ideal S8192x1024 .bf16 := whole postBack m c

abbrev gates (m : (ℓ : Loc nD τ sig) → Buf (Elt Ideal) ℓ) (c : Dev nD) : FVec Ideal S1x1024 .f32 :=
  total (whole (fun r d _ g => postGate r d g) m c)

abbrev gains (m : (ℓ : Loc nD τ sig) → Buf (Elt Ideal) ℓ) (c : Dev nD) : FVec Ideal S1x1024 .f32 :=
  total (whole (fun r d s _ => postGain r d s) m c)

/-- A block of rows is the whole array's, whatever is made of a row. -/
theorem whole_block {f : (r d s g : Fin 1024 → EReal) → Fin 1024 → EReal} (m : (ℓ : Loc nD τ sig) → Buf (Elt Ideal) ℓ)
    (c : Dev nD) (t : Fin cfg0.N) {y : S256x1024.Idx} {z : S8192x1024.Idx} (h0 : t.val * 256 + (y 0).val = (z 0).val)
    (h1 : (y 1).val = (z 1).val) :
    rowwise f (iblk m c 1 t) (iblk m c 2 t) (iblk m c 3 t) (iblk m c 4 t) y = whole f m c z := by
  refine rowwise_block (fun x => ?_) (fun x => ?_) (fun x => ?_) (fun x => ?_) (Fin.ext h1)
  all_goals blk_point [iblk, V, idx t, h0]

theorem back_blocks (m : (ℓ : Loc nD τ sig) → Buf (Elt Ideal) ℓ) (c : Dev nD) : (dats m 0 c).arrAt 5 cfg0.N = back m c := by
  refine (dats m 0 c).arrAt_eq_of_covers 5 _ (by decide +kernel) fun t hf y => ?_
  blk_simp
  have e : ∀ j, (outsAt0 m c t.val t.isLt).1 j
      = k0_pay1 (F := Ideal) (iblk m c 1 t) (k0_pay12 (iblk m c 1 t) (iblk m c 2 t) (iblk m c 3 t) (iblk m c 4 t))
        (k0_pay13 (iblk m c 1 t) (iblk m c 2 t) (iblk m c 3 t) (iblk m c 4 t))
        (k0_pay14 (iblk m c 1 t) (iblk m c 2 t) (iblk m c 3 t) (iblk m c 4 t)) j := fun j => by
    by_cases h : t.val % 32 = 0
    · have : t.val < 32 := t.isLt
      rw [outsAt0_A m c t h (by omega)]; frame_out
    · rw [outsAt0_B m c t h (by omega)]; frame_out
  rw [after0_5, e, pay]
  exact whole_block m c t (by blk_simp [idx t]) (by blk_simp [idx t])

theorem gate_sums (m : (ℓ : Loc nD τ sig) → Buf (Elt Ideal) ℓ) (c : Dev nD) : (dats m 0 c).arrAt 6 cfg0.N = gates m c := by
  refine (dats m 0 c).arrAt_eq_of_covers 6 _ (by decide +kernel) fun t hf y => ?_
  have h1 := (flush0_6 t).mp hf
  blk_simp
  rw [after0_6]
  refine total_of_blocks (fun n h => (outsAt0 m c n h).2.1)
    (p := fun t => rowwise (n := 256) _ (iblk m c 1 t) (iblk m c 2 t) (iblk m c 3 t) (iblk m c 4 t))
    (fun t h j => by
      have : t.val < 32 := t.isLt
      rw [outsAt0_A m c t h (by omega)]; frame_out; exact gate_part _ _ _ _ j)
    (fun t h j => by
      rw [outsAt0_B m c t h (by omega)]; frame_out; exact (later _ _ j).trans (congrArg _ (gate_part _ _ _ _ j)))
    t h1 fun s k hl => ?_
  have : t.val < 32 := t.isLt
  exact whole_block m c _ (show (32 * (t.val / 32) + s.val) * 256 + k.val = s.val * 256 + k.val by omega) (by blk_simp [idx t])

theorem gain_sums (m : (ℓ : Loc nD τ sig) → Buf (Elt Ideal) ℓ) (c : Dev nD) : (dats m 0 c).arrAt 7 cfg0.N = gains m c := by
  refine (dats m 0 c).arrAt_eq_of_covers 7 _ (by decide +kernel) fun t hf y => ?_
  have h1 := (flush0_7 t).mp hf
  blk_simp
  rw [after0_7]
  refine total_of_blocks (fun n h => (outsAt0 m c n h).2.2)
    (p := fun t => rowwise (n := 256) _ (iblk m c 1 t) (iblk m c 2 t) (iblk m c 3 t) (iblk m c 4 t))
    (fun t h j => by
      have : t.val < 32 := t.isLt
      rw [outsAt0_A m c t h (by omega)]; frame_out; exact gain_part _ _ _ _ j)
    (fun t h j => by
      rw [outsAt0_B m c t h (by omega)]; frame_out; exact (later3 _ _ j).trans (congrArg _ (gain_part _ _ _ _ j)))
    t h1 fun s k hl => ?_
  have : t.val < 32 := t.isLt
  exact whole_block m c _ (show (32 * (t.val / 32) + s.val) * 256 + k.val = s.val * 256 + k.val by omega) (by blk_simp [idx t])

set_option smartUnfolding false in
theorem kernel_frame : Cert.quiescent_RowOutBwd (hRowOutBwd := Cert.RowOutBwd.Gen.facts) := fun m ρ _ => by
  with_unfolding_all exact frame (F := Bits) m ρ

theorem ideal_frame : Cert.quiescent_RowOutBwdIdeal (hRowOutBwdIdeal := facts) := fun m ρ _ => frame m ρ

theorem reference_frame : Cert.quiescent_RowOutBwdRefIdeal (hRowOutBwdRefIdeal := Cert.RowOutBwdRefIdeal.Gen.facts) :=
  fun m ρ _ => (θ_run Cert.RowOutBwdRefIdeal.defs _ _).mono
    (fun r h => ⟨fun c => (h c).2.2.2, sem_eq_zero_of_no_sems (by decide) r.2⟩) (Cert.RowOutBwdRefIdeal.Value.run m ρ)

set_option maxRecDepth 16384 in
theorem algebraic : Cert.algebraic_RowOutBwdIdeal_RowOutBwdRefIdeal (hRowOutBwdIdeal := facts)
    (hRowOutBwdRefIdeal := Cert.RowOutBwdRefIdeal.Gen.facts) :=
  fun m ρ m' ρ' _ h => ⟨back m, gates m, gains m,
    (θ_run defs _ _).mono (fun _ r c => ⟨(r c).1.trans (back_blocks m c), (r c).2.1.trans (gate_sums m c),
      (r c).2.2.1.trans (gain_sums m c), (r c).2.2.2⟩) (Cert.RowOutBwdIdeal.Value.run_blocks m ρ),
    (θ_run Cert.RowOutBwdRefIdeal.defs _ _).mono (fun _ r c => by
      obtain ⟨-, h1, h2, h3, h4⟩ := h c
      have e := fun f => congr (congr (congrArg₂ (rowwise (n := 8192) f) h1 h2) h3) h4
      refine ⟨(r c).1.trans (Eq.trans ?_ (e _)), (r c).2.1.trans (Eq.trans ?_ (congrArg total (e _))),
        (r c).2.2.1.trans (Eq.trans ?_ (congrArg total (e _))), (r c).2.2.2⟩
      · exact funext fun j : S8192x1024.Idx => by
          pointwise [Cert.RowOutBwdRefIdeal.Value.res_main_v43, postBack, slope, inv, mean, row]
      · exact funext fun j : S1x1024.Idx => by pointwise [total, rowwise, postGate, inv, mean, row]
      · exact funext fun j : S1x1024.Idx => by pointwise [total, rowwise, postGain, inv, mean, row])
      (Cert.RowOutBwdRefIdeal.Value.run m' ρ')⟩

end OutBwd

/-! ## The gradients of the row that is centred and normed -/

namespace ConvBwd

open Cert.RowConvBwdIdeal Cert.RowConvBwdIdeal.Gen

set_option maxRecDepth 16384 in
theorem bias_pay (r d : FVec Ideal S256x1024 .f32) (g b : FVec Ideal S1x1024 .f32) :
    k0_pay12 (F := Ideal) r d g b = rowwise biasBack r d g b :=
  funext fun j : S256x1024.Idx => by
    pointwise [k0_pay12, k0_pay11, k0_pay7, k0_pay9, k0_pay8, k0_pay4, k0_pay5, biasBack, even, off, inv, mean, row]

set_option maxRecDepth 16384 in
theorem even_pay (r w : FVec Ideal S256x1024 .f32) (g : FVec Ideal S1x1024 .f32) (j : S256x1024.Idx) :
    k0_pay15 (F := Ideal) g (k0_pay6 (F := Ideal) r) (k0_pay7 (F := Ideal) r) (k0_pay9 (F := Ideal) r) (k0_pay10 (F := Ideal) r) w j
      = evenBack (row r (j 0)) (fun x => w (ix2 (j 0) x) * row g 0 x) (j 1) := by
  pointwise [k0_pay15, k0_pay6, k0_pay7, k0_pay9, k0_pay10, k0_pay8, k0_pay4, k0_pay5, evenBack, bulk, slope, off, inv, mean, row]

theorem pay (r d : FVec Ideal S256x1024 .f32) (g b : FVec Ideal S1x1024 .f32) :
    k0_pay15 (F := Ideal) g (k0_pay6 (F := Ideal) r) (k0_pay7 (F := Ideal) r) (k0_pay9 (F := Ideal) r) (k0_pay10 (F := Ideal) r)
      (k0_pay12 (F := Ideal) r d g b) = rowwise centreBack r d g b := by
  rw [bias_pay]
  exact funext fun j : S256x1024.Idx => even_pay _ _ _ j

theorem gain_part (r d : FVec Ideal S256x1024 .f32) (g b : FVec Ideal S1x1024 .f32) (j : S1x1024.Idx) :
    k0_pay14 (F := Ideal) (k0_pay11 (F := Ideal) r) (k0_pay12 (F := Ideal) r d g b) j
      = total (n := 256) (rowwise gainBack r d g b) j := by
  rw [bias_pay]
  pointwise [k0_pay14, k0_pay11, k0_pay7, k0_pay9, k0_pay8, k0_pay4, k0_pay5, total, rowwise, gainBack, even, off, inv, mean, row]

theorem bias_part (r d : FVec Ideal S256x1024 .f32) (g b : FVec Ideal S1x1024 .f32) (j : S1x1024.Idx) :
    k0_pay13 (F := Ideal) (k0_pay12 (F := Ideal) r d g b) j = total (n := 256) (rowwise biasBack r d g b) j := by
  rw [bias_pay]
  pointwise [k0_pay13, total]

theorem plain_part (u : FVec Ideal S256x1024 .f32) (j : S1x1024.Idx) : k0_pay16 (F := Ideal) u j = total (n := 256) (w := 1024) u j := by
  pointwise [k0_pay16, total]

theorem idx : ∀ t : Fin cfg0.N, (win0_0.index t = ![t.val, 0] ∧ win0_1.index t = ![t.val, 0] ∧ win0_2.index t = ![t.val, 0])
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

abbrev whole (f : (r d g b : Fin 1024 → EReal) → Fin 1024 → EReal) (m : (ℓ : Loc nD τ sig) → Buf (Elt Ideal) ℓ) (c : Dev nD) :
    Arr 8192 1024 :=
  rowwise (n := 8192) f (m ((c : Thread nD τ).loc main_arg0)) (m ((c : Thread nD τ).loc main_arg1))
    (m ((c : Thread nD τ).loc main_arg3)) (m ((c : Thread nD τ).loc main_arg4))

abbrev back (m : (ℓ : Loc nD τ sig) → Buf (Elt Ideal) ℓ) (c : Dev nD) : FVec Ideal S8192x1024 .f32 := whole centreBack m c

abbrev gains (m : (ℓ : Loc nD τ sig) → Buf (Elt Ideal) ℓ) (c : Dev nD) : FVec Ideal S1x1024 .f32 := total (whole gainBack m c)

abbrev biases (m : (ℓ : Loc nD τ sig) → Buf (Elt Ideal) ℓ) (c : Dev nD) : FVec Ideal S1x1024 .f32 := total (whole biasBack m c)

abbrev plain (m : (ℓ : Loc nD τ sig) → Buf (Elt Ideal) ℓ) (c : Dev nD) : FVec Ideal S1x1024 .f32 :=
  total (n := 8192) (w := 1024) (m ((c : Thread nD τ).loc main_arg2))

/-- A block of rows is the whole array's, whatever is made of a row. -/
theorem whole_block {f : (r d g b : Fin 1024 → EReal) → Fin 1024 → EReal} (m : (ℓ : Loc nD τ sig) → Buf (Elt Ideal) ℓ)
    (c : Dev nD) (t : Fin cfg0.N) {y : S256x1024.Idx} {z : S8192x1024.Idx} (h0 : t.val * 256 + (y 0).val = (z 0).val)
    (h1 : (y 1).val = (z 1).val) :
    rowwise f (iblk m c 0 t) (iblk m c 1 t) (iblk m c 3 t) (iblk m c 4 t) y = whole f m c z := by
  refine rowwise_block (fun x => ?_) (fun x => ?_) (fun x => ?_) (fun x => ?_) (Fin.ext h1)
  all_goals blk_point [iblk, V, idx t, h0]

theorem back_blocks (m : (ℓ : Loc nD τ sig) → Buf (Elt Ideal) ℓ) (c : Dev nD) : (dats m 0 c).arrAt 5 cfg0.N = back m c := by
  refine (dats m 0 c).arrAt_eq_of_covers 5 _ (by decide +kernel) fun t hf y => ?_
  blk_simp
  have e : ∀ j, (outsAt0 m c t.val t.isLt).1 j
      = k0_pay15 (F := Ideal) (iblk m c 3 t) (k0_pay6 (iblk m c 0 t)) (k0_pay7 (iblk m c 0 t)) (k0_pay9 (iblk m c 0 t))
        (k0_pay10 (iblk m c 0 t)) (k0_pay12 (iblk m c 0 t) (iblk m c 1 t) (iblk m c 3 t) (iblk m c 4 t)) j := fun j => by
    by_cases h : t.val % 32 = 0
    · have : t.val < 32 := t.isLt
      rw [outsAt0_A m c t h (by omega)]; frame_out
    · rw [outsAt0_B m c t h (by omega)]; frame_out
  rw [after0_5, e, pay]
  exact whole_block m c t (by blk_simp [idx t]) (by blk_simp [idx t])

theorem later (p s : FVec Ideal S1x1024 .f32) (j : S1x1024.Idx) : k0_pay1 (F := Ideal) p s j = s j + p j := by pointwise [k0_pay1]

theorem later2 (p s : FVec Ideal S1x1024 .f32) (j : S1x1024.Idx) : k0_pay2 (F := Ideal) p s j = s j + p j := later p s j

theorem later3 (p s : FVec Ideal S1x1024 .f32) (j : S1x1024.Idx) : k0_pay3 (F := Ideal) p s j = s j + p j := later p s j

theorem gain_sums (m : (ℓ : Loc nD τ sig) → Buf (Elt Ideal) ℓ) (c : Dev nD) : (dats m 0 c).arrAt 6 cfg0.N = gains m c := by
  refine (dats m 0 c).arrAt_eq_of_covers 6 _ (by decide +kernel) fun t hf y => ?_
  have h1 := (flush0_6 t).mp hf
  have : t.val < 32 := t.isLt
  blk_simp
  rw [after0_6]
  exact total_of_blocks (fun n h => (outsAt0 m c n h).2.1)
    (p := fun t => rowwise (n := 256) _ (iblk m c 0 t) (iblk m c 1 t) (iblk m c 3 t) (iblk m c 4 t))
    (fun t h j => by
      have : t.val < 32 := t.isLt
      rw [outsAt0_A m c t h (by omega)]; frame_out; exact gain_part _ _ _ _ j)
    (fun t h j => by
      rw [outsAt0_B m c t h (by omega)]; frame_out; exact (later _ _ j).trans (congrArg _ (gain_part _ _ _ _ j)))
    t h1 fun s k hl => whole_block m c _
      (show (32 * (t.val / 32) + s.val) * 256 + k.val = s.val * 256 + k.val by omega) (by blk_simp [idx t])

theorem bias_sums (m : (ℓ : Loc nD τ sig) → Buf (Elt Ideal) ℓ) (c : Dev nD) : (dats m 0 c).arrAt 7 cfg0.N = biases m c := by
  refine (dats m 0 c).arrAt_eq_of_covers 7 _ (by decide +kernel) fun t hf y => ?_
  have h1 := (flush0_7 t).mp hf
  have : t.val < 32 := t.isLt
  blk_simp
  rw [after0_7]
  exact total_of_blocks (fun n h => (outsAt0 m c n h).2.2.1)
    (p := fun t => rowwise (n := 256) _ (iblk m c 0 t) (iblk m c 1 t) (iblk m c 3 t) (iblk m c 4 t))
    (fun t h j => by
      have : t.val < 32 := t.isLt
      rw [outsAt0_A m c t h (by omega)]; frame_out; exact bias_part _ _ _ _ j)
    (fun t h j => by
      rw [outsAt0_B m c t h (by omega)]; frame_out; exact (later2 _ _ j).trans (congrArg _ (bias_part _ _ _ _ j)))
    t h1 fun s k hl => whole_block m c _
      (show (32 * (t.val / 32) + s.val) * 256 + k.val = s.val * 256 + k.val by omega) (by blk_simp [idx t])

theorem plain_sums (m : (ℓ : Loc nD τ sig) → Buf (Elt Ideal) ℓ) (c : Dev nD) : (dats m 0 c).arrAt 8 cfg0.N = plain m c := by
  refine (dats m 0 c).arrAt_eq_of_covers 8 _ (by decide +kernel) fun t hf y => ?_
  have h1 := (flush0_8 t).mp hf
  blk_simp
  rw [after0_8]
  refine total_of_blocks (fun n h => (outsAt0 m c n h).2.2.2) (p := fun t => iblk m c 2 t)
    (fun t h j => by
      have : t.val < 32 := t.isLt
      rw [outsAt0_A m c t h (by omega)]; frame_out; exact plain_part _ j)
    (fun t h j => by
      rw [outsAt0_B m c t h (by omega)]; frame_out; exact (later3 _ _ j).trans (congrArg _ (plain_part _ j)))
    t h1 fun s k hl => ?_
  blk_point [iblk, V, idx t, idx ⟨_, Pipeline.run_point_lt_of_flush t h1 s⟩]

set_option smartUnfolding false in
theorem kernel_frame : Cert.quiescent_RowConvBwd (hRowConvBwd := Cert.RowConvBwd.Gen.facts) := fun m ρ _ => by
  with_unfolding_all exact frame (F := Bits) m ρ

theorem ideal_frame : Cert.quiescent_RowConvBwdIdeal (hRowConvBwdIdeal := facts) := fun m ρ _ => frame m ρ

theorem reference_frame : Cert.quiescent_RowConvBwdRefIdeal (hRowConvBwdRefIdeal := Cert.RowConvBwdRefIdeal.Gen.facts) :=
  fun m ρ _ => (θ_run Cert.RowConvBwdRefIdeal.defs _ _).mono
    (fun r h => ⟨fun c => (h c).2.2.2.2, sem_eq_zero_of_no_sems (by decide) r.2⟩) (Cert.RowConvBwdRefIdeal.Value.run m ρ)

set_option maxRecDepth 16384 in
theorem algebraic : Cert.algebraic_RowConvBwdIdeal_RowConvBwdRefIdeal (hRowConvBwdIdeal := facts)
    (hRowConvBwdRefIdeal := Cert.RowConvBwdRefIdeal.Gen.facts) :=
  fun m ρ m' ρ' _ h => ⟨back m, gains m, biases m, plain m,
    (θ_run defs _ _).mono (fun _ r c => ⟨(r c).1.trans (back_blocks m c), (r c).2.1.trans (gain_sums m c),
      (r c).2.2.1.trans (bias_sums m c), (r c).2.2.2.1.trans (plain_sums m c), (r c).2.2.2.2⟩)
      (Cert.RowConvBwdIdeal.Value.run_blocks m ρ),
    (θ_run Cert.RowConvBwdRefIdeal.defs _ _).mono (fun _ r c => by
      obtain ⟨h0, h1, h2, h3, h4⟩ := h c
      have e := fun f => congr (congr (congrArg₂ (rowwise (n := 8192) f) h0 h1) h3) h4
      refine ⟨(r c).1.trans (Eq.trans ?_ (e _)), (r c).2.1.trans (Eq.trans ?_ (congrArg total (e _))),
        (r c).2.2.1.trans (Eq.trans ?_ (congrArg total (e _))),
        (r c).2.2.2.1.trans (Eq.trans ?_ (congrArg (total (n := 8192) (w := 1024)) h2)), (r c).2.2.2.2⟩
      · exact funext fun j : S8192x1024.Idx => by
          pointwise [Cert.RowConvBwdRefIdeal.Value.res_main_v59, centreBack, evenBack, bulk, slope, biasBack, even, off, inv, mean,
            row, Ideal.logistic, zero_sub]
      · exact funext fun j : S1x1024.Idx => by
          pointwise [Cert.RowConvBwdRefIdeal.Value.res_main_v33, total, rowwise, gainBack, biasBack, even, off, inv, mean, row,
            Ideal.logistic]
      · exact funext fun j : S1x1024.Idx => by
          pointwise [Cert.RowConvBwdRefIdeal.Value.res_main_v30, total, rowwise, biasBack, even, off, inv, mean, row,
            Ideal.logistic]
      · exact funext fun j : S1x1024.Idx => by pointwise [total])
      (Cert.RowConvBwdRefIdeal.Value.run m' ρ')⟩

end ConvBwd

end Cert.Rows

end
-- ==== Proof.MidBackClaims.lean ====
/-
  The residual after the mixer and the norm of the feed-forward's input, backwards. The row between the two norms is made again
  on the way: `between` is its gradient, and the gradients before the first norm and of the vectors are made of that.
-/
module

public import proofs.«01_k».proof.Proof.RowBackClaims
public import proofs.«01_k».proof.Proof.Gen.MidBwd
public import proofs.«01_k».proof.Proof.Gen.MidBwdIdeal.Value
public import proofs.«01_k».proof.Proof.Gen.MidBwdRefIdeal.Run

@[expose] public section

set_option Elab.async false

noncomputable section

namespace Cert.Rows

open Idealize.ShloMosaic
open Idealize.ShloMosaic.TcCoe
open Idealize.SL.Sem

/-! ## What becomes of a row -/

/-- The gradient of a row `r` that goes on as it is and through its modulated norm, from the gradients `d` and `u` of the two. -/
def preBack (r u b g d : Fin 1024 → EReal) (j : Fin 1024) : EReal :=
  d j + u j * (1 + b j) * g j * inv (∑ x, r x * r x) + r j * (∑ _ : Fin 1, slope r fun x => u x * (1 + b x) * g x)
    + (∑ _ : Fin 1, slope r fun x => u x * (1 + b x) * g x) * r j

/-- What a row gives the gradient of that norm's weight. -/
def preGain (r u b _g : Fin 1024 → EReal) (j : Fin 1024) : EReal := r j * inv (∑ x, r x * r x) * (u j * (1 + b j))

/-- What a row gives the gradient of that norm's scale. -/
def preScale (r u _b g : Fin 1024 → EReal) (j : Fin 1024) : EReal := r j * inv (∑ x, r x * r x) * g j * u j

abbrev preBacked {n : ℕ} (r u : Arr n 1024) (b g : Arr 1 1024) (d : Arr n 1024) (i : Shape.Idx ⟨2, ![n, 1024]⟩) : EReal :=
  preBack (row r (i 0)) (row u (i 0)) (row b 0) (row g 0) (row d (i 0)) (i 1)

/-! The same for arrays: `h` and the mixer's result `m` through the gate `s` and the norm `p`, then through the norm `q` with
the scale `b`. -/

section Arrays

variable {n : ℕ} (h m d u : Arr n 1024) (s p q b : Arr 1 1024)

abbrev between : Arr n 1024 := preBacked (added h m s p) u b q d

abbrev before (f : (r d s g : Fin 1024 → EReal) → Fin 1024 → EReal) : Arr n 1024 := rowwise f m (between h m d u s p q b) s p

abbrev after (f : (r d s g : Fin 1024 → EReal) → Fin 1024 → EReal) : Arr n 1024 := rowwise f (added h m s p) u b q

end Arrays

section Blocks

variable {n N : ℕ} {h m d u : Arr n 1024} {H M D U : Arr N 1024} {s p q b S P Q B : Arr 1 1024}
  {y : Shape.Idx ⟨2, ![n, 1024]⟩} {z : Shape.Idx ⟨2, ![N, 1024]⟩}
  (hh : ∀ x, h (ix2 (y 0) x) = H (ix2 (z 0) x)) (hm : ∀ x, m (ix2 (y 0) x) = M (ix2 (z 0) x))
  (hd : ∀ x, d (ix2 (y 0) x) = D (ix2 (z 0) x)) (hu : ∀ x, u (ix2 (y 0) x) = U (ix2 (z 0) x))
  (hs : ∀ x, s (ix2 0 x) = S (ix2 0 x)) (hp : ∀ x, p (ix2 0 x) = P (ix2 0 x)) (hq : ∀ x, q (ix2 0 x) = Q (ix2 0 x))
  (hb : ∀ x, b (ix2 0 x) = B (ix2 0 x)) (e : (y 1 : Fin 1024) = z 1)

include hh hm hs hp in
theorem added_row (x : Fin 1024) : added h m s p (ix2 (y 0) x) = added H M S P (ix2 (z 0) x) :=
  added_block (y := ix2 (y 0) x) (z := ix2 (z 0) x) hh hm hs hp rfl

include hh hm hd hu hs hp hq hb e in
theorem between_block : between h m d u s p q b y = between H M D U S P Q B z :=
  congr (congr (congr (congr (congrArg₂ preBack (funext (added_row hh hm hs hp)) (funext hu)) (funext hb)) (funext hq)) (funext hd)) e

include hh hm hd hu hs hp hq hb e in
theorem before_block (f : (r d s g : Fin 1024 → EReal) → Fin 1024 → EReal) :
    before h m d u s p q b f y = before H M D U S P Q B f z :=
  rowwise_block hm (fun x => between_block (y := ix2 (y 0) x) (z := ix2 (z 0) x) hh hm hd hu hs hp hq hb rfl) hs hp e

include hh hm hu hs hp hq hb e in
theorem after_block (f : (r d s g : Fin 1024 → EReal) → Fin 1024 → EReal) :
    after h m u s p q b f y = after H M U S P Q B f z :=
  rowwise_block (added_row hh hm hs hp) hu hb hq e

end Blocks

/-! ## The reference -/

namespace MidBwdRef

open Cert.MidBwdRefIdeal Cert.MidBwdRefIdeal.Gen Cert.MidBwdRefIdeal.Value

section Arrays

variable (h m r d u g : FVec Ideal S8192x1024 .f32) (s p q b : FVec Ideal S1x1024 .f32)

/-! The reference's operations on whole arrays, as its results contain them. -/

abbrev onRows : FVec Ideal S8192x1024 .f32 := broadcastInDim S8192x1024 ![0, 1] bcast_S1x1024_S8192x1024_0_1 s

abbrev onColumns (x : FVec Ideal S8192x1 .f32) : FVec Ideal S8192x1024 .f32 :=
  broadcastInDim S8192x1024 ![0, 1] bcast_S8192x1_S8192x1024_0_1 x

abbrev constants (x : BitVec 32) : FVec Ideal S8192x1 .f32 := broadcastInDim S8192x1 ![] bcast_S_S8192x1 (constant S_ .f32 x)

abbrev sumsOver : FVec Ideal S8192 .f32 :=
  Host.reduceAdd r (constant S_ .f32 0x00000000#32) reducesTo_S8192x1024_S8192_d1 h_S_

abbrev squares : FVec Ideal S8192x1 .f32 :=
  addf (Host.divf (broadcastInDim S8192x1 ![0] bcast_S8192_S8192x1_0 (sumsOver (mulf r r))) (constants 0x44800000#32))
    (constants 0x358637BD#32)

abbrev slopes : FVec Ideal S8192x1024 .f32 :=
  broadcastInDim S8192x1024 ![0] bcast_S8192_S8192x1024_0 (Host.reduceAdd
    (Host.divf (mulf (shapeCast _ (sumsOver (mulf r g)) shapeCasts_S8192_S8192x1)
      (mulf (constants 0xBF000000#32) (Host.divf (Host.rsqrt (squares r)) (squares r)))) (constants 0x44800000#32))
    (constant S_ .f32 0x00000000#32) reducesTo_S8192x1_S8192_d1 h_S_)

abbrev upper : FVec Ideal S8192x1024 .f32 :=
  mulf (mulf (shapeCast _ u shapeCasts_S8192x1024_S8192x1024)
    (onRows (addf (broadcastInDim S1x1024 ![] bcast_S_S1x1024 (constant S_ .f32 0x3F800000#32)) b))) (onRows q)

theorem added_eq : addf h (mulf (onRows s) (mulf (mulf m (onColumns (Host.rsqrt (squares m)))) (onRows p))) = added h m s p :=
  funext fun j : S8192x1024.Idx => by
    pointwise [onRows, onColumns, constants, sumsOver, squares, post, inv, mean, row]

theorem back_eq : addf (addf (addf d (mulf (upper u q b) (onColumns (Host.rsqrt (squares r))))) (mulf r (slopes r (upper u q b))))
    (mulf (slopes r (upper u q b)) r) = preBacked r u b q d :=
  funext fun j : S8192x1024.Idx => by
    pointwise [onRows, onColumns, constants, sumsOver, squares, slopes, upper, preBacked, preBack, slope, inv, mean, row]

end Arrays

variable (M : (ℓ : Loc nD τ sig) → Buf (Elt Ideal) ℓ) (c : Dev nD)

abbrev betweens : FVec Ideal S8192x1024 .f32 :=
  between (n := 8192) (M (c.tc.loc main_arg0)) (M (c.tc.loc main_arg1)) (M (c.tc.loc main_arg2)) (M (c.tc.loc main_arg3))
    (M (c.tc.loc main_arg4)) (M (c.tc.loc main_arg5)) (M (c.tc.loc main_arg6)) (M (c.tc.loc main_arg8))

abbrev befores (f : (r d s g : Fin 1024 → EReal) → Fin 1024 → EReal) : FVec Ideal S8192x1024 .f32 :=
  rowwise (n := 8192) f (M (c.tc.loc main_arg1)) (betweens M c) (M (c.tc.loc main_arg4)) (M (c.tc.loc main_arg5))

theorem between_eq : res_main_v66 M c = betweens M c := by
  unfold res_main_v66 betweens between
  rw [added_eq]
  exact back_eq _ _ _ _ _

abbrev scaled : FVec Ideal S8192x1024 .f32 :=
  mulf (mulf (onRows (M (c.tc.loc main_arg4))) (shapeCast _ (res_main_v66 M c) shapeCasts_S8192x1024_S8192x1024))
    (onRows (M (c.tc.loc main_arg5)))

abbrev normed : FVec Ideal S8192x1024 .f32 :=
  mulf (M (c.tc.loc main_arg1)) (onColumns (Host.rsqrt (squares (M (c.tc.loc main_arg1)))))

theorem before_at : res_main_v91 M c
    = addf (addf (mulf (scaled M c) (onColumns (Host.rsqrt (squares (M (c.tc.loc main_arg1))))))
      (mulf (M (c.tc.loc main_arg1)) (slopes (M (c.tc.loc main_arg1)) (scaled M c))))
      (mulf (slopes (M (c.tc.loc main_arg1)) (scaled M c)) (M (c.tc.loc main_arg1))) := by
  unfold res_main_v91 scaled res_main_v66
  rfl

theorem gate_at : res_main_v72 M c
    = shapeCast _ (Host.reduceAdd (mulf (shapeCast _ (res_main_v66 M c) shapeCasts_S8192x1024_S8192x1024)
      (mulf (normed M c) (onRows (M (c.tc.loc main_arg5)))))
      (constant S_ .f32 0x00000000#32) reducesTo_S8192x1024_S1024_d0 h_S_) shapeCasts_S1024_S1x1024 := by
  unfold res_main_v72 res_main_v66
  rfl

theorem gain_at : res_main_v75 M c
    = shapeCast _ (Host.reduceAdd (mulf (normed M c)
      (mulf (onRows (M (c.tc.loc main_arg4))) (shapeCast _ (res_main_v66 M c) shapeCasts_S8192x1024_S8192x1024)))
      (constant S_ .f32 0x00000000#32) reducesTo_S8192x1024_S1024_d0 h_S_) shapeCasts_S1024_S1x1024 := by
  unfold res_main_v75 res_main_v66
  rfl

theorem before_eq : res_main_v91 M c = befores M c postBack := by
  rw [before_at]
  unfold scaled befores
  rw [between_eq]
  generalize betweens M c = D
  exact funext fun j : S8192x1024.Idx => by
    pointwise [onRows, onColumns, constants, sumsOver, squares, slopes, postBack, slope, inv, mean, row]

theorem gate_eq : res_main_v72 M c = total (n := 8192) (befores M c fun r d _ g => postGate r d g) := by
  rw [gate_at]
  unfold befores
  rw [between_eq]
  generalize betweens M c = D
  exact funext fun j : S1x1024.Idx => by
    pointwise [onRows, onColumns, constants, sumsOver, squares, normed, total, rowwise, postGate, inv, mean, row]

theorem gain_eq : res_main_v75 M c = total (n := 8192) (befores M c fun r d s _ => postGain r d s) := by
  rw [gain_at]
  unfold befores
  rw [between_eq]
  generalize betweens M c = D
  exact funext fun j : S1x1024.Idx => by
    pointwise [onRows, onColumns, constants, sumsOver, squares, normed, total, rowwise, postGain, inv, mean, row]

end MidBwdRef

/-! ## The kernel -/

namespace MidBwd

open Cert.MidBwdIdeal Cert.MidBwdIdeal.Gen

variable (h m d u : FVec Ideal S256x1024 .f32) (s p q b : FVec Ideal S1x1024 .f32)

theorem added_pay : k0_pay12 (F := Ideal) h m s p = added h m s p :=
  funext fun j : S256x1024.Idx => by pointwise [k0_pay12, k0_pay11, k0_pay10, k0_pay8, k0_pay7, post, inv, mean, row]

set_option maxRecDepth 16384 in
theorem between_pay : k0_pay22 (F := Ideal) d u q b (k0_pay12 h m s p) (k0_pay14 h m s p) (k0_pay15 h m s p)
    (Scalar.ofBits .f32 0xBF000000#32) = between h m d u s p q b := by
  unfold k0_pay15 k0_pay14 k0_pay13 between
  rw [added_pay]
  generalize added h m s p = r
  exact funext fun j : S256x1024.Idx => by
    pointwise [k0_pay22, k0_pay20, k0_pay17, preBacked, preBack, slope, inv, mean, row]

set_option maxRecDepth 16384 in
theorem before_pay : k0_pay1 (F := Ideal) m (k0_pay8 m) (k0_pay9 m)
    (k0_pay27 d u s p q b (k0_pay12 h m s p) (k0_pay14 h m s p) (k0_pay15 h m s p) (Scalar.ofBits .f32 0xBF000000#32))
    (k0_pay28 m d u s p q b (k0_pay12 h m s p) (k0_pay14 h m s p) (k0_pay15 h m s p) (Scalar.ofBits .f32 0xBF000000#32))
      = before h m d u s p q b postBack := by
  unfold k0_pay28 k0_pay27 k0_pay24 k0_pay23
  rw [between_pay]
  unfold before
  generalize between h m d u s p q b = D
  exact funext fun j : S256x1024.Idx => by pointwise [k0_pay1, k0_pay9, k0_pay8, k0_pay7, postBack, slope, inv, mean, row]

theorem gate_part (j : S1x1024.Idx) : k0_pay25 (F := Ideal) d u q b (k0_pay11 m p) (k0_pay12 h m s p) (k0_pay14 h m s p)
    (k0_pay15 h m s p) (Scalar.ofBits .f32 0xBF000000#32) j
      = total (n := 256) (before h m d u s p q b fun r d _ g => postGate r d g) j := by
  unfold k0_pay25 k0_pay23
  rw [between_pay]
  unfold before
  generalize between h m d u s p q b = D
  pointwise [k0_pay11, k0_pay10, k0_pay8, k0_pay7, total, rowwise, postGate, inv, mean, row]

theorem gain_part (j : S1x1024.Idx) : k0_pay26 (F := Ideal) d u s q b (k0_pay10 m) (k0_pay12 h m s p) (k0_pay14 h m s p)
    (k0_pay15 h m s p) (Scalar.ofBits .f32 0xBF000000#32) j
      = total (n := 256) (before h m d u s p q b fun r d s _ => postGain r d s) j := by
  unfold k0_pay26 k0_pay24 k0_pay23
  rw [between_pay]
  unfold before
  generalize between h m d u s p q b = D
  pointwise [k0_pay10, k0_pay8, k0_pay7, total, rowwise, postGain, inv, mean, row]

theorem pre_gain_part (j : S1x1024.Idx) : k0_pay21 (F := Ideal) u b (k0_pay12 h m s p) (k0_pay14 h m s p) j
    = total (n := 256) (after h m u s p q b preGain) j := by
  unfold k0_pay14 k0_pay13 after
  rw [added_pay]
  generalize added h m s p = r
  pointwise [k0_pay21, k0_pay20, k0_pay17, k0_pay16, total, rowwise, preGain, inv, mean, row]

theorem pre_scale_part (j : S1x1024.Idx) : k0_pay19 (F := Ideal) u q (k0_pay12 h m s p) (k0_pay14 h m s p) j
    = total (n := 256) (after h m u s p q b preScale) j := by
  unfold k0_pay14 k0_pay13 after
  rw [added_pay]
  generalize added h m s p = r
  pointwise [k0_pay19, k0_pay17, k0_pay16, total, rowwise, preScale, inv, mean, row]

theorem shift_part (j : S1x1024.Idx) : k0_pay18 (F := Ideal) u j = total (n := 256) (w := 1024) u j := by
  pointwise [k0_pay18, total]

theorem later (x y : FVec Ideal S1x1024 .f32) (j : S1x1024.Idx) : k0_pay2 (F := Ideal) x y j = y j + x j := by pointwise [k0_pay2]

theorem idx : ∀ t : Fin cfg0.N, (win0_0.index t = ![t.val, 0] ∧ win0_1.index t = ![t.val, 0] ∧ win0_2.index t = ![t.val, 0]
    ∧ win0_3.index t = ![t.val, 0]) ∧ (win0_4.index t = ![0, 0] ∧ win0_5.index t = ![0, 0] ∧ win0_6.index t = ![0, 0]
    ∧ win0_8.index t = ![0, 0]) ∧ win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

section Arguments

variable (M : (ℓ : Loc nD τ sig) → Buf (Elt Ideal) ℓ) (c : Dev nD)

abbrev betweens : FVec Ideal S8192x1024 .f32 :=
  between (n := 8192) (M ((c : Thread nD τ).loc main_arg0)) (M ((c : Thread nD τ).loc main_arg1))
    (M ((c : Thread nD τ).loc main_arg2)) (M ((c : Thread nD τ).loc main_arg3)) (M ((c : Thread nD τ).loc main_arg4))
    (M ((c : Thread nD τ).loc main_arg5)) (M ((c : Thread nD τ).loc main_arg6)) (M ((c : Thread nD τ).loc main_arg8))

abbrev befores (f : (r d s g : Fin 1024 → EReal) → Fin 1024 → EReal) : FVec Ideal S8192x1024 .f32 :=
  before (n := 8192) (M ((c : Thread nD τ).loc main_arg0)) (M ((c : Thread nD τ).loc main_arg1))
    (M ((c : Thread nD τ).loc main_arg2)) (M ((c : Thread nD τ).loc main_arg3)) (M ((c : Thread nD τ).loc main_arg4))
    (M ((c : Thread nD τ).loc main_arg5)) (M ((c : Thread nD τ).loc main_arg6)) (M ((c : Thread nD τ).loc main_arg8)) f

abbrev afters (f : (r d s g : Fin 1024 → EReal) → Fin 1024 → EReal) : FVec Ideal S8192x1024 .f32 :=
  after (n := 8192) (M ((c : Thread nD τ).loc main_arg0)) (M ((c : Thread nD τ).loc main_arg1))
    (M ((c : Thread nD τ).loc main_arg3)) (M ((c : Thread nD τ).loc main_arg4)) (M ((c : Thread nD τ).loc main_arg5))
    (M ((c : Thread nD τ).loc main_arg6)) (M ((c : Thread nD τ).loc main_arg8)) f

abbrev gates : FVec Ideal S1x1024 .f32 := total (n := 8192) (befores M c fun r d _ g => postGate r d g)

abbrev gains : FVec Ideal S1x1024 .f32 := total (n := 8192) (befores M c fun r d s _ => postGain r d s)

abbrev preGains : FVec Ideal S1x1024 .f32 := total (n := 8192) (afters M c preGain)

abbrev shifts : FVec Ideal S1x1024 .f32 := total (n := 8192) (w := 1024) (M ((c : Thread nD τ).loc main_arg3))

abbrev scales : FVec Ideal S1x1024 .f32 := total (n := 8192) (afters M c preScale)

/-! A block of rows is the whole array's, whatever is made of a row. -/

section Block

variable (t : Fin cfg0.N)

abbrev beforesAt (f : (r d s g : Fin 1024 → EReal) → Fin 1024 → EReal) : FVec Ideal S256x1024 .f32 :=
  before (n := 256) (iblk M c 0 t) (iblk M c 1 t) (iblk M c 2 t) (iblk M c 3 t) (iblk M c 4 t) (iblk M c 5 t) (iblk M c 6 t)
    (iblk M c 8 t) f

abbrev aftersAt (f : (r d s g : Fin 1024 → EReal) → Fin 1024 → EReal) : FVec Ideal S256x1024 .f32 :=
  after (n := 256) (iblk M c 0 t) (iblk M c 1 t) (iblk M c 3 t) (iblk M c 4 t) (iblk M c 5 t) (iblk M c 6 t) (iblk M c 8 t) f

variable {y : S256x1024.Idx} {z : S8192x1024.Idx} (h0 : t.val * 256 + (y 0).val = (z 0).val)
  (h1 : (y 1).val = (z 1).val)

include h0 h1

theorem betweens_block : between (n := 256) (iblk M c 0 t) (iblk M c 1 t) (iblk M c 2 t) (iblk M c 3 t) (iblk M c 4 t) (iblk M c 5 t)
    (iblk M c 6 t) (iblk M c 8 t) y = betweens M c z := by
  refine between_block (y := y) (z := z)
    (fun x => ?_) (fun x => ?_) (fun x => ?_) (fun x => ?_) (fun x => ?_) (fun x => ?_) (fun x => ?_) (fun x => ?_) (Fin.ext h1)
  all_goals blk_point [iblk, V, idx t, h0]

theorem befores_block (f : (r d s g : Fin 1024 → EReal) → Fin 1024 → EReal) :
    beforesAt M c t f y = befores M c f z := by
  refine before_block (y := y) (z := z)
    (fun x => ?_) (fun x => ?_) (fun x => ?_) (fun x => ?_) (fun x => ?_) (fun x => ?_) (fun x => ?_) (fun x => ?_) (Fin.ext h1) f
  all_goals blk_point [iblk, V, idx t, h0]

theorem afters_block (f : (r d s g : Fin 1024 → EReal) → Fin 1024 → EReal) :
    aftersAt M c t f y = afters M c f z := by
  refine after_block (y := y) (z := z)
    (fun x => ?_) (fun x => ?_) (fun x => ?_) (fun x => ?_) (fun x => ?_) (fun x => ?_) (fun x => ?_) (Fin.ext h1) f
  all_goals blk_point [iblk, V, idx t, h0]

end Block

theorem between_blocks : (dats M 0 c).arrAt 9 cfg0.N = betweens M c := by
  refine (dats M 0 c).arrAt_eq_of_covers 9 _ (by decide +kernel) fun t hf y => ?_
  blk_simp
  have e : (outsAt0 M c t.val t.isLt).1 = between (n := 256) (iblk M c 0 t) (iblk M c 1 t) (iblk M c 2 t) (iblk M c 3 t)
      (iblk M c 4 t) (iblk M c 5 t) (iblk M c 6 t) (iblk M c 8 t) := by
    refine Eq.trans ?_ (between_pay _ _ _ _ _ _ _ _)
    by_cases h : t.val % 32 = 0
    · have : t.val < 32 := t.isLt
      rw [outsAt0_A M c t h (by omega)]; exact funext fun j => by frame_out
    · rw [outsAt0_B M c t h (by omega)]; exact funext fun j => by frame_out
  rw [after0_9, e]
  exact betweens_block M c t (by blk_simp [idx t]) (by blk_simp [idx t])

theorem before_blocks : (dats M 0 c).arrAt 10 cfg0.N = befores M c postBack := by
  refine (dats M 0 c).arrAt_eq_of_covers 10 _ (by decide +kernel) fun t hf y => ?_
  blk_simp
  have e : (outsAt0 M c t.val t.isLt).2.1 = beforesAt M c t postBack := by
    refine Eq.trans ?_ (before_pay _ _ _ _ _ _ _ _)
    by_cases h : t.val % 32 = 0
    · have : t.val < 32 := t.isLt
      rw [outsAt0_A M c t h (by omega)]; exact funext fun j => by frame_out
    · rw [outsAt0_B M c t h (by omega)]; exact funext fun j => by frame_out
  rw [after0_10, e]
  exact befores_block M c t (by blk_simp [idx t]) (by blk_simp [idx t]) _

theorem gate_sums : (dats M 0 c).arrAt 11 cfg0.N = gates M c := by
  refine (dats M 0 c).arrAt_eq_of_covers 11 _ (by decide +kernel) fun t hf y => ?_
  have h1 := (flush0_11 t).mp hf
  blk_simp
  rw [after0_11]
  refine total_of_blocks (fun n h => (outsAt0 M c n h).2.2.1) (p := fun t => beforesAt M c t (fun r d _ g => postGate r d g))
    (P := befores M c (fun r d _ g => postGate r d g))
    (fun t h j => by
      have : t.val < 32 := t.isLt
      rw [outsAt0_A M c t h (by omega)]; frame_out
      exact gate_part (iblk M c 0 t) (iblk M c 1 t) (iblk M c 2 t) (iblk M c 3 t)
        (iblk M c 4 t) (iblk M c 5 t) (iblk M c 6 t) (iblk M c 8 t) j)
    (fun t h j => by
      rw [outsAt0_B M c t h (by omega)]; frame_out
      exact (later _ _ j).trans (congrArg _ (gate_part (iblk M c 0 t) (iblk M c 1 t) (iblk M c 2 t) (iblk M c 3 t)
        (iblk M c 4 t) (iblk M c 5 t) (iblk M c 6 t) (iblk M c 8 t) j)))
    t h1 fun s k hl => befores_block M c ⟨_, Pipeline.run_point_lt_of_flush t h1 s⟩ (y := ix2 k (y 1))
      (z := ix2 ⟨s.val * 256 + k.val, hl⟩ _) ?_ ?_ _
  · have : t.val < 32 := t.isLt
    show (32 * (t.val / 32) + s.val) * 256 + k.val = s.val * 256 + k.val
    omega
  · blk_simp [idx t]

theorem gain_sums : (dats M 0 c).arrAt 12 cfg0.N = gains M c := by
  refine (dats M 0 c).arrAt_eq_of_covers 12 _ (by decide +kernel) fun t hf y => ?_
  have h1 := (flush0_12 t).mp hf
  blk_simp
  rw [after0_12]
  refine total_of_blocks (fun n h => (outsAt0 M c n h).2.2.2.1) (p := fun t => beforesAt M c t (fun r d s _ => postGain r d s))
    (P := befores M c (fun r d s _ => postGain r d s))
    (fun t h j => by
      have : t.val < 32 := t.isLt
      rw [outsAt0_A M c t h (by omega)]; frame_out
      exact gain_part (iblk M c 0 t) (iblk M c 1 t) (iblk M c 2 t) (iblk M c 3 t)
        (iblk M c 4 t) (iblk M c 5 t) (iblk M c 6 t) (iblk M c 8 t) j)
    (fun t h j => by
      rw [outsAt0_B M c t h (by omega)]; frame_out
      exact (later _ _ j).trans (congrArg _ (gain_part (iblk M c 0 t) (iblk M c 1 t) (iblk M c 2 t) (iblk M c 3 t)
        (iblk M c 4 t) (iblk M c 5 t) (iblk M c 6 t) (iblk M c 8 t) j)))
    t h1 fun s k hl => befores_block M c ⟨_, Pipeline.run_point_lt_of_flush t h1 s⟩ (y := ix2 k (y 1))
      (z := ix2 ⟨s.val * 256 + k.val, hl⟩ _) ?_ ?_ _
  · have : t.val < 32 := t.isLt
    show (32 * (t.val / 32) + s.val) * 256 + k.val = s.val * 256 + k.val
    omega
  · blk_simp [idx t]

theorem pre_gain_sums : (dats M 0 c).arrAt 13 cfg0.N = preGains M c := by
  refine (dats M 0 c).arrAt_eq_of_covers 13 _ (by decide +kernel) fun t hf y => ?_
  have h1 := (flush0_13 t).mp hf
  blk_simp
  rw [after0_13]
  refine total_of_blocks (fun n h => (outsAt0 M c n h).2.2.2.2.1) (p := fun t => aftersAt M c t preGain)
    (P := afters M c preGain)
    (fun t h j => by
      have : t.val < 32 := t.isLt
      rw [outsAt0_A M c t h (by omega)]; frame_out
      exact pre_gain_part (iblk M c 0 t) (iblk M c 1 t) (iblk M c 3 t)
        (iblk M c 4 t) (iblk M c 5 t) (iblk M c 6 t) (iblk M c 8 t) j)
    (fun t h j => by
      rw [outsAt0_B M c t h (by omega)]; frame_out
      exact (later _ _ j).trans (congrArg _ (pre_gain_part (iblk M c 0 t) (iblk M c 1 t) (iblk M c 3 t)
        (iblk M c 4 t) (iblk M c 5 t) (iblk M c 6 t) (iblk M c 8 t) j)))
    t h1 fun s k hl => afters_block M c ⟨_, Pipeline.run_point_lt_of_flush t h1 s⟩ (y := ix2 k (y 1))
      (z := ix2 ⟨s.val * 256 + k.val, hl⟩ _) ?_ ?_ _
  · have : t.val < 32 := t.isLt
    show (32 * (t.val / 32) + s.val) * 256 + k.val = s.val * 256 + k.val
    omega
  · blk_simp [idx t]

theorem shift_sums : (dats M 0 c).arrAt 14 cfg0.N = shifts M c := by
  refine (dats M 0 c).arrAt_eq_of_covers 14 _ (by decide +kernel) fun t hf y => ?_
  have h1 := (flush0_14 t).mp hf
  blk_simp
  rw [after0_14]
  refine total_of_blocks (fun n h => (outsAt0 M c n h).2.2.2.2.2.1) (p := fun t => iblk M c 3 t)
    (fun t h j => by
      have : t.val < 32 := t.isLt
      rw [outsAt0_A M c t h (by omega)]; frame_out; exact shift_part _ j)
    (fun t h j => by
      rw [outsAt0_B M c t h (by omega)]; frame_out; exact (later _ _ j).trans (congrArg _ (shift_part _ j)))
    t h1 fun s k hl => ?_
  blk_point [iblk, V, idx t, idx ⟨_, Pipeline.run_point_lt_of_flush t h1 s⟩]

theorem scale_sums : (dats M 0 c).arrAt 15 cfg0.N = scales M c := by
  refine (dats M 0 c).arrAt_eq_of_covers 15 _ (by decide +kernel) fun t hf y => ?_
  have h1 := (flush0_15 t).mp hf
  blk_simp
  rw [after0_15]
  refine total_of_blocks (fun n h => (outsAt0 M c n h).2.2.2.2.2.2) (p := fun t => aftersAt M c t preScale)
    (P := afters M c preScale)
    (fun t h j => by
      have : t.val < 32 := t.isLt
      rw [outsAt0_A M c t h (by omega)]; frame_out
      exact pre_scale_part (iblk M c 0 t) (iblk M c 1 t) (iblk M c 3 t)
        (iblk M c 4 t) (iblk M c 5 t) (iblk M c 6 t) (iblk M c 8 t) j)
    (fun t h j => by
      rw [outsAt0_B M c t h (by omega)]; frame_out
      exact (later _ _ j).trans (congrArg _ (pre_scale_part (iblk M c 0 t) (iblk M c 1 t) (iblk M c 3 t)
        (iblk M c 4 t) (iblk M c 5 t) (iblk M c 6 t) (iblk M c 8 t) j)))
    t h1 fun s k hl => afters_block M c ⟨_, Pipeline.run_point_lt_of_flush t h1 s⟩ (y := ix2 k (y 1))
      (z := ix2 ⟨s.val * 256 + k.val, hl⟩ _) ?_ ?_ _
  · have : t.val < 32 := t.isLt
    show (32 * (t.val / 32) + s.val) * 256 + k.val = s.val * 256 + k.val
    omega
  · blk_simp [idx t]

end Arguments

set_option smartUnfolding false in
theorem kernel_frame : Cert.quiescent_MidBwd (hMidBwd := Cert.MidBwd.Gen.facts) := fun m ρ _ => by
  with_unfolding_all exact frame (F := Bits) m ρ

theorem ideal_frame : Cert.quiescent_MidBwdIdeal (hMidBwdIdeal := facts) := fun m ρ _ => frame m ρ

theorem reference_frame : Cert.quiescent_MidBwdRefIdeal (hMidBwdRefIdeal := Cert.MidBwdRefIdeal.Gen.facts) :=
  fun m ρ _ => (θ_run Cert.MidBwdRefIdeal.defs _ _).mono
    (fun r h => ⟨fun c => (h c).2.2.2.2.2.2.2, sem_eq_zero_of_no_sems (by decide) r.2⟩) (Cert.MidBwdRefIdeal.Value.run m ρ)

set_option maxRecDepth 16384 in
theorem algebraic : Cert.algebraic_MidBwdIdeal_MidBwdRefIdeal (hMidBwdIdeal := facts)
    (hMidBwdRefIdeal := Cert.MidBwdRefIdeal.Gen.facts) :=
  fun m ρ m' ρ' _ h => ⟨betweens m, fun c => befores m c postBack, gates m, gains m, preGains m, shifts m, scales m,
    (θ_run defs _ _).mono (fun _ r c => ⟨(r c).1.trans (between_blocks m c), (r c).2.1.trans (before_blocks m c),
      (r c).2.2.1.trans (gate_sums m c), (r c).2.2.2.1.trans (gain_sums m c), (r c).2.2.2.2.1.trans (pre_gain_sums m c),
      (r c).2.2.2.2.2.1.trans (shift_sums m c), (r c).2.2.2.2.2.2.1.trans (scale_sums m c), (r c).2.2.2.2.2.2.2⟩)
      (Cert.MidBwdIdeal.Value.run_blocks m ρ),
    (θ_run Cert.MidBwdRefIdeal.defs _ _).mono (fun _ r c => by
      obtain ⟨h0, h1, h2, h3, h4, h5, h6, -, h8⟩ := h c
      have e := congr (congr (congr (congr (congr (congr (congrArg₂ (between (n := 8192)) h0 h1) h2) h3) h4) h5) h6) h8
      have b := fun f => congr (congr (congr (congrArg (rowwise (n := 8192) f) h1) e) h4) h5
      have a := fun f => congr (congr (congr (congrArg (rowwise (n := 8192) f)
        (congr (congr (congrArg₂ (added (n := 8192)) h0 h1) h4) h5)) h3) h8) h6
      refine ⟨(r c).1.trans (Eq.trans ?_ e), (r c).2.1.trans (Eq.trans ?_ (b _)),
        (r c).2.2.1.trans (Eq.trans ?_ (congrArg (total (n := 8192)) (b fun r d _ g => postGate r d g))),
        (r c).2.2.2.1.trans (Eq.trans ?_ (congrArg (total (n := 8192)) (b fun r d s _ => postGain r d s))),
        (r c).2.2.2.2.1.trans (Eq.trans ?_ (congrArg (total (n := 8192)) (a preGain))),
        (r c).2.2.2.2.2.1.trans (Eq.trans ?_ (congrArg (total (n := 8192) (w := 1024)) h3)),
        (r c).2.2.2.2.2.2.1.trans (Eq.trans ?_ (congrArg (total (n := 8192)) (a preScale))), (r c).2.2.2.2.2.2.2⟩
      · exact MidBwdRef.between_eq m' c
      · exact MidBwdRef.before_eq m' c
      · exact MidBwdRef.gate_eq m' c
      · exact MidBwdRef.gain_eq m' c
      · rw [MidBwdRef.added_eq]
        generalize added (n := 8192) _ _ _ _ = r
        exact funext fun j : S1x1024.Idx => by pointwise [total, rowwise, preGain, inv, mean, row]
      · exact funext fun j : S1x1024.Idx => by pointwise [total]
      · rw [MidBwdRef.added_eq]
        generalize added (n := 8192) _ _ _ _ = r
        exact funext fun j : S1x1024.Idx => by pointwise [total, rowwise, preScale, inv, mean, row])
      (Cert.MidBwdRefIdeal.Value.run m' ρ')⟩

end MidBwd

end Cert.Rows

end
-- ==== Proof.MatricesClaims.lean ====
/-
  The matrices of the S5 layer's recurrence, made of its rates, its step lengths and its input matrix. Every number is a function
  of one row's rates and step length and of the two parts of the input matrix's entry.
-/
module

public import proofs.«01_k».proof.Proof.RowClaims
public import proofs.«01_k».proof.Proof.Gen.Matrices
public import proofs.«01_k».proof.Proof.Gen.MatricesIdeal.Value
public import proofs.«01_k».proof.Proof.Gen.MatricesRefIdeal.Run

@[expose] public section

set_option Elab.async false

noncomputable section

namespace Cert.Rows.Matrices

open Idealize.ShloMosaic
open Idealize.ShloMosaic.TcCoe
open Idealize.SL.Sem
open Cert.MatricesIdeal Cert.MatricesIdeal.Gen

/-! ## What becomes of a row -/

/-- The recurrence's factor, its real part and its imaginary part: `x` and `y` are the rate's parts and `l` the step's logarithm. -/
def real (x y l : EReal) : EReal := Ideal.exp (x * Ideal.exp l) * Ideal.cos (y * Ideal.exp l)

def imag (x y l : EReal) : EReal := Ideal.exp (x * Ideal.exp l) * Ideal.sin (y * Ideal.exp l)

/-- The factor less one, divided by the rate. -/
abbrev realStep (x y l : EReal) : EReal := Ideal.div ((real x y l - 1) * x + imag x y l * y) (x * x + y * y)

abbrev imagStep (x y l : EReal) : EReal := Ideal.div (imag x y l * x - (real x y l - 1) * y) (x * x + y * y)

/-- The input matrix times that: `v` and `w` are the entry's parts. -/
def realIn (x y l v w : EReal) : EReal := realStep x y l * v - imagStep x y l * w

def imagIn (x y l v w : EReal) : EReal := realStep x y l * w + imagStep x y l * v

/-! The same for arrays of any height. -/

abbrev factors {n : ℕ} (f : (x y l : EReal) → EReal) (x y l : Arr n 1) (i : Shape.Idx ⟨2, ![n, 1]⟩) : EReal :=
  f (row x (i 0) 0) (row y (i 0) 0) (row l (i 0) 0)

abbrev entries {n : ℕ} (f : (x y l v w : EReal) → EReal) (x y l : Arr n 1) (v w : Arr n 16)
    (i : Shape.Idx ⟨2, ![n, 16]⟩) : EReal :=
  f (row x (i 0) 0) (row y (i 0) 0) (row l (i 0) 0) (row v (i 0) (i 1)) (row w (i 0) (i 1))

/-! ## What the kernel makes of a block -/

variable (x y l : FVec Ideal S512x1 .f32) (v w : FVec Ideal S512x16 .f32)

theorem at_row {n : ℕ} (j : Shape.Idx ⟨2, ![n, 1]⟩) : ix2 (j 0) 0 = j :=
  (congrArg (ix2 (j 0)) (Subsingleton.elim (α := Fin 1) 0 (j 1))).trans (eq_ix2 j).symm

theorem real_pay : k0_pay3 (F := Ideal) x y l = factors real x y l :=
  funext fun j : S512x1.Idx => by
    have o : ix2 (j 0) 0 = j := at_row j
    pointwise [k0_pay3, k0_pay2, k0_pay1, real, row, o]

theorem imag_pay : k0_pay4 (F := Ideal) x y l = factors imag x y l :=
  funext fun j : S512x1.Idx => by
    have o : ix2 (j 0) 0 = j := at_row j
    pointwise [k0_pay4, k0_pay2, k0_pay1, imag, row, o]

theorem real_in_pay : k0_pay8 (F := Ideal) x y l v w = entries realIn x y l v w :=
  funext fun j : S512x16.Idx => by
    pointwise [k0_pay8, k0_pay7, k0_pay6, k0_pay5, k0_pay4, k0_pay3, k0_pay2, k0_pay1, realIn, realStep, imagStep, real, imag, row]

theorem imag_in_pay : k0_pay9 (F := Ideal) x y l v w = entries imagIn x y l v w :=
  funext fun j : S512x16.Idx => by
    pointwise [k0_pay9, k0_pay7, k0_pay6, k0_pay5, k0_pay4, k0_pay3, k0_pay2, k0_pay1, imagIn, realStep, imagStep, real, imag, row]

/-! ## From the blocks to the arrays -/

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0]) ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ) (c : Dev nD)

abbrev columns (f : (x y l : EReal) → EReal) : FVec Ideal S4096x1 .f32 :=
  factors (n := 4096) f (m ((c : Thread nD τ).loc main_arg0)) (m ((c : Thread nD τ).loc main_arg1))
    (m ((c : Thread nD τ).loc main_arg2))

abbrev whole (f : (x y l v w : EReal) → EReal) : FVec Ideal S4096x16 .f32 :=
  entries (n := 4096) f (m ((c : Thread nD τ).loc main_arg0)) (m ((c : Thread nD τ).loc main_arg1))
    (m ((c : Thread nD τ).loc main_arg2)) (m ((c : Thread nD τ).loc main_arg3)) (m ((c : Thread nD τ).loc main_arg4))

/-- A block of a column is the whole column's, whatever is made of a row. -/
theorem columns_block (f : (x y l : EReal) → EReal) (t : Fin cfg0.N) {i : S512x1.Idx} {k : S4096x1.Idx}
    (h0 : t.val * 512 + (i 0).val = (k 0).val) :
    factors (n := 512) f (iblk m c 0 t) (iblk m c 1 t) (iblk m c 2 t) i = columns m c f k := by
  refine congr (congrArg₂ f ?_ ?_) ?_
  all_goals unfold row
  all_goals blk_point [iblk, V, idx t, h0]

/-- A block of a matrix is the whole matrix's. -/
theorem whole_block (f : (x y l v w : EReal) → EReal) (t : Fin cfg0.N) {i : S512x16.Idx} {k : S4096x16.Idx}
    (h0 : t.val * 512 + (i 0).val = (k 0).val) (h1 : (i 1).val = (k 1).val) :
    entries (n := 512) f (iblk m c 0 t) (iblk m c 1 t) (iblk m c 2 t) (iblk m c 3 t) (iblk m c 4 t) i = whole m c f k := by
  refine congr (congr (congr (congrArg₂ f ?_ ?_) ?_) ?_) ?_
  all_goals unfold row
  all_goals blk_point [iblk, V, idx t, h0, h1]

theorem reals : (dats m 0 c).arrAt 5 cfg0.N = columns m c real := by
  refine (dats m 0 c).arrAt_eq_of_covers 5 _ (by decide +kernel) fun t hf i => ?_
  blk_simp
  rw [after0_5]
  frame_out
  rw [real_pay]
  exact columns_block m c _ t (by blk_simp [idx t])

theorem imags : (dats m 0 c).arrAt 6 cfg0.N = columns m c imag := by
  refine (dats m 0 c).arrAt_eq_of_covers 6 _ (by decide +kernel) fun t hf i => ?_
  blk_simp
  rw [after0_6]
  frame_out
  rw [imag_pay]
  exact columns_block m c _ t (by blk_simp [idx t])

theorem real_ins : (dats m 0 c).arrAt 7 cfg0.N = whole m c realIn := by
  refine (dats m 0 c).arrAt_eq_of_covers 7 _ (by decide +kernel) fun t hf i => ?_
  blk_simp
  rw [after0_7]
  frame_out
  rw [real_in_pay]
  exact whole_block m c _ t (by blk_simp [idx t]) (by blk_simp [idx t])

theorem imag_ins : (dats m 0 c).arrAt 8 cfg0.N = whole m c imagIn := by
  refine (dats m 0 c).arrAt_eq_of_covers 8 _ (by decide +kernel) fun t hf i => ?_
  blk_simp
  rw [after0_8]
  frame_out
  rw [imag_in_pay]
  exact whole_block m c _ t (by blk_simp [idx t]) (by blk_simp [idx t])

/-! ## The claims -/

set_option smartUnfolding false in
theorem kernel_frame : Cert.quiescent_Matrices (hMatrices := Cert.Matrices.Gen.facts) := fun m ρ _ => by
  with_unfolding_all exact frame (F := Bits) m ρ

theorem ideal_frame : Cert.quiescent_MatricesIdeal (hMatricesIdeal := facts) := fun m ρ _ => frame m ρ

theorem reference_frame : Cert.quiescent_MatricesRefIdeal (hMatricesRefIdeal := Cert.MatricesRefIdeal.Gen.facts) :=
  fun m ρ _ => (θ_run Cert.MatricesRefIdeal.defs _ _).mono
    (fun r h => ⟨fun c => (h c).2.2.2.2, sem_eq_zero_of_no_sems (by decide) r.2⟩) (Cert.MatricesRefIdeal.Value.run m ρ)

theorem algebraic : Cert.algebraic_MatricesIdeal_MatricesRefIdeal (hMatricesIdeal := facts)
    (hMatricesRefIdeal := Cert.MatricesRefIdeal.Gen.facts) :=
  fun m ρ m' ρ' _ h => ⟨fun c => columns m c real, fun c => columns m c imag, fun c => whole m c realIn, fun c => whole m c imagIn,
    (θ_run defs _ _).mono (fun _ r c => ⟨(r c).1.trans (reals m c), (r c).2.1.trans (imags m c),
      (r c).2.2.1.trans (real_ins m c), (r c).2.2.2.1.trans (imag_ins m c), (r c).2.2.2.2⟩)
      (Cert.MatricesIdeal.Value.run_blocks m ρ),
    (θ_run Cert.MatricesRefIdeal.defs _ _).mono (fun _ r c => by
      obtain ⟨h0, h1, h2, h3, h4⟩ := h c
      have e := fun f => congr (congrArg₂ (factors (n := 4096) f) h0 h1) h2
      have e' := fun f => congr (congr (congr (congrArg₂ (entries (n := 4096) f) h0 h1) h2) h3) h4
      refine ⟨(r c).1.trans (Eq.trans ?_ (e _)), (r c).2.1.trans (Eq.trans ?_ (e _)), (r c).2.2.1.trans (Eq.trans ?_ (e' _)),
        (r c).2.2.2.1.trans (Eq.trans ?_ (e' _)), (r c).2.2.2.2⟩
      · refine funext fun j : S4096x1.Idx => ?_
        have o : ix2 (j 0) 0 = j := at_row j
        pointwise [real, row, o]
      · refine funext fun j : S4096x1.Idx => ?_
        have o : ix2 (j 0) 0 = j := at_row j
        pointwise [imag, row, o]
      · exact funext fun j : S4096x16.Idx => by pointwise [realIn, realStep, imagStep, real, imag, row]
      · exact funext fun j : S4096x16.Idx => by pointwise [imagIn, realStep, imagStep, real, imag, row])
      (Cert.MatricesRefIdeal.Value.run m' ρ')⟩

end Cert.Rows.Matrices

end
-- ==== Proof.lean ====
/-
  The certificate: the facts each program's text states, which the generated modules prove, and then the claims of the
  programs in the order in which the statement lists them, each from the module that proves it.
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.Sibling
public import proofs.«01_k».proof.Proof.Gen.Sibling.Skeleton
public import proofs.«01_k».proof.Proof.Gen.Sibling.Launch
public import proofs.«01_k».proof.Proof.Gen.Sibling.Points
public import proofs.«01_k».proof.Proof.Gen.Sibling.Frame
public import proofs.«01_k».proof.Proof.Gen.SiblingIdeal
public import proofs.«01_k».proof.Proof.Gen.SiblingIdeal.Skeleton
public import proofs.«01_k».proof.Proof.Gen.SiblingIdeal.Launch
public import proofs.«01_k».proof.Proof.Gen.SiblingIdeal.Points
public import proofs.«01_k».proof.Proof.Gen.SiblingIdeal.Frame
public import proofs.«01_k».proof.Proof.Gen.SiblingRefIdeal
public import proofs.«01_k».proof.Proof.Gen.SiblingRefIdeal.Run
public import proofs.«01_k».proof.Proof.Gen.Chips
public import proofs.«01_k».proof.Proof.Gen.Chips.Skeleton
public import proofs.«01_k».proof.Proof.Gen.Chips.Launch
public import proofs.«01_k».proof.Proof.Gen.Chips.Points
public import proofs.«01_k».proof.Proof.Gen.Chips.Frame
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points
public import proofs.«01_k».proof.Proof.Gen.ChipsIdeal.Frame
public import proofs.«01_k».proof.Proof.Gen.ChipsRefIdeal
public import proofs.«01_k».proof.Proof.Gen.ChipsRefIdeal.Run
public import proofs.«01_k».proof.Proof.Gen.Share
public import proofs.«01_k».proof.Proof.Gen.Share.Skeleton
public import proofs.«01_k».proof.Proof.Gen.Share.Launch
public import proofs.«01_k».proof.Proof.Gen.Share.Points
public import proofs.«01_k».proof.Proof.Gen.Share.Frame
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareIdeal.Points
public import proofs.«01_k».proof.Proof.Gen.ShareIdeal.Frame
public import proofs.«01_k».proof.Proof.Gen.ShareRefIdeal
public import proofs.«01_k».proof.Proof.Gen.ShareRefIdeal.Run
public import proofs.«01_k».proof.Proof.GatherValue
public import proofs.«01_k».proof.Proof.SiblingClaims
public import proofs.«01_k».proof.Proof.ChipsValue
public import proofs.«01_k».proof.Proof.ShareValue
public import proofs.«01_k».proof.Proof.AdamClaims
public import proofs.«01_k».proof.Proof.Gen.AdamQkv
public import proofs.«01_k».proof.Proof.Gen.AdamQkvIdeal.Value
public import proofs.«01_k».proof.Proof.Gen.AdamQkvRefIdeal.Run
public import proofs.«01_k».proof.Proof.Gen.AdamOut
public import proofs.«01_k».proof.Proof.Gen.AdamOutIdeal.Value
public import proofs.«01_k».proof.Proof.Gen.AdamOutRefIdeal.Run
public import proofs.«01_k».proof.Proof.Gen.AdamGlu
public import proofs.«01_k».proof.Proof.Gen.AdamGluIdeal.Value
public import proofs.«01_k».proof.Proof.Gen.AdamGluRefIdeal.Run
public import proofs.«01_k».proof.Proof.Gen.AdamConv
public import proofs.«01_k».proof.Proof.Gen.AdamConvIdeal.Value
public import proofs.«01_k».proof.Proof.Gen.AdamConvRefIdeal.Run
public import proofs.«01_k».proof.Proof.Gen.AdamFfn
public import proofs.«01_k».proof.Proof.Gen.AdamFfnIdeal.Value
public import proofs.«01_k».proof.Proof.Gen.AdamFfnRefIdeal.Run
public import proofs.«01_k».proof.Proof.Gen.AdamDown
public import proofs.«01_k».proof.Proof.Gen.AdamDownIdeal.Value
public import proofs.«01_k».proof.Proof.Gen.AdamDownRefIdeal.Run
public import proofs.«01_k».proof.Proof.Gen.AdamSmall
public import proofs.«01_k».proof.Proof.Gen.AdamSmallIdeal.Value
public import proofs.«01_k».proof.Proof.Gen.AdamSmallRefIdeal.Run
public import proofs.«01_k».proof.Proof.Gen.GatherRef
public import proofs.«01_k».proof.Proof.Gen.SiblingRef
public import proofs.«01_k».proof.Proof.Gen.ChipsRef
public import proofs.«01_k».proof.Proof.Gen.ShareRef
public import proofs.«01_k».proof.Proof.SumClaims
public import proofs.«01_k».proof.Proof.ModClaims
public import proofs.«01_k».proof.Proof.Gen.SumSmall
public import proofs.«01_k».proof.Proof.Gen.SumSmallIdeal.Value
public import proofs.«01_k».proof.Proof.Gen.SumSmallRefIdeal.Run
public import proofs.«01_k».proof.Proof.Gen.AdamMod
public import proofs.«01_k».proof.Proof.Gen.AdamModIdeal.Value
public import proofs.«01_k».proof.Proof.Gen.AdamModRefIdeal.Run
public import proofs.«01_k».proof.Proof.Gen.AddOwn
public import proofs.«01_k».proof.Proof.Gen.AddOwnIdeal.Frame
public import proofs.«01_k».proof.Proof.Gen.AddOwnRef
public import proofs.«01_k».proof.Proof.Gen.AddOwnRefIdeal.Run
public import proofs.«01_k».proof.Proof.Gen.AddFour
public import proofs.«01_k».proof.Proof.Gen.AddFourIdeal.Frame
public import proofs.«01_k».proof.Proof.Gen.AddFourRef
public import proofs.«01_k».proof.Proof.Gen.AddFourRefIdeal.Run
public import proofs.«01_k».proof.Proof.Gen.Pre_one_of_two
public import proofs.«01_k».proof.Proof.Gen.Pre_one_of_four
public import proofs.«01_k».proof.Proof.OwnClaims
public import proofs.«01_k».proof.Proof.FourClaims
public import proofs.«01_k».proof.Proof.Gen.LossHead
public import proofs.«01_k».proof.Proof.Gen.LossHeadIdeal.Value
public import proofs.«01_k».proof.Proof.Gen.LossHeadRefIdeal.Run
public import proofs.«01_k».proof.Proof.Gen.PreBwd
public import proofs.«01_k».proof.Proof.Gen.PreBwdIdeal.Value
public import proofs.«01_k».proof.Proof.Gen.PreBwdRefIdeal.Run
public import proofs.«01_k».proof.Proof.Gen.LossTotal
public import proofs.«01_k».proof.Proof.Gen.LossTotalIdeal
public import proofs.«01_k».proof.Proof.Gen.LossTotalIdeal.Launch
public import proofs.«01_k».proof.Proof.Gen.LossTotalRefIdeal.Run
public import proofs.«01_k».proof.Proof.ProductsForward
public import proofs.«01_k».proof.Proof.ProductsWeights
public import proofs.«01_k».proof.Proof.ProductsBack
public import proofs.«01_k».proof.Proof.LossClaims
public import proofs.«01_k».proof.Proof.LossTotalClaims
public import proofs.«01_k».proof.Proof.PreClaims
public import proofs.«01_k».proof.Proof.RowClaims
public import proofs.«01_k».proof.Proof.RowBackClaims
public import proofs.«01_k».proof.Proof.MidBackClaims
public import proofs.«01_k».proof.Proof.MatricesClaims
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.GatherRefIdeal.Gen.facts, Cert.GatherRef.Gen.facts,
  Cert.Sibling.Gen.facts, Cert.SiblingIdeal.Gen.facts, Cert.SiblingRefIdeal.Gen.facts, Cert.SiblingRef.Gen.facts,
  Cert.Chips.Gen.facts, Cert.ChipsIdeal.Gen.facts, Cert.ChipsRefIdeal.Gen.facts, Cert.ChipsRef.Gen.facts,
  Cert.Share.Gen.facts, Cert.ShareIdeal.Gen.facts, Cert.ShareRefIdeal.Gen.facts, Cert.ShareRef.Gen.facts,
  Cert.AdamQkv.Gen.facts, Cert.AdamQkvIdeal.Gen.facts, Cert.AdamQkvRefIdeal.Gen.facts, Cert.AdamOut.Gen.facts,
  Cert.AdamOutIdeal.Gen.facts, Cert.AdamOutRefIdeal.Gen.facts, Cert.AdamGlu.Gen.facts, Cert.AdamGluIdeal.Gen.facts,
  Cert.AdamGluRefIdeal.Gen.facts, Cert.AdamConv.Gen.facts, Cert.AdamConvIdeal.Gen.facts, Cert.AdamConvRefIdeal.Gen.facts,
  Cert.AdamFfn.Gen.facts, Cert.AdamFfnIdeal.Gen.facts, Cert.AdamFfnRefIdeal.Gen.facts, Cert.AdamDown.Gen.facts,
  Cert.AdamDownIdeal.Gen.facts, Cert.AdamDownRefIdeal.Gen.facts, Cert.AdamSmall.Gen.facts, Cert.AdamSmallIdeal.Gen.facts,
  Cert.AdamSmallRefIdeal.Gen.facts,
  Cert.SumSmall.Gen.facts, Cert.SumSmallIdeal.Gen.facts, Cert.SumSmallRefIdeal.Gen.facts,
  Cert.AdamMod.Gen.facts, Cert.AdamModIdeal.Gen.facts, Cert.AdamModRefIdeal.Gen.facts,
  Cert.AddOwn.Gen.facts, Cert.AddOwnIdeal.Gen.facts, Cert.AddOwnRefIdeal.Gen.facts, Cert.AddOwnRef.Gen.facts,
  Cert.AddFour.Gen.facts, Cert.AddFourIdeal.Gen.facts, Cert.AddFourRefIdeal.Gen.facts, Cert.AddFourRef.Gen.facts,
  Cert.MulWo.Gen.facts, Cert.MulWoIdeal.Gen.facts, Cert.MulWoRefIdeal.Gen.facts,
  Cert.MulDWo.Gen.facts, Cert.MulDWoIdeal.Gen.facts, Cert.MulDWoRefIdeal.Gen.facts,
  Cert.MulQkv.Gen.facts, Cert.MulQkvIdeal.Gen.facts, Cert.MulQkvRefIdeal.Gen.facts,
  Cert.MulGlu.Gen.facts, Cert.MulGluIdeal.Gen.facts, Cert.MulGluRefIdeal.Gen.facts,
  Cert.MulGateUp.Gen.facts, Cert.MulGateUpIdeal.Gen.facts, Cert.MulGateUpRefIdeal.Gen.facts,
  Cert.MulDown.Gen.facts, Cert.MulDownIdeal.Gen.facts, Cert.MulDownRefIdeal.Gen.facts,
  Cert.MulDQkv.Gen.facts, Cert.MulDQkvIdeal.Gen.facts, Cert.MulDQkvRefIdeal.Gen.facts,
  Cert.MulDGlu.Gen.facts, Cert.MulDGluIdeal.Gen.facts, Cert.MulDGluRefIdeal.Gen.facts,
  Cert.MulDGateUp.Gen.facts, Cert.MulDGateUpIdeal.Gen.facts, Cert.MulDGateUpRefIdeal.Gen.facts,
  Cert.MulDDown.Gen.facts, Cert.MulDDownIdeal.Gen.facts, Cert.MulDDownRefIdeal.Gen.facts,
  Cert.MulBackO.Gen.facts, Cert.MulBackOIdeal.Gen.facts, Cert.MulBackORefIdeal.Gen.facts,
  Cert.MulBackConv.Gen.facts, Cert.MulBackConvIdeal.Gen.facts, Cert.MulBackConvRefIdeal.Gen.facts,
  Cert.MulBackQkv.Gen.facts, Cert.MulBackQkvIdeal.Gen.facts, Cert.MulBackQkvRefIdeal.Gen.facts,
  Cert.MulBackGlu.Gen.facts, Cert.MulBackGluIdeal.Gen.facts, Cert.MulBackGluRefIdeal.Gen.facts,
  Cert.MulBackFfn.Gen.facts, Cert.MulBackFfnIdeal.Gen.facts, Cert.MulBackFfnRefIdeal.Gen.facts,
  Cert.MulBackAct.Gen.facts, Cert.MulBackActIdeal.Gen.facts, Cert.MulBackActRefIdeal.Gen.facts,
  Cert.LossHead.Gen.facts, Cert.LossHeadIdeal.Gen.facts, Cert.LossHeadRefIdeal.Gen.facts,
  Cert.LossTotal.Gen.facts, Cert.LossTotalIdeal.Gen.facts, Cert.LossTotalRefIdeal.Gen.facts,
  Cert.PreBwd.Gen.facts, Cert.PreBwdIdeal.Gen.facts, Cert.PreBwdRefIdeal.Gen.facts,
  Cert.RowIn.Gen.facts, Cert.RowInIdeal.Gen.facts, Cert.RowInRefIdeal.Gen.facts,
  Cert.RowInS5.Gen.facts, Cert.RowInS5Ideal.Gen.facts, Cert.RowInS5RefIdeal.Gen.facts,
  Cert.RowMid.Gen.facts, Cert.RowMidIdeal.Gen.facts, Cert.RowMidRefIdeal.Gen.facts,
  Cert.RowMidConv.Gen.facts, Cert.RowMidConvIdeal.Gen.facts, Cert.RowMidConvRefIdeal.Gen.facts,
  Cert.RowOut.Gen.facts, Cert.RowOutIdeal.Gen.facts, Cert.RowOutRefIdeal.Gen.facts,
  Cert.RowGate.Gen.facts, Cert.RowGateIdeal.Gen.facts, Cert.RowGateRefIdeal.Gen.facts,
  Cert.RowAct.Gen.facts, Cert.RowActIdeal.Gen.facts, Cert.RowActRefIdeal.Gen.facts,
  Cert.RowConv.Gen.facts, Cert.RowConvIdeal.Gen.facts, Cert.RowConvRefIdeal.Gen.facts,
  Cert.RowActBwd.Gen.facts, Cert.RowActBwdIdeal.Gen.facts, Cert.RowActBwdRefIdeal.Gen.facts,
  Cert.RowGeluBwd.Gen.facts, Cert.RowGeluBwdIdeal.Gen.facts, Cert.RowGeluBwdRefIdeal.Gen.facts,
  Cert.RowGateBwd.Gen.facts, Cert.RowGateBwdIdeal.Gen.facts, Cert.RowGateBwdRefIdeal.Gen.facts,
  Cert.RowOutBwd.Gen.facts, Cert.RowOutBwdIdeal.Gen.facts, Cert.RowOutBwdRefIdeal.Gen.facts,
  Cert.RowConvBwd.Gen.facts, Cert.RowConvBwdIdeal.Gen.facts, Cert.RowConvBwdRefIdeal.Gen.facts,
  Cert.ModFwd.Gen.facts, Cert.ModFwdIdeal.Gen.facts, Cert.ModFwdRefIdeal.Gen.facts,
  Cert.MidBwd.Gen.facts, Cert.MidBwdIdeal.Gen.facts, Cert.MidBwdRefIdeal.Gen.facts,
  Cert.Matrices.Gen.facts, Cert.MatricesIdeal.Gen.facts, Cert.MatricesRefIdeal.Gen.facts,
  Cert.Pre_one_of_two.Gen.facts, Cert.Pre_one_of_four.Gen.facts,
  Cert.Gat.frame_kernel, Cert.Gat.frame_ideal, Cert.Gat.frame_reference, Cert.Gat.frame_reference_bits,
  Cert.Sib.frame_kernel, Cert.Sib.frame_ideal, Cert.Sib.frame_reference, Cert.Sib.frame_reference_bits,
  Cert.Chp.frame_kernel, Cert.Chp.frame_ideal, Cert.Chp.frame_reference, Cert.Chp.frame_reference_bits,
  Cert.Shr.frame_kernel, Cert.Shr.frame_ideal, Cert.Shr.frame_reference, Cert.Shr.frame_reference_bits,
  Cert.Adam.kernel_qkv, Cert.Adam.ideal_qkv, Cert.Adam.reference_qkv,
  Cert.Adam.kernel_out, Cert.Adam.ideal_out, Cert.Adam.reference_out,
  Cert.Adam.kernel_glu, Cert.Adam.ideal_glu, Cert.Adam.reference_glu,
  Cert.Adam.kernel_conv, Cert.Adam.ideal_conv, Cert.Adam.reference_conv,
  Cert.Adam.kernel_ffn, Cert.Adam.ideal_ffn, Cert.Adam.reference_ffn,
  Cert.Adam.kernel_down, Cert.Adam.ideal_down, Cert.Adam.reference_down,
  Cert.Adam.kernel_small, Cert.Adam.ideal_small, Cert.Adam.reference_small,
  Cert.SmallSum.kernel_frame, Cert.SmallSum.ideal_frame, Cert.SmallSum.reference_frame,
  Cert.Modulation.kernel_frame, Cert.Modulation.ideal_frame, Cert.Modulation.reference_frame,
  Cert.OwnSum.kernel_frame, Cert.OwnSum.ideal_frame, Cert.OwnSum.reference_frame, Cert.OwnSum.reference_frame_pre,
  Cert.OwnSum.bits_frame, Cert.OwnSum.bits_frame_pre,
  Cert.FourSum.kernel_frame, Cert.FourSum.ideal_frame, Cert.FourSum.reference_frame, Cert.FourSum.reference_frame_pre,
  Cert.FourSum.bits_frame, Cert.FourSum.bits_frame_pre,
  Cert.Products.Wo.kernel_frame, Cert.Products.Wo.ideal_frame, Cert.Products.Wo.reference_frame,
  Cert.Products.DWo.kernel_frame, Cert.Products.DWo.ideal_frame, Cert.Products.DWo.reference_frame,
  Cert.Products.Qkv.kernel_frame, Cert.Products.Qkv.ideal_frame, Cert.Products.Qkv.reference_frame,
  Cert.Products.Glu.kernel_frame, Cert.Products.Glu.ideal_frame, Cert.Products.Glu.reference_frame,
  Cert.Products.GateUp.kernel_frame, Cert.Products.GateUp.ideal_frame, Cert.Products.GateUp.reference_frame,
  Cert.Products.Down.kernel_frame, Cert.Products.Down.ideal_frame, Cert.Products.Down.reference_frame,
  Cert.Products.DQkv.kernel_frame, Cert.Products.DQkv.ideal_frame, Cert.Products.DQkv.reference_frame,
  Cert.Products.DGlu.kernel_frame, Cert.Products.DGlu.ideal_frame, Cert.Products.DGlu.reference_frame,
  Cert.Products.DGateUp.kernel_frame, Cert.Products.DGateUp.ideal_frame, Cert.Products.DGateUp.reference_frame,
  Cert.Products.DDown.kernel_frame, Cert.Products.DDown.ideal_frame, Cert.Products.DDown.reference_frame,
  Cert.Products.BackO.kernel_frame, Cert.Products.BackO.ideal_frame, Cert.Products.BackO.reference_frame,
  Cert.Products.BackConv.kernel_frame, Cert.Products.BackConv.ideal_frame, Cert.Products.BackConv.reference_frame,
  Cert.Products.BackQkv.kernel_frame, Cert.Products.BackQkv.ideal_frame, Cert.Products.BackQkv.reference_frame,
  Cert.Products.BackGlu.kernel_frame, Cert.Products.BackGlu.ideal_frame, Cert.Products.BackGlu.reference_frame,
  Cert.Products.BackFfn.kernel_frame, Cert.Products.BackFfn.ideal_frame, Cert.Products.BackFfn.reference_frame,
  Cert.Products.BackAct.kernel_frame, Cert.Products.BackAct.ideal_frame, Cert.Products.BackAct.reference_frame,
  Cert.Loss.kernel_frame, Cert.Loss.ideal_frame, Cert.Loss.reference_frame,
  Cert.Total.kernel_frame, Cert.Total.ideal_frame, Cert.Total.reference_frame,
  Cert.Pre.kernel_frame, Cert.Pre.ideal_frame, Cert.Pre.reference_frame,
  Cert.Rows.In.kernel_frame, Cert.Rows.In.ideal_frame, Cert.Rows.In.reference_frame,
  Cert.Rows.InS5.kernel_frame, Cert.Rows.InS5.ideal_frame, Cert.Rows.InS5.reference_frame,
  Cert.Rows.Mid.kernel_frame, Cert.Rows.Mid.ideal_frame, Cert.Rows.Mid.reference_frame,
  Cert.Rows.MidConv.kernel_frame, Cert.Rows.MidConv.ideal_frame, Cert.Rows.MidConv.reference_frame,
  Cert.Rows.Out.kernel_frame, Cert.Rows.Out.ideal_frame, Cert.Rows.Out.reference_frame,
  Cert.Rows.Gate.kernel_frame, Cert.Rows.Gate.ideal_frame, Cert.Rows.Gate.reference_frame,
  Cert.Rows.Act.kernel_frame, Cert.Rows.Act.ideal_frame, Cert.Rows.Act.reference_frame,
  Cert.Rows.Conv.kernel_frame, Cert.Rows.Conv.ideal_frame, Cert.Rows.Conv.reference_frame,
  Cert.Rows.ActBwd.kernel_frame, Cert.Rows.ActBwd.ideal_frame, Cert.Rows.ActBwd.reference_frame,
  Cert.Rows.GeluBwd.kernel_frame, Cert.Rows.GeluBwd.ideal_frame, Cert.Rows.GeluBwd.reference_frame,
  Cert.Rows.GateBwd.kernel_frame, Cert.Rows.GateBwd.ideal_frame, Cert.Rows.GateBwd.reference_frame,
  Cert.Rows.OutBwd.kernel_frame, Cert.Rows.OutBwd.ideal_frame, Cert.Rows.OutBwd.reference_frame,
  Cert.Rows.ConvBwd.kernel_frame, Cert.Rows.ConvBwd.ideal_frame, Cert.Rows.ConvBwd.reference_frame,
  Cert.Rows.Cond.kernel_frame, Cert.Rows.Cond.ideal_frame, Cert.Rows.Cond.reference_frame,
  Cert.Rows.MidBwd.kernel_frame, Cert.Rows.MidBwd.ideal_frame, Cert.Rows.MidBwd.reference_frame,
  Cert.Rows.Matrices.kernel_frame, Cert.Rows.Matrices.ideal_frame, Cert.Rows.Matrices.reference_frame,
  trivial, Cert.Gat.algebraic, Cert.Gat.bitexact,
  trivial, Cert.Sib.algebraic, Cert.Sib.bitexact,
  trivial, Cert.Chp.algebraic, Cert.Chp.bitexact,
  trivial, Cert.Shr.algebraic, Cert.Shr.bitexact,
  trivial, Cert.Adam.algebraic_qkv,
  trivial, Cert.Adam.algebraic_out,
  trivial, Cert.Adam.algebraic_glu,
  trivial, Cert.Adam.algebraic_conv,
  trivial, Cert.Adam.algebraic_ffn,
  trivial, Cert.Adam.algebraic_down,
  trivial, Cert.Adam.algebraic_small,
  trivial, Cert.SmallSum.algebraic,
  trivial, Cert.Modulation.algebraic,
  trivial, Cert.OwnSum.algebraic, Cert.OwnSum.bitexact,
  trivial, Cert.FourSum.algebraic, Cert.FourSum.bitexact,
  trivial, Cert.Products.Wo.algebraic,
  trivial, Cert.Products.DWo.algebraic,
  trivial, Cert.Products.Qkv.algebraic,
  trivial, Cert.Products.Glu.algebraic,
  trivial, Cert.Products.GateUp.algebraic,
  trivial, Cert.Products.Down.algebraic,
  trivial, Cert.Products.DQkv.algebraic,
  trivial, Cert.Products.DGlu.algebraic,
  trivial, Cert.Products.DGateUp.algebraic,
  trivial, Cert.Products.DDown.algebraic,
  trivial, Cert.Products.BackO.algebraic,
  trivial, Cert.Products.BackConv.algebraic,
  trivial, Cert.Products.BackQkv.algebraic,
  trivial, Cert.Products.BackGlu.algebraic,
  trivial, Cert.Products.BackFfn.algebraic,
  trivial, Cert.Products.BackAct.algebraic,
  trivial, Cert.Loss.algebraic,
  trivial, Cert.Total.algebraic,
  trivial, Cert.Pre.algebraic,
  trivial, Cert.Rows.In.algebraic,
  trivial, Cert.Rows.InS5.algebraic,
  trivial, Cert.Rows.Mid.algebraic,
  trivial, Cert.Rows.MidConv.algebraic,
  trivial, Cert.Rows.Out.algebraic,
  trivial, Cert.Rows.Gate.algebraic,
  trivial, Cert.Rows.Act.algebraic,
  trivial, Cert.Rows.Conv.algebraic,
  trivial, Cert.Rows.ActBwd.algebraic,
  trivial, Cert.Rows.GeluBwd.algebraic,
  trivial, Cert.Rows.GateBwd.algebraic,
  trivial, Cert.Rows.OutBwd.algebraic,
  trivial, Cert.Rows.ConvBwd.algebraic,
  trivial, Cert.Rows.Cond.algebraic,
  trivial, Cert.Rows.MidBwd.algebraic,
  trivial, Cert.Rows.Matrices.algebraic⟩

end Cert.Proof

end
